-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7)
      ∧ r.2.mem ((c.tc : Thread Cert.Kernel2.nD Cert.Kernel2.τ).loc Cert.Kernel2.main_arg8) = m ((c.tc : Thread Cert.Kernel2.nD Cert.Kernel2.τ).loc Cert.Kernel2.main_arg8)
      ∧ r.2.mem ((c.tc : Thread Cert.Kernel2.nD Cert.Kernel2.τ).loc Cert.Kernel2.main_arg9) = m ((c.tc : Thread Cert.Kernel2.nD Cert.Kernel2.τ).loc Cert.Kernel2.main_arg9)
      ∧ r.2.mem ((c.tc : Thread Cert.Kernel2.nD Cert.Kernel2.τ).loc Cert.Kernel2.main_arg10) = m ((c.tc : Thread Cert.Kernel2.nD Cert.Kernel2.τ).loc Cert.Kernel2.main_arg10))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
      ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
      ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8)
      ∧ r.2.mem ((c.tc : Thread Cert.Reference2Ideal.nD Cert.Reference2Ideal.τ).loc Cert.Reference2Ideal.main_arg9) = m ((c.tc : Thread Cert.Reference2Ideal.nD Cert.Reference2Ideal.τ).loc Cert.Reference2Ideal.main_arg9)
      ∧ r.2.mem ((c.tc : Thread Cert.Reference2Ideal.nD Cert.Reference2Ideal.τ).loc Cert.Reference2Ideal.main_arg10) = m ((c.tc : Thread Cert.Reference2Ideal.nD Cert.Reference2Ideal.τ).loc Cert.Reference2Ideal.main_arg10))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2))
      ∧ r.2.sem = fun _ => 0)

def preserves_Kernel_KernelIdeal : Prop :=
  IdealRules.named_const.Statement Cert.KernelIdeal.κ "scale" .f32 0x3E38AA3B#32 (((Real.log 256)⁻¹ : ℝ) : EReal)
  ∧ IdealRules.named_const.Statement Cert.KernelIdeal.κ "mask" .f32 0xF149F2CA#32 ⊥
  ∧ IdealRules.named_const.Statement Cert.KernelIdeal.κ "mask" .bf16 0xF14A#16 ⊥

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)
      ∧ m' ((c.tc : Thread Cert.Reference2Ideal.nD Cert.Reference2Ideal.τ).loc Cert.Reference2Ideal.main_arg8) = m ((c.tc : Thread Cert.Kernel2Ideal.nD Cert.Kernel2Ideal.τ).loc Cert.Kernel2Ideal.main_arg8)
      ∧ m' ((c.tc : Thread Cert.Reference2Ideal.nD Cert.Reference2Ideal.τ).loc Cert.Reference2Ideal.main_arg9) = m ((c.tc : Thread Cert.Kernel2Ideal.nD Cert.Kernel2Ideal.τ).loc Cert.Kernel2Ideal.main_arg9)
      ∧ m' ((c.tc : Thread Cert.Reference2Ideal.nD Cert.Reference2Ideal.τ).loc Cert.Reference2Ideal.main_arg10) = m ((c.tc : Thread Cert.Kernel2Ideal.nD Cert.Kernel2Ideal.τ).loc Cert.Kernel2Ideal.main_arg10)) →
    ∃ (v0 : (c : Dev Cert.Kernel2Ideal.nD) → Buf (Elt Ideal) ((c.tc : Thread Cert.Kernel2Ideal.nD Cert.Kernel2Ideal.τ).loc Cert.Kernel2Ideal.main_v14)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v14) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
          ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
          ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
          ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v40) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7)
          ∧ r.2.mem ((c.tc : Thread Cert.Reference2Ideal.nD Cert.Reference2Ideal.τ).loc Cert.Reference2Ideal.main_arg8) = m' ((c.tc : Thread Cert.Reference2Ideal.nD Cert.Reference2Ideal.τ).loc Cert.Reference2Ideal.main_arg8)
          ∧ r.2.mem ((c.tc : Thread Cert.Reference2Ideal.nD Cert.Reference2Ideal.τ).loc Cert.Reference2Ideal.main_arg9) = m' ((c.tc : Thread Cert.Reference2Ideal.nD Cert.Reference2Ideal.τ).loc Cert.Reference2Ideal.main_arg9)
          ∧ r.2.mem ((c.tc : Thread Cert.Reference2Ideal.nD Cert.Reference2Ideal.τ).loc Cert.Reference2Ideal.main_arg10) = m' ((c.tc : Thread Cert.Reference2Ideal.nD Cert.Reference2Ideal.τ).loc Cert.Reference2Ideal.main_arg10))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)) →
    ∃ (v0 : (c : Dev Cert.Kernel3Ideal.nD) → Buf (Elt Ideal) ((c.tc : Thread Cert.Kernel3Ideal.nD Cert.Kernel3Ideal.τ).loc Cert.Kernel3Ideal.main_v59_0)) (v1 : (c : Dev Cert.Kernel3Ideal.nD) → Buf (Elt Ideal) ((c.tc : Thread Cert.Kernel3Ideal.nD Cert.Kernel3Ideal.τ).loc Cert.Kernel3Ideal.main_v59_1)) (v2 : (c : Dev Cert.Kernel3Ideal.nD) → Buf (Elt Ideal) ((c.tc : Thread Cert.Kernel3Ideal.nD Cert.Kernel3Ideal.τ).loc Cert.Kernel3Ideal.main_v59_2)) (v3 : (c : Dev Cert.Kernel3Ideal.nD) → Buf (Elt Ideal) ((c.tc : Thread Cert.Kernel3Ideal.nD Cert.Kernel3Ideal.τ).loc Cert.Kernel3Ideal.main_v59_3)) (v4 : (c : Dev Cert.Kernel3Ideal.nD) → Buf (Elt Ideal) ((c.tc : Thread Cert.Kernel3Ideal.nD Cert.Kernel3Ideal.τ).loc Cert.Kernel3Ideal.main_v59_4)) (v5 : (c : Dev Cert.Kernel3Ideal.nD) → Buf (Elt Ideal) ((c.tc : Thread Cert.Kernel3Ideal.nD Cert.Kernel3Ideal.τ).loc Cert.Kernel3Ideal.main_v59_5)) (v6 : (c : Dev Cert.Kernel3Ideal.nD) → Buf (Elt Ideal) ((c.tc : Thread Cert.Kernel3Ideal.nD Cert.Kernel3Ideal.τ).loc Cert.Kernel3Ideal.main_v59_6)) (v7 : (c : Dev Cert.Kernel3Ideal.nD) → Buf (Elt Ideal) ((c.tc : Thread Cert.Kernel3Ideal.nD Cert.Kernel3Ideal.τ).loc Cert.Kernel3Ideal.main_v59_7)) (v8 : (c : Dev Cert.Kernel3Ideal.nD) → Buf (Elt Ideal) ((c.tc : Thread Cert.Kernel3Ideal.nD Cert.Kernel3Ideal.τ).loc Cert.Kernel3Ideal.main_v59_8)) (v9 : (c : Dev Cert.Kernel3Ideal.nD) → Buf (Elt Ideal) ((c.tc : Thread Cert.Kernel3Ideal.nD Cert.Kernel3Ideal.τ).loc Cert.Kernel3Ideal.main_v59_9)) (v10 : (c : Dev Cert.Kernel3Ideal.nD) → Buf (Elt Ideal) ((c.tc : Thread Cert.Kernel3Ideal.nD Cert.Kernel3Ideal.τ).loc Cert.Kernel3Ideal.main_v59_10)) (v11 : (c : Dev Cert.Kernel3Ideal.nD) → Buf (Elt Ideal) ((c.tc : Thread Cert.Kernel3Ideal.nD Cert.Kernel3Ideal.τ).loc Cert.Kernel3Ideal.main_v59_11)) (v12 : (c : Dev Cert.Kernel3Ideal.nD) → Buf (Elt Ideal) ((c.tc : Thread Cert.Kernel3Ideal.nD Cert.Kernel3Ideal.τ).loc Cert.Kernel3Ideal.main_v59_12)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v59_0) = v0 c
          ∧ r.2.mem ((c.tc : Thread Cert.Kernel3Ideal.nD Cert.Kernel3Ideal.τ).loc Cert.Kernel3Ideal.main_v59_1) = v1 c
          ∧ r.2.mem ((c.tc : Thread Cert.Kernel3Ideal.nD Cert.Kernel3Ideal.τ).loc Cert.Kernel3Ideal.main_v59_2) = v2 c
          ∧ r.2.mem ((c.tc : Thread Cert.Kernel3Ideal.nD Cert.Kernel3Ideal.τ).loc Cert.Kernel3Ideal.main_v59_3) = v3 c
          ∧ r.2.mem ((c.tc : Thread Cert.Kernel3Ideal.nD Cert.Kernel3Ideal.τ).loc Cert.Kernel3Ideal.main_v59_4) = v4 c
          ∧ r.2.mem ((c.tc : Thread Cert.Kernel3Ideal.nD Cert.Kernel3Ideal.τ).loc Cert.Kernel3Ideal.main_v59_5) = v5 c
          ∧ r.2.mem ((c.tc : Thread Cert.Kernel3Ideal.nD Cert.Kernel3Ideal.τ).loc Cert.Kernel3Ideal.main_v59_6) = v6 c
          ∧ r.2.mem ((c.tc : Thread Cert.Kernel3Ideal.nD Cert.Kernel3Ideal.τ).loc Cert.Kernel3Ideal.main_v59_7) = v7 c
          ∧ r.2.mem ((c.tc : Thread Cert.Kernel3Ideal.nD Cert.Kernel3Ideal.τ).loc Cert.Kernel3Ideal.main_v59_8) = v8 c
          ∧ r.2.mem ((c.tc : Thread Cert.Kernel3Ideal.nD Cert.Kernel3Ideal.τ).loc Cert.Kernel3Ideal.main_v59_9) = v9 c
          ∧ r.2.mem ((c.tc : Thread Cert.Kernel3Ideal.nD Cert.Kernel3Ideal.τ).loc Cert.Kernel3Ideal.main_v59_10) = v10 c
          ∧ r.2.mem ((c.tc : Thread Cert.Kernel3Ideal.nD Cert.Kernel3Ideal.τ).loc Cert.Kernel3Ideal.main_v59_11) = v11 c
          ∧ r.2.mem ((c.tc : Thread Cert.Kernel3Ideal.nD Cert.Kernel3Ideal.τ).loc Cert.Kernel3Ideal.main_v59_12) = v12 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v170) = v0 c
          ∧ r.2.mem ((c.tc : Thread Cert.Reference3Ideal.nD Cert.Reference3Ideal.τ).loc Cert.Reference3Ideal.main_v221) = v1 c
          ∧ r.2.mem ((c.tc : Thread Cert.Reference3Ideal.nD Cert.Reference3Ideal.τ).loc Cert.Reference3Ideal.main_v187) = v2 c
          ∧ r.2.mem ((c.tc : Thread Cert.Reference3Ideal.nD Cert.Reference3Ideal.τ).loc Cert.Reference3Ideal.main_v222) = v3 c
          ∧ r.2.mem ((c.tc : Thread Cert.Reference3Ideal.nD Cert.Reference3Ideal.τ).loc Cert.Reference3Ideal.main_v223) = v4 c
          ∧ r.2.mem ((c.tc : Thread Cert.Reference3Ideal.nD Cert.Reference3Ideal.τ).loc Cert.Reference3Ideal.main_v198) = v5 c
          ∧ r.2.mem ((c.tc : Thread Cert.Reference3Ideal.nD Cert.Reference3Ideal.τ).loc Cert.Reference3Ideal.main_v200) = v6 c
          ∧ r.2.mem ((c.tc : Thread Cert.Reference3Ideal.nD Cert.Reference3Ideal.τ).loc Cert.Reference3Ideal.main_v234) = v7 c
          ∧ r.2.mem ((c.tc : Thread Cert.Reference3Ideal.nD Cert.Reference3Ideal.τ).loc Cert.Reference3Ideal.main_v245) = v8 c
          ∧ r.2.mem ((c.tc : Thread Cert.Reference3Ideal.nD Cert.Reference3Ideal.τ).loc Cert.Reference3Ideal.main_v213) = v9 c
          ∧ r.2.mem ((c.tc : Thread Cert.Reference3Ideal.nD Cert.Reference3Ideal.τ).loc Cert.Reference3Ideal.main_v256) = v10 c
          ∧ r.2.mem ((c.tc : Thread Cert.Reference3Ideal.nD Cert.Reference3Ideal.τ).loc Cert.Reference3Ideal.main_v220) = v11 c
          ∧ r.2.mem ((c.tc : Thread Cert.Reference3Ideal.nD Cert.Reference3Ideal.τ).loc Cert.Reference3Ideal.main_v258) = v12 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2))

def Claim : Prop :=
  ∃ (hKernel : Cert.Kernel.Facts) (hKernelIdeal : Cert.KernelIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts),
    quiescent_Kernel (hKernel := hKernel)
    ∧ quiescent_KernelIdeal (hKernelIdeal := hKernelIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ preserves_Kernel_KernelIdeal
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
-- ==== Kernel.lean ====
abbrev S8x2x4x4096x64 : Shape := ⟨5, ![8, 2, 4, 4096, 64]⟩
abbrev S8x2x255x64 : Shape := ⟨4, ![8, 2, 255, 64]⟩
abbrev S8x2x4096x64 : Shape := ⟨4, ![8, 2, 4096, 64]⟩
abbrev S8x2x4x4096x3 : Shape := ⟨5, ![8, 2, 4, 4096, 3]⟩
abbrev S8x8x4096x64 : Shape := ⟨4, ![8, 8, 4096, 64]⟩
abbrev S4096 : Shape := ⟨1, ![4096]⟩
abbrev S4096x1 : Shape := ⟨2, ![4096, 1]⟩
abbrev S128 : Shape := ⟨1, ![128]⟩
abbrev S1x128 : Shape := ⟨2, ![1, 128]⟩
abbrev S8x8x64x4096 : Shape := ⟨4, ![8, 8, 64, 4096]⟩
abbrev S8x512x4096 : Shape := ⟨3, ![8, 512, 4096]⟩
abbrev S8x1024x4096 : Shape := ⟨3, ![8, 1024, 4096]⟩
abbrev S8x2x4x3x4096 : Shape := ⟨5, ![8, 2, 4, 3, 4096]⟩
abbrev S8x2x12x4096 : Shape := ⟨4, ![8, 2, 12, 4096]⟩
abbrev S_ : Shape := ⟨0, ![]⟩
abbrev S8x2x4x4096 : Shape := ⟨4, ![8, 2, 4, 4096]⟩
abbrev S8x2x16x4096 : Shape := ⟨4, ![8, 2, 16, 4096]⟩
abbrev S8x255x2x64 : Shape := ⟨4, ![8, 255, 2, 64]⟩
abbrev S8x255x128 : Shape := ⟨3, ![8, 255, 128]⟩
abbrev S8x1x128 : Shape := ⟨3, ![8, 1, 128]⟩
abbrev S8x256x128 : Shape := ⟨3, ![8, 256, 128]⟩
abbrev S8x2x64x255 : Shape := ⟨4, ![8, 2, 64, 255]⟩
abbrev S8x2x64x1 : Shape := ⟨4, ![8, 2, 64, 1]⟩
abbrev S8x2x64x256 : Shape := ⟨4, ![8, 2, 64, 256]⟩
abbrev S8x2x1x256 : Shape := ⟨4, ![8, 2, 1, 256]⟩
abbrev S8x2x15x256 : Shape := ⟨4, ![8, 2, 15, 256]⟩
abbrev S8x2x80x256 : Shape := ⟨4, ![8, 2, 80, 256]⟩
abbrev S4096x128 : Shape := ⟨2, ![4096, 128]⟩
abbrev S8x4096x128 : Shape := ⟨3, ![8, 4096, 128]⟩
abbrev S8x4096x2x64 : Shape := ⟨4, ![8, 4096, 2, 64]⟩
abbrev S8x4096x256 : Shape := ⟨3, ![8, 4096, 256]⟩
abbrev S8x16x256x256 : Shape := ⟨4, ![8, 16, 256, 256]⟩
abbrev S8x16x256x128 : Shape := ⟨4, ![8, 16, 256, 128]⟩
abbrev S8x8x16x256x64 : Shape := ⟨5, ![8, 8, 16, 256, 64]⟩
abbrev S8x8x16x64 : Shape := ⟨4, ![8, 8, 16, 64]⟩
abbrev S8x4x4096x128 : Shape := ⟨4, ![8, 4, 4096, 128]⟩
abbrev S8x4x2x4096x64 : Shape := ⟨5, ![8, 4, 2, 4096, 64]⟩
abbrev S8x4x4096x2x64 : Shape := ⟨5, ![8, 4, 4096, 2, 64]⟩
abbrev S8x4x4096x256 : Shape := ⟨4, ![8, 4, 4096, 256]⟩
abbrev S8x4096x4x256 : Shape := ⟨4, ![8, 4096, 4, 256]⟩
abbrev S8x16x256x1024 : Shape := ⟨4, ![8, 16, 256, 1024]⟩
abbrev S8x2x16x256x64 : Shape := ⟨5, ![8, 2, 16, 256, 64]⟩
abbrev S8x2x16x64x256 : Shape := ⟨5, ![8, 2, 16, 64, 256]⟩
abbrev S8x2x16x1x256 : Shape := ⟨5, ![8, 2, 16, 1, 256]⟩
abbrev S8x2x16x15x256 : Shape := ⟨5, ![8, 2, 16, 15, 256]⟩
abbrev S8x2x16x80x256 : Shape := ⟨5, ![8, 2, 16, 80, 256]⟩
abbrev S256 : Shape := ⟨1, ![256]⟩
abbrev S1x256 : Shape := ⟨2, ![1, 256]⟩
abbrev S64 : Shape := ⟨1, ![64]⟩
abbrev S64x1 : Shape := ⟨2, ![64, 1]⟩
abbrev S64x256 : Shape := ⟨2, ![64, 256]⟩
abbrev S8x8x16x64x256 : Shape := ⟨5, ![8, 8, 16, 64, 256]⟩
abbrev S8x8x16x1x256 : Shape := ⟨5, ![8, 8, 16, 1, 256]⟩
abbrev S8x8x16x15x256 : Shape := ⟨5, ![8, 8, 16, 15, 256]⟩
abbrev S8x8x16x80x256 : Shape := ⟨5, ![8, 8, 16, 80, 256]⟩
abbrev S1x512x256 : Shape := ⟨3, ![1, 512, 256]⟩
abbrev S1x2x16x256 : Shape := ⟨4, ![1, 2, 16, 256]⟩
abbrev S1x256x128 : Shape := ⟨3, ![1, 256, 128]⟩
abbrev S1x2x80x256 : Shape := ⟨4, ![1, 2, 80, 256]⟩
abbrev S1x16x256x256 : Shape := ⟨4, ![1, 16, 256, 256]⟩
abbrev S1x2x16x80x256 : Shape := ⟨5, ![1, 2, 16, 80, 256]⟩
abbrev S1x16x256x128 : Shape := ⟨4, ![1, 16, 256, 128]⟩
abbrev S1x8x16x64 : Shape := ⟨4, ![1, 8, 16, 64]⟩
abbrev S1x16x256x1024 : Shape := ⟨4, ![1, 16, 256, 1024]⟩
abbrev S1x8x16x80x256 : Shape := ⟨5, ![1, 8, 16, 80, 256]⟩
abbrev S2x256x2048 : Shape := ⟨3, ![2, 256, 2048]⟩
abbrev S2x1x2048 : Shape := ⟨3, ![2, 1, 2048]⟩
abbrev S1x2048 : Shape := ⟨2, ![1, 2048]⟩
abbrev S80x2048 : Shape := ⟨2, ![80, 2048]⟩
abbrev S64x512 : Shape := ⟨2, ![64, 512]⟩
abbrev S512x256 : Shape := ⟨2, ![512, 256]⟩
abbrev S128x256 : Shape := ⟨2, ![128, 256]⟩
abbrev S128x2048 : Shape := ⟨2, ![128, 2048]⟩
abbrev S256x1 : Shape := ⟨2, ![256, 1]⟩
abbrev S256x2048 : Shape := ⟨2, ![256, 2048]⟩
abbrev S256x128 : Shape := ⟨2, ![256, 128]⟩
abbrev S1x256x2048 : Shape := ⟨3, ![1, 256, 2048]⟩
abbrev S2048 : Shape := ⟨1, ![2048]⟩
abbrev S1x1x2048 : Shape := ⟨3, ![1, 1, 2048]⟩
abbrev S1x1x256x128 : Shape := ⟨4, ![1, 1, 256, 128]⟩
abbrev S1x1x80x256 : Shape := ⟨4, ![1, 1, 80, 256]⟩
abbrev S80x256 : Shape := ⟨2, ![80, 256]⟩
abbrev S256x1024 : Shape := ⟨2, ![256, 1024]⟩
abbrev S80x1024 : Shape := ⟨2, ![80, 1024]⟩
abbrev S64x2048 : Shape := ⟨2, ![64, 2048]⟩
abbrev S256x256 : Shape := ⟨2, ![256, 256]⟩
abbrev S256x512 : Shape := ⟨2, ![256, 512]⟩
abbrev S1x512 : Shape := ⟨2, ![1, 512]⟩
abbrev S1x1x1x80x256 : Shape := ⟨5, ![1, 1, 1, 80, 256]⟩
abbrev S8x1 : Shape := ⟨2, ![8, 1]⟩
abbrev S8x512 : Shape := ⟨2, ![8, 512]⟩
abbrev S1x1x256x256 : Shape := ⟨4, ![1, 1, 256, 256]⟩
abbrev S112x256 : Shape := ⟨2, ![112, 256]⟩
abbrev S1x1x16x64 : Shape := ⟨4, ![1, 1, 16, 64]⟩
abbrev S16x64 : Shape := ⟨2, ![16, 64]⟩
abbrev S16x256 : Shape := ⟨2, ![16, 256]⟩
abbrev S16x2048 : Shape := ⟨2, ![16, 2048]⟩
abbrev S16x1 : Shape := ⟨2, ![16, 1]⟩
abbrev S8x2048 : Shape := ⟨2, ![8, 2048]⟩
abbrev S1x1x16x256 : Shape := ⟨4, ![1, 1, 16, 256]⟩
abbrev S1x64x256 : Shape := ⟨3, ![1, 64, 256]⟩

abbrev nBuf : Space → Nat
  | .hbm => 204
  | .vmem => 42
  | .smem => 0
  | _ => 0

abbrev hbmTy0_0 (i : Nat) : BufTy := match i % 128 with
  | 0 => ⟨S8x2x4x4096x64, .f32⟩
  | 1 => ⟨S8x2x4x4096x64, .f32⟩
  | 2 => ⟨S8x2x255x64, .f32⟩
  | 3 => ⟨S8x2x255x64, .f32⟩
  | 4 => ⟨S8x2x4096x64, .f32⟩
  | 5 => ⟨S8x2x4096x64, .f32⟩
  | 6 => ⟨S8x2x4096x64, .f32⟩
  | 7 => ⟨S8x2x4096x64, .f32⟩
  | 8 => ⟨S8x2x4x4096x3, .f32⟩
  | 9 => ⟨S8x8x4096x64, .f32⟩
  | 10 => ⟨S8x8x4096x64, .f32⟩
  | 11 => ⟨S8x8x4096x64, .f32⟩
  | 12 => ⟨S4096, .i32⟩
  | 13 => ⟨S4096x1, .i32⟩
  | 14 => ⟨S128, .i32⟩
  | 15 => ⟨S1x128, .i32⟩
  | 16 => ⟨S8x8x4096x64, .f32⟩
  | 17 => ⟨S8x8x64x4096, .f32⟩
  | 18 => ⟨S8x512x4096, .f32⟩
  | 19 => ⟨S8x8x4096x64, .f32⟩
  | 20 => ⟨S8x8x64x4096, .f32⟩
  | 21 => ⟨S8x512x4096, .f32⟩
  | 22 => ⟨S8x1024x4096, .f32⟩
  | 23 => ⟨S8x1024x4096, .bf16⟩
  | 24 => ⟨S8x2x4x3x4096, .f32⟩
  | 25 => ⟨S8x2x12x4096, .f32⟩
  | 26 => ⟨S_, .f32⟩
  | 27 => ⟨S8x2x4x4096, .f32⟩
  | 28 => ⟨S8x2x16x4096, .f32⟩
  | 29 => ⟨S8x255x2x64, .f32⟩
  | 30 => ⟨S8x255x128, .f32⟩
  | 31 => ⟨S_, .f32⟩
  | 32 => ⟨S8x1x128, .f32⟩
  | 33 => ⟨S8x256x128, .f32⟩
  | 34 => ⟨S8x256x128, .bf16⟩
  | 35 => ⟨S8x2x64x255, .f32⟩
  | 36 => ⟨S_, .f32⟩
  | 37 => ⟨S8x2x64x1, .f32⟩
  | 38 => ⟨S8x2x64x256, .f32⟩
  | 39 => ⟨S_, .f32⟩
  | 40 => ⟨S8x2x1x256, .f32⟩
  | 41 => ⟨S_, .f32⟩
  | 42 => ⟨S8x2x15x256, .f32⟩
  | 43 => ⟨S8x2x80x256, .f32⟩
  | 44 => ⟨S8x2x80x256, .bf16⟩
  | 45 => ⟨S_, .i32⟩
  | 46 => ⟨S_, .i32⟩
  | 47 => ⟨S4096x1, .i32⟩
  | 48 => ⟨S4096x1, .i32⟩
  | 49 => ⟨S4096x1, .i32⟩
  | 50 => ⟨S_, .i32⟩
  | 51 => ⟨S4096x1, .i32⟩
  | 52 => ⟨S4096x1, .i1⟩
  | 53 => ⟨S4096x1, .i32⟩
  | 54 => ⟨S4096x1, .i32⟩
  | 55 => ⟨S_, .i32⟩
  | 56 => ⟨S4096x1, .i32⟩
  | 57 => ⟨S4096x1, .i1⟩
  | 58 => ⟨S4096x1, .i1⟩
  | 59 => ⟨S_, .i32⟩
  | 60 => ⟨S4096x1, .i32⟩
  | 61 => ⟨S4096x1, .i32⟩
  | 62 => ⟨S4096x1, .i32⟩
  | 63 => ⟨S4096x128, .i32⟩
  | 64 => ⟨S4096x128, .i32⟩
  | 65 => ⟨S4096x128, .i1⟩
  | 66 => ⟨S_, .f32⟩
  | 67 => ⟨S_, .f32⟩
  | 68 => ⟨S4096x128, .f32⟩
  | 69 => ⟨S4096x128, .f32⟩
  | 70 => ⟨S4096x128, .f32⟩
  | 71 => ⟨S8x4096x128, .f32⟩
  | 72 => ⟨S8x4096x2x64, .f32⟩
  | 73 => ⟨S8x4096x128, .f32⟩
  | 74 => ⟨S8x4096x128, .f32⟩
  | 75 => ⟨S8x4096x256, .f32⟩
  | 76 => ⟨S8x16x256x256, .f32⟩
  | 77 => ⟨S8x16x256x256, .bf16⟩
  | 78 => ⟨S8x4096x2x64, .f32⟩
  | 79 => ⟨S8x4096x128, .f32⟩
  | 80 => ⟨S8x16x256x128, .f32⟩
  | 81 => ⟨S8x16x256x128, .bf16⟩
  | 82 => ⟨S8x8x64x4096, .f32⟩
  | 83 => ⟨S8x512x4096, .f32⟩
  | 84 => ⟨S8x512x4096, .bf16⟩
  | 85 => ⟨S8x512x4096, .f32⟩
  | 86 => ⟨S8x512x4096, .f32⟩
  | 87 => ⟨S8x512x4096, .bf16⟩
  | 88 => ⟨S8x8x16x256x64, .f32⟩
  | 89 => ⟨S_, .f32⟩
  | 90 => ⟨S8x8x16x64, .f32⟩
  | 91 => ⟨S_, .f32⟩
  | 92 => ⟨S8x8x16x64, .f32⟩
  | 93 => ⟨S8x8x16x64, .f32⟩
  | 94 => ⟨S_, .i32⟩
  | 95 => ⟨S_, .i32⟩
  | 96 => ⟨S4096x1, .i32⟩
  | 97 => ⟨S4096x1, .i32⟩
  | 98 => ⟨S4096x1, .i32⟩
  | 99 => ⟨S_, .i32⟩
  | 100 => ⟨S4096x1, .i32⟩
  | 101 => ⟨S4096x1, .i1⟩
  | 102 => ⟨S4096x1, .i32⟩
  | 103 => ⟨S4096x1, .i32⟩
  | 104 => ⟨S_, .i32⟩
  | 105 => ⟨S4096x1, .i32⟩
  | 106 => ⟨S4096x1, .i1⟩
  | 107 => ⟨S4096x1, .i1⟩
  | 108 => ⟨S_, .i32⟩
  | 109 => ⟨S4096x1, .i32⟩
  | 110 => ⟨S4096x1, .i32⟩
  | 111 => ⟨S4096x1, .i32⟩
  | 112 => ⟨S4096x128, .i32⟩
  | 113 => ⟨S4096x128, .i32⟩
  | 114 => ⟨S4096x128, .i1⟩
  | 115 => ⟨S_, .f32⟩
  | 116 => ⟨S_, .f32⟩
  | 117 => ⟨S4096x128, .f32⟩
  | 118 => ⟨S4096x128, .f32⟩
  | 119 => ⟨S4096x128, .f32⟩
  | 120 => ⟨S8x4x4096x128, .f32⟩
  | 121 => ⟨S8x4x2x4096x64, .f32⟩
  | 122 => ⟨S8x4x4096x2x64, .f32⟩
  | 123 => ⟨S8x4x4096x128, .f32⟩
  | 124 => ⟨S8x4x4096x128, .f32⟩
  | 125 => ⟨S8x4x4096x256, .f32⟩
  | 126 => ⟨S8x4096x4x256, .f32⟩
  | 127 => ⟨S8x16x256x1024, .f32⟩
  | _ => ⟨S8x2x4x4096x64, .f32⟩

abbrev hbmTy0_1 (i : Nat) : BufTy := match i % 128 with
  | 0 => ⟨S8x16x256x1024, .bf16⟩
  | 1 => ⟨S8x2x16x256x64, .f32⟩
  | 2 => ⟨S8x2x16x64x256, .f32⟩
  | 3 => ⟨S_, .f32⟩
  | 4 => ⟨S8x2x16x1x256, .f32⟩
  | 5 => ⟨S_, .f32⟩
  | 6 => ⟨S8x2x16x15x256, .f32⟩
  | 7 => ⟨S8x2x16x80x256, .f32⟩
  | 8 => ⟨S8x2x16x80x256, .bf16⟩
  | 9 => ⟨S8x2x16x256x64, .f32⟩
  | 10 => ⟨S8x2x16x64x256, .f32⟩
  | 11 => ⟨S_, .f32⟩
  | 12 => ⟨S8x2x16x1x256, .f32⟩
  | 13 => ⟨S_, .f32⟩
  | 14 => ⟨S8x2x16x15x256, .f32⟩
  | 15 => ⟨S8x2x16x80x256, .f32⟩
  | 16 => ⟨S8x2x16x80x256, .bf16⟩
  | 17 => ⟨S256, .i32⟩
  | 18 => ⟨S1x256, .i32⟩
  | 19 => ⟨S64, .i32⟩
  | 20 => ⟨S64x1, .i32⟩
  | 21 => ⟨S_, .i32⟩
  | 22 => ⟨S1x256, .i32⟩
  | 23 => ⟨S1x256, .i32⟩
  | 24 => ⟨S_, .i32⟩
  | 25 => ⟨S1x256, .i32⟩
  | 26 => ⟨S1x256, .i32⟩
  | 27 => ⟨S_, .i32⟩
  | 28 => ⟨S1x256, .i32⟩
  | 29 => ⟨S1x256, .i32⟩
  | 30 => ⟨S_, .i32⟩
  | 31 => ⟨S64x1, .i32⟩
  | 32 => ⟨S64x1, .i32⟩
  | 33 => ⟨S64x256, .i32⟩
  | 34 => ⟨S64x256, .i32⟩
  | 35 => ⟨S64x256, .i1⟩
  | 36 => ⟨S_, .i32⟩
  | 37 => ⟨S64x1, .i32⟩
  | 38 => ⟨S64x1, .i32⟩
  | 39 => ⟨S_, .i32⟩
  | 40 => ⟨S64x1, .i32⟩
  | 41 => ⟨S64x1, .i32⟩
  | 42 => ⟨S_, .i32⟩
  | 43 => ⟨S64x1, .i32⟩
  | 44 => ⟨S64x1, .i32⟩
  | 45 => ⟨S64x256, .i32⟩
  | 46 => ⟨S64x256, .i32⟩
  | 47 => ⟨S64x256, .i1⟩
  | 48 => ⟨S64x256, .i1⟩
  | 49 => ⟨S_, .i32⟩
  | 50 => ⟨S1x256, .i32⟩
  | 51 => ⟨S1x256, .i1⟩
  | 52 => ⟨S64x256, .i1⟩
  | 53 => ⟨S64x256, .i1⟩
  | 54 => ⟨S_, .i32⟩
  | 55 => ⟨S64x1, .i32⟩
  | 56 => ⟨S64x1, .i1⟩
  | 57 => ⟨S64x256, .i1⟩
  | 58 => ⟨S64x256, .i1⟩
  | 59 => ⟨S_, .f32⟩
  | 60 => ⟨S_, .f32⟩
  | 61 => ⟨S64x256, .f32⟩
  | 62 => ⟨S64x256, .f32⟩
  | 63 => ⟨S64x256, .f32⟩
  | 64 => ⟨S64x256, .bf16⟩
  | 65 => ⟨S8x1024x4096, .bf16⟩
  | 66 => ⟨S8x8x16x256x64, .f32⟩
  | 67 => ⟨S8x8x16x64x256, .f32⟩
  | 68 => ⟨S_, .f32⟩
  | 69 => ⟨S8x8x16x1x256, .f32⟩
  | 70 => ⟨S_, .f32⟩
  | 71 => ⟨S8x8x16x15x256, .f32⟩
  | 72 => ⟨S8x8x16x80x256, .f32⟩
  | 73 => ⟨S8x8x16x80x256, .bf16⟩
  | 74 => ⟨S8x512x4096, .bf16⟩
  | 75 => ⟨S8x512x4096, .bf16⟩
  | _ => ⟨S8x2x4x4096x64, .f32⟩

abbrev hbmTy (i : Nat) : BufTy := match i / 128 with
  | 0 => hbmTy0_0 i
  | 1 => hbmTy0_1 i
  | _ => ⟨S8x2x4x4096x64, .f32⟩

abbrev bufTy : (tb : Table) → Fin (tcTables nBuf tb) → BufTy
  | .hbm, ⟨i, _⟩ => hbmTy i
  | .local _ .vmem, ⟨0, _⟩ => ⟨S1x512x256, .bf16⟩
  | .local _ .vmem, ⟨1, _⟩ => ⟨S1x512x256, .bf16⟩
  | .local _ .vmem, ⟨2, _⟩ => ⟨S1x512x256, .bf16⟩
  | .local _ .vmem, ⟨3, _⟩ => ⟨S1x512x256, .bf16⟩
  | .local _ .vmem, ⟨4, _⟩ => ⟨S1x2x16x256, .f32⟩
  | .local _ .vmem, ⟨5, _⟩ => ⟨S1x2x16x256, .f32⟩
  | .local _ .vmem, ⟨6, _⟩ => ⟨S1x256x128, .bf16⟩
  | .local _ .vmem, ⟨7, _⟩ => ⟨S1x256x128, .bf16⟩
  | .local _ .vmem, ⟨8, _⟩ => ⟨S1x2x80x256, .bf16⟩
  | .local _ .vmem, ⟨9, _⟩ => ⟨S1x2x80x256, .bf16⟩
  | .local _ .vmem, ⟨10, _⟩ => ⟨S1x16x256x256, .bf16⟩
  | .local _ .vmem, ⟨11, _⟩ => ⟨S1x16x256x256, .bf16⟩
  | .local _ .vmem, ⟨12, _⟩ => ⟨S1x2x16x80x256, .bf16⟩
  | .local _ .vmem, ⟨13, _⟩ => ⟨S1x2x16x80x256, .bf16⟩
  | .local _ .vmem, ⟨14, _⟩ => ⟨S1x16x256x128, .bf16⟩
  | .local _ .vmem, ⟨15, _⟩ => ⟨S1x16x256x128, .bf16⟩
  | .local _ .vmem, ⟨16, _⟩ => ⟨S1x2x16x80x256, .bf16⟩
  | .local _ .vmem, ⟨17, _⟩ => ⟨S1x2x16x80x256, .bf16⟩
  | .local _ .vmem, ⟨18, _⟩ => ⟨S64x256, .bf16⟩
  | .local _ .vmem, ⟨19, _⟩ => ⟨S1x512x256, .bf16⟩
  | .local _ .vmem, ⟨20, _⟩ => ⟨S1x512x256, .bf16⟩
  | .local _ .vmem, ⟨21, _⟩ => ⟨S1x512x256, .bf16⟩
  | .local _ .vmem, ⟨22, _⟩ => ⟨S1x512x256, .bf16⟩
  | .local _ .vmem, ⟨23, _⟩ => ⟨S1x8x16x64, .f32⟩
  | .local _ .vmem, ⟨24, _⟩ => ⟨S1x8x16x64, .f32⟩
  | .local _ .vmem, ⟨25, _⟩ => ⟨S1x16x256x1024, .bf16⟩
  | .local _ .vmem, ⟨26, _⟩ => ⟨S1x16x256x1024, .bf16⟩
  | .local _ .vmem, ⟨27, _⟩ => ⟨S1x8x16x80x256, .bf16⟩
  | .local _ .vmem, ⟨28, _⟩ => ⟨S1x8x16x80x256, .bf16⟩
  | .local _ .vmem, ⟨29, _⟩ => ⟨S1x512x256, .bf16⟩
  | .local _ .vmem, ⟨30, _⟩ => ⟨S1x512x256, .bf16⟩
  | .local _ .vmem, ⟨31, _⟩ => ⟨S1x512x256, .bf16⟩
  | .local _ .vmem, ⟨32, _⟩ => ⟨S1x512x256, .bf16⟩
  | .local _ .vmem, ⟨33, _⟩ => ⟨S2x256x2048, .f32⟩
  | .local _ .vmem, ⟨34, _⟩ => ⟨S2x1x2048, .f32⟩
  | .local _ .vmem, ⟨35, _⟩ => ⟨S1x2048, .f32⟩
  | .local _ .vmem, ⟨36, _⟩ => ⟨S80x2048, .f32⟩
  | .local _ .vmem, ⟨37, _⟩ => ⟨S64x512, .f32⟩
  | .local _ .vmem, ⟨38, _⟩ => ⟨S2x256x2048, .f32⟩
  | .local _ .vmem, ⟨39, _⟩ => ⟨S2x1x2048, .f32⟩
  | .local _ .vmem, ⟨40, _⟩ => ⟨S1x2048, .f32⟩
  | .local _ .vmem, ⟨41, _⟩ => ⟨S80x2048, .f32⟩
  | _, _ => ⟨S8x2x4x4096x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | _, _ => false

abbrev semScoped : Fin 0 → Bool
  | ⟨_, h⟩ => absurd h (Nat.not_lt_zero _)

abbrev dmaSemScoped : Fin 33 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | _ => false

abbrev sig : RefSig :=
  ofTc nBuf bufTy 0 33 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_cst : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_0 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_cst_1 : Ref sig .tc := ⟨.hbm, 36, rfl⟩
abbrev main_v22 : Ref sig .tc := ⟨.hbm, 37, rfl⟩
abbrev main_v23 : Ref sig .tc := ⟨.hbm, 38, rfl⟩
abbrev main_cst_2 : Ref sig .tc := ⟨.hbm, 39, rfl⟩
abbrev main_v24 : Ref sig .tc := ⟨.hbm, 40, rfl⟩
abbrev main_cst_3 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_c : Ref sig .tc := ⟨.hbm, 45, rfl⟩
abbrev main_call0_v0 : Ref sig .tc := ⟨.hbm, 46, rfl⟩
abbrev main_call0_v1 : Ref sig .tc := ⟨.hbm, 47, rfl⟩
abbrev main_call0_v2 : Ref sig .tc := ⟨.hbm, 48, rfl⟩
abbrev main_call0_v3 : Ref sig .tc := ⟨.hbm, 49, rfl⟩
abbrev main_call0_v4 : Ref sig .tc := ⟨.hbm, 50, rfl⟩
abbrev main_call0_v5 : Ref sig .tc := ⟨.hbm, 51, rfl⟩
abbrev main_call0_v6 : Ref sig .tc := ⟨.hbm, 52, rfl⟩
abbrev main_call0_v7 : Ref sig .tc := ⟨.hbm, 53, rfl⟩
abbrev main_call0_v8 : Ref sig .tc := ⟨.hbm, 54, rfl⟩
abbrev main_call0_c : Ref sig .tc := ⟨.hbm, 55, rfl⟩
abbrev main_call0_v9 : Ref sig .tc := ⟨.hbm, 56, rfl⟩
abbrev main_call0_v10 : Ref sig .tc := ⟨.hbm, 57, rfl⟩
abbrev main_call0_v11 : Ref sig .tc := ⟨.hbm, 58, rfl⟩
abbrev main_call0_c_0 : Ref sig .tc := ⟨.hbm, 59, rfl⟩
abbrev main_call0_v12 : Ref sig .tc := ⟨.hbm, 60, rfl⟩
abbrev main_call0_v13 : Ref sig .tc := ⟨.hbm, 61, rfl⟩
abbrev main_v28 : Ref sig .tc := ⟨.hbm, 62, rfl⟩
abbrev main_v29 : Ref sig .tc := ⟨.hbm, 63, rfl⟩
abbrev main_v30 : Ref sig .tc := ⟨.hbm, 64, rfl⟩
abbrev main_v31 : Ref sig .tc := ⟨.hbm, 65, rfl⟩
abbrev main_cst_4 : Ref sig .tc := ⟨.hbm, 66, rfl⟩
abbrev main_cst_5 : Ref sig .tc := ⟨.hbm, 67, rfl⟩
abbrev main_call1_v0 : Ref sig .tc := ⟨.hbm, 68, rfl⟩
abbrev main_call1_v1 : Ref sig .tc := ⟨.hbm, 69, rfl⟩
abbrev main_v32 : Ref sig .tc := ⟨.hbm, 70, rfl⟩
abbrev main_v33 : Ref sig .tc := ⟨.hbm, 71, rfl⟩
abbrev main_v34 : Ref sig .tc := ⟨.hbm, 72, rfl⟩
abbrev main_v35 : Ref sig .tc := ⟨.hbm, 73, rfl⟩
abbrev main_v36 : Ref sig .tc := ⟨.hbm, 74, rfl⟩
abbrev main_v37 : Ref sig .tc := ⟨.hbm, 75, rfl⟩
abbrev main_v38 : Ref sig .tc := ⟨.hbm, 76, rfl⟩
abbrev main_v39 : Ref sig .tc := ⟨.hbm, 77, rfl⟩
abbrev main_v40 : Ref sig .tc := ⟨.hbm, 78, rfl⟩
abbrev main_v41 : Ref sig .tc := ⟨.hbm, 79, rfl⟩
abbrev main_v42 : Ref sig .tc := ⟨.hbm, 80, rfl⟩
abbrev main_v43 : Ref sig .tc := ⟨.hbm, 81, rfl⟩
abbrev main_v44 : Ref sig .tc := ⟨.hbm, 82, rfl⟩
abbrev main_v45 : Ref sig .tc := ⟨.hbm, 83, rfl⟩
abbrev main_v46 : Ref sig .tc := ⟨.hbm, 84, rfl⟩
abbrev main_v47 : Ref sig .tc := ⟨.hbm, 85, rfl⟩
abbrev main_v48 : Ref sig .tc := ⟨.hbm, 86, rfl⟩
abbrev main_v49 : Ref sig .tc := ⟨.hbm, 87, rfl⟩
abbrev main_v50 : Ref sig .tc := ⟨.hbm, 88, rfl⟩
abbrev main_cst_6 : Ref sig .tc := ⟨.hbm, 89, rfl⟩
abbrev main_v51 : Ref sig .tc := ⟨.hbm, 90, rfl⟩
abbrev main_cst_7 : Ref sig .tc := ⟨.hbm, 91, rfl⟩
abbrev main_v52 : Ref sig .tc := ⟨.hbm, 92, rfl⟩
abbrev main_v53 : Ref sig .tc := ⟨.hbm, 93, rfl⟩
abbrev main_c_8 : Ref sig .tc := ⟨.hbm, 94, rfl⟩
abbrev main_call2_v0 : Ref sig .tc := ⟨.hbm, 95, rfl⟩
abbrev main_call2_v1 : Ref sig .tc := ⟨.hbm, 96, rfl⟩
abbrev main_call2_v2 : Ref sig .tc := ⟨.hbm, 97, rfl⟩
abbrev main_call2_v3 : Ref sig .tc := ⟨.hbm, 98, rfl⟩
abbrev main_call2_v4 : Ref sig .tc := ⟨.hbm, 99, rfl⟩
abbrev main_call2_v5 : Ref sig .tc := ⟨.hbm, 100, rfl⟩
abbrev main_call2_v6 : Ref sig .tc := ⟨.hbm, 101, rfl⟩
abbrev main_call2_v7 : Ref sig .tc := ⟨.hbm, 102, rfl⟩
abbrev main_call2_v8 : Ref sig .tc := ⟨.hbm, 103, rfl⟩
abbrev main_call2_c : Ref sig .tc := ⟨.hbm, 104, rfl⟩
abbrev main_call2_v9 : Ref sig .tc := ⟨.hbm, 105, rfl⟩
abbrev main_call2_v10 : Ref sig .tc := ⟨.hbm, 106, rfl⟩
abbrev main_call2_v11 : Ref sig .tc := ⟨.hbm, 107, rfl⟩
abbrev main_call2_c_0 : Ref sig .tc := ⟨.hbm, 108, rfl⟩
abbrev main_call2_v12 : Ref sig .tc := ⟨.hbm, 109, rfl⟩
abbrev main_call2_v13 : Ref sig .tc := ⟨.hbm, 110, rfl⟩
abbrev main_v54 : Ref sig .tc := ⟨.hbm, 111, rfl⟩
abbrev main_v55 : Ref sig .tc := ⟨.hbm, 112, rfl⟩
abbrev main_v56 : Ref sig .tc := ⟨.hbm, 113, rfl⟩
abbrev main_v57 : Ref sig .tc := ⟨.hbm, 114, rfl⟩
abbrev main_cst_9 : Ref sig .tc := ⟨.hbm, 115, rfl⟩
abbrev main_cst_10 : Ref sig .tc := ⟨.hbm, 116, rfl⟩
abbrev main_call3_v0 : Ref sig .tc := ⟨.hbm, 117, rfl⟩
abbrev main_call3_v1 : Ref sig .tc := ⟨.hbm, 118, rfl⟩
abbrev main_v58 : Ref sig .tc := ⟨.hbm, 119, rfl⟩
abbrev main_v59 : Ref sig .tc := ⟨.hbm, 120, rfl⟩
abbrev main_v60 : Ref sig .tc := ⟨.hbm, 121, rfl⟩
abbrev main_v61 : Ref sig .tc := ⟨.hbm, 122, rfl⟩
abbrev main_v62 : Ref sig .tc := ⟨.hbm, 123, rfl⟩
abbrev main_v63 : Ref sig .tc := ⟨.hbm, 124, rfl⟩
abbrev main_v64 : Ref sig .tc := ⟨.hbm, 125, rfl⟩
abbrev main_v65 : Ref sig .tc := ⟨.hbm, 126, rfl⟩
abbrev main_v66 : Ref sig .tc := ⟨.hbm, 127, rfl⟩
abbrev main_v67 : Ref sig .tc := ⟨.hbm, 128, rfl⟩
abbrev main_v68 : Ref sig .tc := ⟨.hbm, 129, rfl⟩
abbrev main_v69 : Ref sig .tc := ⟨.hbm, 130, rfl⟩
abbrev main_cst_11 : Ref sig .tc := ⟨.hbm, 131, rfl⟩
abbrev main_v70 : Ref sig .tc := ⟨.hbm, 132, rfl⟩
abbrev main_cst_12 : Ref sig .tc := ⟨.hbm, 133, rfl⟩
abbrev main_v71 : Ref sig .tc := ⟨.hbm, 134, rfl⟩
abbrev main_v72 : Ref sig .tc := ⟨.hbm, 135, rfl⟩
abbrev main_v73 : Ref sig .tc := ⟨.hbm, 136, rfl⟩
abbrev main_v74 : Ref sig .tc := ⟨.hbm, 137, rfl⟩
abbrev main_v75 : Ref sig .tc := ⟨.hbm, 138, rfl⟩
abbrev main_cst_13 : Ref sig .tc := ⟨.hbm, 139, rfl⟩
abbrev main_v76 : Ref sig .tc := ⟨.hbm, 140, rfl⟩
abbrev main_cst_14 : Ref sig .tc := ⟨.hbm, 141, rfl⟩
abbrev main_v77 : Ref sig .tc := ⟨.hbm, 142, rfl⟩
abbrev main_v78 : Ref sig .tc := ⟨.hbm, 143, rfl⟩
abbrev main_v79 : Ref sig .tc := ⟨.hbm, 144, rfl⟩
abbrev main_v80 : Ref sig .tc := ⟨.hbm, 145, rfl⟩
abbrev main_v81 : Ref sig .tc := ⟨.hbm, 146, rfl⟩
abbrev main_v82 : Ref sig .tc := ⟨.hbm, 147, rfl⟩
abbrev main_v83 : Ref sig .tc := ⟨.hbm, 148, rfl⟩
abbrev main_c_15 : Ref sig .tc := ⟨.hbm, 149, rfl⟩
abbrev main_v84 : Ref sig .tc := ⟨.hbm, 150, rfl⟩
abbrev main_v85 : Ref sig .tc := ⟨.hbm, 151, rfl⟩
abbrev main_c_16 : Ref sig .tc := ⟨.hbm, 152, rfl⟩
abbrev main_v86 : Ref sig .tc := ⟨.hbm, 153, rfl⟩
abbrev main_v87 : Ref sig .tc := ⟨.hbm, 154, rfl⟩
abbrev main_c_17 : Ref sig .tc := ⟨.hbm, 155, rfl⟩
abbrev main_v88 : Ref sig .tc := ⟨.hbm, 156, rfl⟩
abbrev main_v89 : Ref sig .tc := ⟨.hbm, 157, rfl⟩
abbrev main_c_18 : Ref sig .tc := ⟨.hbm, 158, rfl⟩
abbrev main_v90 : Ref sig .tc := ⟨.hbm, 159, rfl⟩
abbrev main_v91 : Ref sig .tc := ⟨.hbm, 160, rfl⟩
abbrev main_v92 : Ref sig .tc := ⟨.hbm, 161, rfl⟩
abbrev main_v93 : Ref sig .tc := ⟨.hbm, 162, rfl⟩
abbrev main_v94 : Ref sig .tc := ⟨.hbm, 163, rfl⟩
abbrev main_c_19 : Ref sig .tc := ⟨.hbm, 164, rfl⟩
abbrev main_v95 : Ref sig .tc := ⟨.hbm, 165, rfl⟩
abbrev main_v96 : Ref sig .tc := ⟨.hbm, 166, rfl⟩
abbrev main_c_20 : Ref sig .tc := ⟨.hbm, 167, rfl⟩
abbrev main_v97 : Ref sig .tc := ⟨.hbm, 168, rfl⟩
abbrev main_v98 : Ref sig .tc := ⟨.hbm, 169, rfl⟩
abbrev main_c_21 : Ref sig .tc := ⟨.hbm, 170, rfl⟩
abbrev main_v99 : Ref sig .tc := ⟨.hbm, 171, rfl⟩
abbrev main_v100 : Ref sig .tc := ⟨.hbm, 172, rfl⟩
abbrev main_v101 : Ref sig .tc := ⟨.hbm, 173, rfl⟩
abbrev main_v102 : Ref sig .tc := ⟨.hbm, 174, rfl⟩
abbrev main_v103 : Ref sig .tc := ⟨.hbm, 175, rfl⟩
abbrev main_v104 : Ref sig .tc := ⟨.hbm, 176, rfl⟩
abbrev main_c_22 : Ref sig .tc := ⟨.hbm, 177, rfl⟩
abbrev main_v105 : Ref sig .tc := ⟨.hbm, 178, rfl⟩
abbrev main_v106 : Ref sig .tc := ⟨.hbm, 179, rfl⟩
abbrev main_v107 : Ref sig .tc := ⟨.hbm, 180, rfl⟩
abbrev main_v108 : Ref sig .tc := ⟨.hbm, 181, rfl⟩
abbrev main_c_23 : Ref sig .tc := ⟨.hbm, 182, rfl⟩
abbrev main_v109 : Ref sig .tc := ⟨.hbm, 183, rfl⟩
abbrev main_v110 : Ref sig .tc := ⟨.hbm, 184, rfl⟩
abbrev main_v111 : Ref sig .tc := ⟨.hbm, 185, rfl⟩
abbrev main_v112 : Ref sig .tc := ⟨.hbm, 186, rfl⟩
abbrev main_cst_24 : Ref sig .tc := ⟨.hbm, 187, rfl⟩
abbrev main_cst_25 : Ref sig .tc := ⟨.hbm, 188, rfl⟩
abbrev main_call4_v0 : Ref sig .tc := ⟨.hbm, 189, rfl⟩
abbrev main_call4_v1 : Ref sig .tc := ⟨.hbm, 190, rfl⟩
abbrev main_v113 : Ref sig .tc := ⟨.hbm, 191, rfl⟩
abbrev main_v114 : Ref sig .tc := ⟨.hbm, 192, rfl⟩
abbrev main_v115 : Ref sig .tc := ⟨.hbm, 193, rfl⟩
abbrev main_v116 : Ref sig .tc := ⟨.hbm, 194, rfl⟩
abbrev main_v117 : Ref sig .tc := ⟨.hbm, 195, rfl⟩
abbrev main_cst_26 : Ref sig .tc := ⟨.hbm, 196, rfl⟩
abbrev main_v118 : Ref sig .tc := ⟨.hbm, 197, rfl⟩
abbrev main_cst_27 : Ref sig .tc := ⟨.hbm, 198, rfl⟩
abbrev main_v119 : Ref sig .tc := ⟨.hbm, 199, rfl⟩
abbrev main_v120 : Ref sig .tc := ⟨.hbm, 200, rfl⟩
abbrev main_v121 : Ref sig .tc := ⟨.hbm, 201, rfl⟩
abbrev main_v122_0 : Ref sig .tc := ⟨.hbm, 202, rfl⟩
abbrev main_v122_1 : Ref sig .tc := ⟨.hbm, 203, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg10_0 : Ref sig .tc := ⟨.vmem, 19, rfl⟩
abbrev cc0_stg10_1 : Ref sig .tc := ⟨.vmem, 20, rfl⟩
abbrev cc0_stg11_0 : Ref sig .tc := ⟨.vmem, 21, rfl⟩
abbrev cc0_stg11_1 : Ref sig .tc := ⟨.vmem, 22, rfl⟩
abbrev cc0_stg12_0 : Ref sig .tc := ⟨.vmem, 23, rfl⟩
abbrev cc0_stg12_1 : Ref sig .tc := ⟨.vmem, 24, rfl⟩
abbrev cc0_stg13_0 : Ref sig .tc := ⟨.vmem, 25, rfl⟩
abbrev cc0_stg13_1 : Ref sig .tc := ⟨.vmem, 26, rfl⟩
abbrev cc0_stg14_0 : Ref sig .tc := ⟨.vmem, 27, rfl⟩
abbrev cc0_stg14_1 : Ref sig .tc := ⟨.vmem, 28, rfl⟩
abbrev cc0_stg15_0 : Ref sig .tc := ⟨.vmem, 29, rfl⟩
abbrev cc0_stg15_1 : Ref sig .tc := ⟨.vmem, 30, rfl⟩
abbrev cc0_stg16_0 : Ref sig .tc := ⟨.vmem, 31, rfl⟩
abbrev cc0_stg16_1 : Ref sig .tc := ⟨.vmem, 32, rfl⟩
abbrev cc0_scratch0 : Ref sig .tc := ⟨.vmem, 33, rfl⟩
abbrev cc0_scratch1 : Ref sig .tc := ⟨.vmem, 34, rfl⟩
abbrev cc0_scratch2 : Ref sig .tc := ⟨.vmem, 35, rfl⟩
abbrev cc0_scratch3 : Ref sig .tc := ⟨.vmem, 36, rfl⟩
abbrev cc0_scratch4 : Ref sig .tc := ⟨.vmem, 37, rfl⟩
abbrev cc0_scratch5 : Ref sig .tc := ⟨.vmem, 38, rfl⟩
abbrev cc0_scratch6 : Ref sig .tc := ⟨.vmem, 39, rfl⟩
abbrev cc0_scratch7 : Ref sig .tc := ⟨.vmem, 40, rfl⟩
abbrev cc0_scratch8 : Ref sig .tc := ⟨.vmem, 41, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem10_0 : DmaSem sig := 19
abbrev cc0_sem10_1 : DmaSem sig := 20
abbrev cc0_sem11_0 : DmaSem sig := 21
abbrev cc0_sem11_1 : DmaSem sig := 22
abbrev cc0_sem12_0 : DmaSem sig := 23
abbrev cc0_sem12_1 : DmaSem sig := 24
abbrev cc0_sem13_0 : DmaSem sig := 25
abbrev cc0_sem13_1 : DmaSem sig := 26
abbrev cc0_sem14_0 : DmaSem sig := 27
abbrev cc0_sem14_1 : DmaSem sig := 28
abbrev cc0_sem15_0 : DmaSem sig := 29
abbrev cc0_sem15_1 : DmaSem sig := 30
abbrev cc0_sem16_0 : DmaSem sig := 31
abbrev cc0_sem16_1 : DmaSem sig := 32

abbrev nD : Nat := 1
abbrev τ : Topo := Topo.v7x

variable {F : FTy → Type} [FloatOps F]

abbrev grid0 : Pipeline.Grid := ⟨2, ![8, 16], ![false, false]⟩

def k0_off1 (i : grid0.Coords) : Fin 4 → Nat :=
  let c0_20 : Index := 0#32
  let arg1 : BitVec 32 := BitVec.ofNat 32 (i 1).val
  let v84 : Index := Scalar.indexCast arg1
  let c0_21 : Index := 0#32
  let c0_22 : Index := 0#32
  ![0, v84.toNat, 0, 0]
def k0_off2 (i : grid0.Coords) (c1_i32 : BitVec 32) : Fin 4 → Nat :=
  let c0_64 : Index := 0#32
  let arg1 : BitVec 32 := BitVec.ofNat 32 (i 1).val
  let v59 : BitVec 32 := Scalar.subi arg1 c1_i32
  let c0_i32 : BitVec 32 := 0#32
  let v60 : BitVec 32 := Scalar.maxsi v59 c0_i32
  let v184 : Index := Scalar.indexCast v60
  let c0_65 : Index := 0#32
  let c0_66 : Index := 0#32
  ![0, v184.toNat, 0, 0]
def k0_off3 (i : grid0.Coords) : Fin 5 → Nat :=
  let c0_92 : Index := 0#32
  let c0_93 : Index := 0#32
  let arg1 : BitVec 32 := BitVec.ofNat 32 (i 1).val
  let v221 : Index := Scalar.indexCast arg1
  let c0_94 : Index := 0#32
  let c0_95 : Index := 0#32
  ![0, 0, v221.toNat, 0, 0]
def k0_off4 (i : grid0.Coords) : Fin 5 → Nat :=
  let c0_97 : Index := 0#32
  let c1_98 : Index := 1#32
  let arg1 : BitVec 32 := BitVec.ofNat 32 (i 1).val
  let v226 : Index := Scalar.indexCast arg1
  let c0_99 : Index := 0#32
  let c0_100 : Index := 0#32
  ![0, 1, v226.toNat, 0, 0]
def k0_off5 (i : grid0.Coords) (c1_i32 : BitVec 32) : Fin 5 → Nat :=
  let c0_129 : Index := 0#32
  let c0_130 : Index := 0#32
  let arg1 : BitVec 32 := BitVec.ofNat 32 (i 1).val
  let v59 : BitVec 32 := Scalar.subi arg1 c1_i32
  let c0_i32 : BitVec 32 := 0#32
  let v60 : BitVec 32 := Scalar.maxsi v59 c0_i32
  let v271 : Index := Scalar.indexCast v60
  let c0_131 : Index := 0#32
  let c0_132 : Index := 0#32
  ![0, 0, v271.toNat, 0, 0]
def k0_off6 (i : grid0.Coords) (c1_i32 : BitVec 32) : Fin 5 → Nat :=
  let c0_134 : Index := 0#32
  let c1_135 : Index := 1#32
  let arg1 : BitVec 32 := BitVec.ofNat 32 (i 1).val
  let v59 : BitVec 32 := Scalar.subi arg1 c1_i32
  let c0_i32 : BitVec 32 := 0#32
  let v60 : BitVec 32 := Scalar.maxsi v59 c0_i32
  let v276 : Index := Scalar.indexCast v60
  let c0_136 : Index := 0#32
  let c0_137 : Index := 0#32
  ![0, 1, v276.toNat, 0, 0]
def k0_off7 (i : grid0.Coords) : Fin 4 → Nat :=
  let c0_504 : Index := 0#32
  let c0_i32_501 : BitVec 32 := 0#32
  let arg1 : BitVec 32 := BitVec.ofNat 32 (i 1).val
  let c1_i32_499 : BitVec 32 := 1#32
  let v1290 : BitVec 32 := Scalar.addi arg1 c1_i32_499
  let c1_i32_500 : BitVec 32 := 1#32
  let v1291 : BitVec 32 := Scalar.andi v1290 c1_i32_500
  let v1292 : BitVec 32 := Scalar.subi c0_i32_501 v1291
  let c0_i32_503 : BitVec 32 := 0#32
  let v1294 : BitVec 32 := Scalar.maxsi v1292 c0_i32_503
  let v1295 : Index := Scalar.indexCast v1294
  let c0_505 : Index := 0#32
  let c0_506 : Index := 0#32
  ![0, v1295.toNat, 0, 0]
def k0_off8 (i : grid0.Coords) : Fin 4 → Nat :=
  let c0_582 : Index := 0#32
  let arg1 : BitVec 32 := BitVec.ofNat 32 (i 1).val
  let v1447 : Index := Scalar.indexCast arg1
  let c0_583 : Index := 0#32
  let c0_584 : Index := 0#32
  ![0, v1447.toNat, 0, 0]
def k0_off9 (i : grid0.Coords) : Fin 4 → Nat :=
  let c0_590 : Index := 0#32
  let arg1 : BitVec 32 := BitVec.ofNat 32 (i 1).val
  let v1459 : Index := Scalar.indexCast arg1
  let c0_591 : Index := 0#32
  let c256 : Index := 256#32
  ![0, v1459.toNat, 0, 256]
def k0_off10 (i : grid0.Coords) : Fin 4 → Nat :=
  let c0_597 : Index := 0#32
  let arg1 : BitVec 32 := BitVec.ofNat 32 (i 1).val
  let v1471 : Index := Scalar.indexCast arg1
  let c0_598 : Index := 0#32
  let c512 : Index := 512#32
  ![0, v1471.toNat, 0, 512]
def k0_off11 (i : grid0.Coords) : Fin 4 → Nat :=
  let c0_604 : Index := 0#32
  let arg1 : BitVec 32 := BitVec.ofNat 32 (i 1).val
  let v1483 : Index := Scalar.indexCast arg1
  let c0_605 : Index := 0#32
  let c768 : Index := 768#32
  ![0, v1483.toNat, 0, 768]
def k0_off12 (i : grid0.Coords) (c0_i32_756 : BitVec 32) : Fin 4 → Nat :=
  let c0_759 : Index := 0#32
  let arg1 : BitVec 32 := BitVec.ofNat 32 (i 1).val
  let c1_i32_754 : BitVec 32 := 1#32
  let v1967 : BitVec 32 := Scalar.subi arg1 c1_i32_754
  let c0_i32_755 : BitVec 32 := 0#32
  let v1968 : BitVec 32 := Scalar.maxsi v1967 c0_i32_755
  let c0_i32_757 : BitVec 32 := 0#32
  let v1969 : BitVec 32 := Scalar.maxsi c0_i32_757 c0_i32_756
  let v1970 : BitVec 32 := Scalar.minsi v1968 v1969
  let v1972 : Index := Scalar.indexCast v1970
  let c0_760 : Index := 0#32
  let c0_761 : Index := 0#32
  ![0, v1972.toNat, 0, 0]
def k0_off13 (i : grid0.Coords) (c0_i32_756 : BitVec 32) : Fin 4 → Nat :=
  let c0_767 : Index := 0#32
  let arg1 : BitVec 32 := BitVec.ofNat 32 (i 1).val
  let c1_i32_754 : BitVec 32 := 1#32
  let v1967 : BitVec 32 := Scalar.subi arg1 c1_i32_754
  let c0_i32_755 : BitVec 32 := 0#32
  let v1968 : BitVec 32 := Scalar.maxsi v1967 c0_i32_755
  let c0_i32_757 : BitVec 32 := 0#32
  let v1969 : BitVec 32 := Scalar.maxsi c0_i32_757 c0_i32_756
  let v1970 : BitVec 32 := Scalar.minsi v1968 v1969
  let v1982 : Index := Scalar.indexCast v1970
  let c0_768 : Index := 0#32
  let c256_769 : Index := 256#32
  ![0, v1982.toNat, 0, 256]
def k0_off14 (i : grid0.Coords) (c0_i32_756 : BitVec 32) : Fin 4 → Nat :=
  let c0_775 : Index := 0#32
  let arg1 : BitVec 32 := BitVec.ofNat 32 (i 1).val
  let c1_i32_754 : BitVec 32 := 1#32
  let v1967 : BitVec 32 := Scalar.subi arg1 c1_i32_754
  let c0_i32_755 : BitVec 32 := 0#32
  let v1968 : BitVec 32 := Scalar.maxsi v1967 c0_i32_755
  let c0_i32_757 : BitVec 32 := 0#32
  let v1969 : BitVec 32 := Scalar.maxsi c0_i32_757 c0_i32_756
  let v1970 : BitVec 32 := Scalar.minsi v1968 v1969
  let v1992 : Index := Scalar.indexCast v1970
  let c0_776 : Index := 0#32
  let c512_777 : Index := 512#32
  ![0, v1992.toNat, 0, 512]
def k0_off15 (i : grid0.Coords) (c0_i32_756 : BitVec 32) : Fin 4 → Nat :=
  let c0_783 : Index := 0#32
  let arg1 : BitVec 32 := BitVec.ofNat 32 (i 1).val
  let c1_i32_754 : BitVec 32 := 1#32
  let v1967 : BitVec 32 := Scalar.subi arg1 c1_i32_754
  let c0_i32_755 : BitVec 32 := 0#32
  let v1968 : BitVec 32 := Scalar.maxsi v1967 c0_i32_755
  let c0_i32_757 : BitVec 32 := 0#32
  let v1969 : BitVec 32 := Scalar.maxsi c0_i32_757 c0_i32_756
  let v1970 : BitVec 32 := Scalar.minsi v1968 v1969
  let v2002 : Index := Scalar.indexCast v1970
  let c0_784 : Index := 0#32
  let c768_785 : Index := 768#32
  ![0, v2002.toNat, 0, 768]
def k0_off16 (i : grid0.Coords) : Fin 5 → Nat :=
  let c0_808 : Index := 0#32
  let c0_809 : Index := 0#32
  let arg1 : BitVec 32 := BitVec.ofNat 32 (i 1).val
  let v2036 : Index := Scalar.indexCast arg1
  let c0_810 : Index := 0#32
  let c0_811 : Index := 0#32
  ![0, 0, v2036.toNat, 0, 0]
def k0_off17 (i : grid0.Coords) : Fin 5 → Nat :=
  let c0_813 : Index := 0#32
  let c1_814 : Index := 1#32
  let arg1 : BitVec 32 := BitVec.ofNat 32 (i 1).val
  let v2041 : Index := Scalar.indexCast arg1
  let c0_815 : Index := 0#32
  let c0_816 : Index := 0#32
  ![0, 1, v2041.toNat, 0, 0]
def k0_off18 (i : grid0.Coords) : Fin 5 → Nat :=
  let c0_818 : Index := 0#32
  let c2_819 : Index := 2#32
  let arg1 : BitVec 32 := BitVec.ofNat 32 (i 1).val
  let v2046 : Index := Scalar.indexCast arg1
  let c0_820 : Index := 0#32
  let c0_821 : Index := 0#32
  ![0, 2, v2046.toNat, 0, 0]
def k0_off19 (i : grid0.Coords) : Fin 5 → Nat :=
  let c0_823 : Index := 0#32
  let c3_824 : Index := 3#32
  let arg1 : BitVec 32 := BitVec.ofNat 32 (i 1).val
  let v2051 : Index := Scalar.indexCast arg1
  let c0_825 : Index := 0#32
  let c0_826 : Index := 0#32
  ![0, 3, v2051.toNat, 0, 0]
def k0_off20 (i : grid0.Coords) : Fin 5 → Nat :=
  let c0_828 : Index := 0#32
  let c4_829 : Index := 4#32
  let arg1 : BitVec 32 := BitVec.ofNat 32 (i 1).val
  let v2056 : Index := Scalar.indexCast arg1
  let c0_830 : Index := 0#32
  let c0_831 : Index := 0#32
  ![0, 4, v2056.toNat, 0, 0]
def k0_off21 (i : grid0.Coords) : Fin 5 → Nat :=
  let c0_833 : Index := 0#32
  let c5_834 : Index := 5#32
  let arg1 : BitVec 32 := BitVec.ofNat 32 (i 1).val
  let v2061 : Index := Scalar.indexCast arg1
  let c0_835 : Index := 0#32
  let c0_836 : Index := 0#32
  ![0, 5, v2061.toNat, 0, 0]
def k0_off22 (i : grid0.Coords) : Fin 5 → Nat :=
  let c0_838 : Index := 0#32
  let c6_839 : Index := 6#32
  let arg1 : BitVec 32 := BitVec.ofNat 32 (i 1).val
  let v2066 : Index := Scalar.indexCast arg1
  let c0_840 : Index := 0#32
  let c0_841 : Index := 0#32
  ![0, 6, v2066.toNat, 0, 0]
def k0_off23 (i : grid0.Coords) : Fin 5 → Nat :=
  let c0_843 : Index := 0#32
  let c7_844 : Index := 7#32
  let arg1 : BitVec 32 := BitVec.ofNat 32 (i 1).val
  let v2071 : Index := Scalar.indexCast arg1
  let c0_845 : Index := 0#32
  let c0_846 : Index := 0#32
  ![0, 7, v2071.toNat, 0, 0]
def k0_off24 (i : grid0.Coords) : Fin 5 → Nat :=
  let c0_910 : Index := 0#32
  let c0_911 : Index := 0#32
  let arg1 : BitVec 32 := BitVec.ofNat 32 (i 1).val
  let c1_i32_896 : BitVec 32 := 1#32
  let v2138 : BitVec 32 := Scalar.subi arg1 c1_i32_896
  let c0_i32_897 : BitVec 32 := 0#32
  let v2139 : BitVec 32 := Scalar.maxsi v2138 c0_i32_897
  let c0_i32_899 : BitVec 32 := 0#32
  let c0_i32_898 : BitVec 32 := 0#32
  let v2140 : BitVec 32 := Scalar.maxsi c0_i32_899 c0_i32_898
  let v2141 : BitVec 32 := Scalar.minsi v2139 v2140
  let v2157 : Index := Scalar.indexCast v2141
  let c0_912 : Index := 0#32
  let c0_913 : Index := 0#32
  ![0, 0, v2157.toNat, 0, 0]
def k0_off25 (i : grid0.Coords) : Fin 5 → Nat :=
  let c0_915 : Index := 0#32
  let c1_916 : Index := 1#32
  let arg1 : BitVec 32 := BitVec.ofNat 32 (i 1).val
  let c1_i32_896 : BitVec 32 := 1#32
  let v2138 : BitVec 32 := Scalar.subi arg1 c1_i32_896
  let c0_i32_897 : BitVec 32 := 0#32
  let v2139 : BitVec 32 := Scalar.maxsi v2138 c0_i32_897
  let c0_i32_899 : BitVec 32 := 0#32
  let c0_i32_898 : BitVec 32 := 0#32
  let v2140 : BitVec 32 := Scalar.maxsi c0_i32_899 c0_i32_898
  let v2141 : BitVec 32 := Scalar.minsi v2139 v2140
  let v2162 : Index := Scalar.indexCast v2141
  let c0_917 : Index := 0#32
  let c0_918 : Index := 0#32
  ![0, 1, v2162.toNat, 0, 0]
def k0_off26 (i : grid0.Coords) : Fin 5 → Nat :=
  let c0_920 : Index := 0#32
  let c2_921 : Index := 2#32
  let arg1 : BitVec 32 := BitVec.ofNat 32 (i 1).val
  let c1_i32_896 : BitVec 32 := 1#32
  let v2138 : BitVec 32 := Scalar.subi arg1 c1_i32_896
  let c0_i32_897 : BitVec 32 := 0#32
  let v2139 : BitVec 32 := Scalar.maxsi v2138 c0_i32_897
  let c0_i32_899 : BitVec 32 := 0#32
  let c0_i32_898 : BitVec 32 := 0#32
  let v2140 : BitVec 32 := Scalar.maxsi c0_i32_899 c0_i32_898
  let v2141 : BitVec 32 := Scalar.minsi v2139 v2140
  let v2167 : Index := Scalar.indexCast v2141
  let c0_922 : Index := 0#32
  let c0_923 : Index := 0#32
  ![0, 2, v2167.toNat, 0, 0]
def k0_off27 (i : grid0.Coords) : Fin 5 → Nat :=
  let c0_925 : Index := 0#32
  let c3_926 : Index := 3#32
  let arg1 : BitVec 32 := BitVec.ofNat 32 (i 1).val
  let c1_i32_896 : BitVec 32 := 1#32
  let v2138 : BitVec 32 := Scalar.subi arg1 c1_i32_896
  let c0_i32_897 : BitVec 32 := 0#32
  let v2139 : BitVec 32 := Scalar.maxsi v2138 c0_i32_897
  let c0_i32_899 : BitVec 32 := 0#32
  let c0_i32_898 : BitVec 32 := 0#32
  let v2140 : BitVec 32 := Scalar.maxsi c0_i32_899 c0_i32_898
  let v2141 : BitVec 32 := Scalar.minsi v2139 v2140
  let v2172 : Index := Scalar.indexCast v2141
  let c0_927 : Index := 0#32
  let c0_928 : Index := 0#32
  ![0, 3, v2172.toNat, 0, 0]
def k0_off28 (i : grid0.Coords) : Fin 5 → Nat :=
  let c0_930 : Index := 0#32
  let c4_931 : Index := 4#32
  let arg1 : BitVec 32 := BitVec.ofNat 32 (i 1).val
  let c1_i32_896 : BitVec 32 := 1#32
  let v2138 : BitVec 32 := Scalar.subi arg1 c1_i32_896
  let c0_i32_897 : BitVec 32 := 0#32
  let v2139 : BitVec 32 := Scalar.maxsi v2138 c0_i32_897
  let c0_i32_899 : BitVec 32 := 0#32
  let c0_i32_898 : BitVec 32 := 0#32
  let v2140 : BitVec 32 := Scalar.maxsi c0_i32_899 c0_i32_898
  let v2141 : BitVec 32 := Scalar.minsi v2139 v2140
  let v2177 : Index := Scalar.indexCast v2141
  let c0_932 : Index := 0#32
  let c0_933 : Index := 0#32
  ![0, 4, v2177.toNat, 0, 0]
def k0_off29 (i : grid0.Coords) : Fin 5 → Nat :=
  let c0_935 : Index := 0#32
  let c5_936 : Index := 5#32
  let arg1 : BitVec 32 := BitVec.ofNat 32 (i 1).val
  let c1_i32_896 : BitVec 32 := 1#32
  let v2138 : BitVec 32 := Scalar.subi arg1 c1_i32_896
  let c0_i32_897 : BitVec 32 := 0#32
  let v2139 : BitVec 32 := Scalar.maxsi v2138 c0_i32_897
  let c0_i32_899 : BitVec 32 := 0#32
  let c0_i32_898 : BitVec 32 := 0#32
  let v2140 : BitVec 32 := Scalar.maxsi c0_i32_899 c0_i32_898
  let v2141 : BitVec 32 := Scalar.minsi v2139 v2140
  let v2182 : Index := Scalar.indexCast v2141
  let c0_937 : Index := 0#32
  let c0_938 : Index := 0#32
  ![0, 5, v2182.toNat, 0, 0]
def k0_off30 (i : grid0.Coords) : Fin 5 → Nat :=
  let c0_940 : Index := 0#32
  let c6_941 : Index := 6#32
  let arg1 : BitVec 32 := BitVec.ofNat 32 (i 1).val
  let c1_i32_896 : BitVec 32 := 1#32
  let v2138 : BitVec 32 := Scalar.subi arg1 c1_i32_896
  let c0_i32_897 : BitVec 32 := 0#32
  let v2139 : BitVec 32 := Scalar.maxsi v2138 c0_i32_897
  let c0_i32_899 : BitVec 32 := 0#32
  let c0_i32_898 : BitVec 32 := 0#32
  let v2140 : BitVec 32 := Scalar.maxsi c0_i32_899 c0_i32_898
  let v2141 : BitVec 32 := Scalar.minsi v2139 v2140
  let v2187 : Index := Scalar.indexCast v2141
  let c0_942 : Index := 0#32
  let c0_943 : Index := 0#32
  ![0, 6, v2187.toNat, 0, 0]
def k0_off31 (i : grid0.Coords) : Fin 5 → Nat :=
  let c0_945 : Index := 0#32
  let c7_946 : Index := 7#32
  let arg1 : BitVec 32 := BitVec.ofNat 32 (i 1).val
  let c1_i32_896 : BitVec 32 := 1#32
  let v2138 : BitVec 32 := Scalar.subi arg1 c1_i32_896
  let c0_i32_897 : BitVec 32 := 0#32
  let v2139 : BitVec 32 := Scalar.maxsi v2138 c0_i32_897
  let c0_i32_899 : BitVec 32 := 0#32
  let c0_i32_898 : BitVec 32 := 0#32
  let v2140 : BitVec 32 := Scalar.maxsi c0_i32_899 c0_i32_898
  let v2141 : BitVec 32 := Scalar.minsi v2139 v2140
  let v2192 : Index := Scalar.indexCast v2141
  let c0_947 : Index := 0#32
  let c0_948 : Index := 0#32
  ![0, 7, v2192.toNat, 0, 0]
@[reducible] def k0_t1_loop (i : grid0.Coords) : Scf.Loop 32 :=
  let c0_i32_969 : BitVec 32 := 0#32
  let arg1 : BitVec 32 := BitVec.ofNat 32 (i 1).val
  let c2_i32_954 : BitVec 32 := 2#32
  let v2205 : BitVec 32 := Scalar.addi arg1 c2_i32_954
  let c0_i32_956 : BitVec 32 := 0#32
  let v2207 : BitVec 1 := Scalar.cmpi .sgt v2205 c0_i32_956
  let v2208 : BitVec 32 := Scalar.extui v2207
  let c0_i32_957 : BitVec 32 := 0#32
  let v2209 : BitVec 1 := Scalar.cmpi .slt v2205 c0_i32_957
  let v2210 : BitVec 32 := Scalar.extui v2209
  let v2211 : BitVec 32 := Scalar.subi v2208 v2210
  let c2_i32_955 : BitVec 32 := 2#32
  let c0_i32_958 : BitVec 32 := 0#32
  let v2212 : BitVec 1 := Scalar.cmpi .sgt c2_i32_955 c0_i32_958
  let v2213 : BitVec 32 := Scalar.extui v2212
  let c0_i32_959 : BitVec 32 := 0#32
  let v2214 : BitVec 1 := Scalar.cmpi .slt c2_i32_955 c0_i32_959
  let v2215 : BitVec 32 := Scalar.extui v2214
  let v2216 : BitVec 32 := Scalar.subi v2213 v2215
  let v2217 : BitVec 1 := Scalar.cmpi .ne v2211 v2216
  let v2218 : BitVec 32 := Scalar.remsi v2205 c2_i32_955
  let c0_i32_960 : BitVec 32 := 0#32
  let v2219 : BitVec 1 := Scalar.cmpi .ne v2218 c0_i32_960
  let v2220 : BitVec 1 := Scalar.andi v2217 v2219
  let v2206 : BitVec 32 := Scalar.divsi v2205 c2_i32_955
  let c1_i32_961 : BitVec 32 := 1#32
  let v2221 : BitVec 32 := Scalar.subi v2206 c1_i32_961
  let v2222 : BitVec 32 := Scalar.select v2220 v2221 v2206
  let c1_i32_962 : BitVec 32 := 1#32
  let v2223 : BitVec 32 := Scalar.subi v2222 c1_i32_962
  let c0_i32_963 : BitVec 32 := 0#32
  let v2224 : BitVec 32 := Scalar.subi v2223 c0_i32_963
  let c1_i32_964 : BitVec 32 := 1#32
  let c1_i32_965 : BitVec 32 := 1#32
  let v2225 : BitVec 32 := Scalar.subi c1_i32_964 c1_i32_965
  let v2226 : BitVec 32 := Scalar.addi v2224 v2225
  let c1_i32_966 : BitVec 32 := 1#32
  let v2227 : BitVec 32 := Scalar.divsi v2226 c1_i32_966
  let v2228 : BitVec 32 := Scalar.subi v2227 c0_i32_969
  let c1_i32_970 : BitVec 32 := 1#32
  let v2230 : BitVec 32 := Scalar.divsi v2228 c1_i32_970
  let v2231 : BitVec 32 := Scalar.muli v2230 c1_i32_970
  let v2232 : BitVec 32 := Scalar.addi c0_i32_969 v2231
  let c1_i32_971 : BitVec 32 := 1#32
  ⟨c0_i32_969, v2232, c1_i32_971⟩
def k0_off32 (i : grid0.Coords) (k0_t1 : Fin (k0_t1_loop i).trips) (c1_i32_1116 : BitVec 32) : Fin 4 → Nat :=
  let c0_1118 : Index := 0#32
  let c0_i32_501 : BitVec 32 := 0#32
  let arg1 : BitVec 32 := BitVec.ofNat 32 (i 1).val
  let c1_i32_499 : BitVec 32 := 1#32
  let v1290 : BitVec 32 := Scalar.addi arg1 c1_i32_499
  let c1_i32_500 : BitVec 32 := 1#32
  let v1291 : BitVec 32 := Scalar.andi v1290 c1_i32_500
  let v1292 : BitVec 32 := Scalar.subi c0_i32_501 v1291
  let c2_i32_1115 : BitVec 32 := 2#32
  let c0_i32_968 : BitVec 32 := 0#32
  let c0_i32_969 : BitVec 32 := 0#32
  let c1_i32_971 : BitVec 32 := 1#32
  let arg28 : BitVec 32 := Scf.iv c0_i32_969 c1_i32_971 k0_t1
  let c1_i32_967 : BitVec 32 := 1#32
  let v2527 : BitVec 32 := Scalar.muli arg28 c1_i32_967
  let v2528 : BitVec 32 := Scalar.addi c0_i32_968 v2527
  let v2529 : BitVec 32 := Scalar.muli c2_i32_1115 v2528
  let v2530 : BitVec 32 := Scalar.addi v1292 v2529
  let v2531 : BitVec 32 := Scalar.addi v2530 c1_i32_1116
  let c0_i32_1117 : BitVec 32 := 0#32
  let v2532 : BitVec 32 := Scalar.maxsi v2531 c0_i32_1117
  let v2533 : Index := Scalar.indexCast v2532
  let c0_1119 : Index := 0#32
  let c0_1120 : Index := 0#32
  ![0, v2533.toNat, 0, 0]
def k0_off33 (i : grid0.Coords) (k0_t1 : Fin (k0_t1_loop i).trips) : Fin 5 → Nat :=
  let c0_1140 : Index := 0#32
  let c0_1141 : Index := 0#32
  let c0_i32_501 : BitVec 32 := 0#32
  let arg1 : BitVec 32 := BitVec.ofNat 32 (i 1).val
  let c1_i32_499 : BitVec 32 := 1#32
  let v1290 : BitVec 32 := Scalar.addi arg1 c1_i32_499
  let c1_i32_500 : BitVec 32 := 1#32
  let v1291 : BitVec 32 := Scalar.andi v1290 c1_i32_500
  let v1292 : BitVec 32 := Scalar.subi c0_i32_501 v1291
  let c2_i32_1115 : BitVec 32 := 2#32
  let c0_i32_968 : BitVec 32 := 0#32
  let c0_i32_969 : BitVec 32 := 0#32
  let c1_i32_971 : BitVec 32 := 1#32
  let arg28 : BitVec 32 := Scf.iv c0_i32_969 c1_i32_971 k0_t1
  let c1_i32_967 : BitVec 32 := 1#32
  let v2527 : BitVec 32 := Scalar.muli arg28 c1_i32_967
  let v2528 : BitVec 32 := Scalar.addi c0_i32_968 v2527
  let v2529 : BitVec 32 := Scalar.muli c2_i32_1115 v2528
  let v2530 : BitVec 32 := Scalar.addi v1292 v2529
  let c0_i32_1139 : BitVec 32 := 0#32
  let v2560 : BitVec 32 := Scalar.maxsi v2530 c0_i32_1139
  let v2561 : Index := Scalar.indexCast v2560
  let c0_1142 : Index := 0#32
  let c0_1143 : Index := 0#32
  ![0, 0, v2561.toNat, 0, 0]
def k0_off34 (i : grid0.Coords) (k0_t1 : Fin (k0_t1_loop i).trips) : Fin 5 → Nat :=
  let c0_1145 : Index := 0#32
  let c1_1146 : Index := 1#32
  let c0_i32_501 : BitVec 32 := 0#32
  let arg1 : BitVec 32 := BitVec.ofNat 32 (i 1).val
  let c1_i32_499 : BitVec 32 := 1#32
  let v1290 : BitVec 32 := Scalar.addi arg1 c1_i32_499
  let c1_i32_500 : BitVec 32 := 1#32
  let v1291 : BitVec 32 := Scalar.andi v1290 c1_i32_500
  let v1292 : BitVec 32 := Scalar.subi c0_i32_501 v1291
  let c2_i32_1115 : BitVec 32 := 2#32
  let c0_i32_968 : BitVec 32 := 0#32
  let c0_i32_969 : BitVec 32 := 0#32
  let c1_i32_971 : BitVec 32 := 1#32
  let arg28 : BitVec 32 := Scf.iv c0_i32_969 c1_i32_971 k0_t1
  let c1_i32_967 : BitVec 32 := 1#32
  let v2527 : BitVec 32 := Scalar.muli arg28 c1_i32_967
  let v2528 : BitVec 32 := Scalar.addi c0_i32_968 v2527
  let v2529 : BitVec 32 := Scalar.muli c2_i32_1115 v2528
  let v2530 : BitVec 32 := Scalar.addi v1292 v2529
  let c0_i32_1139 : BitVec 32 := 0#32
  let v2560 : BitVec 32 := Scalar.maxsi v2530 c0_i32_1139
  let v2566 : Index := Scalar.indexCast v2560
  let c0_1147 : Index := 0#32
  let c0_1148 : Index := 0#32
  ![0, 1, v2566.toNat, 0, 0]
def k0_off35 (i : grid0.Coords) (k0_t1 : Fin (k0_t1_loop i).trips) : Fin 5 → Nat :=
  let c0_1179 : Index := 0#32
  let c0_1180 : Index := 0#32
  let c0_i32_501 : BitVec 32 := 0#32
  let arg1 : BitVec 32 := BitVec.ofNat 32 (i 1).val
  let c1_i32_499 : BitVec 32 := 1#32
  let v1290 : BitVec 32 := Scalar.addi arg1 c1_i32_499
  let c1_i32_500 : BitVec 32 := 1#32
  let v1291 : BitVec 32 := Scalar.andi v1290 c1_i32_500
  let v1292 : BitVec 32 := Scalar.subi c0_i32_501 v1291
  let c2_i32_1115 : BitVec 32 := 2#32
  let c0_i32_968 : BitVec 32 := 0#32
  let c0_i32_969 : BitVec 32 := 0#32
  let c1_i32_971 : BitVec 32 := 1#32
  let arg28 : BitVec 32 := Scf.iv c0_i32_969 c1_i32_971 k0_t1
  let c1_i32_967 : BitVec 32 := 1#32
  let v2527 : BitVec 32 := Scalar.muli arg28 c1_i32_967
  let v2528 : BitVec 32 := Scalar.addi c0_i32_968 v2527
  let v2529 : BitVec 32 := Scalar.muli c2_i32_1115 v2528
  let v2530 : BitVec 32 := Scalar.addi v1292 v2529
  let c1_i32_1167 : BitVec 32 := 1#32
  let v2593 : BitVec 32 := Scalar.addi v2530 c1_i32_1167
  let c0_i32_1178 : BitVec 32 := 0#32
  let v2609 : BitVec 32 := Scalar.maxsi v2593 c0_i32_1178
  let v2610 : Index := Scalar.indexCast v2609
  let c0_1181 : Index := 0#32
  let c0_1182 : Index := 0#32
  ![0, 0, v2610.toNat, 0, 0]
def k0_off36 (i : grid0.Coords) (k0_t1 : Fin (k0_t1_loop i).trips) : Fin 5 → Nat :=
  let c0_1184 : Index := 0#32
  let c1_1185 : Index := 1#32
  let c0_i32_501 : BitVec 32 := 0#32
  let arg1 : BitVec 32 := BitVec.ofNat 32 (i 1).val
  let c1_i32_499 : BitVec 32 := 1#32
  let v1290 : BitVec 32 := Scalar.addi arg1 c1_i32_499
  let c1_i32_500 : BitVec 32 := 1#32
  let v1291 : BitVec 32 := Scalar.andi v1290 c1_i32_500
  let v1292 : BitVec 32 := Scalar.subi c0_i32_501 v1291
  let c2_i32_1115 : BitVec 32 := 2#32
  let c0_i32_968 : BitVec 32 := 0#32
  let c0_i32_969 : BitVec 32 := 0#32
  let c1_i32_971 : BitVec 32 := 1#32
  let arg28 : BitVec 32 := Scf.iv c0_i32_969 c1_i32_971 k0_t1
  let c1_i32_967 : BitVec 32 := 1#32
  let v2527 : BitVec 32 := Scalar.muli arg28 c1_i32_967
  let v2528 : BitVec 32 := Scalar.addi c0_i32_968 v2527
  let v2529 : BitVec 32 := Scalar.muli c2_i32_1115 v2528
  let v2530 : BitVec 32 := Scalar.addi v1292 v2529
  let c1_i32_1167 : BitVec 32 := 1#32
  let v2593 : BitVec 32 := Scalar.addi v2530 c1_i32_1167
  let c0_i32_1178 : BitVec 32 := 0#32
  let v2609 : BitVec 32 := Scalar.maxsi v2593 c0_i32_1178
  let v2615 : Index := Scalar.indexCast v2609
  let c0_1186 : Index := 0#32
  let c0_1187 : Index := 0#32
  ![0, 1, v2615.toNat, 0, 0]
def k0_off37 (i : grid0.Coords) (k0_t1 : Fin (k0_t1_loop i).trips) (c1_i32_1195 : BitVec 32) : Fin 4 → Nat :=
  let c0_1201 : Index := 0#32
  let arg1 : BitVec 32 := BitVec.ofNat 32 (i 1).val
  let c1_i32_1197 : BitVec 32 := 1#32
  let v2632 : BitVec 32 := Scalar.subi arg1 c1_i32_1197
  let c0_i32_1198 : BitVec 32 := 0#32
  let v2633 : BitVec 32 := Scalar.maxsi v2632 c0_i32_1198
  let c0_i32_1199 : BitVec 32 := 0#32
  let c2_i32_1194 : BitVec 32 := 2#32
  let c0_i32_968 : BitVec 32 := 0#32
  let c0_i32_969 : BitVec 32 := 0#32
  let c1_i32_971 : BitVec 32 := 1#32
  let arg28 : BitVec 32 := Scf.iv c0_i32_969 c1_i32_971 k0_t1
  let c1_i32_967 : BitVec 32 := 1#32
  let v2527 : BitVec 32 := Scalar.muli arg28 c1_i32_967
  let v2528 : BitVec 32 := Scalar.addi c0_i32_968 v2527
  let c1_i32_1193 : BitVec 32 := 1#32
  let v2628 : BitVec 32 := Scalar.addi v2528 c1_i32_1193
  let v2629 : BitVec 32 := Scalar.muli c2_i32_1194 v2628
  let v2630 : BitVec 32 := Scalar.addi v2629 c1_i32_1195
  let c1_i32_1196 : BitVec 32 := 1#32
  let v2631 : BitVec 32 := Scalar.subi v2630 c1_i32_1196
  let v2634 : BitVec 32 := Scalar.maxsi c0_i32_1199 v2631
  let v2635 : BitVec 32 := Scalar.minsi v2633 v2634
  let v2638 : Index := Scalar.indexCast v2635
  let c0_1202 : Index := 0#32
  let c0_1203 : Index := 0#32
  ![0, v2638.toNat, 0, 0]
def k0_off38 (i : grid0.Coords) (k0_t1 : Fin (k0_t1_loop i).trips) (c1_i32_1195 : BitVec 32) : Fin 4 → Nat :=
  let c0_1209 : Index := 0#32
  let arg1 : BitVec 32 := BitVec.ofNat 32 (i 1).val
  let c1_i32_1197 : BitVec 32 := 1#32
  let v2632 : BitVec 32 := Scalar.subi arg1 c1_i32_1197
  let c0_i32_1198 : BitVec 32 := 0#32
  let v2633 : BitVec 32 := Scalar.maxsi v2632 c0_i32_1198
  let c0_i32_1199 : BitVec 32 := 0#32
  let c2_i32_1194 : BitVec 32 := 2#32
  let c0_i32_968 : BitVec 32 := 0#32
  let c0_i32_969 : BitVec 32 := 0#32
  let c1_i32_971 : BitVec 32 := 1#32
  let arg28 : BitVec 32 := Scf.iv c0_i32_969 c1_i32_971 k0_t1
  let c1_i32_967 : BitVec 32 := 1#32
  let v2527 : BitVec 32 := Scalar.muli arg28 c1_i32_967
  let v2528 : BitVec 32 := Scalar.addi c0_i32_968 v2527
  let c1_i32_1193 : BitVec 32 := 1#32
  let v2628 : BitVec 32 := Scalar.addi v2528 c1_i32_1193
  let v2629 : BitVec 32 := Scalar.muli c2_i32_1194 v2628
  let v2630 : BitVec 32 := Scalar.addi v2629 c1_i32_1195
  let c1_i32_1196 : BitVec 32 := 1#32
  let v2631 : BitVec 32 := Scalar.subi v2630 c1_i32_1196
  let v2634 : BitVec 32 := Scalar.maxsi c0_i32_1199 v2631
  let v2635 : BitVec 32 := Scalar.minsi v2633 v2634
  let v2648 : Index := Scalar.indexCast v2635
  let c0_1210 : Index := 0#32
  let c256_1211 : Index := 256#32
  ![0, v2648.toNat, 0, 256]
def k0_off39 (i : grid0.Coords) (k0_t1 : Fin (k0_t1_loop i).trips) (c1_i32_1195 : BitVec 32) : Fin 4 → Nat :=
  let c0_1217 : Index := 0#32
  let arg1 : BitVec 32 := BitVec.ofNat 32 (i 1).val
  let c1_i32_1197 : BitVec 32 := 1#32
  let v2632 : BitVec 32 := Scalar.subi arg1 c1_i32_1197
  let c0_i32_1198 : BitVec 32 := 0#32
  let v2633 : BitVec 32 := Scalar.maxsi v2632 c0_i32_1198
  let c0_i32_1199 : BitVec 32 := 0#32
  let c2_i32_1194 : BitVec 32 := 2#32
  let c0_i32_968 : BitVec 32 := 0#32
  let c0_i32_969 : BitVec 32 := 0#32
  let c1_i32_971 : BitVec 32 := 1#32
  let arg28 : BitVec 32 := Scf.iv c0_i32_969 c1_i32_971 k0_t1
  let c1_i32_967 : BitVec 32 := 1#32
  let v2527 : BitVec 32 := Scalar.muli arg28 c1_i32_967
  let v2528 : BitVec 32 := Scalar.addi c0_i32_968 v2527
  let c1_i32_1193 : BitVec 32 := 1#32
  let v2628 : BitVec 32 := Scalar.addi v2528 c1_i32_1193
  let v2629 : BitVec 32 := Scalar.muli c2_i32_1194 v2628
  let v2630 : BitVec 32 := Scalar.addi v2629 c1_i32_1195
  let c1_i32_1196 : BitVec 32 := 1#32
  let v2631 : BitVec 32 := Scalar.subi v2630 c1_i32_1196
  let v2634 : BitVec 32 := Scalar.maxsi c0_i32_1199 v2631
  let v2635 : BitVec 32 := Scalar.minsi v2633 v2634
  let v2658 : Index := Scalar.indexCast v2635
  let c0_1218 : Index := 0#32
  let c512_1219 : Index := 512#32
  ![0, v2658.toNat, 0, 512]
def k0_off40 (i : grid0.Coords) (k0_t1 : Fin (k0_t1_loop i).trips) (c1_i32_1195 : BitVec 32) : Fin 4 → Nat :=
  let c0_1225 : Index := 0#32
  let arg1 : BitVec 32 := BitVec.ofNat 32 (i 1).val
  let c1_i32_1197 : BitVec 32 := 1#32
  let v2632 : BitVec 32 := Scalar.subi arg1 c1_i32_1197
  let c0_i32_1198 : BitVec 32 := 0#32
  let v2633 : BitVec 32 := Scalar.maxsi v2632 c0_i32_1198
  let c0_i32_1199 : BitVec 32 := 0#32
  let c2_i32_1194 : BitVec 32 := 2#32
  let c0_i32_968 : BitVec 32 := 0#32
  let c0_i32_969 : BitVec 32 := 0#32
  let c1_i32_971 : BitVec 32 := 1#32
  let arg28 : BitVec 32 := Scf.iv c0_i32_969 c1_i32_971 k0_t1
  let c1_i32_967 : BitVec 32 := 1#32
  let v2527 : BitVec 32 := Scalar.muli arg28 c1_i32_967
  let v2528 : BitVec 32 := Scalar.addi c0_i32_968 v2527
  let c1_i32_1193 : BitVec 32 := 1#32
  let v2628 : BitVec 32 := Scalar.addi v2528 c1_i32_1193
  let v2629 : BitVec 32 := Scalar.muli c2_i32_1194 v2628
  let v2630 : BitVec 32 := Scalar.addi v2629 c1_i32_1195
  let c1_i32_1196 : BitVec 32 := 1#32
  let v2631 : BitVec 32 := Scalar.subi v2630 c1_i32_1196
  let v2634 : BitVec 32 := Scalar.maxsi c0_i32_1199 v2631
  let v2635 : BitVec 32 := Scalar.minsi v2633 v2634
  let v2668 : Index := Scalar.indexCast v2635
  let c0_1226 : Index := 0#32
  let c768_1227 : Index := 768#32
  ![0, v2668.toNat, 0, 768]
def k0_off41 (i : grid0.Coords) (k0_t1 : Fin (k0_t1_loop i).trips) : Fin 5 → Nat :=
  let c0_1255 : Index := 0#32
  let c0_1256 : Index := 0#32
  let arg1 : BitVec 32 := BitVec.ofNat 32 (i 1).val
  let c1_i32_1242 : BitVec 32 := 1#32
  let v2689 : BitVec 32 := Scalar.subi arg1 c1_i32_1242
  let c0_i32_1243 : BitVec 32 := 0#32
  let v2690 : BitVec 32 := Scalar.maxsi v2689 c0_i32_1243
  let c0_i32_1244 : BitVec 32 := 0#32
  let c2_i32_1240 : BitVec 32 := 2#32
  let c0_i32_968 : BitVec 32 := 0#32
  let c0_i32_969 : BitVec 32 := 0#32
  let c1_i32_971 : BitVec 32 := 1#32
  let arg28 : BitVec 32 := Scf.iv c0_i32_969 c1_i32_971 k0_t1
  let c1_i32_967 : BitVec 32 := 1#32
  let v2527 : BitVec 32 := Scalar.muli arg28 c1_i32_967
  let v2528 : BitVec 32 := Scalar.addi c0_i32_968 v2527
  let c1_i32_1193 : BitVec 32 := 1#32
  let v2628 : BitVec 32 := Scalar.addi v2528 c1_i32_1193
  let v2687 : BitVec 32 := Scalar.muli c2_i32_1240 v2628
  let c1_i32_1241 : BitVec 32 := 1#32
  let v2688 : BitVec 32 := Scalar.subi v2687 c1_i32_1241
  let v2691 : BitVec 32 := Scalar.maxsi c0_i32_1244 v2688
  let v2692 : BitVec 32 := Scalar.minsi v2690 v2691
  let v2708 : Index := Scalar.indexCast v2692
  let c0_1257 : Index := 0#32
  let c0_1258 : Index := 0#32
  ![0, 0, v2708.toNat, 0, 0]
def k0_off42 (i : grid0.Coords) (k0_t1 : Fin (k0_t1_loop i).trips) : Fin 5 → Nat :=
  let c0_1260 : Index := 0#32
  let c1_1261 : Index := 1#32
  let arg1 : BitVec 32 := BitVec.ofNat 32 (i 1).val
  let c1_i32_1242 : BitVec 32 := 1#32
  let v2689 : BitVec 32 := Scalar.subi arg1 c1_i32_1242
  let c0_i32_1243 : BitVec 32 := 0#32
  let v2690 : BitVec 32 := Scalar.maxsi v2689 c0_i32_1243
  let c0_i32_1244 : BitVec 32 := 0#32
  let c2_i32_1240 : BitVec 32 := 2#32
  let c0_i32_968 : BitVec 32 := 0#32
  let c0_i32_969 : BitVec 32 := 0#32
  let c1_i32_971 : BitVec 32 := 1#32
  let arg28 : BitVec 32 := Scf.iv c0_i32_969 c1_i32_971 k0_t1
  let c1_i32_967 : BitVec 32 := 1#32
  let v2527 : BitVec 32 := Scalar.muli arg28 c1_i32_967
  let v2528 : BitVec 32 := Scalar.addi c0_i32_968 v2527
  let c1_i32_1193 : BitVec 32 := 1#32
  let v2628 : BitVec 32 := Scalar.addi v2528 c1_i32_1193
  let v2687 : BitVec 32 := Scalar.muli c2_i32_1240 v2628
  let c1_i32_1241 : BitVec 32 := 1#32
  let v2688 : BitVec 32 := Scalar.subi v2687 c1_i32_1241
  let v2691 : BitVec 32 := Scalar.maxsi c0_i32_1244 v2688
  let v2692 : BitVec 32 := Scalar.minsi v2690 v2691
  let v2713 : Index := Scalar.indexCast v2692
  let c0_1262 : Index := 0#32
  let c0_1263 : Index := 0#32
  ![0, 1, v2713.toNat, 0, 0]
def k0_off43 (i : grid0.Coords) (k0_t1 : Fin (k0_t1_loop i).trips) : Fin 5 → Nat :=
  let c0_1265 : Index := 0#32
  let c2_1266 : Index := 2#32
  let arg1 : BitVec 32 := BitVec.ofNat 32 (i 1).val
  let c1_i32_1242 : BitVec 32 := 1#32
  let v2689 : BitVec 32 := Scalar.subi arg1 c1_i32_1242
  let c0_i32_1243 : BitVec 32 := 0#32
  let v2690 : BitVec 32 := Scalar.maxsi v2689 c0_i32_1243
  let c0_i32_1244 : BitVec 32 := 0#32
  let c2_i32_1240 : BitVec 32 := 2#32
  let c0_i32_968 : BitVec 32 := 0#32
  let c0_i32_969 : BitVec 32 := 0#32
  let c1_i32_971 : BitVec 32 := 1#32
  let arg28 : BitVec 32 := Scf.iv c0_i32_969 c1_i32_971 k0_t1
  let c1_i32_967 : BitVec 32 := 1#32
  let v2527 : BitVec 32 := Scalar.muli arg28 c1_i32_967
  let v2528 : BitVec 32 := Scalar.addi c0_i32_968 v2527
  let c1_i32_1193 : BitVec 32 := 1#32
  let v2628 : BitVec 32 := Scalar.addi v2528 c1_i32_1193
  let v2687 : BitVec 32 := Scalar.muli c2_i32_1240 v2628
  let c1_i32_1241 : BitVec 32 := 1#32
  let v2688 : BitVec 32 := Scalar.subi v2687 c1_i32_1241
  let v2691 : BitVec 32 := Scalar.maxsi c0_i32_1244 v2688
  let v2692 : BitVec 32 := Scalar.minsi v2690 v2691
  let v2718 : Index := Scalar.indexCast v2692
  let c0_1267 : Index := 0#32
  let c0_1268 : Index := 0#32
  ![0, 2, v2718.toNat, 0, 0]
def k0_off44 (i : grid0.Coords) (k0_t1 : Fin (k0_t1_loop i).trips) : Fin 5 → Nat :=
  let c0_1270 : Index := 0#32
  let c3_1271 : Index := 3#32
  let arg1 : BitVec 32 := BitVec.ofNat 32 (i 1).val
  let c1_i32_1242 : BitVec 32 := 1#32
  let v2689 : BitVec 32 := Scalar.subi arg1 c1_i32_1242
  let c0_i32_1243 : BitVec 32 := 0#32
  let v2690 : BitVec 32 := Scalar.maxsi v2689 c0_i32_1243
  let c0_i32_1244 : BitVec 32 := 0#32
  let c2_i32_1240 : BitVec 32 := 2#32
  let c0_i32_968 : BitVec 32 := 0#32
  let c0_i32_969 : BitVec 32 := 0#32
  let c1_i32_971 : BitVec 32 := 1#32
  let arg28 : BitVec 32 := Scf.iv c0_i32_969 c1_i32_971 k0_t1
  let c1_i32_967 : BitVec 32 := 1#32
  let v2527 : BitVec 32 := Scalar.muli arg28 c1_i32_967
  let v2528 : BitVec 32 := Scalar.addi c0_i32_968 v2527
  let c1_i32_1193 : BitVec 32 := 1#32
  let v2628 : BitVec 32 := Scalar.addi v2528 c1_i32_1193
  let v2687 : BitVec 32 := Scalar.muli c2_i32_1240 v2628
  let c1_i32_1241 : BitVec 32 := 1#32
  let v2688 : BitVec 32 := Scalar.subi v2687 c1_i32_1241
  let v2691 : BitVec 32 := Scalar.maxsi c0_i32_1244 v2688
  let v2692 : BitVec 32 := Scalar.minsi v2690 v2691
  let v2723 : Index := Scalar.indexCast v2692
  let c0_1272 : Index := 0#32
  let c0_1273 : Index := 0#32
  ![0, 3, v2723.toNat, 0, 0]
def k0_off45 (i : grid0.Coords) (k0_t1 : Fin (k0_t1_loop i).trips) : Fin 5 → Nat :=
  let c0_1275 : Index := 0#32
  let c4_1276 : Index := 4#32
  let arg1 : BitVec 32 := BitVec.ofNat 32 (i 1).val
  let c1_i32_1242 : BitVec 32 := 1#32
  let v2689 : BitVec 32 := Scalar.subi arg1 c1_i32_1242
  let c0_i32_1243 : BitVec 32 := 0#32
  let v2690 : BitVec 32 := Scalar.maxsi v2689 c0_i32_1243
  let c0_i32_1244 : BitVec 32 := 0#32
  let c2_i32_1240 : BitVec 32 := 2#32
  let c0_i32_968 : BitVec 32 := 0#32
  let c0_i32_969 : BitVec 32 := 0#32
  let c1_i32_971 : BitVec 32 := 1#32
  let arg28 : BitVec 32 := Scf.iv c0_i32_969 c1_i32_971 k0_t1
  let c1_i32_967 : BitVec 32 := 1#32
  let v2527 : BitVec 32 := Scalar.muli arg28 c1_i32_967
  let v2528 : BitVec 32 := Scalar.addi c0_i32_968 v2527
  let c1_i32_1193 : BitVec 32 := 1#32
  let v2628 : BitVec 32 := Scalar.addi v2528 c1_i32_1193
  let v2687 : BitVec 32 := Scalar.muli c2_i32_1240 v2628
  let c1_i32_1241 : BitVec 32 := 1#32
  let v2688 : BitVec 32 := Scalar.subi v2687 c1_i32_1241
  let v2691 : BitVec 32 := Scalar.maxsi c0_i32_1244 v2688
  let v2692 : BitVec 32 := Scalar.minsi v2690 v2691
  let v2728 : Index := Scalar.indexCast v2692
  let c0_1277 : Index := 0#32
  let c0_1278 : Index := 0#32
  ![0, 4, v2728.toNat, 0, 0]
def k0_off46 (i : grid0.Coords) (k0_t1 : Fin (k0_t1_loop i).trips) : Fin 5 → Nat :=
  let c0_1280 : Index := 0#32
  let c5_1281 : Index := 5#32
  let arg1 : BitVec 32 := BitVec.ofNat 32 (i 1).val
  let c1_i32_1242 : BitVec 32 := 1#32
  let v2689 : BitVec 32 := Scalar.subi arg1 c1_i32_1242
  let c0_i32_1243 : BitVec 32 := 0#32
  let v2690 : BitVec 32 := Scalar.maxsi v2689 c0_i32_1243
  let c0_i32_1244 : BitVec 32 := 0#32
  let c2_i32_1240 : BitVec 32 := 2#32
  let c0_i32_968 : BitVec 32 := 0#32
  let c0_i32_969 : BitVec 32 := 0#32
  let c1_i32_971 : BitVec 32 := 1#32
  let arg28 : BitVec 32 := Scf.iv c0_i32_969 c1_i32_971 k0_t1
  let c1_i32_967 : BitVec 32 := 1#32
  let v2527 : BitVec 32 := Scalar.muli arg28 c1_i32_967
  let v2528 : BitVec 32 := Scalar.addi c0_i32_968 v2527
  let c1_i32_1193 : BitVec 32 := 1#32
  let v2628 : BitVec 32 := Scalar.addi v2528 c1_i32_1193
  let v2687 : BitVec 32 := Scalar.muli c2_i32_1240 v2628
  let c1_i32_1241 : BitVec 32 := 1#32
  let v2688 : BitVec 32 := Scalar.subi v2687 c1_i32_1241
  let v2691 : BitVec 32 := Scalar.maxsi c0_i32_1244 v2688
  let v2692 : BitVec 32 := Scalar.minsi v2690 v2691
  let v2733 : Index := Scalar.indexCast v2692
  let c0_1282 : Index := 0#32
  let c0_1283 : Index := 0#32
  ![0, 5, v2733.toNat, 0, 0]
def k0_off47 (i : grid0.Coords) (k0_t1 : Fin (k0_t1_loop i).trips) : Fin 5 → Nat :=
  let c0_1285 : Index := 0#32
  let c6_1286 : Index := 6#32
  let arg1 : BitVec 32 := BitVec.ofNat 32 (i 1).val
  let c1_i32_1242 : BitVec 32 := 1#32
  let v2689 : BitVec 32 := Scalar.subi arg1 c1_i32_1242
  let c0_i32_1243 : BitVec 32 := 0#32
  let v2690 : BitVec 32 := Scalar.maxsi v2689 c0_i32_1243
  let c0_i32_1244 : BitVec 32 := 0#32
  let c2_i32_1240 : BitVec 32 := 2#32
  let c0_i32_968 : BitVec 32 := 0#32
  let c0_i32_969 : BitVec 32 := 0#32
  let c1_i32_971 : BitVec 32 := 1#32
  let arg28 : BitVec 32 := Scf.iv c0_i32_969 c1_i32_971 k0_t1
  let c1_i32_967 : BitVec 32 := 1#32
  let v2527 : BitVec 32 := Scalar.muli arg28 c1_i32_967
  let v2528 : BitVec 32 := Scalar.addi c0_i32_968 v2527
  let c1_i32_1193 : BitVec 32 := 1#32
  let v2628 : BitVec 32 := Scalar.addi v2528 c1_i32_1193
  let v2687 : BitVec 32 := Scalar.muli c2_i32_1240 v2628
  let c1_i32_1241 : BitVec 32 := 1#32
  let v2688 : BitVec 32 := Scalar.subi v2687 c1_i32_1241
  let v2691 : BitVec 32 := Scalar.maxsi c0_i32_1244 v2688
  let v2692 : BitVec 32 := Scalar.minsi v2690 v2691
  let v2738 : Index := Scalar.indexCast v2692
  let c0_1287 : Index := 0#32
  let c0_1288 : Index := 0#32
  ![0, 6, v2738.toNat, 0, 0]
def k0_off48 (i : grid0.Coords) (k0_t1 : Fin (k0_t1_loop i).trips) : Fin 5 → Nat :=
  let c0_1290 : Index := 0#32
  let c7_1291 : Index := 7#32
  let arg1 : BitVec 32 := BitVec.ofNat 32 (i 1).val
  let c1_i32_1242 : BitVec 32 := 1#32
  let v2689 : BitVec 32 := Scalar.subi arg1 c1_i32_1242
  let c0_i32_1243 : BitVec 32 := 0#32
  let v2690 : BitVec 32 := Scalar.maxsi v2689 c0_i32_1243
  let c0_i32_1244 : BitVec 32 := 0#32
  let c2_i32_1240 : BitVec 32 := 2#32
  let c0_i32_968 : BitVec 32 := 0#32
  let c0_i32_969 : BitVec 32 := 0#32
  let c1_i32_971 : BitVec 32 := 1#32
  let arg28 : BitVec 32 := Scf.iv c0_i32_969 c1_i32_971 k0_t1
  let c1_i32_967 : BitVec 32 := 1#32
  let v2527 : BitVec 32 := Scalar.muli arg28 c1_i32_967
  let v2528 : BitVec 32 := Scalar.addi c0_i32_968 v2527
  let c1_i32_1193 : BitVec 32 := 1#32
  let v2628 : BitVec 32 := Scalar.addi v2528 c1_i32_1193
  let v2687 : BitVec 32 := Scalar.muli c2_i32_1240 v2628
  let c1_i32_1241 : BitVec 32 := 1#32
  let v2688 : BitVec 32 := Scalar.subi v2687 c1_i32_1241
  let v2691 : BitVec 32 := Scalar.maxsi c0_i32_1244 v2688
  let v2692 : BitVec 32 := Scalar.minsi v2690 v2691
  let v2743 : Index := Scalar.indexCast v2692
  let c0_1292 : Index := 0#32
  let c0_1293 : Index := 0#32
  ![0, 7, v2743.toNat, 0, 0]
def k0_off49 (i : grid0.Coords) (k0_t1 : Fin (k0_t1_loop i).trips) : Fin 5 → Nat :=
  let c0_1361 : Index := 0#32
  let c0_1362 : Index := 0#32
  let arg1 : BitVec 32 := BitVec.ofNat 32 (i 1).val
  let c1_i32_1348 : BitVec 32 := 1#32
  let v2817 : BitVec 32 := Scalar.subi arg1 c1_i32_1348
  let c0_i32_1349 : BitVec 32 := 0#32
  let v2818 : BitVec 32 := Scalar.maxsi v2817 c0_i32_1349
  let c0_i32_1350 : BitVec 32 := 0#32
  let c2_i32_1345 : BitVec 32 := 2#32
  let c0_i32_968 : BitVec 32 := 0#32
  let c0_i32_969 : BitVec 32 := 0#32
  let c1_i32_971 : BitVec 32 := 1#32
  let arg28 : BitVec 32 := Scf.iv c0_i32_969 c1_i32_971 k0_t1
  let c1_i32_967 : BitVec 32 := 1#32
  let v2527 : BitVec 32 := Scalar.muli arg28 c1_i32_967
  let v2528 : BitVec 32 := Scalar.addi c0_i32_968 v2527
  let c1_i32_1193 : BitVec 32 := 1#32
  let v2628 : BitVec 32 := Scalar.addi v2528 c1_i32_1193
  let v2814 : BitVec 32 := Scalar.muli c2_i32_1345 v2628
  let c1_i32_1346 : BitVec 32 := 1#32
  let v2815 : BitVec 32 := Scalar.addi v2814 c1_i32_1346
  let c1_i32_1347 : BitVec 32 := 1#32
  let v2816 : BitVec 32 := Scalar.subi v2815 c1_i32_1347
  let v2819 : BitVec 32 := Scalar.maxsi c0_i32_1350 v2816
  let v2820 : BitVec 32 := Scalar.minsi v2818 v2819
  let v2836 : Index := Scalar.indexCast v2820
  let c0_1363 : Index := 0#32
  let c0_1364 : Index := 0#32
  ![0, 0, v2836.toNat, 0, 0]
def k0_off50 (i : grid0.Coords) (k0_t1 : Fin (k0_t1_loop i).trips) : Fin 5 → Nat :=
  let c0_1366 : Index := 0#32
  let c1_1367 : Index := 1#32
  let arg1 : BitVec 32 := BitVec.ofNat 32 (i 1).val
  let c1_i32_1348 : BitVec 32 := 1#32
  let v2817 : BitVec 32 := Scalar.subi arg1 c1_i32_1348
  let c0_i32_1349 : BitVec 32 := 0#32
  let v2818 : BitVec 32 := Scalar.maxsi v2817 c0_i32_1349
  let c0_i32_1350 : BitVec 32 := 0#32
  let c2_i32_1345 : BitVec 32 := 2#32
  let c0_i32_968 : BitVec 32 := 0#32
  let c0_i32_969 : BitVec 32 := 0#32
  let c1_i32_971 : BitVec 32 := 1#32
  let arg28 : BitVec 32 := Scf.iv c0_i32_969 c1_i32_971 k0_t1
  let c1_i32_967 : BitVec 32 := 1#32
  let v2527 : BitVec 32 := Scalar.muli arg28 c1_i32_967
  let v2528 : BitVec 32 := Scalar.addi c0_i32_968 v2527
  let c1_i32_1193 : BitVec 32 := 1#32
  let v2628 : BitVec 32 := Scalar.addi v2528 c1_i32_1193
  let v2814 : BitVec 32 := Scalar.muli c2_i32_1345 v2628
  let c1_i32_1346 : BitVec 32 := 1#32
  let v2815 : BitVec 32 := Scalar.addi v2814 c1_i32_1346
  let c1_i32_1347 : BitVec 32 := 1#32
  let v2816 : BitVec 32 := Scalar.subi v2815 c1_i32_1347
  let v2819 : BitVec 32 := Scalar.maxsi c0_i32_1350 v2816
  let v2820 : BitVec 32 := Scalar.minsi v2818 v2819
  let v2841 : Index := Scalar.indexCast v2820
  let c0_1368 : Index := 0#32
  let c0_1369 : Index := 0#32
  ![0, 1, v2841.toNat, 0, 0]
def k0_off51 (i : grid0.Coords) (k0_t1 : Fin (k0_t1_loop i).trips) : Fin 5 → Nat :=
  let c0_1371 : Index := 0#32
  let c2_1372 : Index := 2#32
  let arg1 : BitVec 32 := BitVec.ofNat 32 (i 1).val
  let c1_i32_1348 : BitVec 32 := 1#32
  let v2817 : BitVec 32 := Scalar.subi arg1 c1_i32_1348
  let c0_i32_1349 : BitVec 32 := 0#32
  let v2818 : BitVec 32 := Scalar.maxsi v2817 c0_i32_1349
  let c0_i32_1350 : BitVec 32 := 0#32
  let c2_i32_1345 : BitVec 32 := 2#32
  let c0_i32_968 : BitVec 32 := 0#32
  let c0_i32_969 : BitVec 32 := 0#32
  let c1_i32_971 : BitVec 32 := 1#32
  let arg28 : BitVec 32 := Scf.iv c0_i32_969 c1_i32_971 k0_t1
  let c1_i32_967 : BitVec 32 := 1#32
  let v2527 : BitVec 32 := Scalar.muli arg28 c1_i32_967
  let v2528 : BitVec 32 := Scalar.addi c0_i32_968 v2527
  let c1_i32_1193 : BitVec 32 := 1#32
  let v2628 : BitVec 32 := Scalar.addi v2528 c1_i32_1193
  let v2814 : BitVec 32 := Scalar.muli c2_i32_1345 v2628
  let c1_i32_1346 : BitVec 32 := 1#32
  let v2815 : BitVec 32 := Scalar.addi v2814 c1_i32_1346
  let c1_i32_1347 : BitVec 32 := 1#32
  let v2816 : BitVec 32 := Scalar.subi v2815 c1_i32_1347
  let v2819 : BitVec 32 := Scalar.maxsi c0_i32_1350 v2816
  let v2820 : BitVec 32 := Scalar.minsi v2818 v2819
  let v2846 : Index := Scalar.indexCast v2820
  let c0_1373 : Index := 0#32
  let c0_1374 : Index := 0#32
  ![0, 2, v2846.toNat, 0, 0]
def k0_off52 (i : grid0.Coords) (k0_t1 : Fin (k0_t1_loop i).trips) : Fin 5 → Nat :=
  let c0_1376 : Index := 0#32
  let c3_1377 : Index := 3#32
  let arg1 : BitVec 32 := BitVec.ofNat 32 (i 1).val
  let c1_i32_1348 : BitVec 32 := 1#32
  let v2817 : BitVec 32 := Scalar.subi arg1 c1_i32_1348
  let c0_i32_1349 : BitVec 32 := 0#32
  let v2818 : BitVec 32 := Scalar.maxsi v2817 c0_i32_1349
  let c0_i32_1350 : BitVec 32 := 0#32
  let c2_i32_1345 : BitVec 32 := 2#32
  let c0_i32_968 : BitVec 32 := 0#32
  let c0_i32_969 : BitVec 32 := 0#32
  let c1_i32_971 : BitVec 32 := 1#32
  let arg28 : BitVec 32 := Scf.iv c0_i32_969 c1_i32_971 k0_t1
  let c1_i32_967 : BitVec 32 := 1#32
  let v2527 : BitVec 32 := Scalar.muli arg28 c1_i32_967
  let v2528 : BitVec 32 := Scalar.addi c0_i32_968 v2527
  let c1_i32_1193 : BitVec 32 := 1#32
  let v2628 : BitVec 32 := Scalar.addi v2528 c1_i32_1193
  let v2814 : BitVec 32 := Scalar.muli c2_i32_1345 v2628
  let c1_i32_1346 : BitVec 32 := 1#32
  let v2815 : BitVec 32 := Scalar.addi v2814 c1_i32_1346
  let c1_i32_1347 : BitVec 32 := 1#32
  let v2816 : BitVec 32 := Scalar.subi v2815 c1_i32_1347
  let v2819 : BitVec 32 := Scalar.maxsi c0_i32_1350 v2816
  let v2820 : BitVec 32 := Scalar.minsi v2818 v2819
  let v2851 : Index := Scalar.indexCast v2820
  let c0_1378 : Index := 0#32
  let c0_1379 : Index := 0#32
  ![0, 3, v2851.toNat, 0, 0]
def k0_off53 (i : grid0.Coords) (k0_t1 : Fin (k0_t1_loop i).trips) : Fin 5 → Nat :=
  let c0_1381 : Index := 0#32
  let c4_1382 : Index := 4#32
  let arg1 : BitVec 32 := BitVec.ofNat 32 (i 1).val
  let c1_i32_1348 : BitVec 32 := 1#32
  let v2817 : BitVec 32 := Scalar.subi arg1 c1_i32_1348
  let c0_i32_1349 : BitVec 32 := 0#32
  let v2818 : BitVec 32 := Scalar.maxsi v2817 c0_i32_1349
  let c0_i32_1350 : BitVec 32 := 0#32
  let c2_i32_1345 : BitVec 32 := 2#32
  let c0_i32_968 : BitVec 32 := 0#32
  let c0_i32_969 : BitVec 32 := 0#32
  let c1_i32_971 : BitVec 32 := 1#32
  let arg28 : BitVec 32 := Scf.iv c0_i32_969 c1_i32_971 k0_t1
  let c1_i32_967 : BitVec 32 := 1#32
  let v2527 : BitVec 32 := Scalar.muli arg28 c1_i32_967
  let v2528 : BitVec 32 := Scalar.addi c0_i32_968 v2527
  let c1_i32_1193 : BitVec 32 := 1#32
  let v2628 : BitVec 32 := Scalar.addi v2528 c1_i32_1193
  let v2814 : BitVec 32 := Scalar.muli c2_i32_1345 v2628
  let c1_i32_1346 : BitVec 32 := 1#32
  let v2815 : BitVec 32 := Scalar.addi v2814 c1_i32_1346
  let c1_i32_1347 : BitVec 32 := 1#32
  let v2816 : BitVec 32 := Scalar.subi v2815 c1_i32_1347
  let v2819 : BitVec 32 := Scalar.maxsi c0_i32_1350 v2816
  let v2820 : BitVec 32 := Scalar.minsi v2818 v2819
  let v2856 : Index := Scalar.indexCast v2820
  let c0_1383 : Index := 0#32
  let c0_1384 : Index := 0#32
  ![0, 4, v2856.toNat, 0, 0]
def k0_off54 (i : grid0.Coords) (k0_t1 : Fin (k0_t1_loop i).trips) : Fin 5 → Nat :=
  let c0_1386 : Index := 0#32
  let c5_1387 : Index := 5#32
  let arg1 : BitVec 32 := BitVec.ofNat 32 (i 1).val
  let c1_i32_1348 : BitVec 32 := 1#32
  let v2817 : BitVec 32 := Scalar.subi arg1 c1_i32_1348
  let c0_i32_1349 : BitVec 32 := 0#32
  let v2818 : BitVec 32 := Scalar.maxsi v2817 c0_i32_1349
  let c0_i32_1350 : BitVec 32 := 0#32
  let c2_i32_1345 : BitVec 32 := 2#32
  let c0_i32_968 : BitVec 32 := 0#32
  let c0_i32_969 : BitVec 32 := 0#32
  let c1_i32_971 : BitVec 32 := 1#32
  let arg28 : BitVec 32 := Scf.iv c0_i32_969 c1_i32_971 k0_t1
  let c1_i32_967 : BitVec 32 := 1#32
  let v2527 : BitVec 32 := Scalar.muli arg28 c1_i32_967
  let v2528 : BitVec 32 := Scalar.addi c0_i32_968 v2527
  let c1_i32_1193 : BitVec 32 := 1#32
  let v2628 : BitVec 32 := Scalar.addi v2528 c1_i32_1193
  let v2814 : BitVec 32 := Scalar.muli c2_i32_1345 v2628
  let c1_i32_1346 : BitVec 32 := 1#32
  let v2815 : BitVec 32 := Scalar.addi v2814 c1_i32_1346
  let c1_i32_1347 : BitVec 32 := 1#32
  let v2816 : BitVec 32 := Scalar.subi v2815 c1_i32_1347
  let v2819 : BitVec 32 := Scalar.maxsi c0_i32_1350 v2816
  let v2820 : BitVec 32 := Scalar.minsi v2818 v2819
  let v2861 : Index := Scalar.indexCast v2820
  let c0_1388 : Index := 0#32
  let c0_1389 : Index := 0#32
  ![0, 5, v2861.toNat, 0, 0]
def k0_off55 (i : grid0.Coords) (k0_t1 : Fin (k0_t1_loop i).trips) : Fin 5 → Nat :=
  let c0_1391 : Index := 0#32
  let c6_1392 : Index := 6#32
  let arg1 : BitVec 32 := BitVec.ofNat 32 (i 1).val
  let c1_i32_1348 : BitVec 32 := 1#32
  let v2817 : BitVec 32 := Scalar.subi arg1 c1_i32_1348
  let c0_i32_1349 : BitVec 32 := 0#32
  let v2818 : BitVec 32 := Scalar.maxsi v2817 c0_i32_1349
  let c0_i32_1350 : BitVec 32 := 0#32
  let c2_i32_1345 : BitVec 32 := 2#32
  let c0_i32_968 : BitVec 32 := 0#32
  let c0_i32_969 : BitVec 32 := 0#32
  let c1_i32_971 : BitVec 32 := 1#32
  let arg28 : BitVec 32 := Scf.iv c0_i32_969 c1_i32_971 k0_t1
  let c1_i32_967 : BitVec 32 := 1#32
  let v2527 : BitVec 32 := Scalar.muli arg28 c1_i32_967
  let v2528 : BitVec 32 := Scalar.addi c0_i32_968 v2527
  let c1_i32_1193 : BitVec 32 := 1#32
  let v2628 : BitVec 32 := Scalar.addi v2528 c1_i32_1193
  let v2814 : BitVec 32 := Scalar.muli c2_i32_1345 v2628
  let c1_i32_1346 : BitVec 32 := 1#32
  let v2815 : BitVec 32 := Scalar.addi v2814 c1_i32_1346
  let c1_i32_1347 : BitVec 32 := 1#32
  let v2816 : BitVec 32 := Scalar.subi v2815 c1_i32_1347
  let v2819 : BitVec 32 := Scalar.maxsi c0_i32_1350 v2816
  let v2820 : BitVec 32 := Scalar.minsi v2818 v2819
  let v2866 : Index := Scalar.indexCast v2820
  let c0_1393 : Index := 0#32
  let c0_1394 : Index := 0#32
  ![0, 6, v2866.toNat, 0, 0]
def k0_off56 (i : grid0.Coords) (k0_t1 : Fin (k0_t1_loop i).trips) : Fin 5 → Nat :=
  let c0_1396 : Index := 0#32
  let c7_1397 : Index := 7#32
  let arg1 : BitVec 32 := BitVec.ofNat 32 (i 1).val
  let c1_i32_1348 : BitVec 32 := 1#32
  let v2817 : BitVec 32 := Scalar.subi arg1 c1_i32_1348
  let c0_i32_1349 : BitVec 32 := 0#32
  let v2818 : BitVec 32 := Scalar.maxsi v2817 c0_i32_1349
  let c0_i32_1350 : BitVec 32 := 0#32
  let c2_i32_1345 : BitVec 32 := 2#32
  let c0_i32_968 : BitVec 32 := 0#32
  let c0_i32_969 : BitVec 32 := 0#32
  let c1_i32_971 : BitVec 32 := 1#32
  let arg28 : BitVec 32 := Scf.iv c0_i32_969 c1_i32_971 k0_t1
  let c1_i32_967 : BitVec 32 := 1#32
  let v2527 : BitVec 32 := Scalar.muli arg28 c1_i32_967
  let v2528 : BitVec 32 := Scalar.addi c0_i32_968 v2527
  let c1_i32_1193 : BitVec 32 := 1#32
  let v2628 : BitVec 32 := Scalar.addi v2528 c1_i32_1193
  let v2814 : BitVec 32 := Scalar.muli c2_i32_1345 v2628
  let c1_i32_1346 : BitVec 32 := 1#32
  let v2815 : BitVec 32 := Scalar.addi v2814 c1_i32_1346
  let c1_i32_1347 : BitVec 32 := 1#32
  let v2816 : BitVec 32 := Scalar.subi v2815 c1_i32_1347
  let v2819 : BitVec 32 := Scalar.maxsi c0_i32_1350 v2816
  let v2820 : BitVec 32 := Scalar.minsi v2818 v2819
  let v2871 : Index := Scalar.indexCast v2820
  let c0_1398 : Index := 0#32
  let c0_1399 : Index := 0#32
  ![0, 7, v2871.toNat, 0, 0]
@[reducible] def k0_t2_loop (i : grid0.Coords) : Scf.Loop 32 :=
  let c0_i32_969 : BitVec 32 := 0#32
  let arg1 : BitVec 32 := BitVec.ofNat 32 (i 1).val
  let c2_i32_954 : BitVec 32 := 2#32
  let v2205 : BitVec 32 := Scalar.addi arg1 c2_i32_954
  let c0_i32_956 : BitVec 32 := 0#32
  let v2207 : BitVec 1 := Scalar.cmpi .sgt v2205 c0_i32_956
  let v2208 : BitVec 32 := Scalar.extui v2207
  let c0_i32_957 : BitVec 32 := 0#32
  let v2209 : BitVec 1 := Scalar.cmpi .slt v2205 c0_i32_957
  let v2210 : BitVec 32 := Scalar.extui v2209
  let v2211 : BitVec 32 := Scalar.subi v2208 v2210
  let c2_i32_955 : BitVec 32 := 2#32
  let c0_i32_958 : BitVec 32 := 0#32
  let v2212 : BitVec 1 := Scalar.cmpi .sgt c2_i32_955 c0_i32_958
  let v2213 : BitVec 32 := Scalar.extui v2212
  let c0_i32_959 : BitVec 32 := 0#32
  let v2214 : BitVec 1 := Scalar.cmpi .slt c2_i32_955 c0_i32_959
  let v2215 : BitVec 32 := Scalar.extui v2214
  let v2216 : BitVec 32 := Scalar.subi v2213 v2215
  let v2217 : BitVec 1 := Scalar.cmpi .ne v2211 v2216
  let v2218 : BitVec 32 := Scalar.remsi v2205 c2_i32_955
  let c0_i32_960 : BitVec 32 := 0#32
  let v2219 : BitVec 1 := Scalar.cmpi .ne v2218 c0_i32_960
  let v2220 : BitVec 1 := Scalar.andi v2217 v2219
  let v2206 : BitVec 32 := Scalar.divsi v2205 c2_i32_955
  let c1_i32_961 : BitVec 32 := 1#32
  let v2221 : BitVec 32 := Scalar.subi v2206 c1_i32_961
  let v2222 : BitVec 32 := Scalar.select v2220 v2221 v2206
  let c1_i32_962 : BitVec 32 := 1#32
  let v2223 : BitVec 32 := Scalar.subi v2222 c1_i32_962
  let c0_i32_963 : BitVec 32 := 0#32
  let v2224 : BitVec 32 := Scalar.subi v2223 c0_i32_963
  let c1_i32_964 : BitVec 32 := 1#32
  let c1_i32_965 : BitVec 32 := 1#32
  let v2225 : BitVec 32 := Scalar.subi c1_i32_964 c1_i32_965
  let v2226 : BitVec 32 := Scalar.addi v2224 v2225
  let c1_i32_966 : BitVec 32 := 1#32
  let v2227 : BitVec 32 := Scalar.divsi v2226 c1_i32_966
  let v2228 : BitVec 32 := Scalar.subi v2227 c0_i32_969
  let c1_i32_970 : BitVec 32 := 1#32
  let v2230 : BitVec 32 := Scalar.divsi v2228 c1_i32_970
  let v2231 : BitVec 32 := Scalar.muli v2230 c1_i32_970
  let v2232 : BitVec 32 := Scalar.addi c0_i32_969 v2231
  let v2229 : BitVec 32 := Scalar.addi c0_i32_969 v2228
  let c1_i32_972 : BitVec 32 := 1#32
  ⟨v2232, v2229, c1_i32_972⟩
def k0_off57 (i : grid0.Coords) (k0_t2 : Fin (k0_t2_loop i).trips) (c1_i32_1116 : BitVec 32) : Fin 4 → Nat :=
  let c0_1118 : Index := 0#32
  let c0_i32_501 : BitVec 32 := 0#32
  let arg1 : BitVec 32 := BitVec.ofNat 32 (i 1).val
  let c1_i32_499 : BitVec 32 := 1#32
  let v1290 : BitVec 32 := Scalar.addi arg1 c1_i32_499
  let c1_i32_500 : BitVec 32 := 1#32
  let v1291 : BitVec 32 := Scalar.andi v1290 c1_i32_500
  let v1292 : BitVec 32 := Scalar.subi c0_i32_501 v1291
  let c2_i32_1115 : BitVec 32 := 2#32
  let c0_i32_968 : BitVec 32 := 0#32
  let c0_i32_969 : BitVec 32 := 0#32
  let c2_i32_954 : BitVec 32 := 2#32
  let v2205 : BitVec 32 := Scalar.addi arg1 c2_i32_954
  let c0_i32_956 : BitVec 32 := 0#32
  let v2207 : BitVec 1 := Scalar.cmpi .sgt v2205 c0_i32_956
  let v2208 : BitVec 32 := Scalar.extui v2207
  let c0_i32_957 : BitVec 32 := 0#32
  let v2209 : BitVec 1 := Scalar.cmpi .slt v2205 c0_i32_957
  let v2210 : BitVec 32 := Scalar.extui v2209
  let v2211 : BitVec 32 := Scalar.subi v2208 v2210
  let c2_i32_955 : BitVec 32 := 2#32
  let c0_i32_958 : BitVec 32 := 0#32
  let v2212 : BitVec 1 := Scalar.cmpi .sgt c2_i32_955 c0_i32_958
  let v2213 : BitVec 32 := Scalar.extui v2212
  let c0_i32_959 : BitVec 32 := 0#32
  let v2214 : BitVec 1 := Scalar.cmpi .slt c2_i32_955 c0_i32_959
  let v2215 : BitVec 32 := Scalar.extui v2214
  let v2216 : BitVec 32 := Scalar.subi v2213 v2215
  let v2217 : BitVec 1 := Scalar.cmpi .ne v2211 v2216
  let v2218 : BitVec 32 := Scalar.remsi v2205 c2_i32_955
  let c0_i32_960 : BitVec 32 := 0#32
  let v2219 : BitVec 1 := Scalar.cmpi .ne v2218 c0_i32_960
  let v2220 : BitVec 1 := Scalar.andi v2217 v2219
  let v2206 : BitVec 32 := Scalar.divsi v2205 c2_i32_955
  let c1_i32_961 : BitVec 32 := 1#32
  let v2221 : BitVec 32 := Scalar.subi v2206 c1_i32_961
  let v2222 : BitVec 32 := Scalar.select v2220 v2221 v2206
  let c1_i32_962 : BitVec 32 := 1#32
  let v2223 : BitVec 32 := Scalar.subi v2222 c1_i32_962
  let c0_i32_963 : BitVec 32 := 0#32
  let v2224 : BitVec 32 := Scalar.subi v2223 c0_i32_963
  let c1_i32_964 : BitVec 32 := 1#32
  let c1_i32_965 : BitVec 32 := 1#32
  let v2225 : BitVec 32 := Scalar.subi c1_i32_964 c1_i32_965
  let v2226 : BitVec 32 := Scalar.addi v2224 v2225
  let c1_i32_966 : BitVec 32 := 1#32
  let v2227 : BitVec 32 := Scalar.divsi v2226 c1_i32_966
  let v2228 : BitVec 32 := Scalar.subi v2227 c0_i32_969
  let c1_i32_970 : BitVec 32 := 1#32
  let v2230 : BitVec 32 := Scalar.divsi v2228 c1_i32_970
  let v2231 : BitVec 32 := Scalar.muli v2230 c1_i32_970
  let v2232 : BitVec 32 := Scalar.addi c0_i32_969 v2231
  let c1_i32_972 : BitVec 32 := 1#32
  let arg28 : BitVec 32 := Scf.iv v2232 c1_i32_972 k0_t2
  let c1_i32_967 : BitVec 32 := 1#32
  let v2527 : BitVec 32 := Scalar.muli arg28 c1_i32_967
  let v2528 : BitVec 32 := Scalar.addi c0_i32_968 v2527
  let v2529 : BitVec 32 := Scalar.muli c2_i32_1115 v2528
  let v2530 : BitVec 32 := Scalar.addi v1292 v2529
  let v2531 : BitVec 32 := Scalar.addi v2530 c1_i32_1116
  let c0_i32_1117 : BitVec 32 := 0#32
  let v2532 : BitVec 32 := Scalar.maxsi v2531 c0_i32_1117
  let v2533 : Index := Scalar.indexCast v2532
  let c0_1119 : Index := 0#32
  let c0_1120 : Index := 0#32
  ![0, v2533.toNat, 0, 0]
def k0_off58 (i : grid0.Coords) (k0_t2 : Fin (k0_t2_loop i).trips) : Fin 5 → Nat :=
  let c0_1140 : Index := 0#32
  let c0_1141 : Index := 0#32
  let c0_i32_501 : BitVec 32 := 0#32
  let arg1 : BitVec 32 := BitVec.ofNat 32 (i 1).val
  let c1_i32_499 : BitVec 32 := 1#32
  let v1290 : BitVec 32 := Scalar.addi arg1 c1_i32_499
  let c1_i32_500 : BitVec 32 := 1#32
  let v1291 : BitVec 32 := Scalar.andi v1290 c1_i32_500
  let v1292 : BitVec 32 := Scalar.subi c0_i32_501 v1291
  let c2_i32_1115 : BitVec 32 := 2#32
  let c0_i32_968 : BitVec 32 := 0#32
  let c0_i32_969 : BitVec 32 := 0#32
  let c2_i32_954 : BitVec 32 := 2#32
  let v2205 : BitVec 32 := Scalar.addi arg1 c2_i32_954
  let c0_i32_956 : BitVec 32 := 0#32
  let v2207 : BitVec 1 := Scalar.cmpi .sgt v2205 c0_i32_956
  let v2208 : BitVec 32 := Scalar.extui v2207
  let c0_i32_957 : BitVec 32 := 0#32
  let v2209 : BitVec 1 := Scalar.cmpi .slt v2205 c0_i32_957
  let v2210 : BitVec 32 := Scalar.extui v2209
  let v2211 : BitVec 32 := Scalar.subi v2208 v2210
  let c2_i32_955 : BitVec 32 := 2#32
  let c0_i32_958 : BitVec 32 := 0#32
  let v2212 : BitVec 1 := Scalar.cmpi .sgt c2_i32_955 c0_i32_958
  let v2213 : BitVec 32 := Scalar.extui v2212
  let c0_i32_959 : BitVec 32 := 0#32
  let v2214 : BitVec 1 := Scalar.cmpi .slt c2_i32_955 c0_i32_959
  let v2215 : BitVec 32 := Scalar.extui v2214
  let v2216 : BitVec 32 := Scalar.subi v2213 v2215
  let v2217 : BitVec 1 := Scalar.cmpi .ne v2211 v2216
  let v2218 : BitVec 32 := Scalar.remsi v2205 c2_i32_955
  let c0_i32_960 : BitVec 32 := 0#32
  let v2219 : BitVec 1 := Scalar.cmpi .ne v2218 c0_i32_960
  let v2220 : BitVec 1 := Scalar.andi v2217 v2219
  let v2206 : BitVec 32 := Scalar.divsi v2205 c2_i32_955
  let c1_i32_961 : BitVec 32 := 1#32
  let v2221 : BitVec 32 := Scalar.subi v2206 c1_i32_961
  let v2222 : BitVec 32 := Scalar.select v2220 v2221 v2206
  let c1_i32_962 : BitVec 32 := 1#32
  let v2223 : BitVec 32 := Scalar.subi v2222 c1_i32_962
  let c0_i32_963 : BitVec 32 := 0#32
  let v2224 : BitVec 32 := Scalar.subi v2223 c0_i32_963
  let c1_i32_964 : BitVec 32 := 1#32
  let c1_i32_965 : BitVec 32 := 1#32
  let v2225 : BitVec 32 := Scalar.subi c1_i32_964 c1_i32_965
  let v2226 : BitVec 32 := Scalar.addi v2224 v2225
  let c1_i32_966 : BitVec 32 := 1#32
  let v2227 : BitVec 32 := Scalar.divsi v2226 c1_i32_966
  let v2228 : BitVec 32 := Scalar.subi v2227 c0_i32_969
  let c1_i32_970 : BitVec 32 := 1#32
  let v2230 : BitVec 32 := Scalar.divsi v2228 c1_i32_970
  let v2231 : BitVec 32 := Scalar.muli v2230 c1_i32_970
  let v2232 : BitVec 32 := Scalar.addi c0_i32_969 v2231
  let c1_i32_972 : BitVec 32 := 1#32
  let arg28 : BitVec 32 := Scf.iv v2232 c1_i32_972 k0_t2
  let c1_i32_967 : BitVec 32 := 1#32
  let v2527 : BitVec 32 := Scalar.muli arg28 c1_i32_967
  let v2528 : BitVec 32 := Scalar.addi c0_i32_968 v2527
  let v2529 : BitVec 32 := Scalar.muli c2_i32_1115 v2528
  let v2530 : BitVec 32 := Scalar.addi v1292 v2529
  let c0_i32_1139 : BitVec 32 := 0#32
  let v2560 : BitVec 32 := Scalar.maxsi v2530 c0_i32_1139
  let v2561 : Index := Scalar.indexCast v2560
  let c0_1142 : Index := 0#32
  let c0_1143 : Index := 0#32
  ![0, 0, v2561.toNat, 0, 0]
def k0_off59 (i : grid0.Coords) (k0_t2 : Fin (k0_t2_loop i).trips) : Fin 5 → Nat :=
  let c0_1145 : Index := 0#32
  let c1_1146 : Index := 1#32
  let c0_i32_501 : BitVec 32 := 0#32
  let arg1 : BitVec 32 := BitVec.ofNat 32 (i 1).val
  let c1_i32_499 : BitVec 32 := 1#32
  let v1290 : BitVec 32 := Scalar.addi arg1 c1_i32_499
  let c1_i32_500 : BitVec 32 := 1#32
  let v1291 : BitVec 32 := Scalar.andi v1290 c1_i32_500
  let v1292 : BitVec 32 := Scalar.subi c0_i32_501 v1291
  let c2_i32_1115 : BitVec 32 := 2#32
  let c0_i32_968 : BitVec 32 := 0#32
  let c0_i32_969 : BitVec 32 := 0#32
  let c2_i32_954 : BitVec 32 := 2#32
  let v2205 : BitVec 32 := Scalar.addi arg1 c2_i32_954
  let c0_i32_956 : BitVec 32 := 0#32
  let v2207 : BitVec 1 := Scalar.cmpi .sgt v2205 c0_i32_956
  let v2208 : BitVec 32 := Scalar.extui v2207
  let c0_i32_957 : BitVec 32 := 0#32
  let v2209 : BitVec 1 := Scalar.cmpi .slt v2205 c0_i32_957
  let v2210 : BitVec 32 := Scalar.extui v2209
  let v2211 : BitVec 32 := Scalar.subi v2208 v2210
  let c2_i32_955 : BitVec 32 := 2#32
  let c0_i32_958 : BitVec 32 := 0#32
  let v2212 : BitVec 1 := Scalar.cmpi .sgt c2_i32_955 c0_i32_958
  let v2213 : BitVec 32 := Scalar.extui v2212
  let c0_i32_959 : BitVec 32 := 0#32
  let v2214 : BitVec 1 := Scalar.cmpi .slt c2_i32_955 c0_i32_959
  let v2215 : BitVec 32 := Scalar.extui v2214
  let v2216 : BitVec 32 := Scalar.subi v2213 v2215
  let v2217 : BitVec 1 := Scalar.cmpi .ne v2211 v2216
  let v2218 : BitVec 32 := Scalar.remsi v2205 c2_i32_955
  let c0_i32_960 : BitVec 32 := 0#32
  let v2219 : BitVec 1 := Scalar.cmpi .ne v2218 c0_i32_960
  let v2220 : BitVec 1 := Scalar.andi v2217 v2219
  let v2206 : BitVec 32 := Scalar.divsi v2205 c2_i32_955
  let c1_i32_961 : BitVec 32 := 1#32
  let v2221 : BitVec 32 := Scalar.subi v2206 c1_i32_961
  let v2222 : BitVec 32 := Scalar.select v2220 v2221 v2206
  let c1_i32_962 : BitVec 32 := 1#32
  let v2223 : BitVec 32 := Scalar.subi v2222 c1_i32_962
  let c0_i32_963 : BitVec 32 := 0#32
  let v2224 : BitVec 32 := Scalar.subi v2223 c0_i32_963
  let c1_i32_964 : BitVec 32 := 1#32
  let c1_i32_965 : BitVec 32 := 1#32
  let v2225 : BitVec 32 := Scalar.subi c1_i32_964 c1_i32_965
  let v2226 : BitVec 32 := Scalar.addi v2224 v2225
  let c1_i32_966 : BitVec 32 := 1#32
  let v2227 : BitVec 32 := Scalar.divsi v2226 c1_i32_966
  let v2228 : BitVec 32 := Scalar.subi v2227 c0_i32_969
  let c1_i32_970 : BitVec 32 := 1#32
  let v2230 : BitVec 32 := Scalar.divsi v2228 c1_i32_970
  let v2231 : BitVec 32 := Scalar.muli v2230 c1_i32_970
  let v2232 : BitVec 32 := Scalar.addi c0_i32_969 v2231
  let c1_i32_972 : BitVec 32 := 1#32
  let arg28 : BitVec 32 := Scf.iv v2232 c1_i32_972 k0_t2
  let c1_i32_967 : BitVec 32 := 1#32
  let v2527 : BitVec 32 := Scalar.muli arg28 c1_i32_967
  let v2528 : BitVec 32 := Scalar.addi c0_i32_968 v2527
  let v2529 : BitVec 32 := Scalar.muli c2_i32_1115 v2528
  let v2530 : BitVec 32 := Scalar.addi v1292 v2529
  let c0_i32_1139 : BitVec 32 := 0#32
  let v2560 : BitVec 32 := Scalar.maxsi v2530 c0_i32_1139
  let v2566 : Index := Scalar.indexCast v2560
  let c0_1147 : Index := 0#32
  let c0_1148 : Index := 0#32
  ![0, 1, v2566.toNat, 0, 0]
def k0_off60 (i : grid0.Coords) (k0_t2 : Fin (k0_t2_loop i).trips) : Fin 5 → Nat :=
  let c0_1179 : Index := 0#32
  let c0_1180 : Index := 0#32
  let c0_i32_501 : BitVec 32 := 0#32
  let arg1 : BitVec 32 := BitVec.ofNat 32 (i 1).val
  let c1_i32_499 : BitVec 32 := 1#32
  let v1290 : BitVec 32 := Scalar.addi arg1 c1_i32_499
  let c1_i32_500 : BitVec 32 := 1#32
  let v1291 : BitVec 32 := Scalar.andi v1290 c1_i32_500
  let v1292 : BitVec 32 := Scalar.subi c0_i32_501 v1291
  let c2_i32_1115 : BitVec 32 := 2#32
  let c0_i32_968 : BitVec 32 := 0#32
  let c0_i32_969 : BitVec 32 := 0#32
  let c2_i32_954 : BitVec 32 := 2#32
  let v2205 : BitVec 32 := Scalar.addi arg1 c2_i32_954
  let c0_i32_956 : BitVec 32 := 0#32
  let v2207 : BitVec 1 := Scalar.cmpi .sgt v2205 c0_i32_956
  let v2208 : BitVec 32 := Scalar.extui v2207
  let c0_i32_957 : BitVec 32 := 0#32
  let v2209 : BitVec 1 := Scalar.cmpi .slt v2205 c0_i32_957
  let v2210 : BitVec 32 := Scalar.extui v2209
  let v2211 : BitVec 32 := Scalar.subi v2208 v2210
  let c2_i32_955 : BitVec 32 := 2#32
  let c0_i32_958 : BitVec 32 := 0#32
  let v2212 : BitVec 1 := Scalar.cmpi .sgt c2_i32_955 c0_i32_958
  let v2213 : BitVec 32 := Scalar.extui v2212
  let c0_i32_959 : BitVec 32 := 0#32
  let v2214 : BitVec 1 := Scalar.cmpi .slt c2_i32_955 c0_i32_959
  let v2215 : BitVec 32 := Scalar.extui v2214
  let v2216 : BitVec 32 := Scalar.subi v2213 v2215
  let v2217 : BitVec 1 := Scalar.cmpi .ne v2211 v2216
  let v2218 : BitVec 32 := Scalar.remsi v2205 c2_i32_955
  let c0_i32_960 : BitVec 32 := 0#32
  let v2219 : BitVec 1 := Scalar.cmpi .ne v2218 c0_i32_960
  let v2220 : BitVec 1 := Scalar.andi v2217 v2219
  let v2206 : BitVec 32 := Scalar.divsi v2205 c2_i32_955
  let c1_i32_961 : BitVec 32 := 1#32
  let v2221 : BitVec 32 := Scalar.subi v2206 c1_i32_961
  let v2222 : BitVec 32 := Scalar.select v2220 v2221 v2206
  let c1_i32_962 : BitVec 32 := 1#32
  let v2223 : BitVec 32 := Scalar.subi v2222 c1_i32_962
  let c0_i32_963 : BitVec 32 := 0#32
  let v2224 : BitVec 32 := Scalar.subi v2223 c0_i32_963
  let c1_i32_964 : BitVec 32 := 1#32
  let c1_i32_965 : BitVec 32 := 1#32
  let v2225 : BitVec 32 := Scalar.subi c1_i32_964 c1_i32_965
  let v2226 : BitVec 32 := Scalar.addi v2224 v2225
  let c1_i32_966 : BitVec 32 := 1#32
  let v2227 : BitVec 32 := Scalar.divsi v2226 c1_i32_966
  let v2228 : BitVec 32 := Scalar.subi v2227 c0_i32_969
  let c1_i32_970 : BitVec 32 := 1#32
  let v2230 : BitVec 32 := Scalar.divsi v2228 c1_i32_970
  let v2231 : BitVec 32 := Scalar.muli v2230 c1_i32_970
  let v2232 : BitVec 32 := Scalar.addi c0_i32_969 v2231
  let c1_i32_972 : BitVec 32 := 1#32
  let arg28 : BitVec 32 := Scf.iv v2232 c1_i32_972 k0_t2
  let c1_i32_967 : BitVec 32 := 1#32
  let v2527 : BitVec 32 := Scalar.muli arg28 c1_i32_967
  let v2528 : BitVec 32 := Scalar.addi c0_i32_968 v2527
  let v2529 : BitVec 32 := Scalar.muli c2_i32_1115 v2528
  let v2530 : BitVec 32 := Scalar.addi v1292 v2529
  let c1_i32_1167 : BitVec 32 := 1#32
  let v2593 : BitVec 32 := Scalar.addi v2530 c1_i32_1167
  let c0_i32_1178 : BitVec 32 := 0#32
  let v2609 : BitVec 32 := Scalar.maxsi v2593 c0_i32_1178
  let v2610 : Index := Scalar.indexCast v2609
  let c0_1181 : Index := 0#32
  let c0_1182 : Index := 0#32
  ![0, 0, v2610.toNat, 0, 0]
def k0_off61 (i : grid0.Coords) (k0_t2 : Fin (k0_t2_loop i).trips) : Fin 5 → Nat :=
  let c0_1184 : Index := 0#32
  let c1_1185 : Index := 1#32
  let c0_i32_501 : BitVec 32 := 0#32
  let arg1 : BitVec 32 := BitVec.ofNat 32 (i 1).val
  let c1_i32_499 : BitVec 32 := 1#32
  let v1290 : BitVec 32 := Scalar.addi arg1 c1_i32_499
  let c1_i32_500 : BitVec 32 := 1#32
  let v1291 : BitVec 32 := Scalar.andi v1290 c1_i32_500
  let v1292 : BitVec 32 := Scalar.subi c0_i32_501 v1291
  let c2_i32_1115 : BitVec 32 := 2#32
  let c0_i32_968 : BitVec 32 := 0#32
  let c0_i32_969 : BitVec 32 := 0#32
  let c2_i32_954 : BitVec 32 := 2#32
  let v2205 : BitVec 32 := Scalar.addi arg1 c2_i32_954
  let c0_i32_956 : BitVec 32 := 0#32
  let v2207 : BitVec 1 := Scalar.cmpi .sgt v2205 c0_i32_956
  let v2208 : BitVec 32 := Scalar.extui v2207
  let c0_i32_957 : BitVec 32 := 0#32
  let v2209 : BitVec 1 := Scalar.cmpi .slt v2205 c0_i32_957
  let v2210 : BitVec 32 := Scalar.extui v2209
  let v2211 : BitVec 32 := Scalar.subi v2208 v2210
  let c2_i32_955 : BitVec 32 := 2#32
  let c0_i32_958 : BitVec 32 := 0#32
  let v2212 : BitVec 1 := Scalar.cmpi .sgt c2_i32_955 c0_i32_958
  let v2213 : BitVec 32 := Scalar.extui v2212
  let c0_i32_959 : BitVec 32 := 0#32
  let v2214 : BitVec 1 := Scalar.cmpi .slt c2_i32_955 c0_i32_959
  let v2215 : BitVec 32 := Scalar.extui v2214
  let v2216 : BitVec 32 := Scalar.subi v2213 v2215
  let v2217 : BitVec 1 := Scalar.cmpi .ne v2211 v2216
  let v2218 : BitVec 32 := Scalar.remsi v2205 c2_i32_955
  let c0_i32_960 : BitVec 32 := 0#32
  let v2219 : BitVec 1 := Scalar.cmpi .ne v2218 c0_i32_960
  let v2220 : BitVec 1 := Scalar.andi v2217 v2219
  let v2206 : BitVec 32 := Scalar.divsi v2205 c2_i32_955
  let c1_i32_961 : BitVec 32 := 1#32
  let v2221 : BitVec 32 := Scalar.subi v2206 c1_i32_961
  let v2222 : BitVec 32 := Scalar.select v2220 v2221 v2206
  let c1_i32_962 : BitVec 32 := 1#32
  let v2223 : BitVec 32 := Scalar.subi v2222 c1_i32_962
  let c0_i32_963 : BitVec 32 := 0#32
  let v2224 : BitVec 32 := Scalar.subi v2223 c0_i32_963
  let c1_i32_964 : BitVec 32 := 1#32
  let c1_i32_965 : BitVec 32 := 1#32
  let v2225 : BitVec 32 := Scalar.subi c1_i32_964 c1_i32_965
  let v2226 : BitVec 32 := Scalar.addi v2224 v2225
  let c1_i32_966 : BitVec 32 := 1#32
  let v2227 : BitVec 32 := Scalar.divsi v2226 c1_i32_966
  let v2228 : BitVec 32 := Scalar.subi v2227 c0_i32_969
  let c1_i32_970 : BitVec 32 := 1#32
  let v2230 : BitVec 32 := Scalar.divsi v2228 c1_i32_970
  let v2231 : BitVec 32 := Scalar.muli v2230 c1_i32_970
  let v2232 : BitVec 32 := Scalar.addi c0_i32_969 v2231
  let c1_i32_972 : BitVec 32 := 1#32
  let arg28 : BitVec 32 := Scf.iv v2232 c1_i32_972 k0_t2
  let c1_i32_967 : BitVec 32 := 1#32
  let v2527 : BitVec 32 := Scalar.muli arg28 c1_i32_967
  let v2528 : BitVec 32 := Scalar.addi c0_i32_968 v2527
  let v2529 : BitVec 32 := Scalar.muli c2_i32_1115 v2528
  let v2530 : BitVec 32 := Scalar.addi v1292 v2529
  let c1_i32_1167 : BitVec 32 := 1#32
  let v2593 : BitVec 32 := Scalar.addi v2530 c1_i32_1167
  let c0_i32_1178 : BitVec 32 := 0#32
  let v2609 : BitVec 32 := Scalar.maxsi v2593 c0_i32_1178
  let v2615 : Index := Scalar.indexCast v2609
  let c0_1186 : Index := 0#32
  let c0_1187 : Index := 0#32
  ![0, 1, v2615.toNat, 0, 0]
def k0_off62 (i : grid0.Coords) (k0_t2 : Fin (k0_t2_loop i).trips) (c1_i32_1195 : BitVec 32) : Fin 4 → Nat :=
  let c0_1201 : Index := 0#32
  let arg1 : BitVec 32 := BitVec.ofNat 32 (i 1).val
  let c1_i32_1197 : BitVec 32 := 1#32
  let v2632 : BitVec 32 := Scalar.subi arg1 c1_i32_1197
  let c0_i32_1198 : BitVec 32 := 0#32
  let v2633 : BitVec 32 := Scalar.maxsi v2632 c0_i32_1198
  let c0_i32_1199 : BitVec 32 := 0#32
  let c2_i32_1194 : BitVec 32 := 2#32
  let c0_i32_968 : BitVec 32 := 0#32
  let c0_i32_969 : BitVec 32 := 0#32
  let c2_i32_954 : BitVec 32 := 2#32
  let v2205 : BitVec 32 := Scalar.addi arg1 c2_i32_954
  let c0_i32_956 : BitVec 32 := 0#32
  let v2207 : BitVec 1 := Scalar.cmpi .sgt v2205 c0_i32_956
  let v2208 : BitVec 32 := Scalar.extui v2207
  let c0_i32_957 : BitVec 32 := 0#32
  let v2209 : BitVec 1 := Scalar.cmpi .slt v2205 c0_i32_957
  let v2210 : BitVec 32 := Scalar.extui v2209
  let v2211 : BitVec 32 := Scalar.subi v2208 v2210
  let c2_i32_955 : BitVec 32 := 2#32
  let c0_i32_958 : BitVec 32 := 0#32
  let v2212 : BitVec 1 := Scalar.cmpi .sgt c2_i32_955 c0_i32_958
  let v2213 : BitVec 32 := Scalar.extui v2212
  let c0_i32_959 : BitVec 32 := 0#32
  let v2214 : BitVec 1 := Scalar.cmpi .slt c2_i32_955 c0_i32_959
  let v2215 : BitVec 32 := Scalar.extui v2214
  let v2216 : BitVec 32 := Scalar.subi v2213 v2215
  let v2217 : BitVec 1 := Scalar.cmpi .ne v2211 v2216
  let v2218 : BitVec 32 := Scalar.remsi v2205 c2_i32_955
  let c0_i32_960 : BitVec 32 := 0#32
  let v2219 : BitVec 1 := Scalar.cmpi .ne v2218 c0_i32_960
  let v2220 : BitVec 1 := Scalar.andi v2217 v2219
  let v2206 : BitVec 32 := Scalar.divsi v2205 c2_i32_955
  let c1_i32_961 : BitVec 32 := 1#32
  let v2221 : BitVec 32 := Scalar.subi v2206 c1_i32_961
  let v2222 : BitVec 32 := Scalar.select v2220 v2221 v2206
  let c1_i32_962 : BitVec 32 := 1#32
  let v2223 : BitVec 32 := Scalar.subi v2222 c1_i32_962
  let c0_i32_963 : BitVec 32 := 0#32
  let v2224 : BitVec 32 := Scalar.subi v2223 c0_i32_963
  let c1_i32_964 : BitVec 32 := 1#32
  let c1_i32_965 : BitVec 32 := 1#32
  let v2225 : BitVec 32 := Scalar.subi c1_i32_964 c1_i32_965
  let v2226 : BitVec 32 := Scalar.addi v2224 v2225
  let c1_i32_966 : BitVec 32 := 1#32
  let v2227 : BitVec 32 := Scalar.divsi v2226 c1_i32_966
  let v2228 : BitVec 32 := Scalar.subi v2227 c0_i32_969
  let c1_i32_970 : BitVec 32 := 1#32
  let v2230 : BitVec 32 := Scalar.divsi v2228 c1_i32_970
  let v2231 : BitVec 32 := Scalar.muli v2230 c1_i32_970
  let v2232 : BitVec 32 := Scalar.addi c0_i32_969 v2231
  let c1_i32_972 : BitVec 32 := 1#32
  let arg28 : BitVec 32 := Scf.iv v2232 c1_i32_972 k0_t2
  let c1_i32_967 : BitVec 32 := 1#32
  let v2527 : BitVec 32 := Scalar.muli arg28 c1_i32_967
  let v2528 : BitVec 32 := Scalar.addi c0_i32_968 v2527
  let c1_i32_1193 : BitVec 32 := 1#32
  let v2628 : BitVec 32 := Scalar.addi v2528 c1_i32_1193
  let v2629 : BitVec 32 := Scalar.muli c2_i32_1194 v2628
  let v2630 : BitVec 32 := Scalar.addi v2629 c1_i32_1195
  let c1_i32_1196 : BitVec 32 := 1#32
  let v2631 : BitVec 32 := Scalar.subi v2630 c1_i32_1196
  let v2634 : BitVec 32 := Scalar.maxsi c0_i32_1199 v2631
  let v2635 : BitVec 32 := Scalar.minsi v2633 v2634
  let v2638 : Index := Scalar.indexCast v2635
  let c0_1202 : Index := 0#32
  let c0_1203 : Index := 0#32
  ![0, v2638.toNat, 0, 0]
def k0_off63 (i : grid0.Coords) (k0_t2 : Fin (k0_t2_loop i).trips) (c1_i32_1195 : BitVec 32) : Fin 4 → Nat :=
  let c0_1209 : Index := 0#32
  let arg1 : BitVec 32 := BitVec.ofNat 32 (i 1).val
  let c1_i32_1197 : BitVec 32 := 1#32
  let v2632 : BitVec 32 := Scalar.subi arg1 c1_i32_1197
  let c0_i32_1198 : BitVec 32 := 0#32
  let v2633 : BitVec 32 := Scalar.maxsi v2632 c0_i32_1198
  let c0_i32_1199 : BitVec 32 := 0#32
  let c2_i32_1194 : BitVec 32 := 2#32
  let c0_i32_968 : BitVec 32 := 0#32
  let c0_i32_969 : BitVec 32 := 0#32
  let c2_i32_954 : BitVec 32 := 2#32
  let v2205 : BitVec 32 := Scalar.addi arg1 c2_i32_954
  let c0_i32_956 : BitVec 32 := 0#32
  let v2207 : BitVec 1 := Scalar.cmpi .sgt v2205 c0_i32_956
  let v2208 : BitVec 32 := Scalar.extui v2207
  let c0_i32_957 : BitVec 32 := 0#32
  let v2209 : BitVec 1 := Scalar.cmpi .slt v2205 c0_i32_957
  let v2210 : BitVec 32 := Scalar.extui v2209
  let v2211 : BitVec 32 := Scalar.subi v2208 v2210
  let c2_i32_955 : BitVec 32 := 2#32
  let c0_i32_958 : BitVec 32 := 0#32
  let v2212 : BitVec 1 := Scalar.cmpi .sgt c2_i32_955 c0_i32_958
  let v2213 : BitVec 32 := Scalar.extui v2212
  let c0_i32_959 : BitVec 32 := 0#32
  let v2214 : BitVec 1 := Scalar.cmpi .slt c2_i32_955 c0_i32_959
  let v2215 : BitVec 32 := Scalar.extui v2214
  let v2216 : BitVec 32 := Scalar.subi v2213 v2215
  let v2217 : BitVec 1 := Scalar.cmpi .ne v2211 v2216
  let v2218 : BitVec 32 := Scalar.remsi v2205 c2_i32_955
  let c0_i32_960 : BitVec 32 := 0#32
  let v2219 : BitVec 1 := Scalar.cmpi .ne v2218 c0_i32_960
  let v2220 : BitVec 1 := Scalar.andi v2217 v2219
  let v2206 : BitVec 32 := Scalar.divsi v2205 c2_i32_955
  let c1_i32_961 : BitVec 32 := 1#32
  let v2221 : BitVec 32 := Scalar.subi v2206 c1_i32_961
  let v2222 : BitVec 32 := Scalar.select v2220 v2221 v2206
  let c1_i32_962 : BitVec 32 := 1#32
  let v2223 : BitVec 32 := Scalar.subi v2222 c1_i32_962
  let c0_i32_963 : BitVec 32 := 0#32
  let v2224 : BitVec 32 := Scalar.subi v2223 c0_i32_963
  let c1_i32_964 : BitVec 32 := 1#32
  let c1_i32_965 : BitVec 32 := 1#32
  let v2225 : BitVec 32 := Scalar.subi c1_i32_964 c1_i32_965
  let v2226 : BitVec 32 := Scalar.addi v2224 v2225
  let c1_i32_966 : BitVec 32 := 1#32
  let v2227 : BitVec 32 := Scalar.divsi v2226 c1_i32_966
  let v2228 : BitVec 32 := Scalar.subi v2227 c0_i32_969
  let c1_i32_970 : BitVec 32 := 1#32
  let v2230 : BitVec 32 := Scalar.divsi v2228 c1_i32_970
  let v2231 : BitVec 32 := Scalar.muli v2230 c1_i32_970
  let v2232 : BitVec 32 := Scalar.addi c0_i32_969 v2231
  let c1_i32_972 : BitVec 32 := 1#32
  let arg28 : BitVec 32 := Scf.iv v2232 c1_i32_972 k0_t2
  let c1_i32_967 : BitVec 32 := 1#32
  let v2527 : BitVec 32 := Scalar.muli arg28 c1_i32_967
  let v2528 : BitVec 32 := Scalar.addi c0_i32_968 v2527
  let c1_i32_1193 : BitVec 32 := 1#32
  let v2628 : BitVec 32 := Scalar.addi v2528 c1_i32_1193
  let v2629 : BitVec 32 := Scalar.muli c2_i32_1194 v2628
  let v2630 : BitVec 32 := Scalar.addi v2629 c1_i32_1195
  let c1_i32_1196 : BitVec 32 := 1#32
  let v2631 : BitVec 32 := Scalar.subi v2630 c1_i32_1196
  let v2634 : BitVec 32 := Scalar.maxsi c0_i32_1199 v2631
  let v2635 : BitVec 32 := Scalar.minsi v2633 v2634
  let v2648 : Index := Scalar.indexCast v2635
  let c0_1210 : Index := 0#32
  let c256_1211 : Index := 256#32
  ![0, v2648.toNat, 0, 256]
def k0_off64 (i : grid0.Coords) (k0_t2 : Fin (k0_t2_loop i).trips) (c1_i32_1195 : BitVec 32) : Fin 4 → Nat :=
  let c0_1217 : Index := 0#32
  let arg1 : BitVec 32 := BitVec.ofNat 32 (i 1).val
  let c1_i32_1197 : BitVec 32 := 1#32
  let v2632 : BitVec 32 := Scalar.subi arg1 c1_i32_1197
  let c0_i32_1198 : BitVec 32 := 0#32
  let v2633 : BitVec 32 := Scalar.maxsi v2632 c0_i32_1198
  let c0_i32_1199 : BitVec 32 := 0#32
  let c2_i32_1194 : BitVec 32 := 2#32
  let c0_i32_968 : BitVec 32 := 0#32
  let c0_i32_969 : BitVec 32 := 0#32
  let c2_i32_954 : BitVec 32 := 2#32
  let v2205 : BitVec 32 := Scalar.addi arg1 c2_i32_954
  let c0_i32_956 : BitVec 32 := 0#32
  let v2207 : BitVec 1 := Scalar.cmpi .sgt v2205 c0_i32_956
  let v2208 : BitVec 32 := Scalar.extui v2207
  let c0_i32_957 : BitVec 32 := 0#32
  let v2209 : BitVec 1 := Scalar.cmpi .slt v2205 c0_i32_957
  let v2210 : BitVec 32 := Scalar.extui v2209
  let v2211 : BitVec 32 := Scalar.subi v2208 v2210
  let c2_i32_955 : BitVec 32 := 2#32
  let c0_i32_958 : BitVec 32 := 0#32
  let v2212 : BitVec 1 := Scalar.cmpi .sgt c2_i32_955 c0_i32_958
  let v2213 : BitVec 32 := Scalar.extui v2212
  let c0_i32_959 : BitVec 32 := 0#32
  let v2214 : BitVec 1 := Scalar.cmpi .slt c2_i32_955 c0_i32_959
  let v2215 : BitVec 32 := Scalar.extui v2214
  let v2216 : BitVec 32 := Scalar.subi v2213 v2215
  let v2217 : BitVec 1 := Scalar.cmpi .ne v2211 v2216
  let v2218 : BitVec 32 := Scalar.remsi v2205 c2_i32_955
  let c0_i32_960 : BitVec 32 := 0#32
  let v2219 : BitVec 1 := Scalar.cmpi .ne v2218 c0_i32_960
  let v2220 : BitVec 1 := Scalar.andi v2217 v2219
  let v2206 : BitVec 32 := Scalar.divsi v2205 c2_i32_955
  let c1_i32_961 : BitVec 32 := 1#32
  let v2221 : BitVec 32 := Scalar.subi v2206 c1_i32_961
  let v2222 : BitVec 32 := Scalar.select v2220 v2221 v2206
  let c1_i32_962 : BitVec 32 := 1#32
  let v2223 : BitVec 32 := Scalar.subi v2222 c1_i32_962
  let c0_i32_963 : BitVec 32 := 0#32
  let v2224 : BitVec 32 := Scalar.subi v2223 c0_i32_963
  let c1_i32_964 : BitVec 32 := 1#32
  let c1_i32_965 : BitVec 32 := 1#32
  let v2225 : BitVec 32 := Scalar.subi c1_i32_964 c1_i32_965
  let v2226 : BitVec 32 := Scalar.addi v2224 v2225
  let c1_i32_966 : BitVec 32 := 1#32
  let v2227 : BitVec 32 := Scalar.divsi v2226 c1_i32_966
  let v2228 : BitVec 32 := Scalar.subi v2227 c0_i32_969
  let c1_i32_970 : BitVec 32 := 1#32
  let v2230 : BitVec 32 := Scalar.divsi v2228 c1_i32_970
  let v2231 : BitVec 32 := Scalar.muli v2230 c1_i32_970
  let v2232 : BitVec 32 := Scalar.addi c0_i32_969 v2231
  let c1_i32_972 : BitVec 32 := 1#32
  let arg28 : BitVec 32 := Scf.iv v2232 c1_i32_972 k0_t2
  let c1_i32_967 : BitVec 32 := 1#32
  let v2527 : BitVec 32 := Scalar.muli arg28 c1_i32_967
  let v2528 : BitVec 32 := Scalar.addi c0_i32_968 v2527
  let c1_i32_1193 : BitVec 32 := 1#32
  let v2628 : BitVec 32 := Scalar.addi v2528 c1_i32_1193
  let v2629 : BitVec 32 := Scalar.muli c2_i32_1194 v2628
  let v2630 : BitVec 32 := Scalar.addi v2629 c1_i32_1195
  let c1_i32_1196 : BitVec 32 := 1#32
  let v2631 : BitVec 32 := Scalar.subi v2630 c1_i32_1196
  let v2634 : BitVec 32 := Scalar.maxsi c0_i32_1199 v2631
  let v2635 : BitVec 32 := Scalar.minsi v2633 v2634
  let v2658 : Index := Scalar.indexCast v2635
  let c0_1218 : Index := 0#32
  let c512_1219 : Index := 512#32
  ![0, v2658.toNat, 0, 512]
def k0_off65 (i : grid0.Coords) (k0_t2 : Fin (k0_t2_loop i).trips) (c1_i32_1195 : BitVec 32) : Fin 4 → Nat :=
  let c0_1225 : Index := 0#32
  let arg1 : BitVec 32 := BitVec.ofNat 32 (i 1).val
  let c1_i32_1197 : BitVec 32 := 1#32
  let v2632 : BitVec 32 := Scalar.subi arg1 c1_i32_1197
  let c0_i32_1198 : BitVec 32 := 0#32
  let v2633 : BitVec 32 := Scalar.maxsi v2632 c0_i32_1198
  let c0_i32_1199 : BitVec 32 := 0#32
  let c2_i32_1194 : BitVec 32 := 2#32
  let c0_i32_968 : BitVec 32 := 0#32
  let c0_i32_969 : BitVec 32 := 0#32
  let c2_i32_954 : BitVec 32 := 2#32
  let v2205 : BitVec 32 := Scalar.addi arg1 c2_i32_954
  let c0_i32_956 : BitVec 32 := 0#32
  let v2207 : BitVec 1 := Scalar.cmpi .sgt v2205 c0_i32_956
  let v2208 : BitVec 32 := Scalar.extui v2207
  let c0_i32_957 : BitVec 32 := 0#32
  let v2209 : BitVec 1 := Scalar.cmpi .slt v2205 c0_i32_957
  let v2210 : BitVec 32 := Scalar.extui v2209
  let v2211 : BitVec 32 := Scalar.subi v2208 v2210
  let c2_i32_955 : BitVec 32 := 2#32
  let c0_i32_958 : BitVec 32 := 0#32
  let v2212 : BitVec 1 := Scalar.cmpi .sgt c2_i32_955 c0_i32_958
  let v2213 : BitVec 32 := Scalar.extui v2212
  let c0_i32_959 : BitVec 32 := 0#32
  let v2214 : BitVec 1 := Scalar.cmpi .slt c2_i32_955 c0_i32_959
  let v2215 : BitVec 32 := Scalar.extui v2214
  let v2216 : BitVec 32 := Scalar.subi v2213 v2215
  let v2217 : BitVec 1 := Scalar.cmpi .ne v2211 v2216
  let v2218 : BitVec 32 := Scalar.remsi v2205 c2_i32_955
  let c0_i32_960 : BitVec 32 := 0#32
  let v2219 : BitVec 1 := Scalar.cmpi .ne v2218 c0_i32_960
  let v2220 : BitVec 1 := Scalar.andi v2217 v2219
  let v2206 : BitVec 32 := Scalar.divsi v2205 c2_i32_955
  let c1_i32_961 : BitVec 32 := 1#32
  let v2221 : BitVec 32 := Scalar.subi v2206 c1_i32_961
  let v2222 : BitVec 32 := Scalar.select v2220 v2221 v2206
  let c1_i32_962 : BitVec 32 := 1#32
  let v2223 : BitVec 32 := Scalar.subi v2222 c1_i32_962
  let c0_i32_963 : BitVec 32 := 0#32
  let v2224 : BitVec 32 := Scalar.subi v2223 c0_i32_963
  let c1_i32_964 : BitVec 32 := 1#32
  let c1_i32_965 : BitVec 32 := 1#32
  let v2225 : BitVec 32 := Scalar.subi c1_i32_964 c1_i32_965
  let v2226 : BitVec 32 := Scalar.addi v2224 v2225
  let c1_i32_966 : BitVec 32 := 1#32
  let v2227 : BitVec 32 := Scalar.divsi v2226 c1_i32_966
  let v2228 : BitVec 32 := Scalar.subi v2227 c0_i32_969
  let c1_i32_970 : BitVec 32 := 1#32
  let v2230 : BitVec 32 := Scalar.divsi v2228 c1_i32_970
  let v2231 : BitVec 32 := Scalar.muli v2230 c1_i32_970
  let v2232 : BitVec 32 := Scalar.addi c0_i32_969 v2231
  let c1_i32_972 : BitVec 32 := 1#32
  let arg28 : BitVec 32 := Scf.iv v2232 c1_i32_972 k0_t2
  let c1_i32_967 : BitVec 32 := 1#32
  let v2527 : BitVec 32 := Scalar.muli arg28 c1_i32_967
  let v2528 : BitVec 32 := Scalar.addi c0_i32_968 v2527
  let c1_i32_1193 : BitVec 32 := 1#32
  let v2628 : BitVec 32 := Scalar.addi v2528 c1_i32_1193
  let v2629 : BitVec 32 := Scalar.muli c2_i32_1194 v2628
  let v2630 : BitVec 32 := Scalar.addi v2629 c1_i32_1195
  let c1_i32_1196 : BitVec 32 := 1#32
  let v2631 : BitVec 32 := Scalar.subi v2630 c1_i32_1196
  let v2634 : BitVec 32 := Scalar.maxsi c0_i32_1199 v2631
  let v2635 : BitVec 32 := Scalar.minsi v2633 v2634
  let v2668 : Index := Scalar.indexCast v2635
  let c0_1226 : Index := 0#32
  let c768_1227 : Index := 768#32
  ![0, v2668.toNat, 0, 768]
def k0_off66 (i : grid0.Coords) (k0_t2 : Fin (k0_t2_loop i).trips) : Fin 5 → Nat :=
  let c0_1255 : Index := 0#32
  let c0_1256 : Index := 0#32
  let arg1 : BitVec 32 := BitVec.ofNat 32 (i 1).val
  let c1_i32_1242 : BitVec 32 := 1#32
  let v2689 : BitVec 32 := Scalar.subi arg1 c1_i32_1242
  let c0_i32_1243 : BitVec 32 := 0#32
  let v2690 : BitVec 32 := Scalar.maxsi v2689 c0_i32_1243
  let c0_i32_1244 : BitVec 32 := 0#32
  let c2_i32_1240 : BitVec 32 := 2#32
  let c0_i32_968 : BitVec 32 := 0#32
  let c0_i32_969 : BitVec 32 := 0#32
  let c2_i32_954 : BitVec 32 := 2#32
  let v2205 : BitVec 32 := Scalar.addi arg1 c2_i32_954
  let c0_i32_956 : BitVec 32 := 0#32
  let v2207 : BitVec 1 := Scalar.cmpi .sgt v2205 c0_i32_956
  let v2208 : BitVec 32 := Scalar.extui v2207
  let c0_i32_957 : BitVec 32 := 0#32
  let v2209 : BitVec 1 := Scalar.cmpi .slt v2205 c0_i32_957
  let v2210 : BitVec 32 := Scalar.extui v2209
  let v2211 : BitVec 32 := Scalar.subi v2208 v2210
  let c2_i32_955 : BitVec 32 := 2#32
  let c0_i32_958 : BitVec 32 := 0#32
  let v2212 : BitVec 1 := Scalar.cmpi .sgt c2_i32_955 c0_i32_958
  let v2213 : BitVec 32 := Scalar.extui v2212
  let c0_i32_959 : BitVec 32 := 0#32
  let v2214 : BitVec 1 := Scalar.cmpi .slt c2_i32_955 c0_i32_959
  let v2215 : BitVec 32 := Scalar.extui v2214
  let v2216 : BitVec 32 := Scalar.subi v2213 v2215
  let v2217 : BitVec 1 := Scalar.cmpi .ne v2211 v2216
  let v2218 : BitVec 32 := Scalar.remsi v2205 c2_i32_955
  let c0_i32_960 : BitVec 32 := 0#32
  let v2219 : BitVec 1 := Scalar.cmpi .ne v2218 c0_i32_960
  let v2220 : BitVec 1 := Scalar.andi v2217 v2219
  let v2206 : BitVec 32 := Scalar.divsi v2205 c2_i32_955
  let c1_i32_961 : BitVec 32 := 1#32
  let v2221 : BitVec 32 := Scalar.subi v2206 c1_i32_961
  let v2222 : BitVec 32 := Scalar.select v2220 v2221 v2206
  let c1_i32_962 : BitVec 32 := 1#32
  let v2223 : BitVec 32 := Scalar.subi v2222 c1_i32_962
  let c0_i32_963 : BitVec 32 := 0#32
  let v2224 : BitVec 32 := Scalar.subi v2223 c0_i32_963
  let c1_i32_964 : BitVec 32 := 1#32
  let c1_i32_965 : BitVec 32 := 1#32
  let v2225 : BitVec 32 := Scalar.subi c1_i32_964 c1_i32_965
  let v2226 : BitVec 32 := Scalar.addi v2224 v2225
  let c1_i32_966 : BitVec 32 := 1#32
  let v2227 : BitVec 32 := Scalar.divsi v2226 c1_i32_966
  let v2228 : BitVec 32 := Scalar.subi v2227 c0_i32_969
  let c1_i32_970 : BitVec 32 := 1#32
  let v2230 : BitVec 32 := Scalar.divsi v2228 c1_i32_970
  let v2231 : BitVec 32 := Scalar.muli v2230 c1_i32_970
  let v2232 : BitVec 32 := Scalar.addi c0_i32_969 v2231
  let c1_i32_972 : BitVec 32 := 1#32
  let arg28 : BitVec 32 := Scf.iv v2232 c1_i32_972 k0_t2
  let c1_i32_967 : BitVec 32 := 1#32
  let v2527 : BitVec 32 := Scalar.muli arg28 c1_i32_967
  let v2528 : BitVec 32 := Scalar.addi c0_i32_968 v2527
  let c1_i32_1193 : BitVec 32 := 1#32
  let v2628 : BitVec 32 := Scalar.addi v2528 c1_i32_1193
  let v2687 : BitVec 32 := Scalar.muli c2_i32_1240 v2628
  let c1_i32_1241 : BitVec 32 := 1#32
  let v2688 : BitVec 32 := Scalar.subi v2687 c1_i32_1241
  let v2691 : BitVec 32 := Scalar.maxsi c0_i32_1244 v2688
  let v2692 : BitVec 32 := Scalar.minsi v2690 v2691
  let v2708 : Index := Scalar.indexCast v2692
  let c0_1257 : Index := 0#32
  let c0_1258 : Index := 0#32
  ![0, 0, v2708.toNat, 0, 0]
def k0_off67 (i : grid0.Coords) (k0_t2 : Fin (k0_t2_loop i).trips) : Fin 5 → Nat :=
  let c0_1260 : Index := 0#32
  let c1_1261 : Index := 1#32
  let arg1 : BitVec 32 := BitVec.ofNat 32 (i 1).val
  let c1_i32_1242 : BitVec 32 := 1#32
  let v2689 : BitVec 32 := Scalar.subi arg1 c1_i32_1242
  let c0_i32_1243 : BitVec 32 := 0#32
  let v2690 : BitVec 32 := Scalar.maxsi v2689 c0_i32_1243
  let c0_i32_1244 : BitVec 32 := 0#32
  let c2_i32_1240 : BitVec 32 := 2#32
  let c0_i32_968 : BitVec 32 := 0#32
  let c0_i32_969 : BitVec 32 := 0#32
  let c2_i32_954 : BitVec 32 := 2#32
  let v2205 : BitVec 32 := Scalar.addi arg1 c2_i32_954
  let c0_i32_956 : BitVec 32 := 0#32
  let v2207 : BitVec 1 := Scalar.cmpi .sgt v2205 c0_i32_956
  let v2208 : BitVec 32 := Scalar.extui v2207
  let c0_i32_957 : BitVec 32 := 0#32
  let v2209 : BitVec 1 := Scalar.cmpi .slt v2205 c0_i32_957
  let v2210 : BitVec 32 := Scalar.extui v2209
  let v2211 : BitVec 32 := Scalar.subi v2208 v2210
  let c2_i32_955 : BitVec 32 := 2#32
  let c0_i32_958 : BitVec 32 := 0#32
  let v2212 : BitVec 1 := Scalar.cmpi .sgt c2_i32_955 c0_i32_958
  let v2213 : BitVec 32 := Scalar.extui v2212
  let c0_i32_959 : BitVec 32 := 0#32
  let v2214 : BitVec 1 := Scalar.cmpi .slt c2_i32_955 c0_i32_959
  let v2215 : BitVec 32 := Scalar.extui v2214
  let v2216 : BitVec 32 := Scalar.subi v2213 v2215
  let v2217 : BitVec 1 := Scalar.cmpi .ne v2211 v2216
  let v2218 : BitVec 32 := Scalar.remsi v2205 c2_i32_955
  let c0_i32_960 : BitVec 32 := 0#32
  let v2219 : BitVec 1 := Scalar.cmpi .ne v2218 c0_i32_960
  let v2220 : BitVec 1 := Scalar.andi v2217 v2219
  let v2206 : BitVec 32 := Scalar.divsi v2205 c2_i32_955
  let c1_i32_961 : BitVec 32 := 1#32
  let v2221 : BitVec 32 := Scalar.subi v2206 c1_i32_961
  let v2222 : BitVec 32 := Scalar.select v2220 v2221 v2206
  let c1_i32_962 : BitVec 32 := 1#32
  let v2223 : BitVec 32 := Scalar.subi v2222 c1_i32_962
  let c0_i32_963 : BitVec 32 := 0#32
  let v2224 : BitVec 32 := Scalar.subi v2223 c0_i32_963
  let c1_i32_964 : BitVec 32 := 1#32
  let c1_i32_965 : BitVec 32 := 1#32
  let v2225 : BitVec 32 := Scalar.subi c1_i32_964 c1_i32_965
  let v2226 : BitVec 32 := Scalar.addi v2224 v2225
  let c1_i32_966 : BitVec 32 := 1#32
  let v2227 : BitVec 32 := Scalar.divsi v2226 c1_i32_966
  let v2228 : BitVec 32 := Scalar.subi v2227 c0_i32_969
  let c1_i32_970 : BitVec 32 := 1#32
  let v2230 : BitVec 32 := Scalar.divsi v2228 c1_i32_970
  let v2231 : BitVec 32 := Scalar.muli v2230 c1_i32_970
  let v2232 : BitVec 32 := Scalar.addi c0_i32_969 v2231
  let c1_i32_972 : BitVec 32 := 1#32
  let arg28 : BitVec 32 := Scf.iv v2232 c1_i32_972 k0_t2
  let c1_i32_967 : BitVec 32 := 1#32
  let v2527 : BitVec 32 := Scalar.muli arg28 c1_i32_967
  let v2528 : BitVec 32 := Scalar.addi c0_i32_968 v2527
  let c1_i32_1193 : BitVec 32 := 1#32
  let v2628 : BitVec 32 := Scalar.addi v2528 c1_i32_1193
  let v2687 : BitVec 32 := Scalar.muli c2_i32_1240 v2628
  let c1_i32_1241 : BitVec 32 := 1#32
  let v2688 : BitVec 32 := Scalar.subi v2687 c1_i32_1241
  let v2691 : BitVec 32 := Scalar.maxsi c0_i32_1244 v2688
  let v2692 : BitVec 32 := Scalar.minsi v2690 v2691
  let v2713 : Index := Scalar.indexCast v2692
  let c0_1262 : Index := 0#32
  let c0_1263 : Index := 0#32
  ![0, 1, v2713.toNat, 0, 0]
def k0_off68 (i : grid0.Coords) (k0_t2 : Fin (k0_t2_loop i).trips) : Fin 5 → Nat :=
  let c0_1265 : Index := 0#32
  let c2_1266 : Index := 2#32
  let arg1 : BitVec 32 := BitVec.ofNat 32 (i 1).val
  let c1_i32_1242 : BitVec 32 := 1#32
  let v2689 : BitVec 32 := Scalar.subi arg1 c1_i32_1242
  let c0_i32_1243 : BitVec 32 := 0#32
  let v2690 : BitVec 32 := Scalar.maxsi v2689 c0_i32_1243
  let c0_i32_1244 : BitVec 32 := 0#32
  let c2_i32_1240 : BitVec 32 := 2#32
  let c0_i32_968 : BitVec 32 := 0#32
  let c0_i32_969 : BitVec 32 := 0#32
  let c2_i32_954 : BitVec 32 := 2#32
  let v2205 : BitVec 32 := Scalar.addi arg1 c2_i32_954
  let c0_i32_956 : BitVec 32 := 0#32
  let v2207 : BitVec 1 := Scalar.cmpi .sgt v2205 c0_i32_956
  let v2208 : BitVec 32 := Scalar.extui v2207
  let c0_i32_957 : BitVec 32 := 0#32
  let v2209 : BitVec 1 := Scalar.cmpi .slt v2205 c0_i32_957
  let v2210 : BitVec 32 := Scalar.extui v2209
  let v2211 : BitVec 32 := Scalar.subi v2208 v2210
  let c2_i32_955 : BitVec 32 := 2#32
  let c0_i32_958 : BitVec 32 := 0#32
  let v2212 : BitVec 1 := Scalar.cmpi .sgt c2_i32_955 c0_i32_958
  let v2213 : BitVec 32 := Scalar.extui v2212
  let c0_i32_959 : BitVec 32 := 0#32
  let v2214 : BitVec 1 := Scalar.cmpi .slt c2_i32_955 c0_i32_959
  let v2215 : BitVec 32 := Scalar.extui v2214
  let v2216 : BitVec 32 := Scalar.subi v2213 v2215
  let v2217 : BitVec 1 := Scalar.cmpi .ne v2211 v2216
  let v2218 : BitVec 32 := Scalar.remsi v2205 c2_i32_955
  let c0_i32_960 : BitVec 32 := 0#32
  let v2219 : BitVec 1 := Scalar.cmpi .ne v2218 c0_i32_960
  let v2220 : BitVec 1 := Scalar.andi v2217 v2219
  let v2206 : BitVec 32 := Scalar.divsi v2205 c2_i32_955
  let c1_i32_961 : BitVec 32 := 1#32
  let v2221 : BitVec 32 := Scalar.subi v2206 c1_i32_961
  let v2222 : BitVec 32 := Scalar.select v2220 v2221 v2206
  let c1_i32_962 : BitVec 32 := 1#32
  let v2223 : BitVec 32 := Scalar.subi v2222 c1_i32_962
  let c0_i32_963 : BitVec 32 := 0#32
  let v2224 : BitVec 32 := Scalar.subi v2223 c0_i32_963
  let c1_i32_964 : BitVec 32 := 1#32
  let c1_i32_965 : BitVec 32 := 1#32
  let v2225 : BitVec 32 := Scalar.subi c1_i32_964 c1_i32_965
  let v2226 : BitVec 32 := Scalar.addi v2224 v2225
  let c1_i32_966 : BitVec 32 := 1#32
  let v2227 : BitVec 32 := Scalar.divsi v2226 c1_i32_966
  let v2228 : BitVec 32 := Scalar.subi v2227 c0_i32_969
  let c1_i32_970 : BitVec 32 := 1#32
  let v2230 : BitVec 32 := Scalar.divsi v2228 c1_i32_970
  let v2231 : BitVec 32 := Scalar.muli v2230 c1_i32_970
  let v2232 : BitVec 32 := Scalar.addi c0_i32_969 v2231
  let c1_i32_972 : BitVec 32 := 1#32
  let arg28 : BitVec 32 := Scf.iv v2232 c1_i32_972 k0_t2
  let c1_i32_967 : BitVec 32 := 1#32
  let v2527 : BitVec 32 := Scalar.muli arg28 c1_i32_967
  let v2528 : BitVec 32 := Scalar.addi c0_i32_968 v2527
  let c1_i32_1193 : BitVec 32 := 1#32
  let v2628 : BitVec 32 := Scalar.addi v2528 c1_i32_1193
  let v2687 : BitVec 32 := Scalar.muli c2_i32_1240 v2628
  let c1_i32_1241 : BitVec 32 := 1#32
  let v2688 : BitVec 32 := Scalar.subi v2687 c1_i32_1241
  let v2691 : BitVec 32 := Scalar.maxsi c0_i32_1244 v2688
  let v2692 : BitVec 32 := Scalar.minsi v2690 v2691
  let v2718 : Index := Scalar.indexCast v2692
  let c0_1267 : Index := 0#32
  let c0_1268 : Index := 0#32
  ![0, 2, v2718.toNat, 0, 0]
def k0_off69 (i : grid0.Coords) (k0_t2 : Fin (k0_t2_loop i).trips) : Fin 5 → Nat :=
  let c0_1270 : Index := 0#32
  let c3_1271 : Index := 3#32
  let arg1 : BitVec 32 := BitVec.ofNat 32 (i 1).val
  let c1_i32_1242 : BitVec 32 := 1#32
  let v2689 : BitVec 32 := Scalar.subi arg1 c1_i32_1242
  let c0_i32_1243 : BitVec 32 := 0#32
  let v2690 : BitVec 32 := Scalar.maxsi v2689 c0_i32_1243
  let c0_i32_1244 : BitVec 32 := 0#32
  let c2_i32_1240 : BitVec 32 := 2#32
  let c0_i32_968 : BitVec 32 := 0#32
  let c0_i32_969 : BitVec 32 := 0#32
  let c2_i32_954 : BitVec 32 := 2#32
  let v2205 : BitVec 32 := Scalar.addi arg1 c2_i32_954
  let c0_i32_956 : BitVec 32 := 0#32
  let v2207 : BitVec 1 := Scalar.cmpi .sgt v2205 c0_i32_956
  let v2208 : BitVec 32 := Scalar.extui v2207
  let c0_i32_957 : BitVec 32 := 0#32
  let v2209 : BitVec 1 := Scalar.cmpi .slt v2205 c0_i32_957
  let v2210 : BitVec 32 := Scalar.extui v2209
  let v2211 : BitVec 32 := Scalar.subi v2208 v2210
  let c2_i32_955 : BitVec 32 := 2#32
  let c0_i32_958 : BitVec 32 := 0#32
  let v2212 : BitVec 1 := Scalar.cmpi .sgt c2_i32_955 c0_i32_958
  let v2213 : BitVec 32 := Scalar.extui v2212
  let c0_i32_959 : BitVec 32 := 0#32
  let v2214 : BitVec 1 := Scalar.cmpi .slt c2_i32_955 c0_i32_959
  let v2215 : BitVec 32 := Scalar.extui v2214
  let v2216 : BitVec 32 := Scalar.subi v2213 v2215
  let v2217 : BitVec 1 := Scalar.cmpi .ne v2211 v2216
  let v2218 : BitVec 32 := Scalar.remsi v2205 c2_i32_955
  let c0_i32_960 : BitVec 32 := 0#32
  let v2219 : BitVec 1 := Scalar.cmpi .ne v2218 c0_i32_960
  let v2220 : BitVec 1 := Scalar.andi v2217 v2219
  let v2206 : BitVec 32 := Scalar.divsi v2205 c2_i32_955
  let c1_i32_961 : BitVec 32 := 1#32
  let v2221 : BitVec 32 := Scalar.subi v2206 c1_i32_961
  let v2222 : BitVec 32 := Scalar.select v2220 v2221 v2206
  let c1_i32_962 : BitVec 32 := 1#32
  let v2223 : BitVec 32 := Scalar.subi v2222 c1_i32_962
  let c0_i32_963 : BitVec 32 := 0#32
  let v2224 : BitVec 32 := Scalar.subi v2223 c0_i32_963
  let c1_i32_964 : BitVec 32 := 1#32
  let c1_i32_965 : BitVec 32 := 1#32
  let v2225 : BitVec 32 := Scalar.subi c1_i32_964 c1_i32_965
  let v2226 : BitVec 32 := Scalar.addi v2224 v2225
  let c1_i32_966 : BitVec 32 := 1#32
  let v2227 : BitVec 32 := Scalar.divsi v2226 c1_i32_966
  let v2228 : BitVec 32 := Scalar.subi v2227 c0_i32_969
  let c1_i32_970 : BitVec 32 := 1#32
  let v2230 : BitVec 32 := Scalar.divsi v2228 c1_i32_970
  let v2231 : BitVec 32 := Scalar.muli v2230 c1_i32_970
  let v2232 : BitVec 32 := Scalar.addi c0_i32_969 v2231
  let c1_i32_972 : BitVec 32 := 1#32
  let arg28 : BitVec 32 := Scf.iv v2232 c1_i32_972 k0_t2
  let c1_i32_967 : BitVec 32 := 1#32
  let v2527 : BitVec 32 := Scalar.muli arg28 c1_i32_967
  let v2528 : BitVec 32 := Scalar.addi c0_i32_968 v2527
  let c1_i32_1193 : BitVec 32 := 1#32
  let v2628 : BitVec 32 := Scalar.addi v2528 c1_i32_1193
  let v2687 : BitVec 32 := Scalar.muli c2_i32_1240 v2628
  let c1_i32_1241 : BitVec 32 := 1#32
  let v2688 : BitVec 32 := Scalar.subi v2687 c1_i32_1241
  let v2691 : BitVec 32 := Scalar.maxsi c0_i32_1244 v2688
  let v2692 : BitVec 32 := Scalar.minsi v2690 v2691
  let v2723 : Index := Scalar.indexCast v2692
  let c0_1272 : Index := 0#32
  let c0_1273 : Index := 0#32
  ![0, 3, v2723.toNat, 0, 0]
def k0_off70 (i : grid0.Coords) (k0_t2 : Fin (k0_t2_loop i).trips) : Fin 5 → Nat :=
  let c0_1275 : Index := 0#32
  let c4_1276 : Index := 4#32
  let arg1 : BitVec 32 := BitVec.ofNat 32 (i 1).val
  let c1_i32_1242 : BitVec 32 := 1#32
  let v2689 : BitVec 32 := Scalar.subi arg1 c1_i32_1242
  let c0_i32_1243 : BitVec 32 := 0#32
  let v2690 : BitVec 32 := Scalar.maxsi v2689 c0_i32_1243
  let c0_i32_1244 : BitVec 32 := 0#32
  let c2_i32_1240 : BitVec 32 := 2#32
  let c0_i32_968 : BitVec 32 := 0#32
  let c0_i32_969 : BitVec 32 := 0#32
  let c2_i32_954 : BitVec 32 := 2#32
  let v2205 : BitVec 32 := Scalar.addi arg1 c2_i32_954
  let c0_i32_956 : BitVec 32 := 0#32
  let v2207 : BitVec 1 := Scalar.cmpi .sgt v2205 c0_i32_956
  let v2208 : BitVec 32 := Scalar.extui v2207
  let c0_i32_957 : BitVec 32 := 0#32
  let v2209 : BitVec 1 := Scalar.cmpi .slt v2205 c0_i32_957
  let v2210 : BitVec 32 := Scalar.extui v2209
  let v2211 : BitVec 32 := Scalar.subi v2208 v2210
  let c2_i32_955 : BitVec 32 := 2#32
  let c0_i32_958 : BitVec 32 := 0#32
  let v2212 : BitVec 1 := Scalar.cmpi .sgt c2_i32_955 c0_i32_958
  let v2213 : BitVec 32 := Scalar.extui v2212
  let c0_i32_959 : BitVec 32 := 0#32
  let v2214 : BitVec 1 := Scalar.cmpi .slt c2_i32_955 c0_i32_959
  let v2215 : BitVec 32 := Scalar.extui v2214
  let v2216 : BitVec 32 := Scalar.subi v2213 v2215
  let v2217 : BitVec 1 := Scalar.cmpi .ne v2211 v2216
  let v2218 : BitVec 32 := Scalar.remsi v2205 c2_i32_955
  let c0_i32_960 : BitVec 32 := 0#32
  let v2219 : BitVec 1 := Scalar.cmpi .ne v2218 c0_i32_960
  let v2220 : BitVec 1 := Scalar.andi v2217 v2219
  let v2206 : BitVec 32 := Scalar.divsi v2205 c2_i32_955
  let c1_i32_961 : BitVec 32 := 1#32
  let v2221 : BitVec 32 := Scalar.subi v2206 c1_i32_961
  let v2222 : BitVec 32 := Scalar.select v2220 v2221 v2206
  let c1_i32_962 : BitVec 32 := 1#32
  let v2223 : BitVec 32 := Scalar.subi v2222 c1_i32_962
  let c0_i32_963 : BitVec 32 := 0#32
  let v2224 : BitVec 32 := Scalar.subi v2223 c0_i32_963
  let c1_i32_964 : BitVec 32 := 1#32
  let c1_i32_965 : BitVec 32 := 1#32
  let v2225 : BitVec 32 := Scalar.subi c1_i32_964 c1_i32_965
  let v2226 : BitVec 32 := Scalar.addi v2224 v2225
  let c1_i32_966 : BitVec 32 := 1#32
  let v2227 : BitVec 32 := Scalar.divsi v2226 c1_i32_966
  let v2228 : BitVec 32 := Scalar.subi v2227 c0_i32_969
  let c1_i32_970 : BitVec 32 := 1#32
  let v2230 : BitVec 32 := Scalar.divsi v2228 c1_i32_970
  let v2231 : BitVec 32 := Scalar.muli v2230 c1_i32_970
  let v2232 : BitVec 32 := Scalar.addi c0_i32_969 v2231
  let c1_i32_972 : BitVec 32 := 1#32
  let arg28 : BitVec 32 := Scf.iv v2232 c1_i32_972 k0_t2
  let c1_i32_967 : BitVec 32 := 1#32
  let v2527 : BitVec 32 := Scalar.muli arg28 c1_i32_967
  let v2528 : BitVec 32 := Scalar.addi c0_i32_968 v2527
  let c1_i32_1193 : BitVec 32 := 1#32
  let v2628 : BitVec 32 := Scalar.addi v2528 c1_i32_1193
  let v2687 : BitVec 32 := Scalar.muli c2_i32_1240 v2628
  let c1_i32_1241 : BitVec 32 := 1#32
  let v2688 : BitVec 32 := Scalar.subi v2687 c1_i32_1241
  let v2691 : BitVec 32 := Scalar.maxsi c0_i32_1244 v2688
  let v2692 : BitVec 32 := Scalar.minsi v2690 v2691
  let v2728 : Index := Scalar.indexCast v2692
  let c0_1277 : Index := 0#32
  let c0_1278 : Index := 0#32
  ![0, 4, v2728.toNat, 0, 0]
def k0_off71 (i : grid0.Coords) (k0_t2 : Fin (k0_t2_loop i).trips) : Fin 5 → Nat :=
  let c0_1280 : Index := 0#32
  let c5_1281 : Index := 5#32
  let arg1 : BitVec 32 := BitVec.ofNat 32 (i 1).val
  let c1_i32_1242 : BitVec 32 := 1#32
  let v2689 : BitVec 32 := Scalar.subi arg1 c1_i32_1242
  let c0_i32_1243 : BitVec 32 := 0#32
  let v2690 : BitVec 32 := Scalar.maxsi v2689 c0_i32_1243
  let c0_i32_1244 : BitVec 32 := 0#32
  let c2_i32_1240 : BitVec 32 := 2#32
  let c0_i32_968 : BitVec 32 := 0#32
  let c0_i32_969 : BitVec 32 := 0#32
  let c2_i32_954 : BitVec 32 := 2#32
  let v2205 : BitVec 32 := Scalar.addi arg1 c2_i32_954
  let c0_i32_956 : BitVec 32 := 0#32
  let v2207 : BitVec 1 := Scalar.cmpi .sgt v2205 c0_i32_956
  let v2208 : BitVec 32 := Scalar.extui v2207
  let c0_i32_957 : BitVec 32 := 0#32
  let v2209 : BitVec 1 := Scalar.cmpi .slt v2205 c0_i32_957
  let v2210 : BitVec 32 := Scalar.extui v2209
  let v2211 : BitVec 32 := Scalar.subi v2208 v2210
  let c2_i32_955 : BitVec 32 := 2#32
  let c0_i32_958 : BitVec 32 := 0#32
  let v2212 : BitVec 1 := Scalar.cmpi .sgt c2_i32_955 c0_i32_958
  let v2213 : BitVec 32 := Scalar.extui v2212
  let c0_i32_959 : BitVec 32 := 0#32
  let v2214 : BitVec 1 := Scalar.cmpi .slt c2_i32_955 c0_i32_959
  let v2215 : BitVec 32 := Scalar.extui v2214
  let v2216 : BitVec 32 := Scalar.subi v2213 v2215
  let v2217 : BitVec 1 := Scalar.cmpi .ne v2211 v2216
  let v2218 : BitVec 32 := Scalar.remsi v2205 c2_i32_955
  let c0_i32_960 : BitVec 32 := 0#32
  let v2219 : BitVec 1 := Scalar.cmpi .ne v2218 c0_i32_960
  let v2220 : BitVec 1 := Scalar.andi v2217 v2219
  let v2206 : BitVec 32 := Scalar.divsi v2205 c2_i32_955
  let c1_i32_961 : BitVec 32 := 1#32
  let v2221 : BitVec 32 := Scalar.subi v2206 c1_i32_961
  let v2222 : BitVec 32 := Scalar.select v2220 v2221 v2206
  let c1_i32_962 : BitVec 32 := 1#32
  let v2223 : BitVec 32 := Scalar.subi v2222 c1_i32_962
  let c0_i32_963 : BitVec 32 := 0#32
  let v2224 : BitVec 32 := Scalar.subi v2223 c0_i32_963
  let c1_i32_964 : BitVec 32 := 1#32
  let c1_i32_965 : BitVec 32 := 1#32
  let v2225 : BitVec 32 := Scalar.subi c1_i32_964 c1_i32_965
  let v2226 : BitVec 32 := Scalar.addi v2224 v2225
  let c1_i32_966 : BitVec 32 := 1#32
  let v2227 : BitVec 32 := Scalar.divsi v2226 c1_i32_966
  let v2228 : BitVec 32 := Scalar.subi v2227 c0_i32_969
  let c1_i32_970 : BitVec 32 := 1#32
  let v2230 : BitVec 32 := Scalar.divsi v2228 c1_i32_970
  let v2231 : BitVec 32 := Scalar.muli v2230 c1_i32_970
  let v2232 : BitVec 32 := Scalar.addi c0_i32_969 v2231
  let c1_i32_972 : BitVec 32 := 1#32
  let arg28 : BitVec 32 := Scf.iv v2232 c1_i32_972 k0_t2
  let c1_i32_967 : BitVec 32 := 1#32
  let v2527 : BitVec 32 := Scalar.muli arg28 c1_i32_967
  let v2528 : BitVec 32 := Scalar.addi c0_i32_968 v2527
  let c1_i32_1193 : BitVec 32 := 1#32
  let v2628 : BitVec 32 := Scalar.addi v2528 c1_i32_1193
  let v2687 : BitVec 32 := Scalar.muli c2_i32_1240 v2628
  let c1_i32_1241 : BitVec 32 := 1#32
  let v2688 : BitVec 32 := Scalar.subi v2687 c1_i32_1241
  let v2691 : BitVec 32 := Scalar.maxsi c0_i32_1244 v2688
  let v2692 : BitVec 32 := Scalar.minsi v2690 v2691
  let v2733 : Index := Scalar.indexCast v2692
  let c0_1282 : Index := 0#32
  let c0_1283 : Index := 0#32
  ![0, 5, v2733.toNat, 0, 0]
def k0_off72 (i : grid0.Coords) (k0_t2 : Fin (k0_t2_loop i).trips) : Fin 5 → Nat :=
  let c0_1285 : Index := 0#32
  let c6_1286 : Index := 6#32
  let arg1 : BitVec 32 := BitVec.ofNat 32 (i 1).val
  let c1_i32_1242 : BitVec 32 := 1#32
  let v2689 : BitVec 32 := Scalar.subi arg1 c1_i32_1242
  let c0_i32_1243 : BitVec 32 := 0#32
  let v2690 : BitVec 32 := Scalar.maxsi v2689 c0_i32_1243
  let c0_i32_1244 : BitVec 32 := 0#32
  let c2_i32_1240 : BitVec 32 := 2#32
  let c0_i32_968 : BitVec 32 := 0#32
  let c0_i32_969 : BitVec 32 := 0#32
  let c2_i32_954 : BitVec 32 := 2#32
  let v2205 : BitVec 32 := Scalar.addi arg1 c2_i32_954
  let c0_i32_956 : BitVec 32 := 0#32
  let v2207 : BitVec 1 := Scalar.cmpi .sgt v2205 c0_i32_956
  let v2208 : BitVec 32 := Scalar.extui v2207
  let c0_i32_957 : BitVec 32 := 0#32
  let v2209 : BitVec 1 := Scalar.cmpi .slt v2205 c0_i32_957
  let v2210 : BitVec 32 := Scalar.extui v2209
  let v2211 : BitVec 32 := Scalar.subi v2208 v2210
  let c2_i32_955 : BitVec 32 := 2#32
  let c0_i32_958 : BitVec 32 := 0#32
  let v2212 : BitVec 1 := Scalar.cmpi .sgt c2_i32_955 c0_i32_958
  let v2213 : BitVec 32 := Scalar.extui v2212
  let c0_i32_959 : BitVec 32 := 0#32
  let v2214 : BitVec 1 := Scalar.cmpi .slt c2_i32_955 c0_i32_959
  let v2215 : BitVec 32 := Scalar.extui v2214
  let v2216 : BitVec 32 := Scalar.subi v2213 v2215
  let v2217 : BitVec 1 := Scalar.cmpi .ne v2211 v2216
  let v2218 : BitVec 32 := Scalar.remsi v2205 c2_i32_955
  let c0_i32_960 : BitVec 32 := 0#32
  let v2219 : BitVec 1 := Scalar.cmpi .ne v2218 c0_i32_960
  let v2220 : BitVec 1 := Scalar.andi v2217 v2219
  let v2206 : BitVec 32 := Scalar.divsi v2205 c2_i32_955
  let c1_i32_961 : BitVec 32 := 1#32
  let v2221 : BitVec 32 := Scalar.subi v2206 c1_i32_961
  let v2222 : BitVec 32 := Scalar.select v2220 v2221 v2206
  let c1_i32_962 : BitVec 32 := 1#32
  let v2223 : BitVec 32 := Scalar.subi v2222 c1_i32_962
  let c0_i32_963 : BitVec 32 := 0#32
  let v2224 : BitVec 32 := Scalar.subi v2223 c0_i32_963
  let c1_i32_964 : BitVec 32 := 1#32
  let c1_i32_965 : BitVec 32 := 1#32
  let v2225 : BitVec 32 := Scalar.subi c1_i32_964 c1_i32_965
  let v2226 : BitVec 32 := Scalar.addi v2224 v2225
  let c1_i32_966 : BitVec 32 := 1#32
  let v2227 : BitVec 32 := Scalar.divsi v2226 c1_i32_966
  let v2228 : BitVec 32 := Scalar.subi v2227 c0_i32_969
  let c1_i32_970 : BitVec 32 := 1#32
  let v2230 : BitVec 32 := Scalar.divsi v2228 c1_i32_970
  let v2231 : BitVec 32 := Scalar.muli v2230 c1_i32_970
  let v2232 : BitVec 32 := Scalar.addi c0_i32_969 v2231
  let c1_i32_972 : BitVec 32 := 1#32
  let arg28 : BitVec 32 := Scf.iv v2232 c1_i32_972 k0_t2
  let c1_i32_967 : BitVec 32 := 1#32
  let v2527 : BitVec 32 := Scalar.muli arg28 c1_i32_967
  let v2528 : BitVec 32 := Scalar.addi c0_i32_968 v2527
  let c1_i32_1193 : BitVec 32 := 1#32
  let v2628 : BitVec 32 := Scalar.addi v2528 c1_i32_1193
  let v2687 : BitVec 32 := Scalar.muli c2_i32_1240 v2628
  let c1_i32_1241 : BitVec 32 := 1#32
  let v2688 : BitVec 32 := Scalar.subi v2687 c1_i32_1241
  let v2691 : BitVec 32 := Scalar.maxsi c0_i32_1244 v2688
  let v2692 : BitVec 32 := Scalar.minsi v2690 v2691
  let v2738 : Index := Scalar.indexCast v2692
  let c0_1287 : Index := 0#32
  let c0_1288 : Index := 0#32
  ![0, 6, v2738.toNat, 0, 0]
def k0_off73 (i : grid0.Coords) (k0_t2 : Fin (k0_t2_loop i).trips) : Fin 5 → Nat :=
  let c0_1290 : Index := 0#32
  let c7_1291 : Index := 7#32
  let arg1 : BitVec 32 := BitVec.ofNat 32 (i 1).val
  let c1_i32_1242 : BitVec 32 := 1#32
  let v2689 : BitVec 32 := Scalar.subi arg1 c1_i32_1242
  let c0_i32_1243 : BitVec 32 := 0#32
  let v2690 : BitVec 32 := Scalar.maxsi v2689 c0_i32_1243
  let c0_i32_1244 : BitVec 32 := 0#32
  let c2_i32_1240 : BitVec 32 := 2#32
  let c0_i32_968 : BitVec 32 := 0#32
  let c0_i32_969 : BitVec 32 := 0#32
  let c2_i32_954 : BitVec 32 := 2#32
  let v2205 : BitVec 32 := Scalar.addi arg1 c2_i32_954
  let c0_i32_956 : BitVec 32 := 0#32
  let v2207 : BitVec 1 := Scalar.cmpi .sgt v2205 c0_i32_956
  let v2208 : BitVec 32 := Scalar.extui v2207
  let c0_i32_957 : BitVec 32 := 0#32
  let v2209 : BitVec 1 := Scalar.cmpi .slt v2205 c0_i32_957
  let v2210 : BitVec 32 := Scalar.extui v2209
  let v2211 : BitVec 32 := Scalar.subi v2208 v2210
  let c2_i32_955 : BitVec 32 := 2#32
  let c0_i32_958 : BitVec 32 := 0#32
  let v2212 : BitVec 1 := Scalar.cmpi .sgt c2_i32_955 c0_i32_958
  let v2213 : BitVec 32 := Scalar.extui v2212
  let c0_i32_959 : BitVec 32 := 0#32
  let v2214 : BitVec 1 := Scalar.cmpi .slt c2_i32_955 c0_i32_959
  let v2215 : BitVec 32 := Scalar.extui v2214
  let v2216 : BitVec 32 := Scalar.subi v2213 v2215
  let v2217 : BitVec 1 := Scalar.cmpi .ne v2211 v2216
  let v2218 : BitVec 32 := Scalar.remsi v2205 c2_i32_955
  let c0_i32_960 : BitVec 32 := 0#32
  let v2219 : BitVec 1 := Scalar.cmpi .ne v2218 c0_i32_960
  let v2220 : BitVec 1 := Scalar.andi v2217 v2219
  let v2206 : BitVec 32 := Scalar.divsi v2205 c2_i32_955
  let c1_i32_961 : BitVec 32 := 1#32
  let v2221 : BitVec 32 := Scalar.subi v2206 c1_i32_961
  let v2222 : BitVec 32 := Scalar.select v2220 v2221 v2206
  let c1_i32_962 : BitVec 32 := 1#32
  let v2223 : BitVec 32 := Scalar.subi v2222 c1_i32_962
  let c0_i32_963 : BitVec 32 := 0#32
  let v2224 : BitVec 32 := Scalar.subi v2223 c0_i32_963
  let c1_i32_964 : BitVec 32 := 1#32
  let c1_i32_965 : BitVec 32 := 1#32
  let v2225 : BitVec 32 := Scalar.subi c1_i32_964 c1_i32_965
  let v2226 : BitVec 32 := Scalar.addi v2224 v2225
  let c1_i32_966 : BitVec 32 := 1#32
  let v2227 : BitVec 32 := Scalar.divsi v2226 c1_i32_966
  let v2228 : BitVec 32 := Scalar.subi v2227 c0_i32_969
  let c1_i32_970 : BitVec 32 := 1#32
  let v2230 : BitVec 32 := Scalar.divsi v2228 c1_i32_970
  let v2231 : BitVec 32 := Scalar.muli v2230 c1_i32_970
  let v2232 : BitVec 32 := Scalar.addi c0_i32_969 v2231
  let c1_i32_972 : BitVec 32 := 1#32
  let arg28 : BitVec 32 := Scf.iv v2232 c1_i32_972 k0_t2
  let c1_i32_967 : BitVec 32 := 1#32
  let v2527 : BitVec 32 := Scalar.muli arg28 c1_i32_967
  let v2528 : BitVec 32 := Scalar.addi c0_i32_968 v2527
  let c1_i32_1193 : BitVec 32 := 1#32
  let v2628 : BitVec 32 := Scalar.addi v2528 c1_i32_1193
  let v2687 : BitVec 32 := Scalar.muli c2_i32_1240 v2628
  let c1_i32_1241 : BitVec 32 := 1#32
  let v2688 : BitVec 32 := Scalar.subi v2687 c1_i32_1241
  let v2691 : BitVec 32 := Scalar.maxsi c0_i32_1244 v2688
  let v2692 : BitVec 32 := Scalar.minsi v2690 v2691
  let v2743 : Index := Scalar.indexCast v2692
  let c0_1292 : Index := 0#32
  let c0_1293 : Index := 0#32
  ![0, 7, v2743.toNat, 0, 0]
def k0_off74 (i : grid0.Coords) (k0_t2 : Fin (k0_t2_loop i).trips) : Fin 5 → Nat :=
  let c0_1361 : Index := 0#32
  let c0_1362 : Index := 0#32
  let arg1 : BitVec 32 := BitVec.ofNat 32 (i 1).val
  let c1_i32_1348 : BitVec 32 := 1#32
  let v2817 : BitVec 32 := Scalar.subi arg1 c1_i32_1348
  let c0_i32_1349 : BitVec 32 := 0#32
  let v2818 : BitVec 32 := Scalar.maxsi v2817 c0_i32_1349
  let c0_i32_1350 : BitVec 32 := 0#32
  let c2_i32_1345 : BitVec 32 := 2#32
  let c0_i32_968 : BitVec 32 := 0#32
  let c0_i32_969 : BitVec 32 := 0#32
  let c2_i32_954 : BitVec 32 := 2#32
  let v2205 : BitVec 32 := Scalar.addi arg1 c2_i32_954
  let c0_i32_956 : BitVec 32 := 0#32
  let v2207 : BitVec 1 := Scalar.cmpi .sgt v2205 c0_i32_956
  let v2208 : BitVec 32 := Scalar.extui v2207
  let c0_i32_957 : BitVec 32 := 0#32
  let v2209 : BitVec 1 := Scalar.cmpi .slt v2205 c0_i32_957
  let v2210 : BitVec 32 := Scalar.extui v2209
  let v2211 : BitVec 32 := Scalar.subi v2208 v2210
  let c2_i32_955 : BitVec 32 := 2#32
  let c0_i32_958 : BitVec 32 := 0#32
  let v2212 : BitVec 1 := Scalar.cmpi .sgt c2_i32_955 c0_i32_958
  let v2213 : BitVec 32 := Scalar.extui v2212
  let c0_i32_959 : BitVec 32 := 0#32
  let v2214 : BitVec 1 := Scalar.cmpi .slt c2_i32_955 c0_i32_959
  let v2215 : BitVec 32 := Scalar.extui v2214
  let v2216 : BitVec 32 := Scalar.subi v2213 v2215
  let v2217 : BitVec 1 := Scalar.cmpi .ne v2211 v2216
  let v2218 : BitVec 32 := Scalar.remsi v2205 c2_i32_955
  let c0_i32_960 : BitVec 32 := 0#32
  let v2219 : BitVec 1 := Scalar.cmpi .ne v2218 c0_i32_960
  let v2220 : BitVec 1 := Scalar.andi v2217 v2219
  let v2206 : BitVec 32 := Scalar.divsi v2205 c2_i32_955
  let c1_i32_961 : BitVec 32 := 1#32
  let v2221 : BitVec 32 := Scalar.subi v2206 c1_i32_961
  let v2222 : BitVec 32 := Scalar.select v2220 v2221 v2206
  let c1_i32_962 : BitVec 32 := 1#32
  let v2223 : BitVec 32 := Scalar.subi v2222 c1_i32_962
  let c0_i32_963 : BitVec 32 := 0#32
  let v2224 : BitVec 32 := Scalar.subi v2223 c0_i32_963
  let c1_i32_964 : BitVec 32 := 1#32
  let c1_i32_965 : BitVec 32 := 1#32
  let v2225 : BitVec 32 := Scalar.subi c1_i32_964 c1_i32_965
  let v2226 : BitVec 32 := Scalar.addi v2224 v2225
  let c1_i32_966 : BitVec 32 := 1#32
  let v2227 : BitVec 32 := Scalar.divsi v2226 c1_i32_966
  let v2228 : BitVec 32 := Scalar.subi v2227 c0_i32_969
  let c1_i32_970 : BitVec 32 := 1#32
  let v2230 : BitVec 32 := Scalar.divsi v2228 c1_i32_970
  let v2231 : BitVec 32 := Scalar.muli v2230 c1_i32_970
  let v2232 : BitVec 32 := Scalar.addi c0_i32_969 v2231
  let c1_i32_972 : BitVec 32 := 1#32
  let arg28 : BitVec 32 := Scf.iv v2232 c1_i32_972 k0_t2
  let c1_i32_967 : BitVec 32 := 1#32
  let v2527 : BitVec 32 := Scalar.muli arg28 c1_i32_967
  let v2528 : BitVec 32 := Scalar.addi c0_i32_968 v2527
  let c1_i32_1193 : BitVec 32 := 1#32
  let v2628 : BitVec 32 := Scalar.addi v2528 c1_i32_1193
  let v2814 : BitVec 32 := Scalar.muli c2_i32_1345 v2628
  let c1_i32_1346 : BitVec 32 := 1#32
  let v2815 : BitVec 32 := Scalar.addi v2814 c1_i32_1346
  let c1_i32_1347 : BitVec 32 := 1#32
  let v2816 : BitVec 32 := Scalar.subi v2815 c1_i32_1347
  let v2819 : BitVec 32 := Scalar.maxsi c0_i32_1350 v2816
  let v2820 : BitVec 32 := Scalar.minsi v2818 v2819
  let v2836 : Index := Scalar.indexCast v2820
  let c0_1363 : Index := 0#32
  let c0_1364 : Index := 0#32
  ![0, 0, v2836.toNat, 0, 0]
def k0_off75 (i : grid0.Coords) (k0_t2 : Fin (k0_t2_loop i).trips) : Fin 5 → Nat :=
  let c0_1366 : Index := 0#32
  let c1_1367 : Index := 1#32
  let arg1 : BitVec 32 := BitVec.ofNat 32 (i 1).val
  let c1_i32_1348 : BitVec 32 := 1#32
  let v2817 : BitVec 32 := Scalar.subi arg1 c1_i32_1348
  let c0_i32_1349 : BitVec 32 := 0#32
  let v2818 : BitVec 32 := Scalar.maxsi v2817 c0_i32_1349
  let c0_i32_1350 : BitVec 32 := 0#32
  let c2_i32_1345 : BitVec 32 := 2#32
  let c0_i32_968 : BitVec 32 := 0#32
  let c0_i32_969 : BitVec 32 := 0#32
  let c2_i32_954 : BitVec 32 := 2#32
  let v2205 : BitVec 32 := Scalar.addi arg1 c2_i32_954
  let c0_i32_956 : BitVec 32 := 0#32
  let v2207 : BitVec 1 := Scalar.cmpi .sgt v2205 c0_i32_956
  let v2208 : BitVec 32 := Scalar.extui v2207
  let c0_i32_957 : BitVec 32 := 0#32
  let v2209 : BitVec 1 := Scalar.cmpi .slt v2205 c0_i32_957
  let v2210 : BitVec 32 := Scalar.extui v2209
  let v2211 : BitVec 32 := Scalar.subi v2208 v2210
  let c2_i32_955 : BitVec 32 := 2#32
  let c0_i32_958 : BitVec 32 := 0#32
  let v2212 : BitVec 1 := Scalar.cmpi .sgt c2_i32_955 c0_i32_958
  let v2213 : BitVec 32 := Scalar.extui v2212
  let c0_i32_959 : BitVec 32 := 0#32
  let v2214 : BitVec 1 := Scalar.cmpi .slt c2_i32_955 c0_i32_959
  let v2215 : BitVec 32 := Scalar.extui v2214
  let v2216 : BitVec 32 := Scalar.subi v2213 v2215
  let v2217 : BitVec 1 := Scalar.cmpi .ne v2211 v2216
  let v2218 : BitVec 32 := Scalar.remsi v2205 c2_i32_955
  let c0_i32_960 : BitVec 32 := 0#32
  let v2219 : BitVec 1 := Scalar.cmpi .ne v2218 c0_i32_960
  let v2220 : BitVec 1 := Scalar.andi v2217 v2219
  let v2206 : BitVec 32 := Scalar.divsi v2205 c2_i32_955
  let c1_i32_961 : BitVec 32 := 1#32
  let v2221 : BitVec 32 := Scalar.subi v2206 c1_i32_961
  let v2222 : BitVec 32 := Scalar.select v2220 v2221 v2206
  let c1_i32_962 : BitVec 32 := 1#32
  let v2223 : BitVec 32 := Scalar.subi v2222 c1_i32_962
  let c0_i32_963 : BitVec 32 := 0#32
  let v2224 : BitVec 32 := Scalar.subi v2223 c0_i32_963
  let c1_i32_964 : BitVec 32 := 1#32
  let c1_i32_965 : BitVec 32 := 1#32
  let v2225 : BitVec 32 := Scalar.subi c1_i32_964 c1_i32_965
  let v2226 : BitVec 32 := Scalar.addi v2224 v2225
  let c1_i32_966 : BitVec 32 := 1#32
  let v2227 : BitVec 32 := Scalar.divsi v2226 c1_i32_966
  let v2228 : BitVec 32 := Scalar.subi v2227 c0_i32_969
  let c1_i32_970 : BitVec 32 := 1#32
  let v2230 : BitVec 32 := Scalar.divsi v2228 c1_i32_970
  let v2231 : BitVec 32 := Scalar.muli v2230 c1_i32_970
  let v2232 : BitVec 32 := Scalar.addi c0_i32_969 v2231
  let c1_i32_972 : BitVec 32 := 1#32
  let arg28 : BitVec 32 := Scf.iv v2232 c1_i32_972 k0_t2
  let c1_i32_967 : BitVec 32 := 1#32
  let v2527 : BitVec 32 := Scalar.muli arg28 c1_i32_967
  let v2528 : BitVec 32 := Scalar.addi c0_i32_968 v2527
  let c1_i32_1193 : BitVec 32 := 1#32
  let v2628 : BitVec 32 := Scalar.addi v2528 c1_i32_1193
  let v2814 : BitVec 32 := Scalar.muli c2_i32_1345 v2628
  let c1_i32_1346 : BitVec 32 := 1#32
  let v2815 : BitVec 32 := Scalar.addi v2814 c1_i32_1346
  let c1_i32_1347 : BitVec 32 := 1#32
  let v2816 : BitVec 32 := Scalar.subi v2815 c1_i32_1347
  let v2819 : BitVec 32 := Scalar.maxsi c0_i32_1350 v2816
  let v2820 : BitVec 32 := Scalar.minsi v2818 v2819
  let v2841 : Index := Scalar.indexCast v2820
  let c0_1368 : Index := 0#32
  let c0_1369 : Index := 0#32
  ![0, 1, v2841.toNat, 0, 0]
def k0_off76 (i : grid0.Coords) (k0_t2 : Fin (k0_t2_loop i).trips) : Fin 5 → Nat :=
  let c0_1371 : Index := 0#32
  let c2_1372 : Index := 2#32
  let arg1 : BitVec 32 := BitVec.ofNat 32 (i 1).val
  let c1_i32_1348 : BitVec 32 := 1#32
  let v2817 : BitVec 32 := Scalar.subi arg1 c1_i32_1348
  let c0_i32_1349 : BitVec 32 := 0#32
  let v2818 : BitVec 32 := Scalar.maxsi v2817 c0_i32_1349
  let c0_i32_1350 : BitVec 32 := 0#32
  let c2_i32_1345 : BitVec 32 := 2#32
  let c0_i32_968 : BitVec 32 := 0#32
  let c0_i32_969 : BitVec 32 := 0#32
  let c2_i32_954 : BitVec 32 := 2#32
  let v2205 : BitVec 32 := Scalar.addi arg1 c2_i32_954
  let c0_i32_956 : BitVec 32 := 0#32
  let v2207 : BitVec 1 := Scalar.cmpi .sgt v2205 c0_i32_956
  let v2208 : BitVec 32 := Scalar.extui v2207
  let c0_i32_957 : BitVec 32 := 0#32
  let v2209 : BitVec 1 := Scalar.cmpi .slt v2205 c0_i32_957
  let v2210 : BitVec 32 := Scalar.extui v2209
  let v2211 : BitVec 32 := Scalar.subi v2208 v2210
  let c2_i32_955 : BitVec 32 := 2#32
  let c0_i32_958 : BitVec 32 := 0#32
  let v2212 : BitVec 1 := Scalar.cmpi .sgt c2_i32_955 c0_i32_958
  let v2213 : BitVec 32 := Scalar.extui v2212
  let c0_i32_959 : BitVec 32 := 0#32
  let v2214 : BitVec 1 := Scalar.cmpi .slt c2_i32_955 c0_i32_959
  let v2215 : BitVec 32 := Scalar.extui v2214
  let v2216 : BitVec 32 := Scalar.subi v2213 v2215
  let v2217 : BitVec 1 := Scalar.cmpi .ne v2211 v2216
  let v2218 : BitVec 32 := Scalar.remsi v2205 c2_i32_955
  let c0_i32_960 : BitVec 32 := 0#32
  let v2219 : BitVec 1 := Scalar.cmpi .ne v2218 c0_i32_960
  let v2220 : BitVec 1 := Scalar.andi v2217 v2219
  let v2206 : BitVec 32 := Scalar.divsi v2205 c2_i32_955
  let c1_i32_961 : BitVec 32 := 1#32
  let v2221 : BitVec 32 := Scalar.subi v2206 c1_i32_961
  let v2222 : BitVec 32 := Scalar.select v2220 v2221 v2206
  let c1_i32_962 : BitVec 32 := 1#32
  let v2223 : BitVec 32 := Scalar.subi v2222 c1_i32_962
  let c0_i32_963 : BitVec 32 := 0#32
  let v2224 : BitVec 32 := Scalar.subi v2223 c0_i32_963
  let c1_i32_964 : BitVec 32 := 1#32
  let c1_i32_965 : BitVec 32 := 1#32
  let v2225 : BitVec 32 := Scalar.subi c1_i32_964 c1_i32_965
  let v2226 : BitVec 32 := Scalar.addi v2224 v2225
  let c1_i32_966 : BitVec 32 := 1#32
  let v2227 : BitVec 32 := Scalar.divsi v2226 c1_i32_966
  let v2228 : BitVec 32 := Scalar.subi v2227 c0_i32_969
  let c1_i32_970 : BitVec 32 := 1#32
  let v2230 : BitVec 32 := Scalar.divsi v2228 c1_i32_970
  let v2231 : BitVec 32 := Scalar.muli v2230 c1_i32_970
  let v2232 : BitVec 32 := Scalar.addi c0_i32_969 v2231
  let c1_i32_972 : BitVec 32 := 1#32
  let arg28 : BitVec 32 := Scf.iv v2232 c1_i32_972 k0_t2
  let c1_i32_967 : BitVec 32 := 1#32
  let v2527 : BitVec 32 := Scalar.muli arg28 c1_i32_967
  let v2528 : BitVec 32 := Scalar.addi c0_i32_968 v2527
  let c1_i32_1193 : BitVec 32 := 1#32
  let v2628 : BitVec 32 := Scalar.addi v2528 c1_i32_1193
  let v2814 : BitVec 32 := Scalar.muli c2_i32_1345 v2628
  let c1_i32_1346 : BitVec 32 := 1#32
  let v2815 : BitVec 32 := Scalar.addi v2814 c1_i32_1346
  let c1_i32_1347 : BitVec 32 := 1#32
  let v2816 : BitVec 32 := Scalar.subi v2815 c1_i32_1347
  let v2819 : BitVec 32 := Scalar.maxsi c0_i32_1350 v2816
  let v2820 : BitVec 32 := Scalar.minsi v2818 v2819
  let v2846 : Index := Scalar.indexCast v2820
  let c0_1373 : Index := 0#32
  let c0_1374 : Index := 0#32
  ![0, 2, v2846.toNat, 0, 0]
def k0_off77 (i : grid0.Coords) (k0_t2 : Fin (k0_t2_loop i).trips) : Fin 5 → Nat :=
  let c0_1376 : Index := 0#32
  let c3_1377 : Index := 3#32
  let arg1 : BitVec 32 := BitVec.ofNat 32 (i 1).val
  let c1_i32_1348 : BitVec 32 := 1#32
  let v2817 : BitVec 32 := Scalar.subi arg1 c1_i32_1348
  let c0_i32_1349 : BitVec 32 := 0#32
  let v2818 : BitVec 32 := Scalar.maxsi v2817 c0_i32_1349
  let c0_i32_1350 : BitVec 32 := 0#32
  let c2_i32_1345 : BitVec 32 := 2#32
  let c0_i32_968 : BitVec 32 := 0#32
  let c0_i32_969 : BitVec 32 := 0#32
  let c2_i32_954 : BitVec 32 := 2#32
  let v2205 : BitVec 32 := Scalar.addi arg1 c2_i32_954
  let c0_i32_956 : BitVec 32 := 0#32
  let v2207 : BitVec 1 := Scalar.cmpi .sgt v2205 c0_i32_956
  let v2208 : BitVec 32 := Scalar.extui v2207
  let c0_i32_957 : BitVec 32 := 0#32
  let v2209 : BitVec 1 := Scalar.cmpi .slt v2205 c0_i32_957
  let v2210 : BitVec 32 := Scalar.extui v2209
  let v2211 : BitVec 32 := Scalar.subi v2208 v2210
  let c2_i32_955 : BitVec 32 := 2#32
  let c0_i32_958 : BitVec 32 := 0#32
  let v2212 : BitVec 1 := Scalar.cmpi .sgt c2_i32_955 c0_i32_958
  let v2213 : BitVec 32 := Scalar.extui v2212
  let c0_i32_959 : BitVec 32 := 0#32
  let v2214 : BitVec 1 := Scalar.cmpi .slt c2_i32_955 c0_i32_959
  let v2215 : BitVec 32 := Scalar.extui v2214
  let v2216 : BitVec 32 := Scalar.subi v2213 v2215
  let v2217 : BitVec 1 := Scalar.cmpi .ne v2211 v2216
  let v2218 : BitVec 32 := Scalar.remsi v2205 c2_i32_955
  let c0_i32_960 : BitVec 32 := 0#32
  let v2219 : BitVec 1 := Scalar.cmpi .ne v2218 c0_i32_960
  let v2220 : BitVec 1 := Scalar.andi v2217 v2219
  let v2206 : BitVec 32 := Scalar.divsi v2205 c2_i32_955
  let c1_i32_961 : BitVec 32 := 1#32
  let v2221 : BitVec 32 := Scalar.subi v2206 c1_i32_961
  let v2222 : BitVec 32 := Scalar.select v2220 v2221 v2206
  let c1_i32_962 : BitVec 32 := 1#32
  let v2223 : BitVec 32 := Scalar.subi v2222 c1_i32_962
  let c0_i32_963 : BitVec 32 := 0#32
  let v2224 : BitVec 32 := Scalar.subi v2223 c0_i32_963
  let c1_i32_964 : BitVec 32 := 1#32
  let c1_i32_965 : BitVec 32 := 1#32
  let v2225 : BitVec 32 := Scalar.subi c1_i32_964 c1_i32_965
  let v2226 : BitVec 32 := Scalar.addi v2224 v2225
  let c1_i32_966 : BitVec 32 := 1#32
  let v2227 : BitVec 32 := Scalar.divsi v2226 c1_i32_966
  let v2228 : BitVec 32 := Scalar.subi v2227 c0_i32_969
  let c1_i32_970 : BitVec 32 := 1#32
  let v2230 : BitVec 32 := Scalar.divsi v2228 c1_i32_970
  let v2231 : BitVec 32 := Scalar.muli v2230 c1_i32_970
  let v2232 : BitVec 32 := Scalar.addi c0_i32_969 v2231
  let c1_i32_972 : BitVec 32 := 1#32
  let arg28 : BitVec 32 := Scf.iv v2232 c1_i32_972 k0_t2
  let c1_i32_967 : BitVec 32 := 1#32
  let v2527 : BitVec 32 := Scalar.muli arg28 c1_i32_967
  let v2528 : BitVec 32 := Scalar.addi c0_i32_968 v2527
  let c1_i32_1193 : BitVec 32 := 1#32
  let v2628 : BitVec 32 := Scalar.addi v2528 c1_i32_1193
  let v2814 : BitVec 32 := Scalar.muli c2_i32_1345 v2628
  let c1_i32_1346 : BitVec 32 := 1#32
  let v2815 : BitVec 32 := Scalar.addi v2814 c1_i32_1346
  let c1_i32_1347 : BitVec 32 := 1#32
  let v2816 : BitVec 32 := Scalar.subi v2815 c1_i32_1347
  let v2819 : BitVec 32 := Scalar.maxsi c0_i32_1350 v2816
  let v2820 : BitVec 32 := Scalar.minsi v2818 v2819
  let v2851 : Index := Scalar.indexCast v2820
  let c0_1378 : Index := 0#32
  let c0_1379 : Index := 0#32
  ![0, 3, v2851.toNat, 0, 0]
def k0_off78 (i : grid0.Coords) (k0_t2 : Fin (k0_t2_loop i).trips) : Fin 5 → Nat :=
  let c0_1381 : Index := 0#32
  let c4_1382 : Index := 4#32
  let arg1 : BitVec 32 := BitVec.ofNat 32 (i 1).val
  let c1_i32_1348 : BitVec 32 := 1#32
  let v2817 : BitVec 32 := Scalar.subi arg1 c1_i32_1348
  let c0_i32_1349 : BitVec 32 := 0#32
  let v2818 : BitVec 32 := Scalar.maxsi v2817 c0_i32_1349
  let c0_i32_1350 : BitVec 32 := 0#32
  let c2_i32_1345 : BitVec 32 := 2#32
  let c0_i32_968 : BitVec 32 := 0#32
  let c0_i32_969 : BitVec 32 := 0#32
  let c2_i32_954 : BitVec 32 := 2#32
  let v2205 : BitVec 32 := Scalar.addi arg1 c2_i32_954
  let c0_i32_956 : BitVec 32 := 0#32
  let v2207 : BitVec 1 := Scalar.cmpi .sgt v2205 c0_i32_956
  let v2208 : BitVec 32 := Scalar.extui v2207
  let c0_i32_957 : BitVec 32 := 0#32
  let v2209 : BitVec 1 := Scalar.cmpi .slt v2205 c0_i32_957
  let v2210 : BitVec 32 := Scalar.extui v2209
  let v2211 : BitVec 32 := Scalar.subi v2208 v2210
  let c2_i32_955 : BitVec 32 := 2#32
  let c0_i32_958 : BitVec 32 := 0#32
  let v2212 : BitVec 1 := Scalar.cmpi .sgt c2_i32_955 c0_i32_958
  let v2213 : BitVec 32 := Scalar.extui v2212
  let c0_i32_959 : BitVec 32 := 0#32
  let v2214 : BitVec 1 := Scalar.cmpi .slt c2_i32_955 c0_i32_959
  let v2215 : BitVec 32 := Scalar.extui v2214
  let v2216 : BitVec 32 := Scalar.subi v2213 v2215
  let v2217 : BitVec 1 := Scalar.cmpi .ne v2211 v2216
  let v2218 : BitVec 32 := Scalar.remsi v2205 c2_i32_955
  let c0_i32_960 : BitVec 32 := 0#32
  let v2219 : BitVec 1 := Scalar.cmpi .ne v2218 c0_i32_960
  let v2220 : BitVec 1 := Scalar.andi v2217 v2219
  let v2206 : BitVec 32 := Scalar.divsi v2205 c2_i32_955
  let c1_i32_961 : BitVec 32 := 1#32
  let v2221 : BitVec 32 := Scalar.subi v2206 c1_i32_961
  let v2222 : BitVec 32 := Scalar.select v2220 v2221 v2206
  let c1_i32_962 : BitVec 32 := 1#32
  let v2223 : BitVec 32 := Scalar.subi v2222 c1_i32_962
  let c0_i32_963 : BitVec 32 := 0#32
  let v2224 : BitVec 32 := Scalar.subi v2223 c0_i32_963
  let c1_i32_964 : BitVec 32 := 1#32
  let c1_i32_965 : BitVec 32 := 1#32
  let v2225 : BitVec 32 := Scalar.subi c1_i32_964 c1_i32_965
  let v2226 : BitVec 32 := Scalar.addi v2224 v2225
  let c1_i32_966 : BitVec 32 := 1#32
  let v2227 : BitVec 32 := Scalar.divsi v2226 c1_i32_966
  let v2228 : BitVec 32 := Scalar.subi v2227 c0_i32_969
  let c1_i32_970 : BitVec 32 := 1#32
  let v2230 : BitVec 32 := Scalar.divsi v2228 c1_i32_970
  let v2231 : BitVec 32 := Scalar.muli v2230 c1_i32_970
  let v2232 : BitVec 32 := Scalar.addi c0_i32_969 v2231
  let c1_i32_972 : BitVec 32 := 1#32
  let arg28 : BitVec 32 := Scf.iv v2232 c1_i32_972 k0_t2
  let c1_i32_967 : BitVec 32 := 1#32
  let v2527 : BitVec 32 := Scalar.muli arg28 c1_i32_967
  let v2528 : BitVec 32 := Scalar.addi c0_i32_968 v2527
  let c1_i32_1193 : BitVec 32 := 1#32
  let v2628 : BitVec 32 := Scalar.addi v2528 c1_i32_1193
  let v2814 : BitVec 32 := Scalar.muli c2_i32_1345 v2628
  let c1_i32_1346 : BitVec 32 := 1#32
  let v2815 : BitVec 32 := Scalar.addi v2814 c1_i32_1346
  let c1_i32_1347 : BitVec 32 := 1#32
  let v2816 : BitVec 32 := Scalar.subi v2815 c1_i32_1347
  let v2819 : BitVec 32 := Scalar.maxsi c0_i32_1350 v2816
  let v2820 : BitVec 32 := Scalar.minsi v2818 v2819
  let v2856 : Index := Scalar.indexCast v2820
  let c0_1383 : Index := 0#32
  let c0_1384 : Index := 0#32
  ![0, 4, v2856.toNat, 0, 0]
def k0_off79 (i : grid0.Coords) (k0_t2 : Fin (k0_t2_loop i).trips) : Fin 5 → Nat :=
  let c0_1386 : Index := 0#32
  let c5_1387 : Index := 5#32
  let arg1 : BitVec 32 := BitVec.ofNat 32 (i 1).val
  let c1_i32_1348 : BitVec 32 := 1#32
  let v2817 : BitVec 32 := Scalar.subi arg1 c1_i32_1348
  let c0_i32_1349 : BitVec 32 := 0#32
  let v2818 : BitVec 32 := Scalar.maxsi v2817 c0_i32_1349
  let c0_i32_1350 : BitVec 32 := 0#32
  let c2_i32_1345 : BitVec 32 := 2#32
  let c0_i32_968 : BitVec 32 := 0#32
  let c0_i32_969 : BitVec 32 := 0#32
  let c2_i32_954 : BitVec 32 := 2#32
  let v2205 : BitVec 32 := Scalar.addi arg1 c2_i32_954
  let c0_i32_956 : BitVec 32 := 0#32
  let v2207 : BitVec 1 := Scalar.cmpi .sgt v2205 c0_i32_956
  let v2208 : BitVec 32 := Scalar.extui v2207
  let c0_i32_957 : BitVec 32 := 0#32
  let v2209 : BitVec 1 := Scalar.cmpi .slt v2205 c0_i32_957
  let v2210 : BitVec 32 := Scalar.extui v2209
  let v2211 : BitVec 32 := Scalar.subi v2208 v2210
  let c2_i32_955 : BitVec 32 := 2#32
  let c0_i32_958 : BitVec 32 := 0#32
  let v2212 : BitVec 1 := Scalar.cmpi .sgt c2_i32_955 c0_i32_958
  let v2213 : BitVec 32 := Scalar.extui v2212
  let c0_i32_959 : BitVec 32 := 0#32
  let v2214 : BitVec 1 := Scalar.cmpi .slt c2_i32_955 c0_i32_959
  let v2215 : BitVec 32 := Scalar.extui v2214
  let v2216 : BitVec 32 := Scalar.subi v2213 v2215
  let v2217 : BitVec 1 := Scalar.cmpi .ne v2211 v2216
  let v2218 : BitVec 32 := Scalar.remsi v2205 c2_i32_955
  let c0_i32_960 : BitVec 32 := 0#32
  let v2219 : BitVec 1 := Scalar.cmpi .ne v2218 c0_i32_960
  let v2220 : BitVec 1 := Scalar.andi v2217 v2219
  let v2206 : BitVec 32 := Scalar.divsi v2205 c2_i32_955
  let c1_i32_961 : BitVec 32 := 1#32
  let v2221 : BitVec 32 := Scalar.subi v2206 c1_i32_961
  let v2222 : BitVec 32 := Scalar.select v2220 v2221 v2206
  let c1_i32_962 : BitVec 32 := 1#32
  let v2223 : BitVec 32 := Scalar.subi v2222 c1_i32_962
  let c0_i32_963 : BitVec 32 := 0#32
  let v2224 : BitVec 32 := Scalar.subi v2223 c0_i32_963
  let c1_i32_964 : BitVec 32 := 1#32
  let c1_i32_965 : BitVec 32 := 1#32
  let v2225 : BitVec 32 := Scalar.subi c1_i32_964 c1_i32_965
  let v2226 : BitVec 32 := Scalar.addi v2224 v2225
  let c1_i32_966 : BitVec 32 := 1#32
  let v2227 : BitVec 32 := Scalar.divsi v2226 c1_i32_966
  let v2228 : BitVec 32 := Scalar.subi v2227 c0_i32_969
  let c1_i32_970 : BitVec 32 := 1#32
  let v2230 : BitVec 32 := Scalar.divsi v2228 c1_i32_970
  let v2231 : BitVec 32 := Scalar.muli v2230 c1_i32_970
  let v2232 : BitVec 32 := Scalar.addi c0_i32_969 v2231
  let c1_i32_972 : BitVec 32 := 1#32
  let arg28 : BitVec 32 := Scf.iv v2232 c1_i32_972 k0_t2
  let c1_i32_967 : BitVec 32 := 1#32
  let v2527 : BitVec 32 := Scalar.muli arg28 c1_i32_967
  let v2528 : BitVec 32 := Scalar.addi c0_i32_968 v2527
  let c1_i32_1193 : BitVec 32 := 1#32
  let v2628 : BitVec 32 := Scalar.addi v2528 c1_i32_1193
  let v2814 : BitVec 32 := Scalar.muli c2_i32_1345 v2628
  let c1_i32_1346 : BitVec 32 := 1#32
  let v2815 : BitVec 32 := Scalar.addi v2814 c1_i32_1346
  let c1_i32_1347 : BitVec 32 := 1#32
  let v2816 : BitVec 32 := Scalar.subi v2815 c1_i32_1347
  let v2819 : BitVec 32 := Scalar.maxsi c0_i32_1350 v2816
  let v2820 : BitVec 32 := Scalar.minsi v2818 v2819
  let v2861 : Index := Scalar.indexCast v2820
  let c0_1388 : Index := 0#32
  let c0_1389 : Index := 0#32
  ![0, 5, v2861.toNat, 0, 0]
def k0_off80 (i : grid0.Coords) (k0_t2 : Fin (k0_t2_loop i).trips) : Fin 5 → Nat :=
  let c0_1391 : Index := 0#32
  let c6_1392 : Index := 6#32
  let arg1 : BitVec 32 := BitVec.ofNat 32 (i 1).val
  let c1_i32_1348 : BitVec 32 := 1#32
  let v2817 : BitVec 32 := Scalar.subi arg1 c1_i32_1348
  let c0_i32_1349 : BitVec 32 := 0#32
  let v2818 : BitVec 32 := Scalar.maxsi v2817 c0_i32_1349
  let c0_i32_1350 : BitVec 32 := 0#32
  let c2_i32_1345 : BitVec 32 := 2#32
  let c0_i32_968 : BitVec 32 := 0#32
  let c0_i32_969 : BitVec 32 := 0#32
  let c2_i32_954 : BitVec 32 := 2#32
  let v2205 : BitVec 32 := Scalar.addi arg1 c2_i32_954
  let c0_i32_956 : BitVec 32 := 0#32
  let v2207 : BitVec 1 := Scalar.cmpi .sgt v2205 c0_i32_956
  let v2208 : BitVec 32 := Scalar.extui v2207
  let c0_i32_957 : BitVec 32 := 0#32
  let v2209 : BitVec 1 := Scalar.cmpi .slt v2205 c0_i32_957
  let v2210 : BitVec 32 := Scalar.extui v2209
  let v2211 : BitVec 32 := Scalar.subi v2208 v2210
  let c2_i32_955 : BitVec 32 := 2#32
  let c0_i32_958 : BitVec 32 := 0#32
  let v2212 : BitVec 1 := Scalar.cmpi .sgt c2_i32_955 c0_i32_958
  let v2213 : BitVec 32 := Scalar.extui v2212
  let c0_i32_959 : BitVec 32 := 0#32
  let v2214 : BitVec 1 := Scalar.cmpi .slt c2_i32_955 c0_i32_959
  let v2215 : BitVec 32 := Scalar.extui v2214
  let v2216 : BitVec 32 := Scalar.subi v2213 v2215
  let v2217 : BitVec 1 := Scalar.cmpi .ne v2211 v2216
  let v2218 : BitVec 32 := Scalar.remsi v2205 c2_i32_955
  let c0_i32_960 : BitVec 32 := 0#32
  let v2219 : BitVec 1 := Scalar.cmpi .ne v2218 c0_i32_960
  let v2220 : BitVec 1 := Scalar.andi v2217 v2219
  let v2206 : BitVec 32 := Scalar.divsi v2205 c2_i32_955
  let c1_i32_961 : BitVec 32 := 1#32
  let v2221 : BitVec 32 := Scalar.subi v2206 c1_i32_961
  let v2222 : BitVec 32 := Scalar.select v2220 v2221 v2206
  let c1_i32_962 : BitVec 32 := 1#32
  let v2223 : BitVec 32 := Scalar.subi v2222 c1_i32_962
  let c0_i32_963 : BitVec 32 := 0#32
  let v2224 : BitVec 32 := Scalar.subi v2223 c0_i32_963
  let c1_i32_964 : BitVec 32 := 1#32
  let c1_i32_965 : BitVec 32 := 1#32
  let v2225 : BitVec 32 := Scalar.subi c1_i32_964 c1_i32_965
  let v2226 : BitVec 32 := Scalar.addi v2224 v2225
  let c1_i32_966 : BitVec 32 := 1#32
  let v2227 : BitVec 32 := Scalar.divsi v2226 c1_i32_966
  let v2228 : BitVec 32 := Scalar.subi v2227 c0_i32_969
  let c1_i32_970 : BitVec 32 := 1#32
  let v2230 : BitVec 32 := Scalar.divsi v2228 c1_i32_970
  let v2231 : BitVec 32 := Scalar.muli v2230 c1_i32_970
  let v2232 : BitVec 32 := Scalar.addi c0_i32_969 v2231
  let c1_i32_972 : BitVec 32 := 1#32
  let arg28 : BitVec 32 := Scf.iv v2232 c1_i32_972 k0_t2
  let c1_i32_967 : BitVec 32 := 1#32
  let v2527 : BitVec 32 := Scalar.muli arg28 c1_i32_967
  let v2528 : BitVec 32 := Scalar.addi c0_i32_968 v2527
  let c1_i32_1193 : BitVec 32 := 1#32
  let v2628 : BitVec 32 := Scalar.addi v2528 c1_i32_1193
  let v2814 : BitVec 32 := Scalar.muli c2_i32_1345 v2628
  let c1_i32_1346 : BitVec 32 := 1#32
  let v2815 : BitVec 32 := Scalar.addi v2814 c1_i32_1346
  let c1_i32_1347 : BitVec 32 := 1#32
  let v2816 : BitVec 32 := Scalar.subi v2815 c1_i32_1347
  let v2819 : BitVec 32 := Scalar.maxsi c0_i32_1350 v2816
  let v2820 : BitVec 32 := Scalar.minsi v2818 v2819
  let v2866 : Index := Scalar.indexCast v2820
  let c0_1393 : Index := 0#32
  let c0_1394 : Index := 0#32
  ![0, 6, v2866.toNat, 0, 0]
def k0_off81 (i : grid0.Coords) (k0_t2 : Fin (k0_t2_loop i).trips) : Fin 5 → Nat :=
  let c0_1396 : Index := 0#32
  let c7_1397 : Index := 7#32
  let arg1 : BitVec 32 := BitVec.ofNat 32 (i 1).val
  let c1_i32_1348 : BitVec 32 := 1#32
  let v2817 : BitVec 32 := Scalar.subi arg1 c1_i32_1348
  let c0_i32_1349 : BitVec 32 := 0#32
  let v2818 : BitVec 32 := Scalar.maxsi v2817 c0_i32_1349
  let c0_i32_1350 : BitVec 32 := 0#32
  let c2_i32_1345 : BitVec 32 := 2#32
  let c0_i32_968 : BitVec 32 := 0#32
  let c0_i32_969 : BitVec 32 := 0#32
  let c2_i32_954 : BitVec 32 := 2#32
  let v2205 : BitVec 32 := Scalar.addi arg1 c2_i32_954
  let c0_i32_956 : BitVec 32 := 0#32
  let v2207 : BitVec 1 := Scalar.cmpi .sgt v2205 c0_i32_956
  let v2208 : BitVec 32 := Scalar.extui v2207
  let c0_i32_957 : BitVec 32 := 0#32
  let v2209 : BitVec 1 := Scalar.cmpi .slt v2205 c0_i32_957
  let v2210 : BitVec 32 := Scalar.extui v2209
  let v2211 : BitVec 32 := Scalar.subi v2208 v2210
  let c2_i32_955 : BitVec 32 := 2#32
  let c0_i32_958 : BitVec 32 := 0#32
  let v2212 : BitVec 1 := Scalar.cmpi .sgt c2_i32_955 c0_i32_958
  let v2213 : BitVec 32 := Scalar.extui v2212
  let c0_i32_959 : BitVec 32 := 0#32
  let v2214 : BitVec 1 := Scalar.cmpi .slt c2_i32_955 c0_i32_959
  let v2215 : BitVec 32 := Scalar.extui v2214
  let v2216 : BitVec 32 := Scalar.subi v2213 v2215
  let v2217 : BitVec 1 := Scalar.cmpi .ne v2211 v2216
  let v2218 : BitVec 32 := Scalar.remsi v2205 c2_i32_955
  let c0_i32_960 : BitVec 32 := 0#32
  let v2219 : BitVec 1 := Scalar.cmpi .ne v2218 c0_i32_960
  let v2220 : BitVec 1 := Scalar.andi v2217 v2219
  let v2206 : BitVec 32 := Scalar.divsi v2205 c2_i32_955
  let c1_i32_961 : BitVec 32 := 1#32
  let v2221 : BitVec 32 := Scalar.subi v2206 c1_i32_961
  let v2222 : BitVec 32 := Scalar.select v2220 v2221 v2206
  let c1_i32_962 : BitVec 32 := 1#32
  let v2223 : BitVec 32 := Scalar.subi v2222 c1_i32_962
  let c0_i32_963 : BitVec 32 := 0#32
  let v2224 : BitVec 32 := Scalar.subi v2223 c0_i32_963
  let c1_i32_964 : BitVec 32 := 1#32
  let c1_i32_965 : BitVec 32 := 1#32
  let v2225 : BitVec 32 := Scalar.subi c1_i32_964 c1_i32_965
  let v2226 : BitVec 32 := Scalar.addi v2224 v2225
  let c1_i32_966 : BitVec 32 := 1#32
  let v2227 : BitVec 32 := Scalar.divsi v2226 c1_i32_966
  let v2228 : BitVec 32 := Scalar.subi v2227 c0_i32_969
  let c1_i32_970 : BitVec 32 := 1#32
  let v2230 : BitVec 32 := Scalar.divsi v2228 c1_i32_970
  let v2231 : BitVec 32 := Scalar.muli v2230 c1_i32_970
  let v2232 : BitVec 32 := Scalar.addi c0_i32_969 v2231
  let c1_i32_972 : BitVec 32 := 1#32
  let arg28 : BitVec 32 := Scf.iv v2232 c1_i32_972 k0_t2
  let c1_i32_967 : BitVec 32 := 1#32
  let v2527 : BitVec 32 := Scalar.muli arg28 c1_i32_967
  let v2528 : BitVec 32 := Scalar.addi c0_i32_968 v2527
  let c1_i32_1193 : BitVec 32 := 1#32
  let v2628 : BitVec 32 := Scalar.addi v2528 c1_i32_1193
  let v2814 : BitVec 32 := Scalar.muli c2_i32_1345 v2628
  let c1_i32_1346 : BitVec 32 := 1#32
  let v2815 : BitVec 32 := Scalar.addi v2814 c1_i32_1346
  let c1_i32_1347 : BitVec 32 := 1#32
  let v2816 : BitVec 32 := Scalar.subi v2815 c1_i32_1347
  let v2819 : BitVec 32 := Scalar.maxsi c0_i32_1350 v2816
  let v2820 : BitVec 32 := Scalar.minsi v2818 v2819
  let v2871 : Index := Scalar.indexCast v2820
  let c0_1398 : Index := 0#32
  let c0_1399 : Index := 0#32
  ![0, 7, v2871.toNat, 0, 0]
def k0_off82 (i : grid0.Coords) : Fin 4 → Nat :=
  let c0_974 : Index := 0#32
  let arg1 : BitVec 32 := BitVec.ofNat 32 (i 1).val
  let c0_i32_973 : BitVec 32 := 0#32
  let v2233 : BitVec 32 := Scalar.maxsi arg1 c0_i32_973
  let v2234 : Index := Scalar.indexCast v2233
  let c0_975 : Index := 0#32
  let c0_976 : Index := 0#32
  ![0, v2234.toNat, 0, 0]
def k0_off83 (i : grid0.Coords) : Fin 5 → Nat :=
  let c0_1023 : Index := 0#32
  let c0_1024 : Index := 0#32
  let arg1 : BitVec 32 := BitVec.ofNat 32 (i 1).val
  let c0_i32_1022 : BitVec 32 := 0#32
  let v2298 : BitVec 32 := Scalar.maxsi arg1 c0_i32_1022
  let v2299 : Index := Scalar.indexCast v2298
  let c0_1025 : Index := 0#32
  let c0_1026 : Index := 0#32
  ![0, 0, v2299.toNat, 0, 0]
def k0_off84 (i : grid0.Coords) : Fin 5 → Nat :=
  let c0_1028 : Index := 0#32
  let c1_1029 : Index := 1#32
  let arg1 : BitVec 32 := BitVec.ofNat 32 (i 1).val
  let c0_i32_1022 : BitVec 32 := 0#32
  let v2298 : BitVec 32 := Scalar.maxsi arg1 c0_i32_1022
  let v2304 : Index := Scalar.indexCast v2298
  let c0_1030 : Index := 0#32
  let c0_1031 : Index := 0#32
  ![0, 1, v2304.toNat, 0, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  ![arg0.toNat, c1_i32.toNat, arg1.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_6 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  let c0_i32_3 : BitVec 32 := 0#32
  ![arg0.toNat, c0_i32.toNat, c0_i32_0.toNat, c0_i32_1.toNat, c0_i32_2.toNat]

def cc0_transform_7 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_8 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  let c0_i32_3 : BitVec 32 := 0#32
  ![arg0.toNat, c0_i32.toNat, c0_i32_0.toNat, c0_i32_1.toNat, c0_i32_2.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_11 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  ![arg0.toNat, c1_i32.toNat, arg1.toNat]

def cc0_transform_12 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_13 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_14 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  let c0_i32_3 : BitVec 32 := 0#32
  ![arg0.toNat, c0_i32.toNat, c0_i32_0.toNat, c0_i32_1.toNat, c0_i32_2.toNat]

def cc0_transform_15 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_16 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x512x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x2x16x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x2x80x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x16x256x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x2x16x80x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x16x256x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S1x2x16x80x256 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 1 → Memref sig .tc .vmem S64x256 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 2 → Memref sig .tc .vmem S1x512x256 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x512x256 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x8x16x64 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, false]

abbrev stage0_13 : Fin 2 → Memref sig .tc .vmem S1x16x256x1024 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, false]

abbrev stage0_14 : Fin 2 → Memref sig .tc .vmem S1x8x16x80x256 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, false]

abbrev stage0_15 : Fin 2 → Memref sig .tc .vmem S1x512x256 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]

abbrev stage0_16 : Fin 2 → Memref sig .tc .vmem S1x512x256 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]
-- ==== KernelIdeal.lean ====
variable {F : FTy → Type} [FloatOps F] [Named F]
def κ : String → Option EReal := fun
  | "mask" => some ⊥
  | "scale" => some (((Real.log 256)⁻¹ : ℝ) : EReal)
  | _ => none
-- ==== Kernel2.lean ====
abbrev S8x4096x1024 : Shape := ⟨3, ![8, 4096, 1024]⟩
abbrev S8x4096x512 : Shape := ⟨3, ![8, 4096, 512]⟩
abbrev S8x4096x2048 : Shape := ⟨3, ![8, 4096, 2048]⟩
abbrev S512x1024 : Shape := ⟨2, ![512, 1024]⟩
abbrev S1024x1024 : Shape := ⟨2, ![1024, 1024]⟩
abbrev S1024 : Shape := ⟨1, ![1024]⟩
abbrev S1024x4096 : Shape := ⟨2, ![1024, 4096]⟩
abbrev S4096x1024 : Shape := ⟨2, ![4096, 1024]⟩
abbrev S32768x1024 : Shape := ⟨2, ![32768, 1024]⟩
abbrev S8x512x4096 : Shape := ⟨3, ![8, 512, 4096]⟩
abbrev S32768x2048 : Shape := ⟨2, ![32768, 2048]⟩
abbrev S1x1024 : Shape := ⟨2, ![1, 1024]⟩
abbrev S1x512x512 : Shape := ⟨3, ![1, 512, 512]⟩
abbrev S512x2048 : Shape := ⟨2, ![512, 2048]⟩
abbrev S512x512 : Shape := ⟨2, ![512, 512]⟩
abbrev S512 : Shape := ⟨1, ![512]⟩
abbrev S512x1 : Shape := ⟨2, ![512, 1]⟩

abbrev nBuf : Space → Nat
  | .hbm => 26
  | .vmem => 17
  | .smem => 0
  | _ => 0

abbrev bufTy : (tb : Table) → Fin (tcTables nBuf tb) → BufTy
  | .hbm, ⟨0, _⟩ => ⟨S8x4096x1024, .f32⟩
  | .hbm, ⟨1, _⟩ => ⟨S8x4096x512, .f32⟩
  | .hbm, ⟨2, _⟩ => ⟨S8x4096x512, .f32⟩
  | .hbm, ⟨3, _⟩ => ⟨S8x4096x2048, .f32⟩
  | .hbm, ⟨4, _⟩ => ⟨S512x1024, .f32⟩
  | .hbm, ⟨5, _⟩ => ⟨S512x1024, .f32⟩
  | .hbm, ⟨6, _⟩ => ⟨S1024x1024, .f32⟩
  | .hbm, ⟨7, _⟩ => ⟨S1024, .f32⟩
  | .hbm, ⟨8, _⟩ => ⟨S1024x4096, .f32⟩
  | .hbm, ⟨9, _⟩ => ⟨S4096x1024, .f32⟩
  | .hbm, ⟨10, _⟩ => ⟨S1024, .f32⟩
  | .hbm, ⟨11, _⟩ => ⟨S32768x1024, .f32⟩
  | .hbm, ⟨12, _⟩ => ⟨S8x512x4096, .f32⟩
  | .hbm, ⟨13, _⟩ => ⟨S8x512x4096, .bf16⟩
  | .hbm, ⟨14, _⟩ => ⟨S8x512x4096, .f32⟩
  | .hbm, ⟨15, _⟩ => ⟨S8x512x4096, .bf16⟩
  | .hbm, ⟨16, _⟩ => ⟨S32768x2048, .f32⟩
  | .hbm, ⟨17, _⟩ => ⟨S32768x2048, .bf16⟩
  | .hbm, ⟨18, _⟩ => ⟨S512x1024, .bf16⟩
  | .hbm, ⟨19, _⟩ => ⟨S512x1024, .bf16⟩
  | .hbm, ⟨20, _⟩ => ⟨S1024x1024, .bf16⟩
  | .hbm, ⟨21, _⟩ => ⟨S1x1024, .f32⟩
  | .hbm, ⟨22, _⟩ => ⟨S1024x4096, .bf16⟩
  | .hbm, ⟨23, _⟩ => ⟨S4096x1024, .bf16⟩
  | .hbm, ⟨24, _⟩ => ⟨S1x1024, .f32⟩
  | .hbm, ⟨25, _⟩ => ⟨S32768x1024, .f32⟩
  | .local _ .vmem, ⟨0, _⟩ => ⟨S512x1024, .f32⟩
  | .local _ .vmem, ⟨1, _⟩ => ⟨S512x1024, .f32⟩
  | .local _ .vmem, ⟨2, _⟩ => ⟨S1x512x512, .bf16⟩
  | .local _ .vmem, ⟨3, _⟩ => ⟨S1x512x512, .bf16⟩
  | .local _ .vmem, ⟨4, _⟩ => ⟨S1x512x512, .bf16⟩
  | .local _ .vmem, ⟨5, _⟩ => ⟨S1x512x512, .bf16⟩
  | .local _ .vmem, ⟨6, _⟩ => ⟨S512x2048, .bf16⟩
  | .local _ .vmem, ⟨7, _⟩ => ⟨S512x2048, .bf16⟩
  | .local _ .vmem, ⟨8, _⟩ => ⟨S512x1024, .bf16⟩
  | .local _ .vmem, ⟨9, _⟩ => ⟨S512x1024, .bf16⟩
  | .local _ .vmem, ⟨10, _⟩ => ⟨S1024x1024, .bf16⟩
  | .local _ .vmem, ⟨11, _⟩ => ⟨S1x1024, .f32⟩
  | .local _ .vmem, ⟨12, _⟩ => ⟨S1024x4096, .bf16⟩
  | .local _ .vmem, ⟨13, _⟩ => ⟨S4096x1024, .bf16⟩
  | .local _ .vmem, ⟨14, _⟩ => ⟨S1x1024, .f32⟩
  | .local _ .vmem, ⟨15, _⟩ => ⟨S512x1024, .f32⟩
  | .local _ .vmem, ⟨16, _⟩ => ⟨S512x1024, .f32⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg11_1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem11_0 : DmaSem sig := 15
abbrev cc0_sem11_1 : DmaSem sig := 16

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_2 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S512x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S512x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x4096 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S4096x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S512x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== Reference2Ideal.lean ====
abbrev S8x4096x1024 : Shape := ⟨3, ![8, 4096, 1024]⟩
abbrev S8x4096x512 : Shape := ⟨3, ![8, 4096, 512]⟩
abbrev S8x4096x2048 : Shape := ⟨3, ![8, 4096, 2048]⟩
abbrev S512x1024 : Shape := ⟨2, ![512, 1024]⟩
abbrev S1024x1024 : Shape := ⟨2, ![1024, 1024]⟩
abbrev S1024 : Shape := ⟨1, ![1024]⟩
abbrev S1024x4096 : Shape := ⟨2, ![1024, 4096]⟩
abbrev S4096x1024 : Shape := ⟨2, ![4096, 1024]⟩
abbrev S_ : Shape := ⟨0, ![]⟩
abbrev S8x4096 : Shape := ⟨2, ![8, 4096]⟩
abbrev S8x4096x1 : Shape := ⟨3, ![8, 4096, 1]⟩
abbrev S1x1x1024 : Shape := ⟨3, ![1, 1, 1024]⟩
abbrev S8x4096x4096 : Shape := ⟨3, ![8, 4096, 4096]⟩
abbrev S32768x1024 : Shape := ⟨2, ![32768, 1024]⟩

abbrev nBuf : Space → Nat
  | .hbm => 60
  | .vmem => 0
  | .smem => 0
  | _ => 0

abbrev bufTy : (tb : Table) → Fin (tcTables nBuf tb) → BufTy
  | .hbm, ⟨0, _⟩ => ⟨S8x4096x1024, .f32⟩
  | .hbm, ⟨1, _⟩ => ⟨S8x4096x512, .f32⟩
  | .hbm, ⟨2, _⟩ => ⟨S8x4096x512, .f32⟩
  | .hbm, ⟨3, _⟩ => ⟨S8x4096x2048, .f32⟩
  | .hbm, ⟨4, _⟩ => ⟨S512x1024, .f32⟩
  | .hbm, ⟨5, _⟩ => ⟨S512x1024, .f32⟩
  | .hbm, ⟨6, _⟩ => ⟨S1024x1024, .f32⟩
  | .hbm, ⟨7, _⟩ => ⟨S1024, .f32⟩
  | .hbm, ⟨8, _⟩ => ⟨S1024x4096, .f32⟩
  | .hbm, ⟨9, _⟩ => ⟨S4096x1024, .f32⟩
  | .hbm, ⟨10, _⟩ => ⟨S1024, .f32⟩
  | .hbm, ⟨11, _⟩ => ⟨S8x4096x1024, .f32⟩
  | .hbm, ⟨12, _⟩ => ⟨S8x4096x1024, .f32⟩
  | .hbm, ⟨13, _⟩ => ⟨S8x4096x1024, .f32⟩
  | .hbm, ⟨14, _⟩ => ⟨S8x4096x1024, .f32⟩
  | .hbm, ⟨15, _⟩ => ⟨S8x4096x1024, .f32⟩
  | .hbm, ⟨16, _⟩ => ⟨S8x4096x1024, .f32⟩
  | .hbm, ⟨17, _⟩ => ⟨S8x4096x1024, .f32⟩
  | .hbm, ⟨18, _⟩ => ⟨S8x4096x1024, .f32⟩
  | .hbm, ⟨19, _⟩ => ⟨S8x4096x1024, .f32⟩
  | .hbm, ⟨20, _⟩ => ⟨S8x4096x1024, .f32⟩
  | .hbm, ⟨21, _⟩ => ⟨S_, .f32⟩
  | .hbm, ⟨22, _⟩ => ⟨S8x4096, .f32⟩
  | .hbm, ⟨23, _⟩ => ⟨S8x4096x1, .f32⟩
  | .hbm, ⟨24, _⟩ => ⟨S_, .f32⟩
  | .hbm, ⟨25, _⟩ => ⟨S8x4096x1, .f32⟩
  | .hbm, ⟨26, _⟩ => ⟨S8x4096x1, .f32⟩
  | .hbm, ⟨27, _⟩ => ⟨S_, .f32⟩
  | .hbm, ⟨28, _⟩ => ⟨S8x4096x1, .f32⟩
  | .hbm, ⟨29, _⟩ => ⟨S8x4096x1, .f32⟩
  | .hbm, ⟨30, _⟩ => ⟨S8x4096x1, .f32⟩
  | .hbm, ⟨31, _⟩ => ⟨S8x4096x1024, .f32⟩
  | .hbm, ⟨32, _⟩ => ⟨S8x4096x1024, .f32⟩
  | .hbm, ⟨33, _⟩ => ⟨S1x1x1024, .f32⟩
  | .hbm, ⟨34, _⟩ => ⟨S8x4096x1024, .f32⟩
  | .hbm, ⟨35, _⟩ => ⟨S8x4096x1024, .f32⟩
  | .hbm, ⟨36, _⟩ => ⟨S8x4096x4096, .f32⟩
  | .hbm, ⟨37, _⟩ => ⟨S_, .f32⟩
  | .hbm, ⟨38, _⟩ => ⟨S8x4096x4096, .f32⟩
  | .hbm, ⟨39, _⟩ => ⟨S8x4096x4096, .f32⟩
  | .hbm, ⟨40, _⟩ => ⟨S8x4096x4096, .f32⟩
  | .hbm, ⟨41, _⟩ => ⟨S8x4096x1024, .f32⟩
  | .hbm, ⟨42, _⟩ => ⟨S8x4096x1024, .f32⟩
  | .hbm, ⟨43, _⟩ => ⟨S8x4096x1024, .f32⟩
  | .hbm, ⟨44, _⟩ => ⟨S_, .f32⟩
  | .hbm, ⟨45, _⟩ => ⟨S8x4096, .f32⟩
  | .hbm, ⟨46, _⟩ => ⟨S8x4096x1, .f32⟩
  | .hbm, ⟨47, _⟩ => ⟨S_, .f32⟩
  | .hbm, ⟨48, _⟩ => ⟨S8x4096x1, .f32⟩
  | .hbm, ⟨49, _⟩ => ⟨S8x4096x1, .f32⟩
  | .hbm, ⟨50, _⟩ => ⟨S_, .f32⟩
  | .hbm, ⟨51, _⟩ => ⟨S8x4096x1, .f32⟩
  | .hbm, ⟨52, _⟩ => ⟨S8x4096x1, .f32⟩
  | .hbm, ⟨53, _⟩ => ⟨S8x4096x1, .f32⟩
  | .hbm, ⟨54, _⟩ => ⟨S8x4096x1024, .f32⟩
  | .hbm, ⟨55, _⟩ => ⟨S8x4096x1024, .f32⟩
  | .hbm, ⟨56, _⟩ => ⟨S1x1x1024, .f32⟩
  | .hbm, ⟨57, _⟩ => ⟨S8x4096x1024, .f32⟩
  | .hbm, ⟨58, _⟩ => ⟨S8x4096x1024, .f32⟩
  | .hbm, ⟨59, _⟩ => ⟨S32768x1024, .f32⟩
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_cst : Ref sig .tc := ⟨.hbm, 21, rfl⟩
abbrev main_v10 : Ref sig .tc := ⟨.hbm, 22, rfl⟩
abbrev main_v11 : Ref sig .tc := ⟨.hbm, 23, rfl⟩
abbrev main_cst_0 : Ref sig .tc := ⟨.hbm, 24, rfl⟩
abbrev main_v12 : Ref sig .tc := ⟨.hbm, 25, rfl⟩
abbrev main_v13 : Ref sig .tc := ⟨.hbm, 26, rfl⟩
abbrev main_cst_1 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_call0_cst : Ref sig .tc := ⟨.hbm, 37, rfl⟩
abbrev main_call0_v0 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_cst_2 : Ref sig .tc := ⟨.hbm, 44, rfl⟩
abbrev main_v28 : Ref sig .tc := ⟨.hbm, 45, rfl⟩
abbrev main_v29 : Ref sig .tc := ⟨.hbm, 46, rfl⟩
abbrev main_cst_3 : Ref sig .tc := ⟨.hbm, 47, rfl⟩
abbrev main_v30 : Ref sig .tc := ⟨.hbm, 48, rfl⟩
abbrev main_v31 : Ref sig .tc := ⟨.hbm, 49, rfl⟩
abbrev main_cst_4 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩

abbrev nD : Nat := 1
abbrev τ : Topo := Topo.v7x

variable {F : FTy → Type} [FloatOps F]
-- ==== Kernel3.lean ====
abbrev S8x4096x1024 : Shape := ⟨3, ![8, 4096, 1024]⟩
abbrev S1024 : Shape := ⟨1, ![1024]⟩
abbrev S1024x4888 : Shape := ⟨2, ![1024, 4888]⟩
abbrev S1024x128 : Shape := ⟨2, ![1024, 128]⟩
abbrev S1024x512 : Shape := ⟨2, ![1024, 512]⟩
abbrev S1024x2048 : Shape := ⟨2, ![1024, 2048]⟩
abbrev S1024x3072 : Shape := ⟨2, ![1024, 3072]⟩
abbrev S1024x24 : Shape := ⟨2, ![1024, 24]⟩
abbrev S24x1024 : Shape := ⟨2, ![24, 1024]⟩
abbrev S2x12x1024 : Shape := ⟨3, ![2, 12, 1024]⟩
abbrev S_ : Shape := ⟨0, ![]⟩
abbrev S2x4x1024 : Shape := ⟨3, ![2, 4, 1024]⟩
abbrev S2x16x1024 : Shape := ⟨3, ![2, 16, 1024]⟩
abbrev S512x1024 : Shape := ⟨2, ![512, 1024]⟩
abbrev S128x1024 : Shape := ⟨2, ![128, 1024]⟩
abbrev S32x1024 : Shape := ⟨2, ![32, 1024]⟩
abbrev S1824x1024 : Shape := ⟨2, ![1824, 1024]⟩
abbrev S32768x1024 : Shape := ⟨2, ![32768, 1024]⟩
abbrev S1x1024 : Shape := ⟨2, ![1, 1024]⟩
abbrev S8 : Shape := ⟨1, ![8]⟩
abbrev S4096 : Shape := ⟨1, ![4096]⟩
abbrev S4096x1 : Shape := ⟨2, ![4096, 1]⟩
abbrev S1x8 : Shape := ⟨2, ![1, 8]⟩
abbrev S4096x8 : Shape := ⟨2, ![4096, 8]⟩
abbrev S4096x48 : Shape := ⟨2, ![4096, 48]⟩
abbrev S4096x64 : Shape := ⟨2, ![4096, 64]⟩
abbrev S4096x128 : Shape := ⟨2, ![4096, 128]⟩
abbrev S8x4096 : Shape := ⟨2, ![8, 4096]⟩
abbrev S8x1024x4096 : Shape := ⟨3, ![8, 1024, 4096]⟩
abbrev S8x2x16x4096 : Shape := ⟨4, ![8, 2, 16, 4096]⟩
abbrev S32768x128 : Shape := ⟨2, ![32768, 128]⟩
abbrev S8x16x256x256 : Shape := ⟨4, ![8, 16, 256, 256]⟩
abbrev S8x16x256x128 : Shape := ⟨4, ![8, 16, 256, 128]⟩
abbrev S8x2x16x80x256 : Shape := ⟨5, ![8, 2, 16, 80, 256]⟩
abbrev S8x16x256x1024 : Shape := ⟨4, ![8, 16, 256, 1024]⟩
abbrev S8x8x16x80x256 : Shape := ⟨5, ![8, 8, 16, 80, 256]⟩
abbrev S8x128x512 : Shape := ⟨3, ![8, 128, 512]⟩
abbrev S32768x2048 : Shape := ⟨2, ![32768, 2048]⟩
abbrev S256x1024 : Shape := ⟨2, ![256, 1024]⟩
abbrev S256x128 : Shape := ⟨2, ![256, 128]⟩
abbrev S8x256 : Shape := ⟨2, ![8, 256]⟩
abbrev S1x1024x256 : Shape := ⟨3, ![1, 1024, 256]⟩
abbrev S1x2x16x256 : Shape := ⟨4, ![1, 2, 16, 256]⟩
abbrev S1x1x256x256 : Shape := ⟨4, ![1, 1, 256, 256]⟩
abbrev S1x1x256x128 : Shape := ⟨4, ![1, 1, 256, 128]⟩
abbrev S1x2x1x80x256 : Shape := ⟨5, ![1, 2, 1, 80, 256]⟩
abbrev S1x1x256x1024 : Shape := ⟨4, ![1, 1, 256, 1024]⟩
abbrev S1x8x1x80x256 : Shape := ⟨5, ![1, 8, 1, 80, 256]⟩
abbrev S1x8x512 : Shape := ⟨3, ![1, 8, 512]⟩
abbrev S256x2048 : Shape := ⟨2, ![256, 2048]⟩
abbrev S256 : Shape := ⟨1, ![256]⟩
abbrev S256x1 : Shape := ⟨2, ![256, 1]⟩
abbrev S1024x256 : Shape := ⟨2, ![1024, 256]⟩
abbrev S256x256 : Shape := ⟨2, ![256, 256]⟩
abbrev S1x128 : Shape := ⟨2, ![1, 128]⟩
abbrev S256x512 : Shape := ⟨2, ![256, 512]⟩
abbrev S128 : Shape := ⟨1, ![128]⟩
abbrev S1x512 : Shape := ⟨2, ![1, 512]⟩
abbrev S8x512 : Shape := ⟨2, ![8, 512]⟩
abbrev S512x256 : Shape := ⟨2, ![512, 256]⟩
abbrev S1x512x256 : Shape := ⟨3, ![1, 512, 256]⟩
abbrev S48x256 : Shape := ⟨2, ![48, 256]⟩
abbrev S16x256 : Shape := ⟨2, ![16, 256]⟩
abbrev S64x256 : Shape := ⟨2, ![64, 256]⟩
abbrev S1x1x1x64x256 : Shape := ⟨5, ![1, 1, 1, 64, 256]⟩
abbrev S1x1x1x16x256 : Shape := ⟨5, ![1, 1, 1, 16, 256]⟩
abbrev S32x256 : Shape := ⟨2, ![32, 256]⟩
abbrev S1x1x16x256 : Shape := ⟨4, ![1, 1, 16, 256]⟩

abbrev nBuf : Space → Nat
  | .hbm => 84
  | .vmem => 42
  | .smem => 0
  | _ => 0

abbrev bufTy : (tb : Table) → Fin (tcTables nBuf tb) → BufTy
  | .hbm, ⟨0, _⟩ => ⟨S8x4096x1024, .f32⟩
  | .hbm, ⟨1, _⟩ => ⟨S1024, .f32⟩
  | .hbm, ⟨2, _⟩ => ⟨S1024x4888, .f32⟩
  | .hbm, ⟨3, _⟩ => ⟨S1024x128, .f32⟩
  | .hbm, ⟨4, _⟩ => ⟨S1024x128, .f32⟩
  | .hbm, ⟨5, _⟩ => ⟨S1024x128, .f32⟩
  | .hbm, ⟨6, _⟩ => ⟨S1024x128, .f32⟩
  | .hbm, ⟨7, _⟩ => ⟨S1024x512, .f32⟩
  | .hbm, ⟨8, _⟩ => ⟨S1024x2048, .f32⟩
  | .hbm, ⟨9, _⟩ => ⟨S1024x3072, .f32⟩
  | .hbm, ⟨10, _⟩ => ⟨S1024x24, .f32⟩
  | .hbm, ⟨11, _⟩ => ⟨S24x1024, .f32⟩
  | .hbm, ⟨12, _⟩ => ⟨S2x12x1024, .f32⟩
  | .hbm, ⟨13, _⟩ => ⟨S_, .f32⟩
  | .hbm, ⟨14, _⟩ => ⟨S2x4x1024, .f32⟩
  | .hbm, ⟨15, _⟩ => ⟨S2x16x1024, .f32⟩
  | .hbm, ⟨16, _⟩ => ⟨S1024x512, .f32⟩
  | .hbm, ⟨17, _⟩ => ⟨S512x1024, .f32⟩
  | .hbm, ⟨18, _⟩ => ⟨S1024x512, .f32⟩
  | .hbm, ⟨19, _⟩ => ⟨S512x1024, .f32⟩
  | .hbm, ⟨20, _⟩ => ⟨S1024x128, .f32⟩
  | .hbm, ⟨21, _⟩ => ⟨S128x1024, .f32⟩
  | .hbm, ⟨22, _⟩ => ⟨S1024x128, .f32⟩
  | .hbm, ⟨23, _⟩ => ⟨S128x1024, .f32⟩
  | .hbm, ⟨24, _⟩ => ⟨S1024x512, .f32⟩
  | .hbm, ⟨25, _⟩ => ⟨S512x1024, .f32⟩
  | .hbm, ⟨26, _⟩ => ⟨S32x1024, .f32⟩
  | .hbm, ⟨27, _⟩ => ⟨S1824x1024, .f32⟩
  | .hbm, ⟨28, _⟩ => ⟨S1024x3072, .bf16⟩
  | .hbm, ⟨29, _⟩ => ⟨S1824x1024, .bf16⟩
  | .hbm, ⟨30, _⟩ => ⟨S32768x1024, .f32⟩
  | .hbm, ⟨31, _⟩ => ⟨S1x1024, .f32⟩
  | .hbm, ⟨32, _⟩ => ⟨S8, .f32⟩
  | .hbm, ⟨33, _⟩ => ⟨S_, .f32⟩
  | .hbm, ⟨34, _⟩ => ⟨S8, .f32⟩
  | .hbm, ⟨35, _⟩ => ⟨S8, .f32⟩
  | .hbm, ⟨36, _⟩ => ⟨S_, .f32⟩
  | .hbm, ⟨37, _⟩ => ⟨S8, .f32⟩
  | .hbm, ⟨38, _⟩ => ⟨S8, .f32⟩
  | .hbm, ⟨39, _⟩ => ⟨S8, .f32⟩
  | .hbm, ⟨40, _⟩ => ⟨S_, .f32⟩
  | .hbm, ⟨41, _⟩ => ⟨S8, .f32⟩
  | .hbm, ⟨42, _⟩ => ⟨S8, .f32⟩
  | .hbm, ⟨43, _⟩ => ⟨S_, .f32⟩
  | .hbm, ⟨44, _⟩ => ⟨S8, .f32⟩
  | .hbm, ⟨45, _⟩ => ⟨S8, .f32⟩
  | .hbm, ⟨46, _⟩ => ⟨S4096, .f32⟩
  | .hbm, ⟨47, _⟩ => ⟨S4096x1, .f32⟩
  | .hbm, ⟨48, _⟩ => ⟨S1x8, .f32⟩
  | .hbm, ⟨49, _⟩ => ⟨S4096x8, .f32⟩
  | .hbm, ⟨50, _⟩ => ⟨S4096x8, .f32⟩
  | .hbm, ⟨51, _⟩ => ⟨S4096x8, .f32⟩
  | .hbm, ⟨52, _⟩ => ⟨S4096x8, .f32⟩
  | .hbm, ⟨53, _⟩ => ⟨S4096x8, .f32⟩
  | .hbm, ⟨54, _⟩ => ⟨S_, .f32⟩
  | .hbm, ⟨55, _⟩ => ⟨S4096x8, .f32⟩
  | .hbm, ⟨56, _⟩ => ⟨S_, .f32⟩
  | .hbm, ⟨57, _⟩ => ⟨S4096x48, .f32⟩
  | .hbm, ⟨58, _⟩ => ⟨S4096x64, .f32⟩
  | .hbm, ⟨59, _⟩ => ⟨S4096x128, .f32⟩
  | .hbm, ⟨60, _⟩ => ⟨S4096x8, .f32⟩
  | .hbm, ⟨61, _⟩ => ⟨S_, .f32⟩
  | .hbm, ⟨62, _⟩ => ⟨S4096x48, .f32⟩
  | .hbm, ⟨63, _⟩ => ⟨S4096x64, .f32⟩
  | .hbm, ⟨64, _⟩ => ⟨S4096x128, .f32⟩
  | .hbm, ⟨65, _⟩ => ⟨S_, .f32⟩
  | .hbm, ⟨66, _⟩ => ⟨S4096x48, .f32⟩
  | .hbm, ⟨67, _⟩ => ⟨S4096x64, .f32⟩
  | .hbm, ⟨68, _⟩ => ⟨S4096x128, .f32⟩
  | .hbm, ⟨69, _⟩ => ⟨S8x4096, .f32⟩
  | .hbm, ⟨70, _⟩ => ⟨S8x4096, .f32⟩
  | .hbm, ⟨71, _⟩ => ⟨S8x1024x4096, .bf16⟩
  | .hbm, ⟨72, _⟩ => ⟨S8x1024x4096, .bf16⟩
  | .hbm, ⟨73, _⟩ => ⟨S8x2x16x4096, .f32⟩
  | .hbm, ⟨74, _⟩ => ⟨S32768x128, .f32⟩
  | .hbm, ⟨75, _⟩ => ⟨S32768x128, .f32⟩
  | .hbm, ⟨76, _⟩ => ⟨S8x16x256x256, .bf16⟩
  | .hbm, ⟨77, _⟩ => ⟨S8x16x256x128, .bf16⟩
  | .hbm, ⟨78, _⟩ => ⟨S8x2x16x80x256, .bf16⟩
  | .hbm, ⟨79, _⟩ => ⟨S8x2x16x80x256, .bf16⟩
  | .hbm, ⟨80, _⟩ => ⟨S8x16x256x1024, .bf16⟩
  | .hbm, ⟨81, _⟩ => ⟨S8x8x16x80x256, .bf16⟩
  | .hbm, ⟨82, _⟩ => ⟨S8x128x512, .f32⟩
  | .hbm, ⟨83, _⟩ => ⟨S32768x2048, .bf16⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S1024x3072, .bf16⟩
  | .local _ .vmem, ⟨4, _⟩ => ⟨S1824x1024, .bf16⟩
  | .local _ .vmem, ⟨5, _⟩ => ⟨S256x128, .f32⟩
  | .local _ .vmem, ⟨6, _⟩ => ⟨S256x128, .f32⟩
  | .local _ .vmem, ⟨7, _⟩ => ⟨S256x128, .f32⟩
  | .local _ .vmem, ⟨8, _⟩ => ⟨S256x128, .f32⟩
  | .local _ .vmem, ⟨9, _⟩ => ⟨S256x128, .f32⟩
  | .local _ .vmem, ⟨10, _⟩ => ⟨S256x128, .f32⟩
  | .local _ .vmem, ⟨11, _⟩ => ⟨S8x256, .f32⟩
  | .local _ .vmem, ⟨12, _⟩ => ⟨S8x256, .f32⟩
  | .local _ .vmem, ⟨13, _⟩ => ⟨S8x256, .f32⟩
  | .local _ .vmem, ⟨14, _⟩ => ⟨S8x256, .f32⟩
  | .local _ .vmem, ⟨15, _⟩ => ⟨S1x1024x256, .bf16⟩
  | .local _ .vmem, ⟨16, _⟩ => ⟨S1x1024x256, .bf16⟩
  | .local _ .vmem, ⟨17, _⟩ => ⟨S1x1024x256, .bf16⟩
  | .local _ .vmem, ⟨18, _⟩ => ⟨S1x1024x256, .bf16⟩
  | .local _ .vmem, ⟨19, _⟩ => ⟨S1x2x16x256, .f32⟩
  | .local _ .vmem, ⟨20, _⟩ => ⟨S1x2x16x256, .f32⟩
  | .local _ .vmem, ⟨21, _⟩ => ⟨S256x128, .f32⟩
  | .local _ .vmem, ⟨22, _⟩ => ⟨S256x128, .f32⟩
  | .local _ .vmem, ⟨23, _⟩ => ⟨S256x128, .f32⟩
  | .local _ .vmem, ⟨24, _⟩ => ⟨S256x128, .f32⟩
  | .local _ .vmem, ⟨25, _⟩ => ⟨S1x1x256x256, .bf16⟩
  | .local _ .vmem, ⟨26, _⟩ => ⟨S1x1x256x256, .bf16⟩
  | .local _ .vmem, ⟨27, _⟩ => ⟨S1x1x256x128, .bf16⟩
  | .local _ .vmem, ⟨28, _⟩ => ⟨S1x1x256x128, .bf16⟩
  | .local _ .vmem, ⟨29, _⟩ => ⟨S1x2x1x80x256, .bf16⟩
  | .local _ .vmem, ⟨30, _⟩ => ⟨S1x2x1x80x256, .bf16⟩
  | .local _ .vmem, ⟨31, _⟩ => ⟨S1x2x1x80x256, .bf16⟩
  | .local _ .vmem, ⟨32, _⟩ => ⟨S1x2x1x80x256, .bf16⟩
  | .local _ .vmem, ⟨33, _⟩ => ⟨S1x1x256x1024, .bf16⟩
  | .local _ .vmem, ⟨34, _⟩ => ⟨S1x1x256x1024, .bf16⟩
  | .local _ .vmem, ⟨35, _⟩ => ⟨S1x8x1x80x256, .bf16⟩
  | .local _ .vmem, ⟨36, _⟩ => ⟨S1x8x1x80x256, .bf16⟩
  | .local _ .vmem, ⟨37, _⟩ => ⟨S1x8x512, .f32⟩
  | .local _ .vmem, ⟨38, _⟩ => ⟨S1x8x512, .f32⟩
  | .local _ .vmem, ⟨39, _⟩ => ⟨S256x2048, .bf16⟩
  | .local _ .vmem, ⟨40, _⟩ => ⟨S256x2048, .bf16⟩
  | .local _ .vmem, ⟨41, _⟩ => ⟨S256x1024, .bf16⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | _, _ => false

abbrev semScoped : Fin 0 → Bool
  | ⟨_, h⟩ => absurd h (Nat.not_lt_zero _)

abbrev dmaSemScoped : Fin 41 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | _ => false

abbrev sig : RefSig :=
  ofTc nBuf bufTy 0 41 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_cst : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_cst_0 : Ref sig .tc := ⟨.hbm, 33, rfl⟩
abbrev main_v29 : Ref sig .tc := ⟨.hbm, 34, rfl⟩
abbrev main_v30 : Ref sig .tc := ⟨.hbm, 35, rfl⟩
abbrev main_cst_1 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_cst_2 : Ref sig .tc := ⟨.hbm, 40, rfl⟩
abbrev main_v34 : Ref sig .tc := ⟨.hbm, 41, rfl⟩
abbrev main_v35 : Ref sig .tc := ⟨.hbm, 42, rfl⟩
abbrev main_cst_3 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_v43 : Ref sig .tc := ⟨.hbm, 51, rfl⟩
abbrev main_v44 : Ref sig .tc := ⟨.hbm, 52, rfl⟩
abbrev main_v45 : Ref sig .tc := ⟨.hbm, 53, rfl⟩
abbrev main_cst_4 : Ref sig .tc := ⟨.hbm, 54, rfl⟩
abbrev main_v46 : Ref sig .tc := ⟨.hbm, 55, rfl⟩
abbrev main_cst_5 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_cst_6 : Ref sig .tc := ⟨.hbm, 61, rfl⟩
abbrev main_v51 : Ref sig .tc := ⟨.hbm, 62, rfl⟩
abbrev main_v52 : Ref sig .tc := ⟨.hbm, 63, rfl⟩
abbrev main_v53 : Ref sig .tc := ⟨.hbm, 64, rfl⟩
abbrev main_cst_7 : Ref sig .tc := ⟨.hbm, 65, rfl⟩
abbrev main_v54 : Ref sig .tc := ⟨.hbm, 66, rfl⟩
abbrev main_v55 : Ref sig .tc := ⟨.hbm, 67, rfl⟩
abbrev main_v56 : Ref sig .tc := ⟨.hbm, 68, rfl⟩
abbrev main_v57 : Ref sig .tc := ⟨.hbm, 69, rfl⟩
abbrev main_v58 : Ref sig .tc := ⟨.hbm, 70, rfl⟩
abbrev main_v59_0 : Ref sig .tc := ⟨.hbm, 71, rfl⟩
abbrev main_v59_1 : Ref sig .tc := ⟨.hbm, 72, rfl⟩
abbrev main_v59_2 : Ref sig .tc := ⟨.hbm, 73, rfl⟩
abbrev main_v59_3 : Ref sig .tc := ⟨.hbm, 74, rfl⟩
abbrev main_v59_4 : Ref sig .tc := ⟨.hbm, 75, rfl⟩
abbrev main_v59_5 : Ref sig .tc := ⟨.hbm, 76, rfl⟩
abbrev main_v59_6 : Ref sig .tc := ⟨.hbm, 77, rfl⟩
abbrev main_v59_7 : Ref sig .tc := ⟨.hbm, 78, rfl⟩
abbrev main_v59_8 : Ref sig .tc := ⟨.hbm, 79, rfl⟩
abbrev main_v59_9 : Ref sig .tc := ⟨.hbm, 80, rfl⟩
abbrev main_v59_10 : Ref sig .tc := ⟨.hbm, 81, rfl⟩
abbrev main_v59_11 : Ref sig .tc := ⟨.hbm, 82, rfl⟩
abbrev main_v59_12 : Ref sig .tc := ⟨.hbm, 83, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_stg11_1 : Ref sig .tc := ⟨.vmem, 20, rfl⟩
abbrev cc0_stg12_0 : Ref sig .tc := ⟨.vmem, 21, rfl⟩
abbrev cc0_stg12_1 : Ref sig .tc := ⟨.vmem, 22, rfl⟩
abbrev cc0_stg13_0 : Ref sig .tc := ⟨.vmem, 23, rfl⟩
abbrev cc0_stg13_1 : Ref sig .tc := ⟨.vmem, 24, rfl⟩
abbrev cc0_stg14_0 : Ref sig .tc := ⟨.vmem, 25, rfl⟩
abbrev cc0_stg14_1 : Ref sig .tc := ⟨.vmem, 26, rfl⟩
abbrev cc0_stg15_0 : Ref sig .tc := ⟨.vmem, 27, rfl⟩
abbrev cc0_stg15_1 : Ref sig .tc := ⟨.vmem, 28, rfl⟩
abbrev cc0_stg16_0 : Ref sig .tc := ⟨.vmem, 29, rfl⟩
abbrev cc0_stg16_1 : Ref sig .tc := ⟨.vmem, 30, rfl⟩
abbrev cc0_stg17_0 : Ref sig .tc := ⟨.vmem, 31, rfl⟩
abbrev cc0_stg17_1 : Ref sig .tc := ⟨.vmem, 32, rfl⟩
abbrev cc0_stg18_0 : Ref sig .tc := ⟨.vmem, 33, rfl⟩
abbrev cc0_stg18_1 : Ref sig .tc := ⟨.vmem, 34, rfl⟩
abbrev cc0_stg19_0 : Ref sig .tc := ⟨.vmem, 35, rfl⟩
abbrev cc0_stg19_1 : Ref sig .tc := ⟨.vmem, 36, rfl⟩
abbrev cc0_stg20_0 : Ref sig .tc := ⟨.vmem, 37, rfl⟩
abbrev cc0_stg20_1 : Ref sig .tc := ⟨.vmem, 38, rfl⟩
abbrev cc0_stg21_0 : Ref sig .tc := ⟨.vmem, 39, rfl⟩
abbrev cc0_stg21_1 : Ref sig .tc := ⟨.vmem, 40, rfl⟩
abbrev cc0_scratch0 : Ref sig .tc := ⟨.vmem, 41, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18
abbrev cc0_sem11_0 : DmaSem sig := 19
abbrev cc0_sem11_1 : DmaSem sig := 20
abbrev cc0_sem12_0 : DmaSem sig := 21
abbrev cc0_sem12_1 : DmaSem sig := 22
abbrev cc0_sem13_0 : DmaSem sig := 23
abbrev cc0_sem13_1 : DmaSem sig := 24
abbrev cc0_sem14_0 : DmaSem sig := 25
abbrev cc0_sem14_1 : DmaSem sig := 26
abbrev cc0_sem15_0 : DmaSem sig := 27
abbrev cc0_sem15_1 : DmaSem sig := 28
abbrev cc0_sem16_0 : DmaSem sig := 29
abbrev cc0_sem16_1 : DmaSem sig := 30
abbrev cc0_sem17_0 : DmaSem sig := 31
abbrev cc0_sem17_1 : DmaSem sig := 32
abbrev cc0_sem18_0 : DmaSem sig := 33
abbrev cc0_sem18_1 : DmaSem sig := 34
abbrev cc0_sem19_0 : DmaSem sig := 35
abbrev cc0_sem19_1 : DmaSem sig := 36
abbrev cc0_sem20_0 : DmaSem sig := 37
abbrev cc0_sem20_1 : DmaSem sig := 38
abbrev cc0_sem21_0 : DmaSem sig := 39
abbrev cc0_sem21_1 : DmaSem sig := 40

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c16_i32 : BitVec 32 := 16#32
  let c0_i32 : BitVec 32 := 0#32
  let v0 : BitVec 1 := Scalar.cmpi .eq c16_i32 c0_i32
  let c1_i32 : BitVec 32 := 1#32
  let v1 : BitVec 32 := Scalar.select v0 c1_i32 c16_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_5 (i : grid0.Coords) : Fin 2 → Nat :=
  let arg0 : BitVec 32 := BitVec.ofNat 32 (i 0).val
  let c16_i32 : BitVec 32 := 16#32
  let c0_i32 : BitVec 32 := 0#32
  let v0 : BitVec 1 := Scalar.cmpi .eq c16_i32 c0_i32
  let c1_i32 : BitVec 32 := 1#32
  let v1 : BitVec 32 := Scalar.select v0 c1_i32 c16_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_6 (i : grid0.Coords) : Fin 2 → Nat :=
  let arg0 : BitVec 32 := BitVec.ofNat 32 (i 0).val
  let c16_i32 : BitVec 32 := 16#32
  let c0_i32 : BitVec 32 := 0#32
  let v0 : BitVec 1 := Scalar.cmpi .eq c16_i32 c0_i32
  let c1_i32 : BitVec 32 := 1#32
  let v1 : BitVec 32 := Scalar.select v0 c1_i32 c16_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_7 (i : grid0.Coords) : Fin 2 → Nat :=
  let arg0 : BitVec 32 := BitVec.ofNat 32 (i 0).val
  let c16_i32 : BitVec 32 := 16#32
  let c0_i32 : BitVec 32 := 0#32
  let v0 : BitVec 1 := Scalar.cmpi .eq c16_i32 c0_i32
  let c1_i32 : BitVec 32 := 1#32
  let v1 : BitVec 32 := Scalar.select v0 c1_i32 c16_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![c0_i32_3.toNat, v9.toNat]

def cc0_transform_8 (i : grid0.Coords) : Fin 2 → Nat :=
  let arg0 : BitVec 32 := BitVec.ofNat 32 (i 0).val
  let c16_i32 : BitVec 32 := 16#32
  let c0_i32 : BitVec 32 := 0#32
  let v0 : BitVec 1 := Scalar.cmpi .eq c16_i32 c0_i32
  let c1_i32 : BitVec 32 := 1#32
  let v1 : BitVec 32 := Scalar.select v0 c1_i32 c16_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![c0_i32_3.toNat, v9.toNat]

def cc0_transform_9 (i : grid0.Coords) : Fin 3 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c16_i32_4 : BitVec 32 := 16#32
  let c0_i32_5 : BitVec 32 := 0#32
  let v17 : BitVec 1 := Scalar.cmpi .eq c16_i32_4 c0_i32_5
  let c1_i32_6 : BitVec 32 := 1#32
  let v18 : BitVec 32 := Scalar.select v17 c1_i32_6 c16_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_10 (i : grid0.Coords) : Fin 3 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c16_i32_4 : BitVec 32 := 16#32
  let c0_i32_5 : BitVec 32 := 0#32
  let v17 : BitVec 1 := Scalar.cmpi .eq c16_i32_4 c0_i32_5
  let c1_i32_6 : BitVec 32 := 1#32
  let v18 : BitVec 32 := Scalar.select v17 c1_i32_6 c16_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_11 (i : grid0.Coords) : Fin 4 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c16_i32_4 : BitVec 32 := 16#32
  let c0_i32_5 : BitVec 32 := 0#32
  let v17 : BitVec 1 := Scalar.cmpi .eq c16_i32_4 c0_i32_5
  let c1_i32_6 : BitVec 32 := 1#32
  let v18 : BitVec 32 := Scalar.select v17 c1_i32_6 c16_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, c0_i32_10.toNat, c0_i32_11.toNat, v26.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 4 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c16_i32_4 : BitVec 32 := 16#32
  let c0_i32_5 : BitVec 32 := 0#32
  let v17 : BitVec 1 := Scalar.cmpi .eq c16_i32_4 c0_i32_5
  let c1_i32_6 : BitVec 32 := 1#32
  let v18 : BitVec 32 := Scalar.select v17 c1_i32_6 c16_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, v26.toNat, c0_i32_10.toNat, c0_i32_11.toNat]

def cc0_transform_15 (i : grid0.Coords) : Fin 4 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c16_i32_4 : BitVec 32 := 16#32
  let c0_i32_5 : BitVec 32 := 0#32
  let v17 : BitVec 1 := Scalar.cmpi .eq c16_i32_4 c0_i32_5
  let c1_i32_6 : BitVec 32 := 1#32
  let v18 : BitVec 32 := Scalar.select v17 c1_i32_6 c16_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, v26.toNat, c0_i32_10.toNat, c0_i32_11.toNat]

def cc0_transform_16 (i : grid0.Coords) : Fin 5 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c16_i32_4 : BitVec 32 := 16#32
  let c0_i32_5 : BitVec 32 := 0#32
  let v17 : BitVec 1 := Scalar.cmpi .eq c16_i32_4 c0_i32_5
  let c1_i32_6 : BitVec 32 := 1#32
  let v18 : BitVec 32 := Scalar.select v17 c1_i32_6 c16_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  let c0_i32_13 : BitVec 32 := 0#32
  ![v16.toNat, c0_i32_10.toNat, v26.toNat, c0_i32_11.toNat, c0_i32_12.toNat]

def cc0_transform_17 (i : grid0.Coords) : Fin 5 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c16_i32_4 : BitVec 32 := 16#32
  let c0_i32_5 : BitVec 32 := 0#32
  let v17 : BitVec 1 := Scalar.cmpi .eq c16_i32_4 c0_i32_5
  let c1_i32_6 : BitVec 32 := 1#32
  let v18 : BitVec 32 := Scalar.select v17 c1_i32_6 c16_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  let c0_i32_13 : BitVec 32 := 0#32
  ![v16.toNat, c0_i32_10.toNat, v26.toNat, c0_i32_11.toNat, c0_i32_12.toNat]

def cc0_transform_18 (i : grid0.Coords) : Fin 4 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c16_i32_4 : BitVec 32 := 16#32
  let c0_i32_5 : BitVec 32 := 0#32
  let v17 : BitVec 1 := Scalar.cmpi .eq c16_i32_4 c0_i32_5
  let c1_i32_6 : BitVec 32 := 1#32
  let v18 : BitVec 32 := Scalar.select v17 c1_i32_6 c16_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, v26.toNat, c0_i32_10.toNat, c0_i32_11.toNat]

def cc0_transform_19 (i : grid0.Coords) : Fin 5 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c16_i32_4 : BitVec 32 := 16#32
  let c0_i32_5 : BitVec 32 := 0#32
  let v17 : BitVec 1 := Scalar.cmpi .eq c16_i32_4 c0_i32_5
  let c1_i32_6 : BitVec 32 := 1#32
  let v18 : BitVec 32 := Scalar.select v17 c1_i32_6 c16_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  let c0_i32_13 : BitVec 32 := 0#32
  ![v16.toNat, c0_i32_10.toNat, v26.toNat, c0_i32_11.toNat, c0_i32_12.toNat]

def cc0_transform_20 (i : grid0.Coords) : Fin 3 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c16_i32_4 : BitVec 32 := 16#32
  let c0_i32_5 : BitVec 32 := 0#32
  let v17 : BitVec 1 := Scalar.cmpi .eq c16_i32_4 c0_i32_5
  let c1_i32_6 : BitVec 32 := 1#32
  let v18 : BitVec 32 := Scalar.select v17 c1_i32_6 c16_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, v26.toNat, c0_i32_10.toNat]

def cc0_transform_21 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x3072 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1824x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S8x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S8x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x1024x256 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1x1024x256 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1x2x16x256 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S256x128 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S1x1x256x256 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S1x1x256x128 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S1x2x1x80x256 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S1x2x1x80x256 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S1x1x256x1024 .bf16 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S1x8x1x80x256 .bf16 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

abbrev stage0_20 : Fin 2 → Memref sig .tc .vmem S1x8x512 .f32 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true]

abbrev stage0_21 : Fin 2 → Memref sig .tc .vmem S256x2048 .bf16 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true]
-- ==== Reference3Ideal.lean ====
abbrev S8x4096x1024 : Shape := ⟨3, ![8, 4096, 1024]⟩
abbrev S1024 : Shape := ⟨1, ![1024]⟩
abbrev S1024x4888 : Shape := ⟨2, ![1024, 4888]⟩
abbrev S8 : Shape := ⟨1, ![8]⟩
abbrev S_ : Shape := ⟨0, ![]⟩
abbrev S4096 : Shape := ⟨1, ![4096]⟩
abbrev S4096x1 : Shape := ⟨2, ![4096, 1]⟩
abbrev S1x8 : Shape := ⟨2, ![1, 8]⟩
abbrev S4096x8 : Shape := ⟨2, ![4096, 8]⟩
abbrev S8x4096 : Shape := ⟨2, ![8, 4096]⟩
abbrev S8x4096x1 : Shape := ⟨3, ![8, 4096, 1]⟩
abbrev S1x1x1024 : Shape := ⟨3, ![1, 1, 1024]⟩
abbrev S8x4096x4888 : Shape := ⟨3, ![8, 4096, 4888]⟩
abbrev S8x4096x512 : Shape := ⟨3, ![8, 4096, 512]⟩
abbrev S8x4096x8x64 : Shape := ⟨4, ![8, 4096, 8, 64]⟩
abbrev S8x4096x128 : Shape := ⟨3, ![8, 4096, 128]⟩
abbrev S8x4096x2x64 : Shape := ⟨4, ![8, 4096, 2, 64]⟩
abbrev S8x4096x8x8 : Shape := ⟨4, ![8, 4096, 8, 8]⟩
abbrev S4096x1x8 : Shape := ⟨3, ![4096, 1, 8]⟩
abbrev S1x4096x1x8 : Shape := ⟨4, ![1, 4096, 1, 8]⟩
abbrev S8x4096x8x48 : Shape := ⟨4, ![8, 4096, 8, 48]⟩
abbrev S8x4096x2x8 : Shape := ⟨4, ![8, 4096, 2, 8]⟩
abbrev S8x4096x2x48 : Shape := ⟨4, ![8, 4096, 2, 48]⟩
abbrev S8x4096x24 : Shape := ⟨3, ![8, 4096, 24]⟩
abbrev S8x4096x2x12 : Shape := ⟨4, ![8, 4096, 2, 12]⟩
abbrev S8x4096x2048 : Shape := ⟨3, ![8, 4096, 2048]⟩
abbrev S128 : Shape := ⟨1, ![128]⟩
abbrev S1x128 : Shape := ⟨2, ![1, 128]⟩
abbrev S8x8x64x4096 : Shape := ⟨4, ![8, 8, 64, 4096]⟩
abbrev S8x512x4096 : Shape := ⟨3, ![8, 512, 4096]⟩
abbrev S8x1024x4096 : Shape := ⟨3, ![8, 1024, 4096]⟩
abbrev S8x4096x2x4 : Shape := ⟨4, ![8, 4096, 2, 4]⟩
abbrev S8x4096x2x16 : Shape := ⟨4, ![8, 4096, 2, 16]⟩
abbrev S8x2x16x4096 : Shape := ⟨4, ![8, 2, 16, 4096]⟩
abbrev S4096x128 : Shape := ⟨2, ![4096, 128]⟩
abbrev S8x4096x256 : Shape := ⟨3, ![8, 4096, 256]⟩
abbrev S8x16x256x256 : Shape := ⟨4, ![8, 16, 256, 256]⟩
abbrev S8x16x256x128 : Shape := ⟨4, ![8, 16, 256, 128]⟩
abbrev S8x4096x1x128 : Shape := ⟨4, ![8, 4096, 1, 128]⟩
abbrev S8x4096x4x128 : Shape := ⟨4, ![8, 4096, 4, 128]⟩
abbrev S8x4096x4x256 : Shape := ⟨4, ![8, 4096, 4, 256]⟩
abbrev S8x16x256x1024 : Shape := ⟨4, ![8, 16, 256, 1024]⟩
abbrev S8x16x256x512 : Shape := ⟨4, ![8, 16, 256, 512]⟩
abbrev S8x16x512 : Shape := ⟨3, ![8, 16, 512]⟩
abbrev S8x16x1x512 : Shape := ⟨4, ![8, 16, 1, 512]⟩
abbrev S8x16x8x512 : Shape := ⟨4, ![8, 16, 8, 512]⟩
abbrev S8x128x512 : Shape := ⟨3, ![8, 128, 512]⟩
abbrev S32768x128 : Shape := ⟨2, ![32768, 128]⟩
abbrev S8x16x256x2x64 : Shape := ⟨5, ![8, 16, 256, 2, 64]⟩
abbrev S8x2x16x64x256 : Shape := ⟨5, ![8, 2, 16, 64, 256]⟩
abbrev S16 : Shape := ⟨1, ![16]⟩
abbrev S16x1 : Shape := ⟨2, ![16, 1]⟩
abbrev S8x2x16x16x256 : Shape := ⟨5, ![8, 2, 16, 16, 256]⟩
abbrev S8x2x16x80x256 : Shape := ⟨5, ![8, 2, 16, 80, 256]⟩
abbrev S8x16x256x8x64 : Shape := ⟨5, ![8, 16, 256, 8, 64]⟩
abbrev S8x8x16x64x256 : Shape := ⟨5, ![8, 8, 16, 64, 256]⟩
abbrev S8x8x16x16x256 : Shape := ⟨5, ![8, 8, 16, 16, 256]⟩
abbrev S8x8x16x80x256 : Shape := ⟨5, ![8, 8, 16, 80, 256]⟩
abbrev S32768x2048 : Shape := ⟨2, ![32768, 2048]⟩

abbrev nBuf : Space → Nat
  | .hbm => 333
  | .vmem => 0
  | .smem => 0
  | _ => 0

abbrev hbmTy0_0 (i : Nat) : BufTy := match i % 128 with
  | 0 => ⟨S8x4096x1024, .f32⟩
  | 1 => ⟨S1024, .f32⟩
  | 2 => ⟨S1024x4888, .f32⟩
  | 3 => ⟨S8, .f32⟩
  | 4 => ⟨S_, .f32⟩
  | 5 => ⟨S8, .f32⟩
  | 6 => ⟨S8, .f32⟩
  | 7 => ⟨S_, .f32⟩
  | 8 => ⟨S8, .f32⟩
  | 9 => ⟨S8, .f32⟩
  | 10 => ⟨S8, .f32⟩
  | 11 => ⟨S_, .f32⟩
  | 12 => ⟨S8, .f32⟩
  | 13 => ⟨S8, .f32⟩
  | 14 => ⟨S_, .f32⟩
  | 15 => ⟨S8, .f32⟩
  | 16 => ⟨S8, .f32⟩
  | 17 => ⟨S4096, .f32⟩
  | 18 => ⟨S4096x1, .f32⟩
  | 19 => ⟨S1x8, .f32⟩
  | 20 => ⟨S4096x8, .f32⟩
  | 21 => ⟨S4096x8, .f32⟩
  | 22 => ⟨S4096x8, .f32⟩
  | 23 => ⟨S4096x8, .f32⟩
  | 24 => ⟨S4096x8, .f32⟩
  | 25 => ⟨S8x4096x1024, .f32⟩
  | 26 => ⟨S_, .f32⟩
  | 27 => ⟨S8x4096, .f32⟩
  | 28 => ⟨S8x4096x1, .f32⟩
  | 29 => ⟨S_, .f32⟩
  | 30 => ⟨S8x4096x1, .f32⟩
  | 31 => ⟨S8x4096x1, .f32⟩
  | 32 => ⟨S_, .f32⟩
  | 33 => ⟨S8x4096x1, .f32⟩
  | 34 => ⟨S8x4096x1, .f32⟩
  | 35 => ⟨S8x4096x1, .f32⟩
  | 36 => ⟨S8x4096x1024, .f32⟩
  | 37 => ⟨S8x4096x1024, .f32⟩
  | 38 => ⟨S1x1x1024, .f32⟩
  | 39 => ⟨S8x4096x1024, .f32⟩
  | 40 => ⟨S8x4096x1024, .f32⟩
  | 41 => ⟨S8x4096x4888, .f32⟩
  | 42 => ⟨S8x4096x512, .f32⟩
  | 43 => ⟨S8x4096x8x64, .f32⟩
  | 44 => ⟨S8x4096x128, .f32⟩
  | 45 => ⟨S8x4096x2x64, .f32⟩
  | 46 => ⟨S8x4096x128, .f32⟩
  | 47 => ⟨S8x4096x2x64, .f32⟩
  | 48 => ⟨S8x4096x128, .f32⟩
  | 49 => ⟨S8x4096x2x64, .f32⟩
  | 50 => ⟨S8x4096x128, .f32⟩
  | 51 => ⟨S8x4096x2x64, .f32⟩
  | 52 => ⟨S8x4096x128, .f32⟩
  | 53 => ⟨S8x4096x2x64, .f32⟩
  | 54 => ⟨S8x4096x128, .f32⟩
  | 55 => ⟨S8x4096x2x64, .f32⟩
  | 56 => ⟨S8x4096x512, .f32⟩
  | 57 => ⟨S8x4096x8x64, .f32⟩
  | 58 => ⟨S8x4096x512, .f32⟩
  | 59 => ⟨S8x4096x8x64, .f32⟩
  | 60 => ⟨S8x4096x512, .f32⟩
  | 61 => ⟨S8x4096x8x64, .f32⟩
  | 62 => ⟨S8x4096x8x8, .f32⟩
  | 63 => ⟨S8x4096x8x8, .f32⟩
  | 64 => ⟨S4096x1x8, .f32⟩
  | 65 => ⟨S4096x1x8, .f32⟩
  | 66 => ⟨S1x4096x1x8, .f32⟩
  | 67 => ⟨S8x4096x8x8, .f32⟩
  | 68 => ⟨S8x4096x8x8, .f32⟩
  | 69 => ⟨S1x4096x1x8, .f32⟩
  | 70 => ⟨S8x4096x8x8, .f32⟩
  | 71 => ⟨S8x4096x8x8, .f32⟩
  | 72 => ⟨S8x4096x8x8, .f32⟩
  | 73 => ⟨S1x4096x1x8, .f32⟩
  | 74 => ⟨S8x4096x8x8, .f32⟩
  | 75 => ⟨S8x4096x8x8, .f32⟩
  | 76 => ⟨S1x4096x1x8, .f32⟩
  | 77 => ⟨S8x4096x8x8, .f32⟩
  | 78 => ⟨S8x4096x8x8, .f32⟩
  | 79 => ⟨S8x4096x8x8, .f32⟩
  | 80 => ⟨S8x4096x8x48, .f32⟩
  | 81 => ⟨S8x4096x8x64, .f32⟩
  | 82 => ⟨S8x4096x2x8, .f32⟩
  | 83 => ⟨S8x4096x2x8, .f32⟩
  | 84 => ⟨S4096x1x8, .f32⟩
  | 85 => ⟨S4096x1x8, .f32⟩
  | 86 => ⟨S1x4096x1x8, .f32⟩
  | 87 => ⟨S8x4096x2x8, .f32⟩
  | 88 => ⟨S8x4096x2x8, .f32⟩
  | 89 => ⟨S1x4096x1x8, .f32⟩
  | 90 => ⟨S8x4096x2x8, .f32⟩
  | 91 => ⟨S8x4096x2x8, .f32⟩
  | 92 => ⟨S8x4096x2x8, .f32⟩
  | 93 => ⟨S1x4096x1x8, .f32⟩
  | 94 => ⟨S8x4096x2x8, .f32⟩
  | 95 => ⟨S8x4096x2x8, .f32⟩
  | 96 => ⟨S1x4096x1x8, .f32⟩
  | 97 => ⟨S8x4096x2x8, .f32⟩
  | 98 => ⟨S8x4096x2x8, .f32⟩
  | 99 => ⟨S8x4096x2x8, .f32⟩
  | 100 => ⟨S8x4096x2x48, .f32⟩
  | 101 => ⟨S8x4096x2x64, .f32⟩
  | 102 => ⟨S8x4096x2x8, .f32⟩
  | 103 => ⟨S8x4096x2x8, .f32⟩
  | 104 => ⟨S4096x1x8, .f32⟩
  | 105 => ⟨S4096x1x8, .f32⟩
  | 106 => ⟨S1x4096x1x8, .f32⟩
  | 107 => ⟨S8x4096x2x8, .f32⟩
  | 108 => ⟨S8x4096x2x8, .f32⟩
  | 109 => ⟨S1x4096x1x8, .f32⟩
  | 110 => ⟨S8x4096x2x8, .f32⟩
  | 111 => ⟨S8x4096x2x8, .f32⟩
  | 112 => ⟨S8x4096x2x8, .f32⟩
  | 113 => ⟨S1x4096x1x8, .f32⟩
  | 114 => ⟨S8x4096x2x8, .f32⟩
  | 115 => ⟨S8x4096x2x8, .f32⟩
  | 116 => ⟨S1x4096x1x8, .f32⟩
  | 117 => ⟨S8x4096x2x8, .f32⟩
  | 118 => ⟨S8x4096x2x8, .f32⟩
  | 119 => ⟨S8x4096x2x8, .f32⟩
  | 120 => ⟨S8x4096x2x48, .f32⟩
  | 121 => ⟨S8x4096x2x64, .f32⟩
  | 122 => ⟨S8x4096x8x8, .f32⟩
  | 123 => ⟨S8x4096x8x8, .f32⟩
  | 124 => ⟨S4096x1x8, .f32⟩
  | 125 => ⟨S4096x1x8, .f32⟩
  | 126 => ⟨S1x4096x1x8, .f32⟩
  | 127 => ⟨S8x4096x8x8, .f32⟩
  | _ => ⟨S8x4096x1024, .f32⟩

abbrev hbmTy0_1 (i : Nat) : BufTy := match i % 128 with
  | 0 => ⟨S8x4096x8x8, .f32⟩
  | 1 => ⟨S1x4096x1x8, .f32⟩
  | 2 => ⟨S8x4096x8x8, .f32⟩
  | 3 => ⟨S8x4096x8x8, .f32⟩
  | 4 => ⟨S8x4096x8x8, .f32⟩
  | 5 => ⟨S1x4096x1x8, .f32⟩
  | 6 => ⟨S8x4096x8x8, .f32⟩
  | 7 => ⟨S8x4096x8x8, .f32⟩
  | 8 => ⟨S1x4096x1x8, .f32⟩
  | 9 => ⟨S8x4096x8x8, .f32⟩
  | 10 => ⟨S8x4096x8x8, .f32⟩
  | 11 => ⟨S8x4096x8x8, .f32⟩
  | 12 => ⟨S8x4096x8x48, .f32⟩
  | 13 => ⟨S8x4096x8x64, .f32⟩
  | 14 => ⟨S8x4096x8x8, .f32⟩
  | 15 => ⟨S8x4096x8x8, .f32⟩
  | 16 => ⟨S4096x1x8, .f32⟩
  | 17 => ⟨S4096x1x8, .f32⟩
  | 18 => ⟨S1x4096x1x8, .f32⟩
  | 19 => ⟨S8x4096x8x8, .f32⟩
  | 20 => ⟨S8x4096x8x8, .f32⟩
  | 21 => ⟨S1x4096x1x8, .f32⟩
  | 22 => ⟨S8x4096x8x8, .f32⟩
  | 23 => ⟨S8x4096x8x8, .f32⟩
  | 24 => ⟨S8x4096x8x8, .f32⟩
  | 25 => ⟨S1x4096x1x8, .f32⟩
  | 26 => ⟨S8x4096x8x8, .f32⟩
  | 27 => ⟨S8x4096x8x8, .f32⟩
  | 28 => ⟨S1x4096x1x8, .f32⟩
  | 29 => ⟨S8x4096x8x8, .f32⟩
  | 30 => ⟨S8x4096x8x8, .f32⟩
  | 31 => ⟨S8x4096x8x8, .f32⟩
  | 32 => ⟨S8x4096x8x48, .f32⟩
  | 33 => ⟨S8x4096x8x64, .f32⟩
  | 34 => ⟨S8x4096x24, .f32⟩
  | 35 => ⟨S8x4096x2x12, .f32⟩
  | 36 => ⟨S8x4096x2048, .f32⟩
  | 37 => ⟨S8x4096x2048, .f32⟩
  | 38 => ⟨S8x4096x2048, .f32⟩
  | 39 => ⟨S_, .f32⟩
  | 40 => ⟨S8x4096x2048, .f32⟩
  | 41 => ⟨S8x4096x2048, .f32⟩
  | 42 => ⟨S_, .f32⟩
  | 43 => ⟨S8x4096x2048, .f32⟩
  | 44 => ⟨S8x4096x2048, .f32⟩
  | 45 => ⟨S4096, .i32⟩
  | 46 => ⟨S4096x1, .i32⟩
  | 47 => ⟨S128, .i32⟩
  | 48 => ⟨S1x128, .i32⟩
  | 49 => ⟨S8x8x64x4096, .f32⟩
  | 50 => ⟨S8x512x4096, .f32⟩
  | 51 => ⟨S8x8x64x4096, .f32⟩
  | 52 => ⟨S8x512x4096, .f32⟩
  | 53 => ⟨S8x1024x4096, .f32⟩
  | 54 => ⟨S8x1024x4096, .bf16⟩
  | 55 => ⟨S8x8x64x4096, .f32⟩
  | 56 => ⟨S8x512x4096, .f32⟩
  | 57 => ⟨S8x512x4096, .bf16⟩
  | 58 => ⟨S8x8x64x4096, .f32⟩
  | 59 => ⟨S8x512x4096, .f32⟩
  | 60 => ⟨S8x512x4096, .f32⟩
  | 61 => ⟨S8x512x4096, .f32⟩
  | 62 => ⟨S8x512x4096, .bf16⟩
  | 63 => ⟨S_, .f32⟩
  | 64 => ⟨S8x4096x2x4, .f32⟩
  | 65 => ⟨S8x4096x2x16, .f32⟩
  | 66 => ⟨S8x2x16x4096, .f32⟩
  | 67 => ⟨S8x2x16x4096, .f32⟩
  | 68 => ⟨S8x2x16x4096, .f32⟩
  | 69 => ⟨S_, .f32⟩
  | 70 => ⟨S8x2x16x4096, .f32⟩
  | 71 => ⟨S8x2x16x4096, .f32⟩
  | 72 => ⟨S_, .f32⟩
  | 73 => ⟨S8x2x16x4096, .f32⟩
  | 74 => ⟨S8x2x16x4096, .f32⟩
  | 75 => ⟨S8x4096x128, .f32⟩
  | 76 => ⟨S_, .i32⟩
  | 77 => ⟨S_, .i32⟩
  | 78 => ⟨S4096x1, .i32⟩
  | 79 => ⟨S4096x1, .i32⟩
  | 80 => ⟨S4096x1, .i32⟩
  | 81 => ⟨S_, .i32⟩
  | 82 => ⟨S4096x1, .i32⟩
  | 83 => ⟨S4096x1, .i1⟩
  | 84 => ⟨S4096x1, .i32⟩
  | 85 => ⟨S4096x1, .i32⟩
  | 86 => ⟨S_, .i32⟩
  | 87 => ⟨S4096x1, .i32⟩
  | 88 => ⟨S4096x1, .i1⟩
  | 89 => ⟨S4096x1, .i1⟩
  | 90 => ⟨S_, .i32⟩
  | 91 => ⟨S4096x1, .i32⟩
  | 92 => ⟨S4096x1, .i32⟩
  | 93 => ⟨S4096x1, .i32⟩
  | 94 => ⟨S4096x128, .i32⟩
  | 95 => ⟨S4096x128, .i32⟩
  | 96 => ⟨S4096x128, .i1⟩
  | 97 => ⟨S_, .f32⟩
  | 98 => ⟨S_, .f32⟩
  | 99 => ⟨S4096x128, .f32⟩
  | 100 => ⟨S4096x128, .f32⟩
  | 101 => ⟨S4096x128, .f32⟩
  | 102 => ⟨S8x4096x128, .f32⟩
  | 103 => ⟨S8x4096x128, .f32⟩
  | 104 => ⟨S8x4096x256, .f32⟩
  | 105 => ⟨S8x16x256x256, .f32⟩
  | 106 => ⟨S8x16x256x256, .bf16⟩
  | 107 => ⟨S8x16x256x128, .f32⟩
  | 108 => ⟨S8x16x256x128, .bf16⟩
  | 109 => ⟨S_, .i32⟩
  | 110 => ⟨S_, .i32⟩
  | 111 => ⟨S4096x1, .i32⟩
  | 112 => ⟨S4096x1, .i32⟩
  | 113 => ⟨S4096x1, .i32⟩
  | 114 => ⟨S_, .i32⟩
  | 115 => ⟨S4096x1, .i32⟩
  | 116 => ⟨S4096x1, .i1⟩
  | 117 => ⟨S4096x1, .i32⟩
  | 118 => ⟨S4096x1, .i32⟩
  | 119 => ⟨S_, .i32⟩
  | 120 => ⟨S4096x1, .i32⟩
  | 121 => ⟨S4096x1, .i1⟩
  | 122 => ⟨S4096x1, .i1⟩
  | 123 => ⟨S_, .i32⟩
  | 124 => ⟨S4096x1, .i32⟩
  | 125 => ⟨S4096x1, .i32⟩
  | 126 => ⟨S4096x1, .i32⟩
  | 127 => ⟨S4096x128, .i32⟩
  | _ => ⟨S8x4096x1024, .f32⟩

abbrev hbmTy0_2 (i : Nat) : BufTy := match i % 128 with
  | 0 => ⟨S4096x128, .i32⟩
  | 1 => ⟨S4096x128, .i1⟩
  | 2 => ⟨S_, .f32⟩
  | 3 => ⟨S_, .f32⟩
  | 4 => ⟨S4096x128, .f32⟩
  | 5 => ⟨S4096x128, .f32⟩
  | 6 => ⟨S4096x128, .f32⟩
  | 7 => ⟨S8x4096x128, .f32⟩
  | 8 => ⟨S8x4096x1x128, .f32⟩
  | 9 => ⟨S8x4096x4x128, .f32⟩
  | 10 => ⟨S8x4096x4x128, .f32⟩
  | 11 => ⟨S8x4096x4x128, .f32⟩
  | 12 => ⟨S8x4096x4x256, .f32⟩
  | 13 => ⟨S8x16x256x1024, .f32⟩
  | 14 => ⟨S8x16x256x1024, .bf16⟩
  | 15 => ⟨S8x16x256x512, .f32⟩
  | 16 => ⟨S_, .f32⟩
  | 17 => ⟨S8x16x512, .f32⟩
  | 18 => ⟨S_, .f32⟩
  | 19 => ⟨S8x16x512, .f32⟩
  | 20 => ⟨S8x16x512, .f32⟩
  | 21 => ⟨S8x16x1x512, .f32⟩
  | 22 => ⟨S8x16x8x512, .f32⟩
  | 23 => ⟨S8x128x512, .f32⟩
  | 24 => ⟨S8x1024x4096, .bf16⟩
  | 25 => ⟨S32768x128, .f32⟩
  | 26 => ⟨S32768x128, .f32⟩
  | 27 => ⟨S8x16x256x2x64, .f32⟩
  | 28 => ⟨S8x2x16x64x256, .f32⟩
  | 29 => ⟨S16, .i32⟩
  | 30 => ⟨S_, .i32⟩
  | 31 => ⟨S16, .i32⟩
  | 32 => ⟨S16, .i1⟩
  | 33 => ⟨S_, .f32⟩
  | 34 => ⟨S_, .f32⟩
  | 35 => ⟨S16, .f32⟩
  | 36 => ⟨S16, .f32⟩
  | 37 => ⟨S16, .f32⟩
  | 38 => ⟨S16x1, .f32⟩
  | 39 => ⟨S8x2x16x16x256, .f32⟩
  | 40 => ⟨S8x2x16x16x256, .f32⟩
  | 41 => ⟨S8x2x16x80x256, .f32⟩
  | 42 => ⟨S8x2x16x80x256, .bf16⟩
  | 43 => ⟨S8x16x256x2x64, .f32⟩
  | 44 => ⟨S8x2x16x64x256, .f32⟩
  | 45 => ⟨S16, .i32⟩
  | 46 => ⟨S_, .i32⟩
  | 47 => ⟨S16, .i32⟩
  | 48 => ⟨S16, .i1⟩
  | 49 => ⟨S_, .f32⟩
  | 50 => ⟨S_, .f32⟩
  | 51 => ⟨S16, .f32⟩
  | 52 => ⟨S16, .f32⟩
  | 53 => ⟨S16, .f32⟩
  | 54 => ⟨S16x1, .f32⟩
  | 55 => ⟨S8x2x16x16x256, .f32⟩
  | 56 => ⟨S8x2x16x16x256, .f32⟩
  | 57 => ⟨S8x2x16x80x256, .f32⟩
  | 58 => ⟨S8x2x16x80x256, .bf16⟩
  | 59 => ⟨S8x16x256x8x64, .f32⟩
  | 60 => ⟨S8x8x16x64x256, .f32⟩
  | 61 => ⟨S16, .i32⟩
  | 62 => ⟨S_, .i32⟩
  | 63 => ⟨S16, .i32⟩
  | 64 => ⟨S16, .i1⟩
  | 65 => ⟨S_, .f32⟩
  | 66 => ⟨S_, .f32⟩
  | 67 => ⟨S16, .f32⟩
  | 68 => ⟨S16, .f32⟩
  | 69 => ⟨S16, .f32⟩
  | 70 => ⟨S16x1, .f32⟩
  | 71 => ⟨S8x8x16x16x256, .f32⟩
  | 72 => ⟨S8x8x16x16x256, .f32⟩
  | 73 => ⟨S8x8x16x80x256, .f32⟩
  | 74 => ⟨S8x8x16x80x256, .bf16⟩
  | 75 => ⟨S32768x2048, .f32⟩
  | 76 => ⟨S32768x2048, .bf16⟩
  | _ => ⟨S8x4096x1024, .f32⟩

abbrev hbmTy (i : Nat) : BufTy := match i / 128 with
  | 0 => hbmTy0_0 i
  | 1 => hbmTy0_1 i
  | 2 => hbmTy0_2 i
  | _ => ⟨S8x4096x1024, .f32⟩

abbrev bufTy : (tb : Table) → Fin (tcTables nBuf tb) → BufTy
  | .hbm, ⟨i, _⟩ => hbmTy i
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_cst_2 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_cst_3 : Ref sig .tc := ⟨.hbm, 26, rfl⟩
abbrev main_v19 : Ref sig .tc := ⟨.hbm, 27, rfl⟩
abbrev main_v20 : Ref sig .tc := ⟨.hbm, 28, rfl⟩
abbrev main_cst_4 : Ref sig .tc := ⟨.hbm, 29, rfl⟩
abbrev main_v21 : Ref sig .tc := ⟨.hbm, 30, rfl⟩
abbrev main_v22 : Ref sig .tc := ⟨.hbm, 31, rfl⟩
abbrev main_cst_5 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_v51 : Ref sig .tc := ⟨.hbm, 61, rfl⟩
abbrev main_v52 : Ref sig .tc := ⟨.hbm, 62, rfl⟩
abbrev main_v53 : Ref sig .tc := ⟨.hbm, 63, rfl⟩
abbrev main_v54 : Ref sig .tc := ⟨.hbm, 64, rfl⟩
abbrev main_v55 : Ref sig .tc := ⟨.hbm, 65, rfl⟩
abbrev main_v56 : Ref sig .tc := ⟨.hbm, 66, rfl⟩
abbrev main_v57 : Ref sig .tc := ⟨.hbm, 67, rfl⟩
abbrev main_v58 : Ref sig .tc := ⟨.hbm, 68, rfl⟩
abbrev main_v59 : Ref sig .tc := ⟨.hbm, 69, rfl⟩
abbrev main_v60 : Ref sig .tc := ⟨.hbm, 70, rfl⟩
abbrev main_v61 : Ref sig .tc := ⟨.hbm, 71, rfl⟩
abbrev main_v62 : Ref sig .tc := ⟨.hbm, 72, rfl⟩
abbrev main_v63 : Ref sig .tc := ⟨.hbm, 73, rfl⟩
abbrev main_v64 : Ref sig .tc := ⟨.hbm, 74, rfl⟩
abbrev main_v65 : Ref sig .tc := ⟨.hbm, 75, rfl⟩
abbrev main_v66 : Ref sig .tc := ⟨.hbm, 76, rfl⟩
abbrev main_v67 : Ref sig .tc := ⟨.hbm, 77, rfl⟩
abbrev main_v68 : Ref sig .tc := ⟨.hbm, 78, rfl⟩
abbrev main_v69 : Ref sig .tc := ⟨.hbm, 79, rfl⟩
abbrev main_v70 : Ref sig .tc := ⟨.hbm, 80, rfl⟩
abbrev main_v71 : Ref sig .tc := ⟨.hbm, 81, rfl⟩
abbrev main_v72 : Ref sig .tc := ⟨.hbm, 82, rfl⟩
abbrev main_v73 : Ref sig .tc := ⟨.hbm, 83, rfl⟩
abbrev main_v74 : Ref sig .tc := ⟨.hbm, 84, rfl⟩
abbrev main_v75 : Ref sig .tc := ⟨.hbm, 85, rfl⟩
abbrev main_v76 : Ref sig .tc := ⟨.hbm, 86, rfl⟩
abbrev main_v77 : Ref sig .tc := ⟨.hbm, 87, rfl⟩
abbrev main_v78 : Ref sig .tc := ⟨.hbm, 88, rfl⟩
abbrev main_v79 : Ref sig .tc := ⟨.hbm, 89, rfl⟩
abbrev main_v80 : Ref sig .tc := ⟨.hbm, 90, rfl⟩
abbrev main_v81 : Ref sig .tc := ⟨.hbm, 91, rfl⟩
abbrev main_v82 : Ref sig .tc := ⟨.hbm, 92, rfl⟩
abbrev main_v83 : Ref sig .tc := ⟨.hbm, 93, rfl⟩
abbrev main_v84 : Ref sig .tc := ⟨.hbm, 94, rfl⟩
abbrev main_v85 : Ref sig .tc := ⟨.hbm, 95, rfl⟩
abbrev main_v86 : Ref sig .tc := ⟨.hbm, 96, rfl⟩
abbrev main_v87 : Ref sig .tc := ⟨.hbm, 97, rfl⟩
abbrev main_v88 : Ref sig .tc := ⟨.hbm, 98, rfl⟩
abbrev main_v89 : Ref sig .tc := ⟨.hbm, 99, rfl⟩
abbrev main_v90 : Ref sig .tc := ⟨.hbm, 100, rfl⟩
abbrev main_v91 : Ref sig .tc := ⟨.hbm, 101, rfl⟩
abbrev main_v92 : Ref sig .tc := ⟨.hbm, 102, rfl⟩
abbrev main_v93 : Ref sig .tc := ⟨.hbm, 103, rfl⟩
abbrev main_v94 : Ref sig .tc := ⟨.hbm, 104, rfl⟩
abbrev main_v95 : Ref sig .tc := ⟨.hbm, 105, rfl⟩
abbrev main_v96 : Ref sig .tc := ⟨.hbm, 106, rfl⟩
abbrev main_v97 : Ref sig .tc := ⟨.hbm, 107, rfl⟩
abbrev main_v98 : Ref sig .tc := ⟨.hbm, 108, rfl⟩
abbrev main_v99 : Ref sig .tc := ⟨.hbm, 109, rfl⟩
abbrev main_v100 : Ref sig .tc := ⟨.hbm, 110, rfl⟩
abbrev main_v101 : Ref sig .tc := ⟨.hbm, 111, rfl⟩
abbrev main_v102 : Ref sig .tc := ⟨.hbm, 112, rfl⟩
abbrev main_v103 : Ref sig .tc := ⟨.hbm, 113, rfl⟩
abbrev main_v104 : Ref sig .tc := ⟨.hbm, 114, rfl⟩
abbrev main_v105 : Ref sig .tc := ⟨.hbm, 115, rfl⟩
abbrev main_v106 : Ref sig .tc := ⟨.hbm, 116, rfl⟩
abbrev main_v107 : Ref sig .tc := ⟨.hbm, 117, rfl⟩
abbrev main_v108 : Ref sig .tc := ⟨.hbm, 118, rfl⟩
abbrev main_v109 : Ref sig .tc := ⟨.hbm, 119, rfl⟩
abbrev main_v110 : Ref sig .tc := ⟨.hbm, 120, rfl⟩
abbrev main_v111 : Ref sig .tc := ⟨.hbm, 121, rfl⟩
abbrev main_v112 : Ref sig .tc := ⟨.hbm, 122, rfl⟩
abbrev main_v113 : Ref sig .tc := ⟨.hbm, 123, rfl⟩
abbrev main_v114 : Ref sig .tc := ⟨.hbm, 124, rfl⟩
abbrev main_v115 : Ref sig .tc := ⟨.hbm, 125, rfl⟩
abbrev main_v116 : Ref sig .tc := ⟨.hbm, 126, rfl⟩
abbrev main_v117 : Ref sig .tc := ⟨.hbm, 127, rfl⟩
abbrev main_v118 : Ref sig .tc := ⟨.hbm, 128, rfl⟩
abbrev main_v119 : Ref sig .tc := ⟨.hbm, 129, rfl⟩
abbrev main_v120 : Ref sig .tc := ⟨.hbm, 130, rfl⟩
abbrev main_v121 : Ref sig .tc := ⟨.hbm, 131, rfl⟩
abbrev main_v122 : Ref sig .tc := ⟨.hbm, 132, rfl⟩
abbrev main_v123 : Ref sig .tc := ⟨.hbm, 133, rfl⟩
abbrev main_v124 : Ref sig .tc := ⟨.hbm, 134, rfl⟩
abbrev main_v125 : Ref sig .tc := ⟨.hbm, 135, rfl⟩
abbrev main_v126 : Ref sig .tc := ⟨.hbm, 136, rfl⟩
abbrev main_v127 : Ref sig .tc := ⟨.hbm, 137, rfl⟩
abbrev main_v128 : Ref sig .tc := ⟨.hbm, 138, rfl⟩
abbrev main_v129 : Ref sig .tc := ⟨.hbm, 139, rfl⟩
abbrev main_v130 : Ref sig .tc := ⟨.hbm, 140, rfl⟩
abbrev main_v131 : Ref sig .tc := ⟨.hbm, 141, rfl⟩
abbrev main_v132 : Ref sig .tc := ⟨.hbm, 142, rfl⟩
abbrev main_v133 : Ref sig .tc := ⟨.hbm, 143, rfl⟩
abbrev main_v134 : Ref sig .tc := ⟨.hbm, 144, rfl⟩
abbrev main_v135 : Ref sig .tc := ⟨.hbm, 145, rfl⟩
abbrev main_v136 : Ref sig .tc := ⟨.hbm, 146, rfl⟩
abbrev main_v137 : Ref sig .tc := ⟨.hbm, 147, rfl⟩
abbrev main_v138 : Ref sig .tc := ⟨.hbm, 148, rfl⟩
abbrev main_v139 : Ref sig .tc := ⟨.hbm, 149, rfl⟩
abbrev main_v140 : Ref sig .tc := ⟨.hbm, 150, rfl⟩
abbrev main_v141 : Ref sig .tc := ⟨.hbm, 151, rfl⟩
abbrev main_v142 : Ref sig .tc := ⟨.hbm, 152, rfl⟩
abbrev main_v143 : Ref sig .tc := ⟨.hbm, 153, rfl⟩
abbrev main_v144 : Ref sig .tc := ⟨.hbm, 154, rfl⟩
abbrev main_v145 : Ref sig .tc := ⟨.hbm, 155, rfl⟩
abbrev main_v146 : Ref sig .tc := ⟨.hbm, 156, rfl⟩
abbrev main_v147 : Ref sig .tc := ⟨.hbm, 157, rfl⟩
abbrev main_v148 : Ref sig .tc := ⟨.hbm, 158, rfl⟩
abbrev main_v149 : Ref sig .tc := ⟨.hbm, 159, rfl⟩
abbrev main_v150 : Ref sig .tc := ⟨.hbm, 160, rfl⟩
abbrev main_v151 : Ref sig .tc := ⟨.hbm, 161, rfl⟩
abbrev main_v152 : Ref sig .tc := ⟨.hbm, 162, rfl⟩
abbrev main_v153 : Ref sig .tc := ⟨.hbm, 163, rfl⟩
abbrev main_v154 : Ref sig .tc := ⟨.hbm, 164, rfl⟩
abbrev main_v155 : Ref sig .tc := ⟨.hbm, 165, rfl⟩
abbrev main_v156 : Ref sig .tc := ⟨.hbm, 166, rfl⟩
abbrev main_cst_6 : Ref sig .tc := ⟨.hbm, 167, rfl⟩
abbrev main_v157 : Ref sig .tc := ⟨.hbm, 168, rfl⟩
abbrev main_v158 : Ref sig .tc := ⟨.hbm, 169, rfl⟩
abbrev main_cst_7 : Ref sig .tc := ⟨.hbm, 170, rfl⟩
abbrev main_v159 : Ref sig .tc := ⟨.hbm, 171, rfl⟩
abbrev main_v160 : Ref sig .tc := ⟨.hbm, 172, rfl⟩
abbrev main_v161 : Ref sig .tc := ⟨.hbm, 173, rfl⟩
abbrev main_v162 : Ref sig .tc := ⟨.hbm, 174, rfl⟩
abbrev main_v163 : Ref sig .tc := ⟨.hbm, 175, rfl⟩
abbrev main_v164 : Ref sig .tc := ⟨.hbm, 176, rfl⟩
abbrev main_v165 : Ref sig .tc := ⟨.hbm, 177, rfl⟩
abbrev main_v166 : Ref sig .tc := ⟨.hbm, 178, rfl⟩
abbrev main_v167 : Ref sig .tc := ⟨.hbm, 179, rfl⟩
abbrev main_v168 : Ref sig .tc := ⟨.hbm, 180, rfl⟩
abbrev main_v169 : Ref sig .tc := ⟨.hbm, 181, rfl⟩
abbrev main_v170 : Ref sig .tc := ⟨.hbm, 182, rfl⟩
abbrev main_v171 : Ref sig .tc := ⟨.hbm, 183, rfl⟩
abbrev main_v172 : Ref sig .tc := ⟨.hbm, 184, rfl⟩
abbrev main_v173 : Ref sig .tc := ⟨.hbm, 185, rfl⟩
abbrev main_v174 : Ref sig .tc := ⟨.hbm, 186, rfl⟩
abbrev main_v175 : Ref sig .tc := ⟨.hbm, 187, rfl⟩
abbrev main_v176 : Ref sig .tc := ⟨.hbm, 188, rfl⟩
abbrev main_v177 : Ref sig .tc := ⟨.hbm, 189, rfl⟩
abbrev main_v178 : Ref sig .tc := ⟨.hbm, 190, rfl⟩
abbrev main_cst_8 : Ref sig .tc := ⟨.hbm, 191, rfl⟩
abbrev main_v179 : Ref sig .tc := ⟨.hbm, 192, rfl⟩
abbrev main_v180 : Ref sig .tc := ⟨.hbm, 193, rfl⟩
abbrev main_v181 : Ref sig .tc := ⟨.hbm, 194, rfl⟩
abbrev main_v182 : Ref sig .tc := ⟨.hbm, 195, rfl⟩
abbrev main_v183 : Ref sig .tc := ⟨.hbm, 196, rfl⟩
abbrev main_cst_9 : Ref sig .tc := ⟨.hbm, 197, rfl⟩
abbrev main_v184 : Ref sig .tc := ⟨.hbm, 198, rfl⟩
abbrev main_v185 : Ref sig .tc := ⟨.hbm, 199, rfl⟩
abbrev main_cst_10 : Ref sig .tc := ⟨.hbm, 200, rfl⟩
abbrev main_v186 : Ref sig .tc := ⟨.hbm, 201, rfl⟩
abbrev main_v187 : Ref sig .tc := ⟨.hbm, 202, rfl⟩
abbrev main_v188 : Ref sig .tc := ⟨.hbm, 203, rfl⟩
abbrev main_c : Ref sig .tc := ⟨.hbm, 204, rfl⟩
abbrev main_call0_v0 : Ref sig .tc := ⟨.hbm, 205, rfl⟩
abbrev main_call0_v1 : Ref sig .tc := ⟨.hbm, 206, rfl⟩
abbrev main_call0_v2 : Ref sig .tc := ⟨.hbm, 207, rfl⟩
abbrev main_call0_v3 : Ref sig .tc := ⟨.hbm, 208, rfl⟩
abbrev main_call0_v4 : Ref sig .tc := ⟨.hbm, 209, rfl⟩
abbrev main_call0_v5 : Ref sig .tc := ⟨.hbm, 210, rfl⟩
abbrev main_call0_v6 : Ref sig .tc := ⟨.hbm, 211, rfl⟩
abbrev main_call0_v7 : Ref sig .tc := ⟨.hbm, 212, rfl⟩
abbrev main_call0_v8 : Ref sig .tc := ⟨.hbm, 213, rfl⟩
abbrev main_call0_c : Ref sig .tc := ⟨.hbm, 214, rfl⟩
abbrev main_call0_v9 : Ref sig .tc := ⟨.hbm, 215, rfl⟩
abbrev main_call0_v10 : Ref sig .tc := ⟨.hbm, 216, rfl⟩
abbrev main_call0_v11 : Ref sig .tc := ⟨.hbm, 217, rfl⟩
abbrev main_call0_c_0 : Ref sig .tc := ⟨.hbm, 218, rfl⟩
abbrev main_call0_v12 : Ref sig .tc := ⟨.hbm, 219, rfl⟩
abbrev main_call0_v13 : Ref sig .tc := ⟨.hbm, 220, rfl⟩
abbrev main_v189 : Ref sig .tc := ⟨.hbm, 221, rfl⟩
abbrev main_v190 : Ref sig .tc := ⟨.hbm, 222, rfl⟩
abbrev main_v191 : Ref sig .tc := ⟨.hbm, 223, rfl⟩
abbrev main_v192 : Ref sig .tc := ⟨.hbm, 224, rfl⟩
abbrev main_cst_11 : Ref sig .tc := ⟨.hbm, 225, rfl⟩
abbrev main_cst_12 : Ref sig .tc := ⟨.hbm, 226, rfl⟩
abbrev main_call1_v0 : Ref sig .tc := ⟨.hbm, 227, rfl⟩
abbrev main_call1_v1 : Ref sig .tc := ⟨.hbm, 228, rfl⟩
abbrev main_v193 : Ref sig .tc := ⟨.hbm, 229, rfl⟩
abbrev main_v194 : Ref sig .tc := ⟨.hbm, 230, rfl⟩
abbrev main_v195 : Ref sig .tc := ⟨.hbm, 231, rfl⟩
abbrev main_v196 : Ref sig .tc := ⟨.hbm, 232, rfl⟩
abbrev main_v197 : Ref sig .tc := ⟨.hbm, 233, rfl⟩
abbrev main_v198 : Ref sig .tc := ⟨.hbm, 234, rfl⟩
abbrev main_v199 : Ref sig .tc := ⟨.hbm, 235, rfl⟩
abbrev main_v200 : Ref sig .tc := ⟨.hbm, 236, rfl⟩
abbrev main_c_13 : Ref sig .tc := ⟨.hbm, 237, rfl⟩
abbrev main_call2_v0 : Ref sig .tc := ⟨.hbm, 238, rfl⟩
abbrev main_call2_v1 : Ref sig .tc := ⟨.hbm, 239, rfl⟩
abbrev main_call2_v2 : Ref sig .tc := ⟨.hbm, 240, rfl⟩
abbrev main_call2_v3 : Ref sig .tc := ⟨.hbm, 241, rfl⟩
abbrev main_call2_v4 : Ref sig .tc := ⟨.hbm, 242, rfl⟩
abbrev main_call2_v5 : Ref sig .tc := ⟨.hbm, 243, rfl⟩
abbrev main_call2_v6 : Ref sig .tc := ⟨.hbm, 244, rfl⟩
abbrev main_call2_v7 : Ref sig .tc := ⟨.hbm, 245, rfl⟩
abbrev main_call2_v8 : Ref sig .tc := ⟨.hbm, 246, rfl⟩
abbrev main_call2_c : Ref sig .tc := ⟨.hbm, 247, rfl⟩
abbrev main_call2_v9 : Ref sig .tc := ⟨.hbm, 248, rfl⟩
abbrev main_call2_v10 : Ref sig .tc := ⟨.hbm, 249, rfl⟩
abbrev main_call2_v11 : Ref sig .tc := ⟨.hbm, 250, rfl⟩
abbrev main_call2_c_0 : Ref sig .tc := ⟨.hbm, 251, rfl⟩
abbrev main_call2_v12 : Ref sig .tc := ⟨.hbm, 252, rfl⟩
abbrev main_call2_v13 : Ref sig .tc := ⟨.hbm, 253, rfl⟩
abbrev main_v201 : Ref sig .tc := ⟨.hbm, 254, rfl⟩
abbrev main_v202 : Ref sig .tc := ⟨.hbm, 255, rfl⟩
abbrev main_v203 : Ref sig .tc := ⟨.hbm, 256, rfl⟩
abbrev main_v204 : Ref sig .tc := ⟨.hbm, 257, rfl⟩
abbrev main_cst_14 : Ref sig .tc := ⟨.hbm, 258, rfl⟩
abbrev main_cst_15 : Ref sig .tc := ⟨.hbm, 259, rfl⟩
abbrev main_call3_v0 : Ref sig .tc := ⟨.hbm, 260, rfl⟩
abbrev main_call3_v1 : Ref sig .tc := ⟨.hbm, 261, rfl⟩
abbrev main_v205 : Ref sig .tc := ⟨.hbm, 262, rfl⟩
abbrev main_v206 : Ref sig .tc := ⟨.hbm, 263, rfl⟩
abbrev main_v207 : Ref sig .tc := ⟨.hbm, 264, rfl⟩
abbrev main_v208 : Ref sig .tc := ⟨.hbm, 265, rfl⟩
abbrev main_v209 : Ref sig .tc := ⟨.hbm, 266, rfl⟩
abbrev main_v210 : Ref sig .tc := ⟨.hbm, 267, rfl⟩
abbrev main_v211 : Ref sig .tc := ⟨.hbm, 268, rfl⟩
abbrev main_v212 : Ref sig .tc := ⟨.hbm, 269, rfl⟩
abbrev main_v213 : Ref sig .tc := ⟨.hbm, 270, rfl⟩
abbrev main_v214 : Ref sig .tc := ⟨.hbm, 271, rfl⟩
abbrev main_cst_16 : Ref sig .tc := ⟨.hbm, 272, rfl⟩
abbrev main_v215 : Ref sig .tc := ⟨.hbm, 273, rfl⟩
abbrev main_cst_17 : Ref sig .tc := ⟨.hbm, 274, rfl⟩
abbrev main_v216 : Ref sig .tc := ⟨.hbm, 275, rfl⟩
abbrev main_v217 : Ref sig .tc := ⟨.hbm, 276, rfl⟩
abbrev main_v218 : Ref sig .tc := ⟨.hbm, 277, rfl⟩
abbrev main_v219 : Ref sig .tc := ⟨.hbm, 278, rfl⟩
abbrev main_v220 : Ref sig .tc := ⟨.hbm, 279, rfl⟩
abbrev main_v221 : Ref sig .tc := ⟨.hbm, 280, rfl⟩
abbrev main_v222 : Ref sig .tc := ⟨.hbm, 281, rfl⟩
abbrev main_v223 : Ref sig .tc := ⟨.hbm, 282, rfl⟩
abbrev main_v224 : Ref sig .tc := ⟨.hbm, 283, rfl⟩
abbrev main_v225 : Ref sig .tc := ⟨.hbm, 284, rfl⟩
abbrev main_v226 : Ref sig .tc := ⟨.hbm, 285, rfl⟩
abbrev main_c_18 : Ref sig .tc := ⟨.hbm, 286, rfl⟩
abbrev main_v227 : Ref sig .tc := ⟨.hbm, 287, rfl⟩
abbrev main_v228 : Ref sig .tc := ⟨.hbm, 288, rfl⟩
abbrev main_cst_19 : Ref sig .tc := ⟨.hbm, 289, rfl⟩
abbrev main_cst_20 : Ref sig .tc := ⟨.hbm, 290, rfl⟩
abbrev main_call4_v0 : Ref sig .tc := ⟨.hbm, 291, rfl⟩
abbrev main_call4_v1 : Ref sig .tc := ⟨.hbm, 292, rfl⟩
abbrev main_v229 : Ref sig .tc := ⟨.hbm, 293, rfl⟩
abbrev main_v230 : Ref sig .tc := ⟨.hbm, 294, rfl⟩
abbrev main_v231 : Ref sig .tc := ⟨.hbm, 295, rfl⟩
abbrev main_v232 : Ref sig .tc := ⟨.hbm, 296, rfl⟩
abbrev main_v233 : Ref sig .tc := ⟨.hbm, 297, rfl⟩
abbrev main_v234 : Ref sig .tc := ⟨.hbm, 298, rfl⟩
abbrev main_v235 : Ref sig .tc := ⟨.hbm, 299, rfl⟩
abbrev main_v236 : Ref sig .tc := ⟨.hbm, 300, rfl⟩
abbrev main_v237 : Ref sig .tc := ⟨.hbm, 301, rfl⟩
abbrev main_c_21 : Ref sig .tc := ⟨.hbm, 302, rfl⟩
abbrev main_v238 : Ref sig .tc := ⟨.hbm, 303, rfl⟩
abbrev main_v239 : Ref sig .tc := ⟨.hbm, 304, rfl⟩
abbrev main_cst_22 : Ref sig .tc := ⟨.hbm, 305, rfl⟩
abbrev main_cst_23 : Ref sig .tc := ⟨.hbm, 306, rfl⟩
abbrev main_call5_v0 : Ref sig .tc := ⟨.hbm, 307, rfl⟩
abbrev main_call5_v1 : Ref sig .tc := ⟨.hbm, 308, rfl⟩
abbrev main_v240 : Ref sig .tc := ⟨.hbm, 309, rfl⟩
abbrev main_v241 : Ref sig .tc := ⟨.hbm, 310, rfl⟩
abbrev main_v242 : Ref sig .tc := ⟨.hbm, 311, rfl⟩
abbrev main_v243 : Ref sig .tc := ⟨.hbm, 312, rfl⟩
abbrev main_v244 : Ref sig .tc := ⟨.hbm, 313, rfl⟩
abbrev main_v245 : Ref sig .tc := ⟨.hbm, 314, rfl⟩
abbrev main_v246 : Ref sig .tc := ⟨.hbm, 315, rfl⟩
abbrev main_v247 : Ref sig .tc := ⟨.hbm, 316, rfl⟩
abbrev main_v248 : Ref sig .tc := ⟨.hbm, 317, rfl⟩
abbrev main_c_24 : Ref sig .tc := ⟨.hbm, 318, rfl⟩
abbrev main_v249 : Ref sig .tc := ⟨.hbm, 319, rfl⟩
abbrev main_v250 : Ref sig .tc := ⟨.hbm, 320, rfl⟩
abbrev main_cst_25 : Ref sig .tc := ⟨.hbm, 321, rfl⟩
abbrev main_cst_26 : Ref sig .tc := ⟨.hbm, 322, rfl⟩
abbrev main_call6_v0 : Ref sig .tc := ⟨.hbm, 323, rfl⟩
abbrev main_call6_v1 : Ref sig .tc := ⟨.hbm, 324, rfl⟩
abbrev main_v251 : Ref sig .tc := ⟨.hbm, 325, rfl⟩
abbrev main_v252 : Ref sig .tc := ⟨.hbm, 326, rfl⟩
abbrev main_v253 : Ref sig .tc := ⟨.hbm, 327, rfl⟩
abbrev main_v254 : Ref sig .tc := ⟨.hbm, 328, rfl⟩
abbrev main_v255 : Ref sig .tc := ⟨.hbm, 329, rfl⟩
abbrev main_v256 : Ref sig .tc := ⟨.hbm, 330, rfl⟩
abbrev main_v257 : Ref sig .tc := ⟨.hbm, 331, rfl⟩
abbrev main_v258 : Ref sig .tc := ⟨.hbm, 332, rfl⟩

abbrev nD : Nat := 1
abbrev τ : Topo := Topo.v7x

variable {F : FTy → Type} [FloatOps F]
-- ==== Proof.MixersLoop1.lean ====
/- The invariant of loop 1 of the call that computes the two attentions: what each trip writes, and the contents after any number of trips. -/
module

public import proofs.«01_k».proof.Proof.Gen.KernelIdeal.Skeleton
public import proofs.«01_k».proof.Proof.Gen.KernelIdeal.Loops
public import Idealize.ShloMosaic.Lib.Exec
public import Idealize.ShloMosaic.Lib.Tactic
public import Idealize.ShloMosaic.Lib.Pipeline.Kit

@[expose] public section

set_option maxRecDepth 8192
set_option maxHeartbeats 4000000

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄G" => MT nD τ sig Unit (Elt F) ℕ (UR sig nD τ) ℕ

abbrev Trip_k0_t1 (c : Dev nD) (arg7 : Memref sig .tc .vmem S1x16x256x256 .bf16) (arg8 : Memref sig .tc .vmem S1x2x16x80x256 .bf16) (arg15 : Memref sig .tc .vmem S1x16x256x1024 .bf16) (arg16 : Memref sig .tc .vmem S1x8x16x80x256 .bf16) (arg19 : Memref sig .tc .vmem S2x256x2048 .f32) (arg20 : Memref sig .tc .vmem S2x1x2048 .f32) (arg21 : Memref sig .tc .vmem S1x2048 .f32) (arg22 : Memref sig .tc .vmem S80x2048 .f32) (arg24 : Memref sig .tc .vmem S2x256x2048 .f32) (arg25 : Memref sig .tc .vmem S2x1x2048 .f32) (arg26 : Memref sig .tc .vmem S1x2048 .f32) (arg27 : Memref sig .tc .vmem S80x2048 .f32) (X_arg7 : BufTy.Contents (Elt F) arg7.view.ty) (X_arg8 : BufTy.Contents (Elt F) arg8.view.ty) (X_arg15 : BufTy.Contents (Elt F) arg15.view.ty) (X_arg16 : BufTy.Contents (Elt F) arg16.view.ty) (f_arg19 : BufTy.Contents (Elt F) arg19.view.ty) (f_arg20 : BufTy.Contents (Elt F) arg20.view.ty) (f_arg21 : BufTy.Contents (Elt F) arg21.view.ty) (f_arg22 : BufTy.Contents (Elt F) arg22.view.ty) (f_arg24 : BufTy.Contents (Elt F) arg24.view.ty) (f_arg25 : BufTy.Contents (Elt F) arg25.view.ty) (f_arg26 : BufTy.Contents (Elt F) arg26.view.ty) (f_arg27 : BufTy.Contents (Elt F) arg27.view.ty) : sProp 𝕄G :=
  iprop((arg7.view.loc (c : Thread nD τ) ↦[arg7.view.set]{fullShare} X_arg7) ∗ (arg8.view.loc (c : Thread nD τ) ↦[arg8.view.set]{fullShare} X_arg8) ∗ (arg15.view.loc (c : Thread nD τ) ↦[arg15.view.set]{fullShare} X_arg15) ∗ (arg16.view.loc (c : Thread nD τ) ↦[arg16.view.set]{fullShare} X_arg16) ∗ (arg19.view.loc (c : Thread nD τ) ↦[arg19.view.set]{fullShare} f_arg19) ∗ (arg20.view.loc (c : Thread nD τ) ↦[arg20.view.set]{fullShare} f_arg20) ∗ (arg21.view.loc (c : Thread nD τ) ↦[arg21.view.set]{fullShare} f_arg21) ∗ (arg22.view.loc (c : Thread nD τ) ↦[arg22.view.set]{fullShare} f_arg22) ∗ (arg24.view.loc (c : Thread nD τ) ↦[arg24.view.set]{fullShare} f_arg24) ∗ (arg25.view.loc (c : Thread nD τ) ↦[arg25.view.set]{fullShare} f_arg25) ∗ (arg26.view.loc (c : Thread nD τ) ↦[arg26.view.set]{fullShare} f_arg26) ∗ (arg27.view.loc (c : Thread nD τ) ↦[arg27.view.set]{fullShare} f_arg27))

@[irreducible] def trip_k0_t1 (𝒱 : Variants) (c : Dev nD) (bd : Option 𝒱.V) (i : grid0.Coords) (arg2 : Memref sig .tc .vmem S1x512x256 .bf16) (harg2 : arg2.IsWhole) (arg3 : Memref sig .tc .vmem S1x512x256 .bf16) (harg3 : arg3.IsWhole) (arg4 : Memref sig .tc .vmem S1x2x16x256 .f32) (harg4 : arg4.IsWhole) (arg5 : Memref sig .tc .vmem S1x256x128 .bf16) (harg5 : arg5.IsWhole) (arg6 : Memref sig .tc .vmem S1x2x80x256 .bf16) (harg6 : arg6.IsWhole) (arg7 : Memref sig .tc .vmem S1x16x256x256 .bf16) (harg7 : arg7.IsWhole) (arg8 : Memref sig .tc .vmem S1x2x16x80x256 .bf16) (harg8 : arg8.IsWhole) (arg9 : Memref sig .tc .vmem S1x16x256x128 .bf16) (harg9 : arg9.IsWhole) (arg10 : Memref sig .tc .vmem S1x2x16x80x256 .bf16) (harg10 : arg10.IsWhole) (arg11 : Memref sig .tc .vmem S64x256 .bf16) (harg11 : arg11.IsWhole) (arg12 : Memref sig .tc .vmem S1x512x256 .bf16) (harg12 : arg12.IsWhole) (arg13 : Memref sig .tc .vmem S1x512x256 .bf16) (harg13 : arg13.IsWhole) (arg14 : Memref sig .tc .vmem S1x8x16x64 .f32) (harg14 : arg14.IsWhole) (arg15 : Memref sig .tc .vmem S1x16x256x1024 .bf16) (harg15 : arg15.IsWhole) (arg16 : Memref sig .tc .vmem S1x8x16x80x256 .bf16) (harg16 : arg16.IsWhole) (arg17 : Memref sig .tc .vmem S1x512x256 .bf16) (harg17 : arg17.IsWhole) (arg18 : Memref sig .tc .vmem S1x512x256 .bf16) (harg18 : arg18.IsWhole) (arg19 : Memref sig .tc .vmem S2x256x2048 .f32) (harg19 : arg19.IsWhole) (arg20 : Memref sig .tc .vmem S2x1x2048 .f32) (harg20 : arg20.IsWhole) (arg21 : Memref sig .tc .vmem S1x2048 .f32) (harg21 : arg21.IsWhole) (arg22 : Memref sig .tc .vmem S80x2048 .f32) (harg22 : arg22.IsWhole) (arg23 : Memref sig .tc .vmem S64x512 .f32) (harg23 : arg23.IsWhole) (arg24 : Memref sig .tc .vmem S2x256x2048 .f32) (harg24 : arg24.IsWhole) (arg25 : Memref sig .tc .vmem S2x1x2048 .f32) (harg25 : arg25.IsWhole) (arg26 : Memref sig .tc .vmem S1x2048 .f32) (harg26 : arg26.IsWhole) (arg27 : Memref sig .tc .vmem S80x2048 .f32) (harg27 : arg27.IsWhole) (arg1 : BitVec 32) (v58 : IVec S256x2048 1) (v1264 : FVec F S256x2048 .bf16) (v1292 : BitVec 32) (v1929 : FVec F S256x256 .bf16) (v1932 : FVec F S256x256 .bf16) (v1935 : FVec F S256x256 .bf16) (v1938 : FVec F S256x256 .bf16) (v1941 : FVec F S256x256 .bf16) (v1944 : FVec F S256x256 .bf16) (v1947 : FVec F S256x256 .bf16) (v1950 : FVec F S256x256 .bf16) (v1952 : FVec F S256x256 .bf16) (v1954 : FVec F S256x256 .bf16) (v1956 : FVec F S256x256 .bf16) (v1958 : FVec F S256x256 .bf16) (v1960 : FVec F S256x256 .bf16) (v1962 : FVec F S256x256 .bf16) (v1964 : FVec F S256x256 .bf16) (v1966 : FVec F S256x256 .bf16) (v2205 : BitVec 32) (c2_i32_955 : BitVec 32) (v2206 : BitVec 32) (v2208 : BitVec 32) (v2209 : BitVec 1) (X_arg7 : BufTy.Contents (Elt F) arg7.view.ty) (X_arg8 : BufTy.Contents (Elt F) arg8.view.ty) (X_arg15 : BufTy.Contents (Elt F) arg15.view.ty) (X_arg16 : BufTy.Contents (Elt F) arg16.view.ty) (k : Fin (k0_t1_loop i).trips) :
    Σ' (L_arg19 : (BufTy.Contents (Elt F) arg19.view.ty → BufTy.Contents (Elt F) arg20.view.ty → BufTy.Contents (Elt F) arg21.view.ty → BufTy.Contents (Elt F) arg22.view.ty → BufTy.Contents (Elt F) arg24.view.ty → BufTy.Contents (Elt F) arg25.view.ty → BufTy.Contents (Elt F) arg26.view.ty → BufTy.Contents (Elt F) arg27.view.ty → List (View.Piece (Elt F) S2x256x2048 .f32))) (L_arg20 : (BufTy.Contents (Elt F) arg19.view.ty → BufTy.Contents (Elt F) arg20.view.ty → BufTy.Contents (Elt F) arg21.view.ty → BufTy.Contents (Elt F) arg22.view.ty → BufTy.Contents (Elt F) arg24.view.ty → BufTy.Contents (Elt F) arg25.view.ty → BufTy.Contents (Elt F) arg26.view.ty → BufTy.Contents (Elt F) arg27.view.ty → List (View.Piece (Elt F) S2x1x2048 .f32))) (L_arg21 : (BufTy.Contents (Elt F) arg19.view.ty → BufTy.Contents (Elt F) arg20.view.ty → BufTy.Contents (Elt F) arg21.view.ty → BufTy.Contents (Elt F) arg22.view.ty → BufTy.Contents (Elt F) arg24.view.ty → BufTy.Contents (Elt F) arg25.view.ty → BufTy.Contents (Elt F) arg26.view.ty → BufTy.Contents (Elt F) arg27.view.ty → List (View.Piece (Elt F) S1x2048 .f32))) (L_arg22 : (BufTy.Contents (Elt F) arg19.view.ty → BufTy.Contents (Elt F) arg20.view.ty → BufTy.Contents (Elt F) arg21.view.ty → BufTy.Contents (Elt F) arg22.view.ty → BufTy.Contents (Elt F) arg24.view.ty → BufTy.Contents (Elt F) arg25.view.ty → BufTy.Contents (Elt F) arg26.view.ty → BufTy.Contents (Elt F) arg27.view.ty → List (View.Piece (Elt F) S80x2048 .f32))) (L_arg24 : (BufTy.Contents (Elt F) arg19.view.ty → BufTy.Contents (Elt F) arg20.view.ty → BufTy.Contents (Elt F) arg21.view.ty → BufTy.Contents (Elt F) arg22.view.ty → BufTy.Contents (Elt F) arg24.view.ty → BufTy.Contents (Elt F) arg25.view.ty → BufTy.Contents (Elt F) arg26.view.ty → BufTy.Contents (Elt F) arg27.view.ty → List (View.Piece (Elt F) S2x256x2048 .f32))) (L_arg25 : (BufTy.Contents (Elt F) arg19.view.ty → BufTy.Contents (Elt F) arg20.view.ty → BufTy.Contents (Elt F) arg21.view.ty → BufTy.Contents (Elt F) arg22.view.ty → BufTy.Contents (Elt F) arg24.view.ty → BufTy.Contents (Elt F) arg25.view.ty → BufTy.Contents (Elt F) arg26.view.ty → BufTy.Contents (Elt F) arg27.view.ty → List (View.Piece (Elt F) S2x1x2048 .f32))) (L_arg26 : (BufTy.Contents (Elt F) arg19.view.ty → BufTy.Contents (Elt F) arg20.view.ty → BufTy.Contents (Elt F) arg21.view.ty → BufTy.Contents (Elt F) arg22.view.ty → BufTy.Contents (Elt F) arg24.view.ty → BufTy.Contents (Elt F) arg25.view.ty → BufTy.Contents (Elt F) arg26.view.ty → BufTy.Contents (Elt F) arg27.view.ty → List (View.Piece (Elt F) S1x2048 .f32))) , { L_arg27 : (BufTy.Contents (Elt F) arg19.view.ty → BufTy.Contents (Elt F) arg20.view.ty → BufTy.Contents (Elt F) arg21.view.ty → BufTy.Contents (Elt F) arg22.view.ty → BufTy.Contents (Elt F) arg24.view.ty → BufTy.Contents (Elt F) arg25.view.ty → BufTy.Contents (Elt F) arg26.view.ty → BufTy.Contents (Elt F) arg27.view.ty → List (View.Piece (Elt F) S80x2048 .f32)) // ∀ (E : Set ℕ) (f_arg19 : BufTy.Contents (Elt F) arg19.view.ty) (f_arg20 : BufTy.Contents (Elt F) arg20.view.ty) (f_arg21 : BufTy.Contents (Elt F) arg21.view.ty) (f_arg22 : BufTy.Contents (Elt F) arg22.view.ty) (f_arg24 : BufTy.Contents (Elt F) arg24.view.ty) (f_arg25 : BufTy.Contents (Elt F) arg25.view.ty) (f_arg26 : BufTy.Contents (Elt F) arg26.view.ty) (f_arg27 : BufTy.Contents (Elt F) arg27.view.ty),
      Trip_k0_t1 (F := F) c arg7 arg8 arg15 arg16 arg19 arg20 arg21 arg22 arg24 arg25 arg26 arg27 X_arg7 X_arg8 X_arg15 X_arg16 f_arg19 f_arg20 f_arg21 f_arg22 f_arg24 f_arg25 f_arg26 f_arg27
      ⊢ wp frame (wpE (defs₀ (F := F)) 𝒱 (c : Thread nD τ) bd) E (k0_t1_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg1 v58 v1264 v1292 v1929 v1932 v1935 v1938 v1941 v1944 v1947 v1950 v1952 v1954 v1956 v1958 v1960 v1962 v1964 v1966 v2205 c2_i32_955 v2206 v2208 v2209 k PUnit.unit)
          (fun _ => Trip_k0_t1 (F := F) c arg7 arg8 arg15 arg16 arg19 arg20 arg21 arg22 arg24 arg25 arg26 arg27 X_arg7 X_arg8 X_arg15 X_arg16 (arg19.view.writes (Elt F) f_arg19 (L_arg19 f_arg19 f_arg20 f_arg21 f_arg22 f_arg24 f_arg25 f_arg26 f_arg27)) (arg20.view.writes (Elt F) f_arg20 (L_arg20 f_arg19 f_arg20 f_arg21 f_arg22 f_arg24 f_arg25 f_arg26 f_arg27)) (arg21.view.writes (Elt F) f_arg21 (L_arg21 f_arg19 f_arg20 f_arg21 f_arg22 f_arg24 f_arg25 f_arg26 f_arg27)) (arg22.view.writes (Elt F) f_arg22 (L_arg22 f_arg19 f_arg20 f_arg21 f_arg22 f_arg24 f_arg25 f_arg26 f_arg27)) (arg24.view.writes (Elt F) f_arg24 (L_arg24 f_arg19 f_arg20 f_arg21 f_arg22 f_arg24 f_arg25 f_arg26 f_arg27)) (arg25.view.writes (Elt F) f_arg25 (L_arg25 f_arg19 f_arg20 f_arg21 f_arg22 f_arg24 f_arg25 f_arg26 f_arg27)) (arg26.view.writes (Elt F) f_arg26 (L_arg26 f_arg19 f_arg20 f_arg21 f_arg22 f_arg24 f_arg25 f_arg26 f_arg27)) (arg27.view.writes (Elt F) f_arg27 (L_arg27 f_arg19 f_arg20 f_arg21 f_arg22 f_arg24 f_arg25 f_arg26 f_arg27))) } := by
  refine ⟨?_, ?_, ?_, ?_, ?_, ?_, ?_, ?_, fun E f_arg19 f_arg20 f_arg21 f_arg22 f_arg24 f_arg25 f_arg26 f_arg27 => ?run⟩
  case run =>
    unfold k0_t1_body
    iintro ⟨HR_arg7, HR_arg8, HR_arg15, HR_arg16, HW_arg19, HW_arg20, HW_arg21, HW_arg22, HW_arg24, HW_arg25, HW_arg26, HW_arg27⟩
    sl_exec
    sl_step
    sl_close

abbrev tripL_k0_t1 (𝒱 : Variants) (c : Dev nD) (bd : Option 𝒱.V) (i : grid0.Coords) (arg2 : Memref sig .tc .vmem S1x512x256 .bf16) (harg2 : arg2.IsWhole) (arg3 : Memref sig .tc .vmem S1x512x256 .bf16) (harg3 : arg3.IsWhole) (arg4 : Memref sig .tc .vmem S1x2x16x256 .f32) (harg4 : arg4.IsWhole) (arg5 : Memref sig .tc .vmem S1x256x128 .bf16) (harg5 : arg5.IsWhole) (arg6 : Memref sig .tc .vmem S1x2x80x256 .bf16) (harg6 : arg6.IsWhole) (arg7 : Memref sig .tc .vmem S1x16x256x256 .bf16) (harg7 : arg7.IsWhole) (arg8 : Memref sig .tc .vmem S1x2x16x80x256 .bf16) (harg8 : arg8.IsWhole) (arg9 : Memref sig .tc .vmem S1x16x256x128 .bf16) (harg9 : arg9.IsWhole) (arg10 : Memref sig .tc .vmem S1x2x16x80x256 .bf16) (harg10 : arg10.IsWhole) (arg11 : Memref sig .tc .vmem S64x256 .bf16) (harg11 : arg11.IsWhole) (arg12 : Memref sig .tc .vmem S1x512x256 .bf16) (harg12 : arg12.IsWhole) (arg13 : Memref sig .tc .vmem S1x512x256 .bf16) (harg13 : arg13.IsWhole) (arg14 : Memref sig .tc .vmem S1x8x16x64 .f32) (harg14 : arg14.IsWhole) (arg15 : Memref sig .tc .vmem S1x16x256x1024 .bf16) (harg15 : arg15.IsWhole) (arg16 : Memref sig .tc .vmem S1x8x16x80x256 .bf16) (harg16 : arg16.IsWhole) (arg17 : Memref sig .tc .vmem S1x512x256 .bf16) (harg17 : arg17.IsWhole) (arg18 : Memref sig .tc .vmem S1x512x256 .bf16) (harg18 : arg18.IsWhole) (arg19 : Memref sig .tc .vmem S2x256x2048 .f32) (harg19 : arg19.IsWhole) (arg20 : Memref sig .tc .vmem S2x1x2048 .f32) (harg20 : arg20.IsWhole) (arg21 : Memref sig .tc .vmem S1x2048 .f32) (harg21 : arg21.IsWhole) (arg22 : Memref sig .tc .vmem S80x2048 .f32) (harg22 : arg22.IsWhole) (arg23 : Memref sig .tc .vmem S64x512 .f32) (harg23 : arg23.IsWhole) (arg24 : Memref sig .tc .vmem S2x256x2048 .f32) (harg24 : arg24.IsWhole) (arg25 : Memref sig .tc .vmem S2x1x2048 .f32) (harg25 : arg25.IsWhole) (arg26 : Memref sig .tc .vmem S1x2048 .f32) (harg26 : arg26.IsWhole) (arg27 : Memref sig .tc .vmem S80x2048 .f32) (harg27 : arg27.IsWhole) (arg1 : BitVec 32) (v58 : IVec S256x2048 1) (v1264 : FVec F S256x2048 .bf16) (v1292 : BitVec 32) (v1929 : FVec F S256x256 .bf16) (v1932 : FVec F S256x256 .bf16) (v1935 : FVec F S256x256 .bf16) (v1938 : FVec F S256x256 .bf16) (v1941 : FVec F S256x256 .bf16) (v1944 : FVec F S256x256 .bf16) (v1947 : FVec F S256x256 .bf16) (v1950 : FVec F S256x256 .bf16) (v1952 : FVec F S256x256 .bf16) (v1954 : FVec F S256x256 .bf16) (v1956 : FVec F S256x256 .bf16) (v1958 : FVec F S256x256 .bf16) (v1960 : FVec F S256x256 .bf16) (v1962 : FVec F S256x256 .bf16) (v1964 : FVec F S256x256 .bf16) (v1966 : FVec F S256x256 .bf16) (v2205 : BitVec 32) (c2_i32_955 : BitVec 32) (v2206 : BitVec 32) (v2208 : BitVec 32) (v2209 : BitVec 1) (X_arg7 : BufTy.Contents (Elt F) arg7.view.ty) (X_arg8 : BufTy.Contents (Elt F) arg8.view.ty) (X_arg15 : BufTy.Contents (Elt F) arg15.view.ty) (X_arg16 : BufTy.Contents (Elt F) arg16.view.ty) (k : Fin (k0_t1_loop i).trips) (f_arg19 : BufTy.Contents (Elt F) arg19.view.ty) (f_arg20 : BufTy.Contents (Elt F) arg20.view.ty) (f_arg21 : BufTy.Contents (Elt F) arg21.view.ty) (f_arg22 : BufTy.Contents (Elt F) arg22.view.ty) (f_arg24 : BufTy.Contents (Elt F) arg24.view.ty) (f_arg25 : BufTy.Contents (Elt F) arg25.view.ty) (f_arg26 : BufTy.Contents (Elt F) arg26.view.ty) (f_arg27 : BufTy.Contents (Elt F) arg27.view.ty) : List (View.Piece (Elt F) S2x256x2048 .f32) × List (View.Piece (Elt F) S2x1x2048 .f32) × List (View.Piece (Elt F) S1x2048 .f32) × List (View.Piece (Elt F) S80x2048 .f32) × List (View.Piece (Elt F) S2x256x2048 .f32) × List (View.Piece (Elt F) S2x1x2048 .f32) × List (View.Piece (Elt F) S1x2048 .f32) × List (View.Piece (Elt F) S80x2048 .f32) :=
  ((trip_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg1 v58 v1264 v1292 v1929 v1932 v1935 v1938 v1941 v1944 v1947 v1950 v1952 v1954 v1956 v1958 v1960 v1962 v1964 v1966 v2205 c2_i32_955 v2206 v2208 v2209 X_arg7 X_arg8 X_arg15 X_arg16 k).1 f_arg19 f_arg20 f_arg21 f_arg22 f_arg24 f_arg25 f_arg26 f_arg27, (trip_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg1 v58 v1264 v1292 v1929 v1932 v1935 v1938 v1941 v1944 v1947 v1950 v1952 v1954 v1956 v1958 v1960 v1962 v1964 v1966 v2205 c2_i32_955 v2206 v2208 v2209 X_arg7 X_arg8 X_arg15 X_arg16 k).2.1 f_arg19 f_arg20 f_arg21 f_arg22 f_arg24 f_arg25 f_arg26 f_arg27, (trip_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg1 v58 v1264 v1292 v1929 v1932 v1935 v1938 v1941 v1944 v1947 v1950 v1952 v1954 v1956 v1958 v1960 v1962 v1964 v1966 v2205 c2_i32_955 v2206 v2208 v2209 X_arg7 X_arg8 X_arg15 X_arg16 k).2.2.1 f_arg19 f_arg20 f_arg21 f_arg22 f_arg24 f_arg25 f_arg26 f_arg27, (trip_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg1 v58 v1264 v1292 v1929 v1932 v1935 v1938 v1941 v1944 v1947 v1950 v1952 v1954 v1956 v1958 v1960 v1962 v1964 v1966 v2205 c2_i32_955 v2206 v2208 v2209 X_arg7 X_arg8 X_arg15 X_arg16 k).2.2.2.1 f_arg19 f_arg20 f_arg21 f_arg22 f_arg24 f_arg25 f_arg26 f_arg27, (trip_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg1 v58 v1264 v1292 v1929 v1932 v1935 v1938 v1941 v1944 v1947 v1950 v1952 v1954 v1956 v1958 v1960 v1962 v1964 v1966 v2205 c2_i32_955 v2206 v2208 v2209 X_arg7 X_arg8 X_arg15 X_arg16 k).2.2.2.2.1 f_arg19 f_arg20 f_arg21 f_arg22 f_arg24 f_arg25 f_arg26 f_arg27, (trip_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg1 v58 v1264 v1292 v1929 v1932 v1935 v1938 v1941 v1944 v1947 v1950 v1952 v1954 v1956 v1958 v1960 v1962 v1964 v1966 v2205 c2_i32_955 v2206 v2208 v2209 X_arg7 X_arg8 X_arg15 X_arg16 k).2.2.2.2.2.1 f_arg19 f_arg20 f_arg21 f_arg22 f_arg24 f_arg25 f_arg26 f_arg27, (trip_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg1 v58 v1264 v1292 v1929 v1932 v1935 v1938 v1941 v1944 v1947 v1950 v1952 v1954 v1956 v1958 v1960 v1962 v1964 v1966 v2205 c2_i32_955 v2206 v2208 v2209 X_arg7 X_arg8 X_arg15 X_arg16 k).2.2.2.2.2.2.1 f_arg19 f_arg20 f_arg21 f_arg22 f_arg24 f_arg25 f_arg26 f_arg27, (trip_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg1 v58 v1264 v1292 v1929 v1932 v1935 v1938 v1941 v1944 v1947 v1950 v1952 v1954 v1956 v1958 v1960 v1962 v1964 v1966 v2205 c2_i32_955 v2206 v2208 v2209 X_arg7 X_arg8 X_arg15 X_arg16 k).2.2.2.2.2.2.2.1 f_arg19 f_arg20 f_arg21 f_arg22 f_arg24 f_arg25 f_arg26 f_arg27)

@[irreducible] def pb_k0_t1Step (𝒱 : Variants) (c : Dev nD) (bd : Option 𝒱.V) (i : grid0.Coords) (arg2 : Memref sig .tc .vmem S1x512x256 .bf16) (harg2 : arg2.IsWhole) (arg3 : Memref sig .tc .vmem S1x512x256 .bf16) (harg3 : arg3.IsWhole) (arg4 : Memref sig .tc .vmem S1x2x16x256 .f32) (harg4 : arg4.IsWhole) (arg5 : Memref sig .tc .vmem S1x256x128 .bf16) (harg5 : arg5.IsWhole) (arg6 : Memref sig .tc .vmem S1x2x80x256 .bf16) (harg6 : arg6.IsWhole) (arg7 : Memref sig .tc .vmem S1x16x256x256 .bf16) (harg7 : arg7.IsWhole) (arg8 : Memref sig .tc .vmem S1x2x16x80x256 .bf16) (harg8 : arg8.IsWhole) (arg9 : Memref sig .tc .vmem S1x16x256x128 .bf16) (harg9 : arg9.IsWhole) (arg10 : Memref sig .tc .vmem S1x2x16x80x256 .bf16) (harg10 : arg10.IsWhole) (arg11 : Memref sig .tc .vmem S64x256 .bf16) (harg11 : arg11.IsWhole) (arg12 : Memref sig .tc .vmem S1x512x256 .bf16) (harg12 : arg12.IsWhole) (arg13 : Memref sig .tc .vmem S1x512x256 .bf16) (harg13 : arg13.IsWhole) (arg14 : Memref sig .tc .vmem S1x8x16x64 .f32) (harg14 : arg14.IsWhole) (arg15 : Memref sig .tc .vmem S1x16x256x1024 .bf16) (harg15 : arg15.IsWhole) (arg16 : Memref sig .tc .vmem S1x8x16x80x256 .bf16) (harg16 : arg16.IsWhole) (arg17 : Memref sig .tc .vmem S1x512x256 .bf16) (harg17 : arg17.IsWhole) (arg18 : Memref sig .tc .vmem S1x512x256 .bf16) (harg18 : arg18.IsWhole) (arg19 : Memref sig .tc .vmem S2x256x2048 .f32) (harg19 : arg19.IsWhole) (arg20 : Memref sig .tc .vmem S2x1x2048 .f32) (harg20 : arg20.IsWhole) (arg21 : Memref sig .tc .vmem S1x2048 .f32) (harg21 : arg21.IsWhole) (arg22 : Memref sig .tc .vmem S80x2048 .f32) (harg22 : arg22.IsWhole) (arg23 : Memref sig .tc .vmem S64x512 .f32) (harg23 : arg23.IsWhole) (arg24 : Memref sig .tc .vmem S2x256x2048 .f32) (harg24 : arg24.IsWhole) (arg25 : Memref sig .tc .vmem S2x1x2048 .f32) (harg25 : arg25.IsWhole) (arg26 : Memref sig .tc .vmem S1x2048 .f32) (harg26 : arg26.IsWhole) (arg27 : Memref sig .tc .vmem S80x2048 .f32) (harg27 : arg27.IsWhole) (arg1 : BitVec 32) (v58 : IVec S256x2048 1) (v1264 : FVec F S256x2048 .bf16) (v1292 : BitVec 32) (v1929 : FVec F S256x256 .bf16) (v1932 : FVec F S256x256 .bf16) (v1935 : FVec F S256x256 .bf16) (v1938 : FVec F S256x256 .bf16) (v1941 : FVec F S256x256 .bf16) (v1944 : FVec F S256x256 .bf16) (v1947 : FVec F S256x256 .bf16) (v1950 : FVec F S256x256 .bf16) (v1952 : FVec F S256x256 .bf16) (v1954 : FVec F S256x256 .bf16) (v1956 : FVec F S256x256 .bf16) (v1958 : FVec F S256x256 .bf16) (v1960 : FVec F S256x256 .bf16) (v1962 : FVec F S256x256 .bf16) (v1964 : FVec F S256x256 .bf16) (v1966 : FVec F S256x256 .bf16) (v2205 : BitVec 32) (c2_i32_955 : BitVec 32) (v2206 : BitVec 32) (v2208 : BitVec 32) (v2209 : BitVec 1) (X_arg7 : BufTy.Contents (Elt F) arg7.view.ty) (X_arg8 : BufTy.Contents (Elt F) arg8.view.ty) (X_arg15 : BufTy.Contents (Elt F) arg15.view.ty) (X_arg16 : BufTy.Contents (Elt F) arg16.view.ty) (G_arg19 : BufTy.Contents (Elt F) arg19.view.ty) (G_arg20 : BufTy.Contents (Elt F) arg20.view.ty) (G_arg21 : BufTy.Contents (Elt F) arg21.view.ty) (G_arg22 : BufTy.Contents (Elt F) arg22.view.ty) (G_arg24 : BufTy.Contents (Elt F) arg24.view.ty) (G_arg25 : BufTy.Contents (Elt F) arg25.view.ty) (G_arg26 : BufTy.Contents (Elt F) arg26.view.ty) (G_arg27 : BufTy.Contents (Elt F) arg27.view.ty) (k : ℕ) (prev : List (View.Piece (Elt F) S2x256x2048 .f32) × List (View.Piece (Elt F) S2x1x2048 .f32) × List (View.Piece (Elt F) S1x2048 .f32) × List (View.Piece (Elt F) S80x2048 .f32) × List (View.Piece (Elt F) S2x256x2048 .f32) × List (View.Piece (Elt F) S2x1x2048 .f32) × List (View.Piece (Elt F) S1x2048 .f32) × List (View.Piece (Elt F) S80x2048 .f32)) : List (View.Piece (Elt F) S2x256x2048 .f32) × List (View.Piece (Elt F) S2x1x2048 .f32) × List (View.Piece (Elt F) S1x2048 .f32) × List (View.Piece (Elt F) S80x2048 .f32) × List (View.Piece (Elt F) S2x256x2048 .f32) × List (View.Piece (Elt F) S2x1x2048 .f32) × List (View.Piece (Elt F) S1x2048 .f32) × List (View.Piece (Elt F) S80x2048 .f32) :=
  if h : k < (k0_t1_loop i).trips then
    ((tripL_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg1 v58 v1264 v1292 v1929 v1932 v1935 v1938 v1941 v1944 v1947 v1950 v1952 v1954 v1956 v1958 v1960 v1962 v1964 v1966 v2205 c2_i32_955 v2206 v2208 v2209 X_arg7 X_arg8 X_arg15 X_arg16 ⟨k, h⟩ (arg19.view.writes (Elt F) G_arg19 prev.1) (arg20.view.writes (Elt F) G_arg20 prev.2.1) (arg21.view.writes (Elt F) G_arg21 prev.2.2.1) (arg22.view.writes (Elt F) G_arg22 prev.2.2.2.1) (arg24.view.writes (Elt F) G_arg24 prev.2.2.2.2.1) (arg25.view.writes (Elt F) G_arg25 prev.2.2.2.2.2.1) (arg26.view.writes (Elt F) G_arg26 prev.2.2.2.2.2.2.1) (arg27.view.writes (Elt F) G_arg27 prev.2.2.2.2.2.2.2)).1 ++ prev.1, (tripL_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg1 v58 v1264 v1292 v1929 v1932 v1935 v1938 v1941 v1944 v1947 v1950 v1952 v1954 v1956 v1958 v1960 v1962 v1964 v1966 v2205 c2_i32_955 v2206 v2208 v2209 X_arg7 X_arg8 X_arg15 X_arg16 ⟨k, h⟩ (arg19.view.writes (Elt F) G_arg19 prev.1) (arg20.view.writes (Elt F) G_arg20 prev.2.1) (arg21.view.writes (Elt F) G_arg21 prev.2.2.1) (arg22.view.writes (Elt F) G_arg22 prev.2.2.2.1) (arg24.view.writes (Elt F) G_arg24 prev.2.2.2.2.1) (arg25.view.writes (Elt F) G_arg25 prev.2.2.2.2.2.1) (arg26.view.writes (Elt F) G_arg26 prev.2.2.2.2.2.2.1) (arg27.view.writes (Elt F) G_arg27 prev.2.2.2.2.2.2.2)).2.1 ++ prev.2.1, (tripL_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg1 v58 v1264 v1292 v1929 v1932 v1935 v1938 v1941 v1944 v1947 v1950 v1952 v1954 v1956 v1958 v1960 v1962 v1964 v1966 v2205 c2_i32_955 v2206 v2208 v2209 X_arg7 X_arg8 X_arg15 X_arg16 ⟨k, h⟩ (arg19.view.writes (Elt F) G_arg19 prev.1) (arg20.view.writes (Elt F) G_arg20 prev.2.1) (arg21.view.writes (Elt F) G_arg21 prev.2.2.1) (arg22.view.writes (Elt F) G_arg22 prev.2.2.2.1) (arg24.view.writes (Elt F) G_arg24 prev.2.2.2.2.1) (arg25.view.writes (Elt F) G_arg25 prev.2.2.2.2.2.1) (arg26.view.writes (Elt F) G_arg26 prev.2.2.2.2.2.2.1) (arg27.view.writes (Elt F) G_arg27 prev.2.2.2.2.2.2.2)).2.2.1 ++ prev.2.2.1, (tripL_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg1 v58 v1264 v1292 v1929 v1932 v1935 v1938 v1941 v1944 v1947 v1950 v1952 v1954 v1956 v1958 v1960 v1962 v1964 v1966 v2205 c2_i32_955 v2206 v2208 v2209 X_arg7 X_arg8 X_arg15 X_arg16 ⟨k, h⟩ (arg19.view.writes (Elt F) G_arg19 prev.1) (arg20.view.writes (Elt F) G_arg20 prev.2.1) (arg21.view.writes (Elt F) G_arg21 prev.2.2.1) (arg22.view.writes (Elt F) G_arg22 prev.2.2.2.1) (arg24.view.writes (Elt F) G_arg24 prev.2.2.2.2.1) (arg25.view.writes (Elt F) G_arg25 prev.2.2.2.2.2.1) (arg26.view.writes (Elt F) G_arg26 prev.2.2.2.2.2.2.1) (arg27.view.writes (Elt F) G_arg27 prev.2.2.2.2.2.2.2)).2.2.2.1 ++ prev.2.2.2.1, (tripL_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg1 v58 v1264 v1292 v1929 v1932 v1935 v1938 v1941 v1944 v1947 v1950 v1952 v1954 v1956 v1958 v1960 v1962 v1964 v1966 v2205 c2_i32_955 v2206 v2208 v2209 X_arg7 X_arg8 X_arg15 X_arg16 ⟨k, h⟩ (arg19.view.writes (Elt F) G_arg19 prev.1) (arg20.view.writes (Elt F) G_arg20 prev.2.1) (arg21.view.writes (Elt F) G_arg21 prev.2.2.1) (arg22.view.writes (Elt F) G_arg22 prev.2.2.2.1) (arg24.view.writes (Elt F) G_arg24 prev.2.2.2.2.1) (arg25.view.writes (Elt F) G_arg25 prev.2.2.2.2.2.1) (arg26.view.writes (Elt F) G_arg26 prev.2.2.2.2.2.2.1) (arg27.view.writes (Elt F) G_arg27 prev.2.2.2.2.2.2.2)).2.2.2.2.1 ++ prev.2.2.2.2.1, (tripL_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg1 v58 v1264 v1292 v1929 v1932 v1935 v1938 v1941 v1944 v1947 v1950 v1952 v1954 v1956 v1958 v1960 v1962 v1964 v1966 v2205 c2_i32_955 v2206 v2208 v2209 X_arg7 X_arg8 X_arg15 X_arg16 ⟨k, h⟩ (arg19.view.writes (Elt F) G_arg19 prev.1) (arg20.view.writes (Elt F) G_arg20 prev.2.1) (arg21.view.writes (Elt F) G_arg21 prev.2.2.1) (arg22.view.writes (Elt F) G_arg22 prev.2.2.2.1) (arg24.view.writes (Elt F) G_arg24 prev.2.2.2.2.1) (arg25.view.writes (Elt F) G_arg25 prev.2.2.2.2.2.1) (arg26.view.writes (Elt F) G_arg26 prev.2.2.2.2.2.2.1) (arg27.view.writes (Elt F) G_arg27 prev.2.2.2.2.2.2.2)).2.2.2.2.2.1 ++ prev.2.2.2.2.2.1, (tripL_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg1 v58 v1264 v1292 v1929 v1932 v1935 v1938 v1941 v1944 v1947 v1950 v1952 v1954 v1956 v1958 v1960 v1962 v1964 v1966 v2205 c2_i32_955 v2206 v2208 v2209 X_arg7 X_arg8 X_arg15 X_arg16 ⟨k, h⟩ (arg19.view.writes (Elt F) G_arg19 prev.1) (arg20.view.writes (Elt F) G_arg20 prev.2.1) (arg21.view.writes (Elt F) G_arg21 prev.2.2.1) (arg22.view.writes (Elt F) G_arg22 prev.2.2.2.1) (arg24.view.writes (Elt F) G_arg24 prev.2.2.2.2.1) (arg25.view.writes (Elt F) G_arg25 prev.2.2.2.2.2.1) (arg26.view.writes (Elt F) G_arg26 prev.2.2.2.2.2.2.1) (arg27.view.writes (Elt F) G_arg27 prev.2.2.2.2.2.2.2)).2.2.2.2.2.2.1 ++ prev.2.2.2.2.2.2.1, (tripL_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg1 v58 v1264 v1292 v1929 v1932 v1935 v1938 v1941 v1944 v1947 v1950 v1952 v1954 v1956 v1958 v1960 v1962 v1964 v1966 v2205 c2_i32_955 v2206 v2208 v2209 X_arg7 X_arg8 X_arg15 X_arg16 ⟨k, h⟩ (arg19.view.writes (Elt F) G_arg19 prev.1) (arg20.view.writes (Elt F) G_arg20 prev.2.1) (arg21.view.writes (Elt F) G_arg21 prev.2.2.1) (arg22.view.writes (Elt F) G_arg22 prev.2.2.2.1) (arg24.view.writes (Elt F) G_arg24 prev.2.2.2.2.1) (arg25.view.writes (Elt F) G_arg25 prev.2.2.2.2.2.1) (arg26.view.writes (Elt F) G_arg26 prev.2.2.2.2.2.2.1) (arg27.view.writes (Elt F) G_arg27 prev.2.2.2.2.2.2.2)).2.2.2.2.2.2.2 ++ prev.2.2.2.2.2.2.2)
  else prev

def pb_k0_t1 (𝒱 : Variants) (c : Dev nD) (bd : Option 𝒱.V) (i : grid0.Coords) (arg2 : Memref sig .tc .vmem S1x512x256 .bf16) (harg2 : arg2.IsWhole) (arg3 : Memref sig .tc .vmem S1x512x256 .bf16) (harg3 : arg3.IsWhole) (arg4 : Memref sig .tc .vmem S1x2x16x256 .f32) (harg4 : arg4.IsWhole) (arg5 : Memref sig .tc .vmem S1x256x128 .bf16) (harg5 : arg5.IsWhole) (arg6 : Memref sig .tc .vmem S1x2x80x256 .bf16) (harg6 : arg6.IsWhole) (arg7 : Memref sig .tc .vmem S1x16x256x256 .bf16) (harg7 : arg7.IsWhole) (arg8 : Memref sig .tc .vmem S1x2x16x80x256 .bf16) (harg8 : arg8.IsWhole) (arg9 : Memref sig .tc .vmem S1x16x256x128 .bf16) (harg9 : arg9.IsWhole) (arg10 : Memref sig .tc .vmem S1x2x16x80x256 .bf16) (harg10 : arg10.IsWhole) (arg11 : Memref sig .tc .vmem S64x256 .bf16) (harg11 : arg11.IsWhole) (arg12 : Memref sig .tc .vmem S1x512x256 .bf16) (harg12 : arg12.IsWhole) (arg13 : Memref sig .tc .vmem S1x512x256 .bf16) (harg13 : arg13.IsWhole) (arg14 : Memref sig .tc .vmem S1x8x16x64 .f32) (harg14 : arg14.IsWhole) (arg15 : Memref sig .tc .vmem S1x16x256x1024 .bf16) (harg15 : arg15.IsWhole) (arg16 : Memref sig .tc .vmem S1x8x16x80x256 .bf16) (harg16 : arg16.IsWhole) (arg17 : Memref sig .tc .vmem S1x512x256 .bf16) (harg17 : arg17.IsWhole) (arg18 : Memref sig .tc .vmem S1x512x256 .bf16) (harg18 : arg18.IsWhole) (arg19 : Memref sig .tc .vmem S2x256x2048 .f32) (harg19 : arg19.IsWhole) (arg20 : Memref sig .tc .vmem S2x1x2048 .f32) (harg20 : arg20.IsWhole) (arg21 : Memref sig .tc .vmem S1x2048 .f32) (harg21 : arg21.IsWhole) (arg22 : Memref sig .tc .vmem S80x2048 .f32) (harg22 : arg22.IsWhole) (arg23 : Memref sig .tc .vmem S64x512 .f32) (harg23 : arg23.IsWhole) (arg24 : Memref sig .tc .vmem S2x256x2048 .f32) (harg24 : arg24.IsWhole) (arg25 : Memref sig .tc .vmem S2x1x2048 .f32) (harg25 : arg25.IsWhole) (arg26 : Memref sig .tc .vmem S1x2048 .f32) (harg26 : arg26.IsWhole) (arg27 : Memref sig .tc .vmem S80x2048 .f32) (harg27 : arg27.IsWhole) (arg1 : BitVec 32) (v58 : IVec S256x2048 1) (v1264 : FVec F S256x2048 .bf16) (v1292 : BitVec 32) (v1929 : FVec F S256x256 .bf16) (v1932 : FVec F S256x256 .bf16) (v1935 : FVec F S256x256 .bf16) (v1938 : FVec F S256x256 .bf16) (v1941 : FVec F S256x256 .bf16) (v1944 : FVec F S256x256 .bf16) (v1947 : FVec F S256x256 .bf16) (v1950 : FVec F S256x256 .bf16) (v1952 : FVec F S256x256 .bf16) (v1954 : FVec F S256x256 .bf16) (v1956 : FVec F S256x256 .bf16) (v1958 : FVec F S256x256 .bf16) (v1960 : FVec F S256x256 .bf16) (v1962 : FVec F S256x256 .bf16) (v1964 : FVec F S256x256 .bf16) (v1966 : FVec F S256x256 .bf16) (v2205 : BitVec 32) (c2_i32_955 : BitVec 32) (v2206 : BitVec 32) (v2208 : BitVec 32) (v2209 : BitVec 1) (X_arg7 : BufTy.Contents (Elt F) arg7.view.ty) (X_arg8 : BufTy.Contents (Elt F) arg8.view.ty) (X_arg15 : BufTy.Contents (Elt F) arg15.view.ty) (X_arg16 : BufTy.Contents (Elt F) arg16.view.ty) (G_arg19 : BufTy.Contents (Elt F) arg19.view.ty) (G_arg20 : BufTy.Contents (Elt F) arg20.view.ty) (G_arg21 : BufTy.Contents (Elt F) arg21.view.ty) (G_arg22 : BufTy.Contents (Elt F) arg22.view.ty) (G_arg24 : BufTy.Contents (Elt F) arg24.view.ty) (G_arg25 : BufTy.Contents (Elt F) arg25.view.ty) (G_arg26 : BufTy.Contents (Elt F) arg26.view.ty) (G_arg27 : BufTy.Contents (Elt F) arg27.view.ty) : ℕ → List (View.Piece (Elt F) S2x256x2048 .f32) × List (View.Piece (Elt F) S2x1x2048 .f32) × List (View.Piece (Elt F) S1x2048 .f32) × List (View.Piece (Elt F) S80x2048 .f32) × List (View.Piece (Elt F) S2x256x2048 .f32) × List (View.Piece (Elt F) S2x1x2048 .f32) × List (View.Piece (Elt F) S1x2048 .f32) × List (View.Piece (Elt F) S80x2048 .f32)
  | 0 => ([], [], [], [], [], [], [], [])
  | k + 1 => pb_k0_t1Step 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg1 v58 v1264 v1292 v1929 v1932 v1935 v1938 v1941 v1944 v1947 v1950 v1952 v1954 v1956 v1958 v1960 v1962 v1964 v1966 v2205 c2_i32_955 v2206 v2208 v2209 X_arg7 X_arg8 X_arg15 X_arg16 G_arg19 G_arg20 G_arg21 G_arg22 G_arg24 G_arg25 G_arg26 G_arg27 k (pb_k0_t1 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg1 v58 v1264 v1292 v1929 v1932 v1935 v1938 v1941 v1944 v1947 v1950 v1952 v1954 v1956 v1958 v1960 v1962 v1964 v1966 v2205 c2_i32_955 v2206 v2208 v2209 X_arg7 X_arg8 X_arg15 X_arg16 G_arg19 G_arg20 G_arg21 G_arg22 G_arg24 G_arg25 G_arg26 G_arg27 k)

theorem pb_k0_t1_succ (𝒱 : Variants) (c : Dev nD) (bd : Option 𝒱.V) (i : grid0.Coords) (arg2 : Memref sig .tc .vmem S1x512x256 .bf16) (harg2 : arg2.IsWhole) (arg3 : Memref sig .tc .vmem S1x512x256 .bf16) (harg3 : arg3.IsWhole) (arg4 : Memref sig .tc .vmem S1x2x16x256 .f32) (harg4 : arg4.IsWhole) (arg5 : Memref sig .tc .vmem S1x256x128 .bf16) (harg5 : arg5.IsWhole) (arg6 : Memref sig .tc .vmem S1x2x80x256 .bf16) (harg6 : arg6.IsWhole) (arg7 : Memref sig .tc .vmem S1x16x256x256 .bf16) (harg7 : arg7.IsWhole) (arg8 : Memref sig .tc .vmem S1x2x16x80x256 .bf16) (harg8 : arg8.IsWhole) (arg9 : Memref sig .tc .vmem S1x16x256x128 .bf16) (harg9 : arg9.IsWhole) (arg10 : Memref sig .tc .vmem S1x2x16x80x256 .bf16) (harg10 : arg10.IsWhole) (arg11 : Memref sig .tc .vmem S64x256 .bf16) (harg11 : arg11.IsWhole) (arg12 : Memref sig .tc .vmem S1x512x256 .bf16) (harg12 : arg12.IsWhole) (arg13 : Memref sig .tc .vmem S1x512x256 .bf16) (harg13 : arg13.IsWhole) (arg14 : Memref sig .tc .vmem S1x8x16x64 .f32) (harg14 : arg14.IsWhole) (arg15 : Memref sig .tc .vmem S1x16x256x1024 .bf16) (harg15 : arg15.IsWhole) (arg16 : Memref sig .tc .vmem S1x8x16x80x256 .bf16) (harg16 : arg16.IsWhole) (arg17 : Memref sig .tc .vmem S1x512x256 .bf16) (harg17 : arg17.IsWhole) (arg18 : Memref sig .tc .vmem S1x512x256 .bf16) (harg18 : arg18.IsWhole) (arg19 : Memref sig .tc .vmem S2x256x2048 .f32) (harg19 : arg19.IsWhole) (arg20 : Memref sig .tc .vmem S2x1x2048 .f32) (harg20 : arg20.IsWhole) (arg21 : Memref sig .tc .vmem S1x2048 .f32) (harg21 : arg21.IsWhole) (arg22 : Memref sig .tc .vmem S80x2048 .f32) (harg22 : arg22.IsWhole) (arg23 : Memref sig .tc .vmem S64x512 .f32) (harg23 : arg23.IsWhole) (arg24 : Memref sig .tc .vmem S2x256x2048 .f32) (harg24 : arg24.IsWhole) (arg25 : Memref sig .tc .vmem S2x1x2048 .f32) (harg25 : arg25.IsWhole) (arg26 : Memref sig .tc .vmem S1x2048 .f32) (harg26 : arg26.IsWhole) (arg27 : Memref sig .tc .vmem S80x2048 .f32) (harg27 : arg27.IsWhole) (arg1 : BitVec 32) (v58 : IVec S256x2048 1) (v1264 : FVec F S256x2048 .bf16) (v1292 : BitVec 32) (v1929 : FVec F S256x256 .bf16) (v1932 : FVec F S256x256 .bf16) (v1935 : FVec F S256x256 .bf16) (v1938 : FVec F S256x256 .bf16) (v1941 : FVec F S256x256 .bf16) (v1944 : FVec F S256x256 .bf16) (v1947 : FVec F S256x256 .bf16) (v1950 : FVec F S256x256 .bf16) (v1952 : FVec F S256x256 .bf16) (v1954 : FVec F S256x256 .bf16) (v1956 : FVec F S256x256 .bf16) (v1958 : FVec F S256x256 .bf16) (v1960 : FVec F S256x256 .bf16) (v1962 : FVec F S256x256 .bf16) (v1964 : FVec F S256x256 .bf16) (v1966 : FVec F S256x256 .bf16) (v2205 : BitVec 32) (c2_i32_955 : BitVec 32) (v2206 : BitVec 32) (v2208 : BitVec 32) (v2209 : BitVec 1) (X_arg7 : BufTy.Contents (Elt F) arg7.view.ty) (X_arg8 : BufTy.Contents (Elt F) arg8.view.ty) (X_arg15 : BufTy.Contents (Elt F) arg15.view.ty) (X_arg16 : BufTy.Contents (Elt F) arg16.view.ty) (G_arg19 : BufTy.Contents (Elt F) arg19.view.ty) (G_arg20 : BufTy.Contents (Elt F) arg20.view.ty) (G_arg21 : BufTy.Contents (Elt F) arg21.view.ty) (G_arg22 : BufTy.Contents (Elt F) arg22.view.ty) (G_arg24 : BufTy.Contents (Elt F) arg24.view.ty) (G_arg25 : BufTy.Contents (Elt F) arg25.view.ty) (G_arg26 : BufTy.Contents (Elt F) arg26.view.ty) (G_arg27 : BufTy.Contents (Elt F) arg27.view.ty) (k : Fin (k0_t1_loop i).trips) :
    pb_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg1 v58 v1264 v1292 v1929 v1932 v1935 v1938 v1941 v1944 v1947 v1950 v1952 v1954 v1956 v1958 v1960 v1962 v1964 v1966 v2205 c2_i32_955 v2206 v2208 v2209 X_arg7 X_arg8 X_arg15 X_arg16 G_arg19 G_arg20 G_arg21 G_arg22 G_arg24 G_arg25 G_arg26 G_arg27 (k.val + 1)
      = ((tripL_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg1 v58 v1264 v1292 v1929 v1932 v1935 v1938 v1941 v1944 v1947 v1950 v1952 v1954 v1956 v1958 v1960 v1962 v1964 v1966 v2205 c2_i32_955 v2206 v2208 v2209 X_arg7 X_arg8 X_arg15 X_arg16 k (arg19.view.writes (Elt F) G_arg19 (pb_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg1 v58 v1264 v1292 v1929 v1932 v1935 v1938 v1941 v1944 v1947 v1950 v1952 v1954 v1956 v1958 v1960 v1962 v1964 v1966 v2205 c2_i32_955 v2206 v2208 v2209 X_arg7 X_arg8 X_arg15 X_arg16 G_arg19 G_arg20 G_arg21 G_arg22 G_arg24 G_arg25 G_arg26 G_arg27 k.val).1) (arg20.view.writes (Elt F) G_arg20 (pb_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg1 v58 v1264 v1292 v1929 v1932 v1935 v1938 v1941 v1944 v1947 v1950 v1952 v1954 v1956 v1958 v1960 v1962 v1964 v1966 v2205 c2_i32_955 v2206 v2208 v2209 X_arg7 X_arg8 X_arg15 X_arg16 G_arg19 G_arg20 G_arg21 G_arg22 G_arg24 G_arg25 G_arg26 G_arg27 k.val).2.1) (arg21.view.writes (Elt F) G_arg21 (pb_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg1 v58 v1264 v1292 v1929 v1932 v1935 v1938 v1941 v1944 v1947 v1950 v1952 v1954 v1956 v1958 v1960 v1962 v1964 v1966 v2205 c2_i32_955 v2206 v2208 v2209 X_arg7 X_arg8 X_arg15 X_arg16 G_arg19 G_arg20 G_arg21 G_arg22 G_arg24 G_arg25 G_arg26 G_arg27 k.val).2.2.1) (arg22.view.writes (Elt F) G_arg22 (pb_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg1 v58 v1264 v1292 v1929 v1932 v1935 v1938 v1941 v1944 v1947 v1950 v1952 v1954 v1956 v1958 v1960 v1962 v1964 v1966 v2205 c2_i32_955 v2206 v2208 v2209 X_arg7 X_arg8 X_arg15 X_arg16 G_arg19 G_arg20 G_arg21 G_arg22 G_arg24 G_arg25 G_arg26 G_arg27 k.val).2.2.2.1) (arg24.view.writes (Elt F) G_arg24 (pb_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg1 v58 v1264 v1292 v1929 v1932 v1935 v1938 v1941 v1944 v1947 v1950 v1952 v1954 v1956 v1958 v1960 v1962 v1964 v1966 v2205 c2_i32_955 v2206 v2208 v2209 X_arg7 X_arg8 X_arg15 X_arg16 G_arg19 G_arg20 G_arg21 G_arg22 G_arg24 G_arg25 G_arg26 G_arg27 k.val).2.2.2.2.1) (arg25.view.writes (Elt F) G_arg25 (pb_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg1 v58 v1264 v1292 v1929 v1932 v1935 v1938 v1941 v1944 v1947 v1950 v1952 v1954 v1956 v1958 v1960 v1962 v1964 v1966 v2205 c2_i32_955 v2206 v2208 v2209 X_arg7 X_arg8 X_arg15 X_arg16 G_arg19 G_arg20 G_arg21 G_arg22 G_arg24 G_arg25 G_arg26 G_arg27 k.val).2.2.2.2.2.1) (arg26.view.writes (Elt F) G_arg26 (pb_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg1 v58 v1264 v1292 v1929 v1932 v1935 v1938 v1941 v1944 v1947 v1950 v1952 v1954 v1956 v1958 v1960 v1962 v1964 v1966 v2205 c2_i32_955 v2206 v2208 v2209 X_arg7 X_arg8 X_arg15 X_arg16 G_arg19 G_arg20 G_arg21 G_arg22 G_arg24 G_arg25 G_arg26 G_arg27 k.val).2.2.2.2.2.2.1) (arg27.view.writes (Elt F) G_arg27 (pb_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg1 v58 v1264 v1292 v1929 v1932 v1935 v1938 v1941 v1944 v1947 v1950 v1952 v1954 v1956 v1958 v1960 v1962 v1964 v1966 v2205 c2_i32_955 v2206 v2208 v2209 X_arg7 X_arg8 X_arg15 X_arg16 G_arg19 G_arg20 G_arg21 G_arg22 G_arg24 G_arg25 G_arg26 G_arg27 k.val).2.2.2.2.2.2.2)).1 ++ (pb_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg1 v58 v1264 v1292 v1929 v1932 v1935 v1938 v1941 v1944 v1947 v1950 v1952 v1954 v1956 v1958 v1960 v1962 v1964 v1966 v2205 c2_i32_955 v2206 v2208 v2209 X_arg7 X_arg8 X_arg15 X_arg16 G_arg19 G_arg20 G_arg21 G_arg22 G_arg24 G_arg25 G_arg26 G_arg27 k.val).1, (tripL_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg1 v58 v1264 v1292 v1929 v1932 v1935 v1938 v1941 v1944 v1947 v1950 v1952 v1954 v1956 v1958 v1960 v1962 v1964 v1966 v2205 c2_i32_955 v2206 v2208 v2209 X_arg7 X_arg8 X_arg15 X_arg16 k (arg19.view.writes (Elt F) G_arg19 (pb_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg1 v58 v1264 v1292 v1929 v1932 v1935 v1938 v1941 v1944 v1947 v1950 v1952 v1954 v1956 v1958 v1960 v1962 v1964 v1966 v2205 c2_i32_955 v2206 v2208 v2209 X_arg7 X_arg8 X_arg15 X_arg16 G_arg19 G_arg20 G_arg21 G_arg22 G_arg24 G_arg25 G_arg26 G_arg27 k.val).1) (arg20.view.writes (Elt F) G_arg20 (pb_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg1 v58 v1264 v1292 v1929 v1932 v1935 v1938 v1941 v1944 v1947 v1950 v1952 v1954 v1956 v1958 v1960 v1962 v1964 v1966 v2205 c2_i32_955 v2206 v2208 v2209 X_arg7 X_arg8 X_arg15 X_arg16 G_arg19 G_arg20 G_arg21 G_arg22 G_arg24 G_arg25 G_arg26 G_arg27 k.val).2.1) (arg21.view.writes (Elt F) G_arg21 (pb_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg1 v58 v1264 v1292 v1929 v1932 v1935 v1938 v1941 v1944 v1947 v1950 v1952 v1954 v1956 v1958 v1960 v1962 v1964 v1966 v2205 c2_i32_955 v2206 v2208 v2209 X_arg7 X_arg8 X_arg15 X_arg16 G_arg19 G_arg20 G_arg21 G_arg22 G_arg24 G_arg25 G_arg26 G_arg27 k.val).2.2.1) (arg22.view.writes (Elt F) G_arg22 (pb_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg1 v58 v1264 v1292 v1929 v1932 v1935 v1938 v1941 v1944 v1947 v1950 v1952 v1954 v1956 v1958 v1960 v1962 v1964 v1966 v2205 c2_i32_955 v2206 v2208 v2209 X_arg7 X_arg8 X_arg15 X_arg16 G_arg19 G_arg20 G_arg21 G_arg22 G_arg24 G_arg25 G_arg26 G_arg27 k.val).2.2.2.1) (arg24.view.writes (Elt F) G_arg24 (pb_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg1 v58 v1264 v1292 v1929 v1932 v1935 v1938 v1941 v1944 v1947 v1950 v1952 v1954 v1956 v1958 v1960 v1962 v1964 v1966 v2205 c2_i32_955 v2206 v2208 v2209 X_arg7 X_arg8 X_arg15 X_arg16 G_arg19 G_arg20 G_arg21 G_arg22 G_arg24 G_arg25 G_arg26 G_arg27 k.val).2.2.2.2.1) (arg25.view.writes (Elt F) G_arg25 (pb_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg1 v58 v1264 v1292 v1929 v1932 v1935 v1938 v1941 v1944 v1947 v1950 v1952 v1954 v1956 v1958 v1960 v1962 v1964 v1966 v2205 c2_i32_955 v2206 v2208 v2209 X_arg7 X_arg8 X_arg15 X_arg16 G_arg19 G_arg20 G_arg21 G_arg22 G_arg24 G_arg25 G_arg26 G_arg27 k.val).2.2.2.2.2.1) (arg26.view.writes (Elt F) G_arg26 (pb_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg1 v58 v1264 v1292 v1929 v1932 v1935 v1938 v1941 v1944 v1947 v1950 v1952 v1954 v1956 v1958 v1960 v1962 v1964 v1966 v2205 c2_i32_955 v2206 v2208 v2209 X_arg7 X_arg8 X_arg15 X_arg16 G_arg19 G_arg20 G_arg21 G_arg22 G_arg24 G_arg25 G_arg26 G_arg27 k.val).2.2.2.2.2.2.1) (arg27.view.writes (Elt F) G_arg27 (pb_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg1 v58 v1264 v1292 v1929 v1932 v1935 v1938 v1941 v1944 v1947 v1950 v1952 v1954 v1956 v1958 v1960 v1962 v1964 v1966 v2205 c2_i32_955 v2206 v2208 v2209 X_arg7 X_arg8 X_arg15 X_arg16 G_arg19 G_arg20 G_arg21 G_arg22 G_arg24 G_arg25 G_arg26 G_arg27 k.val).2.2.2.2.2.2.2)).2.1 ++ (pb_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg1 v58 v1264 v1292 v1929 v1932 v1935 v1938 v1941 v1944 v1947 v1950 v1952 v1954 v1956 v1958 v1960 v1962 v1964 v1966 v2205 c2_i32_955 v2206 v2208 v2209 X_arg7 X_arg8 X_arg15 X_arg16 G_arg19 G_arg20 G_arg21 G_arg22 G_arg24 G_arg25 G_arg26 G_arg27 k.val).2.1, (tripL_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg1 v58 v1264 v1292 v1929 v1932 v1935 v1938 v1941 v1944 v1947 v1950 v1952 v1954 v1956 v1958 v1960 v1962 v1964 v1966 v2205 c2_i32_955 v2206 v2208 v2209 X_arg7 X_arg8 X_arg15 X_arg16 k (arg19.view.writes (Elt F) G_arg19 (pb_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg1 v58 v1264 v1292 v1929 v1932 v1935 v1938 v1941 v1944 v1947 v1950 v1952 v1954 v1956 v1958 v1960 v1962 v1964 v1966 v2205 c2_i32_955 v2206 v2208 v2209 X_arg7 X_arg8 X_arg15 X_arg16 G_arg19 G_arg20 G_arg21 G_arg22 G_arg24 G_arg25 G_arg26 G_arg27 k.val).1) (arg20.view.writes (Elt F) G_arg20 (pb_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg1 v58 v1264 v1292 v1929 v1932 v1935 v1938 v1941 v1944 v1947 v1950 v1952 v1954 v1956 v1958 v1960 v1962 v1964 v1966 v2205 c2_i32_955 v2206 v2208 v2209 X_arg7 X_arg8 X_arg15 X_arg16 G_arg19 G_arg20 G_arg21 G_arg22 G_arg24 G_arg25 G_arg26 G_arg27 k.val).2.1) (arg21.view.writes (Elt F) G_arg21 (pb_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg1 v58 v1264 v1292 v1929 v1932 v1935 v1938 v1941 v1944 v1947 v1950 v1952 v1954 v1956 v1958 v1960 v1962 v1964 v1966 v2205 c2_i32_955 v2206 v2208 v2209 X_arg7 X_arg8 X_arg15 X_arg16 G_arg19 G_arg20 G_arg21 G_arg22 G_arg24 G_arg25 G_arg26 G_arg27 k.val).2.2.1) (arg22.view.writes (Elt F) G_arg22 (pb_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg1 v58 v1264 v1292 v1929 v1932 v1935 v1938 v1941 v1944 v1947 v1950 v1952 v1954 v1956 v1958 v1960 v1962 v1964 v1966 v2205 c2_i32_955 v2206 v2208 v2209 X_arg7 X_arg8 X_arg15 X_arg16 G_arg19 G_arg20 G_arg21 G_arg22 G_arg24 G_arg25 G_arg26 G_arg27 k.val).2.2.2.1) (arg24.view.writes (Elt F) G_arg24 (pb_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg1 v58 v1264 v1292 v1929 v1932 v1935 v1938 v1941 v1944 v1947 v1950 v1952 v1954 v1956 v1958 v1960 v1962 v1964 v1966 v2205 c2_i32_955 v2206 v2208 v2209 X_arg7 X_arg8 X_arg15 X_arg16 G_arg19 G_arg20 G_arg21 G_arg22 G_arg24 G_arg25 G_arg26 G_arg27 k.val).2.2.2.2.1) (arg25.view.writes (Elt F) G_arg25 (pb_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg1 v58 v1264 v1292 v1929 v1932 v1935 v1938 v1941 v1944 v1947 v1950 v1952 v1954 v1956 v1958 v1960 v1962 v1964 v1966 v2205 c2_i32_955 v2206 v2208 v2209 X_arg7 X_arg8 X_arg15 X_arg16 G_arg19 G_arg20 G_arg21 G_arg22 G_arg24 G_arg25 G_arg26 G_arg27 k.val).2.2.2.2.2.1) (arg26.view.writes (Elt F) G_arg26 (pb_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg1 v58 v1264 v1292 v1929 v1932 v1935 v1938 v1941 v1944 v1947 v1950 v1952 v1954 v1956 v1958 v1960 v1962 v1964 v1966 v2205 c2_i32_955 v2206 v2208 v2209 X_arg7 X_arg8 X_arg15 X_arg16 G_arg19 G_arg20 G_arg21 G_arg22 G_arg24 G_arg25 G_arg26 G_arg27 k.val).2.2.2.2.2.2.1) (arg27.view.writes (Elt F) G_arg27 (pb_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg1 v58 v1264 v1292 v1929 v1932 v1935 v1938 v1941 v1944 v1947 v1950 v1952 v1954 v1956 v1958 v1960 v1962 v1964 v1966 v2205 c2_i32_955 v2206 v2208 v2209 X_arg7 X_arg8 X_arg15 X_arg16 G_arg19 G_arg20 G_arg21 G_arg22 G_arg24 G_arg25 G_arg26 G_arg27 k.val).2.2.2.2.2.2.2)).2.2.1 ++ (pb_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg1 v58 v1264 v1292 v1929 v1932 v1935 v1938 v1941 v1944 v1947 v1950 v1952 v1954 v1956 v1958 v1960 v1962 v1964 v1966 v2205 c2_i32_955 v2206 v2208 v2209 X_arg7 X_arg8 X_arg15 X_arg16 G_arg19 G_arg20 G_arg21 G_arg22 G_arg24 G_arg25 G_arg26 G_arg27 k.val).2.2.1, (tripL_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg1 v58 v1264 v1292 v1929 v1932 v1935 v1938 v1941 v1944 v1947 v1950 v1952 v1954 v1956 v1958 v1960 v1962 v1964 v1966 v2205 c2_i32_955 v2206 v2208 v2209 X_arg7 X_arg8 X_arg15 X_arg16 k (arg19.view.writes (Elt F) G_arg19 (pb_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg1 v58 v1264 v1292 v1929 v1932 v1935 v1938 v1941 v1944 v1947 v1950 v1952 v1954 v1956 v1958 v1960 v1962 v1964 v1966 v2205 c2_i32_955 v2206 v2208 v2209 X_arg7 X_arg8 X_arg15 X_arg16 G_arg19 G_arg20 G_arg21 G_arg22 G_arg24 G_arg25 G_arg26 G_arg27 k.val).1) (arg20.view.writes (Elt F) G_arg20 (pb_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg1 v58 v1264 v1292 v1929 v1932 v1935 v1938 v1941 v1944 v1947 v1950 v1952 v1954 v1956 v1958 v1960 v1962 v1964 v1966 v2205 c2_i32_955 v2206 v2208 v2209 X_arg7 X_arg8 X_arg15 X_arg16 G_arg19 G_arg20 G_arg21 G_arg22 G_arg24 G_arg25 G_arg26 G_arg27 k.val).2.1) (arg21.view.writes (Elt F) G_arg21 (pb_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg1 v58 v1264 v1292 v1929 v1932 v1935 v1938 v1941 v1944 v1947 v1950 v1952 v1954 v1956 v1958 v1960 v1962 v1964 v1966 v2205 c2_i32_955 v2206 v2208 v2209 X_arg7 X_arg8 X_arg15 X_arg16 G_arg19 G_arg20 G_arg21 G_arg22 G_arg24 G_arg25 G_arg26 G_arg27 k.val).2.2.1) (arg22.view.writes (Elt F) G_arg22 (pb_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg1 v58 v1264 v1292 v1929 v1932 v1935 v1938 v1941 v1944 v1947 v1950 v1952 v1954 v1956 v1958 v1960 v1962 v1964 v1966 v2205 c2_i32_955 v2206 v2208 v2209 X_arg7 X_arg8 X_arg15 X_arg16 G_arg19 G_arg20 G_arg21 G_arg22 G_arg24 G_arg25 G_arg26 G_arg27 k.val).2.2.2.1) (arg24.view.writes (Elt F) G_arg24 (pb_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg1 v58 v1264 v1292 v1929 v1932 v1935 v1938 v1941 v1944 v1947 v1950 v1952 v1954 v1956 v1958 v1960 v1962 v1964 v1966 v2205 c2_i32_955 v2206 v2208 v2209 X_arg7 X_arg8 X_arg15 X_arg16 G_arg19 G_arg20 G_arg21 G_arg22 G_arg24 G_arg25 G_arg26 G_arg27 k.val).2.2.2.2.1) (arg25.view.writes (Elt F) G_arg25 (pb_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg1 v58 v1264 v1292 v1929 v1932 v1935 v1938 v1941 v1944 v1947 v1950 v1952 v1954 v1956 v1958 v1960 v1962 v1964 v1966 v2205 c2_i32_955 v2206 v2208 v2209 X_arg7 X_arg8 X_arg15 X_arg16 G_arg19 G_arg20 G_arg21 G_arg22 G_arg24 G_arg25 G_arg26 G_arg27 k.val).2.2.2.2.2.1) (arg26.view.writes (Elt F) G_arg26 (pb_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg1 v58 v1264 v1292 v1929 v1932 v1935 v1938 v1941 v1944 v1947 v1950 v1952 v1954 v1956 v1958 v1960 v1962 v1964 v1966 v2205 c2_i32_955 v2206 v2208 v2209 X_arg7 X_arg8 X_arg15 X_arg16 G_arg19 G_arg20 G_arg21 G_arg22 G_arg24 G_arg25 G_arg26 G_arg27 k.val).2.2.2.2.2.2.1) (arg27.view.writes (Elt F) G_arg27 (pb_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg1 v58 v1264 v1292 v1929 v1932 v1935 v1938 v1941 v1944 v1947 v1950 v1952 v1954 v1956 v1958 v1960 v1962 v1964 v1966 v2205 c2_i32_955 v2206 v2208 v2209 X_arg7 X_arg8 X_arg15 X_arg16 G_arg19 G_arg20 G_arg21 G_arg22 G_arg24 G_arg25 G_arg26 G_arg27 k.val).2.2.2.2.2.2.2)).2.2.2.1 ++ (pb_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg1 v58 v1264 v1292 v1929 v1932 v1935 v1938 v1941 v1944 v1947 v1950 v1952 v1954 v1956 v1958 v1960 v1962 v1964 v1966 v2205 c2_i32_955 v2206 v2208 v2209 X_arg7 X_arg8 X_arg15 X_arg16 G_arg19 G_arg20 G_arg21 G_arg22 G_arg24 G_arg25 G_arg26 G_arg27 k.val).2.2.2.1, (tripL_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg1 v58 v1264 v1292 v1929 v1932 v1935 v1938 v1941 v1944 v1947 v1950 v1952 v1954 v1956 v1958 v1960 v1962 v1964 v1966 v2205 c2_i32_955 v2206 v2208 v2209 X_arg7 X_arg8 X_arg15 X_arg16 k (arg19.view.writes (Elt F) G_arg19 (pb_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg1 v58 v1264 v1292 v1929 v1932 v1935 v1938 v1941 v1944 v1947 v1950 v1952 v1954 v1956 v1958 v1960 v1962 v1964 v1966 v2205 c2_i32_955 v2206 v2208 v2209 X_arg7 X_arg8 X_arg15 X_arg16 G_arg19 G_arg20 G_arg21 G_arg22 G_arg24 G_arg25 G_arg26 G_arg27 k.val).1) (arg20.view.writes (Elt F) G_arg20 (pb_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg1 v58 v1264 v1292 v1929 v1932 v1935 v1938 v1941 v1944 v1947 v1950 v1952 v1954 v1956 v1958 v1960 v1962 v1964 v1966 v2205 c2_i32_955 v2206 v2208 v2209 X_arg7 X_arg8 X_arg15 X_arg16 G_arg19 G_arg20 G_arg21 G_arg22 G_arg24 G_arg25 G_arg26 G_arg27 k.val).2.1) (arg21.view.writes (Elt F) G_arg21 (pb_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg1 v58 v1264 v1292 v1929 v1932 v1935 v1938 v1941 v1944 v1947 v1950 v1952 v1954 v1956 v1958 v1960 v1962 v1964 v1966 v2205 c2_i32_955 v2206 v2208 v2209 X_arg7 X_arg8 X_arg15 X_arg16 G_arg19 G_arg20 G_arg21 G_arg22 G_arg24 G_arg25 G_arg26 G_arg27 k.val).2.2.1) (arg22.view.writes (Elt F) G_arg22 (pb_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg1 v58 v1264 v1292 v1929 v1932 v1935 v1938 v1941 v1944 v1947 v1950 v1952 v1954 v1956 v1958 v1960 v1962 v1964 v1966 v2205 c2_i32_955 v2206 v2208 v2209 X_arg7 X_arg8 X_arg15 X_arg16 G_arg19 G_arg20 G_arg21 G_arg22 G_arg24 G_arg25 G_arg26 G_arg27 k.val).2.2.2.1) (arg24.view.writes (Elt F) G_arg24 (pb_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg1 v58 v1264 v1292 v1929 v1932 v1935 v1938 v1941 v1944 v1947 v1950 v1952 v1954 v1956 v1958 v1960 v1962 v1964 v1966 v2205 c2_i32_955 v2206 v2208 v2209 X_arg7 X_arg8 X_arg15 X_arg16 G_arg19 G_arg20 G_arg21 G_arg22 G_arg24 G_arg25 G_arg26 G_arg27 k.val).2.2.2.2.1) (arg25.view.writes (Elt F) G_arg25 (pb_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg1 v58 v1264 v1292 v1929 v1932 v1935 v1938 v1941 v1944 v1947 v1950 v1952 v1954 v1956 v1958 v1960 v1962 v1964 v1966 v2205 c2_i32_955 v2206 v2208 v2209 X_arg7 X_arg8 X_arg15 X_arg16 G_arg19 G_arg20 G_arg21 G_arg22 G_arg24 G_arg25 G_arg26 G_arg27 k.val).2.2.2.2.2.1) (arg26.view.writes (Elt F) G_arg26 (pb_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg1 v58 v1264 v1292 v1929 v1932 v1935 v1938 v1941 v1944 v1947 v1950 v1952 v1954 v1956 v1958 v1960 v1962 v1964 v1966 v2205 c2_i32_955 v2206 v2208 v2209 X_arg7 X_arg8 X_arg15 X_arg16 G_arg19 G_arg20 G_arg21 G_arg22 G_arg24 G_arg25 G_arg26 G_arg27 k.val).2.2.2.2.2.2.1) (arg27.view.writes (Elt F) G_arg27 (pb_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg1 v58 v1264 v1292 v1929 v1932 v1935 v1938 v1941 v1944 v1947 v1950 v1952 v1954 v1956 v1958 v1960 v1962 v1964 v1966 v2205 c2_i32_955 v2206 v2208 v2209 X_arg7 X_arg8 X_arg15 X_arg16 G_arg19 G_arg20 G_arg21 G_arg22 G_arg24 G_arg25 G_arg26 G_arg27 k.val).2.2.2.2.2.2.2)).2.2.2.2.1 ++ (pb_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg1 v58 v1264 v1292 v1929 v1932 v1935 v1938 v1941 v1944 v1947 v1950 v1952 v1954 v1956 v1958 v1960 v1962 v1964 v1966 v2205 c2_i32_955 v2206 v2208 v2209 X_arg7 X_arg8 X_arg15 X_arg16 G_arg19 G_arg20 G_arg21 G_arg22 G_arg24 G_arg25 G_arg26 G_arg27 k.val).2.2.2.2.1, (tripL_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg1 v58 v1264 v1292 v1929 v1932 v1935 v1938 v1941 v1944 v1947 v1950 v1952 v1954 v1956 v1958 v1960 v1962 v1964 v1966 v2205 c2_i32_955 v2206 v2208 v2209 X_arg7 X_arg8 X_arg15 X_arg16 k (arg19.view.writes (Elt F) G_arg19 (pb_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg1 v58 v1264 v1292 v1929 v1932 v1935 v1938 v1941 v1944 v1947 v1950 v1952 v1954 v1956 v1958 v1960 v1962 v1964 v1966 v2205 c2_i32_955 v2206 v2208 v2209 X_arg7 X_arg8 X_arg15 X_arg16 G_arg19 G_arg20 G_arg21 G_arg22 G_arg24 G_arg25 G_arg26 G_arg27 k.val).1) (arg20.view.writes (Elt F) G_arg20 (pb_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg1 v58 v1264 v1292 v1929 v1932 v1935 v1938 v1941 v1944 v1947 v1950 v1952 v1954 v1956 v1958 v1960 v1962 v1964 v1966 v2205 c2_i32_955 v2206 v2208 v2209 X_arg7 X_arg8 X_arg15 X_arg16 G_arg19 G_arg20 G_arg21 G_arg22 G_arg24 G_arg25 G_arg26 G_arg27 k.val).2.1) (arg21.view.writes (Elt F) G_arg21 (pb_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg1 v58 v1264 v1292 v1929 v1932 v1935 v1938 v1941 v1944 v1947 v1950 v1952 v1954 v1956 v1958 v1960 v1962 v1964 v1966 v2205 c2_i32_955 v2206 v2208 v2209 X_arg7 X_arg8 X_arg15 X_arg16 G_arg19 G_arg20 G_arg21 G_arg22 G_arg24 G_arg25 G_arg26 G_arg27 k.val).2.2.1) (arg22.view.writes (Elt F) G_arg22 (pb_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg1 v58 v1264 v1292 v1929 v1932 v1935 v1938 v1941 v1944 v1947 v1950 v1952 v1954 v1956 v1958 v1960 v1962 v1964 v1966 v2205 c2_i32_955 v2206 v2208 v2209 X_arg7 X_arg8 X_arg15 X_arg16 G_arg19 G_arg20 G_arg21 G_arg22 G_arg24 G_arg25 G_arg26 G_arg27 k.val).2.2.2.1) (arg24.view.writes (Elt F) G_arg24 (pb_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg1 v58 v1264 v1292 v1929 v1932 v1935 v1938 v1941 v1944 v1947 v1950 v1952 v1954 v1956 v1958 v1960 v1962 v1964 v1966 v2205 c2_i32_955 v2206 v2208 v2209 X_arg7 X_arg8 X_arg15 X_arg16 G_arg19 G_arg20 G_arg21 G_arg22 G_arg24 G_arg25 G_arg26 G_arg27 k.val).2.2.2.2.1) (arg25.view.writes (Elt F) G_arg25 (pb_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg1 v58 v1264 v1292 v1929 v1932 v1935 v1938 v1941 v1944 v1947 v1950 v1952 v1954 v1956 v1958 v1960 v1962 v1964 v1966 v2205 c2_i32_955 v2206 v2208 v2209 X_arg7 X_arg8 X_arg15 X_arg16 G_arg19 G_arg20 G_arg21 G_arg22 G_arg24 G_arg25 G_arg26 G_arg27 k.val).2.2.2.2.2.1) (arg26.view.writes (Elt F) G_arg26 (pb_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg1 v58 v1264 v1292 v1929 v1932 v1935 v1938 v1941 v1944 v1947 v1950 v1952 v1954 v1956 v1958 v1960 v1962 v1964 v1966 v2205 c2_i32_955 v2206 v2208 v2209 X_arg7 X_arg8 X_arg15 X_arg16 G_arg19 G_arg20 G_arg21 G_arg22 G_arg24 G_arg25 G_arg26 G_arg27 k.val).2.2.2.2.2.2.1) (arg27.view.writes (Elt F) G_arg27 (pb_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg1 v58 v1264 v1292 v1929 v1932 v1935 v1938 v1941 v1944 v1947 v1950 v1952 v1954 v1956 v1958 v1960 v1962 v1964 v1966 v2205 c2_i32_955 v2206 v2208 v2209 X_arg7 X_arg8 X_arg15 X_arg16 G_arg19 G_arg20 G_arg21 G_arg22 G_arg24 G_arg25 G_arg26 G_arg27 k.val).2.2.2.2.2.2.2)).2.2.2.2.2.1 ++ (pb_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg1 v58 v1264 v1292 v1929 v1932 v1935 v1938 v1941 v1944 v1947 v1950 v1952 v1954 v1956 v1958 v1960 v1962 v1964 v1966 v2205 c2_i32_955 v2206 v2208 v2209 X_arg7 X_arg8 X_arg15 X_arg16 G_arg19 G_arg20 G_arg21 G_arg22 G_arg24 G_arg25 G_arg26 G_arg27 k.val).2.2.2.2.2.1, (tripL_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg1 v58 v1264 v1292 v1929 v1932 v1935 v1938 v1941 v1944 v1947 v1950 v1952 v1954 v1956 v1958 v1960 v1962 v1964 v1966 v2205 c2_i32_955 v2206 v2208 v2209 X_arg7 X_arg8 X_arg15 X_arg16 k (arg19.view.writes (Elt F) G_arg19 (pb_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg1 v58 v1264 v1292 v1929 v1932 v1935 v1938 v1941 v1944 v1947 v1950 v1952 v1954 v1956 v1958 v1960 v1962 v1964 v1966 v2205 c2_i32_955 v2206 v2208 v2209 X_arg7 X_arg8 X_arg15 X_arg16 G_arg19 G_arg20 G_arg21 G_arg22 G_arg24 G_arg25 G_arg26 G_arg27 k.val).1) (arg20.view.writes (Elt F) G_arg20 (pb_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg1 v58 v1264 v1292 v1929 v1932 v1935 v1938 v1941 v1944 v1947 v1950 v1952 v1954 v1956 v1958 v1960 v1962 v1964 v1966 v2205 c2_i32_955 v2206 v2208 v2209 X_arg7 X_arg8 X_arg15 X_arg16 G_arg19 G_arg20 G_arg21 G_arg22 G_arg24 G_arg25 G_arg26 G_arg27 k.val).2.1) (arg21.view.writes (Elt F) G_arg21 (pb_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg1 v58 v1264 v1292 v1929 v1932 v1935 v1938 v1941 v1944 v1947 v1950 v1952 v1954 v1956 v1958 v1960 v1962 v1964 v1966 v2205 c2_i32_955 v2206 v2208 v2209 X_arg7 X_arg8 X_arg15 X_arg16 G_arg19 G_arg20 G_arg21 G_arg22 G_arg24 G_arg25 G_arg26 G_arg27 k.val).2.2.1) (arg22.view.writes (Elt F) G_arg22 (pb_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg1 v58 v1264 v1292 v1929 v1932 v1935 v1938 v1941 v1944 v1947 v1950 v1952 v1954 v1956 v1958 v1960 v1962 v1964 v1966 v2205 c2_i32_955 v2206 v2208 v2209 X_arg7 X_arg8 X_arg15 X_arg16 G_arg19 G_arg20 G_arg21 G_arg22 G_arg24 G_arg25 G_arg26 G_arg27 k.val).2.2.2.1) (arg24.view.writes (Elt F) G_arg24 (pb_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg1 v58 v1264 v1292 v1929 v1932 v1935 v1938 v1941 v1944 v1947 v1950 v1952 v1954 v1956 v1958 v1960 v1962 v1964 v1966 v2205 c2_i32_955 v2206 v2208 v2209 X_arg7 X_arg8 X_arg15 X_arg16 G_arg19 G_arg20 G_arg21 G_arg22 G_arg24 G_arg25 G_arg26 G_arg27 k.val).2.2.2.2.1) (arg25.view.writes (Elt F) G_arg25 (pb_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg1 v58 v1264 v1292 v1929 v1932 v1935 v1938 v1941 v1944 v1947 v1950 v1952 v1954 v1956 v1958 v1960 v1962 v1964 v1966 v2205 c2_i32_955 v2206 v2208 v2209 X_arg7 X_arg8 X_arg15 X_arg16 G_arg19 G_arg20 G_arg21 G_arg22 G_arg24 G_arg25 G_arg26 G_arg27 k.val).2.2.2.2.2.1) (arg26.view.writes (Elt F) G_arg26 (pb_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg1 v58 v1264 v1292 v1929 v1932 v1935 v1938 v1941 v1944 v1947 v1950 v1952 v1954 v1956 v1958 v1960 v1962 v1964 v1966 v2205 c2_i32_955 v2206 v2208 v2209 X_arg7 X_arg8 X_arg15 X_arg16 G_arg19 G_arg20 G_arg21 G_arg22 G_arg24 G_arg25 G_arg26 G_arg27 k.val).2.2.2.2.2.2.1) (arg27.view.writes (Elt F) G_arg27 (pb_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg1 v58 v1264 v1292 v1929 v1932 v1935 v1938 v1941 v1944 v1947 v1950 v1952 v1954 v1956 v1958 v1960 v1962 v1964 v1966 v2205 c2_i32_955 v2206 v2208 v2209 X_arg7 X_arg8 X_arg15 X_arg16 G_arg19 G_arg20 G_arg21 G_arg22 G_arg24 G_arg25 G_arg26 G_arg27 k.val).2.2.2.2.2.2.2)).2.2.2.2.2.2.1 ++ (pb_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg1 v58 v1264 v1292 v1929 v1932 v1935 v1938 v1941 v1944 v1947 v1950 v1952 v1954 v1956 v1958 v1960 v1962 v1964 v1966 v2205 c2_i32_955 v2206 v2208 v2209 X_arg7 X_arg8 X_arg15 X_arg16 G_arg19 G_arg20 G_arg21 G_arg22 G_arg24 G_arg25 G_arg26 G_arg27 k.val).2.2.2.2.2.2.1, (tripL_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg1 v58 v1264 v1292 v1929 v1932 v1935 v1938 v1941 v1944 v1947 v1950 v1952 v1954 v1956 v1958 v1960 v1962 v1964 v1966 v2205 c2_i32_955 v2206 v2208 v2209 X_arg7 X_arg8 X_arg15 X_arg16 k (arg19.view.writes (Elt F) G_arg19 (pb_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg1 v58 v1264 v1292 v1929 v1932 v1935 v1938 v1941 v1944 v1947 v1950 v1952 v1954 v1956 v1958 v1960 v1962 v1964 v1966 v2205 c2_i32_955 v2206 v2208 v2209 X_arg7 X_arg8 X_arg15 X_arg16 G_arg19 G_arg20 G_arg21 G_arg22 G_arg24 G_arg25 G_arg26 G_arg27 k.val).1) (arg20.view.writes (Elt F) G_arg20 (pb_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg1 v58 v1264 v1292 v1929 v1932 v1935 v1938 v1941 v1944 v1947 v1950 v1952 v1954 v1956 v1958 v1960 v1962 v1964 v1966 v2205 c2_i32_955 v2206 v2208 v2209 X_arg7 X_arg8 X_arg15 X_arg16 G_arg19 G_arg20 G_arg21 G_arg22 G_arg24 G_arg25 G_arg26 G_arg27 k.val).2.1) (arg21.view.writes (Elt F) G_arg21 (pb_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg1 v58 v1264 v1292 v1929 v1932 v1935 v1938 v1941 v1944 v1947 v1950 v1952 v1954 v1956 v1958 v1960 v1962 v1964 v1966 v2205 c2_i32_955 v2206 v2208 v2209 X_arg7 X_arg8 X_arg15 X_arg16 G_arg19 G_arg20 G_arg21 G_arg22 G_arg24 G_arg25 G_arg26 G_arg27 k.val).2.2.1) (arg22.view.writes (Elt F) G_arg22 (pb_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg1 v58 v1264 v1292 v1929 v1932 v1935 v1938 v1941 v1944 v1947 v1950 v1952 v1954 v1956 v1958 v1960 v1962 v1964 v1966 v2205 c2_i32_955 v2206 v2208 v2209 X_arg7 X_arg8 X_arg15 X_arg16 G_arg19 G_arg20 G_arg21 G_arg22 G_arg24 G_arg25 G_arg26 G_arg27 k.val).2.2.2.1) (arg24.view.writes (Elt F) G_arg24 (pb_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg1 v58 v1264 v1292 v1929 v1932 v1935 v1938 v1941 v1944 v1947 v1950 v1952 v1954 v1956 v1958 v1960 v1962 v1964 v1966 v2205 c2_i32_955 v2206 v2208 v2209 X_arg7 X_arg8 X_arg15 X_arg16 G_arg19 G_arg20 G_arg21 G_arg22 G_arg24 G_arg25 G_arg26 G_arg27 k.val).2.2.2.2.1) (arg25.view.writes (Elt F) G_arg25 (pb_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg1 v58 v1264 v1292 v1929 v1932 v1935 v1938 v1941 v1944 v1947 v1950 v1952 v1954 v1956 v1958 v1960 v1962 v1964 v1966 v2205 c2_i32_955 v2206 v2208 v2209 X_arg7 X_arg8 X_arg15 X_arg16 G_arg19 G_arg20 G_arg21 G_arg22 G_arg24 G_arg25 G_arg26 G_arg27 k.val).2.2.2.2.2.1) (arg26.view.writes (Elt F) G_arg26 (pb_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg1 v58 v1264 v1292 v1929 v1932 v1935 v1938 v1941 v1944 v1947 v1950 v1952 v1954 v1956 v1958 v1960 v1962 v1964 v1966 v2205 c2_i32_955 v2206 v2208 v2209 X_arg7 X_arg8 X_arg15 X_arg16 G_arg19 G_arg20 G_arg21 G_arg22 G_arg24 G_arg25 G_arg26 G_arg27 k.val).2.2.2.2.2.2.1) (arg27.view.writes (Elt F) G_arg27 (pb_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg1 v58 v1264 v1292 v1929 v1932 v1935 v1938 v1941 v1944 v1947 v1950 v1952 v1954 v1956 v1958 v1960 v1962 v1964 v1966 v2205 c2_i32_955 v2206 v2208 v2209 X_arg7 X_arg8 X_arg15 X_arg16 G_arg19 G_arg20 G_arg21 G_arg22 G_arg24 G_arg25 G_arg26 G_arg27 k.val).2.2.2.2.2.2.2)).2.2.2.2.2.2.2 ++ (pb_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg1 v58 v1264 v1292 v1929 v1932 v1935 v1938 v1941 v1944 v1947 v1950 v1952 v1954 v1956 v1958 v1960 v1962 v1964 v1966 v2205 c2_i32_955 v2206 v2208 v2209 X_arg7 X_arg8 X_arg15 X_arg16 G_arg19 G_arg20 G_arg21 G_arg22 G_arg24 G_arg25 G_arg26 G_arg27 k.val).2.2.2.2.2.2.2) := by
  rw [pb_k0_t1.eq_2]; unfold pb_k0_t1Step; exact dif_pos k.isLt

abbrev inv_k0_t1 (𝒱 : Variants) (c : Dev nD) (bd : Option 𝒱.V) (i : grid0.Coords) (arg2 : Memref sig .tc .vmem S1x512x256 .bf16) (harg2 : arg2.IsWhole) (arg3 : Memref sig .tc .vmem S1x512x256 .bf16) (harg3 : arg3.IsWhole) (arg4 : Memref sig .tc .vmem S1x2x16x256 .f32) (harg4 : arg4.IsWhole) (arg5 : Memref sig .tc .vmem S1x256x128 .bf16) (harg5 : arg5.IsWhole) (arg6 : Memref sig .tc .vmem S1x2x80x256 .bf16) (harg6 : arg6.IsWhole) (arg7 : Memref sig .tc .vmem S1x16x256x256 .bf16) (harg7 : arg7.IsWhole) (arg8 : Memref sig .tc .vmem S1x2x16x80x256 .bf16) (harg8 : arg8.IsWhole) (arg9 : Memref sig .tc .vmem S1x16x256x128 .bf16) (harg9 : arg9.IsWhole) (arg10 : Memref sig .tc .vmem S1x2x16x80x256 .bf16) (harg10 : arg10.IsWhole) (arg11 : Memref sig .tc .vmem S64x256 .bf16) (harg11 : arg11.IsWhole) (arg12 : Memref sig .tc .vmem S1x512x256 .bf16) (harg12 : arg12.IsWhole) (arg13 : Memref sig .tc .vmem S1x512x256 .bf16) (harg13 : arg13.IsWhole) (arg14 : Memref sig .tc .vmem S1x8x16x64 .f32) (harg14 : arg14.IsWhole) (arg15 : Memref sig .tc .vmem S1x16x256x1024 .bf16) (harg15 : arg15.IsWhole) (arg16 : Memref sig .tc .vmem S1x8x16x80x256 .bf16) (harg16 : arg16.IsWhole) (arg17 : Memref sig .tc .vmem S1x512x256 .bf16) (harg17 : arg17.IsWhole) (arg18 : Memref sig .tc .vmem S1x512x256 .bf16) (harg18 : arg18.IsWhole) (arg19 : Memref sig .tc .vmem S2x256x2048 .f32) (harg19 : arg19.IsWhole) (arg20 : Memref sig .tc .vmem S2x1x2048 .f32) (harg20 : arg20.IsWhole) (arg21 : Memref sig .tc .vmem S1x2048 .f32) (harg21 : arg21.IsWhole) (arg22 : Memref sig .tc .vmem S80x2048 .f32) (harg22 : arg22.IsWhole) (arg23 : Memref sig .tc .vmem S64x512 .f32) (harg23 : arg23.IsWhole) (arg24 : Memref sig .tc .vmem S2x256x2048 .f32) (harg24 : arg24.IsWhole) (arg25 : Memref sig .tc .vmem S2x1x2048 .f32) (harg25 : arg25.IsWhole) (arg26 : Memref sig .tc .vmem S1x2048 .f32) (harg26 : arg26.IsWhole) (arg27 : Memref sig .tc .vmem S80x2048 .f32) (harg27 : arg27.IsWhole) (arg1 : BitVec 32) (v58 : IVec S256x2048 1) (v1264 : FVec F S256x2048 .bf16) (v1292 : BitVec 32) (v1929 : FVec F S256x256 .bf16) (v1932 : FVec F S256x256 .bf16) (v1935 : FVec F S256x256 .bf16) (v1938 : FVec F S256x256 .bf16) (v1941 : FVec F S256x256 .bf16) (v1944 : FVec F S256x256 .bf16) (v1947 : FVec F S256x256 .bf16) (v1950 : FVec F S256x256 .bf16) (v1952 : FVec F S256x256 .bf16) (v1954 : FVec F S256x256 .bf16) (v1956 : FVec F S256x256 .bf16) (v1958 : FVec F S256x256 .bf16) (v1960 : FVec F S256x256 .bf16) (v1962 : FVec F S256x256 .bf16) (v1964 : FVec F S256x256 .bf16) (v1966 : FVec F S256x256 .bf16) (v2205 : BitVec 32) (c2_i32_955 : BitVec 32) (v2206 : BitVec 32) (v2208 : BitVec 32) (v2209 : BitVec 1) (X_arg7 : BufTy.Contents (Elt F) arg7.view.ty) (X_arg8 : BufTy.Contents (Elt F) arg8.view.ty) (X_arg15 : BufTy.Contents (Elt F) arg15.view.ty) (X_arg16 : BufTy.Contents (Elt F) arg16.view.ty) (G_arg19 : BufTy.Contents (Elt F) arg19.view.ty) (G_arg20 : BufTy.Contents (Elt F) arg20.view.ty) (G_arg21 : BufTy.Contents (Elt F) arg21.view.ty) (G_arg22 : BufTy.Contents (Elt F) arg22.view.ty) (G_arg24 : BufTy.Contents (Elt F) arg24.view.ty) (G_arg25 : BufTy.Contents (Elt F) arg25.view.ty) (G_arg26 : BufTy.Contents (Elt F) arg26.view.ty) (G_arg27 : BufTy.Contents (Elt F) arg27.view.ty) (k : ℕ) (_u : PUnit) : sProp 𝕄G :=
  iprop((arg7.view.loc (c : Thread nD τ) ↦[arg7.view.set]{fullShare} X_arg7) ∗ (arg8.view.loc (c : Thread nD τ) ↦[arg8.view.set]{fullShare} X_arg8) ∗ (arg15.view.loc (c : Thread nD τ) ↦[arg15.view.set]{fullShare} X_arg15) ∗ (arg16.view.loc (c : Thread nD τ) ↦[arg16.view.set]{fullShare} X_arg16) ∗ (∃ f, (arg19.view.loc (c : Thread nD τ) ↦[arg19.view.set]{fullShare} f) ∗ ⌜f = arg19.view.writes (Elt F) G_arg19 (pb_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg1 v58 v1264 v1292 v1929 v1932 v1935 v1938 v1941 v1944 v1947 v1950 v1952 v1954 v1956 v1958 v1960 v1962 v1964 v1966 v2205 c2_i32_955 v2206 v2208 v2209 X_arg7 X_arg8 X_arg15 X_arg16 G_arg19 G_arg20 G_arg21 G_arg22 G_arg24 G_arg25 G_arg26 G_arg27 k).1⌝) ∗ (∃ f, (arg20.view.loc (c : Thread nD τ) ↦[arg20.view.set]{fullShare} f) ∗ ⌜f = arg20.view.writes (Elt F) G_arg20 (pb_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg1 v58 v1264 v1292 v1929 v1932 v1935 v1938 v1941 v1944 v1947 v1950 v1952 v1954 v1956 v1958 v1960 v1962 v1964 v1966 v2205 c2_i32_955 v2206 v2208 v2209 X_arg7 X_arg8 X_arg15 X_arg16 G_arg19 G_arg20 G_arg21 G_arg22 G_arg24 G_arg25 G_arg26 G_arg27 k).2.1⌝) ∗ (∃ f, (arg21.view.loc (c : Thread nD τ) ↦[arg21.view.set]{fullShare} f) ∗ ⌜f = arg21.view.writes (Elt F) G_arg21 (pb_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg1 v58 v1264 v1292 v1929 v1932 v1935 v1938 v1941 v1944 v1947 v1950 v1952 v1954 v1956 v1958 v1960 v1962 v1964 v1966 v2205 c2_i32_955 v2206 v2208 v2209 X_arg7 X_arg8 X_arg15 X_arg16 G_arg19 G_arg20 G_arg21 G_arg22 G_arg24 G_arg25 G_arg26 G_arg27 k).2.2.1⌝) ∗ (∃ f, (arg22.view.loc (c : Thread nD τ) ↦[arg22.view.set]{fullShare} f) ∗ ⌜f = arg22.view.writes (Elt F) G_arg22 (pb_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg1 v58 v1264 v1292 v1929 v1932 v1935 v1938 v1941 v1944 v1947 v1950 v1952 v1954 v1956 v1958 v1960 v1962 v1964 v1966 v2205 c2_i32_955 v2206 v2208 v2209 X_arg7 X_arg8 X_arg15 X_arg16 G_arg19 G_arg20 G_arg21 G_arg22 G_arg24 G_arg25 G_arg26 G_arg27 k).2.2.2.1⌝) ∗ (∃ f, (arg24.view.loc (c : Thread nD τ) ↦[arg24.view.set]{fullShare} f) ∗ ⌜f = arg24.view.writes (Elt F) G_arg24 (pb_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg1 v58 v1264 v1292 v1929 v1932 v1935 v1938 v1941 v1944 v1947 v1950 v1952 v1954 v1956 v1958 v1960 v1962 v1964 v1966 v2205 c2_i32_955 v2206 v2208 v2209 X_arg7 X_arg8 X_arg15 X_arg16 G_arg19 G_arg20 G_arg21 G_arg22 G_arg24 G_arg25 G_arg26 G_arg27 k).2.2.2.2.1⌝) ∗ (∃ f, (arg25.view.loc (c : Thread nD τ) ↦[arg25.view.set]{fullShare} f) ∗ ⌜f = arg25.view.writes (Elt F) G_arg25 (pb_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg1 v58 v1264 v1292 v1929 v1932 v1935 v1938 v1941 v1944 v1947 v1950 v1952 v1954 v1956 v1958 v1960 v1962 v1964 v1966 v2205 c2_i32_955 v2206 v2208 v2209 X_arg7 X_arg8 X_arg15 X_arg16 G_arg19 G_arg20 G_arg21 G_arg22 G_arg24 G_arg25 G_arg26 G_arg27 k).2.2.2.2.2.1⌝) ∗ (∃ f, (arg26.view.loc (c : Thread nD τ) ↦[arg26.view.set]{fullShare} f) ∗ ⌜f = arg26.view.writes (Elt F) G_arg26 (pb_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg1 v58 v1264 v1292 v1929 v1932 v1935 v1938 v1941 v1944 v1947 v1950 v1952 v1954 v1956 v1958 v1960 v1962 v1964 v1966 v2205 c2_i32_955 v2206 v2208 v2209 X_arg7 X_arg8 X_arg15 X_arg16 G_arg19 G_arg20 G_arg21 G_arg22 G_arg24 G_arg25 G_arg26 G_arg27 k).2.2.2.2.2.2.1⌝) ∗ (∃ f, (arg27.view.loc (c : Thread nD τ) ↦[arg27.view.set]{fullShare} f) ∗ ⌜f = arg27.view.writes (Elt F) G_arg27 (pb_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg1 v58 v1264 v1292 v1929 v1932 v1935 v1938 v1941 v1944 v1947 v1950 v1952 v1954 v1956 v1958 v1960 v1962 v1964 v1966 v2205 c2_i32_955 v2206 v2208 v2209 X_arg7 X_arg8 X_arg15 X_arg16 G_arg19 G_arg20 G_arg21 G_arg22 G_arg24 G_arg25 G_arg26 G_arg27 k).2.2.2.2.2.2.2⌝))

set_option warn.classDefReducibility false in
@[sl_loop] def loopInv_k0_t1 (𝒱 : Variants) (c : Dev nD) (bd : Option 𝒱.V) (E : Set ℕ) (i : grid0.Coords) (arg2 : Memref sig .tc .vmem S1x512x256 .bf16) (harg2 : arg2.IsWhole) (arg3 : Memref sig .tc .vmem S1x512x256 .bf16) (harg3 : arg3.IsWhole) (arg4 : Memref sig .tc .vmem S1x2x16x256 .f32) (harg4 : arg4.IsWhole) (arg5 : Memref sig .tc .vmem S1x256x128 .bf16) (harg5 : arg5.IsWhole) (arg6 : Memref sig .tc .vmem S1x2x80x256 .bf16) (harg6 : arg6.IsWhole) (arg7 : Memref sig .tc .vmem S1x16x256x256 .bf16) (harg7 : arg7.IsWhole) (arg8 : Memref sig .tc .vmem S1x2x16x80x256 .bf16) (harg8 : arg8.IsWhole) (arg9 : Memref sig .tc .vmem S1x16x256x128 .bf16) (harg9 : arg9.IsWhole) (arg10 : Memref sig .tc .vmem S1x2x16x80x256 .bf16) (harg10 : arg10.IsWhole) (arg11 : Memref sig .tc .vmem S64x256 .bf16) (harg11 : arg11.IsWhole) (arg12 : Memref sig .tc .vmem S1x512x256 .bf16) (harg12 : arg12.IsWhole) (arg13 : Memref sig .tc .vmem S1x512x256 .bf16) (harg13 : arg13.IsWhole) (arg14 : Memref sig .tc .vmem S1x8x16x64 .f32) (harg14 : arg14.IsWhole) (arg15 : Memref sig .tc .vmem S1x16x256x1024 .bf16) (harg15 : arg15.IsWhole) (arg16 : Memref sig .tc .vmem S1x8x16x80x256 .bf16) (harg16 : arg16.IsWhole) (arg17 : Memref sig .tc .vmem S1x512x256 .bf16) (harg17 : arg17.IsWhole) (arg18 : Memref sig .tc .vmem S1x512x256 .bf16) (harg18 : arg18.IsWhole) (arg19 : Memref sig .tc .vmem S2x256x2048 .f32) (harg19 : arg19.IsWhole) (arg20 : Memref sig .tc .vmem S2x1x2048 .f32) (harg20 : arg20.IsWhole) (arg21 : Memref sig .tc .vmem S1x2048 .f32) (harg21 : arg21.IsWhole) (arg22 : Memref sig .tc .vmem S80x2048 .f32) (harg22 : arg22.IsWhole) (arg23 : Memref sig .tc .vmem S64x512 .f32) (harg23 : arg23.IsWhole) (arg24 : Memref sig .tc .vmem S2x256x2048 .f32) (harg24 : arg24.IsWhole) (arg25 : Memref sig .tc .vmem S2x1x2048 .f32) (harg25 : arg25.IsWhole) (arg26 : Memref sig .tc .vmem S1x2048 .f32) (harg26 : arg26.IsWhole) (arg27 : Memref sig .tc .vmem S80x2048 .f32) (harg27 : arg27.IsWhole) (arg1 : BitVec 32) (v58 : IVec S256x2048 1) (v1264 : FVec F S256x2048 .bf16) (v1292 : BitVec 32) (v1929 : FVec F S256x256 .bf16) (v1932 : FVec F S256x256 .bf16) (v1935 : FVec F S256x256 .bf16) (v1938 : FVec F S256x256 .bf16) (v1941 : FVec F S256x256 .bf16) (v1944 : FVec F S256x256 .bf16) (v1947 : FVec F S256x256 .bf16) (v1950 : FVec F S256x256 .bf16) (v1952 : FVec F S256x256 .bf16) (v1954 : FVec F S256x256 .bf16) (v1956 : FVec F S256x256 .bf16) (v1958 : FVec F S256x256 .bf16) (v1960 : FVec F S256x256 .bf16) (v1962 : FVec F S256x256 .bf16) (v1964 : FVec F S256x256 .bf16) (v1966 : FVec F S256x256 .bf16) (v2205 : BitVec 32) (c2_i32_955 : BitVec 32) (v2206 : BitVec 32) (v2208 : BitVec 32) (v2209 : BitVec 1) (X_arg7 : BufTy.Contents (Elt F) arg7.view.ty) (X_arg8 : BufTy.Contents (Elt F) arg8.view.ty) (X_arg15 : BufTy.Contents (Elt F) arg15.view.ty) (X_arg16 : BufTy.Contents (Elt F) arg16.view.ty) (G_arg19 : BufTy.Contents (Elt F) arg19.view.ty) (G_arg20 : BufTy.Contents (Elt F) arg20.view.ty) (G_arg21 : BufTy.Contents (Elt F) arg21.view.ty) (G_arg22 : BufTy.Contents (Elt F) arg22.view.ty) (G_arg24 : BufTy.Contents (Elt F) arg24.view.ty) (G_arg25 : BufTy.Contents (Elt F) arg25.view.ty) (G_arg26 : BufTy.Contents (Elt F) arg26.view.ty) (G_arg27 : BufTy.Contents (Elt F) arg27.view.ty) :
    LoopInvTy_k0_t1 (F := F) Unit ℕ (UR sig nD τ) ℕ 𝒱 c bd E i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg1 v58 v1264 v1292 v1929 v1932 v1935 v1938 v1941 v1944 v1947 v1950 v1952 v1954 v1956 v1958 v1960 v1962 v1964 v1966 v2205 c2_i32_955 v2206 v2208 v2209 where
  inv := inv_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg1 v58 v1264 v1292 v1929 v1932 v1935 v1938 v1941 v1944 v1947 v1950 v1952 v1954 v1956 v1958 v1960 v1962 v1964 v1966 v2205 c2_i32_955 v2206 v2208 v2209 X_arg7 X_arg8 X_arg15 X_arg16 G_arg19 G_arg20 G_arg21 G_arg22 G_arg24 G_arg25 G_arg26 G_arg27
  step k acc := by
    iintro ⟨HR_arg7, HR_arg8, HR_arg15, HR_arg16, ⟨%f_arg19, HW_arg19, %h_arg19⟩, ⟨%f_arg20, HW_arg20, %h_arg20⟩, ⟨%f_arg21, HW_arg21, %h_arg21⟩, ⟨%f_arg22, HW_arg22, %h_arg22⟩, ⟨%f_arg24, HW_arg24, %h_arg24⟩, ⟨%f_arg25, HW_arg25, %h_arg25⟩, ⟨%f_arg26, HW_arg26, %h_arg26⟩, ⟨%f_arg27, HW_arg27, %h_arg27⟩⟩
    iapply (wp_wand_r Idealize.ShloMosaic.frame (wpE (defs₀ (F := F)) 𝒱 (c : Thread nD τ) bd) E)
    isplitl [HR_arg7 HR_arg8 HR_arg15 HR_arg16 HW_arg19 HW_arg20 HW_arg21 HW_arg22 HW_arg24 HW_arg25 HW_arg26 HW_arg27]
    · iapply ((trip_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg1 v58 v1264 v1292 v1929 v1932 v1935 v1938 v1941 v1944 v1947 v1950 v1952 v1954 v1956 v1958 v1960 v1962 v1964 v1966 v2205 c2_i32_955 v2206 v2208 v2209 X_arg7 X_arg8 X_arg15 X_arg16 k).2.2.2.2.2.2.2.2 E f_arg19 f_arg20 f_arg21 f_arg22 f_arg24 f_arg25 f_arg26 f_arg27)
      isplitl [HR_arg7]; · iexact HR_arg7
      isplitl [HR_arg8]; · iexact HR_arg8
      isplitl [HR_arg15]; · iexact HR_arg15
      isplitl [HR_arg16]; · iexact HR_arg16
      isplitl [HW_arg19]; · iexact HW_arg19
      isplitl [HW_arg20]; · iexact HW_arg20
      isplitl [HW_arg21]; · iexact HW_arg21
      isplitl [HW_arg22]; · iexact HW_arg22
      isplitl [HW_arg24]; · iexact HW_arg24
      isplitl [HW_arg25]; · iexact HW_arg25
      isplitl [HW_arg26]; · iexact HW_arg26
      iexact HW_arg27
    · iintro %_ ⟨HR_arg7, HR_arg8, HR_arg15, HR_arg16, HW_arg19, HW_arg20, HW_arg21, HW_arg22, HW_arg24, HW_arg25, HW_arg26, HW_arg27⟩
      isplitl [HR_arg7]; · iexact HR_arg7
      isplitl [HR_arg8]; · iexact HR_arg8
      isplitl [HR_arg15]; · iexact HR_arg15
      isplitl [HR_arg16]; · iexact HR_arg16
      rw [pb_k0_t1_succ]
      isplitl [HW_arg19]
      · iexists _; isplitl [HW_arg19]; · iexact HW_arg19
        ipureintro; rw [h_arg19, h_arg20, h_arg21, h_arg22, h_arg24, h_arg25, h_arg26, h_arg27, ← View.writes_append]
      isplitl [HW_arg20]
      · iexists _; isplitl [HW_arg20]; · iexact HW_arg20
        ipureintro; rw [h_arg19, h_arg20, h_arg21, h_arg22, h_arg24, h_arg25, h_arg26, h_arg27, ← View.writes_append]
      isplitl [HW_arg21]
      · iexists _; isplitl [HW_arg21]; · iexact HW_arg21
        ipureintro; rw [h_arg19, h_arg20, h_arg21, h_arg22, h_arg24, h_arg25, h_arg26, h_arg27, ← View.writes_append]
      isplitl [HW_arg22]
      · iexists _; isplitl [HW_arg22]; · iexact HW_arg22
        ipureintro; rw [h_arg19, h_arg20, h_arg21, h_arg22, h_arg24, h_arg25, h_arg26, h_arg27, ← View.writes_append]
      isplitl [HW_arg24]
      · iexists _; isplitl [HW_arg24]; · iexact HW_arg24
        ipureintro; rw [h_arg19, h_arg20, h_arg21, h_arg22, h_arg24, h_arg25, h_arg26, h_arg27, ← View.writes_append]
      isplitl [HW_arg25]
      · iexists _; isplitl [HW_arg25]; · iexact HW_arg25
        ipureintro; rw [h_arg19, h_arg20, h_arg21, h_arg22, h_arg24, h_arg25, h_arg26, h_arg27, ← View.writes_append]
      isplitl [HW_arg26]
      · iexists _; isplitl [HW_arg26]; · iexact HW_arg26
        ipureintro; rw [h_arg19, h_arg20, h_arg21, h_arg22, h_arg24, h_arg25, h_arg26, h_arg27, ← View.writes_append]
      iexists _; isplitl [HW_arg27]; · iexact HW_arg27
      ipureintro; rw [h_arg19, h_arg20, h_arg21, h_arg22, h_arg24, h_arg25, h_arg26, h_arg27, ← View.writes_append]

end Cert.KernelIdeal.Gen

end
-- ==== Proof.MixersLoop2.lean ====
/- The invariant of loop 2 of the call that computes the two attentions: what each trip writes, and the contents after any number of trips. -/
module

public import proofs.«01_k».proof.Proof.Gen.KernelIdeal.Skeleton
public import proofs.«01_k».proof.Proof.Gen.KernelIdeal.Loops
public import Idealize.ShloMosaic.Lib.Exec
public import Idealize.ShloMosaic.Lib.Tactic
public import Idealize.ShloMosaic.Lib.Pipeline.Kit

@[expose] public section

set_option maxRecDepth 8192
set_option maxHeartbeats 4000000

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄G" => MT nD τ sig Unit (Elt F) ℕ (UR sig nD τ) ℕ

abbrev Trip_k0_t2 (c : Dev nD) (arg7 : Memref sig .tc .vmem S1x16x256x256 .bf16) (arg8 : Memref sig .tc .vmem S1x2x16x80x256 .bf16) (arg15 : Memref sig .tc .vmem S1x16x256x1024 .bf16) (arg16 : Memref sig .tc .vmem S1x8x16x80x256 .bf16) (arg19 : Memref sig .tc .vmem S2x256x2048 .f32) (arg20 : Memref sig .tc .vmem S2x1x2048 .f32) (arg21 : Memref sig .tc .vmem S1x2048 .f32) (arg22 : Memref sig .tc .vmem S80x2048 .f32) (arg24 : Memref sig .tc .vmem S2x256x2048 .f32) (arg25 : Memref sig .tc .vmem S2x1x2048 .f32) (arg26 : Memref sig .tc .vmem S1x2048 .f32) (arg27 : Memref sig .tc .vmem S80x2048 .f32) (X_arg7 : BufTy.Contents (Elt F) arg7.view.ty) (X_arg8 : BufTy.Contents (Elt F) arg8.view.ty) (X_arg15 : BufTy.Contents (Elt F) arg15.view.ty) (X_arg16 : BufTy.Contents (Elt F) arg16.view.ty) (f_arg19 : BufTy.Contents (Elt F) arg19.view.ty) (f_arg20 : BufTy.Contents (Elt F) arg20.view.ty) (f_arg21 : BufTy.Contents (Elt F) arg21.view.ty) (f_arg22 : BufTy.Contents (Elt F) arg22.view.ty) (f_arg24 : BufTy.Contents (Elt F) arg24.view.ty) (f_arg25 : BufTy.Contents (Elt F) arg25.view.ty) (f_arg26 : BufTy.Contents (Elt F) arg26.view.ty) (f_arg27 : BufTy.Contents (Elt F) arg27.view.ty) : sProp 𝕄G :=
  iprop((arg7.view.loc (c : Thread nD τ) ↦[arg7.view.set]{fullShare} X_arg7) ∗ (arg8.view.loc (c : Thread nD τ) ↦[arg8.view.set]{fullShare} X_arg8) ∗ (arg15.view.loc (c : Thread nD τ) ↦[arg15.view.set]{fullShare} X_arg15) ∗ (arg16.view.loc (c : Thread nD τ) ↦[arg16.view.set]{fullShare} X_arg16) ∗ (arg19.view.loc (c : Thread nD τ) ↦[arg19.view.set]{fullShare} f_arg19) ∗ (arg20.view.loc (c : Thread nD τ) ↦[arg20.view.set]{fullShare} f_arg20) ∗ (arg21.view.loc (c : Thread nD τ) ↦[arg21.view.set]{fullShare} f_arg21) ∗ (arg22.view.loc (c : Thread nD τ) ↦[arg22.view.set]{fullShare} f_arg22) ∗ (arg24.view.loc (c : Thread nD τ) ↦[arg24.view.set]{fullShare} f_arg24) ∗ (arg25.view.loc (c : Thread nD τ) ↦[arg25.view.set]{fullShare} f_arg25) ∗ (arg26.view.loc (c : Thread nD τ) ↦[arg26.view.set]{fullShare} f_arg26) ∗ (arg27.view.loc (c : Thread nD τ) ↦[arg27.view.set]{fullShare} f_arg27))

@[irreducible] def trip_k0_t2 (𝒱 : Variants) (c : Dev nD) (bd : Option 𝒱.V) (i : grid0.Coords) (arg2 : Memref sig .tc .vmem S1x512x256 .bf16) (harg2 : arg2.IsWhole) (arg3 : Memref sig .tc .vmem S1x512x256 .bf16) (harg3 : arg3.IsWhole) (arg4 : Memref sig .tc .vmem S1x2x16x256 .f32) (harg4 : arg4.IsWhole) (arg5 : Memref sig .tc .vmem S1x256x128 .bf16) (harg5 : arg5.IsWhole) (arg6 : Memref sig .tc .vmem S1x2x80x256 .bf16) (harg6 : arg6.IsWhole) (arg7 : Memref sig .tc .vmem S1x16x256x256 .bf16) (harg7 : arg7.IsWhole) (arg8 : Memref sig .tc .vmem S1x2x16x80x256 .bf16) (harg8 : arg8.IsWhole) (arg9 : Memref sig .tc .vmem S1x16x256x128 .bf16) (harg9 : arg9.IsWhole) (arg10 : Memref sig .tc .vmem S1x2x16x80x256 .bf16) (harg10 : arg10.IsWhole) (arg11 : Memref sig .tc .vmem S64x256 .bf16) (harg11 : arg11.IsWhole) (arg12 : Memref sig .tc .vmem S1x512x256 .bf16) (harg12 : arg12.IsWhole) (arg13 : Memref sig .tc .vmem S1x512x256 .bf16) (harg13 : arg13.IsWhole) (arg14 : Memref sig .tc .vmem S1x8x16x64 .f32) (harg14 : arg14.IsWhole) (arg15 : Memref sig .tc .vmem S1x16x256x1024 .bf16) (harg15 : arg15.IsWhole) (arg16 : Memref sig .tc .vmem S1x8x16x80x256 .bf16) (harg16 : arg16.IsWhole) (arg17 : Memref sig .tc .vmem S1x512x256 .bf16) (harg17 : arg17.IsWhole) (arg18 : Memref sig .tc .vmem S1x512x256 .bf16) (harg18 : arg18.IsWhole) (arg19 : Memref sig .tc .vmem S2x256x2048 .f32) (harg19 : arg19.IsWhole) (arg20 : Memref sig .tc .vmem S2x1x2048 .f32) (harg20 : arg20.IsWhole) (arg21 : Memref sig .tc .vmem S1x2048 .f32) (harg21 : arg21.IsWhole) (arg22 : Memref sig .tc .vmem S80x2048 .f32) (harg22 : arg22.IsWhole) (arg23 : Memref sig .tc .vmem S64x512 .f32) (harg23 : arg23.IsWhole) (arg24 : Memref sig .tc .vmem S2x256x2048 .f32) (harg24 : arg24.IsWhole) (arg25 : Memref sig .tc .vmem S2x1x2048 .f32) (harg25 : arg25.IsWhole) (arg26 : Memref sig .tc .vmem S1x2048 .f32) (harg26 : arg26.IsWhole) (arg27 : Memref sig .tc .vmem S80x2048 .f32) (harg27 : arg27.IsWhole) (arg1 : BitVec 32) (v58 : IVec S256x2048 1) (v1264 : FVec F S256x2048 .bf16) (v1292 : BitVec 32) (v1929 : FVec F S256x256 .bf16) (v1932 : FVec F S256x256 .bf16) (v1935 : FVec F S256x256 .bf16) (v1938 : FVec F S256x256 .bf16) (v1941 : FVec F S256x256 .bf16) (v1944 : FVec F S256x256 .bf16) (v1947 : FVec F S256x256 .bf16) (v1950 : FVec F S256x256 .bf16) (v1952 : FVec F S256x256 .bf16) (v1954 : FVec F S256x256 .bf16) (v1956 : FVec F S256x256 .bf16) (v1958 : FVec F S256x256 .bf16) (v1960 : FVec F S256x256 .bf16) (v1962 : FVec F S256x256 .bf16) (v1964 : FVec F S256x256 .bf16) (v1966 : FVec F S256x256 .bf16) (v2205 : BitVec 32) (c2_i32_955 : BitVec 32) (v2206 : BitVec 32) (v2208 : BitVec 32) (v2209 : BitVec 1) (v2232 : BitVec 32) (X_arg7 : BufTy.Contents (Elt F) arg7.view.ty) (X_arg8 : BufTy.Contents (Elt F) arg8.view.ty) (X_arg15 : BufTy.Contents (Elt F) arg15.view.ty) (X_arg16 : BufTy.Contents (Elt F) arg16.view.ty) (k : Fin (k0_t2_loop i).trips) :
    Σ' (L_arg19 : (BufTy.Contents (Elt F) arg19.view.ty → BufTy.Contents (Elt F) arg20.view.ty → BufTy.Contents (Elt F) arg21.view.ty → BufTy.Contents (Elt F) arg22.view.ty → BufTy.Contents (Elt F) arg24.view.ty → BufTy.Contents (Elt F) arg25.view.ty → BufTy.Contents (Elt F) arg26.view.ty → BufTy.Contents (Elt F) arg27.view.ty → List (View.Piece (Elt F) S2x256x2048 .f32))) (L_arg20 : (BufTy.Contents (Elt F) arg19.view.ty → BufTy.Contents (Elt F) arg20.view.ty → BufTy.Contents (Elt F) arg21.view.ty → BufTy.Contents (Elt F) arg22.view.ty → BufTy.Contents (Elt F) arg24.view.ty → BufTy.Contents (Elt F) arg25.view.ty → BufTy.Contents (Elt F) arg26.view.ty → BufTy.Contents (Elt F) arg27.view.ty → List (View.Piece (Elt F) S2x1x2048 .f32))) (L_arg21 : (BufTy.Contents (Elt F) arg19.view.ty → BufTy.Contents (Elt F) arg20.view.ty → BufTy.Contents (Elt F) arg21.view.ty → BufTy.Contents (Elt F) arg22.view.ty → BufTy.Contents (Elt F) arg24.view.ty → BufTy.Contents (Elt F) arg25.view.ty → BufTy.Contents (Elt F) arg26.view.ty → BufTy.Contents (Elt F) arg27.view.ty → List (View.Piece (Elt F) S1x2048 .f32))) (L_arg22 : (BufTy.Contents (Elt F) arg19.view.ty → BufTy.Contents (Elt F) arg20.view.ty → BufTy.Contents (Elt F) arg21.view.ty → BufTy.Contents (Elt F) arg22.view.ty → BufTy.Contents (Elt F) arg24.view.ty → BufTy.Contents (Elt F) arg25.view.ty → BufTy.Contents (Elt F) arg26.view.ty → BufTy.Contents (Elt F) arg27.view.ty → List (View.Piece (Elt F) S80x2048 .f32))) (L_arg24 : (BufTy.Contents (Elt F) arg19.view.ty → BufTy.Contents (Elt F) arg20.view.ty → BufTy.Contents (Elt F) arg21.view.ty → BufTy.Contents (Elt F) arg22.view.ty → BufTy.Contents (Elt F) arg24.view.ty → BufTy.Contents (Elt F) arg25.view.ty → BufTy.Contents (Elt F) arg26.view.ty → BufTy.Contents (Elt F) arg27.view.ty → List (View.Piece (Elt F) S2x256x2048 .f32))) (L_arg25 : (BufTy.Contents (Elt F) arg19.view.ty → BufTy.Contents (Elt F) arg20.view.ty → BufTy.Contents (Elt F) arg21.view.ty → BufTy.Contents (Elt F) arg22.view.ty → BufTy.Contents (Elt F) arg24.view.ty → BufTy.Contents (Elt F) arg25.view.ty → BufTy.Contents (Elt F) arg26.view.ty → BufTy.Contents (Elt F) arg27.view.ty → List (View.Piece (Elt F) S2x1x2048 .f32))) (L_arg26 : (BufTy.Contents (Elt F) arg19.view.ty → BufTy.Contents (Elt F) arg20.view.ty → BufTy.Contents (Elt F) arg21.view.ty → BufTy.Contents (Elt F) arg22.view.ty → BufTy.Contents (Elt F) arg24.view.ty → BufTy.Contents (Elt F) arg25.view.ty → BufTy.Contents (Elt F) arg26.view.ty → BufTy.Contents (Elt F) arg27.view.ty → List (View.Piece (Elt F) S1x2048 .f32))) , { L_arg27 : (BufTy.Contents (Elt F) arg19.view.ty → BufTy.Contents (Elt F) arg20.view.ty → BufTy.Contents (Elt F) arg21.view.ty → BufTy.Contents (Elt F) arg22.view.ty → BufTy.Contents (Elt F) arg24.view.ty → BufTy.Contents (Elt F) arg25.view.ty → BufTy.Contents (Elt F) arg26.view.ty → BufTy.Contents (Elt F) arg27.view.ty → List (View.Piece (Elt F) S80x2048 .f32)) // ∀ (E : Set ℕ) (f_arg19 : BufTy.Contents (Elt F) arg19.view.ty) (f_arg20 : BufTy.Contents (Elt F) arg20.view.ty) (f_arg21 : BufTy.Contents (Elt F) arg21.view.ty) (f_arg22 : BufTy.Contents (Elt F) arg22.view.ty) (f_arg24 : BufTy.Contents (Elt F) arg24.view.ty) (f_arg25 : BufTy.Contents (Elt F) arg25.view.ty) (f_arg26 : BufTy.Contents (Elt F) arg26.view.ty) (f_arg27 : BufTy.Contents (Elt F) arg27.view.ty),
      Trip_k0_t2 (F := F) c arg7 arg8 arg15 arg16 arg19 arg20 arg21 arg22 arg24 arg25 arg26 arg27 X_arg7 X_arg8 X_arg15 X_arg16 f_arg19 f_arg20 f_arg21 f_arg22 f_arg24 f_arg25 f_arg26 f_arg27
      ⊢ wp frame (wpE (defs₀ (F := F)) 𝒱 (c : Thread nD τ) bd) E (k0_t2_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg1 v58 v1264 v1292 v1929 v1932 v1935 v1938 v1941 v1944 v1947 v1950 v1952 v1954 v1956 v1958 v1960 v1962 v1964 v1966 v2205 c2_i32_955 v2206 v2208 v2209 v2232 k PUnit.unit)
          (fun _ => Trip_k0_t2 (F := F) c arg7 arg8 arg15 arg16 arg19 arg20 arg21 arg22 arg24 arg25 arg26 arg27 X_arg7 X_arg8 X_arg15 X_arg16 (arg19.view.writes (Elt F) f_arg19 (L_arg19 f_arg19 f_arg20 f_arg21 f_arg22 f_arg24 f_arg25 f_arg26 f_arg27)) (arg20.view.writes (Elt F) f_arg20 (L_arg20 f_arg19 f_arg20 f_arg21 f_arg22 f_arg24 f_arg25 f_arg26 f_arg27)) (arg21.view.writes (Elt F) f_arg21 (L_arg21 f_arg19 f_arg20 f_arg21 f_arg22 f_arg24 f_arg25 f_arg26 f_arg27)) (arg22.view.writes (Elt F) f_arg22 (L_arg22 f_arg19 f_arg20 f_arg21 f_arg22 f_arg24 f_arg25 f_arg26 f_arg27)) (arg24.view.writes (Elt F) f_arg24 (L_arg24 f_arg19 f_arg20 f_arg21 f_arg22 f_arg24 f_arg25 f_arg26 f_arg27)) (arg25.view.writes (Elt F) f_arg25 (L_arg25 f_arg19 f_arg20 f_arg21 f_arg22 f_arg24 f_arg25 f_arg26 f_arg27)) (arg26.view.writes (Elt F) f_arg26 (L_arg26 f_arg19 f_arg20 f_arg21 f_arg22 f_arg24 f_arg25 f_arg26 f_arg27)) (arg27.view.writes (Elt F) f_arg27 (L_arg27 f_arg19 f_arg20 f_arg21 f_arg22 f_arg24 f_arg25 f_arg26 f_arg27))) } := by
  refine ⟨?_, ?_, ?_, ?_, ?_, ?_, ?_, ?_, fun E f_arg19 f_arg20 f_arg21 f_arg22 f_arg24 f_arg25 f_arg26 f_arg27 => ?run⟩
  case run =>
    unfold k0_t2_body
    iintro ⟨HR_arg7, HR_arg8, HR_arg15, HR_arg16, HW_arg19, HW_arg20, HW_arg21, HW_arg22, HW_arg24, HW_arg25, HW_arg26, HW_arg27⟩
    sl_exec
    sl_step
    sl_close

abbrev tripL_k0_t2 (𝒱 : Variants) (c : Dev nD) (bd : Option 𝒱.V) (i : grid0.Coords) (arg2 : Memref sig .tc .vmem S1x512x256 .bf16) (harg2 : arg2.IsWhole) (arg3 : Memref sig .tc .vmem S1x512x256 .bf16) (harg3 : arg3.IsWhole) (arg4 : Memref sig .tc .vmem S1x2x16x256 .f32) (harg4 : arg4.IsWhole) (arg5 : Memref sig .tc .vmem S1x256x128 .bf16) (harg5 : arg5.IsWhole) (arg6 : Memref sig .tc .vmem S1x2x80x256 .bf16) (harg6 : arg6.IsWhole) (arg7 : Memref sig .tc .vmem S1x16x256x256 .bf16) (harg7 : arg7.IsWhole) (arg8 : Memref sig .tc .vmem S1x2x16x80x256 .bf16) (harg8 : arg8.IsWhole) (arg9 : Memref sig .tc .vmem S1x16x256x128 .bf16) (harg9 : arg9.IsWhole) (arg10 : Memref sig .tc .vmem S1x2x16x80x256 .bf16) (harg10 : arg10.IsWhole) (arg11 : Memref sig .tc .vmem S64x256 .bf16) (harg11 : arg11.IsWhole) (arg12 : Memref sig .tc .vmem S1x512x256 .bf16) (harg12 : arg12.IsWhole) (arg13 : Memref sig .tc .vmem S1x512x256 .bf16) (harg13 : arg13.IsWhole) (arg14 : Memref sig .tc .vmem S1x8x16x64 .f32) (harg14 : arg14.IsWhole) (arg15 : Memref sig .tc .vmem S1x16x256x1024 .bf16) (harg15 : arg15.IsWhole) (arg16 : Memref sig .tc .vmem S1x8x16x80x256 .bf16) (harg16 : arg16.IsWhole) (arg17 : Memref sig .tc .vmem S1x512x256 .bf16) (harg17 : arg17.IsWhole) (arg18 : Memref sig .tc .vmem S1x512x256 .bf16) (harg18 : arg18.IsWhole) (arg19 : Memref sig .tc .vmem S2x256x2048 .f32) (harg19 : arg19.IsWhole) (arg20 : Memref sig .tc .vmem S2x1x2048 .f32) (harg20 : arg20.IsWhole) (arg21 : Memref sig .tc .vmem S1x2048 .f32) (harg21 : arg21.IsWhole) (arg22 : Memref sig .tc .vmem S80x2048 .f32) (harg22 : arg22.IsWhole) (arg23 : Memref sig .tc .vmem S64x512 .f32) (harg23 : arg23.IsWhole) (arg24 : Memref sig .tc .vmem S2x256x2048 .f32) (harg24 : arg24.IsWhole) (arg25 : Memref sig .tc .vmem S2x1x2048 .f32) (harg25 : arg25.IsWhole) (arg26 : Memref sig .tc .vmem S1x2048 .f32) (harg26 : arg26.IsWhole) (arg27 : Memref sig .tc .vmem S80x2048 .f32) (harg27 : arg27.IsWhole) (arg1 : BitVec 32) (v58 : IVec S256x2048 1) (v1264 : FVec F S256x2048 .bf16) (v1292 : BitVec 32) (v1929 : FVec F S256x256 .bf16) (v1932 : FVec F S256x256 .bf16) (v1935 : FVec F S256x256 .bf16) (v1938 : FVec F S256x256 .bf16) (v1941 : FVec F S256x256 .bf16) (v1944 : FVec F S256x256 .bf16) (v1947 : FVec F S256x256 .bf16) (v1950 : FVec F S256x256 .bf16) (v1952 : FVec F S256x256 .bf16) (v1954 : FVec F S256x256 .bf16) (v1956 : FVec F S256x256 .bf16) (v1958 : FVec F S256x256 .bf16) (v1960 : FVec F S256x256 .bf16) (v1962 : FVec F S256x256 .bf16) (v1964 : FVec F S256x256 .bf16) (v1966 : FVec F S256x256 .bf16) (v2205 : BitVec 32) (c2_i32_955 : BitVec 32) (v2206 : BitVec 32) (v2208 : BitVec 32) (v2209 : BitVec 1) (v2232 : BitVec 32) (X_arg7 : BufTy.Contents (Elt F) arg7.view.ty) (X_arg8 : BufTy.Contents (Elt F) arg8.view.ty) (X_arg15 : BufTy.Contents (Elt F) arg15.view.ty) (X_arg16 : BufTy.Contents (Elt F) arg16.view.ty) (k : Fin (k0_t2_loop i).trips) (f_arg19 : BufTy.Contents (Elt F) arg19.view.ty) (f_arg20 : BufTy.Contents (Elt F) arg20.view.ty) (f_arg21 : BufTy.Contents (Elt F) arg21.view.ty) (f_arg22 : BufTy.Contents (Elt F) arg22.view.ty) (f_arg24 : BufTy.Contents (Elt F) arg24.view.ty) (f_arg25 : BufTy.Contents (Elt F) arg25.view.ty) (f_arg26 : BufTy.Contents (Elt F) arg26.view.ty) (f_arg27 : BufTy.Contents (Elt F) arg27.view.ty) : List (View.Piece (Elt F) S2x256x2048 .f32) × List (View.Piece (Elt F) S2x1x2048 .f32) × List (View.Piece (Elt F) S1x2048 .f32) × List (View.Piece (Elt F) S80x2048 .f32) × List (View.Piece (Elt F) S2x256x2048 .f32) × List (View.Piece (Elt F) S2x1x2048 .f32) × List (View.Piece (Elt F) S1x2048 .f32) × List (View.Piece (Elt F) S80x2048 .f32) :=
  ((trip_k0_t2 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg1 v58 v1264 v1292 v1929 v1932 v1935 v1938 v1941 v1944 v1947 v1950 v1952 v1954 v1956 v1958 v1960 v1962 v1964 v1966 v2205 c2_i32_955 v2206 v2208 v2209 v2232 X_arg7 X_arg8 X_arg15 X_arg16 k).1 f_arg19 f_arg20 f_arg21 f_arg22 f_arg24 f_arg25 f_arg26 f_arg27, (trip_k0_t2 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg1 v58 v1264 v1292 v1929 v1932 v1935 v1938 v1941 v1944 v1947 v1950 v1952 v1954 v1956 v1958 v1960 v1962 v1964 v1966 v2205 c2_i32_955 v2206 v2208 v2209 v2232 X_arg7 X_arg8 X_arg15 X_arg16 k).2.1 f_arg19 f_arg20 f_arg21 f_arg22 f_arg24 f_arg25 f_arg26 f_arg27, (trip_k0_t2 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg1 v58 v1264 v1292 v1929 v1932 v1935 v1938 v1941 v1944 v1947 v1950 v1952 v1954 v1956 v1958 v1960 v1962 v1964 v1966 v2205 c2_i32_955 v2206 v2208 v2209 v2232 X_arg7 X_arg8 X_arg15 X_arg16 k).2.2.1 f_arg19 f_arg20 f_arg21 f_arg22 f_arg24 f_arg25 f_arg26 f_arg27, (trip_k0_t2 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg1 v58 v1264 v1292 v1929 v1932 v1935 v1938 v1941 v1944 v1947 v1950 v1952 v1954 v1956 v1958 v1960 v1962 v1964 v1966 v2205 c2_i32_955 v2206 v2208 v2209 v2232 X_arg7 X_arg8 X_arg15 X_arg16 k).2.2.2.1 f_arg19 f_arg20 f_arg21 f_arg22 f_arg24 f_arg25 f_arg26 f_arg27, (trip_k0_t2 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg1 v58 v1264 v1292 v1929 v1932 v1935 v1938 v1941 v1944 v1947 v1950 v1952 v1954 v1956 v1958 v1960 v1962 v1964 v1966 v2205 c2_i32_955 v2206 v2208 v2209 v2232 X_arg7 X_arg8 X_arg15 X_arg16 k).2.2.2.2.1 f_arg19 f_arg20 f_arg21 f_arg22 f_arg24 f_arg25 f_arg26 f_arg27, (trip_k0_t2 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg1 v58 v1264 v1292 v1929 v1932 v1935 v1938 v1941 v1944 v1947 v1950 v1952 v1954 v1956 v1958 v1960 v1962 v1964 v1966 v2205 c2_i32_955 v2206 v2208 v2209 v2232 X_arg7 X_arg8 X_arg15 X_arg16 k).2.2.2.2.2.1 f_arg19 f_arg20 f_arg21 f_arg22 f_arg24 f_arg25 f_arg26 f_arg27, (trip_k0_t2 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg1 v58 v1264 v1292 v1929 v1932 v1935 v1938 v1941 v1944 v1947 v1950 v1952 v1954 v1956 v1958 v1960 v1962 v1964 v1966 v2205 c2_i32_955 v2206 v2208 v2209 v2232 X_arg7 X_arg8 X_arg15 X_arg16 k).2.2.2.2.2.2.1 f_arg19 f_arg20 f_arg21 f_arg22 f_arg24 f_arg25 f_arg26 f_arg27, (trip_k0_t2 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg1 v58 v1264 v1292 v1929 v1932 v1935 v1938 v1941 v1944 v1947 v1950 v1952 v1954 v1956 v1958 v1960 v1962 v1964 v1966 v2205 c2_i32_955 v2206 v2208 v2209 v2232 X_arg7 X_arg8 X_arg15 X_arg16 k).2.2.2.2.2.2.2.1 f_arg19 f_arg20 f_arg21 f_arg22 f_arg24 f_arg25 f_arg26 f_arg27)

@[irreducible] def pb_k0_t2Step (𝒱 : Variants) (c : Dev nD) (bd : Option 𝒱.V) (i : grid0.Coords) (arg2 : Memref sig .tc .vmem S1x512x256 .bf16) (harg2 : arg2.IsWhole) (arg3 : Memref sig .tc .vmem S1x512x256 .bf16) (harg3 : arg3.IsWhole) (arg4 : Memref sig .tc .vmem S1x2x16x256 .f32) (harg4 : arg4.IsWhole) (arg5 : Memref sig .tc .vmem S1x256x128 .bf16) (harg5 : arg5.IsWhole) (arg6 : Memref sig .tc .vmem S1x2x80x256 .bf16) (harg6 : arg6.IsWhole) (arg7 : Memref sig .tc .vmem S1x16x256x256 .bf16) (harg7 : arg7.IsWhole) (arg8 : Memref sig .tc .vmem S1x2x16x80x256 .bf16) (harg8 : arg8.IsWhole) (arg9 : Memref sig .tc .vmem S1x16x256x128 .bf16) (harg9 : arg9.IsWhole) (arg10 : Memref sig .tc .vmem S1x2x16x80x256 .bf16) (harg10 : arg10.IsWhole) (arg11 : Memref sig .tc .vmem S64x256 .bf16) (harg11 : arg11.IsWhole) (arg12 : Memref sig .tc .vmem S1x512x256 .bf16) (harg12 : arg12.IsWhole) (arg13 : Memref sig .tc .vmem S1x512x256 .bf16) (harg13 : arg13.IsWhole) (arg14 : Memref sig .tc .vmem S1x8x16x64 .f32) (harg14 : arg14.IsWhole) (arg15 : Memref sig .tc .vmem S1x16x256x1024 .bf16) (harg15 : arg15.IsWhole) (arg16 : Memref sig .tc .vmem S1x8x16x80x256 .bf16) (harg16 : arg16.IsWhole) (arg17 : Memref sig .tc .vmem S1x512x256 .bf16) (harg17 : arg17.IsWhole) (arg18 : Memref sig .tc .vmem S1x512x256 .bf16) (harg18 : arg18.IsWhole) (arg19 : Memref sig .tc .vmem S2x256x2048 .f32) (harg19 : arg19.IsWhole) (arg20 : Memref sig .tc .vmem S2x1x2048 .f32) (harg20 : arg20.IsWhole) (arg21 : Memref sig .tc .vmem S1x2048 .f32) (harg21 : arg21.IsWhole) (arg22 : Memref sig .tc .vmem S80x2048 .f32) (harg22 : arg22.IsWhole) (arg23 : Memref sig .tc .vmem S64x512 .f32) (harg23 : arg23.IsWhole) (arg24 : Memref sig .tc .vmem S2x256x2048 .f32) (harg24 : arg24.IsWhole) (arg25 : Memref sig .tc .vmem S2x1x2048 .f32) (harg25 : arg25.IsWhole) (arg26 : Memref sig .tc .vmem S1x2048 .f32) (harg26 : arg26.IsWhole) (arg27 : Memref sig .tc .vmem S80x2048 .f32) (harg27 : arg27.IsWhole) (arg1 : BitVec 32) (v58 : IVec S256x2048 1) (v1264 : FVec F S256x2048 .bf16) (v1292 : BitVec 32) (v1929 : FVec F S256x256 .bf16) (v1932 : FVec F S256x256 .bf16) (v1935 : FVec F S256x256 .bf16) (v1938 : FVec F S256x256 .bf16) (v1941 : FVec F S256x256 .bf16) (v1944 : FVec F S256x256 .bf16) (v1947 : FVec F S256x256 .bf16) (v1950 : FVec F S256x256 .bf16) (v1952 : FVec F S256x256 .bf16) (v1954 : FVec F S256x256 .bf16) (v1956 : FVec F S256x256 .bf16) (v1958 : FVec F S256x256 .bf16) (v1960 : FVec F S256x256 .bf16) (v1962 : FVec F S256x256 .bf16) (v1964 : FVec F S256x256 .bf16) (v1966 : FVec F S256x256 .bf16) (v2205 : BitVec 32) (c2_i32_955 : BitVec 32) (v2206 : BitVec 32) (v2208 : BitVec 32) (v2209 : BitVec 1) (v2232 : BitVec 32) (X_arg7 : BufTy.Contents (Elt F) arg7.view.ty) (X_arg8 : BufTy.Contents (Elt F) arg8.view.ty) (X_arg15 : BufTy.Contents (Elt F) arg15.view.ty) (X_arg16 : BufTy.Contents (Elt F) arg16.view.ty) (G_arg19 : BufTy.Contents (Elt F) arg19.view.ty) (G_arg20 : BufTy.Contents (Elt F) arg20.view.ty) (G_arg21 : BufTy.Contents (Elt F) arg21.view.ty) (G_arg22 : BufTy.Contents (Elt F) arg22.view.ty) (G_arg24 : BufTy.Contents (Elt F) arg24.view.ty) (G_arg25 : BufTy.Contents (Elt F) arg25.view.ty) (G_arg26 : BufTy.Contents (Elt F) arg26.view.ty) (G_arg27 : BufTy.Contents (Elt F) arg27.view.ty) (k : ℕ) (prev : List (View.Piece (Elt F) S2x256x2048 .f32) × List (View.Piece (Elt F) S2x1x2048 .f32) × List (View.Piece (Elt F) S1x2048 .f32) × List (View.Piece (Elt F) S80x2048 .f32) × List (View.Piece (Elt F) S2x256x2048 .f32) × List (View.Piece (Elt F) S2x1x2048 .f32) × List (View.Piece (Elt F) S1x2048 .f32) × List (View.Piece (Elt F) S80x2048 .f32)) : List (View.Piece (Elt F) S2x256x2048 .f32) × List (View.Piece (Elt F) S2x1x2048 .f32) × List (View.Piece (Elt F) S1x2048 .f32) × List (View.Piece (Elt F) S80x2048 .f32) × List (View.Piece (Elt F) S2x256x2048 .f32) × List (View.Piece (Elt F) S2x1x2048 .f32) × List (View.Piece (Elt F) S1x2048 .f32) × List (View.Piece (Elt F) S80x2048 .f32) :=
  if h : k < (k0_t2_loop i).trips then
    ((tripL_k0_t2 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg1 v58 v1264 v1292 v1929 v1932 v1935 v1938 v1941 v1944 v1947 v1950 v1952 v1954 v1956 v1958 v1960 v1962 v1964 v1966 v2205 c2_i32_955 v2206 v2208 v2209 v2232 X_arg7 X_arg8 X_arg15 X_arg16 ⟨k, h⟩ (arg19.view.writes (Elt F) G_arg19 prev.1) (arg20.view.writes (Elt F) G_arg20 prev.2.1) (arg21.view.writes (Elt F) G_arg21 prev.2.2.1) (arg22.view.writes (Elt F) G_arg22 prev.2.2.2.1) (arg24.view.writes (Elt F) G_arg24 prev.2.2.2.2.1) (arg25.view.writes (Elt F) G_arg25 prev.2.2.2.2.2.1) (arg26.view.writes (Elt F) G_arg26 prev.2.2.2.2.2.2.1) (arg27.view.writes (Elt F) G_arg27 prev.2.2.2.2.2.2.2)).1 ++ prev.1, (tripL_k0_t2 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg1 v58 v1264 v1292 v1929 v1932 v1935 v1938 v1941 v1944 v1947 v1950 v1952 v1954 v1956 v1958 v1960 v1962 v1964 v1966 v2205 c2_i32_955 v2206 v2208 v2209 v2232 X_arg7 X_arg8 X_arg15 X_arg16 ⟨k, h⟩ (arg19.view.writes (Elt F) G_arg19 prev.1) (arg20.view.writes (Elt F) G_arg20 prev.2.1) (arg21.view.writes (Elt F) G_arg21 prev.2.2.1) (arg22.view.writes (Elt F) G_arg22 prev.2.2.2.1) (arg24.view.writes (Elt F) G_arg24 prev.2.2.2.2.1) (arg25.view.writes (Elt F) G_arg25 prev.2.2.2.2.2.1) (arg26.view.writes (Elt F) G_arg26 prev.2.2.2.2.2.2.1) (arg27.view.writes (Elt F) G_arg27 prev.2.2.2.2.2.2.2)).2.1 ++ prev.2.1, (tripL_k0_t2 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg1 v58 v1264 v1292 v1929 v1932 v1935 v1938 v1941 v1944 v1947 v1950 v1952 v1954 v1956 v1958 v1960 v1962 v1964 v1966 v2205 c2_i32_955 v2206 v2208 v2209 v2232 X_arg7 X_arg8 X_arg15 X_arg16 ⟨k, h⟩ (arg19.view.writes (Elt F) G_arg19 prev.1) (arg20.view.writes (Elt F) G_arg20 prev.2.1) (arg21.view.writes (Elt F) G_arg21 prev.2.2.1) (arg22.view.writes (Elt F) G_arg22 prev.2.2.2.1) (arg24.view.writes (Elt F) G_arg24 prev.2.2.2.2.1) (arg25.view.writes (Elt F) G_arg25 prev.2.2.2.2.2.1) (arg26.view.writes (Elt F) G_arg26 prev.2.2.2.2.2.2.1) (arg27.view.writes (Elt F) G_arg27 prev.2.2.2.2.2.2.2)).2.2.1 ++ prev.2.2.1, (tripL_k0_t2 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg1 v58 v1264 v1292 v1929 v1932 v1935 v1938 v1941 v1944 v1947 v1950 v1952 v1954 v1956 v1958 v1960 v1962 v1964 v1966 v2205 c2_i32_955 v2206 v2208 v2209 v2232 X_arg7 X_arg8 X_arg15 X_arg16 ⟨k, h⟩ (arg19.view.writes (Elt F) G_arg19 prev.1) (arg20.view.writes (Elt F) G_arg20 prev.2.1) (arg21.view.writes (Elt F) G_arg21 prev.2.2.1) (arg22.view.writes (Elt F) G_arg22 prev.2.2.2.1) (arg24.view.writes (Elt F) G_arg24 prev.2.2.2.2.1) (arg25.view.writes (Elt F) G_arg25 prev.2.2.2.2.2.1) (arg26.view.writes (Elt F) G_arg26 prev.2.2.2.2.2.2.1) (arg27.view.writes (Elt F) G_arg27 prev.2.2.2.2.2.2.2)).2.2.2.1 ++ prev.2.2.2.1, (tripL_k0_t2 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg1 v58 v1264 v1292 v1929 v1932 v1935 v1938 v1941 v1944 v1947 v1950 v1952 v1954 v1956 v1958 v1960 v1962 v1964 v1966 v2205 c2_i32_955 v2206 v2208 v2209 v2232 X_arg7 X_arg8 X_arg15 X_arg16 ⟨k, h⟩ (arg19.view.writes (Elt F) G_arg19 prev.1) (arg20.view.writes (Elt F) G_arg20 prev.2.1) (arg21.view.writes (Elt F) G_arg21 prev.2.2.1) (arg22.view.writes (Elt F) G_arg22 prev.2.2.2.1) (arg24.view.writes (Elt F) G_arg24 prev.2.2.2.2.1) (arg25.view.writes (Elt F) G_arg25 prev.2.2.2.2.2.1) (arg26.view.writes (Elt F) G_arg26 prev.2.2.2.2.2.2.1) (arg27.view.writes (Elt F) G_arg27 prev.2.2.2.2.2.2.2)).2.2.2.2.1 ++ prev.2.2.2.2.1, (tripL_k0_t2 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg1 v58 v1264 v1292 v1929 v1932 v1935 v1938 v1941 v1944 v1947 v1950 v1952 v1954 v1956 v1958 v1960 v1962 v1964 v1966 v2205 c2_i32_955 v2206 v2208 v2209 v2232 X_arg7 X_arg8 X_arg15 X_arg16 ⟨k, h⟩ (arg19.view.writes (Elt F) G_arg19 prev.1) (arg20.view.writes (Elt F) G_arg20 prev.2.1) (arg21.view.writes (Elt F) G_arg21 prev.2.2.1) (arg22.view.writes (Elt F) G_arg22 prev.2.2.2.1) (arg24.view.writes (Elt F) G_arg24 prev.2.2.2.2.1) (arg25.view.writes (Elt F) G_arg25 prev.2.2.2.2.2.1) (arg26.view.writes (Elt F) G_arg26 prev.2.2.2.2.2.2.1) (arg27.view.writes (Elt F) G_arg27 prev.2.2.2.2.2.2.2)).2.2.2.2.2.1 ++ prev.2.2.2.2.2.1, (tripL_k0_t2 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg1 v58 v1264 v1292 v1929 v1932 v1935 v1938 v1941 v1944 v1947 v1950 v1952 v1954 v1956 v1958 v1960 v1962 v1964 v1966 v2205 c2_i32_955 v2206 v2208 v2209 v2232 X_arg7 X_arg8 X_arg15 X_arg16 ⟨k, h⟩ (arg19.view.writes (Elt F) G_arg19 prev.1) (arg20.view.writes (Elt F) G_arg20 prev.2.1) (arg21.view.writes (Elt F) G_arg21 prev.2.2.1) (arg22.view.writes (Elt F) G_arg22 prev.2.2.2.1) (arg24.view.writes (Elt F) G_arg24 prev.2.2.2.2.1) (arg25.view.writes (Elt F) G_arg25 prev.2.2.2.2.2.1) (arg26.view.writes (Elt F) G_arg26 prev.2.2.2.2.2.2.1) (arg27.view.writes (Elt F) G_arg27 prev.2.2.2.2.2.2.2)).2.2.2.2.2.2.1 ++ prev.2.2.2.2.2.2.1, (tripL_k0_t2 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg1 v58 v1264 v1292 v1929 v1932 v1935 v1938 v1941 v1944 v1947 v1950 v1952 v1954 v1956 v1958 v1960 v1962 v1964 v1966 v2205 c2_i32_955 v2206 v2208 v2209 v2232 X_arg7 X_arg8 X_arg15 X_arg16 ⟨k, h⟩ (arg19.view.writes (Elt F) G_arg19 prev.1) (arg20.view.writes (Elt F) G_arg20 prev.2.1) (arg21.view.writes (Elt F) G_arg21 prev.2.2.1) (arg22.view.writes (Elt F) G_arg22 prev.2.2.2.1) (arg24.view.writes (Elt F) G_arg24 prev.2.2.2.2.1) (arg25.view.writes (Elt F) G_arg25 prev.2.2.2.2.2.1) (arg26.view.writes (Elt F) G_arg26 prev.2.2.2.2.2.2.1) (arg27.view.writes (Elt F) G_arg27 prev.2.2.2.2.2.2.2)).2.2.2.2.2.2.2 ++ prev.2.2.2.2.2.2.2)
  else prev

def pb_k0_t2 (𝒱 : Variants) (c : Dev nD) (bd : Option 𝒱.V) (i : grid0.Coords) (arg2 : Memref sig .tc .vmem S1x512x256 .bf16) (harg2 : arg2.IsWhole) (arg3 : Memref sig .tc .vmem S1x512x256 .bf16) (harg3 : arg3.IsWhole) (arg4 : Memref sig .tc .vmem S1x2x16x256 .f32) (harg4 : arg4.IsWhole) (arg5 : Memref sig .tc .vmem S1x256x128 .bf16) (harg5 : arg5.IsWhole) (arg6 : Memref sig .tc .vmem S1x2x80x256 .bf16) (harg6 : arg6.IsWhole) (arg7 : Memref sig .tc .vmem S1x16x256x256 .bf16) (harg7 : arg7.IsWhole) (arg8 : Memref sig .tc .vmem S1x2x16x80x256 .bf16) (harg8 : arg8.IsWhole) (arg9 : Memref sig .tc .vmem S1x16x256x128 .bf16) (harg9 : arg9.IsWhole) (arg10 : Memref sig .tc .vmem S1x2x16x80x256 .bf16) (harg10 : arg10.IsWhole) (arg11 : Memref sig .tc .vmem S64x256 .bf16) (harg11 : arg11.IsWhole) (arg12 : Memref sig .tc .vmem S1x512x256 .bf16) (harg12 : arg12.IsWhole) (arg13 : Memref sig .tc .vmem S1x512x256 .bf16) (harg13 : arg13.IsWhole) (arg14 : Memref sig .tc .vmem S1x8x16x64 .f32) (harg14 : arg14.IsWhole) (arg15 : Memref sig .tc .vmem S1x16x256x1024 .bf16) (harg15 : arg15.IsWhole) (arg16 : Memref sig .tc .vmem S1x8x16x80x256 .bf16) (harg16 : arg16.IsWhole) (arg17 : Memref sig .tc .vmem S1x512x256 .bf16) (harg17 : arg17.IsWhole) (arg18 : Memref sig .tc .vmem S1x512x256 .bf16) (harg18 : arg18.IsWhole) (arg19 : Memref sig .tc .vmem S2x256x2048 .f32) (harg19 : arg19.IsWhole) (arg20 : Memref sig .tc .vmem S2x1x2048 .f32) (harg20 : arg20.IsWhole) (arg21 : Memref sig .tc .vmem S1x2048 .f32) (harg21 : arg21.IsWhole) (arg22 : Memref sig .tc .vmem S80x2048 .f32) (harg22 : arg22.IsWhole) (arg23 : Memref sig .tc .vmem S64x512 .f32) (harg23 : arg23.IsWhole) (arg24 : Memref sig .tc .vmem S2x256x2048 .f32) (harg24 : arg24.IsWhole) (arg25 : Memref sig .tc .vmem S2x1x2048 .f32) (harg25 : arg25.IsWhole) (arg26 : Memref sig .tc .vmem S1x2048 .f32) (harg26 : arg26.IsWhole) (arg27 : Memref sig .tc .vmem S80x2048 .f32) (harg27 : arg27.IsWhole) (arg1 : BitVec 32) (v58 : IVec S256x2048 1) (v1264 : FVec F S256x2048 .bf16) (v1292 : BitVec 32) (v1929 : FVec F S256x256 .bf16) (v1932 : FVec F S256x256 .bf16) (v1935 : FVec F S256x256 .bf16) (v1938 : FVec F S256x256 .bf16) (v1941 : FVec F S256x256 .bf16) (v1944 : FVec F S256x256 .bf16) (v1947 : FVec F S256x256 .bf16) (v1950 : FVec F S256x256 .bf16) (v1952 : FVec F S256x256 .bf16) (v1954 : FVec F S256x256 .bf16) (v1956 : FVec F S256x256 .bf16) (v1958 : FVec F S256x256 .bf16) (v1960 : FVec F S256x256 .bf16) (v1962 : FVec F S256x256 .bf16) (v1964 : FVec F S256x256 .bf16) (v1966 : FVec F S256x256 .bf16) (v2205 : BitVec 32) (c2_i32_955 : BitVec 32) (v2206 : BitVec 32) (v2208 : BitVec 32) (v2209 : BitVec 1) (v2232 : BitVec 32) (X_arg7 : BufTy.Contents (Elt F) arg7.view.ty) (X_arg8 : BufTy.Contents (Elt F) arg8.view.ty) (X_arg15 : BufTy.Contents (Elt F) arg15.view.ty) (X_arg16 : BufTy.Contents (Elt F) arg16.view.ty) (G_arg19 : BufTy.Contents (Elt F) arg19.view.ty) (G_arg20 : BufTy.Contents (Elt F) arg20.view.ty) (G_arg21 : BufTy.Contents (Elt F) arg21.view.ty) (G_arg22 : BufTy.Contents (Elt F) arg22.view.ty) (G_arg24 : BufTy.Contents (Elt F) arg24.view.ty) (G_arg25 : BufTy.Contents (Elt F) arg25.view.ty) (G_arg26 : BufTy.Contents (Elt F) arg26.view.ty) (G_arg27 : BufTy.Contents (Elt F) arg27.view.ty) : ℕ → List (View.Piece (Elt F) S2x256x2048 .f32) × List (View.Piece (Elt F) S2x1x2048 .f32) × List (View.Piece (Elt F) S1x2048 .f32) × List (View.Piece (Elt F) S80x2048 .f32) × List (View.Piece (Elt F) S2x256x2048 .f32) × List (View.Piece (Elt F) S2x1x2048 .f32) × List (View.Piece (Elt F) S1x2048 .f32) × List (View.Piece (Elt F) S80x2048 .f32)
  | 0 => ([], [], [], [], [], [], [], [])
  | k + 1 => pb_k0_t2Step 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg1 v58 v1264 v1292 v1929 v1932 v1935 v1938 v1941 v1944 v1947 v1950 v1952 v1954 v1956 v1958 v1960 v1962 v1964 v1966 v2205 c2_i32_955 v2206 v2208 v2209 v2232 X_arg7 X_arg8 X_arg15 X_arg16 G_arg19 G_arg20 G_arg21 G_arg22 G_arg24 G_arg25 G_arg26 G_arg27 k (pb_k0_t2 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg1 v58 v1264 v1292 v1929 v1932 v1935 v1938 v1941 v1944 v1947 v1950 v1952 v1954 v1956 v1958 v1960 v1962 v1964 v1966 v2205 c2_i32_955 v2206 v2208 v2209 v2232 X_arg7 X_arg8 X_arg15 X_arg16 G_arg19 G_arg20 G_arg21 G_arg22 G_arg24 G_arg25 G_arg26 G_arg27 k)

theorem pb_k0_t2_succ (𝒱 : Variants) (c : Dev nD) (bd : Option 𝒱.V) (i : grid0.Coords) (arg2 : Memref sig .tc .vmem S1x512x256 .bf16) (harg2 : arg2.IsWhole) (arg3 : Memref sig .tc .vmem S1x512x256 .bf16) (harg3 : arg3.IsWhole) (arg4 : Memref sig .tc .vmem S1x2x16x256 .f32) (harg4 : arg4.IsWhole) (arg5 : Memref sig .tc .vmem S1x256x128 .bf16) (harg5 : arg5.IsWhole) (arg6 : Memref sig .tc .vmem S1x2x80x256 .bf16) (harg6 : arg6.IsWhole) (arg7 : Memref sig .tc .vmem S1x16x256x256 .bf16) (harg7 : arg7.IsWhole) (arg8 : Memref sig .tc .vmem S1x2x16x80x256 .bf16) (harg8 : arg8.IsWhole) (arg9 : Memref sig .tc .vmem S1x16x256x128 .bf16) (harg9 : arg9.IsWhole) (arg10 : Memref sig .tc .vmem S1x2x16x80x256 .bf16) (harg10 : arg10.IsWhole) (arg11 : Memref sig .tc .vmem S64x256 .bf16) (harg11 : arg11.IsWhole) (arg12 : Memref sig .tc .vmem S1x512x256 .bf16) (harg12 : arg12.IsWhole) (arg13 : Memref sig .tc .vmem S1x512x256 .bf16) (harg13 : arg13.IsWhole) (arg14 : Memref sig .tc .vmem S1x8x16x64 .f32) (harg14 : arg14.IsWhole) (arg15 : Memref sig .tc .vmem S1x16x256x1024 .bf16) (harg15 : arg15.IsWhole) (arg16 : Memref sig .tc .vmem S1x8x16x80x256 .bf16) (harg16 : arg16.IsWhole) (arg17 : Memref sig .tc .vmem S1x512x256 .bf16) (harg17 : arg17.IsWhole) (arg18 : Memref sig .tc .vmem S1x512x256 .bf16) (harg18 : arg18.IsWhole) (arg19 : Memref sig .tc .vmem S2x256x2048 .f32) (harg19 : arg19.IsWhole) (arg20 : Memref sig .tc .vmem S2x1x2048 .f32) (harg20 : arg20.IsWhole) (arg21 : Memref sig .tc .vmem S1x2048 .f32) (harg21 : arg21.IsWhole) (arg22 : Memref sig .tc .vmem S80x2048 .f32) (harg22 : arg22.IsWhole) (arg23 : Memref sig .tc .vmem S64x512 .f32) (harg23 : arg23.IsWhole) (arg24 : Memref sig .tc .vmem S2x256x2048 .f32) (harg24 : arg24.IsWhole) (arg25 : Memref sig .tc .vmem S2x1x2048 .f32) (harg25 : arg25.IsWhole) (arg26 : Memref sig .tc .vmem S1x2048 .f32) (harg26 : arg26.IsWhole) (arg27 : Memref sig .tc .vmem S80x2048 .f32) (harg27 : arg27.IsWhole) (arg1 : BitVec 32) (v58 : IVec S256x2048 1) (v1264 : FVec F S256x2048 .bf16) (v1292 : BitVec 32) (v1929 : FVec F S256x256 .bf16) (v1932 : FVec F S256x256 .bf16) (v1935 : FVec F S256x256 .bf16) (v1938 : FVec F S256x256 .bf16) (v1941 : FVec F S256x256 .bf16) (v1944 : FVec F S256x256 .bf16) (v1947 : FVec F S256x256 .bf16) (v1950 : FVec F S256x256 .bf16) (v1952 : FVec F S256x256 .bf16) (v1954 : FVec F S256x256 .bf16) (v1956 : FVec F S256x256 .bf16) (v1958 : FVec F S256x256 .bf16) (v1960 : FVec F S256x256 .bf16) (v1962 : FVec F S256x256 .bf16) (v1964 : FVec F S256x256 .bf16) (v1966 : FVec F S256x256 .bf16) (v2205 : BitVec 32) (c2_i32_955 : BitVec 32) (v2206 : BitVec 32) (v2208 : BitVec 32) (v2209 : BitVec 1) (v2232 : BitVec 32) (X_arg7 : BufTy.Contents (Elt F) arg7.view.ty) (X_arg8 : BufTy.Contents (Elt F) arg8.view.ty) (X_arg15 : BufTy.Contents (Elt F) arg15.view.ty) (X_arg16 : BufTy.Contents (Elt F) arg16.view.ty) (G_arg19 : BufTy.Contents (Elt F) arg19.view.ty) (G_arg20 : BufTy.Contents (Elt F) arg20.view.ty) (G_arg21 : BufTy.Contents (Elt F) arg21.view.ty) (G_arg22 : BufTy.Contents (Elt F) arg22.view.ty) (G_arg24 : BufTy.Contents (Elt F) arg24.view.ty) (G_arg25 : BufTy.Contents (Elt F) arg25.view.ty) (G_arg26 : BufTy.Contents (Elt F) arg26.view.ty) (G_arg27 : BufTy.Contents (Elt F) arg27.view.ty) (k : Fin (k0_t2_loop i).trips) :
    pb_k0_t2 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg1 v58 v1264 v1292 v1929 v1932 v1935 v1938 v1941 v1944 v1947 v1950 v1952 v1954 v1956 v1958 v1960 v1962 v1964 v1966 v2205 c2_i32_955 v2206 v2208 v2209 v2232 X_arg7 X_arg8 X_arg15 X_arg16 G_arg19 G_arg20 G_arg21 G_arg22 G_arg24 G_arg25 G_arg26 G_arg27 (k.val + 1)
      = ((tripL_k0_t2 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg1 v58 v1264 v1292 v1929 v1932 v1935 v1938 v1941 v1944 v1947 v1950 v1952 v1954 v1956 v1958 v1960 v1962 v1964 v1966 v2205 c2_i32_955 v2206 v2208 v2209 v2232 X_arg7 X_arg8 X_arg15 X_arg16 k (arg19.view.writes (Elt F) G_arg19 (pb_k0_t2 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg1 v58 v1264 v1292 v1929 v1932 v1935 v1938 v1941 v1944 v1947 v1950 v1952 v1954 v1956 v1958 v1960 v1962 v1964 v1966 v2205 c2_i32_955 v2206 v2208 v2209 v2232 X_arg7 X_arg8 X_arg15 X_arg16 G_arg19 G_arg20 G_arg21 G_arg22 G_arg24 G_arg25 G_arg26 G_arg27 k.val).1) (arg20.view.writes (Elt F) G_arg20 (pb_k0_t2 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg1 v58 v1264 v1292 v1929 v1932 v1935 v1938 v1941 v1944 v1947 v1950 v1952 v1954 v1956 v1958 v1960 v1962 v1964 v1966 v2205 c2_i32_955 v2206 v2208 v2209 v2232 X_arg7 X_arg8 X_arg15 X_arg16 G_arg19 G_arg20 G_arg21 G_arg22 G_arg24 G_arg25 G_arg26 G_arg27 k.val).2.1) (arg21.view.writes (Elt F) G_arg21 (pb_k0_t2 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg1 v58 v1264 v1292 v1929 v1932 v1935 v1938 v1941 v1944 v1947 v1950 v1952 v1954 v1956 v1958 v1960 v1962 v1964 v1966 v2205 c2_i32_955 v2206 v2208 v2209 v2232 X_arg7 X_arg8 X_arg15 X_arg16 G_arg19 G_arg20 G_arg21 G_arg22 G_arg24 G_arg25 G_arg26 G_arg27 k.val).2.2.1) (arg22.view.writes (Elt F) G_arg22 (pb_k0_t2 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg1 v58 v1264 v1292 v1929 v1932 v1935 v1938 v1941 v1944 v1947 v1950 v1952 v1954 v1956 v1958 v1960 v1962 v1964 v1966 v2205 c2_i32_955 v2206 v2208 v2209 v2232 X_arg7 X_arg8 X_arg15 X_arg16 G_arg19 G_arg20 G_arg21 G_arg22 G_arg24 G_arg25 G_arg26 G_arg27 k.val).2.2.2.1) (arg24.view.writes (Elt F) G_arg24 (pb_k0_t2 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg1 v58 v1264 v1292 v1929 v1932 v1935 v1938 v1941 v1944 v1947 v1950 v1952 v1954 v1956 v1958 v1960 v1962 v1964 v1966 v2205 c2_i32_955 v2206 v2208 v2209 v2232 X_arg7 X_arg8 X_arg15 X_arg16 G_arg19 G_arg20 G_arg21 G_arg22 G_arg24 G_arg25 G_arg26 G_arg27 k.val).2.2.2.2.1) (arg25.view.writes (Elt F) G_arg25 (pb_k0_t2 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg1 v58 v1264 v1292 v1929 v1932 v1935 v1938 v1941 v1944 v1947 v1950 v1952 v1954 v1956 v1958 v1960 v1962 v1964 v1966 v2205 c2_i32_955 v2206 v2208 v2209 v2232 X_arg7 X_arg8 X_arg15 X_arg16 G_arg19 G_arg20 G_arg21 G_arg22 G_arg24 G_arg25 G_arg26 G_arg27 k.val).2.2.2.2.2.1) (arg26.view.writes (Elt F) G_arg26 (pb_k0_t2 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg1 v58 v1264 v1292 v1929 v1932 v1935 v1938 v1941 v1944 v1947 v1950 v1952 v1954 v1956 v1958 v1960 v1962 v1964 v1966 v2205 c2_i32_955 v2206 v2208 v2209 v2232 X_arg7 X_arg8 X_arg15 X_arg16 G_arg19 G_arg20 G_arg21 G_arg22 G_arg24 G_arg25 G_arg26 G_arg27 k.val).2.2.2.2.2.2.1) (arg27.view.writes (Elt F) G_arg27 (pb_k0_t2 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg1 v58 v1264 v1292 v1929 v1932 v1935 v1938 v1941 v1944 v1947 v1950 v1952 v1954 v1956 v1958 v1960 v1962 v1964 v1966 v2205 c2_i32_955 v2206 v2208 v2209 v2232 X_arg7 X_arg8 X_arg15 X_arg16 G_arg19 G_arg20 G_arg21 G_arg22 G_arg24 G_arg25 G_arg26 G_arg27 k.val).2.2.2.2.2.2.2)).1 ++ (pb_k0_t2 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg1 v58 v1264 v1292 v1929 v1932 v1935 v1938 v1941 v1944 v1947 v1950 v1952 v1954 v1956 v1958 v1960 v1962 v1964 v1966 v2205 c2_i32_955 v2206 v2208 v2209 v2232 X_arg7 X_arg8 X_arg15 X_arg16 G_arg19 G_arg20 G_arg21 G_arg22 G_arg24 G_arg25 G_arg26 G_arg27 k.val).1, (tripL_k0_t2 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg1 v58 v1264 v1292 v1929 v1932 v1935 v1938 v1941 v1944 v1947 v1950 v1952 v1954 v1956 v1958 v1960 v1962 v1964 v1966 v2205 c2_i32_955 v2206 v2208 v2209 v2232 X_arg7 X_arg8 X_arg15 X_arg16 k (arg19.view.writes (Elt F) G_arg19 (pb_k0_t2 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg1 v58 v1264 v1292 v1929 v1932 v1935 v1938 v1941 v1944 v1947 v1950 v1952 v1954 v1956 v1958 v1960 v1962 v1964 v1966 v2205 c2_i32_955 v2206 v2208 v2209 v2232 X_arg7 X_arg8 X_arg15 X_arg16 G_arg19 G_arg20 G_arg21 G_arg22 G_arg24 G_arg25 G_arg26 G_arg27 k.val).1) (arg20.view.writes (Elt F) G_arg20 (pb_k0_t2 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg1 v58 v1264 v1292 v1929 v1932 v1935 v1938 v1941 v1944 v1947 v1950 v1952 v1954 v1956 v1958 v1960 v1962 v1964 v1966 v2205 c2_i32_955 v2206 v2208 v2209 v2232 X_arg7 X_arg8 X_arg15 X_arg16 G_arg19 G_arg20 G_arg21 G_arg22 G_arg24 G_arg25 G_arg26 G_arg27 k.val).2.1) (arg21.view.writes (Elt F) G_arg21 (pb_k0_t2 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg1 v58 v1264 v1292 v1929 v1932 v1935 v1938 v1941 v1944 v1947 v1950 v1952 v1954 v1956 v1958 v1960 v1962 v1964 v1966 v2205 c2_i32_955 v2206 v2208 v2209 v2232 X_arg7 X_arg8 X_arg15 X_arg16 G_arg19 G_arg20 G_arg21 G_arg22 G_arg24 G_arg25 G_arg26 G_arg27 k.val).2.2.1) (arg22.view.writes (Elt F) G_arg22 (pb_k0_t2 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg1 v58 v1264 v1292 v1929 v1932 v1935 v1938 v1941 v1944 v1947 v1950 v1952 v1954 v1956 v1958 v1960 v1962 v1964 v1966 v2205 c2_i32_955 v2206 v2208 v2209 v2232 X_arg7 X_arg8 X_arg15 X_arg16 G_arg19 G_arg20 G_arg21 G_arg22 G_arg24 G_arg25 G_arg26 G_arg27 k.val).2.2.2.1) (arg24.view.writes (Elt F) G_arg24 (pb_k0_t2 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg1 v58 v1264 v1292 v1929 v1932 v1935 v1938 v1941 v1944 v1947 v1950 v1952 v1954 v1956 v1958 v1960 v1962 v1964 v1966 v2205 c2_i32_955 v2206 v2208 v2209 v2232 X_arg7 X_arg8 X_arg15 X_arg16 G_arg19 G_arg20 G_arg21 G_arg22 G_arg24 G_arg25 G_arg26 G_arg27 k.val).2.2.2.2.1) (arg25.view.writes (Elt F) G_arg25 (pb_k0_t2 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg1 v58 v1264 v1292 v1929 v1932 v1935 v1938 v1941 v1944 v1947 v1950 v1952 v1954 v1956 v1958 v1960 v1962 v1964 v1966 v2205 c2_i32_955 v2206 v2208 v2209 v2232 X_arg7 X_arg8 X_arg15 X_arg16 G_arg19 G_arg20 G_arg21 G_arg22 G_arg24 G_arg25 G_arg26 G_arg27 k.val).2.2.2.2.2.1) (arg26.view.writes (Elt F) G_arg26 (pb_k0_t2 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg1 v58 v1264 v1292 v1929 v1932 v1935 v1938 v1941 v1944 v1947 v1950 v1952 v1954 v1956 v1958 v1960 v1962 v1964 v1966 v2205 c2_i32_955 v2206 v2208 v2209 v2232 X_arg7 X_arg8 X_arg15 X_arg16 G_arg19 G_arg20 G_arg21 G_arg22 G_arg24 G_arg25 G_arg26 G_arg27 k.val).2.2.2.2.2.2.1) (arg27.view.writes (Elt F) G_arg27 (pb_k0_t2 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg1 v58 v1264 v1292 v1929 v1932 v1935 v1938 v1941 v1944 v1947 v1950 v1952 v1954 v1956 v1958 v1960 v1962 v1964 v1966 v2205 c2_i32_955 v2206 v2208 v2209 v2232 X_arg7 X_arg8 X_arg15 X_arg16 G_arg19 G_arg20 G_arg21 G_arg22 G_arg24 G_arg25 G_arg26 G_arg27 k.val).2.2.2.2.2.2.2)).2.1 ++ (pb_k0_t2 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg1 v58 v1264 v1292 v1929 v1932 v1935 v1938 v1941 v1944 v1947 v1950 v1952 v1954 v1956 v1958 v1960 v1962 v1964 v1966 v2205 c2_i32_955 v2206 v2208 v2209 v2232 X_arg7 X_arg8 X_arg15 X_arg16 G_arg19 G_arg20 G_arg21 G_arg22 G_arg24 G_arg25 G_arg26 G_arg27 k.val).2.1, (tripL_k0_t2 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg1 v58 v1264 v1292 v1929 v1932 v1935 v1938 v1941 v1944 v1947 v1950 v1952 v1954 v1956 v1958 v1960 v1962 v1964 v1966 v2205 c2_i32_955 v2206 v2208 v2209 v2232 X_arg7 X_arg8 X_arg15 X_arg16 k (arg19.view.writes (Elt F) G_arg19 (pb_k0_t2 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg1 v58 v1264 v1292 v1929 v1932 v1935 v1938 v1941 v1944 v1947 v1950 v1952 v1954 v1956 v1958 v1960 v1962 v1964 v1966 v2205 c2_i32_955 v2206 v2208 v2209 v2232 X_arg7 X_arg8 X_arg15 X_arg16 G_arg19 G_arg20 G_arg21 G_arg22 G_arg24 G_arg25 G_arg26 G_arg27 k.val).1) (arg20.view.writes (Elt F) G_arg20 (pb_k0_t2 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg1 v58 v1264 v1292 v1929 v1932 v1935 v1938 v1941 v1944 v1947 v1950 v1952 v1954 v1956 v1958 v1960 v1962 v1964 v1966 v2205 c2_i32_955 v2206 v2208 v2209 v2232 X_arg7 X_arg8 X_arg15 X_arg16 G_arg19 G_arg20 G_arg21 G_arg22 G_arg24 G_arg25 G_arg26 G_arg27 k.val).2.1) (arg21.view.writes (Elt F) G_arg21 (pb_k0_t2 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg1 v58 v1264 v1292 v1929 v1932 v1935 v1938 v1941 v1944 v1947 v1950 v1952 v1954 v1956 v1958 v1960 v1962 v1964 v1966 v2205 c2_i32_955 v2206 v2208 v2209 v2232 X_arg7 X_arg8 X_arg15 X_arg16 G_arg19 G_arg20 G_arg21 G_arg22 G_arg24 G_arg25 G_arg26 G_arg27 k.val).2.2.1) (arg22.view.writes (Elt F) G_arg22 (pb_k0_t2 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg1 v58 v1264 v1292 v1929 v1932 v1935 v1938 v1941 v1944 v1947 v1950 v1952 v1954 v1956 v1958 v1960 v1962 v1964 v1966 v2205 c2_i32_955 v2206 v2208 v2209 v2232 X_arg7 X_arg8 X_arg15 X_arg16 G_arg19 G_arg20 G_arg21 G_arg22 G_arg24 G_arg25 G_arg26 G_arg27 k.val).2.2.2.1) (arg24.view.writes (Elt F) G_arg24 (pb_k0_t2 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg1 v58 v1264 v1292 v1929 v1932 v1935 v1938 v1941 v1944 v1947 v1950 v1952 v1954 v1956 v1958 v1960 v1962 v1964 v1966 v2205 c2_i32_955 v2206 v2208 v2209 v2232 X_arg7 X_arg8 X_arg15 X_arg16 G_arg19 G_arg20 G_arg21 G_arg22 G_arg24 G_arg25 G_arg26 G_arg27 k.val).2.2.2.2.1) (arg25.view.writes (Elt F) G_arg25 (pb_k0_t2 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg1 v58 v1264 v1292 v1929 v1932 v1935 v1938 v1941 v1944 v1947 v1950 v1952 v1954 v1956 v1958 v1960 v1962 v1964 v1966 v2205 c2_i32_955 v2206 v2208 v2209 v2232 X_arg7 X_arg8 X_arg15 X_arg16 G_arg19 G_arg20 G_arg21 G_arg22 G_arg24 G_arg25 G_arg26 G_arg27 k.val).2.2.2.2.2.1) (arg26.view.writes (Elt F) G_arg26 (pb_k0_t2 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg1 v58 v1264 v1292 v1929 v1932 v1935 v1938 v1941 v1944 v1947 v1950 v1952 v1954 v1956 v1958 v1960 v1962 v1964 v1966 v2205 c2_i32_955 v2206 v2208 v2209 v2232 X_arg7 X_arg8 X_arg15 X_arg16 G_arg19 G_arg20 G_arg21 G_arg22 G_arg24 G_arg25 G_arg26 G_arg27 k.val).2.2.2.2.2.2.1) (arg27.view.writes (Elt F) G_arg27 (pb_k0_t2 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg1 v58 v1264 v1292 v1929 v1932 v1935 v1938 v1941 v1944 v1947 v1950 v1952 v1954 v1956 v1958 v1960 v1962 v1964 v1966 v2205 c2_i32_955 v2206 v2208 v2209 v2232 X_arg7 X_arg8 X_arg15 X_arg16 G_arg19 G_arg20 G_arg21 G_arg22 G_arg24 G_arg25 G_arg26 G_arg27 k.val).2.2.2.2.2.2.2)).2.2.1 ++ (pb_k0_t2 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg1 v58 v1264 v1292 v1929 v1932 v1935 v1938 v1941 v1944 v1947 v1950 v1952 v1954 v1956 v1958 v1960 v1962 v1964 v1966 v2205 c2_i32_955 v2206 v2208 v2209 v2232 X_arg7 X_arg8 X_arg15 X_arg16 G_arg19 G_arg20 G_arg21 G_arg22 G_arg24 G_arg25 G_arg26 G_arg27 k.val).2.2.1, (tripL_k0_t2 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg1 v58 v1264 v1292 v1929 v1932 v1935 v1938 v1941 v1944 v1947 v1950 v1952 v1954 v1956 v1958 v1960 v1962 v1964 v1966 v2205 c2_i32_955 v2206 v2208 v2209 v2232 X_arg7 X_arg8 X_arg15 X_arg16 k (arg19.view.writes (Elt F) G_arg19 (pb_k0_t2 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg1 v58 v1264 v1292 v1929 v1932 v1935 v1938 v1941 v1944 v1947 v1950 v1952 v1954 v1956 v1958 v1960 v1962 v1964 v1966 v2205 c2_i32_955 v2206 v2208 v2209 v2232 X_arg7 X_arg8 X_arg15 X_arg16 G_arg19 G_arg20 G_arg21 G_arg22 G_arg24 G_arg25 G_arg26 G_arg27 k.val).1) (arg20.view.writes (Elt F) G_arg20 (pb_k0_t2 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg1 v58 v1264 v1292 v1929 v1932 v1935 v1938 v1941 v1944 v1947 v1950 v1952 v1954 v1956 v1958 v1960 v1962 v1964 v1966 v2205 c2_i32_955 v2206 v2208 v2209 v2232 X_arg7 X_arg8 X_arg15 X_arg16 G_arg19 G_arg20 G_arg21 G_arg22 G_arg24 G_arg25 G_arg26 G_arg27 k.val).2.1) (arg21.view.writes (Elt F) G_arg21 (pb_k0_t2 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg1 v58 v1264 v1292 v1929 v1932 v1935 v1938 v1941 v1944 v1947 v1950 v1952 v1954 v1956 v1958 v1960 v1962 v1964 v1966 v2205 c2_i32_955 v2206 v2208 v2209 v2232 X_arg7 X_arg8 X_arg15 X_arg16 G_arg19 G_arg20 G_arg21 G_arg22 G_arg24 G_arg25 G_arg26 G_arg27 k.val).2.2.1) (arg22.view.writes (Elt F) G_arg22 (pb_k0_t2 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg1 v58 v1264 v1292 v1929 v1932 v1935 v1938 v1941 v1944 v1947 v1950 v1952 v1954 v1956 v1958 v1960 v1962 v1964 v1966 v2205 c2_i32_955 v2206 v2208 v2209 v2232 X_arg7 X_arg8 X_arg15 X_arg16 G_arg19 G_arg20 G_arg21 G_arg22 G_arg24 G_arg25 G_arg26 G_arg27 k.val).2.2.2.1) (arg24.view.writes (Elt F) G_arg24 (pb_k0_t2 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg1 v58 v1264 v1292 v1929 v1932 v1935 v1938 v1941 v1944 v1947 v1950 v1952 v1954 v1956 v1958 v1960 v1962 v1964 v1966 v2205 c2_i32_955 v2206 v2208 v2209 v2232 X_arg7 X_arg8 X_arg15 X_arg16 G_arg19 G_arg20 G_arg21 G_arg22 G_arg24 G_arg25 G_arg26 G_arg27 k.val).2.2.2.2.1) (arg25.view.writes (Elt F) G_arg25 (pb_k0_t2 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg1 v58 v1264 v1292 v1929 v1932 v1935 v1938 v1941 v1944 v1947 v1950 v1952 v1954 v1956 v1958 v1960 v1962 v1964 v1966 v2205 c2_i32_955 v2206 v2208 v2209 v2232 X_arg7 X_arg8 X_arg15 X_arg16 G_arg19 G_arg20 G_arg21 G_arg22 G_arg24 G_arg25 G_arg26 G_arg27 k.val).2.2.2.2.2.1) (arg26.view.writes (Elt F) G_arg26 (pb_k0_t2 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg1 v58 v1264 v1292 v1929 v1932 v1935 v1938 v1941 v1944 v1947 v1950 v1952 v1954 v1956 v1958 v1960 v1962 v1964 v1966 v2205 c2_i32_955 v2206 v2208 v2209 v2232 X_arg7 X_arg8 X_arg15 X_arg16 G_arg19 G_arg20 G_arg21 G_arg22 G_arg24 G_arg25 G_arg26 G_arg27 k.val).2.2.2.2.2.2.1) (arg27.view.writes (Elt F) G_arg27 (pb_k0_t2 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg1 v58 v1264 v1292 v1929 v1932 v1935 v1938 v1941 v1944 v1947 v1950 v1952 v1954 v1956 v1958 v1960 v1962 v1964 v1966 v2205 c2_i32_955 v2206 v2208 v2209 v2232 X_arg7 X_arg8 X_arg15 X_arg16 G_arg19 G_arg20 G_arg21 G_arg22 G_arg24 G_arg25 G_arg26 G_arg27 k.val).2.2.2.2.2.2.2)).2.2.2.1 ++ (pb_k0_t2 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg1 v58 v1264 v1292 v1929 v1932 v1935 v1938 v1941 v1944 v1947 v1950 v1952 v1954 v1956 v1958 v1960 v1962 v1964 v1966 v2205 c2_i32_955 v2206 v2208 v2209 v2232 X_arg7 X_arg8 X_arg15 X_arg16 G_arg19 G_arg20 G_arg21 G_arg22 G_arg24 G_arg25 G_arg26 G_arg27 k.val).2.2.2.1, (tripL_k0_t2 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg1 v58 v1264 v1292 v1929 v1932 v1935 v1938 v1941 v1944 v1947 v1950 v1952 v1954 v1956 v1958 v1960 v1962 v1964 v1966 v2205 c2_i32_955 v2206 v2208 v2209 v2232 X_arg7 X_arg8 X_arg15 X_arg16 k (arg19.view.writes (Elt F) G_arg19 (pb_k0_t2 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg1 v58 v1264 v1292 v1929 v1932 v1935 v1938 v1941 v1944 v1947 v1950 v1952 v1954 v1956 v1958 v1960 v1962 v1964 v1966 v2205 c2_i32_955 v2206 v2208 v2209 v2232 X_arg7 X_arg8 X_arg15 X_arg16 G_arg19 G_arg20 G_arg21 G_arg22 G_arg24 G_arg25 G_arg26 G_arg27 k.val).1) (arg20.view.writes (Elt F) G_arg20 (pb_k0_t2 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg1 v58 v1264 v1292 v1929 v1932 v1935 v1938 v1941 v1944 v1947 v1950 v1952 v1954 v1956 v1958 v1960 v1962 v1964 v1966 v2205 c2_i32_955 v2206 v2208 v2209 v2232 X_arg7 X_arg8 X_arg15 X_arg16 G_arg19 G_arg20 G_arg21 G_arg22 G_arg24 G_arg25 G_arg26 G_arg27 k.val).2.1) (arg21.view.writes (Elt F) G_arg21 (pb_k0_t2 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg1 v58 v1264 v1292 v1929 v1932 v1935 v1938 v1941 v1944 v1947 v1950 v1952 v1954 v1956 v1958 v1960 v1962 v1964 v1966 v2205 c2_i32_955 v2206 v2208 v2209 v2232 X_arg7 X_arg8 X_arg15 X_arg16 G_arg19 G_arg20 G_arg21 G_arg22 G_arg24 G_arg25 G_arg26 G_arg27 k.val).2.2.1) (arg22.view.writes (Elt F) G_arg22 (pb_k0_t2 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg1 v58 v1264 v1292 v1929 v1932 v1935 v1938 v1941 v1944 v1947 v1950 v1952 v1954 v1956 v1958 v1960 v1962 v1964 v1966 v2205 c2_i32_955 v2206 v2208 v2209 v2232 X_arg7 X_arg8 X_arg15 X_arg16 G_arg19 G_arg20 G_arg21 G_arg22 G_arg24 G_arg25 G_arg26 G_arg27 k.val).2.2.2.1) (arg24.view.writes (Elt F) G_arg24 (pb_k0_t2 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg1 v58 v1264 v1292 v1929 v1932 v1935 v1938 v1941 v1944 v1947 v1950 v1952 v1954 v1956 v1958 v1960 v1962 v1964 v1966 v2205 c2_i32_955 v2206 v2208 v2209 v2232 X_arg7 X_arg8 X_arg15 X_arg16 G_arg19 G_arg20 G_arg21 G_arg22 G_arg24 G_arg25 G_arg26 G_arg27 k.val).2.2.2.2.1) (arg25.view.writes (Elt F) G_arg25 (pb_k0_t2 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg1 v58 v1264 v1292 v1929 v1932 v1935 v1938 v1941 v1944 v1947 v1950 v1952 v1954 v1956 v1958 v1960 v1962 v1964 v1966 v2205 c2_i32_955 v2206 v2208 v2209 v2232 X_arg7 X_arg8 X_arg15 X_arg16 G_arg19 G_arg20 G_arg21 G_arg22 G_arg24 G_arg25 G_arg26 G_arg27 k.val).2.2.2.2.2.1) (arg26.view.writes (Elt F) G_arg26 (pb_k0_t2 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg1 v58 v1264 v1292 v1929 v1932 v1935 v1938 v1941 v1944 v1947 v1950 v1952 v1954 v1956 v1958 v1960 v1962 v1964 v1966 v2205 c2_i32_955 v2206 v2208 v2209 v2232 X_arg7 X_arg8 X_arg15 X_arg16 G_arg19 G_arg20 G_arg21 G_arg22 G_arg24 G_arg25 G_arg26 G_arg27 k.val).2.2.2.2.2.2.1) (arg27.view.writes (Elt F) G_arg27 (pb_k0_t2 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg1 v58 v1264 v1292 v1929 v1932 v1935 v1938 v1941 v1944 v1947 v1950 v1952 v1954 v1956 v1958 v1960 v1962 v1964 v1966 v2205 c2_i32_955 v2206 v2208 v2209 v2232 X_arg7 X_arg8 X_arg15 X_arg16 G_arg19 G_arg20 G_arg21 G_arg22 G_arg24 G_arg25 G_arg26 G_arg27 k.val).2.2.2.2.2.2.2)).2.2.2.2.1 ++ (pb_k0_t2 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg1 v58 v1264 v1292 v1929 v1932 v1935 v1938 v1941 v1944 v1947 v1950 v1952 v1954 v1956 v1958 v1960 v1962 v1964 v1966 v2205 c2_i32_955 v2206 v2208 v2209 v2232 X_arg7 X_arg8 X_arg15 X_arg16 G_arg19 G_arg20 G_arg21 G_arg22 G_arg24 G_arg25 G_arg26 G_arg27 k.val).2.2.2.2.1, (tripL_k0_t2 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg1 v58 v1264 v1292 v1929 v1932 v1935 v1938 v1941 v1944 v1947 v1950 v1952 v1954 v1956 v1958 v1960 v1962 v1964 v1966 v2205 c2_i32_955 v2206 v2208 v2209 v2232 X_arg7 X_arg8 X_arg15 X_arg16 k (arg19.view.writes (Elt F) G_arg19 (pb_k0_t2 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg1 v58 v1264 v1292 v1929 v1932 v1935 v1938 v1941 v1944 v1947 v1950 v1952 v1954 v1956 v1958 v1960 v1962 v1964 v1966 v2205 c2_i32_955 v2206 v2208 v2209 v2232 X_arg7 X_arg8 X_arg15 X_arg16 G_arg19 G_arg20 G_arg21 G_arg22 G_arg24 G_arg25 G_arg26 G_arg27 k.val).1) (arg20.view.writes (Elt F) G_arg20 (pb_k0_t2 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg1 v58 v1264 v1292 v1929 v1932 v1935 v1938 v1941 v1944 v1947 v1950 v1952 v1954 v1956 v1958 v1960 v1962 v1964 v1966 v2205 c2_i32_955 v2206 v2208 v2209 v2232 X_arg7 X_arg8 X_arg15 X_arg16 G_arg19 G_arg20 G_arg21 G_arg22 G_arg24 G_arg25 G_arg26 G_arg27 k.val).2.1) (arg21.view.writes (Elt F) G_arg21 (pb_k0_t2 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg1 v58 v1264 v1292 v1929 v1932 v1935 v1938 v1941 v1944 v1947 v1950 v1952 v1954 v1956 v1958 v1960 v1962 v1964 v1966 v2205 c2_i32_955 v2206 v2208 v2209 v2232 X_arg7 X_arg8 X_arg15 X_arg16 G_arg19 G_arg20 G_arg21 G_arg22 G_arg24 G_arg25 G_arg26 G_arg27 k.val).2.2.1) (arg22.view.writes (Elt F) G_arg22 (pb_k0_t2 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg1 v58 v1264 v1292 v1929 v1932 v1935 v1938 v1941 v1944 v1947 v1950 v1952 v1954 v1956 v1958 v1960 v1962 v1964 v1966 v2205 c2_i32_955 v2206 v2208 v2209 v2232 X_arg7 X_arg8 X_arg15 X_arg16 G_arg19 G_arg20 G_arg21 G_arg22 G_arg24 G_arg25 G_arg26 G_arg27 k.val).2.2.2.1) (arg24.view.writes (Elt F) G_arg24 (pb_k0_t2 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg1 v58 v1264 v1292 v1929 v1932 v1935 v1938 v1941 v1944 v1947 v1950 v1952 v1954 v1956 v1958 v1960 v1962 v1964 v1966 v2205 c2_i32_955 v2206 v2208 v2209 v2232 X_arg7 X_arg8 X_arg15 X_arg16 G_arg19 G_arg20 G_arg21 G_arg22 G_arg24 G_arg25 G_arg26 G_arg27 k.val).2.2.2.2.1) (arg25.view.writes (Elt F) G_arg25 (pb_k0_t2 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg1 v58 v1264 v1292 v1929 v1932 v1935 v1938 v1941 v1944 v1947 v1950 v1952 v1954 v1956 v1958 v1960 v1962 v1964 v1966 v2205 c2_i32_955 v2206 v2208 v2209 v2232 X_arg7 X_arg8 X_arg15 X_arg16 G_arg19 G_arg20 G_arg21 G_arg22 G_arg24 G_arg25 G_arg26 G_arg27 k.val).2.2.2.2.2.1) (arg26.view.writes (Elt F) G_arg26 (pb_k0_t2 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg1 v58 v1264 v1292 v1929 v1932 v1935 v1938 v1941 v1944 v1947 v1950 v1952 v1954 v1956 v1958 v1960 v1962 v1964 v1966 v2205 c2_i32_955 v2206 v2208 v2209 v2232 X_arg7 X_arg8 X_arg15 X_arg16 G_arg19 G_arg20 G_arg21 G_arg22 G_arg24 G_arg25 G_arg26 G_arg27 k.val).2.2.2.2.2.2.1) (arg27.view.writes (Elt F) G_arg27 (pb_k0_t2 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg1 v58 v1264 v1292 v1929 v1932 v1935 v1938 v1941 v1944 v1947 v1950 v1952 v1954 v1956 v1958 v1960 v1962 v1964 v1966 v2205 c2_i32_955 v2206 v2208 v2209 v2232 X_arg7 X_arg8 X_arg15 X_arg16 G_arg19 G_arg20 G_arg21 G_arg22 G_arg24 G_arg25 G_arg26 G_arg27 k.val).2.2.2.2.2.2.2)).2.2.2.2.2.1 ++ (pb_k0_t2 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg1 v58 v1264 v1292 v1929 v1932 v1935 v1938 v1941 v1944 v1947 v1950 v1952 v1954 v1956 v1958 v1960 v1962 v1964 v1966 v2205 c2_i32_955 v2206 v2208 v2209 v2232 X_arg7 X_arg8 X_arg15 X_arg16 G_arg19 G_arg20 G_arg21 G_arg22 G_arg24 G_arg25 G_arg26 G_arg27 k.val).2.2.2.2.2.1, (tripL_k0_t2 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg1 v58 v1264 v1292 v1929 v1932 v1935 v1938 v1941 v1944 v1947 v1950 v1952 v1954 v1956 v1958 v1960 v1962 v1964 v1966 v2205 c2_i32_955 v2206 v2208 v2209 v2232 X_arg7 X_arg8 X_arg15 X_arg16 k (arg19.view.writes (Elt F) G_arg19 (pb_k0_t2 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg1 v58 v1264 v1292 v1929 v1932 v1935 v1938 v1941 v1944 v1947 v1950 v1952 v1954 v1956 v1958 v1960 v1962 v1964 v1966 v2205 c2_i32_955 v2206 v2208 v2209 v2232 X_arg7 X_arg8 X_arg15 X_arg16 G_arg19 G_arg20 G_arg21 G_arg22 G_arg24 G_arg25 G_arg26 G_arg27 k.val).1) (arg20.view.writes (Elt F) G_arg20 (pb_k0_t2 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg1 v58 v1264 v1292 v1929 v1932 v1935 v1938 v1941 v1944 v1947 v1950 v1952 v1954 v1956 v1958 v1960 v1962 v1964 v1966 v2205 c2_i32_955 v2206 v2208 v2209 v2232 X_arg7 X_arg8 X_arg15 X_arg16 G_arg19 G_arg20 G_arg21 G_arg22 G_arg24 G_arg25 G_arg26 G_arg27 k.val).2.1) (arg21.view.writes (Elt F) G_arg21 (pb_k0_t2 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg1 v58 v1264 v1292 v1929 v1932 v1935 v1938 v1941 v1944 v1947 v1950 v1952 v1954 v1956 v1958 v1960 v1962 v1964 v1966 v2205 c2_i32_955 v2206 v2208 v2209 v2232 X_arg7 X_arg8 X_arg15 X_arg16 G_arg19 G_arg20 G_arg21 G_arg22 G_arg24 G_arg25 G_arg26 G_arg27 k.val).2.2.1) (arg22.view.writes (Elt F) G_arg22 (pb_k0_t2 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg1 v58 v1264 v1292 v1929 v1932 v1935 v1938 v1941 v1944 v1947 v1950 v1952 v1954 v1956 v1958 v1960 v1962 v1964 v1966 v2205 c2_i32_955 v2206 v2208 v2209 v2232 X_arg7 X_arg8 X_arg15 X_arg16 G_arg19 G_arg20 G_arg21 G_arg22 G_arg24 G_arg25 G_arg26 G_arg27 k.val).2.2.2.1) (arg24.view.writes (Elt F) G_arg24 (pb_k0_t2 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg1 v58 v1264 v1292 v1929 v1932 v1935 v1938 v1941 v1944 v1947 v1950 v1952 v1954 v1956 v1958 v1960 v1962 v1964 v1966 v2205 c2_i32_955 v2206 v2208 v2209 v2232 X_arg7 X_arg8 X_arg15 X_arg16 G_arg19 G_arg20 G_arg21 G_arg22 G_arg24 G_arg25 G_arg26 G_arg27 k.val).2.2.2.2.1) (arg25.view.writes (Elt F) G_arg25 (pb_k0_t2 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg1 v58 v1264 v1292 v1929 v1932 v1935 v1938 v1941 v1944 v1947 v1950 v1952 v1954 v1956 v1958 v1960 v1962 v1964 v1966 v2205 c2_i32_955 v2206 v2208 v2209 v2232 X_arg7 X_arg8 X_arg15 X_arg16 G_arg19 G_arg20 G_arg21 G_arg22 G_arg24 G_arg25 G_arg26 G_arg27 k.val).2.2.2.2.2.1) (arg26.view.writes (Elt F) G_arg26 (pb_k0_t2 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg1 v58 v1264 v1292 v1929 v1932 v1935 v1938 v1941 v1944 v1947 v1950 v1952 v1954 v1956 v1958 v1960 v1962 v1964 v1966 v2205 c2_i32_955 v2206 v2208 v2209 v2232 X_arg7 X_arg8 X_arg15 X_arg16 G_arg19 G_arg20 G_arg21 G_arg22 G_arg24 G_arg25 G_arg26 G_arg27 k.val).2.2.2.2.2.2.1) (arg27.view.writes (Elt F) G_arg27 (pb_k0_t2 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg1 v58 v1264 v1292 v1929 v1932 v1935 v1938 v1941 v1944 v1947 v1950 v1952 v1954 v1956 v1958 v1960 v1962 v1964 v1966 v2205 c2_i32_955 v2206 v2208 v2209 v2232 X_arg7 X_arg8 X_arg15 X_arg16 G_arg19 G_arg20 G_arg21 G_arg22 G_arg24 G_arg25 G_arg26 G_arg27 k.val).2.2.2.2.2.2.2)).2.2.2.2.2.2.1 ++ (pb_k0_t2 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg1 v58 v1264 v1292 v1929 v1932 v1935 v1938 v1941 v1944 v1947 v1950 v1952 v1954 v1956 v1958 v1960 v1962 v1964 v1966 v2205 c2_i32_955 v2206 v2208 v2209 v2232 X_arg7 X_arg8 X_arg15 X_arg16 G_arg19 G_arg20 G_arg21 G_arg22 G_arg24 G_arg25 G_arg26 G_arg27 k.val).2.2.2.2.2.2.1, (tripL_k0_t2 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg1 v58 v1264 v1292 v1929 v1932 v1935 v1938 v1941 v1944 v1947 v1950 v1952 v1954 v1956 v1958 v1960 v1962 v1964 v1966 v2205 c2_i32_955 v2206 v2208 v2209 v2232 X_arg7 X_arg8 X_arg15 X_arg16 k (arg19.view.writes (Elt F) G_arg19 (pb_k0_t2 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg1 v58 v1264 v1292 v1929 v1932 v1935 v1938 v1941 v1944 v1947 v1950 v1952 v1954 v1956 v1958 v1960 v1962 v1964 v1966 v2205 c2_i32_955 v2206 v2208 v2209 v2232 X_arg7 X_arg8 X_arg15 X_arg16 G_arg19 G_arg20 G_arg21 G_arg22 G_arg24 G_arg25 G_arg26 G_arg27 k.val).1) (arg20.view.writes (Elt F) G_arg20 (pb_k0_t2 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg1 v58 v1264 v1292 v1929 v1932 v1935 v1938 v1941 v1944 v1947 v1950 v1952 v1954 v1956 v1958 v1960 v1962 v1964 v1966 v2205 c2_i32_955 v2206 v2208 v2209 v2232 X_arg7 X_arg8 X_arg15 X_arg16 G_arg19 G_arg20 G_arg21 G_arg22 G_arg24 G_arg25 G_arg26 G_arg27 k.val).2.1) (arg21.view.writes (Elt F) G_arg21 (pb_k0_t2 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg1 v58 v1264 v1292 v1929 v1932 v1935 v1938 v1941 v1944 v1947 v1950 v1952 v1954 v1956 v1958 v1960 v1962 v1964 v1966 v2205 c2_i32_955 v2206 v2208 v2209 v2232 X_arg7 X_arg8 X_arg15 X_arg16 G_arg19 G_arg20 G_arg21 G_arg22 G_arg24 G_arg25 G_arg26 G_arg27 k.val).2.2.1) (arg22.view.writes (Elt F) G_arg22 (pb_k0_t2 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg1 v58 v1264 v1292 v1929 v1932 v1935 v1938 v1941 v1944 v1947 v1950 v1952 v1954 v1956 v1958 v1960 v1962 v1964 v1966 v2205 c2_i32_955 v2206 v2208 v2209 v2232 X_arg7 X_arg8 X_arg15 X_arg16 G_arg19 G_arg20 G_arg21 G_arg22 G_arg24 G_arg25 G_arg26 G_arg27 k.val).2.2.2.1) (arg24.view.writes (Elt F) G_arg24 (pb_k0_t2 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg1 v58 v1264 v1292 v1929 v1932 v1935 v1938 v1941 v1944 v1947 v1950 v1952 v1954 v1956 v1958 v1960 v1962 v1964 v1966 v2205 c2_i32_955 v2206 v2208 v2209 v2232 X_arg7 X_arg8 X_arg15 X_arg16 G_arg19 G_arg20 G_arg21 G_arg22 G_arg24 G_arg25 G_arg26 G_arg27 k.val).2.2.2.2.1) (arg25.view.writes (Elt F) G_arg25 (pb_k0_t2 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg1 v58 v1264 v1292 v1929 v1932 v1935 v1938 v1941 v1944 v1947 v1950 v1952 v1954 v1956 v1958 v1960 v1962 v1964 v1966 v2205 c2_i32_955 v2206 v2208 v2209 v2232 X_arg7 X_arg8 X_arg15 X_arg16 G_arg19 G_arg20 G_arg21 G_arg22 G_arg24 G_arg25 G_arg26 G_arg27 k.val).2.2.2.2.2.1) (arg26.view.writes (Elt F) G_arg26 (pb_k0_t2 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg1 v58 v1264 v1292 v1929 v1932 v1935 v1938 v1941 v1944 v1947 v1950 v1952 v1954 v1956 v1958 v1960 v1962 v1964 v1966 v2205 c2_i32_955 v2206 v2208 v2209 v2232 X_arg7 X_arg8 X_arg15 X_arg16 G_arg19 G_arg20 G_arg21 G_arg22 G_arg24 G_arg25 G_arg26 G_arg27 k.val).2.2.2.2.2.2.1) (arg27.view.writes (Elt F) G_arg27 (pb_k0_t2 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg1 v58 v1264 v1292 v1929 v1932 v1935 v1938 v1941 v1944 v1947 v1950 v1952 v1954 v1956 v1958 v1960 v1962 v1964 v1966 v2205 c2_i32_955 v2206 v2208 v2209 v2232 X_arg7 X_arg8 X_arg15 X_arg16 G_arg19 G_arg20 G_arg21 G_arg22 G_arg24 G_arg25 G_arg26 G_arg27 k.val).2.2.2.2.2.2.2)).2.2.2.2.2.2.2 ++ (pb_k0_t2 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg1 v58 v1264 v1292 v1929 v1932 v1935 v1938 v1941 v1944 v1947 v1950 v1952 v1954 v1956 v1958 v1960 v1962 v1964 v1966 v2205 c2_i32_955 v2206 v2208 v2209 v2232 X_arg7 X_arg8 X_arg15 X_arg16 G_arg19 G_arg20 G_arg21 G_arg22 G_arg24 G_arg25 G_arg26 G_arg27 k.val).2.2.2.2.2.2.2) := by
  rw [pb_k0_t2.eq_2]; unfold pb_k0_t2Step; exact dif_pos k.isLt

abbrev inv_k0_t2 (𝒱 : Variants) (c : Dev nD) (bd : Option 𝒱.V) (i : grid0.Coords) (arg2 : Memref sig .tc .vmem S1x512x256 .bf16) (harg2 : arg2.IsWhole) (arg3 : Memref sig .tc .vmem S1x512x256 .bf16) (harg3 : arg3.IsWhole) (arg4 : Memref sig .tc .vmem S1x2x16x256 .f32) (harg4 : arg4.IsWhole) (arg5 : Memref sig .tc .vmem S1x256x128 .bf16) (harg5 : arg5.IsWhole) (arg6 : Memref sig .tc .vmem S1x2x80x256 .bf16) (harg6 : arg6.IsWhole) (arg7 : Memref sig .tc .vmem S1x16x256x256 .bf16) (harg7 : arg7.IsWhole) (arg8 : Memref sig .tc .vmem S1x2x16x80x256 .bf16) (harg8 : arg8.IsWhole) (arg9 : Memref sig .tc .vmem S1x16x256x128 .bf16) (harg9 : arg9.IsWhole) (arg10 : Memref sig .tc .vmem S1x2x16x80x256 .bf16) (harg10 : arg10.IsWhole) (arg11 : Memref sig .tc .vmem S64x256 .bf16) (harg11 : arg11.IsWhole) (arg12 : Memref sig .tc .vmem S1x512x256 .bf16) (harg12 : arg12.IsWhole) (arg13 : Memref sig .tc .vmem S1x512x256 .bf16) (harg13 : arg13.IsWhole) (arg14 : Memref sig .tc .vmem S1x8x16x64 .f32) (harg14 : arg14.IsWhole) (arg15 : Memref sig .tc .vmem S1x16x256x1024 .bf16) (harg15 : arg15.IsWhole) (arg16 : Memref sig .tc .vmem S1x8x16x80x256 .bf16) (harg16 : arg16.IsWhole) (arg17 : Memref sig .tc .vmem S1x512x256 .bf16) (harg17 : arg17.IsWhole) (arg18 : Memref sig .tc .vmem S1x512x256 .bf16) (harg18 : arg18.IsWhole) (arg19 : Memref sig .tc .vmem S2x256x2048 .f32) (harg19 : arg19.IsWhole) (arg20 : Memref sig .tc .vmem S2x1x2048 .f32) (harg20 : arg20.IsWhole) (arg21 : Memref sig .tc .vmem S1x2048 .f32) (harg21 : arg21.IsWhole) (arg22 : Memref sig .tc .vmem S80x2048 .f32) (harg22 : arg22.IsWhole) (arg23 : Memref sig .tc .vmem S64x512 .f32) (harg23 : arg23.IsWhole) (arg24 : Memref sig .tc .vmem S2x256x2048 .f32) (harg24 : arg24.IsWhole) (arg25 : Memref sig .tc .vmem S2x1x2048 .f32) (harg25 : arg25.IsWhole) (arg26 : Memref sig .tc .vmem S1x2048 .f32) (harg26 : arg26.IsWhole) (arg27 : Memref sig .tc .vmem S80x2048 .f32) (harg27 : arg27.IsWhole) (arg1 : BitVec 32) (v58 : IVec S256x2048 1) (v1264 : FVec F S256x2048 .bf16) (v1292 : BitVec 32) (v1929 : FVec F S256x256 .bf16) (v1932 : FVec F S256x256 .bf16) (v1935 : FVec F S256x256 .bf16) (v1938 : FVec F S256x256 .bf16) (v1941 : FVec F S256x256 .bf16) (v1944 : FVec F S256x256 .bf16) (v1947 : FVec F S256x256 .bf16) (v1950 : FVec F S256x256 .bf16) (v1952 : FVec F S256x256 .bf16) (v1954 : FVec F S256x256 .bf16) (v1956 : FVec F S256x256 .bf16) (v1958 : FVec F S256x256 .bf16) (v1960 : FVec F S256x256 .bf16) (v1962 : FVec F S256x256 .bf16) (v1964 : FVec F S256x256 .bf16) (v1966 : FVec F S256x256 .bf16) (v2205 : BitVec 32) (c2_i32_955 : BitVec 32) (v2206 : BitVec 32) (v2208 : BitVec 32) (v2209 : BitVec 1) (v2232 : BitVec 32) (X_arg7 : BufTy.Contents (Elt F) arg7.view.ty) (X_arg8 : BufTy.Contents (Elt F) arg8.view.ty) (X_arg15 : BufTy.Contents (Elt F) arg15.view.ty) (X_arg16 : BufTy.Contents (Elt F) arg16.view.ty) (G_arg19 : BufTy.Contents (Elt F) arg19.view.ty) (G_arg20 : BufTy.Contents (Elt F) arg20.view.ty) (G_arg21 : BufTy.Contents (Elt F) arg21.view.ty) (G_arg22 : BufTy.Contents (Elt F) arg22.view.ty) (G_arg24 : BufTy.Contents (Elt F) arg24.view.ty) (G_arg25 : BufTy.Contents (Elt F) arg25.view.ty) (G_arg26 : BufTy.Contents (Elt F) arg26.view.ty) (G_arg27 : BufTy.Contents (Elt F) arg27.view.ty) (k : ℕ) (_u : PUnit) : sProp 𝕄G :=
  iprop((arg7.view.loc (c : Thread nD τ) ↦[arg7.view.set]{fullShare} X_arg7) ∗ (arg8.view.loc (c : Thread nD τ) ↦[arg8.view.set]{fullShare} X_arg8) ∗ (arg15.view.loc (c : Thread nD τ) ↦[arg15.view.set]{fullShare} X_arg15) ∗ (arg16.view.loc (c : Thread nD τ) ↦[arg16.view.set]{fullShare} X_arg16) ∗ (∃ f, (arg19.view.loc (c : Thread nD τ) ↦[arg19.view.set]{fullShare} f) ∗ ⌜f = arg19.view.writes (Elt F) G_arg19 (pb_k0_t2 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg1 v58 v1264 v1292 v1929 v1932 v1935 v1938 v1941 v1944 v1947 v1950 v1952 v1954 v1956 v1958 v1960 v1962 v1964 v1966 v2205 c2_i32_955 v2206 v2208 v2209 v2232 X_arg7 X_arg8 X_arg15 X_arg16 G_arg19 G_arg20 G_arg21 G_arg22 G_arg24 G_arg25 G_arg26 G_arg27 k).1⌝) ∗ (∃ f, (arg20.view.loc (c : Thread nD τ) ↦[arg20.view.set]{fullShare} f) ∗ ⌜f = arg20.view.writes (Elt F) G_arg20 (pb_k0_t2 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg1 v58 v1264 v1292 v1929 v1932 v1935 v1938 v1941 v1944 v1947 v1950 v1952 v1954 v1956 v1958 v1960 v1962 v1964 v1966 v2205 c2_i32_955 v2206 v2208 v2209 v2232 X_arg7 X_arg8 X_arg15 X_arg16 G_arg19 G_arg20 G_arg21 G_arg22 G_arg24 G_arg25 G_arg26 G_arg27 k).2.1⌝) ∗ (∃ f, (arg21.view.loc (c : Thread nD τ) ↦[arg21.view.set]{fullShare} f) ∗ ⌜f = arg21.view.writes (Elt F) G_arg21 (pb_k0_t2 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg1 v58 v1264 v1292 v1929 v1932 v1935 v1938 v1941 v1944 v1947 v1950 v1952 v1954 v1956 v1958 v1960 v1962 v1964 v1966 v2205 c2_i32_955 v2206 v2208 v2209 v2232 X_arg7 X_arg8 X_arg15 X_arg16 G_arg19 G_arg20 G_arg21 G_arg22 G_arg24 G_arg25 G_arg26 G_arg27 k).2.2.1⌝) ∗ (∃ f, (arg22.view.loc (c : Thread nD τ) ↦[arg22.view.set]{fullShare} f) ∗ ⌜f = arg22.view.writes (Elt F) G_arg22 (pb_k0_t2 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg1 v58 v1264 v1292 v1929 v1932 v1935 v1938 v1941 v1944 v1947 v1950 v1952 v1954 v1956 v1958 v1960 v1962 v1964 v1966 v2205 c2_i32_955 v2206 v2208 v2209 v2232 X_arg7 X_arg8 X_arg15 X_arg16 G_arg19 G_arg20 G_arg21 G_arg22 G_arg24 G_arg25 G_arg26 G_arg27 k).2.2.2.1⌝) ∗ (∃ f, (arg24.view.loc (c : Thread nD τ) ↦[arg24.view.set]{fullShare} f) ∗ ⌜f = arg24.view.writes (Elt F) G_arg24 (pb_k0_t2 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg1 v58 v1264 v1292 v1929 v1932 v1935 v1938 v1941 v1944 v1947 v1950 v1952 v1954 v1956 v1958 v1960 v1962 v1964 v1966 v2205 c2_i32_955 v2206 v2208 v2209 v2232 X_arg7 X_arg8 X_arg15 X_arg16 G_arg19 G_arg20 G_arg21 G_arg22 G_arg24 G_arg25 G_arg26 G_arg27 k).2.2.2.2.1⌝) ∗ (∃ f, (arg25.view.loc (c : Thread nD τ) ↦[arg25.view.set]{fullShare} f) ∗ ⌜f = arg25.view.writes (Elt F) G_arg25 (pb_k0_t2 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg1 v58 v1264 v1292 v1929 v1932 v1935 v1938 v1941 v1944 v1947 v1950 v1952 v1954 v1956 v1958 v1960 v1962 v1964 v1966 v2205 c2_i32_955 v2206 v2208 v2209 v2232 X_arg7 X_arg8 X_arg15 X_arg16 G_arg19 G_arg20 G_arg21 G_arg22 G_arg24 G_arg25 G_arg26 G_arg27 k).2.2.2.2.2.1⌝) ∗ (∃ f, (arg26.view.loc (c : Thread nD τ) ↦[arg26.view.set]{fullShare} f) ∗ ⌜f = arg26.view.writes (Elt F) G_arg26 (pb_k0_t2 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg1 v58 v1264 v1292 v1929 v1932 v1935 v1938 v1941 v1944 v1947 v1950 v1952 v1954 v1956 v1958 v1960 v1962 v1964 v1966 v2205 c2_i32_955 v2206 v2208 v2209 v2232 X_arg7 X_arg8 X_arg15 X_arg16 G_arg19 G_arg20 G_arg21 G_arg22 G_arg24 G_arg25 G_arg26 G_arg27 k).2.2.2.2.2.2.1⌝) ∗ (∃ f, (arg27.view.loc (c : Thread nD τ) ↦[arg27.view.set]{fullShare} f) ∗ ⌜f = arg27.view.writes (Elt F) G_arg27 (pb_k0_t2 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg1 v58 v1264 v1292 v1929 v1932 v1935 v1938 v1941 v1944 v1947 v1950 v1952 v1954 v1956 v1958 v1960 v1962 v1964 v1966 v2205 c2_i32_955 v2206 v2208 v2209 v2232 X_arg7 X_arg8 X_arg15 X_arg16 G_arg19 G_arg20 G_arg21 G_arg22 G_arg24 G_arg25 G_arg26 G_arg27 k).2.2.2.2.2.2.2⌝))

set_option warn.classDefReducibility false in
@[sl_loop] def loopInv_k0_t2 (𝒱 : Variants) (c : Dev nD) (bd : Option 𝒱.V) (E : Set ℕ) (i : grid0.Coords) (arg2 : Memref sig .tc .vmem S1x512x256 .bf16) (harg2 : arg2.IsWhole) (arg3 : Memref sig .tc .vmem S1x512x256 .bf16) (harg3 : arg3.IsWhole) (arg4 : Memref sig .tc .vmem S1x2x16x256 .f32) (harg4 : arg4.IsWhole) (arg5 : Memref sig .tc .vmem S1x256x128 .bf16) (harg5 : arg5.IsWhole) (arg6 : Memref sig .tc .vmem S1x2x80x256 .bf16) (harg6 : arg6.IsWhole) (arg7 : Memref sig .tc .vmem S1x16x256x256 .bf16) (harg7 : arg7.IsWhole) (arg8 : Memref sig .tc .vmem S1x2x16x80x256 .bf16) (harg8 : arg8.IsWhole) (arg9 : Memref sig .tc .vmem S1x16x256x128 .bf16) (harg9 : arg9.IsWhole) (arg10 : Memref sig .tc .vmem S1x2x16x80x256 .bf16) (harg10 : arg10.IsWhole) (arg11 : Memref sig .tc .vmem S64x256 .bf16) (harg11 : arg11.IsWhole) (arg12 : Memref sig .tc .vmem S1x512x256 .bf16) (harg12 : arg12.IsWhole) (arg13 : Memref sig .tc .vmem S1x512x256 .bf16) (harg13 : arg13.IsWhole) (arg14 : Memref sig .tc .vmem S1x8x16x64 .f32) (harg14 : arg14.IsWhole) (arg15 : Memref sig .tc .vmem S1x16x256x1024 .bf16) (harg15 : arg15.IsWhole) (arg16 : Memref sig .tc .vmem S1x8x16x80x256 .bf16) (harg16 : arg16.IsWhole) (arg17 : Memref sig .tc .vmem S1x512x256 .bf16) (harg17 : arg17.IsWhole) (arg18 : Memref sig .tc .vmem S1x512x256 .bf16) (harg18 : arg18.IsWhole) (arg19 : Memref sig .tc .vmem S2x256x2048 .f32) (harg19 : arg19.IsWhole) (arg20 : Memref sig .tc .vmem S2x1x2048 .f32) (harg20 : arg20.IsWhole) (arg21 : Memref sig .tc .vmem S1x2048 .f32) (harg21 : arg21.IsWhole) (arg22 : Memref sig .tc .vmem S80x2048 .f32) (harg22 : arg22.IsWhole) (arg23 : Memref sig .tc .vmem S64x512 .f32) (harg23 : arg23.IsWhole) (arg24 : Memref sig .tc .vmem S2x256x2048 .f32) (harg24 : arg24.IsWhole) (arg25 : Memref sig .tc .vmem S2x1x2048 .f32) (harg25 : arg25.IsWhole) (arg26 : Memref sig .tc .vmem S1x2048 .f32) (harg26 : arg26.IsWhole) (arg27 : Memref sig .tc .vmem S80x2048 .f32) (harg27 : arg27.IsWhole) (arg1 : BitVec 32) (v58 : IVec S256x2048 1) (v1264 : FVec F S256x2048 .bf16) (v1292 : BitVec 32) (v1929 : FVec F S256x256 .bf16) (v1932 : FVec F S256x256 .bf16) (v1935 : FVec F S256x256 .bf16) (v1938 : FVec F S256x256 .bf16) (v1941 : FVec F S256x256 .bf16) (v1944 : FVec F S256x256 .bf16) (v1947 : FVec F S256x256 .bf16) (v1950 : FVec F S256x256 .bf16) (v1952 : FVec F S256x256 .bf16) (v1954 : FVec F S256x256 .bf16) (v1956 : FVec F S256x256 .bf16) (v1958 : FVec F S256x256 .bf16) (v1960 : FVec F S256x256 .bf16) (v1962 : FVec F S256x256 .bf16) (v1964 : FVec F S256x256 .bf16) (v1966 : FVec F S256x256 .bf16) (v2205 : BitVec 32) (c2_i32_955 : BitVec 32) (v2206 : BitVec 32) (v2208 : BitVec 32) (v2209 : BitVec 1) (v2232 : BitVec 32) (X_arg7 : BufTy.Contents (Elt F) arg7.view.ty) (X_arg8 : BufTy.Contents (Elt F) arg8.view.ty) (X_arg15 : BufTy.Contents (Elt F) arg15.view.ty) (X_arg16 : BufTy.Contents (Elt F) arg16.view.ty) (G_arg19 : BufTy.Contents (Elt F) arg19.view.ty) (G_arg20 : BufTy.Contents (Elt F) arg20.view.ty) (G_arg21 : BufTy.Contents (Elt F) arg21.view.ty) (G_arg22 : BufTy.Contents (Elt F) arg22.view.ty) (G_arg24 : BufTy.Contents (Elt F) arg24.view.ty) (G_arg25 : BufTy.Contents (Elt F) arg25.view.ty) (G_arg26 : BufTy.Contents (Elt F) arg26.view.ty) (G_arg27 : BufTy.Contents (Elt F) arg27.view.ty) :
    LoopInvTy_k0_t2 (F := F) Unit ℕ (UR sig nD τ) ℕ 𝒱 c bd E i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg1 v58 v1264 v1292 v1929 v1932 v1935 v1938 v1941 v1944 v1947 v1950 v1952 v1954 v1956 v1958 v1960 v1962 v1964 v1966 v2205 c2_i32_955 v2206 v2208 v2209 v2232 where
  inv := inv_k0_t2 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg1 v58 v1264 v1292 v1929 v1932 v1935 v1938 v1941 v1944 v1947 v1950 v1952 v1954 v1956 v1958 v1960 v1962 v1964 v1966 v2205 c2_i32_955 v2206 v2208 v2209 v2232 X_arg7 X_arg8 X_arg15 X_arg16 G_arg19 G_arg20 G_arg21 G_arg22 G_arg24 G_arg25 G_arg26 G_arg27
  step k acc := by
    iintro ⟨HR_arg7, HR_arg8, HR_arg15, HR_arg16, ⟨%f_arg19, HW_arg19, %h_arg19⟩, ⟨%f_arg20, HW_arg20, %h_arg20⟩, ⟨%f_arg21, HW_arg21, %h_arg21⟩, ⟨%f_arg22, HW_arg22, %h_arg22⟩, ⟨%f_arg24, HW_arg24, %h_arg24⟩, ⟨%f_arg25, HW_arg25, %h_arg25⟩, ⟨%f_arg26, HW_arg26, %h_arg26⟩, ⟨%f_arg27, HW_arg27, %h_arg27⟩⟩
    iapply (wp_wand_r Idealize.ShloMosaic.frame (wpE (defs₀ (F := F)) 𝒱 (c : Thread nD τ) bd) E)
    isplitl [HR_arg7 HR_arg8 HR_arg15 HR_arg16 HW_arg19 HW_arg20 HW_arg21 HW_arg22 HW_arg24 HW_arg25 HW_arg26 HW_arg27]
    · iapply ((trip_k0_t2 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg1 v58 v1264 v1292 v1929 v1932 v1935 v1938 v1941 v1944 v1947 v1950 v1952 v1954 v1956 v1958 v1960 v1962 v1964 v1966 v2205 c2_i32_955 v2206 v2208 v2209 v2232 X_arg7 X_arg8 X_arg15 X_arg16 k).2.2.2.2.2.2.2.2 E f_arg19 f_arg20 f_arg21 f_arg22 f_arg24 f_arg25 f_arg26 f_arg27)
      isplitl [HR_arg7]; · iexact HR_arg7
      isplitl [HR_arg8]; · iexact HR_arg8
      isplitl [HR_arg15]; · iexact HR_arg15
      isplitl [HR_arg16]; · iexact HR_arg16
      isplitl [HW_arg19]; · iexact HW_arg19
      isplitl [HW_arg20]; · iexact HW_arg20
      isplitl [HW_arg21]; · iexact HW_arg21
      isplitl [HW_arg22]; · iexact HW_arg22
      isplitl [HW_arg24]; · iexact HW_arg24
      isplitl [HW_arg25]; · iexact HW_arg25
      isplitl [HW_arg26]; · iexact HW_arg26
      iexact HW_arg27
    · iintro %_ ⟨HR_arg7, HR_arg8, HR_arg15, HR_arg16, HW_arg19, HW_arg20, HW_arg21, HW_arg22, HW_arg24, HW_arg25, HW_arg26, HW_arg27⟩
      isplitl [HR_arg7]; · iexact HR_arg7
      isplitl [HR_arg8]; · iexact HR_arg8
      isplitl [HR_arg15]; · iexact HR_arg15
      isplitl [HR_arg16]; · iexact HR_arg16
      rw [pb_k0_t2_succ]
      isplitl [HW_arg19]
      · iexists _; isplitl [HW_arg19]; · iexact HW_arg19
        ipureintro; rw [h_arg19, h_arg20, h_arg21, h_arg22, h_arg24, h_arg25, h_arg26, h_arg27, ← View.writes_append]
      isplitl [HW_arg20]
      · iexists _; isplitl [HW_arg20]; · iexact HW_arg20
        ipureintro; rw [h_arg19, h_arg20, h_arg21, h_arg22, h_arg24, h_arg25, h_arg26, h_arg27, ← View.writes_append]
      isplitl [HW_arg21]
      · iexists _; isplitl [HW_arg21]; · iexact HW_arg21
        ipureintro; rw [h_arg19, h_arg20, h_arg21, h_arg22, h_arg24, h_arg25, h_arg26, h_arg27, ← View.writes_append]
      isplitl [HW_arg22]
      · iexists _; isplitl [HW_arg22]; · iexact HW_arg22
        ipureintro; rw [h_arg19, h_arg20, h_arg21, h_arg22, h_arg24, h_arg25, h_arg26, h_arg27, ← View.writes_append]
      isplitl [HW_arg24]
      · iexists _; isplitl [HW_arg24]; · iexact HW_arg24
        ipureintro; rw [h_arg19, h_arg20, h_arg21, h_arg22, h_arg24, h_arg25, h_arg26, h_arg27, ← View.writes_append]
      isplitl [HW_arg25]
      · iexists _; isplitl [HW_arg25]; · iexact HW_arg25
        ipureintro; rw [h_arg19, h_arg20, h_arg21, h_arg22, h_arg24, h_arg25, h_arg26, h_arg27, ← View.writes_append]
      isplitl [HW_arg26]
      · iexists _; isplitl [HW_arg26]; · iexact HW_arg26
        ipureintro; rw [h_arg19, h_arg20, h_arg21, h_arg22, h_arg24, h_arg25, h_arg26, h_arg27, ← View.writes_append]
      iexists _; isplitl [HW_arg27]; · iexact HW_arg27
      ipureintro; rw [h_arg19, h_arg20, h_arg21, h_arg22, h_arg24, h_arg25, h_arg26, h_arg27, ← View.writes_append]

end Cert.KernelIdeal.Gen

end
-- ==== Proof.MixersRuns.lean ====
/- What the runs of the four cases of the body share: the conditions on the grid point, the memrefs and the scratch. -/
module

public import proofs.«01_k».proof.Proof.Gen.KernelIdeal.Frame
public import proofs.«01_k».proof.Proof.Gen.KernelIdeal.Points
public import proofs.«01_k».proof.Proof.MixersLoop1
public import proofs.«01_k».proof.Proof.MixersLoop2
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

abbrev cond0_0 (i : grid0.Coords) : Prop := (Scalar.cmpi .ne (Scalar.extui (Scalar.cmpi .sge (Scalar.subi (Scalar.muli 4#32 (Scalar.addi (BitVec.ofNat 32 (i 1).val) 1#32)) 1#32) 16#32)) 0#32) = 1#1

theorem hcond0_0 : ∀ t : Fin cfg0.N, cond0_0 (grid0.coords t) ↔ 4 ≤ t.val % 16 :=
  (by decide +kernel : ∀ t : Fin grid0.N, cond0_0 (grid0.coords t) ↔ 4 ≤ t.val % 16)

abbrev cond0_1 (i : grid0.Coords) : Prop := (Scalar.cmpi .ne (Scalar.extui (Scalar.cmpi .sge (Scalar.subi (Scalar.muli 4#32 (Scalar.addi (BitVec.ofNat 32 (i 1).val) 1#32)) 1#32) 32#32)) 0#32) = 1#1

theorem hcond0_1 : ∀ t : Fin cfg0.N, cond0_1 (grid0.coords t) ↔ 8 ≤ t.val % 16 :=
  (by decide +kernel : ∀ t : Fin grid0.N, cond0_1 (grid0.coords t) ↔ 8 ≤ t.val % 16)

abbrev cond0_2 (i : grid0.Coords) : Prop := (Scalar.cmpi .ne (Scalar.extui (Scalar.cmpi .sge (Scalar.subi (Scalar.muli 4#32 (Scalar.addi (BitVec.ofNat 32 (i 1).val) 1#32)) 1#32) 48#32)) 0#32) = 1#1

theorem hcond0_2 : ∀ t : Fin cfg0.N, cond0_2 (grid0.coords t) ↔ 12 ≤ t.val % 16 :=
  (by decide +kernel : ∀ t : Fin grid0.N, cond0_2 (grid0.coords t) ↔ 12 ≤ t.val % 16)

abbrev VO0_15 : View sig .tc .vmem S1x512x256 .bf16 := (Memref.whole cc0_stg15_0 : Memref sig .tc .vmem S1x512x256 .bf16).view

abbrev VO0_16 : View sig .tc .vmem S1x512x256 .bf16 := (Memref.whole cc0_stg16_0 : Memref sig .tc .vmem S1x512x256 .bf16).view

abbrev ms0_0 (t : Fin cfg0.N) : Memref sig .tc .vmem S1x512x256 .bf16 := win0_0.stage (cfg0.slots t 0)

abbrev hs0_0 (t : Fin cfg0.N) : (ms0_0 t).IsWhole := hstage0_0 ((cfg0.slots t 0).cast nbuf0_0)

abbrev ms0_1 (t : Fin cfg0.N) : Memref sig .tc .vmem S1x512x256 .bf16 := win0_1.stage (cfg0.slots t 1)

abbrev hs0_1 (t : Fin cfg0.N) : (ms0_1 t).IsWhole := hstage0_1 ((cfg0.slots t 1).cast nbuf0_1)

abbrev ms0_2 (t : Fin cfg0.N) : Memref sig .tc .vmem S1x2x16x256 .f32 := win0_2.stage (cfg0.slots t 2)

abbrev hs0_2 (t : Fin cfg0.N) : (ms0_2 t).IsWhole := hstage0_2 ((cfg0.slots t 2).cast nbuf0_2)

abbrev ms0_3 (t : Fin cfg0.N) : Memref sig .tc .vmem S1x256x128 .bf16 := win0_3.stage (cfg0.slots t 3)

abbrev hs0_3 (t : Fin cfg0.N) : (ms0_3 t).IsWhole := hstage0_3 ((cfg0.slots t 3).cast nbuf0_3)

abbrev ms0_4 (t : Fin cfg0.N) : Memref sig .tc .vmem S1x2x80x256 .bf16 := win0_4.stage (cfg0.slots t 4)

abbrev hs0_4 (t : Fin cfg0.N) : (ms0_4 t).IsWhole := hstage0_4 ((cfg0.slots t 4).cast nbuf0_4)

abbrev ms0_5 (t : Fin cfg0.N) : Memref sig .tc .vmem S1x16x256x256 .bf16 := win0_5.stage (cfg0.slots t 5)

abbrev hs0_5 (t : Fin cfg0.N) : (ms0_5 t).IsWhole := hstage0_5 ((cfg0.slots t 5).cast nbuf0_5)

abbrev ms0_6 (t : Fin cfg0.N) : Memref sig .tc .vmem S1x2x16x80x256 .bf16 := win0_6.stage (cfg0.slots t 6)

abbrev hs0_6 (t : Fin cfg0.N) : (ms0_6 t).IsWhole := hstage0_6 ((cfg0.slots t 6).cast nbuf0_6)

abbrev ms0_7 (t : Fin cfg0.N) : Memref sig .tc .vmem S1x16x256x128 .bf16 := win0_7.stage (cfg0.slots t 7)

abbrev hs0_7 (t : Fin cfg0.N) : (ms0_7 t).IsWhole := hstage0_7 ((cfg0.slots t 7).cast nbuf0_7)

abbrev ms0_8 (t : Fin cfg0.N) : Memref sig .tc .vmem S1x2x16x80x256 .bf16 := win0_8.stage (cfg0.slots t 8)

abbrev hs0_8 (t : Fin cfg0.N) : (ms0_8 t).IsWhole := hstage0_8 ((cfg0.slots t 8).cast nbuf0_8)

abbrev ms0_9 (t : Fin cfg0.N) : Memref sig .tc .vmem S64x256 .bf16 := win0_9.stage (cfg0.slots t 9)

abbrev hs0_9 (t : Fin cfg0.N) : (ms0_9 t).IsWhole := hstage0_9 ((cfg0.slots t 9).cast nbuf0_9)

abbrev ms0_10 (t : Fin cfg0.N) : Memref sig .tc .vmem S1x512x256 .bf16 := win0_10.stage (cfg0.slots t 10)

abbrev hs0_10 (t : Fin cfg0.N) : (ms0_10 t).IsWhole := hstage0_10 ((cfg0.slots t 10).cast nbuf0_10)

abbrev ms0_11 (t : Fin cfg0.N) : Memref sig .tc .vmem S1x512x256 .bf16 := win0_11.stage (cfg0.slots t 11)

abbrev hs0_11 (t : Fin cfg0.N) : (ms0_11 t).IsWhole := hstage0_11 ((cfg0.slots t 11).cast nbuf0_11)

abbrev ms0_12 (t : Fin cfg0.N) : Memref sig .tc .vmem S1x8x16x64 .f32 := win0_12.stage (cfg0.slots t 12)

abbrev hs0_12 (t : Fin cfg0.N) : (ms0_12 t).IsWhole := hstage0_12 ((cfg0.slots t 12).cast nbuf0_12)

abbrev ms0_13 (t : Fin cfg0.N) : Memref sig .tc .vmem S1x16x256x1024 .bf16 := win0_13.stage (cfg0.slots t 13)

abbrev hs0_13 (t : Fin cfg0.N) : (ms0_13 t).IsWhole := hstage0_13 ((cfg0.slots t 13).cast nbuf0_13)

abbrev ms0_14 (t : Fin cfg0.N) : Memref sig .tc .vmem S1x8x16x80x256 .bf16 := win0_14.stage (cfg0.slots t 14)

abbrev hs0_14 (t : Fin cfg0.N) : (ms0_14 t).IsWhole := hstage0_14 ((cfg0.slots t 14).cast nbuf0_14)

abbrev ms0_15 (t : Fin cfg0.N) : Memref sig .tc .vmem S1x512x256 .bf16 := win0_15.stage (cfg0.slots t 15)

abbrev hs0_15 (t : Fin cfg0.N) : (ms0_15 t).IsWhole := hstage0_15 ((cfg0.slots t 15).cast nbuf0_15)

abbrev ms0_16 (t : Fin cfg0.N) : Memref sig .tc .vmem S1x512x256 .bf16 := win0_16.stage (cfg0.slots t 16)

abbrev hs0_16 (t : Fin cfg0.N) : (ms0_16 t).IsWhole := hstage0_16 ((cfg0.slots t 16).cast nbuf0_16)

abbrev scM0_0 : Memref sig .tc .vmem S2x256x2048 .f32 := Memref.whole cc0_scratch0

abbrev scM0_1 : Memref sig .tc .vmem S2x1x2048 .f32 := Memref.whole cc0_scratch1

abbrev scM0_2 : Memref sig .tc .vmem S1x2048 .f32 := Memref.whole cc0_scratch2

abbrev scM0_3 : Memref sig .tc .vmem S80x2048 .f32 := Memref.whole cc0_scratch3

abbrev scM0_4 : Memref sig .tc .vmem S64x512 .f32 := Memref.whole cc0_scratch4

abbrev scM0_5 : Memref sig .tc .vmem S2x256x2048 .f32 := Memref.whole cc0_scratch5

abbrev scM0_6 : Memref sig .tc .vmem S2x1x2048 .f32 := Memref.whole cc0_scratch6

abbrev scM0_7 : Memref sig .tc .vmem S1x2048 .f32 := Memref.whole cc0_scratch7

abbrev scM0_8 : Memref sig .tc .vmem S80x2048 .f32 := Memref.whole cc0_scratch8

theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d) ∗ (∃ d, owns (c : Thread nD τ) scM0_5 fullShare d) ∗ (∃ d, owns (c : Thread nD τ) scM0_6 fullShare d) ∗ (∃ d, owns (c : Thread nD τ) scM0_7 fullShare d) ∗ (∃ d, owns (c : Thread nD τ) scM0_8 fullShare d)) ∗ (∃ r, prngReg c r)) := by
  unfold Pipeline.ΦA; rw [scopedRest0_eq]; simp only [scM0_0, scM0_1, scM0_2, scM0_3, scM0_4, scM0_5, scM0_6, scM0_7, scM0_8, owns_whole]; try rfl

end Cert.KernelIdeal.Gen

end
-- ==== Proof.MixersRunA.lean ====
/- The run of the body in case A, by which of the later quarters of the score rows it ranks. -/
module

public import proofs.«01_k».proof.Proof.MixersRuns

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)

set_option maxHeartbeats 2408000 in
noncomputable def kernelRun0_A (c : Dev nD) (i : grid0.Coords) (arg2 : Memref sig .tc .vmem S1x512x256 .bf16) (harg2 : arg2.IsWhole) (arg3 : Memref sig .tc .vmem S1x512x256 .bf16) (harg3 : arg3.IsWhole) (arg4 : Memref sig .tc .vmem S1x2x16x256 .f32) (harg4 : arg4.IsWhole) (arg5 : Memref sig .tc .vmem S1x256x128 .bf16) (harg5 : arg5.IsWhole) (arg6 : Memref sig .tc .vmem S1x2x80x256 .bf16) (harg6 : arg6.IsWhole) (arg7 : Memref sig .tc .vmem S1x16x256x256 .bf16) (harg7 : arg7.IsWhole) (arg8 : Memref sig .tc .vmem S1x2x16x80x256 .bf16) (harg8 : arg8.IsWhole) (arg9 : Memref sig .tc .vmem S1x16x256x128 .bf16) (harg9 : arg9.IsWhole) (arg10 : Memref sig .tc .vmem S1x2x16x80x256 .bf16) (harg10 : arg10.IsWhole) (arg11 : Memref sig .tc .vmem S64x256 .bf16) (harg11 : arg11.IsWhole) (arg12 : Memref sig .tc .vmem S1x512x256 .bf16) (harg12 : arg12.IsWhole) (arg13 : Memref sig .tc .vmem S1x512x256 .bf16) (harg13 : arg13.IsWhole) (arg14 : Memref sig .tc .vmem S1x8x16x64 .f32) (harg14 : arg14.IsWhole) (arg15 : Memref sig .tc .vmem S1x16x256x1024 .bf16) (harg15 : arg15.IsWhole) (arg16 : Memref sig .tc .vmem S1x8x16x80x256 .bf16) (harg16 : arg16.IsWhole) (arg17 : Memref sig .tc .vmem S1x512x256 .bf16) (harg17 : arg17.IsWhole) (arg18 : Memref sig .tc .vmem S1x512x256 .bf16) (harg18 : arg18.IsWhole) (arg19 : Memref sig .tc .vmem S2x256x2048 .f32) (harg19 : arg19.IsWhole) (arg20 : Memref sig .tc .vmem S2x1x2048 .f32) (harg20 : arg20.IsWhole) (arg21 : Memref sig .tc .vmem S1x2048 .f32) (harg21 : arg21.IsWhole) (arg22 : Memref sig .tc .vmem S80x2048 .f32) (harg22 : arg22.IsWhole) (arg23 : Memref sig .tc .vmem S64x512 .f32) (harg23 : arg23.IsWhole) (arg24 : Memref sig .tc .vmem S2x256x2048 .f32) (harg24 : arg24.IsWhole) (arg25 : Memref sig .tc .vmem S2x1x2048 .f32) (harg25 : arg25.IsWhole) (arg26 : Memref sig .tc .vmem S1x2048 .f32) (harg26 : arg26.IsWhole) (arg27 : Memref sig .tc .vmem S80x2048 .f32) (harg27 : arg27.IsWhole) (hc0 : ¬cond0_0 i) (hc1 : ¬cond0_1 i) (hc2 : ¬cond0_2 i)
    (x0 : Vec F S1x512x256 .bf16) (x1 : Vec F S1x512x256 .bf16) (x2 : Vec F S1x2x16x256 .f32) (x3 : Vec F S1x256x128 .bf16) (x4 : Vec F S1x2x80x256 .bf16) (x5 : Vec F S1x16x256x256 .bf16) (x6 : Vec F S1x2x16x80x256 .bf16) (x7 : Vec F S1x16x256x128 .bf16) (x8 : Vec F S1x2x16x80x256 .bf16) (x9 : Vec F S64x256 .bf16) (x10 : Vec F S1x512x256 .bf16) (x11 : Vec F S1x512x256 .bf16) (x12 : Vec F S1x8x16x64 .f32) (x13 : Vec F S1x16x256x1024 .bf16) (x14 : Vec F S1x8x16x80x256 .bf16) :
    Σ' (L15 : List (View.Piece (Elt F) S1x512x256 .bf16)), { L16 : List (View.Piece (Elt F) S1x512x256 .bf16) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ owns (c : Thread nD τ) arg16 fullShare x14 ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d) ∗ (∃ d, owns (c : Thread nD τ) arg25 fullShare d) ∗ (∃ d, owns (c : Thread nD τ) arg26 fullShare d) ∗ (∃ d, owns (c : Thread nD τ) arg27 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ owns (c : Thread nD τ) arg16 fullShare x14 ∗ (∃ f, arg17.view.loc (c : Thread nD τ) ↦[arg17.view.set]{fullShare} arg17.view.writes (Elt F) f L15) ∗ (∃ f, arg18.view.loc (c : Thread nD τ) ↦[arg18.view.set]{fullShare} arg18.view.writes (Elt F) f L16) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d) ∗ (∃ d, owns (c : Thread nD τ) arg25 fullShare d) ∗ (∃ d, owns (c : Thread nD τ) arg26 fullShare d) ∗ (∃ d, owns (c : Thread nD τ) arg27 fullShare d)) -∗ K ⟨⟩))
          ⊢ wp frame (wpE (defs₀ (F := F)) Variants.none c none) E (cc0_mixers i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27) K } := by
  refine ⟨?_, ?_, fun E K => ?run⟩
  case run =>
    simp only [cc0_mixers_eq_skeleton]; unfold cc0_mixers_skel
    simp only [k0_part145_eq_skeleton, k0_part83_eq_skeleton, k0_part84_eq_skeleton, k0_part85_eq_skeleton, k0_part86_eq_skeleton, k0_part87_eq_skeleton, k0_part88_eq_skeleton, k0_part89_eq_skeleton, k0_part90_eq_skeleton, k0_part91_eq_skeleton, k0_part92_eq_skeleton, k0_part93_eq_skeleton, k0_part94_eq_skeleton, k0_part95_eq_skeleton, k0_part96_eq_skeleton, k0_part97_eq_skeleton, k0_part98_eq_skeleton, k0_part99_eq_skeleton, k0_part100_eq_skeleton, k0_part101_eq_skeleton, k0_part102_eq_skeleton, k0_part103_eq_skeleton, k0_part104_eq_skeleton, k0_part105_eq_skeleton, k0_part106_eq_skeleton, k0_part107_eq_skeleton, k0_part108_eq_skeleton, k0_part109_eq_skeleton, k0_part110_eq_skeleton, k0_part111_eq_skeleton, k0_part112_eq_skeleton, k0_part113_eq_skeleton, k0_part114_eq_skeleton, k0_part115_eq_skeleton, k0_part116_eq_skeleton, k0_part117_eq_skeleton, k0_part118_eq_skeleton, k0_part119_eq_skeleton, k0_part120_eq_skeleton, k0_part121_eq_skeleton, k0_part122_eq_skeleton, k0_part123_eq_skeleton, k0_part124_eq_skeleton, k0_part125_eq_skeleton, k0_part126_eq_skeleton, k0_part127_eq_skeleton, k0_part128_eq_skeleton, k0_part129_eq_skeleton, k0_part130_eq_skeleton, k0_part131_eq_skeleton, k0_part132_eq_skeleton, k0_part133_eq_skeleton, k0_part134_eq_skeleton, k0_part135_eq_skeleton, k0_part136_eq_skeleton, k0_part137_eq_skeleton, k0_part138_eq_skeleton, k0_part139_eq_skeleton, k0_part140_eq_skeleton, k0_part141_eq_skeleton, k0_part142_eq_skeleton, k0_part143_eq_skeleton, k0_part144_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%d15, %f15, -, H15⟩, ⟨%d16, %f16, -, H16⟩, ⟨%ds0, %fs0, -, HS0⟩, ⟨%ds1, %fs1, -, HS1⟩, ⟨%ds2, %fs2, -, HS2⟩, ⟨%ds3, %fs3, -, HS3⟩, ⟨%ds4, %fs4, -, HS4⟩, ⟨%ds5, %fs5, -, HS5⟩, ⟨%ds6, %fs6, -, HS6⟩, ⟨%ds7, %fs7, -, HS7⟩, ⟨%ds8, %fs8, -, HS8⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11; obtain rfl := harg14.eq_unread hf12; obtain rfl := harg15.eq_unread hf13; obtain rfl := harg16.eq_unread hf14
    sl_exec (disch := first | sl_exact hc0 | sl_exact hc1 | sl_exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; · ipureintro; exact harg12.read_unread _
      iexact H10
    isplitl [H11]
    · iexists _; isplitr; · ipureintro; exact harg13.read_unread _
      iexact H11
    isplitl [H12]
    · iexists _; isplitr; · ipureintro; exact harg14.read_unread _
      iexact H12
    isplitl [H13]
    · iexists _; isplitr; · ipureintro; exact harg15.read_unread _
      iexact H13
    isplitl [H14]
    · iexists _; isplitr; · ipureintro; exact harg16.read_unread _
      iexact H14
    isplitl [H15]; · iexists _; iexact H15
    isplitl [H16]; · iexists _; iexact H16
    isplitl [HS0]
    · iexists _, _; isplitr; swap; · iexact HS0
      ipureintro; rfl
    isplitl [HS1]
    · iexists _, _; isplitr; swap; · iexact HS1
      ipureintro; rfl
    isplitl [HS2]
    · iexists _, _; isplitr; swap; · iexact HS2
      ipureintro; rfl
    isplitl [HS3]
    · iexists _, _; isplitr; swap; · iexact HS3
      ipureintro; rfl
    isplitl [HS4]
    · iexists _, _; isplitr; swap; · iexact HS4
      ipureintro; rfl
    isplitl [HS5]
    · iexists _, _; isplitr; swap; · iexact HS5
      ipureintro; rfl
    isplitl [HS6]
    · iexists _, _; isplitr; swap; · iexact HS6
      ipureintro; rfl
    isplitl [HS7]
    · iexists _, _; isplitr; swap; · iexact HS7
      ipureintro; rfl
    iexists _, _; isplitr; swap; · iexact HS8
    ipureintro; rfl

end Cert.KernelIdeal.Gen

end
-- ==== Proof.MixersRunB.lean ====
/- The run of the body in case B, by which of the later quarters of the score rows it ranks. -/
module

public import proofs.«01_k».proof.Proof.MixersRuns

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)

set_option maxHeartbeats 2660000 in
noncomputable def kernelRun0_B (c : Dev nD) (i : grid0.Coords) (arg2 : Memref sig .tc .vmem S1x512x256 .bf16) (harg2 : arg2.IsWhole) (arg3 : Memref sig .tc .vmem S1x512x256 .bf16) (harg3 : arg3.IsWhole) (arg4 : Memref sig .tc .vmem S1x2x16x256 .f32) (harg4 : arg4.IsWhole) (arg5 : Memref sig .tc .vmem S1x256x128 .bf16) (harg5 : arg5.IsWhole) (arg6 : Memref sig .tc .vmem S1x2x80x256 .bf16) (harg6 : arg6.IsWhole) (arg7 : Memref sig .tc .vmem S1x16x256x256 .bf16) (harg7 : arg7.IsWhole) (arg8 : Memref sig .tc .vmem S1x2x16x80x256 .bf16) (harg8 : arg8.IsWhole) (arg9 : Memref sig .tc .vmem S1x16x256x128 .bf16) (harg9 : arg9.IsWhole) (arg10 : Memref sig .tc .vmem S1x2x16x80x256 .bf16) (harg10 : arg10.IsWhole) (arg11 : Memref sig .tc .vmem S64x256 .bf16) (harg11 : arg11.IsWhole) (arg12 : Memref sig .tc .vmem S1x512x256 .bf16) (harg12 : arg12.IsWhole) (arg13 : Memref sig .tc .vmem S1x512x256 .bf16) (harg13 : arg13.IsWhole) (arg14 : Memref sig .tc .vmem S1x8x16x64 .f32) (harg14 : arg14.IsWhole) (arg15 : Memref sig .tc .vmem S1x16x256x1024 .bf16) (harg15 : arg15.IsWhole) (arg16 : Memref sig .tc .vmem S1x8x16x80x256 .bf16) (harg16 : arg16.IsWhole) (arg17 : Memref sig .tc .vmem S1x512x256 .bf16) (harg17 : arg17.IsWhole) (arg18 : Memref sig .tc .vmem S1x512x256 .bf16) (harg18 : arg18.IsWhole) (arg19 : Memref sig .tc .vmem S2x256x2048 .f32) (harg19 : arg19.IsWhole) (arg20 : Memref sig .tc .vmem S2x1x2048 .f32) (harg20 : arg20.IsWhole) (arg21 : Memref sig .tc .vmem S1x2048 .f32) (harg21 : arg21.IsWhole) (arg22 : Memref sig .tc .vmem S80x2048 .f32) (harg22 : arg22.IsWhole) (arg23 : Memref sig .tc .vmem S64x512 .f32) (harg23 : arg23.IsWhole) (arg24 : Memref sig .tc .vmem S2x256x2048 .f32) (harg24 : arg24.IsWhole) (arg25 : Memref sig .tc .vmem S2x1x2048 .f32) (harg25 : arg25.IsWhole) (arg26 : Memref sig .tc .vmem S1x2048 .f32) (harg26 : arg26.IsWhole) (arg27 : Memref sig .tc .vmem S80x2048 .f32) (harg27 : arg27.IsWhole) (hc0 : cond0_0 i) (hc1 : ¬cond0_1 i) (hc2 : ¬cond0_2 i)
    (x0 : Vec F S1x512x256 .bf16) (x1 : Vec F S1x512x256 .bf16) (x2 : Vec F S1x2x16x256 .f32) (x3 : Vec F S1x256x128 .bf16) (x4 : Vec F S1x2x80x256 .bf16) (x5 : Vec F S1x16x256x256 .bf16) (x6 : Vec F S1x2x16x80x256 .bf16) (x7 : Vec F S1x16x256x128 .bf16) (x8 : Vec F S1x2x16x80x256 .bf16) (x9 : Vec F S64x256 .bf16) (x10 : Vec F S1x512x256 .bf16) (x11 : Vec F S1x512x256 .bf16) (x12 : Vec F S1x8x16x64 .f32) (x13 : Vec F S1x16x256x1024 .bf16) (x14 : Vec F S1x8x16x80x256 .bf16) :
    Σ' (L15 : List (View.Piece (Elt F) S1x512x256 .bf16)), { L16 : List (View.Piece (Elt F) S1x512x256 .bf16) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ owns (c : Thread nD τ) arg16 fullShare x14 ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d) ∗ (∃ d, owns (c : Thread nD τ) arg25 fullShare d) ∗ (∃ d, owns (c : Thread nD τ) arg26 fullShare d) ∗ (∃ d, owns (c : Thread nD τ) arg27 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ owns (c : Thread nD τ) arg16 fullShare x14 ∗ (∃ f, arg17.view.loc (c : Thread nD τ) ↦[arg17.view.set]{fullShare} arg17.view.writes (Elt F) f L15) ∗ (∃ f, arg18.view.loc (c : Thread nD τ) ↦[arg18.view.set]{fullShare} arg18.view.writes (Elt F) f L16) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d) ∗ (∃ d, owns (c : Thread nD τ) arg25 fullShare d) ∗ (∃ d, owns (c : Thread nD τ) arg26 fullShare d) ∗ (∃ d, owns (c : Thread nD τ) arg27 fullShare d)) -∗ K ⟨⟩))
          ⊢ wp frame (wpE (defs₀ (F := F)) Variants.none c none) E (cc0_mixers i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27) K } := by
  refine ⟨?_, ?_, fun E K => ?run⟩
  case run =>
    simp only [cc0_mixers_eq_skeleton]; unfold cc0_mixers_skel
    simp only [k0_part145_eq_skeleton, k0_part83_eq_skeleton, k0_part84_eq_skeleton, k0_part85_eq_skeleton, k0_part86_eq_skeleton, k0_part87_eq_skeleton, k0_part88_eq_skeleton, k0_part89_eq_skeleton, k0_part90_eq_skeleton, k0_part91_eq_skeleton, k0_part92_eq_skeleton, k0_part93_eq_skeleton, k0_part94_eq_skeleton, k0_part95_eq_skeleton, k0_part96_eq_skeleton, k0_part97_eq_skeleton, k0_part98_eq_skeleton, k0_part99_eq_skeleton, k0_part100_eq_skeleton, k0_part101_eq_skeleton, k0_part102_eq_skeleton, k0_part103_eq_skeleton, k0_part104_eq_skeleton, k0_part105_eq_skeleton, k0_part106_eq_skeleton, k0_part107_eq_skeleton, k0_part108_eq_skeleton, k0_part109_eq_skeleton, k0_part110_eq_skeleton, k0_part111_eq_skeleton, k0_part112_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part113_eq_skeleton, k0_part114_eq_skeleton, k0_part115_eq_skeleton, k0_part116_eq_skeleton, k0_part117_eq_skeleton, k0_part118_eq_skeleton, k0_part119_eq_skeleton, k0_part120_eq_skeleton, k0_part121_eq_skeleton, k0_part122_eq_skeleton, k0_part123_eq_skeleton, k0_part124_eq_skeleton, k0_part125_eq_skeleton, k0_part126_eq_skeleton, k0_part127_eq_skeleton, k0_part128_eq_skeleton, k0_part129_eq_skeleton, k0_part130_eq_skeleton, k0_part131_eq_skeleton, k0_part132_eq_skeleton, k0_part133_eq_skeleton, k0_part134_eq_skeleton, k0_part135_eq_skeleton, k0_part136_eq_skeleton, k0_part137_eq_skeleton, k0_part138_eq_skeleton, k0_part139_eq_skeleton, k0_part140_eq_skeleton, k0_part141_eq_skeleton, k0_part142_eq_skeleton, k0_part143_eq_skeleton, k0_part144_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%d15, %f15, -, H15⟩, ⟨%d16, %f16, -, H16⟩, ⟨%ds0, %fs0, -, HS0⟩, ⟨%ds1, %fs1, -, HS1⟩, ⟨%ds2, %fs2, -, HS2⟩, ⟨%ds3, %fs3, -, HS3⟩, ⟨%ds4, %fs4, -, HS4⟩, ⟨%ds5, %fs5, -, HS5⟩, ⟨%ds6, %fs6, -, HS6⟩, ⟨%ds7, %fs7, -, HS7⟩, ⟨%ds8, %fs8, -, HS8⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11; obtain rfl := harg14.eq_unread hf12; obtain rfl := harg15.eq_unread hf13; obtain rfl := harg16.eq_unread hf14
    sl_exec (disch := first | sl_exact hc0 | sl_exact hc1 | sl_exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; · ipureintro; exact harg12.read_unread _
      iexact H10
    isplitl [H11]
    · iexists _; isplitr; · ipureintro; exact harg13.read_unread _
      iexact H11
    isplitl [H12]
    · iexists _; isplitr; · ipureintro; exact harg14.read_unread _
      iexact H12
    isplitl [H13]
    · iexists _; isplitr; · ipureintro; exact harg15.read_unread _
      iexact H13
    isplitl [H14]
    · iexists _; isplitr; · ipureintro; exact harg16.read_unread _
      iexact H14
    isplitl [H15]; · iexists _; iexact H15
    isplitl [H16]; · iexists _; iexact H16
    isplitl [HS0]
    · iexists _, _; isplitr; swap; · iexact HS0
      ipureintro; rfl
    isplitl [HS1]
    · iexists _, _; isplitr; swap; · iexact HS1
      ipureintro; rfl
    isplitl [HS2]
    · iexists _, _; isplitr; swap; · iexact HS2
      ipureintro; rfl
    isplitl [HS3]
    · iexists _, _; isplitr; swap; · iexact HS3
      ipureintro; rfl
    isplitl [HS4]
    · iexists _, _; isplitr; swap; · iexact HS4
      ipureintro; rfl
    isplitl [HS5]
    · iexists _, _; isplitr; swap; · iexact HS5
      ipureintro; rfl
    isplitl [HS6]
    · iexists _, _; isplitr; swap; · iexact HS6
      ipureintro; rfl
    isplitl [HS7]
    · iexists _, _; isplitr; swap; · iexact HS7
      ipureintro; rfl
    iexists _, _; isplitr; swap; · iexact HS8
    ipureintro; rfl

end Cert.KernelIdeal.Gen

end
-- ==== Proof.MixersRunC.lean ====
/- The run of the body in case C, by which of the later quarters of the score rows it ranks. -/
module

public import proofs.«01_k».proof.Proof.MixersRuns

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)

set_option maxHeartbeats 2904000 in
noncomputable def kernelRun0_C (c : Dev nD) (i : grid0.Coords) (arg2 : Memref sig .tc .vmem S1x512x256 .bf16) (harg2 : arg2.IsWhole) (arg3 : Memref sig .tc .vmem S1x512x256 .bf16) (harg3 : arg3.IsWhole) (arg4 : Memref sig .tc .vmem S1x2x16x256 .f32) (harg4 : arg4.IsWhole) (arg5 : Memref sig .tc .vmem S1x256x128 .bf16) (harg5 : arg5.IsWhole) (arg6 : Memref sig .tc .vmem S1x2x80x256 .bf16) (harg6 : arg6.IsWhole) (arg7 : Memref sig .tc .vmem S1x16x256x256 .bf16) (harg7 : arg7.IsWhole) (arg8 : Memref sig .tc .vmem S1x2x16x80x256 .bf16) (harg8 : arg8.IsWhole) (arg9 : Memref sig .tc .vmem S1x16x256x128 .bf16) (harg9 : arg9.IsWhole) (arg10 : Memref sig .tc .vmem S1x2x16x80x256 .bf16) (harg10 : arg10.IsWhole) (arg11 : Memref sig .tc .vmem S64x256 .bf16) (harg11 : arg11.IsWhole) (arg12 : Memref sig .tc .vmem S1x512x256 .bf16) (harg12 : arg12.IsWhole) (arg13 : Memref sig .tc .vmem S1x512x256 .bf16) (harg13 : arg13.IsWhole) (arg14 : Memref sig .tc .vmem S1x8x16x64 .f32) (harg14 : arg14.IsWhole) (arg15 : Memref sig .tc .vmem S1x16x256x1024 .bf16) (harg15 : arg15.IsWhole) (arg16 : Memref sig .tc .vmem S1x8x16x80x256 .bf16) (harg16 : arg16.IsWhole) (arg17 : Memref sig .tc .vmem S1x512x256 .bf16) (harg17 : arg17.IsWhole) (arg18 : Memref sig .tc .vmem S1x512x256 .bf16) (harg18 : arg18.IsWhole) (arg19 : Memref sig .tc .vmem S2x256x2048 .f32) (harg19 : arg19.IsWhole) (arg20 : Memref sig .tc .vmem S2x1x2048 .f32) (harg20 : arg20.IsWhole) (arg21 : Memref sig .tc .vmem S1x2048 .f32) (harg21 : arg21.IsWhole) (arg22 : Memref sig .tc .vmem S80x2048 .f32) (harg22 : arg22.IsWhole) (arg23 : Memref sig .tc .vmem S64x512 .f32) (harg23 : arg23.IsWhole) (arg24 : Memref sig .tc .vmem S2x256x2048 .f32) (harg24 : arg24.IsWhole) (arg25 : Memref sig .tc .vmem S2x1x2048 .f32) (harg25 : arg25.IsWhole) (arg26 : Memref sig .tc .vmem S1x2048 .f32) (harg26 : arg26.IsWhole) (arg27 : Memref sig .tc .vmem S80x2048 .f32) (harg27 : arg27.IsWhole) (hc0 : cond0_0 i) (hc1 : cond0_1 i) (hc2 : ¬cond0_2 i)
    (x0 : Vec F S1x512x256 .bf16) (x1 : Vec F S1x512x256 .bf16) (x2 : Vec F S1x2x16x256 .f32) (x3 : Vec F S1x256x128 .bf16) (x4 : Vec F S1x2x80x256 .bf16) (x5 : Vec F S1x16x256x256 .bf16) (x6 : Vec F S1x2x16x80x256 .bf16) (x7 : Vec F S1x16x256x128 .bf16) (x8 : Vec F S1x2x16x80x256 .bf16) (x9 : Vec F S64x256 .bf16) (x10 : Vec F S1x512x256 .bf16) (x11 : Vec F S1x512x256 .bf16) (x12 : Vec F S1x8x16x64 .f32) (x13 : Vec F S1x16x256x1024 .bf16) (x14 : Vec F S1x8x16x80x256 .bf16) :
    Σ' (L15 : List (View.Piece (Elt F) S1x512x256 .bf16)), { L16 : List (View.Piece (Elt F) S1x512x256 .bf16) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ owns (c : Thread nD τ) arg16 fullShare x14 ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d) ∗ (∃ d, owns (c : Thread nD τ) arg25 fullShare d) ∗ (∃ d, owns (c : Thread nD τ) arg26 fullShare d) ∗ (∃ d, owns (c : Thread nD τ) arg27 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ owns (c : Thread nD τ) arg16 fullShare x14 ∗ (∃ f, arg17.view.loc (c : Thread nD τ) ↦[arg17.view.set]{fullShare} arg17.view.writes (Elt F) f L15) ∗ (∃ f, arg18.view.loc (c : Thread nD τ) ↦[arg18.view.set]{fullShare} arg18.view.writes (Elt F) f L16) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d) ∗ (∃ d, owns (c : Thread nD τ) arg25 fullShare d) ∗ (∃ d, owns (c : Thread nD τ) arg26 fullShare d) ∗ (∃ d, owns (c : Thread nD τ) arg27 fullShare d)) -∗ K ⟨⟩))
          ⊢ wp frame (wpE (defs₀ (F := F)) Variants.none c none) E (cc0_mixers i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27) K } := by
  refine ⟨?_, ?_, fun E K => ?run⟩
  case run =>
    simp only [cc0_mixers_eq_skeleton]; unfold cc0_mixers_skel
    simp only [k0_part145_eq_skeleton, k0_part83_eq_skeleton, k0_part84_eq_skeleton, k0_part85_eq_skeleton, k0_part86_eq_skeleton, k0_part87_eq_skeleton, k0_part88_eq_skeleton, k0_part89_eq_skeleton, k0_part90_eq_skeleton, k0_part91_eq_skeleton, k0_part92_eq_skeleton, k0_part93_eq_skeleton, k0_part94_eq_skeleton, k0_part95_eq_skeleton, k0_part96_eq_skeleton, k0_part97_eq_skeleton, k0_part98_eq_skeleton, k0_part99_eq_skeleton, k0_part100_eq_skeleton, k0_part101_eq_skeleton, k0_part102_eq_skeleton, k0_part103_eq_skeleton, k0_part104_eq_skeleton, k0_part105_eq_skeleton, k0_part106_eq_skeleton, k0_part107_eq_skeleton, k0_part108_eq_skeleton, k0_part109_eq_skeleton, k0_part110_eq_skeleton, k0_part111_eq_skeleton, k0_part112_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part113_eq_skeleton, k0_part114_eq_skeleton, k0_part115_eq_skeleton, k0_part116_eq_skeleton, k0_part117_eq_skeleton, k0_part118_eq_skeleton, k0_part119_eq_skeleton, k0_part120_eq_skeleton, k0_part121_eq_skeleton, k0_part122_eq_skeleton, k0_part123_eq_skeleton, k0_part124_eq_skeleton, k0_part125_eq_skeleton, k0_part126_eq_skeleton, k0_part127_eq_skeleton, k0_part128_eq_skeleton, k0_part129_eq_skeleton, k0_part130_eq_skeleton, k0_part131_eq_skeleton, k0_part132_eq_skeleton, k0_part133_eq_skeleton, k0_part134_eq_skeleton, k0_part135_eq_skeleton, k0_part136_eq_skeleton, k0_part137_eq_skeleton, k0_part138_eq_skeleton, k0_part139_eq_skeleton, k0_part140_eq_skeleton, k0_part141_eq_skeleton, k0_part142_eq_skeleton, k0_part143_eq_skeleton, k0_part144_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%d15, %f15, -, H15⟩, ⟨%d16, %f16, -, H16⟩, ⟨%ds0, %fs0, -, HS0⟩, ⟨%ds1, %fs1, -, HS1⟩, ⟨%ds2, %fs2, -, HS2⟩, ⟨%ds3, %fs3, -, HS3⟩, ⟨%ds4, %fs4, -, HS4⟩, ⟨%ds5, %fs5, -, HS5⟩, ⟨%ds6, %fs6, -, HS6⟩, ⟨%ds7, %fs7, -, HS7⟩, ⟨%ds8, %fs8, -, HS8⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11; obtain rfl := harg14.eq_unread hf12; obtain rfl := harg15.eq_unread hf13; obtain rfl := harg16.eq_unread hf14
    sl_exec (disch := first | sl_exact hc0 | sl_exact hc1 | sl_exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; · ipureintro; exact harg12.read_unread _
      iexact H10
    isplitl [H11]
    · iexists _; isplitr; · ipureintro; exact harg13.read_unread _
      iexact H11
    isplitl [H12]
    · iexists _; isplitr; · ipureintro; exact harg14.read_unread _
      iexact H12
    isplitl [H13]
    · iexists _; isplitr; · ipureintro; exact harg15.read_unread _
      iexact H13
    isplitl [H14]
    · iexists _; isplitr; · ipureintro; exact harg16.read_unread _
      iexact H14
    isplitl [H15]; · iexists _; iexact H15
    isplitl [H16]; · iexists _; iexact H16
    isplitl [HS0]
    · iexists _, _; isplitr; swap; · iexact HS0
      ipureintro; rfl
    isplitl [HS1]
    · iexists _, _; isplitr; swap; · iexact HS1
      ipureintro; rfl
    isplitl [HS2]
    · iexists _, _; isplitr; swap; · iexact HS2
      ipureintro; rfl
    isplitl [HS3]
    · iexists _, _; isplitr; swap; · iexact HS3
      ipureintro; rfl
    isplitl [HS4]
    · iexists _, _; isplitr; swap; · iexact HS4
      ipureintro; rfl
    isplitl [HS5]
    · iexists _, _; isplitr; swap; · iexact HS5
      ipureintro; rfl
    isplitl [HS6]
    · iexists _, _; isplitr; swap; · iexact HS6
      ipureintro; rfl
    isplitl [HS7]
    · iexists _, _; isplitr; swap; · iexact HS7
      ipureintro; rfl
    iexists _, _; isplitr; swap; · iexact HS8
    ipureintro; rfl

end Cert.KernelIdeal.Gen

end
-- ==== Proof.MixersRunD.lean ====
/- The run of the body in case D, by which of the later quarters of the score rows it ranks. -/
module

public import proofs.«01_k».proof.Proof.MixersRuns

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)

set_option maxHeartbeats 3140000 in
noncomputable def kernelRun0_D (c : Dev nD) (i : grid0.Coords) (arg2 : Memref sig .tc .vmem S1x512x256 .bf16) (harg2 : arg2.IsWhole) (arg3 : Memref sig .tc .vmem S1x512x256 .bf16) (harg3 : arg3.IsWhole) (arg4 : Memref sig .tc .vmem S1x2x16x256 .f32) (harg4 : arg4.IsWhole) (arg5 : Memref sig .tc .vmem S1x256x128 .bf16) (harg5 : arg5.IsWhole) (arg6 : Memref sig .tc .vmem S1x2x80x256 .bf16) (harg6 : arg6.IsWhole) (arg7 : Memref sig .tc .vmem S1x16x256x256 .bf16) (harg7 : arg7.IsWhole) (arg8 : Memref sig .tc .vmem S1x2x16x80x256 .bf16) (harg8 : arg8.IsWhole) (arg9 : Memref sig .tc .vmem S1x16x256x128 .bf16) (harg9 : arg9.IsWhole) (arg10 : Memref sig .tc .vmem S1x2x16x80x256 .bf16) (harg10 : arg10.IsWhole) (arg11 : Memref sig .tc .vmem S64x256 .bf16) (harg11 : arg11.IsWhole) (arg12 : Memref sig .tc .vmem S1x512x256 .bf16) (harg12 : arg12.IsWhole) (arg13 : Memref sig .tc .vmem S1x512x256 .bf16) (harg13 : arg13.IsWhole) (arg14 : Memref sig .tc .vmem S1x8x16x64 .f32) (harg14 : arg14.IsWhole) (arg15 : Memref sig .tc .vmem S1x16x256x1024 .bf16) (harg15 : arg15.IsWhole) (arg16 : Memref sig .tc .vmem S1x8x16x80x256 .bf16) (harg16 : arg16.IsWhole) (arg17 : Memref sig .tc .vmem S1x512x256 .bf16) (harg17 : arg17.IsWhole) (arg18 : Memref sig .tc .vmem S1x512x256 .bf16) (harg18 : arg18.IsWhole) (arg19 : Memref sig .tc .vmem S2x256x2048 .f32) (harg19 : arg19.IsWhole) (arg20 : Memref sig .tc .vmem S2x1x2048 .f32) (harg20 : arg20.IsWhole) (arg21 : Memref sig .tc .vmem S1x2048 .f32) (harg21 : arg21.IsWhole) (arg22 : Memref sig .tc .vmem S80x2048 .f32) (harg22 : arg22.IsWhole) (arg23 : Memref sig .tc .vmem S64x512 .f32) (harg23 : arg23.IsWhole) (arg24 : Memref sig .tc .vmem S2x256x2048 .f32) (harg24 : arg24.IsWhole) (arg25 : Memref sig .tc .vmem S2x1x2048 .f32) (harg25 : arg25.IsWhole) (arg26 : Memref sig .tc .vmem S1x2048 .f32) (harg26 : arg26.IsWhole) (arg27 : Memref sig .tc .vmem S80x2048 .f32) (harg27 : arg27.IsWhole) (hc0 : cond0_0 i) (hc1 : cond0_1 i) (hc2 : cond0_2 i)
    (x0 : Vec F S1x512x256 .bf16) (x1 : Vec F S1x512x256 .bf16) (x2 : Vec F S1x2x16x256 .f32) (x3 : Vec F S1x256x128 .bf16) (x4 : Vec F S1x2x80x256 .bf16) (x5 : Vec F S1x16x256x256 .bf16) (x6 : Vec F S1x2x16x80x256 .bf16) (x7 : Vec F S1x16x256x128 .bf16) (x8 : Vec F S1x2x16x80x256 .bf16) (x9 : Vec F S64x256 .bf16) (x10 : Vec F S1x512x256 .bf16) (x11 : Vec F S1x512x256 .bf16) (x12 : Vec F S1x8x16x64 .f32) (x13 : Vec F S1x16x256x1024 .bf16) (x14 : Vec F S1x8x16x80x256 .bf16) :
    Σ' (L15 : List (View.Piece (Elt F) S1x512x256 .bf16)), { L16 : List (View.Piece (Elt F) S1x512x256 .bf16) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ owns (c : Thread nD τ) arg16 fullShare x14 ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d) ∗ (∃ d, owns (c : Thread nD τ) arg25 fullShare d) ∗ (∃ d, owns (c : Thread nD τ) arg26 fullShare d) ∗ (∃ d, owns (c : Thread nD τ) arg27 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ owns (c : Thread nD τ) arg16 fullShare x14 ∗ (∃ f, arg17.view.loc (c : Thread nD τ) ↦[arg17.view.set]{fullShare} arg17.view.writes (Elt F) f L15) ∗ (∃ f, arg18.view.loc (c : Thread nD τ) ↦[arg18.view.set]{fullShare} arg18.view.writes (Elt F) f L16) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d) ∗ (∃ d, owns (c : Thread nD τ) arg25 fullShare d) ∗ (∃ d, owns (c : Thread nD τ) arg26 fullShare d) ∗ (∃ d, owns (c : Thread nD τ) arg27 fullShare d)) -∗ K ⟨⟩))
          ⊢ wp frame (wpE (defs₀ (F := F)) Variants.none c none) E (cc0_mixers i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27) K } := by
  refine ⟨?_, ?_, fun E K => ?run⟩
  case run =>
    simp only [cc0_mixers_eq_skeleton]; unfold cc0_mixers_skel
    simp only [k0_part145_eq_skeleton, k0_part83_eq_skeleton, k0_part84_eq_skeleton, k0_part85_eq_skeleton, k0_part86_eq_skeleton, k0_part87_eq_skeleton, k0_part88_eq_skeleton, k0_part89_eq_skeleton, k0_part90_eq_skeleton, k0_part91_eq_skeleton, k0_part92_eq_skeleton, k0_part93_eq_skeleton, k0_part94_eq_skeleton, k0_part95_eq_skeleton, k0_part96_eq_skeleton, k0_part97_eq_skeleton, k0_part98_eq_skeleton, k0_part99_eq_skeleton, k0_part100_eq_skeleton, k0_part101_eq_skeleton, k0_part102_eq_skeleton, k0_part103_eq_skeleton, k0_part104_eq_skeleton, k0_part105_eq_skeleton, k0_part106_eq_skeleton, k0_part107_eq_skeleton, k0_part108_eq_skeleton, k0_part109_eq_skeleton, k0_part110_eq_skeleton, k0_part111_eq_skeleton, k0_part112_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part113_eq_skeleton, k0_part114_eq_skeleton, k0_part115_eq_skeleton, k0_part116_eq_skeleton, k0_part117_eq_skeleton, k0_part118_eq_skeleton, k0_part119_eq_skeleton, k0_part120_eq_skeleton, k0_part121_eq_skeleton, k0_part122_eq_skeleton, k0_part123_eq_skeleton, k0_part124_eq_skeleton, k0_part125_eq_skeleton, k0_part126_eq_skeleton, k0_part127_eq_skeleton, k0_part128_eq_skeleton, k0_part129_eq_skeleton, k0_part130_eq_skeleton, k0_part131_eq_skeleton, k0_part132_eq_skeleton, k0_part133_eq_skeleton, k0_part134_eq_skeleton, k0_part135_eq_skeleton, k0_part136_eq_skeleton, k0_part137_eq_skeleton, k0_part138_eq_skeleton, k0_part139_eq_skeleton, k0_part140_eq_skeleton, k0_part141_eq_skeleton, k0_part142_eq_skeleton, k0_part143_eq_skeleton, k0_part144_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%d15, %f15, -, H15⟩, ⟨%d16, %f16, -, H16⟩, ⟨%ds0, %fs0, -, HS0⟩, ⟨%ds1, %fs1, -, HS1⟩, ⟨%ds2, %fs2, -, HS2⟩, ⟨%ds3, %fs3, -, HS3⟩, ⟨%ds4, %fs4, -, HS4⟩, ⟨%ds5, %fs5, -, HS5⟩, ⟨%ds6, %fs6, -, HS6⟩, ⟨%ds7, %fs7, -, HS7⟩, ⟨%ds8, %fs8, -, HS8⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11; obtain rfl := harg14.eq_unread hf12; obtain rfl := harg15.eq_unread hf13; obtain rfl := harg16.eq_unread hf14
    sl_exec (disch := first | sl_exact hc0 | sl_exact hc1 | sl_exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; · ipureintro; exact harg12.read_unread _
      iexact H10
    isplitl [H11]
    · iexists _; isplitr; · ipureintro; exact harg13.read_unread _
      iexact H11
    isplitl [H12]
    · iexists _; isplitr; · ipureintro; exact harg14.read_unread _
      iexact H12
    isplitl [H13]
    · iexists _; isplitr; · ipureintro; exact harg15.read_unread _
      iexact H13
    isplitl [H14]
    · iexists _; isplitr; · ipureintro; exact harg16.read_unread _
      iexact H14
    isplitl [H15]; · iexists _; iexact H15
    isplitl [H16]; · iexists _; iexact H16
    isplitl [HS0]
    · iexists _, _; isplitr; swap; · iexact HS0
      ipureintro; rfl
    isplitl [HS1]
    · iexists _, _; isplitr; swap; · iexact HS1
      ipureintro; rfl
    isplitl [HS2]
    · iexists _, _; isplitr; swap; · iexact HS2
      ipureintro; rfl
    isplitl [HS3]
    · iexists _, _; isplitr; swap; · iexact HS3
      ipureintro; rfl
    isplitl [HS4]
    · iexists _, _; isplitr; swap; · iexact HS4
      ipureintro; rfl
    isplitl [HS5]
    · iexists _, _; isplitr; swap; · iexact HS5
      ipureintro; rfl
    isplitl [HS6]
    · iexists _, _; isplitr; swap; · iexact HS6
      ipureintro; rfl
    isplitl [HS7]
    · iexists _, _; isplitr; swap; · iexact HS7
      ipureintro; rfl
    iexists _, _; isplitr; swap; · iexact HS8
    ipureintro; rfl

end Cert.KernelIdeal.Gen

end
-- ==== Proof.MixersFrame.lean ====
/- What the body leaves in its two output blocks at each grid point, and the whole run. -/
module

public import proofs.«01_k».proof.Proof.MixersRunA
public import proofs.«01_k».proof.Proof.MixersRunB
public import proofs.«01_k».proof.Proof.MixersRunC
public import proofs.«01_k».proof.Proof.MixersRunD
public import Idealize.ShloMosaic.Lib.Claim

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

theorem cover0_A_15 (c : Dev nD) (i : grid0.Coords) (arg2 : Memref sig .tc .vmem S1x512x256 .bf16) (harg2 : arg2.IsWhole) (arg3 : Memref sig .tc .vmem S1x512x256 .bf16) (harg3 : arg3.IsWhole) (arg4 : Memref sig .tc .vmem S1x2x16x256 .f32) (harg4 : arg4.IsWhole) (arg5 : Memref sig .tc .vmem S1x256x128 .bf16) (harg5 : arg5.IsWhole) (arg6 : Memref sig .tc .vmem S1x2x80x256 .bf16) (harg6 : arg6.IsWhole) (arg7 : Memref sig .tc .vmem S1x16x256x256 .bf16) (harg7 : arg7.IsWhole) (arg8 : Memref sig .tc .vmem S1x2x16x80x256 .bf16) (harg8 : arg8.IsWhole) (arg9 : Memref sig .tc .vmem S1x16x256x128 .bf16) (harg9 : arg9.IsWhole) (arg10 : Memref sig .tc .vmem S1x2x16x80x256 .bf16) (harg10 : arg10.IsWhole) (arg11 : Memref sig .tc .vmem S64x256 .bf16) (harg11 : arg11.IsWhole) (arg12 : Memref sig .tc .vmem S1x512x256 .bf16) (harg12 : arg12.IsWhole) (arg13 : Memref sig .tc .vmem S1x512x256 .bf16) (harg13 : arg13.IsWhole) (arg14 : Memref sig .tc .vmem S1x8x16x64 .f32) (harg14 : arg14.IsWhole) (arg15 : Memref sig .tc .vmem S1x16x256x1024 .bf16) (harg15 : arg15.IsWhole) (arg16 : Memref sig .tc .vmem S1x8x16x80x256 .bf16) (harg16 : arg16.IsWhole) (arg17 : Memref sig .tc .vmem S1x512x256 .bf16) (harg17 : arg17.IsWhole) (arg18 : Memref sig .tc .vmem S1x512x256 .bf16) (harg18 : arg18.IsWhole) (arg19 : Memref sig .tc .vmem S2x256x2048 .f32) (harg19 : arg19.IsWhole) (arg20 : Memref sig .tc .vmem S2x1x2048 .f32) (harg20 : arg20.IsWhole) (arg21 : Memref sig .tc .vmem S1x2048 .f32) (harg21 : arg21.IsWhole) (arg22 : Memref sig .tc .vmem S80x2048 .f32) (harg22 : arg22.IsWhole) (arg23 : Memref sig .tc .vmem S64x512 .f32) (harg23 : arg23.IsWhole) (arg24 : Memref sig .tc .vmem S2x256x2048 .f32) (harg24 : arg24.IsWhole) (arg25 : Memref sig .tc .vmem S2x1x2048 .f32) (harg25 : arg25.IsWhole) (arg26 : Memref sig .tc .vmem S1x2048 .f32) (harg26 : arg26.IsWhole) (arg27 : Memref sig .tc .vmem S80x2048 .f32) (harg27 : arg27.IsWhole) (hc0 : ¬cond0_0 i) (hc1 : ¬cond0_1 i) (hc2 : ¬cond0_2 i)
    (x0 : Vec F S1x512x256 .bf16) (x1 : Vec F S1x512x256 .bf16) (x2 : Vec F S1x2x16x256 .f32) (x3 : Vec F S1x256x128 .bf16) (x4 : Vec F S1x2x80x256 .bf16) (x5 : Vec F S1x16x256x256 .bf16) (x6 : Vec F S1x2x16x80x256 .bf16) (x7 : Vec F S1x16x256x128 .bf16) (x8 : Vec F S1x2x16x80x256 .bf16) (x9 : Vec F S64x256 .bf16) (x10 : Vec F S1x512x256 .bf16) (x11 : Vec F S1x512x256 .bf16) (x12 : Vec F S1x8x16x64 .f32) (x13 : Vec F S1x16x256x1024 .bf16) (x14 : Vec F S1x8x16x80x256 .bf16) (y : S1x512x256.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 hc2 x0 x1 x2 x3 x4 x5 x6 x7 x8 x9 x10 x11 x12 x13 x14).1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 hc2 x0 x1 x2 x3 x4 x5 x6 x7 x8 x9 x10 x11 x12 x13 x14).1 S1x64x256.size (by sl_kernel_rfl) y

def out0_A_15 (c : Dev nD) (i : grid0.Coords) (arg2 : Memref sig .tc .vmem S1x512x256 .bf16) (harg2 : arg2.IsWhole) (arg3 : Memref sig .tc .vmem S1x512x256 .bf16) (harg3 : arg3.IsWhole) (arg4 : Memref sig .tc .vmem S1x2x16x256 .f32) (harg4 : arg4.IsWhole) (arg5 : Memref sig .tc .vmem S1x256x128 .bf16) (harg5 : arg5.IsWhole) (arg6 : Memref sig .tc .vmem S1x2x80x256 .bf16) (harg6 : arg6.IsWhole) (arg7 : Memref sig .tc .vmem S1x16x256x256 .bf16) (harg7 : arg7.IsWhole) (arg8 : Memref sig .tc .vmem S1x2x16x80x256 .bf16) (harg8 : arg8.IsWhole) (arg9 : Memref sig .tc .vmem S1x16x256x128 .bf16) (harg9 : arg9.IsWhole) (arg10 : Memref sig .tc .vmem S1x2x16x80x256 .bf16) (harg10 : arg10.IsWhole) (arg11 : Memref sig .tc .vmem S64x256 .bf16) (harg11 : arg11.IsWhole) (arg12 : Memref sig .tc .vmem S1x512x256 .bf16) (harg12 : arg12.IsWhole) (arg13 : Memref sig .tc .vmem S1x512x256 .bf16) (harg13 : arg13.IsWhole) (arg14 : Memref sig .tc .vmem S1x8x16x64 .f32) (harg14 : arg14.IsWhole) (arg15 : Memref sig .tc .vmem S1x16x256x1024 .bf16) (harg15 : arg15.IsWhole) (arg16 : Memref sig .tc .vmem S1x8x16x80x256 .bf16) (harg16 : arg16.IsWhole) (arg17 : Memref sig .tc .vmem S1x512x256 .bf16) (harg17 : arg17.IsWhole) (arg18 : Memref sig .tc .vmem S1x512x256 .bf16) (harg18 : arg18.IsWhole) (arg19 : Memref sig .tc .vmem S2x256x2048 .f32) (harg19 : arg19.IsWhole) (arg20 : Memref sig .tc .vmem S2x1x2048 .f32) (harg20 : arg20.IsWhole) (arg21 : Memref sig .tc .vmem S1x2048 .f32) (harg21 : arg21.IsWhole) (arg22 : Memref sig .tc .vmem S80x2048 .f32) (harg22 : arg22.IsWhole) (arg23 : Memref sig .tc .vmem S64x512 .f32) (harg23 : arg23.IsWhole) (arg24 : Memref sig .tc .vmem S2x256x2048 .f32) (harg24 : arg24.IsWhole) (arg25 : Memref sig .tc .vmem S2x1x2048 .f32) (harg25 : arg25.IsWhole) (arg26 : Memref sig .tc .vmem S1x2048 .f32) (harg26 : arg26.IsWhole) (arg27 : Memref sig .tc .vmem S80x2048 .f32) (harg27 : arg27.IsWhole) (hc0 : ¬cond0_0 i) (hc1 : ¬cond0_1 i) (hc2 : ¬cond0_2 i)
    (x0 : Vec F S1x512x256 .bf16) (x1 : Vec F S1x512x256 .bf16) (x2 : Vec F S1x2x16x256 .f32) (x3 : Vec F S1x256x128 .bf16) (x4 : Vec F S1x2x80x256 .bf16) (x5 : Vec F S1x16x256x256 .bf16) (x6 : Vec F S1x2x16x80x256 .bf16) (x7 : Vec F S1x16x256x128 .bf16) (x8 : Vec F S1x2x16x80x256 .bf16) (x9 : Vec F S64x256 .bf16) (x10 : Vec F S1x512x256 .bf16) (x11 : Vec F S1x512x256 .bf16) (x12 : Vec F S1x8x16x64 .f32) (x13 : Vec F S1x16x256x1024 .bf16) (x14 : Vec F S1x8x16x80x256 .bf16) : Vec F S1x512x256 .bf16 :=
  VO0_15.read (Elt F) (VO0_15.writes (Elt F) VO0_15.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 hc2 x0 x1 x2 x3 x4 x5 x6 x7 x8 x9 x10 x11 x12 x13 x14).1)

theorem cover0_A_16 (c : Dev nD) (i : grid0.Coords) (arg2 : Memref sig .tc .vmem S1x512x256 .bf16) (harg2 : arg2.IsWhole) (arg3 : Memref sig .tc .vmem S1x512x256 .bf16) (harg3 : arg3.IsWhole) (arg4 : Memref sig .tc .vmem S1x2x16x256 .f32) (harg4 : arg4.IsWhole) (arg5 : Memref sig .tc .vmem S1x256x128 .bf16) (harg5 : arg5.IsWhole) (arg6 : Memref sig .tc .vmem S1x2x80x256 .bf16) (harg6 : arg6.IsWhole) (arg7 : Memref sig .tc .vmem S1x16x256x256 .bf16) (harg7 : arg7.IsWhole) (arg8 : Memref sig .tc .vmem S1x2x16x80x256 .bf16) (harg8 : arg8.IsWhole) (arg9 : Memref sig .tc .vmem S1x16x256x128 .bf16) (harg9 : arg9.IsWhole) (arg10 : Memref sig .tc .vmem S1x2x16x80x256 .bf16) (harg10 : arg10.IsWhole) (arg11 : Memref sig .tc .vmem S64x256 .bf16) (harg11 : arg11.IsWhole) (arg12 : Memref sig .tc .vmem S1x512x256 .bf16) (harg12 : arg12.IsWhole) (arg13 : Memref sig .tc .vmem S1x512x256 .bf16) (harg13 : arg13.IsWhole) (arg14 : Memref sig .tc .vmem S1x8x16x64 .f32) (harg14 : arg14.IsWhole) (arg15 : Memref sig .tc .vmem S1x16x256x1024 .bf16) (harg15 : arg15.IsWhole) (arg16 : Memref sig .tc .vmem S1x8x16x80x256 .bf16) (harg16 : arg16.IsWhole) (arg17 : Memref sig .tc .vmem S1x512x256 .bf16) (harg17 : arg17.IsWhole) (arg18 : Memref sig .tc .vmem S1x512x256 .bf16) (harg18 : arg18.IsWhole) (arg19 : Memref sig .tc .vmem S2x256x2048 .f32) (harg19 : arg19.IsWhole) (arg20 : Memref sig .tc .vmem S2x1x2048 .f32) (harg20 : arg20.IsWhole) (arg21 : Memref sig .tc .vmem S1x2048 .f32) (harg21 : arg21.IsWhole) (arg22 : Memref sig .tc .vmem S80x2048 .f32) (harg22 : arg22.IsWhole) (arg23 : Memref sig .tc .vmem S64x512 .f32) (harg23 : arg23.IsWhole) (arg24 : Memref sig .tc .vmem S2x256x2048 .f32) (harg24 : arg24.IsWhole) (arg25 : Memref sig .tc .vmem S2x1x2048 .f32) (harg25 : arg25.IsWhole) (arg26 : Memref sig .tc .vmem S1x2048 .f32) (harg26 : arg26.IsWhole) (arg27 : Memref sig .tc .vmem S80x2048 .f32) (harg27 : arg27.IsWhole) (hc0 : ¬cond0_0 i) (hc1 : ¬cond0_1 i) (hc2 : ¬cond0_2 i)
    (x0 : Vec F S1x512x256 .bf16) (x1 : Vec F S1x512x256 .bf16) (x2 : Vec F S1x2x16x256 .f32) (x3 : Vec F S1x256x128 .bf16) (x4 : Vec F S1x2x80x256 .bf16) (x5 : Vec F S1x16x256x256 .bf16) (x6 : Vec F S1x2x16x80x256 .bf16) (x7 : Vec F S1x16x256x128 .bf16) (x8 : Vec F S1x2x16x80x256 .bf16) (x9 : Vec F S64x256 .bf16) (x10 : Vec F S1x512x256 .bf16) (x11 : Vec F S1x512x256 .bf16) (x12 : Vec F S1x8x16x64 .f32) (x13 : Vec F S1x16x256x1024 .bf16) (x14 : Vec F S1x8x16x80x256 .bf16) (y : S1x512x256.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 hc2 x0 x1 x2 x3 x4 x5 x6 x7 x8 x9 x10 x11 x12 x13 x14).2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 hc2 x0 x1 x2 x3 x4 x5 x6 x7 x8 x9 x10 x11 x12 x13 x14).2.1 S1x64x256.size (by sl_kernel_rfl) y

def out0_A_16 (c : Dev nD) (i : grid0.Coords) (arg2 : Memref sig .tc .vmem S1x512x256 .bf16) (harg2 : arg2.IsWhole) (arg3 : Memref sig .tc .vmem S1x512x256 .bf16) (harg3 : arg3.IsWhole) (arg4 : Memref sig .tc .vmem S1x2x16x256 .f32) (harg4 : arg4.IsWhole) (arg5 : Memref sig .tc .vmem S1x256x128 .bf16) (harg5 : arg5.IsWhole) (arg6 : Memref sig .tc .vmem S1x2x80x256 .bf16) (harg6 : arg6.IsWhole) (arg7 : Memref sig .tc .vmem S1x16x256x256 .bf16) (harg7 : arg7.IsWhole) (arg8 : Memref sig .tc .vmem S1x2x16x80x256 .bf16) (harg8 : arg8.IsWhole) (arg9 : Memref sig .tc .vmem S1x16x256x128 .bf16) (harg9 : arg9.IsWhole) (arg10 : Memref sig .tc .vmem S1x2x16x80x256 .bf16) (harg10 : arg10.IsWhole) (arg11 : Memref sig .tc .vmem S64x256 .bf16) (harg11 : arg11.IsWhole) (arg12 : Memref sig .tc .vmem S1x512x256 .bf16) (harg12 : arg12.IsWhole) (arg13 : Memref sig .tc .vmem S1x512x256 .bf16) (harg13 : arg13.IsWhole) (arg14 : Memref sig .tc .vmem S1x8x16x64 .f32) (harg14 : arg14.IsWhole) (arg15 : Memref sig .tc .vmem S1x16x256x1024 .bf16) (harg15 : arg15.IsWhole) (arg16 : Memref sig .tc .vmem S1x8x16x80x256 .bf16) (harg16 : arg16.IsWhole) (arg17 : Memref sig .tc .vmem S1x512x256 .bf16) (harg17 : arg17.IsWhole) (arg18 : Memref sig .tc .vmem S1x512x256 .bf16) (harg18 : arg18.IsWhole) (arg19 : Memref sig .tc .vmem S2x256x2048 .f32) (harg19 : arg19.IsWhole) (arg20 : Memref sig .tc .vmem S2x1x2048 .f32) (harg20 : arg20.IsWhole) (arg21 : Memref sig .tc .vmem S1x2048 .f32) (harg21 : arg21.IsWhole) (arg22 : Memref sig .tc .vmem S80x2048 .f32) (harg22 : arg22.IsWhole) (arg23 : Memref sig .tc .vmem S64x512 .f32) (harg23 : arg23.IsWhole) (arg24 : Memref sig .tc .vmem S2x256x2048 .f32) (harg24 : arg24.IsWhole) (arg25 : Memref sig .tc .vmem S2x1x2048 .f32) (harg25 : arg25.IsWhole) (arg26 : Memref sig .tc .vmem S1x2048 .f32) (harg26 : arg26.IsWhole) (arg27 : Memref sig .tc .vmem S80x2048 .f32) (harg27 : arg27.IsWhole) (hc0 : ¬cond0_0 i) (hc1 : ¬cond0_1 i) (hc2 : ¬cond0_2 i)
    (x0 : Vec F S1x512x256 .bf16) (x1 : Vec F S1x512x256 .bf16) (x2 : Vec F S1x2x16x256 .f32) (x3 : Vec F S1x256x128 .bf16) (x4 : Vec F S1x2x80x256 .bf16) (x5 : Vec F S1x16x256x256 .bf16) (x6 : Vec F S1x2x16x80x256 .bf16) (x7 : Vec F S1x16x256x128 .bf16) (x8 : Vec F S1x2x16x80x256 .bf16) (x9 : Vec F S64x256 .bf16) (x10 : Vec F S1x512x256 .bf16) (x11 : Vec F S1x512x256 .bf16) (x12 : Vec F S1x8x16x64 .f32) (x13 : Vec F S1x16x256x1024 .bf16) (x14 : Vec F S1x8x16x80x256 .bf16) : Vec F S1x512x256 .bf16 :=
  VO0_16.read (Elt F) (VO0_16.writes (Elt F) VO0_16.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 hc2 x0 x1 x2 x3 x4 x5 x6 x7 x8 x9 x10 x11 x12 x13 x14).2.1)

theorem cover0_B_15 (c : Dev nD) (i : grid0.Coords) (arg2 : Memref sig .tc .vmem S1x512x256 .bf16) (harg2 : arg2.IsWhole) (arg3 : Memref sig .tc .vmem S1x512x256 .bf16) (harg3 : arg3.IsWhole) (arg4 : Memref sig .tc .vmem S1x2x16x256 .f32) (harg4 : arg4.IsWhole) (arg5 : Memref sig .tc .vmem S1x256x128 .bf16) (harg5 : arg5.IsWhole) (arg6 : Memref sig .tc .vmem S1x2x80x256 .bf16) (harg6 : arg6.IsWhole) (arg7 : Memref sig .tc .vmem S1x16x256x256 .bf16) (harg7 : arg7.IsWhole) (arg8 : Memref sig .tc .vmem S1x2x16x80x256 .bf16) (harg8 : arg8.IsWhole) (arg9 : Memref sig .tc .vmem S1x16x256x128 .bf16) (harg9 : arg9.IsWhole) (arg10 : Memref sig .tc .vmem S1x2x16x80x256 .bf16) (harg10 : arg10.IsWhole) (arg11 : Memref sig .tc .vmem S64x256 .bf16) (harg11 : arg11.IsWhole) (arg12 : Memref sig .tc .vmem S1x512x256 .bf16) (harg12 : arg12.IsWhole) (arg13 : Memref sig .tc .vmem S1x512x256 .bf16) (harg13 : arg13.IsWhole) (arg14 : Memref sig .tc .vmem S1x8x16x64 .f32) (harg14 : arg14.IsWhole) (arg15 : Memref sig .tc .vmem S1x16x256x1024 .bf16) (harg15 : arg15.IsWhole) (arg16 : Memref sig .tc .vmem S1x8x16x80x256 .bf16) (harg16 : arg16.IsWhole) (arg17 : Memref sig .tc .vmem S1x512x256 .bf16) (harg17 : arg17.IsWhole) (arg18 : Memref sig .tc .vmem S1x512x256 .bf16) (harg18 : arg18.IsWhole) (arg19 : Memref sig .tc .vmem S2x256x2048 .f32) (harg19 : arg19.IsWhole) (arg20 : Memref sig .tc .vmem S2x1x2048 .f32) (harg20 : arg20.IsWhole) (arg21 : Memref sig .tc .vmem S1x2048 .f32) (harg21 : arg21.IsWhole) (arg22 : Memref sig .tc .vmem S80x2048 .f32) (harg22 : arg22.IsWhole) (arg23 : Memref sig .tc .vmem S64x512 .f32) (harg23 : arg23.IsWhole) (arg24 : Memref sig .tc .vmem S2x256x2048 .f32) (harg24 : arg24.IsWhole) (arg25 : Memref sig .tc .vmem S2x1x2048 .f32) (harg25 : arg25.IsWhole) (arg26 : Memref sig .tc .vmem S1x2048 .f32) (harg26 : arg26.IsWhole) (arg27 : Memref sig .tc .vmem S80x2048 .f32) (harg27 : arg27.IsWhole) (hc0 : cond0_0 i) (hc1 : ¬cond0_1 i) (hc2 : ¬cond0_2 i)
    (x0 : Vec F S1x512x256 .bf16) (x1 : Vec F S1x512x256 .bf16) (x2 : Vec F S1x2x16x256 .f32) (x3 : Vec F S1x256x128 .bf16) (x4 : Vec F S1x2x80x256 .bf16) (x5 : Vec F S1x16x256x256 .bf16) (x6 : Vec F S1x2x16x80x256 .bf16) (x7 : Vec F S1x16x256x128 .bf16) (x8 : Vec F S1x2x16x80x256 .bf16) (x9 : Vec F S64x256 .bf16) (x10 : Vec F S1x512x256 .bf16) (x11 : Vec F S1x512x256 .bf16) (x12 : Vec F S1x8x16x64 .f32) (x13 : Vec F S1x16x256x1024 .bf16) (x14 : Vec F S1x8x16x80x256 .bf16) (y : S1x512x256.Idx) :
    ∃ pc ∈ (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 hc2 x0 x1 x2 x3 x4 x5 x6 x7 x8 x9 x10 x11 x12 x13 x14).1, y ∈ pc.1.set :=
  View.cover_of_tiledL (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 hc2 x0 x1 x2 x3 x4 x5 x6 x7 x8 x9 x10 x11 x12 x13 x14).1 S1x64x256.size (by sl_kernel_rfl) y

def out0_B_15 (c : Dev nD) (i : grid0.Coords) (arg2 : Memref sig .tc .vmem S1x512x256 .bf16) (harg2 : arg2.IsWhole) (arg3 : Memref sig .tc .vmem S1x512x256 .bf16) (harg3 : arg3.IsWhole) (arg4 : Memref sig .tc .vmem S1x2x16x256 .f32) (harg4 : arg4.IsWhole) (arg5 : Memref sig .tc .vmem S1x256x128 .bf16) (harg5 : arg5.IsWhole) (arg6 : Memref sig .tc .vmem S1x2x80x256 .bf16) (harg6 : arg6.IsWhole) (arg7 : Memref sig .tc .vmem S1x16x256x256 .bf16) (harg7 : arg7.IsWhole) (arg8 : Memref sig .tc .vmem S1x2x16x80x256 .bf16) (harg8 : arg8.IsWhole) (arg9 : Memref sig .tc .vmem S1x16x256x128 .bf16) (harg9 : arg9.IsWhole) (arg10 : Memref sig .tc .vmem S1x2x16x80x256 .bf16) (harg10 : arg10.IsWhole) (arg11 : Memref sig .tc .vmem S64x256 .bf16) (harg11 : arg11.IsWhole) (arg12 : Memref sig .tc .vmem S1x512x256 .bf16) (harg12 : arg12.IsWhole) (arg13 : Memref sig .tc .vmem S1x512x256 .bf16) (harg13 : arg13.IsWhole) (arg14 : Memref sig .tc .vmem S1x8x16x64 .f32) (harg14 : arg14.IsWhole) (arg15 : Memref sig .tc .vmem S1x16x256x1024 .bf16) (harg15 : arg15.IsWhole) (arg16 : Memref sig .tc .vmem S1x8x16x80x256 .bf16) (harg16 : arg16.IsWhole) (arg17 : Memref sig .tc .vmem S1x512x256 .bf16) (harg17 : arg17.IsWhole) (arg18 : Memref sig .tc .vmem S1x512x256 .bf16) (harg18 : arg18.IsWhole) (arg19 : Memref sig .tc .vmem S2x256x2048 .f32) (harg19 : arg19.IsWhole) (arg20 : Memref sig .tc .vmem S2x1x2048 .f32) (harg20 : arg20.IsWhole) (arg21 : Memref sig .tc .vmem S1x2048 .f32) (harg21 : arg21.IsWhole) (arg22 : Memref sig .tc .vmem S80x2048 .f32) (harg22 : arg22.IsWhole) (arg23 : Memref sig .tc .vmem S64x512 .f32) (harg23 : arg23.IsWhole) (arg24 : Memref sig .tc .vmem S2x256x2048 .f32) (harg24 : arg24.IsWhole) (arg25 : Memref sig .tc .vmem S2x1x2048 .f32) (harg25 : arg25.IsWhole) (arg26 : Memref sig .tc .vmem S1x2048 .f32) (harg26 : arg26.IsWhole) (arg27 : Memref sig .tc .vmem S80x2048 .f32) (harg27 : arg27.IsWhole) (hc0 : cond0_0 i) (hc1 : ¬cond0_1 i) (hc2 : ¬cond0_2 i)
    (x0 : Vec F S1x512x256 .bf16) (x1 : Vec F S1x512x256 .bf16) (x2 : Vec F S1x2x16x256 .f32) (x3 : Vec F S1x256x128 .bf16) (x4 : Vec F S1x2x80x256 .bf16) (x5 : Vec F S1x16x256x256 .bf16) (x6 : Vec F S1x2x16x80x256 .bf16) (x7 : Vec F S1x16x256x128 .bf16) (x8 : Vec F S1x2x16x80x256 .bf16) (x9 : Vec F S64x256 .bf16) (x10 : Vec F S1x512x256 .bf16) (x11 : Vec F S1x512x256 .bf16) (x12 : Vec F S1x8x16x64 .f32) (x13 : Vec F S1x16x256x1024 .bf16) (x14 : Vec F S1x8x16x80x256 .bf16) : Vec F S1x512x256 .bf16 :=
  VO0_15.read (Elt F) (VO0_15.writes (Elt F) VO0_15.junk (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 hc2 x0 x1 x2 x3 x4 x5 x6 x7 x8 x9 x10 x11 x12 x13 x14).1)

theorem cover0_B_16 (c : Dev nD) (i : grid0.Coords) (arg2 : Memref sig .tc .vmem S1x512x256 .bf16) (harg2 : arg2.IsWhole) (arg3 : Memref sig .tc .vmem S1x512x256 .bf16) (harg3 : arg3.IsWhole) (arg4 : Memref sig .tc .vmem S1x2x16x256 .f32) (harg4 : arg4.IsWhole) (arg5 : Memref sig .tc .vmem S1x256x128 .bf16) (harg5 : arg5.IsWhole) (arg6 : Memref sig .tc .vmem S1x2x80x256 .bf16) (harg6 : arg6.IsWhole) (arg7 : Memref sig .tc .vmem S1x16x256x256 .bf16) (harg7 : arg7.IsWhole) (arg8 : Memref sig .tc .vmem S1x2x16x80x256 .bf16) (harg8 : arg8.IsWhole) (arg9 : Memref sig .tc .vmem S1x16x256x128 .bf16) (harg9 : arg9.IsWhole) (arg10 : Memref sig .tc .vmem S1x2x16x80x256 .bf16) (harg10 : arg10.IsWhole) (arg11 : Memref sig .tc .vmem S64x256 .bf16) (harg11 : arg11.IsWhole) (arg12 : Memref sig .tc .vmem S1x512x256 .bf16) (harg12 : arg12.IsWhole) (arg13 : Memref sig .tc .vmem S1x512x256 .bf16) (harg13 : arg13.IsWhole) (arg14 : Memref sig .tc .vmem S1x8x16x64 .f32) (harg14 : arg14.IsWhole) (arg15 : Memref sig .tc .vmem S1x16x256x1024 .bf16) (harg15 : arg15.IsWhole) (arg16 : Memref sig .tc .vmem S1x8x16x80x256 .bf16) (harg16 : arg16.IsWhole) (arg17 : Memref sig .tc .vmem S1x512x256 .bf16) (harg17 : arg17.IsWhole) (arg18 : Memref sig .tc .vmem S1x512x256 .bf16) (harg18 : arg18.IsWhole) (arg19 : Memref sig .tc .vmem S2x256x2048 .f32) (harg19 : arg19.IsWhole) (arg20 : Memref sig .tc .vmem S2x1x2048 .f32) (harg20 : arg20.IsWhole) (arg21 : Memref sig .tc .vmem S1x2048 .f32) (harg21 : arg21.IsWhole) (arg22 : Memref sig .tc .vmem S80x2048 .f32) (harg22 : arg22.IsWhole) (arg23 : Memref sig .tc .vmem S64x512 .f32) (harg23 : arg23.IsWhole) (arg24 : Memref sig .tc .vmem S2x256x2048 .f32) (harg24 : arg24.IsWhole) (arg25 : Memref sig .tc .vmem S2x1x2048 .f32) (harg25 : arg25.IsWhole) (arg26 : Memref sig .tc .vmem S1x2048 .f32) (harg26 : arg26.IsWhole) (arg27 : Memref sig .tc .vmem S80x2048 .f32) (harg27 : arg27.IsWhole) (hc0 : cond0_0 i) (hc1 : ¬cond0_1 i) (hc2 : ¬cond0_2 i)
    (x0 : Vec F S1x512x256 .bf16) (x1 : Vec F S1x512x256 .bf16) (x2 : Vec F S1x2x16x256 .f32) (x3 : Vec F S1x256x128 .bf16) (x4 : Vec F S1x2x80x256 .bf16) (x5 : Vec F S1x16x256x256 .bf16) (x6 : Vec F S1x2x16x80x256 .bf16) (x7 : Vec F S1x16x256x128 .bf16) (x8 : Vec F S1x2x16x80x256 .bf16) (x9 : Vec F S64x256 .bf16) (x10 : Vec F S1x512x256 .bf16) (x11 : Vec F S1x512x256 .bf16) (x12 : Vec F S1x8x16x64 .f32) (x13 : Vec F S1x16x256x1024 .bf16) (x14 : Vec F S1x8x16x80x256 .bf16) (y : S1x512x256.Idx) :
    ∃ pc ∈ (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 hc2 x0 x1 x2 x3 x4 x5 x6 x7 x8 x9 x10 x11 x12 x13 x14).2.1, y ∈ pc.1.set :=
  View.cover_of_tiledL (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 hc2 x0 x1 x2 x3 x4 x5 x6 x7 x8 x9 x10 x11 x12 x13 x14).2.1 S1x64x256.size (by sl_kernel_rfl) y

def out0_B_16 (c : Dev nD) (i : grid0.Coords) (arg2 : Memref sig .tc .vmem S1x512x256 .bf16) (harg2 : arg2.IsWhole) (arg3 : Memref sig .tc .vmem S1x512x256 .bf16) (harg3 : arg3.IsWhole) (arg4 : Memref sig .tc .vmem S1x2x16x256 .f32) (harg4 : arg4.IsWhole) (arg5 : Memref sig .tc .vmem S1x256x128 .bf16) (harg5 : arg5.IsWhole) (arg6 : Memref sig .tc .vmem S1x2x80x256 .bf16) (harg6 : arg6.IsWhole) (arg7 : Memref sig .tc .vmem S1x16x256x256 .bf16) (harg7 : arg7.IsWhole) (arg8 : Memref sig .tc .vmem S1x2x16x80x256 .bf16) (harg8 : arg8.IsWhole) (arg9 : Memref sig .tc .vmem S1x16x256x128 .bf16) (harg9 : arg9.IsWhole) (arg10 : Memref sig .tc .vmem S1x2x16x80x256 .bf16) (harg10 : arg10.IsWhole) (arg11 : Memref sig .tc .vmem S64x256 .bf16) (harg11 : arg11.IsWhole) (arg12 : Memref sig .tc .vmem S1x512x256 .bf16) (harg12 : arg12.IsWhole) (arg13 : Memref sig .tc .vmem S1x512x256 .bf16) (harg13 : arg13.IsWhole) (arg14 : Memref sig .tc .vmem S1x8x16x64 .f32) (harg14 : arg14.IsWhole) (arg15 : Memref sig .tc .vmem S1x16x256x1024 .bf16) (harg15 : arg15.IsWhole) (arg16 : Memref sig .tc .vmem S1x8x16x80x256 .bf16) (harg16 : arg16.IsWhole) (arg17 : Memref sig .tc .vmem S1x512x256 .bf16) (harg17 : arg17.IsWhole) (arg18 : Memref sig .tc .vmem S1x512x256 .bf16) (harg18 : arg18.IsWhole) (arg19 : Memref sig .tc .vmem S2x256x2048 .f32) (harg19 : arg19.IsWhole) (arg20 : Memref sig .tc .vmem S2x1x2048 .f32) (harg20 : arg20.IsWhole) (arg21 : Memref sig .tc .vmem S1x2048 .f32) (harg21 : arg21.IsWhole) (arg22 : Memref sig .tc .vmem S80x2048 .f32) (harg22 : arg22.IsWhole) (arg23 : Memref sig .tc .vmem S64x512 .f32) (harg23 : arg23.IsWhole) (arg24 : Memref sig .tc .vmem S2x256x2048 .f32) (harg24 : arg24.IsWhole) (arg25 : Memref sig .tc .vmem S2x1x2048 .f32) (harg25 : arg25.IsWhole) (arg26 : Memref sig .tc .vmem S1x2048 .f32) (harg26 : arg26.IsWhole) (arg27 : Memref sig .tc .vmem S80x2048 .f32) (harg27 : arg27.IsWhole) (hc0 : cond0_0 i) (hc1 : ¬cond0_1 i) (hc2 : ¬cond0_2 i)
    (x0 : Vec F S1x512x256 .bf16) (x1 : Vec F S1x512x256 .bf16) (x2 : Vec F S1x2x16x256 .f32) (x3 : Vec F S1x256x128 .bf16) (x4 : Vec F S1x2x80x256 .bf16) (x5 : Vec F S1x16x256x256 .bf16) (x6 : Vec F S1x2x16x80x256 .bf16) (x7 : Vec F S1x16x256x128 .bf16) (x8 : Vec F S1x2x16x80x256 .bf16) (x9 : Vec F S64x256 .bf16) (x10 : Vec F S1x512x256 .bf16) (x11 : Vec F S1x512x256 .bf16) (x12 : Vec F S1x8x16x64 .f32) (x13 : Vec F S1x16x256x1024 .bf16) (x14 : Vec F S1x8x16x80x256 .bf16) : Vec F S1x512x256 .bf16 :=
  VO0_16.read (Elt F) (VO0_16.writes (Elt F) VO0_16.junk (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 hc2 x0 x1 x2 x3 x4 x5 x6 x7 x8 x9 x10 x11 x12 x13 x14).2.1)

theorem cover0_C_15 (c : Dev nD) (i : grid0.Coords) (arg2 : Memref sig .tc .vmem S1x512x256 .bf16) (harg2 : arg2.IsWhole) (arg3 : Memref sig .tc .vmem S1x512x256 .bf16) (harg3 : arg3.IsWhole) (arg4 : Memref sig .tc .vmem S1x2x16x256 .f32) (harg4 : arg4.IsWhole) (arg5 : Memref sig .tc .vmem S1x256x128 .bf16) (harg5 : arg5.IsWhole) (arg6 : Memref sig .tc .vmem S1x2x80x256 .bf16) (harg6 : arg6.IsWhole) (arg7 : Memref sig .tc .vmem S1x16x256x256 .bf16) (harg7 : arg7.IsWhole) (arg8 : Memref sig .tc .vmem S1x2x16x80x256 .bf16) (harg8 : arg8.IsWhole) (arg9 : Memref sig .tc .vmem S1x16x256x128 .bf16) (harg9 : arg9.IsWhole) (arg10 : Memref sig .tc .vmem S1x2x16x80x256 .bf16) (harg10 : arg10.IsWhole) (arg11 : Memref sig .tc .vmem S64x256 .bf16) (harg11 : arg11.IsWhole) (arg12 : Memref sig .tc .vmem S1x512x256 .bf16) (harg12 : arg12.IsWhole) (arg13 : Memref sig .tc .vmem S1x512x256 .bf16) (harg13 : arg13.IsWhole) (arg14 : Memref sig .tc .vmem S1x8x16x64 .f32) (harg14 : arg14.IsWhole) (arg15 : Memref sig .tc .vmem S1x16x256x1024 .bf16) (harg15 : arg15.IsWhole) (arg16 : Memref sig .tc .vmem S1x8x16x80x256 .bf16) (harg16 : arg16.IsWhole) (arg17 : Memref sig .tc .vmem S1x512x256 .bf16) (harg17 : arg17.IsWhole) (arg18 : Memref sig .tc .vmem S1x512x256 .bf16) (harg18 : arg18.IsWhole) (arg19 : Memref sig .tc .vmem S2x256x2048 .f32) (harg19 : arg19.IsWhole) (arg20 : Memref sig .tc .vmem S2x1x2048 .f32) (harg20 : arg20.IsWhole) (arg21 : Memref sig .tc .vmem S1x2048 .f32) (harg21 : arg21.IsWhole) (arg22 : Memref sig .tc .vmem S80x2048 .f32) (harg22 : arg22.IsWhole) (arg23 : Memref sig .tc .vmem S64x512 .f32) (harg23 : arg23.IsWhole) (arg24 : Memref sig .tc .vmem S2x256x2048 .f32) (harg24 : arg24.IsWhole) (arg25 : Memref sig .tc .vmem S2x1x2048 .f32) (harg25 : arg25.IsWhole) (arg26 : Memref sig .tc .vmem S1x2048 .f32) (harg26 : arg26.IsWhole) (arg27 : Memref sig .tc .vmem S80x2048 .f32) (harg27 : arg27.IsWhole) (hc0 : cond0_0 i) (hc1 : cond0_1 i) (hc2 : ¬cond0_2 i)
    (x0 : Vec F S1x512x256 .bf16) (x1 : Vec F S1x512x256 .bf16) (x2 : Vec F S1x2x16x256 .f32) (x3 : Vec F S1x256x128 .bf16) (x4 : Vec F S1x2x80x256 .bf16) (x5 : Vec F S1x16x256x256 .bf16) (x6 : Vec F S1x2x16x80x256 .bf16) (x7 : Vec F S1x16x256x128 .bf16) (x8 : Vec F S1x2x16x80x256 .bf16) (x9 : Vec F S64x256 .bf16) (x10 : Vec F S1x512x256 .bf16) (x11 : Vec F S1x512x256 .bf16) (x12 : Vec F S1x8x16x64 .f32) (x13 : Vec F S1x16x256x1024 .bf16) (x14 : Vec F S1x8x16x80x256 .bf16) (y : S1x512x256.Idx) :
    ∃ pc ∈ (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 hc2 x0 x1 x2 x3 x4 x5 x6 x7 x8 x9 x10 x11 x12 x13 x14).1, y ∈ pc.1.set :=
  View.cover_of_tiledL (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 hc2 x0 x1 x2 x3 x4 x5 x6 x7 x8 x9 x10 x11 x12 x13 x14).1 S1x64x256.size (by sl_kernel_rfl) y

def out0_C_15 (c : Dev nD) (i : grid0.Coords) (arg2 : Memref sig .tc .vmem S1x512x256 .bf16) (harg2 : arg2.IsWhole) (arg3 : Memref sig .tc .vmem S1x512x256 .bf16) (harg3 : arg3.IsWhole) (arg4 : Memref sig .tc .vmem S1x2x16x256 .f32) (harg4 : arg4.IsWhole) (arg5 : Memref sig .tc .vmem S1x256x128 .bf16) (harg5 : arg5.IsWhole) (arg6 : Memref sig .tc .vmem S1x2x80x256 .bf16) (harg6 : arg6.IsWhole) (arg7 : Memref sig .tc .vmem S1x16x256x256 .bf16) (harg7 : arg7.IsWhole) (arg8 : Memref sig .tc .vmem S1x2x16x80x256 .bf16) (harg8 : arg8.IsWhole) (arg9 : Memref sig .tc .vmem S1x16x256x128 .bf16) (harg9 : arg9.IsWhole) (arg10 : Memref sig .tc .vmem S1x2x16x80x256 .bf16) (harg10 : arg10.IsWhole) (arg11 : Memref sig .tc .vmem S64x256 .bf16) (harg11 : arg11.IsWhole) (arg12 : Memref sig .tc .vmem S1x512x256 .bf16) (harg12 : arg12.IsWhole) (arg13 : Memref sig .tc .vmem S1x512x256 .bf16) (harg13 : arg13.IsWhole) (arg14 : Memref sig .tc .vmem S1x8x16x64 .f32) (harg14 : arg14.IsWhole) (arg15 : Memref sig .tc .vmem S1x16x256x1024 .bf16) (harg15 : arg15.IsWhole) (arg16 : Memref sig .tc .vmem S1x8x16x80x256 .bf16) (harg16 : arg16.IsWhole) (arg17 : Memref sig .tc .vmem S1x512x256 .bf16) (harg17 : arg17.IsWhole) (arg18 : Memref sig .tc .vmem S1x512x256 .bf16) (harg18 : arg18.IsWhole) (arg19 : Memref sig .tc .vmem S2x256x2048 .f32) (harg19 : arg19.IsWhole) (arg20 : Memref sig .tc .vmem S2x1x2048 .f32) (harg20 : arg20.IsWhole) (arg21 : Memref sig .tc .vmem S1x2048 .f32) (harg21 : arg21.IsWhole) (arg22 : Memref sig .tc .vmem S80x2048 .f32) (harg22 : arg22.IsWhole) (arg23 : Memref sig .tc .vmem S64x512 .f32) (harg23 : arg23.IsWhole) (arg24 : Memref sig .tc .vmem S2x256x2048 .f32) (harg24 : arg24.IsWhole) (arg25 : Memref sig .tc .vmem S2x1x2048 .f32) (harg25 : arg25.IsWhole) (arg26 : Memref sig .tc .vmem S1x2048 .f32) (harg26 : arg26.IsWhole) (arg27 : Memref sig .tc .vmem S80x2048 .f32) (harg27 : arg27.IsWhole) (hc0 : cond0_0 i) (hc1 : cond0_1 i) (hc2 : ¬cond0_2 i)
    (x0 : Vec F S1x512x256 .bf16) (x1 : Vec F S1x512x256 .bf16) (x2 : Vec F S1x2x16x256 .f32) (x3 : Vec F S1x256x128 .bf16) (x4 : Vec F S1x2x80x256 .bf16) (x5 : Vec F S1x16x256x256 .bf16) (x6 : Vec F S1x2x16x80x256 .bf16) (x7 : Vec F S1x16x256x128 .bf16) (x8 : Vec F S1x2x16x80x256 .bf16) (x9 : Vec F S64x256 .bf16) (x10 : Vec F S1x512x256 .bf16) (x11 : Vec F S1x512x256 .bf16) (x12 : Vec F S1x8x16x64 .f32) (x13 : Vec F S1x16x256x1024 .bf16) (x14 : Vec F S1x8x16x80x256 .bf16) : Vec F S1x512x256 .bf16 :=
  VO0_15.read (Elt F) (VO0_15.writes (Elt F) VO0_15.junk (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 hc2 x0 x1 x2 x3 x4 x5 x6 x7 x8 x9 x10 x11 x12 x13 x14).1)

theorem cover0_C_16 (c : Dev nD) (i : grid0.Coords) (arg2 : Memref sig .tc .vmem S1x512x256 .bf16) (harg2 : arg2.IsWhole) (arg3 : Memref sig .tc .vmem S1x512x256 .bf16) (harg3 : arg3.IsWhole) (arg4 : Memref sig .tc .vmem S1x2x16x256 .f32) (harg4 : arg4.IsWhole) (arg5 : Memref sig .tc .vmem S1x256x128 .bf16) (harg5 : arg5.IsWhole) (arg6 : Memref sig .tc .vmem S1x2x80x256 .bf16) (harg6 : arg6.IsWhole) (arg7 : Memref sig .tc .vmem S1x16x256x256 .bf16) (harg7 : arg7.IsWhole) (arg8 : Memref sig .tc .vmem S1x2x16x80x256 .bf16) (harg8 : arg8.IsWhole) (arg9 : Memref sig .tc .vmem S1x16x256x128 .bf16) (harg9 : arg9.IsWhole) (arg10 : Memref sig .tc .vmem S1x2x16x80x256 .bf16) (harg10 : arg10.IsWhole) (arg11 : Memref sig .tc .vmem S64x256 .bf16) (harg11 : arg11.IsWhole) (arg12 : Memref sig .tc .vmem S1x512x256 .bf16) (harg12 : arg12.IsWhole) (arg13 : Memref sig .tc .vmem S1x512x256 .bf16) (harg13 : arg13.IsWhole) (arg14 : Memref sig .tc .vmem S1x8x16x64 .f32) (harg14 : arg14.IsWhole) (arg15 : Memref sig .tc .vmem S1x16x256x1024 .bf16) (harg15 : arg15.IsWhole) (arg16 : Memref sig .tc .vmem S1x8x16x80x256 .bf16) (harg16 : arg16.IsWhole) (arg17 : Memref sig .tc .vmem S1x512x256 .bf16) (harg17 : arg17.IsWhole) (arg18 : Memref sig .tc .vmem S1x512x256 .bf16) (harg18 : arg18.IsWhole) (arg19 : Memref sig .tc .vmem S2x256x2048 .f32) (harg19 : arg19.IsWhole) (arg20 : Memref sig .tc .vmem S2x1x2048 .f32) (harg20 : arg20.IsWhole) (arg21 : Memref sig .tc .vmem S1x2048 .f32) (harg21 : arg21.IsWhole) (arg22 : Memref sig .tc .vmem S80x2048 .f32) (harg22 : arg22.IsWhole) (arg23 : Memref sig .tc .vmem S64x512 .f32) (harg23 : arg23.IsWhole) (arg24 : Memref sig .tc .vmem S2x256x2048 .f32) (harg24 : arg24.IsWhole) (arg25 : Memref sig .tc .vmem S2x1x2048 .f32) (harg25 : arg25.IsWhole) (arg26 : Memref sig .tc .vmem S1x2048 .f32) (harg26 : arg26.IsWhole) (arg27 : Memref sig .tc .vmem S80x2048 .f32) (harg27 : arg27.IsWhole) (hc0 : cond0_0 i) (hc1 : cond0_1 i) (hc2 : ¬cond0_2 i)
    (x0 : Vec F S1x512x256 .bf16) (x1 : Vec F S1x512x256 .bf16) (x2 : Vec F S1x2x16x256 .f32) (x3 : Vec F S1x256x128 .bf16) (x4 : Vec F S1x2x80x256 .bf16) (x5 : Vec F S1x16x256x256 .bf16) (x6 : Vec F S1x2x16x80x256 .bf16) (x7 : Vec F S1x16x256x128 .bf16) (x8 : Vec F S1x2x16x80x256 .bf16) (x9 : Vec F S64x256 .bf16) (x10 : Vec F S1x512x256 .bf16) (x11 : Vec F S1x512x256 .bf16) (x12 : Vec F S1x8x16x64 .f32) (x13 : Vec F S1x16x256x1024 .bf16) (x14 : Vec F S1x8x16x80x256 .bf16) (y : S1x512x256.Idx) :
    ∃ pc ∈ (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 hc2 x0 x1 x2 x3 x4 x5 x6 x7 x8 x9 x10 x11 x12 x13 x14).2.1, y ∈ pc.1.set :=
  View.cover_of_tiledL (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 hc2 x0 x1 x2 x3 x4 x5 x6 x7 x8 x9 x10 x11 x12 x13 x14).2.1 S1x64x256.size (by sl_kernel_rfl) y

def out0_C_16 (c : Dev nD) (i : grid0.Coords) (arg2 : Memref sig .tc .vmem S1x512x256 .bf16) (harg2 : arg2.IsWhole) (arg3 : Memref sig .tc .vmem S1x512x256 .bf16) (harg3 : arg3.IsWhole) (arg4 : Memref sig .tc .vmem S1x2x16x256 .f32) (harg4 : arg4.IsWhole) (arg5 : Memref sig .tc .vmem S1x256x128 .bf16) (harg5 : arg5.IsWhole) (arg6 : Memref sig .tc .vmem S1x2x80x256 .bf16) (harg6 : arg6.IsWhole) (arg7 : Memref sig .tc .vmem S1x16x256x256 .bf16) (harg7 : arg7.IsWhole) (arg8 : Memref sig .tc .vmem S1x2x16x80x256 .bf16) (harg8 : arg8.IsWhole) (arg9 : Memref sig .tc .vmem S1x16x256x128 .bf16) (harg9 : arg9.IsWhole) (arg10 : Memref sig .tc .vmem S1x2x16x80x256 .bf16) (harg10 : arg10.IsWhole) (arg11 : Memref sig .tc .vmem S64x256 .bf16) (harg11 : arg11.IsWhole) (arg12 : Memref sig .tc .vmem S1x512x256 .bf16) (harg12 : arg12.IsWhole) (arg13 : Memref sig .tc .vmem S1x512x256 .bf16) (harg13 : arg13.IsWhole) (arg14 : Memref sig .tc .vmem S1x8x16x64 .f32) (harg14 : arg14.IsWhole) (arg15 : Memref sig .tc .vmem S1x16x256x1024 .bf16) (harg15 : arg15.IsWhole) (arg16 : Memref sig .tc .vmem S1x8x16x80x256 .bf16) (harg16 : arg16.IsWhole) (arg17 : Memref sig .tc .vmem S1x512x256 .bf16) (harg17 : arg17.IsWhole) (arg18 : Memref sig .tc .vmem S1x512x256 .bf16) (harg18 : arg18.IsWhole) (arg19 : Memref sig .tc .vmem S2x256x2048 .f32) (harg19 : arg19.IsWhole) (arg20 : Memref sig .tc .vmem S2x1x2048 .f32) (harg20 : arg20.IsWhole) (arg21 : Memref sig .tc .vmem S1x2048 .f32) (harg21 : arg21.IsWhole) (arg22 : Memref sig .tc .vmem S80x2048 .f32) (harg22 : arg22.IsWhole) (arg23 : Memref sig .tc .vmem S64x512 .f32) (harg23 : arg23.IsWhole) (arg24 : Memref sig .tc .vmem S2x256x2048 .f32) (harg24 : arg24.IsWhole) (arg25 : Memref sig .tc .vmem S2x1x2048 .f32) (harg25 : arg25.IsWhole) (arg26 : Memref sig .tc .vmem S1x2048 .f32) (harg26 : arg26.IsWhole) (arg27 : Memref sig .tc .vmem S80x2048 .f32) (harg27 : arg27.IsWhole) (hc0 : cond0_0 i) (hc1 : cond0_1 i) (hc2 : ¬cond0_2 i)
    (x0 : Vec F S1x512x256 .bf16) (x1 : Vec F S1x512x256 .bf16) (x2 : Vec F S1x2x16x256 .f32) (x3 : Vec F S1x256x128 .bf16) (x4 : Vec F S1x2x80x256 .bf16) (x5 : Vec F S1x16x256x256 .bf16) (x6 : Vec F S1x2x16x80x256 .bf16) (x7 : Vec F S1x16x256x128 .bf16) (x8 : Vec F S1x2x16x80x256 .bf16) (x9 : Vec F S64x256 .bf16) (x10 : Vec F S1x512x256 .bf16) (x11 : Vec F S1x512x256 .bf16) (x12 : Vec F S1x8x16x64 .f32) (x13 : Vec F S1x16x256x1024 .bf16) (x14 : Vec F S1x8x16x80x256 .bf16) : Vec F S1x512x256 .bf16 :=
  VO0_16.read (Elt F) (VO0_16.writes (Elt F) VO0_16.junk (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 hc2 x0 x1 x2 x3 x4 x5 x6 x7 x8 x9 x10 x11 x12 x13 x14).2.1)

theorem cover0_D_15 (c : Dev nD) (i : grid0.Coords) (arg2 : Memref sig .tc .vmem S1x512x256 .bf16) (harg2 : arg2.IsWhole) (arg3 : Memref sig .tc .vmem S1x512x256 .bf16) (harg3 : arg3.IsWhole) (arg4 : Memref sig .tc .vmem S1x2x16x256 .f32) (harg4 : arg4.IsWhole) (arg5 : Memref sig .tc .vmem S1x256x128 .bf16) (harg5 : arg5.IsWhole) (arg6 : Memref sig .tc .vmem S1x2x80x256 .bf16) (harg6 : arg6.IsWhole) (arg7 : Memref sig .tc .vmem S1x16x256x256 .bf16) (harg7 : arg7.IsWhole) (arg8 : Memref sig .tc .vmem S1x2x16x80x256 .bf16) (harg8 : arg8.IsWhole) (arg9 : Memref sig .tc .vmem S1x16x256x128 .bf16) (harg9 : arg9.IsWhole) (arg10 : Memref sig .tc .vmem S1x2x16x80x256 .bf16) (harg10 : arg10.IsWhole) (arg11 : Memref sig .tc .vmem S64x256 .bf16) (harg11 : arg11.IsWhole) (arg12 : Memref sig .tc .vmem S1x512x256 .bf16) (harg12 : arg12.IsWhole) (arg13 : Memref sig .tc .vmem S1x512x256 .bf16) (harg13 : arg13.IsWhole) (arg14 : Memref sig .tc .vmem S1x8x16x64 .f32) (harg14 : arg14.IsWhole) (arg15 : Memref sig .tc .vmem S1x16x256x1024 .bf16) (harg15 : arg15.IsWhole) (arg16 : Memref sig .tc .vmem S1x8x16x80x256 .bf16) (harg16 : arg16.IsWhole) (arg17 : Memref sig .tc .vmem S1x512x256 .bf16) (harg17 : arg17.IsWhole) (arg18 : Memref sig .tc .vmem S1x512x256 .bf16) (harg18 : arg18.IsWhole) (arg19 : Memref sig .tc .vmem S2x256x2048 .f32) (harg19 : arg19.IsWhole) (arg20 : Memref sig .tc .vmem S2x1x2048 .f32) (harg20 : arg20.IsWhole) (arg21 : Memref sig .tc .vmem S1x2048 .f32) (harg21 : arg21.IsWhole) (arg22 : Memref sig .tc .vmem S80x2048 .f32) (harg22 : arg22.IsWhole) (arg23 : Memref sig .tc .vmem S64x512 .f32) (harg23 : arg23.IsWhole) (arg24 : Memref sig .tc .vmem S2x256x2048 .f32) (harg24 : arg24.IsWhole) (arg25 : Memref sig .tc .vmem S2x1x2048 .f32) (harg25 : arg25.IsWhole) (arg26 : Memref sig .tc .vmem S1x2048 .f32) (harg26 : arg26.IsWhole) (arg27 : Memref sig .tc .vmem S80x2048 .f32) (harg27 : arg27.IsWhole) (hc0 : cond0_0 i) (hc1 : cond0_1 i) (hc2 : cond0_2 i)
    (x0 : Vec F S1x512x256 .bf16) (x1 : Vec F S1x512x256 .bf16) (x2 : Vec F S1x2x16x256 .f32) (x3 : Vec F S1x256x128 .bf16) (x4 : Vec F S1x2x80x256 .bf16) (x5 : Vec F S1x16x256x256 .bf16) (x6 : Vec F S1x2x16x80x256 .bf16) (x7 : Vec F S1x16x256x128 .bf16) (x8 : Vec F S1x2x16x80x256 .bf16) (x9 : Vec F S64x256 .bf16) (x10 : Vec F S1x512x256 .bf16) (x11 : Vec F S1x512x256 .bf16) (x12 : Vec F S1x8x16x64 .f32) (x13 : Vec F S1x16x256x1024 .bf16) (x14 : Vec F S1x8x16x80x256 .bf16) (y : S1x512x256.Idx) :
    ∃ pc ∈ (kernelRun0_D c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 hc2 x0 x1 x2 x3 x4 x5 x6 x7 x8 x9 x10 x11 x12 x13 x14).1, y ∈ pc.1.set :=
  View.cover_of_tiledL (kernelRun0_D c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 hc2 x0 x1 x2 x3 x4 x5 x6 x7 x8 x9 x10 x11 x12 x13 x14).1 S1x64x256.size (by sl_kernel_rfl) y

def out0_D_15 (c : Dev nD) (i : grid0.Coords) (arg2 : Memref sig .tc .vmem S1x512x256 .bf16) (harg2 : arg2.IsWhole) (arg3 : Memref sig .tc .vmem S1x512x256 .bf16) (harg3 : arg3.IsWhole) (arg4 : Memref sig .tc .vmem S1x2x16x256 .f32) (harg4 : arg4.IsWhole) (arg5 : Memref sig .tc .vmem S1x256x128 .bf16) (harg5 : arg5.IsWhole) (arg6 : Memref sig .tc .vmem S1x2x80x256 .bf16) (harg6 : arg6.IsWhole) (arg7 : Memref sig .tc .vmem S1x16x256x256 .bf16) (harg7 : arg7.IsWhole) (arg8 : Memref sig .tc .vmem S1x2x16x80x256 .bf16) (harg8 : arg8.IsWhole) (arg9 : Memref sig .tc .vmem S1x16x256x128 .bf16) (harg9 : arg9.IsWhole) (arg10 : Memref sig .tc .vmem S1x2x16x80x256 .bf16) (harg10 : arg10.IsWhole) (arg11 : Memref sig .tc .vmem S64x256 .bf16) (harg11 : arg11.IsWhole) (arg12 : Memref sig .tc .vmem S1x512x256 .bf16) (harg12 : arg12.IsWhole) (arg13 : Memref sig .tc .vmem S1x512x256 .bf16) (harg13 : arg13.IsWhole) (arg14 : Memref sig .tc .vmem S1x8x16x64 .f32) (harg14 : arg14.IsWhole) (arg15 : Memref sig .tc .vmem S1x16x256x1024 .bf16) (harg15 : arg15.IsWhole) (arg16 : Memref sig .tc .vmem S1x8x16x80x256 .bf16) (harg16 : arg16.IsWhole) (arg17 : Memref sig .tc .vmem S1x512x256 .bf16) (harg17 : arg17.IsWhole) (arg18 : Memref sig .tc .vmem S1x512x256 .bf16) (harg18 : arg18.IsWhole) (arg19 : Memref sig .tc .vmem S2x256x2048 .f32) (harg19 : arg19.IsWhole) (arg20 : Memref sig .tc .vmem S2x1x2048 .f32) (harg20 : arg20.IsWhole) (arg21 : Memref sig .tc .vmem S1x2048 .f32) (harg21 : arg21.IsWhole) (arg22 : Memref sig .tc .vmem S80x2048 .f32) (harg22 : arg22.IsWhole) (arg23 : Memref sig .tc .vmem S64x512 .f32) (harg23 : arg23.IsWhole) (arg24 : Memref sig .tc .vmem S2x256x2048 .f32) (harg24 : arg24.IsWhole) (arg25 : Memref sig .tc .vmem S2x1x2048 .f32) (harg25 : arg25.IsWhole) (arg26 : Memref sig .tc .vmem S1x2048 .f32) (harg26 : arg26.IsWhole) (arg27 : Memref sig .tc .vmem S80x2048 .f32) (harg27 : arg27.IsWhole) (hc0 : cond0_0 i) (hc1 : cond0_1 i) (hc2 : cond0_2 i)
    (x0 : Vec F S1x512x256 .bf16) (x1 : Vec F S1x512x256 .bf16) (x2 : Vec F S1x2x16x256 .f32) (x3 : Vec F S1x256x128 .bf16) (x4 : Vec F S1x2x80x256 .bf16) (x5 : Vec F S1x16x256x256 .bf16) (x6 : Vec F S1x2x16x80x256 .bf16) (x7 : Vec F S1x16x256x128 .bf16) (x8 : Vec F S1x2x16x80x256 .bf16) (x9 : Vec F S64x256 .bf16) (x10 : Vec F S1x512x256 .bf16) (x11 : Vec F S1x512x256 .bf16) (x12 : Vec F S1x8x16x64 .f32) (x13 : Vec F S1x16x256x1024 .bf16) (x14 : Vec F S1x8x16x80x256 .bf16) : Vec F S1x512x256 .bf16 :=
  VO0_15.read (Elt F) (VO0_15.writes (Elt F) VO0_15.junk (kernelRun0_D c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 hc2 x0 x1 x2 x3 x4 x5 x6 x7 x8 x9 x10 x11 x12 x13 x14).1)

theorem cover0_D_16 (c : Dev nD) (i : grid0.Coords) (arg2 : Memref sig .tc .vmem S1x512x256 .bf16) (harg2 : arg2.IsWhole) (arg3 : Memref sig .tc .vmem S1x512x256 .bf16) (harg3 : arg3.IsWhole) (arg4 : Memref sig .tc .vmem S1x2x16x256 .f32) (harg4 : arg4.IsWhole) (arg5 : Memref sig .tc .vmem S1x256x128 .bf16) (harg5 : arg5.IsWhole) (arg6 : Memref sig .tc .vmem S1x2x80x256 .bf16) (harg6 : arg6.IsWhole) (arg7 : Memref sig .tc .vmem S1x16x256x256 .bf16) (harg7 : arg7.IsWhole) (arg8 : Memref sig .tc .vmem S1x2x16x80x256 .bf16) (harg8 : arg8.IsWhole) (arg9 : Memref sig .tc .vmem S1x16x256x128 .bf16) (harg9 : arg9.IsWhole) (arg10 : Memref sig .tc .vmem S1x2x16x80x256 .bf16) (harg10 : arg10.IsWhole) (arg11 : Memref sig .tc .vmem S64x256 .bf16) (harg11 : arg11.IsWhole) (arg12 : Memref sig .tc .vmem S1x512x256 .bf16) (harg12 : arg12.IsWhole) (arg13 : Memref sig .tc .vmem S1x512x256 .bf16) (harg13 : arg13.IsWhole) (arg14 : Memref sig .tc .vmem S1x8x16x64 .f32) (harg14 : arg14.IsWhole) (arg15 : Memref sig .tc .vmem S1x16x256x1024 .bf16) (harg15 : arg15.IsWhole) (arg16 : Memref sig .tc .vmem S1x8x16x80x256 .bf16) (harg16 : arg16.IsWhole) (arg17 : Memref sig .tc .vmem S1x512x256 .bf16) (harg17 : arg17.IsWhole) (arg18 : Memref sig .tc .vmem S1x512x256 .bf16) (harg18 : arg18.IsWhole) (arg19 : Memref sig .tc .vmem S2x256x2048 .f32) (harg19 : arg19.IsWhole) (arg20 : Memref sig .tc .vmem S2x1x2048 .f32) (harg20 : arg20.IsWhole) (arg21 : Memref sig .tc .vmem S1x2048 .f32) (harg21 : arg21.IsWhole) (arg22 : Memref sig .tc .vmem S80x2048 .f32) (harg22 : arg22.IsWhole) (arg23 : Memref sig .tc .vmem S64x512 .f32) (harg23 : arg23.IsWhole) (arg24 : Memref sig .tc .vmem S2x256x2048 .f32) (harg24 : arg24.IsWhole) (arg25 : Memref sig .tc .vmem S2x1x2048 .f32) (harg25 : arg25.IsWhole) (arg26 : Memref sig .tc .vmem S1x2048 .f32) (harg26 : arg26.IsWhole) (arg27 : Memref sig .tc .vmem S80x2048 .f32) (harg27 : arg27.IsWhole) (hc0 : cond0_0 i) (hc1 : cond0_1 i) (hc2 : cond0_2 i)
    (x0 : Vec F S1x512x256 .bf16) (x1 : Vec F S1x512x256 .bf16) (x2 : Vec F S1x2x16x256 .f32) (x3 : Vec F S1x256x128 .bf16) (x4 : Vec F S1x2x80x256 .bf16) (x5 : Vec F S1x16x256x256 .bf16) (x6 : Vec F S1x2x16x80x256 .bf16) (x7 : Vec F S1x16x256x128 .bf16) (x8 : Vec F S1x2x16x80x256 .bf16) (x9 : Vec F S64x256 .bf16) (x10 : Vec F S1x512x256 .bf16) (x11 : Vec F S1x512x256 .bf16) (x12 : Vec F S1x8x16x64 .f32) (x13 : Vec F S1x16x256x1024 .bf16) (x14 : Vec F S1x8x16x80x256 .bf16) (y : S1x512x256.Idx) :
    ∃ pc ∈ (kernelRun0_D c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 hc2 x0 x1 x2 x3 x4 x5 x6 x7 x8 x9 x10 x11 x12 x13 x14).2.1, y ∈ pc.1.set :=
  View.cover_of_tiledL (kernelRun0_D c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 hc2 x0 x1 x2 x3 x4 x5 x6 x7 x8 x9 x10 x11 x12 x13 x14).2.1 S1x64x256.size (by sl_kernel_rfl) y

def out0_D_16 (c : Dev nD) (i : grid0.Coords) (arg2 : Memref sig .tc .vmem S1x512x256 .bf16) (harg2 : arg2.IsWhole) (arg3 : Memref sig .tc .vmem S1x512x256 .bf16) (harg3 : arg3.IsWhole) (arg4 : Memref sig .tc .vmem S1x2x16x256 .f32) (harg4 : arg4.IsWhole) (arg5 : Memref sig .tc .vmem S1x256x128 .bf16) (harg5 : arg5.IsWhole) (arg6 : Memref sig .tc .vmem S1x2x80x256 .bf16) (harg6 : arg6.IsWhole) (arg7 : Memref sig .tc .vmem S1x16x256x256 .bf16) (harg7 : arg7.IsWhole) (arg8 : Memref sig .tc .vmem S1x2x16x80x256 .bf16) (harg8 : arg8.IsWhole) (arg9 : Memref sig .tc .vmem S1x16x256x128 .bf16) (harg9 : arg9.IsWhole) (arg10 : Memref sig .tc .vmem S1x2x16x80x256 .bf16) (harg10 : arg10.IsWhole) (arg11 : Memref sig .tc .vmem S64x256 .bf16) (harg11 : arg11.IsWhole) (arg12 : Memref sig .tc .vmem S1x512x256 .bf16) (harg12 : arg12.IsWhole) (arg13 : Memref sig .tc .vmem S1x512x256 .bf16) (harg13 : arg13.IsWhole) (arg14 : Memref sig .tc .vmem S1x8x16x64 .f32) (harg14 : arg14.IsWhole) (arg15 : Memref sig .tc .vmem S1x16x256x1024 .bf16) (harg15 : arg15.IsWhole) (arg16 : Memref sig .tc .vmem S1x8x16x80x256 .bf16) (harg16 : arg16.IsWhole) (arg17 : Memref sig .tc .vmem S1x512x256 .bf16) (harg17 : arg17.IsWhole) (arg18 : Memref sig .tc .vmem S1x512x256 .bf16) (harg18 : arg18.IsWhole) (arg19 : Memref sig .tc .vmem S2x256x2048 .f32) (harg19 : arg19.IsWhole) (arg20 : Memref sig .tc .vmem S2x1x2048 .f32) (harg20 : arg20.IsWhole) (arg21 : Memref sig .tc .vmem S1x2048 .f32) (harg21 : arg21.IsWhole) (arg22 : Memref sig .tc .vmem S80x2048 .f32) (harg22 : arg22.IsWhole) (arg23 : Memref sig .tc .vmem S64x512 .f32) (harg23 : arg23.IsWhole) (arg24 : Memref sig .tc .vmem S2x256x2048 .f32) (harg24 : arg24.IsWhole) (arg25 : Memref sig .tc .vmem S2x1x2048 .f32) (harg25 : arg25.IsWhole) (arg26 : Memref sig .tc .vmem S1x2048 .f32) (harg26 : arg26.IsWhole) (arg27 : Memref sig .tc .vmem S80x2048 .f32) (harg27 : arg27.IsWhole) (hc0 : cond0_0 i) (hc1 : cond0_1 i) (hc2 : cond0_2 i)
    (x0 : Vec F S1x512x256 .bf16) (x1 : Vec F S1x512x256 .bf16) (x2 : Vec F S1x2x16x256 .f32) (x3 : Vec F S1x256x128 .bf16) (x4 : Vec F S1x2x80x256 .bf16) (x5 : Vec F S1x16x256x256 .bf16) (x6 : Vec F S1x2x16x80x256 .bf16) (x7 : Vec F S1x16x256x128 .bf16) (x8 : Vec F S1x2x16x80x256 .bf16) (x9 : Vec F S64x256 .bf16) (x10 : Vec F S1x512x256 .bf16) (x11 : Vec F S1x512x256 .bf16) (x12 : Vec F S1x8x16x64 .f32) (x13 : Vec F S1x16x256x1024 .bf16) (x14 : Vec F S1x8x16x80x256 .bf16) : Vec F S1x512x256 .bf16 :=
  VO0_16.read (Elt F) (VO0_16.writes (Elt F) VO0_16.junk (kernelRun0_D c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 hc2 x0 x1 x2 x3 x4 x5 x6 x7 x8 x9 x10 x11 x12 x13 x14).2.1)

def outsAt0 (c : Dev nD) : (n : ℕ) → n < cfg0.N → Vec F S1x512x256 .bf16 × Vec F S1x512x256 .bf16
  | 0, hn => (out0_A_15 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) (ms0_12 ⟨0, hn⟩) (hs0_12 ⟨0, hn⟩) (ms0_13 ⟨0, hn⟩) (hs0_13 ⟨0, hn⟩) (ms0_14 ⟨0, hn⟩) (hs0_14 ⟨0, hn⟩) (ms0_15 ⟨0, hn⟩) (hs0_15 ⟨0, hn⟩) (ms0_16 ⟨0, hn⟩) (hs0_16 ⟨0, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) (fun h => (fun h => by (try dsimp only at h); omega) ((hcond0_0 ⟨0, hn⟩).mp h)) (fun h => (fun h => by (try dsimp only at h); omega) ((hcond0_1 ⟨0, hn⟩).mp h)) (fun h => (fun h => by (try dsimp only at h); omega) ((hcond0_2 ⟨0, hn⟩).mp h)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩) (iblk m c 8 ⟨0, hn⟩) (iblk m c 9 ⟨0, hn⟩) (iblk m c 10 ⟨0, hn⟩) (iblk m c 11 ⟨0, hn⟩) (iblk m c 12 ⟨0, hn⟩) (iblk m c 13 ⟨0, hn⟩) (iblk m c 14 ⟨0, hn⟩), out0_A_16 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) (ms0_12 ⟨0, hn⟩) (hs0_12 ⟨0, hn⟩) (ms0_13 ⟨0, hn⟩) (hs0_13 ⟨0, hn⟩) (ms0_14 ⟨0, hn⟩) (hs0_14 ⟨0, hn⟩) (ms0_15 ⟨0, hn⟩) (hs0_15 ⟨0, hn⟩) (ms0_16 ⟨0, hn⟩) (hs0_16 ⟨0, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) (fun h => (fun h => by (try dsimp only at h); omega) ((hcond0_0 ⟨0, hn⟩).mp h)) (fun h => (fun h => by (try dsimp only at h); omega) ((hcond0_1 ⟨0, hn⟩).mp h)) (fun h => (fun h => by (try dsimp only at h); omega) ((hcond0_2 ⟨0, hn⟩).mp h)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩) (iblk m c 8 ⟨0, hn⟩) (iblk m c 9 ⟨0, hn⟩) (iblk m c 10 ⟨0, hn⟩) (iblk m c 11 ⟨0, hn⟩) (iblk m c 12 ⟨0, hn⟩) (iblk m c 13 ⟨0, hn⟩) (iblk m c 14 ⟨0, hn⟩))
  | n + 1, hn =>
    if h0 : 4 ≤ (n + 1) % 16 then
      if h1 : 8 ≤ (n + 1) % 16 then
        if h2 : 12 ≤ (n + 1) % 16 then
          (out0_D_15 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) ((hcond0_0 ⟨n + 1, hn⟩).mpr h0) ((hcond0_1 ⟨n + 1, hn⟩).mpr h1) ((hcond0_2 ⟨n + 1, hn⟩).mpr h2) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩) (iblk m c 13 ⟨n + 1, hn⟩) (iblk m c 14 ⟨n + 1, hn⟩), out0_D_16 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) ((hcond0_0 ⟨n + 1, hn⟩).mpr h0) ((hcond0_1 ⟨n + 1, hn⟩).mpr h1) ((hcond0_2 ⟨n + 1, hn⟩).mpr h2) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩) (iblk m c 13 ⟨n + 1, hn⟩) (iblk m c 14 ⟨n + 1, hn⟩))
        else
          (out0_C_15 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) ((hcond0_0 ⟨n + 1, hn⟩).mpr h0) ((hcond0_1 ⟨n + 1, hn⟩).mpr h1) (fun h => h2 ((hcond0_2 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩) (iblk m c 13 ⟨n + 1, hn⟩) (iblk m c 14 ⟨n + 1, hn⟩), out0_C_16 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) ((hcond0_0 ⟨n + 1, hn⟩).mpr h0) ((hcond0_1 ⟨n + 1, hn⟩).mpr h1) (fun h => h2 ((hcond0_2 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩) (iblk m c 13 ⟨n + 1, hn⟩) (iblk m c 14 ⟨n + 1, hn⟩))
      else
        if h2 : 12 ≤ (n + 1) % 16 then
          False.elim (by have hN : n + 1 < 128 := lt_of_lt_of_eq hn (show cfg0.N = 128 from N_0); omega)
        else
          (out0_B_15 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) ((hcond0_0 ⟨n + 1, hn⟩).mpr h0) (fun h => h1 ((hcond0_1 ⟨n + 1, hn⟩).mp h)) (fun h => h2 ((hcond0_2 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩) (iblk m c 13 ⟨n + 1, hn⟩) (iblk m c 14 ⟨n + 1, hn⟩), out0_B_16 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) ((hcond0_0 ⟨n + 1, hn⟩).mpr h0) (fun h => h1 ((hcond0_1 ⟨n + 1, hn⟩).mp h)) (fun h => h2 ((hcond0_2 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩) (iblk m c 13 ⟨n + 1, hn⟩) (iblk m c 14 ⟨n + 1, hn⟩))
    else
      if h1 : 8 ≤ (n + 1) % 16 then
        False.elim (by have hN : n + 1 < 128 := lt_of_lt_of_eq hn (show cfg0.N = 128 from N_0); omega)
      else
        if h2 : 12 ≤ (n + 1) % 16 then
          False.elim (by have hN : n + 1 < 128 := lt_of_lt_of_eq hn (show cfg0.N = 128 from N_0); omega)
        else
          (out0_A_15 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) (fun h => h0 ((hcond0_0 ⟨n + 1, hn⟩).mp h)) (fun h => h1 ((hcond0_1 ⟨n + 1, hn⟩).mp h)) (fun h => h2 ((hcond0_2 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩) (iblk m c 13 ⟨n + 1, hn⟩) (iblk m c 14 ⟨n + 1, hn⟩), out0_A_16 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) (fun h => h0 ((hcond0_0 ⟨n + 1, hn⟩).mp h)) (fun h => h1 ((hcond0_1 ⟨n + 1, hn⟩).mp h)) (fun h => h2 ((hcond0_2 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩) (iblk m c 13 ⟨n + 1, hn⟩) (iblk m c 14 ⟨n + 1, hn⟩))

theorem outsAt0_A (c : Dev nD) (t : Fin cfg0.N) (h0 : ¬4 ≤ t.val % 16) (h1 : ¬8 ≤ t.val % 16) (h2 : ¬12 ≤ t.val % 16) :
    outsAt0 m c t.val t.isLt = (out0_A_15 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) (fun h => h0 ((hcond0_0 t).mp h)) (fun h => h1 ((hcond0_1 t).mp h)) (fun h => h2 ((hcond0_2 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t), out0_A_16 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) (fun h => h0 ((hcond0_0 t).mp h)) (fun h => h1 ((hcond0_1 t).mp h)) (fun h => h2 ((hcond0_2 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t)) := by
  obtain ⟨n, hn⟩ := t
  cases n with
  | zero => exact rfl
  | succ n => exact (dif_neg h0).trans ((dif_neg h1).trans ((dif_neg h2).trans rfl))

theorem outsAt0_B (c : Dev nD) (t : Fin cfg0.N) (h0 : 4 ≤ t.val % 16) (h1 : ¬8 ≤ t.val % 16) (h2 : ¬12 ≤ t.val % 16) :
    outsAt0 m c t.val t.isLt = (out0_B_15 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) ((hcond0_0 t).mpr h0) (fun h => h1 ((hcond0_1 t).mp h)) (fun h => h2 ((hcond0_2 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t), out0_B_16 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) ((hcond0_0 t).mpr h0) (fun h => h1 ((hcond0_1 t).mp h)) (fun h => h2 ((hcond0_2 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t)) := by
  obtain ⟨n, hn⟩ := t
  cases n with
  | zero => exact (by exfalso; (try dsimp only at h0); exact by omega)
  | succ n => exact (dif_pos h0).trans ((dif_neg h1).trans ((dif_neg h2).trans rfl))

theorem outsAt0_C (c : Dev nD) (t : Fin cfg0.N) (h0 : 4 ≤ t.val % 16) (h1 : 8 ≤ t.val % 16) (h2 : ¬12 ≤ t.val % 16) :
    outsAt0 m c t.val t.isLt = (out0_C_15 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) ((hcond0_0 t).mpr h0) ((hcond0_1 t).mpr h1) (fun h => h2 ((hcond0_2 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t), out0_C_16 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) ((hcond0_0 t).mpr h0) ((hcond0_1 t).mpr h1) (fun h => h2 ((hcond0_2 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t)) := by
  obtain ⟨n, hn⟩ := t
  cases n with
  | zero => exact (by exfalso; (try dsimp only at h0); exact by omega)
  | succ n => exact (dif_pos h0).trans ((dif_pos h1).trans ((dif_neg h2).trans rfl))

theorem outsAt0_D (c : Dev nD) (t : Fin cfg0.N) (h0 : 4 ≤ t.val % 16) (h1 : 8 ≤ t.val % 16) (h2 : 12 ≤ t.val % 16) :
    outsAt0 m c t.val t.isLt = (out0_D_15 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) ((hcond0_0 t).mpr h0) ((hcond0_1 t).mpr h1) ((hcond0_2 t).mpr h2) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t), out0_D_16 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) ((hcond0_0 t).mpr h0) ((hcond0_1 t).mpr h1) ((hcond0_2 t).mpr h2) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t)) := by
  obtain ⟨n, hn⟩ := t
  cases n with
  | zero => exact (by exfalso; (try dsimp only at h0); exact by omega)
  | succ n => exact (dif_pos h0).trans ((dif_pos h1).trans ((dif_pos h2).trans rfl))

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => (outsAt0 m c t.val t.isLt).1
    | ⟨16, _⟩ => (outsAt0 m c t.val t.isLt).2
    | ⟨_ + 17, h⟩ => absurd h (Nat.not_lt.2 (Nat.le_add_left _ _))
  Φ _ := Pipeline.ΦA spec0 c
  q w := Pipeline.shareOf spec0 w
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]

theorem after0_1 (c : Dev nD) (t : Fin cfg0.N) : (dats m 0 c).after 1 t = iblk m c 1 t := by dsimp only [dats]

theorem after0_2 (c : Dev nD) (t : Fin cfg0.N) : (dats m 0 c).after 2 t = iblk m c 2 t := by dsimp only [dats]

theorem after0_3 (c : Dev nD) (t : Fin cfg0.N) : (dats m 0 c).after 3 t = iblk m c 3 t := by dsimp only [dats]

theorem after0_4 (c : Dev nD) (t : Fin cfg0.N) : (dats m 0 c).after 4 t = iblk m c 4 t := by dsimp only [dats]

theorem after0_5 (c : Dev nD) (t : Fin cfg0.N) : (dats m 0 c).after 5 t = iblk m c 5 t := by dsimp only [dats]

theorem after0_6 (c : Dev nD) (t : Fin cfg0.N) : (dats m 0 c).after 6 t = iblk m c 6 t := by dsimp only [dats]

theorem after0_7 (c : Dev nD) (t : Fin cfg0.N) : (dats m 0 c).after 7 t = iblk m c 7 t := by dsimp only [dats]

theorem after0_8 (c : Dev nD) (t : Fin cfg0.N) : (dats m 0 c).after 8 t = iblk m c 8 t := by dsimp only [dats]

theorem after0_9 (c : Dev nD) (t : Fin cfg0.N) : (dats m 0 c).after 9 t = iblk m c 9 t := by dsimp only [dats]

theorem after0_10 (c : Dev nD) (t : Fin cfg0.N) : (dats m 0 c).after 10 t = iblk m c 10 t := by dsimp only [dats]

theorem after0_11 (c : Dev nD) (t : Fin cfg0.N) : (dats m 0 c).after 11 t = iblk m c 11 t := by dsimp only [dats]

theorem after0_12 (c : Dev nD) (t : Fin cfg0.N) : (dats m 0 c).after 12 t = iblk m c 12 t := by dsimp only [dats]

theorem after0_13 (c : Dev nD) (t : Fin cfg0.N) : (dats m 0 c).after 13 t = iblk m c 13 t := by dsimp only [dats]

theorem after0_14 (c : Dev nD) (t : Fin cfg0.N) : (dats m 0 c).after 14 t = iblk m c 14 t := by dsimp only [dats]

theorem after0_15 (c : Dev nD) (t : Fin cfg0.N) : (dats m 0 c).after 15 t = (outsAt0 m c t.val t.isLt).1 := by dsimp only [dats]

theorem after0_16 (c : Dev nD) (t : Fin cfg0.N) : (dats m 0 c).after 16 t = (outsAt0 m c t.val t.isLt).2 := by dsimp only [dats]

theorem before0_0 (c : Dev nD) (t : Fin cfg0.N) (d) : (dats m 0 c).before 0 t d = iblk m c 0 t :=
  before0_0_of m (dats m 0 c) (A_eq m c 0) (after0_0 m c) t d

theorem before0_1 (c : Dev nD) (t : Fin cfg0.N) (d) : (dats m 0 c).before 1 t d = iblk m c 1 t :=
  before0_1_of m (dats m 0 c) (A_eq m c 1) (after0_1 m c) t d

theorem before0_2 (c : Dev nD) (t : Fin cfg0.N) (d) : (dats m 0 c).before 2 t d = iblk m c 2 t :=
  before0_2_of m (dats m 0 c) (A_eq m c 2) (after0_2 m c) t d

theorem before0_3 (c : Dev nD) (t : Fin cfg0.N) (d) : (dats m 0 c).before 3 t d = iblk m c 3 t :=
  before0_3_of m (dats m 0 c) (A_eq m c 3) (after0_3 m c) t d

theorem before0_4 (c : Dev nD) (t : Fin cfg0.N) (d) : (dats m 0 c).before 4 t d = iblk m c 4 t :=
  before0_4_of m (dats m 0 c) (A_eq m c 4) (after0_4 m c) t d

theorem before0_5 (c : Dev nD) (t : Fin cfg0.N) (d) : (dats m 0 c).before 5 t d = iblk m c 5 t :=
  before0_5_of m (dats m 0 c) (A_eq m c 5) (after0_5 m c) t d

theorem before0_6 (c : Dev nD) (t : Fin cfg0.N) (d) : (dats m 0 c).before 6 t d = iblk m c 6 t :=
  before0_6_of m (dats m 0 c) (A_eq m c 6) (after0_6 m c) t d

theorem before0_7 (c : Dev nD) (t : Fin cfg0.N) (d) : (dats m 0 c).before 7 t d = iblk m c 7 t :=
  before0_7_of m (dats m 0 c) (A_eq m c 7) (after0_7 m c) t d

theorem before0_8 (c : Dev nD) (t : Fin cfg0.N) (d) : (dats m 0 c).before 8 t d = iblk m c 8 t :=
  before0_8_of m (dats m 0 c) (A_eq m c 8) (after0_8 m c) t d

theorem before0_9 (c : Dev nD) (t : Fin cfg0.N) (d) : (dats m 0 c).before 9 t d = iblk m c 9 t :=
  before0_9_of m (dats m 0 c) (A_eq m c 9) (after0_9 m c) t d

theorem before0_10 (c : Dev nD) (t : Fin cfg0.N) (d) : (dats m 0 c).before 10 t d = iblk m c 10 t :=
  before0_10_of m (dats m 0 c) (A_eq m c 10) (after0_10 m c) t d

theorem before0_11 (c : Dev nD) (t : Fin cfg0.N) (d) : (dats m 0 c).before 11 t d = iblk m c 11 t :=
  before0_11_of m (dats m 0 c) (A_eq m c 11) (after0_11 m c) t d

theorem before0_12 (c : Dev nD) (t : Fin cfg0.N) (d) : (dats m 0 c).before 12 t d = iblk m c 12 t :=
  before0_12_of m (dats m 0 c) (A_eq m c 12) (after0_12 m c) t d

theorem before0_13 (c : Dev nD) (t : Fin cfg0.N) (d) : (dats m 0 c).before 13 t d = iblk m c 13 t :=
  before0_13_of m (dats m 0 c) (A_eq m c 13) (after0_13 m c) t d

theorem before0_14 (c : Dev nD) (t : Fin cfg0.N) (d) : (dats m 0 c).before 14 t d = iblk m c 14 t :=
  before0_14_of m (dats m 0 c) (A_eq m c 14) (after0_14 m c) t d

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d))
    ∗ (∃ d, owns (c : Thread nD τ) (ms0_14 t) fullShare ((dats m 0 c).before 14 t d))
    ∗ (∃ d, owns (c : Thread nD τ) (ms0_15 t) fullShare ((dats m 0 c).before 15 t d))
    ∗ (∃ d, owns (c : Thread nD τ) (ms0_16 t) fullShare ((dats m 0 c).before 16 t d)))

def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t)
    ∗ owns (c : Thread nD τ) (ms0_11 t) fullShare ((dats m 0 c).after 11 t)
    ∗ owns (c : Thread nD τ) (ms0_12 t) fullShare ((dats m 0 c).after 12 t)
    ∗ owns (c : Thread nD τ) (ms0_13 t) fullShare ((dats m 0 c).after 13 t)
    ∗ owns (c : Thread nD τ) (ms0_14 t) fullShare ((dats m 0 c).after 14 t)
    ∗ owns (c : Thread nD τ) (ms0_15 t) fullShare ((dats m 0 c).after 15 t)
    ∗ owns (c : Thread nD τ) (ms0_16 t) fullShare ((dats m 0 c).after 16 t))

set_option maxHeartbeats 9600000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, before0_12, before0_13, before0_14]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, after0_11, after0_12, after0_13, after0_14, after0_15, after0_16]
  rw [show (dats m 0 c).Φ t.castSucc = Pipeline.ΦA spec0 c from rfl, PhiA0_eq]
  have hN : t.val < 128 := lt_of_lt_of_eq t.isLt (show cfg0.N = 128 from N_0)
  by_cases h0 : 4 ≤ t.val % 16
  · by_cases h1 : 8 ≤ t.val % 16
    · by_cases h2 : 12 ≤ t.val % 16
      · rw [outsAt0_D m c t h0 h1 h2]
        unfold out0_D_15 out0_D_16; (try dsimp only)
        iintro ⟨⟨⟨HS0, HS1, HS2, HS3, HS4, HS5, HS6, HS7, HS8⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩⟩
        iapply ((kernelRun0_D c (grid0.coords t) _ _ _ _ _ _ _ _ _ _ _ _ _ _ _ _ _ _ _ _ _ _ _ _ _ _ _ _ _ _ _ _ _ _ _ _ _ _ _ _ _ _ _ _ _ _ _ _ _ _ _ _ ((hcond0_0 t).mpr h0) ((hcond0_1 t).mpr h1) ((hcond0_2 t).mpr h2) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t)).2.2 Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [H11]; · iexact H11
        isplitl [H12]; · iexact H12
        isplitl [H13]; · iexact H13
        isplitl [H14]; · iexact H14
        isplitl [H15]; · iexists _; iexact H15
        isplitl [H16]; · iexists _; iexact H16
        isplitl [HS0]; · iexact HS0
        isplitl [HS1]; · iexact HS1
        isplitl [HS2]; · iexact HS2
        isplitl [HS3]; · iexact HS3
        isplitl [HS4]; · iexact HS4
        isplitl [HS5]; · iexact HS5
        isplitl [HS6]; · iexact HS6
        isplitl [HS7]; · iexact HS7
        isplitl [HS8]; · iexact HS8
        iintro ⟨H0, H1, H2, H3, H4, H5, H6, H7, H8, H9, H10, H11, H12, H13, H14, ⟨%e15, H15⟩, ⟨%e16, H16⟩, HS0, HS1, HS2, HS3, HS4, HS5, HS6, HS7, HS8⟩
        isplitl [HS0 HS1 HS2 HS3 HS4 HS5 HS6 HS7 HS8 Hg]
        · isplitl [HS0 HS1 HS2 HS3 HS4 HS5 HS6 HS7 HS8]
          · isplitl [HS0]
            · iexact HS0
            isplitl [HS1]
            · iexact HS1
            isplitl [HS2]
            · iexact HS2
            isplitl [HS3]
            · iexact HS3
            isplitl [HS4]
            · iexact HS4
            isplitl [HS5]
            · iexact HS5
            isplitl [HS6]
            · iexact HS6
            isplitl [HS7]
            · iexact HS7
            iexact HS8
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [H11]; · iexact H11
        isplitl [H12]; · iexact H12
        isplitl [H13]; · iexact H13
        isplitl [H14]; · iexact H14
        isplitl [H15]
        · unfold owns; iexists _; isplitr
          swap; · iexact H15
          ipureintro; exact View.read_writes_of_cover _ _ _ _ _ (cover0_D_15 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
        unfold owns; iexists _; isplitr
        swap; · iexact H16
        ipureintro; exact View.read_writes_of_cover _ _ _ _ _ (cover0_D_16 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
      · rw [outsAt0_C m c t h0 h1 h2]
        unfold out0_C_15 out0_C_16; (try dsimp only)
        iintro ⟨⟨⟨HS0, HS1, HS2, HS3, HS4, HS5, HS6, HS7, HS8⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩⟩
        iapply ((kernelRun0_C c (grid0.coords t) _ _ _ _ _ _ _ _ _ _ _ _ _ _ _ _ _ _ _ _ _ _ _ _ _ _ _ _ _ _ _ _ _ _ _ _ _ _ _ _ _ _ _ _ _ _ _ _ _ _ _ _ ((hcond0_0 t).mpr h0) ((hcond0_1 t).mpr h1) (fun h => h2 ((hcond0_2 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t)).2.2 Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [H11]; · iexact H11
        isplitl [H12]; · iexact H12
        isplitl [H13]; · iexact H13
        isplitl [H14]; · iexact H14
        isplitl [H15]; · iexists _; iexact H15
        isplitl [H16]; · iexists _; iexact H16
        isplitl [HS0]; · iexact HS0
        isplitl [HS1]; · iexact HS1
        isplitl [HS2]; · iexact HS2
        isplitl [HS3]; · iexact HS3
        isplitl [HS4]; · iexact HS4
        isplitl [HS5]; · iexact HS5
        isplitl [HS6]; · iexact HS6
        isplitl [HS7]; · iexact HS7
        isplitl [HS8]; · iexact HS8
        iintro ⟨H0, H1, H2, H3, H4, H5, H6, H7, H8, H9, H10, H11, H12, H13, H14, ⟨%e15, H15⟩, ⟨%e16, H16⟩, HS0, HS1, HS2, HS3, HS4, HS5, HS6, HS7, HS8⟩
        isplitl [HS0 HS1 HS2 HS3 HS4 HS5 HS6 HS7 HS8 Hg]
        · isplitl [HS0 HS1 HS2 HS3 HS4 HS5 HS6 HS7 HS8]
          · isplitl [HS0]
            · iexact HS0
            isplitl [HS1]
            · iexact HS1
            isplitl [HS2]
            · iexact HS2
            isplitl [HS3]
            · iexact HS3
            isplitl [HS4]
            · iexact HS4
            isplitl [HS5]
            · iexact HS5
            isplitl [HS6]
            · iexact HS6
            isplitl [HS7]
            · iexact HS7
            iexact HS8
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [H11]; · iexact H11
        isplitl [H12]; · iexact H12
        isplitl [H13]; · iexact H13
        isplitl [H14]; · iexact H14
        isplitl [H15]
        · unfold owns; iexists _; isplitr
          swap; · iexact H15
          ipureintro; exact View.read_writes_of_cover _ _ _ _ _ (cover0_C_15 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
        unfold owns; iexists _; isplitr
        swap; · iexact H16
        ipureintro; exact View.read_writes_of_cover _ _ _ _ _ (cover0_C_16 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
    · by_cases h2 : 12 ≤ t.val % 16
      · exfalso; omega
      · rw [outsAt0_B m c t h0 h1 h2]
        unfold out0_B_15 out0_B_16; (try dsimp only)
        iintro ⟨⟨⟨HS0, HS1, HS2, HS3, HS4, HS5, HS6, HS7, HS8⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩⟩
        iapply ((kernelRun0_B c (grid0.coords t) _ _ _ _ _ _ _ _ _ _ _ _ _ _ _ _ _ _ _ _ _ _ _ _ _ _ _ _ _ _ _ _ _ _ _ _ _ _ _ _ _ _ _ _ _ _ _ _ _ _ _ _ ((hcond0_0 t).mpr h0) (fun h => h1 ((hcond0_1 t).mp h)) (fun h => h2 ((hcond0_2 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t)).2.2 Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [H11]; · iexact H11
        isplitl [H12]; · iexact H12
        isplitl [H13]; · iexact H13
        isplitl [H14]; · iexact H14
        isplitl [H15]; · iexists _; iexact H15
        isplitl [H16]; · iexists _; iexact H16
        isplitl [HS0]; · iexact HS0
        isplitl [HS1]; · iexact HS1
        isplitl [HS2]; · iexact HS2
        isplitl [HS3]; · iexact HS3
        isplitl [HS4]; · iexact HS4
        isplitl [HS5]; · iexact HS5
        isplitl [HS6]; · iexact HS6
        isplitl [HS7]; · iexact HS7
        isplitl [HS8]; · iexact HS8
        iintro ⟨H0, H1, H2, H3, H4, H5, H6, H7, H8, H9, H10, H11, H12, H13, H14, ⟨%e15, H15⟩, ⟨%e16, H16⟩, HS0, HS1, HS2, HS3, HS4, HS5, HS6, HS7, HS8⟩
        isplitl [HS0 HS1 HS2 HS3 HS4 HS5 HS6 HS7 HS8 Hg]
        · isplitl [HS0 HS1 HS2 HS3 HS4 HS5 HS6 HS7 HS8]
          · isplitl [HS0]
            · iexact HS0
            isplitl [HS1]
            · iexact HS1
            isplitl [HS2]
            · iexact HS2
            isplitl [HS3]
            · iexact HS3
            isplitl [HS4]
            · iexact HS4
            isplitl [HS5]
            · iexact HS5
            isplitl [HS6]
            · iexact HS6
            isplitl [HS7]
            · iexact HS7
            iexact HS8
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [H11]; · iexact H11
        isplitl [H12]; · iexact H12
        isplitl [H13]; · iexact H13
        isplitl [H14]; · iexact H14
        isplitl [H15]
        · unfold owns; iexists _; isplitr
          swap; · iexact H15
          ipureintro; exact View.read_writes_of_cover _ _ _ _ _ (cover0_B_15 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
        unfold owns; iexists _; isplitr
        swap; · iexact H16
        ipureintro; exact View.read_writes_of_cover _ _ _ _ _ (cover0_B_16 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
  · by_cases h1 : 8 ≤ t.val % 16
    · exfalso; omega
    · by_cases h2 : 12 ≤ t.val % 16
      · exfalso; omega
      · rw [outsAt0_A m c t h0 h1 h2]
        unfold out0_A_15 out0_A_16; (try dsimp only)
        iintro ⟨⟨⟨HS0, HS1, HS2, HS3, HS4, HS5, HS6, HS7, HS8⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩⟩
        iapply ((kernelRun0_A c (grid0.coords t) _ _ _ _ _ _ _ _ _ _ _ _ _ _ _ _ _ _ _ _ _ _ _ _ _ _ _ _ _ _ _ _ _ _ _ _ _ _ _ _ _ _ _ _ _ _ _ _ _ _ _ _ (fun h => h0 ((hcond0_0 t).mp h)) (fun h => h1 ((hcond0_1 t).mp h)) (fun h => h2 ((hcond0_2 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t)).2.2 Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [H11]; · iexact H11
        isplitl [H12]; · iexact H12
        isplitl [H13]; · iexact H13
        isplitl [H14]; · iexact H14
        isplitl [H15]; · iexists _; iexact H15
        isplitl [H16]; · iexists _; iexact H16
        isplitl [HS0]; · iexact HS0
        isplitl [HS1]; · iexact HS1
        isplitl [HS2]; · iexact HS2
        isplitl [HS3]; · iexact HS3
        isplitl [HS4]; · iexact HS4
        isplitl [HS5]; · iexact HS5
        isplitl [HS6]; · iexact HS6
        isplitl [HS7]; · iexact HS7
        isplitl [HS8]; · iexact HS8
        iintro ⟨H0, H1, H2, H3, H4, H5, H6, H7, H8, H9, H10, H11, H12, H13, H14, ⟨%e15, H15⟩, ⟨%e16, H16⟩, HS0, HS1, HS2, HS3, HS4, HS5, HS6, HS7, HS8⟩
        isplitl [HS0 HS1 HS2 HS3 HS4 HS5 HS6 HS7 HS8 Hg]
        · isplitl [HS0 HS1 HS2 HS3 HS4 HS5 HS6 HS7 HS8]
          · isplitl [HS0]
            · iexact HS0
            isplitl [HS1]
            · iexact HS1
            isplitl [HS2]
            · iexact HS2
            isplitl [HS3]
            · iexact HS3
            isplitl [HS4]
            · iexact HS4
            isplitl [HS5]
            · iexact HS5
            isplitl [HS6]
            · iexact HS6
            isplitl [HS7]
            · iexact HS7
            iexact HS8
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [H11]; · iexact H11
        isplitl [H12]; · iexact H12
        isplitl [H13]; · iexact H13
        isplitl [H14]; · iexact H14
        isplitl [H15]
        · unfold owns; iexists _; isplitr
          swap; · iexact H15
          ipureintro; exact View.read_writes_of_cover _ _ _ _ _ (cover0_A_15 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
        unfold owns; iexists _; isplitr
        swap; · iexact H16
        ipureintro; exact View.read_writes_of_cover _ _ _ _ _ (cover0_A_16 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

-- definitions in a metavariable's type

set_option backward.isDefEq.respectTransparency.types false in
theorem run_main_quiescent : θ_run defs (onTc (τ := τ) (main (F := F))) (s₀ m ρ) (fun r => (Pipeline.FramePost cfgs (dats m) 0 (V m)) r ∧ r.2.sem = fun _ => 0) :=
  Pipeline.θ_run_frame_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hΦ := fun _ _ => rfl)

theorem run_main : θ_run defs (onTc (τ := τ) (main (F := F))) (s₀ m ρ) (Pipeline.FramePost cfgs (dats m) 0 (V m)) :=
  (θ_run defs _ _).mono (fun _ h => h.1) (run_main_quiescent m ρ)

theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  frame_of m ρ (dats m) (A_eq m) (run_main m ρ)

theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11))
      ∧ r.2.sem = fun _ => 0) :=
  θ_run_and (unchanged m ρ) ((θ_run defs _ _).mono (fun _ h => h.2) (run_main_quiescent m ρ))

end Cert.KernelIdeal.Gen

end
-- ==== Proof.MixersClaims.lean ====
/-
  The claims about the mixers' call. The native program and the idealized one are the same text but for two named
  constants, so the native frame is the idealized program's own run, read at the native floats with each name standing
  for the bits it was printed with.
-/
module

public import proofs.«01_k».proof.Defs
public import proofs.«01_k».proof.Proof.MixersFrame
public import proofs.«01_k».proof.Proof.Gen.Kernel

@[expose] public section

set_option maxRecDepth 65536
set_option maxHeartbeats 4000000

noncomputable section

open Idealize.ShloMosaic Idealize.ShloMosaic.TcCoe Idealize.SL.Sem

namespace Cert.MixersClaims

/-- At the native floats a named constant is the bits it was printed with. -/
local instance : Named Bits where
  named _ _ {φ} bits := FloatOps.ofBits φ bits

section Same
variable [hK : Cert.Kernel.Facts] [hI : Cert.KernelIdeal.Facts]

/-- The two programs' bodies are the same. -/
theorem bodies_eq : Cert.KernelIdeal.defs₀ (F := Bits) = Cert.Kernel.defs₀ (F := Bits) := by
  unfold Cert.KernelIdeal.defs₀ Cert.Kernel.defs₀
  refine congrArg Defs.onTc ?_
  funext l x
  match l, x with
  | 0, (t, s) => exact rfl

/-- So are their pipelines' definitions. -/
theorem defs_eq : Cert.KernelIdeal.defs (F := Bits) = Cert.Kernel.defs (F := Bits) := by
  exact congrArg (Pipeline.defs (Cert.Kernel.pcfgs (F := Bits))) bodies_eq

/-- So are the host's statements. -/
theorem main_eq : Cert.KernelIdeal.main (F := Bits) = Cert.Kernel.main (F := Bits) := by
  exact rfl

end Same

theorem frame_ideal : Cert.quiescent_KernelIdeal := fun m ρ _ => Cert.KernelIdeal.Gen.frame m ρ

theorem frame_kernel : Cert.quiescent_Kernel := by
  intro m ρ _
  have key : ∀ (D : _) (M : _), D = Cert.Kernel.defs (F := Bits) → M = Cert.Kernel.main (F := Bits) → ∀ Q,
      θ_run D (onTc (τ := Cert.Kernel.τ) M) ⟨m, fun _ => 0, ρ⟩ Q →
      θ_run (Cert.Kernel.defs (F := Bits)) (onTc (τ := Cert.Kernel.τ) (Cert.Kernel.main (F := Bits))) ⟨m, fun _ => 0, ρ⟩ Q := by
    intro D M hD hM Q h
    subst hD hM
    exact h
  exact key _ _ defs_eq main_eq _ (Cert.KernelIdeal.Gen.frame (F := Bits) m ρ)

theorem preserves : Cert.preserves_Kernel_KernelIdeal :=
  ⟨IdealRules.named_const.statement Cert.KernelIdeal.κ "scale" .f32 0x3E38AA3B#32 _ rfl,
    IdealRules.named_const.statement Cert.KernelIdeal.κ "mask" .f32 0xF149F2CA#32 _ rfl,
    IdealRules.named_const.statement Cert.KernelIdeal.κ "mask" .bf16 0xF14A#16 _ rfl⟩

end Cert.MixersClaims

end
-- ==== Proof.MergeRows.lean ====
/-
  One row of the merge and feed-forward step, as plain formulas over the extended reals, and the kernel's block
  payloads and the reference's composed term read at an index as those formulas.
-/
module

public import proofs.«01_k».proof.Proof.Gen.Kernel2Ideal.Skeleton
public import proofs.«01_k».proof.Proof.Gen.Reference2Ideal
public import Idealize.ShloMosaic.Lib.Pointwise

@[expose] public section

set_option maxRecDepth 16384

noncomputable section

open Idealize.ShloMosaic Idealize.ShloMosaic.TcCoe Idealize.SL.Sem

namespace Cert.MergeRows

/-! ## The formulas -/

/-- The two mixers' outputs, each up-projected and gated, summed: entry `k` of a row. -/
def mix (ga gb : Fin 1024 → EReal) (yn ym : Fin 512 → EReal) (wn wm : Fin 512 → Fin 1024 → EReal) (k : Fin 1024) : EReal :=
  ga k * ∑ l, yn l * wn l k + gb k * ∑ l, ym l * wm l k

/-- The residual row after the output projection of `u`. -/
def skip (x u : Fin 1024 → EReal) (wo : Fin 1024 → Fin 1024 → EReal) (j : Fin 1024) : EReal :=
  x j + ∑ k, u k * wo k j

/-- The reciprocal root mean square of a row. -/
def rms (x : Fin 1024 → EReal) : EReal :=
  Ideal.rsqrt (Ideal.div (∑ k, x k * x k) (Ideal.ofBits .f32 0x44800000#32) + Ideal.ofBits .f32 0x358637BD#32)

/-- The row normalised and scaled by `g`. -/
def norm (x g : Fin 1024 → EReal) (j : Fin 1024) : EReal := x j * rms x * g j

/-- The squared rectified hidden unit whose weight column is `w`. -/
def unit (h w : Fin 1024 → EReal) : EReal := max (∑ k, h k * w k) 0 * max (∑ k, h k * w k) 0

/-- The feed-forward residual: all hidden units at once. -/
def ffn (x h : Fin 1024 → EReal) (w1 : Fin 1024 → Fin 4096 → EReal) (w2 : Fin 4096 → Fin 1024 → EReal) (j : Fin 1024) : EReal :=
  x j + ∑ f, unit h (fun k => w1 k f) * w2 f j

/-- One quarter of the hidden units, those whose weights are `w1` and `w2`. -/
def part (h : Fin 1024 → EReal) (w1 w2 : Fin 1024 → Fin 1024 → EReal) (j : Fin 1024) : EReal :=
  ∑ f, unit h (fun k => w1 k f) * w2 f j

/-- Summing the hidden units quarter by quarter gives the same residual. -/
theorem ffn_parts (x h : Fin 1024 → EReal) (w1 : Fin 1024 → Fin 4096 → EReal) (w2 : Fin 4096 → Fin 1024 → EReal) (j : Fin 1024) :
    ffn x h w1 w2 j = x j
      + part h (fun k f => w1 k ⟨f, by omega⟩) (fun f j => w2 ⟨f, by omega⟩ j) j
      + part h (fun k f => w1 k ⟨1024 + f, by omega⟩) (fun f j => w2 ⟨1024 + f, by omega⟩ j) j
      + part h (fun k f => w1 k ⟨2048 + f, by omega⟩) (fun f j => w2 ⟨2048 + f, by omega⟩ j) j
      + part h (fun k f => w1 k ⟨3072 + f, by omega⟩) (fun f j => w2 ⟨3072 + f, by omega⟩ j) j := by
  unfold ffn part
  rw [Fin.sum_univ_tiles 4 1024 rfl (fun f : Fin 4096 => unit h (fun k => w1 k f) * w2 f j)]
  rw [Fin.sum_univ_four]
  simp only [add_assoc]
  refine congrArg (x j + ·) ?_
  refine congrArg₂ (· + ·) ?_ (congrArg₂ (· + ·) ?_ (congrArg₂ (· + ·) ?_ ?_)) <;>
    exact Finset.sum_congr rfl fun f _ => by
      congr 1 <;> (try congr 1) <;> (try funext k) <;> (try congr 1) <;> (try exact Fin.ext (by simp)) <;>
        (try exact Fin.ext (show (0 : ℕ) * 1024 + (f : ℕ) = f by omega)) <;> (try exact (show (0 : ℕ) * 1024 + (f : ℕ) = f by omega))

/-- One row of the result. -/
def row (x ga gb : Fin 1024 → EReal) (yn ym : Fin 512 → EReal) (wn wm : Fin 512 → Fin 1024 → EReal)
    (wo : Fin 1024 → Fin 1024 → EReal) (g2 : Fin 1024 → EReal) (w1 : Fin 1024 → Fin 4096 → EReal)
    (w2 : Fin 4096 → Fin 1024 → EReal) (gf : Fin 1024 → EReal) : Fin 1024 → EReal :=
  norm (ffn (skip x (mix ga gb yn ym wn wm) wo) (norm (skip x (mix ga gb yn ym wn wm) wo) g2) w1 w2) gf

/-- The row formula depends only on the entries of its rows and matrices. -/
theorem row_congr {x x' ga ga' gb gb' g2 g2' gf gf' : Fin 1024 → EReal} {yn yn' ym ym' : Fin 512 → EReal}
    {wn wn' wm wm' : Fin 512 → Fin 1024 → EReal} {wo wo' : Fin 1024 → Fin 1024 → EReal}
    (w1 : Fin 1024 → Fin 4096 → EReal) (w2 : Fin 4096 → Fin 1024 → EReal)
    (hx : ∀ k, x k = x' k) (ha : ∀ k, ga k = ga' k) (hb : ∀ k, gb k = gb' k) (hn : ∀ l, yn l = yn' l) (hm : ∀ l, ym l = ym' l)
    (hwn : ∀ l k, wn l k = wn' l k) (hwm : ∀ l k, wm l k = wm' l k) (hwo : ∀ k j, wo k j = wo' k j) (h2 : ∀ k, g2 k = g2' k)
    (hf : ∀ k, gf k = gf' k) (j : Fin 1024) :
    row x ga gb yn ym wn wm wo g2 w1 w2 gf j = row x' ga' gb' yn' ym' wn' wm' wo' g2' w1 w2 gf' j := by
  rw [funext hx, funext ha, funext hb, funext hn, funext hm, funext fun l => funext (hwn l), funext fun l => funext (hwm l),
    funext fun l => funext (hwo l), funext h2, funext hf]

/-! ## The kernel's payloads at an index -/

section Kernel
open Cert.Kernel2Ideal Cert.Kernel2Ideal.Gen

theorem pay2_at (v0 : FVec Ideal S1x512x512 .bf16) (v2 : FVec Ideal S512x1024 .bf16) (v5 : FVec Ideal S1x512x512 .bf16)
    (v7 : FVec Ideal S512x1024 .bf16) (v10 v14 : FVec Ideal S512x1024 .bf16) (v19 : FVec Ideal S512x1024 .f32)
    (v22 : FVec Ideal S1024x1024 .bf16) (r : Fin 512) (j : Fin 1024) :
    k0_pay2 (F := Ideal) v0 v2 v5 v7 v10 v14 v19 v22 (ix2 r j)
      = skip (fun k => v19 (ix2 r k)) (mix (fun k => v10 (ix2 r k)) (fun k => v14 (ix2 r k)) (fun l => v0 (ix3 0 l r))
          (fun l => v5 (ix3 0 l r)) (fun l k => v2 (ix2 l k)) (fun l k => v7 (ix2 l k))) (fun k j => v22 (ix2 k j)) j := by
  pointwise! [k0_pay2, skip, mix]

theorem pay3_at (v0 : FVec Ideal S1x512x512 .bf16) (v2 : FVec Ideal S512x1024 .bf16) (v5 : FVec Ideal S1x512x512 .bf16)
    (v7 : FVec Ideal S512x1024 .bf16) (v10 v14 : FVec Ideal S512x1024 .bf16) (v19 : FVec Ideal S512x1024 .f32)
    (v22 : FVec Ideal S1024x1024 .bf16) (r : Fin 512) (j : Fin 1024) :
    k0_pay3 (F := Ideal) v0 v2 v5 v7 v10 v14 v19 v22 (ix2 r j)
      = rms (fun j => k0_pay2 (F := Ideal) v0 v2 v5 v7 v10 v14 v19 v22 (ix2 r j)) := by
  pointwise! [k0_pay3, rms]

theorem pay4_at (v25 v34 : FVec Ideal S512x1024 .f32) (v36 : FVec Ideal S1x1024 .f32) (r : Fin 512) (j : Fin 1024) :
    k0_pay4 (F := Ideal) v25 v34 v36 (ix2 r j) = v25 (ix2 r j) * v34 (ix2 r j) * v36 (ix2 0 j) := by
  pointwise! [k0_pay4]

theorem pay5_at (v25 v34 : FVec Ideal S512x1024 .f32) (v36 : FVec Ideal S1x1024 .f32)
    (v41 v48 v52 v59 : FVec Ideal S1024x1024 .bf16) (r : Fin 512) (j : Fin 1024) :
    k0_pay5 (F := Ideal) v25 v34 v36 v41 v48 v52 v59 (ix2 r j)
      = v25 (ix2 r j)
        + part (fun k => k0_pay4 (F := Ideal) v25 v34 v36 (ix2 r k)) (fun k f => v41 (ix2 k f)) (fun f j => v48 (ix2 f j)) j
        + part (fun k => k0_pay4 (F := Ideal) v25 v34 v36 (ix2 r k)) (fun k f => v52 (ix2 k f)) (fun f j => v59 (ix2 f j)) j := by
  pointwise! [k0_pay5, part, unit]

theorem pay6_at (v25 v34 : FVec Ideal S512x1024 .f32) (v36 : FVec Ideal S1x1024 .f32)
    (v63 : FVec Ideal S1024x1024 .bf16) (r : Fin 512) (f : Fin 1024) :
    k0_pay6 (F := Ideal) v25 v34 v36 v63 (ix2 r f)
      = unit (fun k => k0_pay4 (F := Ideal) v25 v34 v36 (ix2 r k)) (fun k => v63 (ix2 k f)) := by
  pointwise! [k0_pay6, unit]

theorem pay1_at (v40 : FVec Ideal S512x1024 .bf16) (v62 : FVec Ideal S512x1024 .f32) (v69 : FVec Ideal S512x1024 .bf16)
    (v71 v74 v81 : FVec Ideal S1024x1024 .bf16) (v95 : FVec Ideal S1x1024 .f32) (r : Fin 512) (j : Fin 1024) :
    k0_pay1 (F := Ideal) v40 v62 v69 v71 (constant S512x1024 .f32 0x00000000#32) v74 v81 v95 (ix2 r j)
      = norm (fun j => v62 (ix2 r j) + (∑ f : Fin 1024, v69 (ix2 r f) * v71 (ix2 f j))
          + part (fun k => v40 (ix2 r k)) (fun k f => v74 (ix2 k f)) (fun f j => v81 (ix2 f j)) j)
          (fun j => v95 (ix2 0 j)) j := by
  pointwise! [k0_pay1, norm, rms, part, unit]

/-- The whole payload of a block, read at an index, is the row formula of the loaded rows. -/
theorem block_at (y1 y2 : FVec Ideal S1x512x512 .bf16) (wn wm : FVec Ideal S512x1024 .bf16) (ga gb : FVec Ideal S512x1024 .bf16)
    (x : FVec Ideal S512x1024 .f32) (wo : FVec Ideal S1024x1024 .bf16) (g2 gf : FVec Ideal S1x1024 .f32)
    (a0 b0 a1 b1 a2 b2 a3 b3 : FVec Ideal S1024x1024 .bf16) (w1 : Fin 1024 → Fin 4096 → EReal) (w2 : Fin 4096 → Fin 1024 → EReal)
    (h0 : ∀ k f : Fin 1024, a0 (ix2 k f) = w1 k ⟨f, by omega⟩) (k0 : ∀ f j : Fin 1024, b0 (ix2 f j) = w2 ⟨f, by omega⟩ j)
    (h1 : ∀ k f : Fin 1024, a1 (ix2 k f) = w1 k ⟨1024 + f, by omega⟩) (k1 : ∀ f j : Fin 1024, b1 (ix2 f j) = w2 ⟨1024 + f, by omega⟩ j)
    (h2 : ∀ k f : Fin 1024, a2 (ix2 k f) = w1 k ⟨2048 + f, by omega⟩) (k2 : ∀ f j : Fin 1024, b2 (ix2 f j) = w2 ⟨2048 + f, by omega⟩ j)
    (h3 : ∀ k f : Fin 1024, a3 (ix2 k f) = w1 k ⟨3072 + f, by omega⟩) (k3 : ∀ f j : Fin 1024, b3 (ix2 f j) = w2 ⟨3072 + f, by omega⟩ j)
    (r : Fin 512) (j : Fin 1024) :
    k0_pay1 (F := Ideal)
        (k0_pay4 (k0_pay2 y1 wn y2 wm ga gb x wo) (k0_pay3 y1 wn y2 wm ga gb x wo) g2)
        (k0_pay5 (k0_pay2 y1 wn y2 wm ga gb x wo) (k0_pay3 y1 wn y2 wm ga gb x wo) g2 a0 b0 a1 b1)
        (k0_pay6 (k0_pay2 y1 wn y2 wm ga gb x wo) (k0_pay3 y1 wn y2 wm ga gb x wo) g2 a2)
        (k0_pay7 b2) (constant S512x1024 .f32 0x00000000#32) a3 b3 gf (ix2 r j)
      = row (fun k => x (ix2 r k)) (fun k => ga (ix2 r k)) (fun k => gb (ix2 r k)) (fun l => y1 (ix3 0 l r)) (fun l => y2 (ix3 0 l r))
          (fun l k => wn (ix2 l k)) (fun l k => wm (ix2 l k)) (fun k j => wo (ix2 k j)) (fun k => g2 (ix2 0 k)) w1 w2
          (fun k => gf (ix2 0 k)) j := by
  have e7 : ∀ f j : Fin 1024, k0_pay7 (F := Ideal) b2 (ix2 f j) = b2 (ix2 f j) := fun f j => by pointwise! [k0_pay7]
  rw [pay1_at]
  simp only [pay5_at, pay6_at, pay4_at, pay3_at, pay2_at, e7]
  unfold row
  congr 1
  funext j
  rw [ffn_parts]
  simp only [part, h0, h1, h2, h3, k0, k1, k2, k3]
  rfl

end Kernel

/-! ## The reference's term at an index -/

section Reference
open Cert.Reference2Ideal Cert.Reference2Ideal.Gen

/-- The reference's residual after the output projection. -/
def refSkip (x : FVec Ideal S8x4096x1024 .f32) (yn ym : FVec Ideal S8x4096x512 .f32) (g : FVec Ideal S8x4096x2048 .f32)
    (wn wm : FVec Ideal S512x1024 .f32) (wo : FVec Ideal S1024x1024 .f32) : FVec Ideal S8x4096x1024 .f32 :=
  addf x (Host.dotGeneral dot_S8x4096x1024_S1024x1024_S8x4096x1024_2_0_01_1_n_n none
    (addf (mulf (extractStridedSlice S8x4096x1024 ![0, 0, 0] g slices_S8x4096x2048_S8x4096x1024_0_0_0)
        (Host.dotGeneral dot_S8x4096x512_S512x1024_S8x4096x1024_2_0_01_1_n_n none yn wn))
      (mulf (extractStridedSlice S8x4096x1024 ![0, 0, 1024] g slices_S8x4096x2048_S8x4096x1024_0_0_1024)
        (Host.dotGeneral dot_S8x4096x512_S512x1024_S8x4096x1024_2_0_01_1_n_n none ym wm))) wo)

/-- The reference's normalisation. -/
def refNorm (x : FVec Ideal S8x4096x1024 .f32) (g : FVec Ideal S1024 .f32) : FVec Ideal S8x4096x1024 .f32 :=
  mulf (mulf x (broadcastInDim S8x4096x1024 ![0, 1, 2] bcast_S8x4096x1_S8x4096x1024_0_1_2
      (Host.rsqrt (addf (Host.divf (broadcastInDim S8x4096x1 ![0, 1] bcast_S8x4096_S8x4096x1_0_1
          (Host.reduceAdd (mulf x x) (constant S_ .f32 0x00000000#32) reducesTo_S8x4096x1024_S8x4096_d2 h_S_))
        (broadcastInDim S8x4096x1 ![] bcast_S_S8x4096x1 (constant S_ .f32 0x44800000#32)))
        (broadcastInDim S8x4096x1 ![] bcast_S_S8x4096x1 (constant S_ .f32 0x358637BD#32))))))
    (broadcastInDim S8x4096x1024 ![0, 1, 2] bcast_S1x1x1024_S8x4096x1024_0_1_2 (broadcastInDim S1x1x1024 ![2] bcast_S1024_S1x1x1024_2 g))

/-- The reference's rectified hidden layer. -/
def refHidden (h : FVec Ideal S8x4096x1024 .f32) (w1 : FVec Ideal S1024x4096 .f32) : FVec Ideal S8x4096x4096 .f32 :=
  maximumf (Host.dotGeneral dot_S8x4096x1024_S1024x4096_S8x4096x4096_2_0_01_1_n_n none h w1)
    (broadcastInDim S8x4096x4096 ![] bcast_S_S8x4096x4096 (constant S_ .f32 0x00000000#32))

/-- The reference's feed-forward residual. -/
def refFfn (x h : FVec Ideal S8x4096x1024 .f32) (w1 : FVec Ideal S1024x4096 .f32) (w2 : FVec Ideal S4096x1024 .f32) :
    FVec Ideal S8x4096x1024 .f32 :=
  addf x (Host.dotGeneral dot_S8x4096x4096_S4096x1024_S8x4096x1024_2_0_01_1_n_n none (mulf (refHidden h w1) (refHidden h w1)) w2)

/-- The reference's result, rows of all sequences in one list. -/
def refOut (x : FVec Ideal S8x4096x1024 .f32) (yn ym : FVec Ideal S8x4096x512 .f32) (g : FVec Ideal S8x4096x2048 .f32)
    (wn wm : FVec Ideal S512x1024 .f32) (wo : FVec Ideal S1024x1024 .f32) (g2 : FVec Ideal S1024 .f32)
    (w1 : FVec Ideal S1024x4096 .f32) (w2 : FVec Ideal S4096x1024 .f32) (gf : FVec Ideal S1024 .f32) : FVec Ideal S32768x1024 .f32 :=
  shapeCast S32768x1024 (refNorm (refFfn (refSkip x yn ym g wn wm wo) (refNorm (refSkip x yn ym g wn wm wo) g2) w1 w2) gf)
    shapeCasts_S8x4096x1024_S32768x1024

theorem refSkip_at (x : FVec Ideal S8x4096x1024 .f32) (yn ym : FVec Ideal S8x4096x512 .f32) (g : FVec Ideal S8x4096x2048 .f32)
    (wn wm : FVec Ideal S512x1024 .f32) (wo : FVec Ideal S1024x1024 .f32) (b : Fin 8) (s : Fin 4096) (j : Fin 1024) :
    refSkip x yn ym g wn wm wo (ix3 b s j)
      = skip (fun k => x (ix3 b s k)) (mix (fun k => g (ix3 b s ⟨k, by omega⟩)) (fun k => g (ix3 b s ⟨1024 + k, by omega⟩))
          (fun l => yn (ix3 b s l)) (fun l => ym (ix3 b s l)) (fun l k => wn (ix2 l k)) (fun l k => wm (ix2 l k)))
          (fun k j => wo (ix2 k j)) j := by
  pointwise! [refSkip, skip, mix]

theorem refNorm_at (x : FVec Ideal S8x4096x1024 .f32) (g : FVec Ideal S1024 .f32) (b : Fin 8) (s : Fin 4096) (j : Fin 1024) :
    refNorm x g (ix3 b s j) = norm (fun k => x (ix3 b s k)) (fun k => g (ix1 k)) j := by
  pointwise! [refNorm, norm, rms]

theorem refFfn_at (x h : FVec Ideal S8x4096x1024 .f32) (w1 : FVec Ideal S1024x4096 .f32) (w2 : FVec Ideal S4096x1024 .f32)
    (b : Fin 8) (s : Fin 4096) (j : Fin 1024) :
    refFfn x h w1 w2 (ix3 b s j)
      = ffn (fun k => x (ix3 b s k)) (fun k => h (ix3 b s k)) (fun k f => w1 (ix2 k f)) (fun f j => w2 (ix2 f j)) j := by
  pointwise! [refFfn, refHidden, ffn, unit]

/-- Row `p` of the reference's result is the row formula of sequence `p / 4096` at place `p % 4096`. -/
theorem refOut_at (x : FVec Ideal S8x4096x1024 .f32) (yn ym : FVec Ideal S8x4096x512 .f32) (g : FVec Ideal S8x4096x2048 .f32)
    (wn wm : FVec Ideal S512x1024 .f32) (wo : FVec Ideal S1024x1024 .f32) (g2 : FVec Ideal S1024 .f32)
    (w1 : FVec Ideal S1024x4096 .f32) (w2 : FVec Ideal S4096x1024 .f32) (gf : FVec Ideal S1024 .f32)
    (p : Fin 32768) (b : Fin 8) (s : Fin 4096) (hp : (p : ℕ) = b * 4096 + s) (j : Fin 1024) :
    refOut x yn ym g wn wm wo g2 w1 w2 gf (ix2 p j)
      = row (fun k => x (ix3 b s k)) (fun k => g (ix3 b s ⟨k, by omega⟩)) (fun k => g (ix3 b s ⟨1024 + k, by omega⟩))
          (fun l => yn (ix3 b s l)) (fun l => ym (ix3 b s l)) (fun l k => wn (ix2 l k)) (fun l k => wm (ix2 l k))
          (fun k j => wo (ix2 k j)) (fun k => g2 (ix1 k)) (fun k f => w1 (ix2 k f)) (fun f j => w2 (ix2 f j)) (fun k => gf (ix1 k)) j := by
  have e : ∀ y : FVec Ideal S8x4096x1024 .f32,
      shapeCast S32768x1024 y shapeCasts_S8x4096x1024_S32768x1024 (ix2 p j) = y (ix3 b s j) := fun y => by
    pointwise
    refine congrArg y ?_
    idx_ext <;> simp <;> omega
  unfold refOut row
  rw [e, refNorm_at]
  simp only [refFfn_at, refNorm_at, refSkip_at]

end Reference

end Cert.MergeRows
-- ==== Proof.MergeValue.lean ====
/-
  The merge and feed-forward call's result array after its run is the reference's composed term of the arguments.
-/
module

public import proofs.«01_k».proof.Proof.MergeRows
public import proofs.«01_k».proof.Proof.Gen.Kernel2Ideal.Value
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.MergeValue

open Cert.Kernel2Ideal Cert.Kernel2Ideal.Gen Cert.MergeRows

variable (m : (ℓ : Loc nD τ sig) → Buf (Elt Ideal) ℓ)

/-- The windows' block indices at every grid point. -/
theorem idx : ∀ t : Fin cfg0.N, win0_0.index t = ![t.val, 0] ∧ win0_1.index t = ![t.val / 8, 0, t.val % 8]
    ∧ win0_2.index t = ![t.val / 8, 0, t.val % 8] ∧ win0_3.index t = ![t.val, 0] ∧ win0_4.index t = ![0, 0]
    ∧ win0_5.index t = ![0, 0] ∧ win0_6.index t = ![0, 0] ∧ win0_7.index t = ![0, 0] ∧ win0_8.index t = ![0, 0]
    ∧ win0_9.index t = ![0, 0] ∧ win0_10.index t = ![0, 0] ∧ win0_11.index t = ![t.val, 0] ∧ t.val < 64 :=
  (by decide +kernel : ∀ t : Fin grid0.N, _)

/-- The reference's term over the kernel's arguments. -/
abbrev OUT (c : Dev nD) : FVec Ideal S32768x1024 .f32 :=
  refOut (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7)) (m ((c : Thread nD τ).loc main_arg8))
    (m ((c : Thread nD τ).loc main_arg9)) (m ((c : Thread nD τ).loc main_arg10))

/-- The result array after the run is the reference's term. -/
theorem final (c : Dev nD) : (dats m 0 c).arrAt 11 cfg0.N = OUT m c := by
  refine (dats m 0 c).arrAt_eq_of_covers 11 _ (by decide +kernel) fun t _ y => ?_
  obtain ⟨r, j, rfl⟩ : ∃ (r : Fin 512) (j : Fin 1024), y = ix2 r j := ⟨y 0, y 1, eq_ix2 y⟩
  blk_simp
  rw [after0_11]
  unfold_out out0_11
  frame_out
  have ht : t.val < 64 := (idx t).2.2.2.2.2.2.2.2.2.2.2.2
  have e : ((View.whole main_v14).slice (win0_11.rect t)).emb (ix2 r j) = ix2 (⟨t.val * 512 + r.val, by omega⟩ : Fin 32768) j := by
    blk_ext [idx t]
  rw [e]
  refine Eq.trans (block_at _ _ _ _ _ _ _ _ _ _ _ _ _ _ _ _ _ _ (fun k f => (m ((c : Thread nD τ).loc main_arg8) : FVec Ideal S1024x4096 .f32) (ix2 k f))
    (fun f j => (m ((c : Thread nD τ).loc main_arg9) : FVec Ideal S4096x1024 .f32) (ix2 f j)) ?_ ?_ ?_ ?_ ?_ ?_ ?_ ?_ r j)
    (Eq.trans ?_ (refOut_at _ _ _ _ _ _ _ _ _ _ _ _ ⟨t.val / 8, by omega⟩ ⟨t.val % 8 * 512 + r.val, by omega⟩
      (by show t.val * 512 + r.val = t.val / 8 * 4096 + (t.val % 8 * 512 + r.val); omega) j).symm)
  · intro k f; pointwise; blk_point [iblk, V, idx t]
  · intro k f; pointwise; blk_point [iblk, V, idx t]
  · intro k f; pointwise; blk_point [iblk, V, idx t]
  · intro k f; pointwise; blk_point [iblk, V, idx t]
  · intro k f; pointwise; blk_point [iblk, V, idx t]
  · intro k f; pointwise; blk_point [iblk, V, idx t]
  · intro k f; pointwise; blk_point [iblk, V, idx t]
  · intro k f; pointwise; blk_point [iblk, V, idx t]
  · refine row_congr _ _ ?_ ?_ ?_ ?_ ?_ ?_ ?_ ?_ ?_ ?_ j
    · intro k; blk_point [iblk, V, idx t]
    · intro k; pointwise; blk_point [iblk, V, idx t]
    · intro k; pointwise; blk_point [iblk, V, idx t]
    · intro k; blk_point [iblk, V, idx t]
    · intro k; blk_point [iblk, V, idx t]
    · intro l k; blk_point [iblk, V, idx t]
    · intro l k; blk_point [iblk, V, idx t]
    · intro l k; blk_point [iblk, V, idx t]
    · intro k; blk_point [iblk, V, idx t]
    · intro k; blk_point [iblk, V, idx t]

end Cert.MergeValue
-- ==== Proof.MergeClaims.lean ====
/-
  The claims of the merge and feed-forward call.
-/
module

public import proofs.«01_k».proof.Defs
public import proofs.«01_k».proof.Proof.MergeValue
public import proofs.«01_k».proof.Proof.Gen.Kernel2.Frame
public import proofs.«01_k».proof.Proof.Gen.Reference2Ideal.Run
public import Idealize.ShloMosaic.Lib.Claim
public import Idealize.ShloMosaic.Lib.Quiescent

@[expose] public section

set_option maxRecDepth 16384

noncomputable section

open Idealize.ShloMosaic Idealize.ShloMosaic.TcCoe Idealize.SL.Sem

namespace Cert.MergeClaims

theorem frame_kernel : Cert.quiescent_Kernel2 := fun m ρ _ => Cert.Kernel2.Gen.frame m ρ

theorem frame_ideal : Cert.quiescent_Kernel2Ideal := fun m ρ _ => Cert.Kernel2Ideal.Gen.frame m ρ

theorem frame_reference : Cert.quiescent_Reference2Ideal := by
  intro m ρ _
  refine (θ_run Cert.Reference2Ideal.defs _ _).mono (fun r h => ⟨fun c => (h c).2, ?_⟩) (Cert.Reference2Ideal.Value.run m ρ)
  exact sem_eq_zero_of_no_sems (by decide) r.2

theorem preserves : Cert.preserves_Kernel2_Kernel2Ideal := trivial

/-- The call's result is the reference's, for all arguments. -/
theorem algebraic : Cert.algebraic_Kernel2Ideal_Reference2Ideal := by
  pair_intro
  · run_from Cert.Kernel2Ideal.Gen.run_main m g
  · run_from Cert.Reference2Ideal.Value.run m' g'
    rw [Cert.MergeValue.final m c]
    obtain ⟨h0, h1, h2, h3, h4, h5, h6, h7, h8, h9, h10⟩ := hagree c
    unfold Cert.Reference2Ideal.Value.res_main_v40
    rw [h0, h1, h2, h3, h4, h5, h6, h7, h8, h9, h10]
    rfl

end Cert.MergeClaims
-- ==== Proof.InProjFrame.lean ====
/-
  The frame of the input projection's call: what each output's staging buffer holds after the body at each grid point,
  the body's triple at every point, the run and the frame. The set-up follows the library's examples of a kernel with
  one case and a scratch buffer; the body's obligation needs a larger budget because of its thirteen outputs.
-/
module

public import proofs.«01_k».proof.Proof.Gen.Kernel3Ideal.Frame.RunA
public import Idealize.ShloMosaic.Lib.Claim

@[expose] public section

-- membership in a rectangle of production extents (`View.cover_of_tiled`): the elaborator's structural look
-- recurses once per coordinate of the long axes
set_option maxRecDepth 16384

noncomputable section

namespace Cert.Kernel3Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-- The run's pieces for output 9 tile its block (2 stores of `S1x512x256`, checked by the kernel's evaluation: Lib/Ring.lean `Piece.tiledL`, linear in the pieces, through a loop's `@[irreducible]` trip theorem too), so they cover it. -/
theorem cover0_A_9 (c : Dev nD) (i : grid0.Coords) (arg1 : Memref sig .tc .vmem S256x1024 .f32) (harg1 : arg1.IsWhole) (arg2 : Memref sig .tc .vmem S1x1024 .f32) (harg2 : arg2.IsWhole) (arg3 : Memref sig .tc .vmem S1024x3072 .bf16) (harg3 : arg3.IsWhole) (arg4 : Memref sig .tc .vmem S1824x1024 .bf16) (harg4 : arg4.IsWhole) (arg5 : Memref sig .tc .vmem S256x128 .f32) (harg5 : arg5.IsWhole) (arg6 : Memref sig .tc .vmem S256x128 .f32) (harg6 : arg6.IsWhole) (arg7 : Memref sig .tc .vmem S256x128 .f32) (harg7 : arg7.IsWhole) (arg8 : Memref sig .tc .vmem S8x256 .f32) (harg8 : arg8.IsWhole) (arg9 : Memref sig .tc .vmem S8x256 .f32) (harg9 : arg9.IsWhole) (arg10 : Memref sig .tc .vmem S1x1024x256 .bf16) (harg10 : arg10.IsWhole) (arg11 : Memref sig .tc .vmem S1x1024x256 .bf16) (harg11 : arg11.IsWhole) (arg12 : Memref sig .tc .vmem S1x2x16x256 .f32) (harg12 : arg12.IsWhole) (arg13 : Memref sig .tc .vmem S256x128 .f32) (harg13 : arg13.IsWhole) (arg14 : Memref sig .tc .vmem S256x128 .f32) (harg14 : arg14.IsWhole) (arg15 : Memref sig .tc .vmem S1x1x256x256 .bf16) (harg15 : arg15.IsWhole) (arg16 : Memref sig .tc .vmem S1x1x256x128 .bf16) (harg16 : arg16.IsWhole) (arg17 : Memref sig .tc .vmem S1x2x1x80x256 .bf16) (harg17 : arg17.IsWhole) (arg18 : Memref sig .tc .vmem S1x2x1x80x256 .bf16) (harg18 : arg18.IsWhole) (arg19 : Memref sig .tc .vmem S1x1x256x1024 .bf16) (harg19 : arg19.IsWhole) (arg20 : Memref sig .tc .vmem S1x8x1x80x256 .bf16) (harg20 : arg20.IsWhole) (arg21 : Memref sig .tc .vmem S1x8x512 .f32) (harg21 : arg21.IsWhole) (arg22 : Memref sig .tc .vmem S256x2048 .bf16) (harg22 : arg22.IsWhole) (arg23 : Memref sig .tc .vmem S256x1024 .bf16) (harg23 : arg23.IsWhole)
    (x0 : Vec F S256x1024 .f32) (x1 : Vec F S1x1024 .f32) (x2 : Vec F S1024x3072 .bf16) (x3 : Vec F S1824x1024 .bf16) (x4 : Vec F S256x128 .f32) (x5 : Vec F S256x128 .f32) (x6 : Vec F S256x128 .f32) (x7 : Vec F S8x256 .f32) (x8 : Vec F S8x256 .f32) (y : S1x1024x256.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x0 x1 x2 x3 x4 x5 x6 x7 x8).1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x0 x1 x2 x3 x4 x5 x6 x7 x8).1 S1x512x256.size (by sl_kernel_rfl) y

/-- What the run leaves in output 9's staging buffer: its pieces read back over junk. -/
def out0_A_9 (c : Dev nD) (i : grid0.Coords) (arg1 : Memref sig .tc .vmem S256x1024 .f32) (harg1 : arg1.IsWhole) (arg2 : Memref sig .tc .vmem S1x1024 .f32) (harg2 : arg2.IsWhole) (arg3 : Memref sig .tc .vmem S1024x3072 .bf16) (harg3 : arg3.IsWhole) (arg4 : Memref sig .tc .vmem S1824x1024 .bf16) (harg4 : arg4.IsWhole) (arg5 : Memref sig .tc .vmem S256x128 .f32) (harg5 : arg5.IsWhole) (arg6 : Memref sig .tc .vmem S256x128 .f32) (harg6 : arg6.IsWhole) (arg7 : Memref sig .tc .vmem S256x128 .f32) (harg7 : arg7.IsWhole) (arg8 : Memref sig .tc .vmem S8x256 .f32) (harg8 : arg8.IsWhole) (arg9 : Memref sig .tc .vmem S8x256 .f32) (harg9 : arg9.IsWhole) (arg10 : Memref sig .tc .vmem S1x1024x256 .bf16) (harg10 : arg10.IsWhole) (arg11 : Memref sig .tc .vmem S1x1024x256 .bf16) (harg11 : arg11.IsWhole) (arg12 : Memref sig .tc .vmem S1x2x16x256 .f32) (harg12 : arg12.IsWhole) (arg13 : Memref sig .tc .vmem S256x128 .f32) (harg13 : arg13.IsWhole) (arg14 : Memref sig .tc .vmem S256x128 .f32) (harg14 : arg14.IsWhole) (arg15 : Memref sig .tc .vmem S1x1x256x256 .bf16) (harg15 : arg15.IsWhole) (arg16 : Memref sig .tc .vmem S1x1x256x128 .bf16) (harg16 : arg16.IsWhole) (arg17 : Memref sig .tc .vmem S1x2x1x80x256 .bf16) (harg17 : arg17.IsWhole) (arg18 : Memref sig .tc .vmem S1x2x1x80x256 .bf16) (harg18 : arg18.IsWhole) (arg19 : Memref sig .tc .vmem S1x1x256x1024 .bf16) (harg19 : arg19.IsWhole) (arg20 : Memref sig .tc .vmem S1x8x1x80x256 .bf16) (harg20 : arg20.IsWhole) (arg21 : Memref sig .tc .vmem S1x8x512 .f32) (harg21 : arg21.IsWhole) (arg22 : Memref sig .tc .vmem S256x2048 .bf16) (harg22 : arg22.IsWhole) (arg23 : Memref sig .tc .vmem S256x1024 .bf16) (harg23 : arg23.IsWhole)
    (x0 : Vec F S256x1024 .f32) (x1 : Vec F S1x1024 .f32) (x2 : Vec F S1024x3072 .bf16) (x3 : Vec F S1824x1024 .bf16) (x4 : Vec F S256x128 .f32) (x5 : Vec F S256x128 .f32) (x6 : Vec F S256x128 .f32) (x7 : Vec F S8x256 .f32) (x8 : Vec F S8x256 .f32) : Vec F S1x1024x256 .bf16 :=
  VO0_9.read (Elt F) (VO0_9.writes (Elt F) VO0_9.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x0 x1 x2 x3 x4 x5 x6 x7 x8).1)

/-- The run's pieces for output 10 tile its block (2 stores of `S1x512x256`, checked by the kernel's evaluation: Lib/Ring.lean `Piece.tiledL`, linear in the pieces, through a loop's `@[irreducible]` trip theorem too), so they cover it. -/
theorem cover0_A_10 (c : Dev nD) (i : grid0.Coords) (arg1 : Memref sig .tc .vmem S256x1024 .f32) (harg1 : arg1.IsWhole) (arg2 : Memref sig .tc .vmem S1x1024 .f32) (harg2 : arg2.IsWhole) (arg3 : Memref sig .tc .vmem S1024x3072 .bf16) (harg3 : arg3.IsWhole) (arg4 : Memref sig .tc .vmem S1824x1024 .bf16) (harg4 : arg4.IsWhole) (arg5 : Memref sig .tc .vmem S256x128 .f32) (harg5 : arg5.IsWhole) (arg6 : Memref sig .tc .vmem S256x128 .f32) (harg6 : arg6.IsWhole) (arg7 : Memref sig .tc .vmem S256x128 .f32) (harg7 : arg7.IsWhole) (arg8 : Memref sig .tc .vmem S8x256 .f32) (harg8 : arg8.IsWhole) (arg9 : Memref sig .tc .vmem S8x256 .f32) (harg9 : arg9.IsWhole) (arg10 : Memref sig .tc .vmem S1x1024x256 .bf16) (harg10 : arg10.IsWhole) (arg11 : Memref sig .tc .vmem S1x1024x256 .bf16) (harg11 : arg11.IsWhole) (arg12 : Memref sig .tc .vmem S1x2x16x256 .f32) (harg12 : arg12.IsWhole) (arg13 : Memref sig .tc .vmem S256x128 .f32) (harg13 : arg13.IsWhole) (arg14 : Memref sig .tc .vmem S256x128 .f32) (harg14 : arg14.IsWhole) (arg15 : Memref sig .tc .vmem S1x1x256x256 .bf16) (harg15 : arg15.IsWhole) (arg16 : Memref sig .tc .vmem S1x1x256x128 .bf16) (harg16 : arg16.IsWhole) (arg17 : Memref sig .tc .vmem S1x2x1x80x256 .bf16) (harg17 : arg17.IsWhole) (arg18 : Memref sig .tc .vmem S1x2x1x80x256 .bf16) (harg18 : arg18.IsWhole) (arg19 : Memref sig .tc .vmem S1x1x256x1024 .bf16) (harg19 : arg19.IsWhole) (arg20 : Memref sig .tc .vmem S1x8x1x80x256 .bf16) (harg20 : arg20.IsWhole) (arg21 : Memref sig .tc .vmem S1x8x512 .f32) (harg21 : arg21.IsWhole) (arg22 : Memref sig .tc .vmem S256x2048 .bf16) (harg22 : arg22.IsWhole) (arg23 : Memref sig .tc .vmem S256x1024 .bf16) (harg23 : arg23.IsWhole)
    (x0 : Vec F S256x1024 .f32) (x1 : Vec F S1x1024 .f32) (x2 : Vec F S1024x3072 .bf16) (x3 : Vec F S1824x1024 .bf16) (x4 : Vec F S256x128 .f32) (x5 : Vec F S256x128 .f32) (x6 : Vec F S256x128 .f32) (x7 : Vec F S8x256 .f32) (x8 : Vec F S8x256 .f32) (y : S1x1024x256.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x0 x1 x2 x3 x4 x5 x6 x7 x8).2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x0 x1 x2 x3 x4 x5 x6 x7 x8).2.1 S1x512x256.size (by sl_kernel_rfl) y

/-- What the run leaves in output 10's staging buffer: its pieces read back over junk. -/
def out0_A_10 (c : Dev nD) (i : grid0.Coords) (arg1 : Memref sig .tc .vmem S256x1024 .f32) (harg1 : arg1.IsWhole) (arg2 : Memref sig .tc .vmem S1x1024 .f32) (harg2 : arg2.IsWhole) (arg3 : Memref sig .tc .vmem S1024x3072 .bf16) (harg3 : arg3.IsWhole) (arg4 : Memref sig .tc .vmem S1824x1024 .bf16) (harg4 : arg4.IsWhole) (arg5 : Memref sig .tc .vmem S256x128 .f32) (harg5 : arg5.IsWhole) (arg6 : Memref sig .tc .vmem S256x128 .f32) (harg6 : arg6.IsWhole) (arg7 : Memref sig .tc .vmem S256x128 .f32) (harg7 : arg7.IsWhole) (arg8 : Memref sig .tc .vmem S8x256 .f32) (harg8 : arg8.IsWhole) (arg9 : Memref sig .tc .vmem S8x256 .f32) (harg9 : arg9.IsWhole) (arg10 : Memref sig .tc .vmem S1x1024x256 .bf16) (harg10 : arg10.IsWhole) (arg11 : Memref sig .tc .vmem S1x1024x256 .bf16) (harg11 : arg11.IsWhole) (arg12 : Memref sig .tc .vmem S1x2x16x256 .f32) (harg12 : arg12.IsWhole) (arg13 : Memref sig .tc .vmem S256x128 .f32) (harg13 : arg13.IsWhole) (arg14 : Memref sig .tc .vmem S256x128 .f32) (harg14 : arg14.IsWhole) (arg15 : Memref sig .tc .vmem S1x1x256x256 .bf16) (harg15 : arg15.IsWhole) (arg16 : Memref sig .tc .vmem S1x1x256x128 .bf16) (harg16 : arg16.IsWhole) (arg17 : Memref sig .tc .vmem S1x2x1x80x256 .bf16) (harg17 : arg17.IsWhole) (arg18 : Memref sig .tc .vmem S1x2x1x80x256 .bf16) (harg18 : arg18.IsWhole) (arg19 : Memref sig .tc .vmem S1x1x256x1024 .bf16) (harg19 : arg19.IsWhole) (arg20 : Memref sig .tc .vmem S1x8x1x80x256 .bf16) (harg20 : arg20.IsWhole) (arg21 : Memref sig .tc .vmem S1x8x512 .f32) (harg21 : arg21.IsWhole) (arg22 : Memref sig .tc .vmem S256x2048 .bf16) (harg22 : arg22.IsWhole) (arg23 : Memref sig .tc .vmem S256x1024 .bf16) (harg23 : arg23.IsWhole)
    (x0 : Vec F S256x1024 .f32) (x1 : Vec F S1x1024 .f32) (x2 : Vec F S1024x3072 .bf16) (x3 : Vec F S1824x1024 .bf16) (x4 : Vec F S256x128 .f32) (x5 : Vec F S256x128 .f32) (x6 : Vec F S256x128 .f32) (x7 : Vec F S8x256 .f32) (x8 : Vec F S8x256 .f32) : Vec F S1x1024x256 .bf16 :=
  VO0_10.read (Elt F) (VO0_10.writes (Elt F) VO0_10.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x0 x1 x2 x3 x4 x5 x6 x7 x8).2.1)

/-- The run's pieces for output 11 tile its block (2 stores of `S1x1x16x256`, checked by the kernel's evaluation: Lib/Ring.lean `Piece.tiledL`, linear in the pieces, through a loop's `@[irreducible]` trip theorem too), so they cover it. -/
theorem cover0_A_11 (c : Dev nD) (i : grid0.Coords) (arg1 : Memref sig .tc .vmem S256x1024 .f32) (harg1 : arg1.IsWhole) (arg2 : Memref sig .tc .vmem S1x1024 .f32) (harg2 : arg2.IsWhole) (arg3 : Memref sig .tc .vmem S1024x3072 .bf16) (harg3 : arg3.IsWhole) (arg4 : Memref sig .tc .vmem S1824x1024 .bf16) (harg4 : arg4.IsWhole) (arg5 : Memref sig .tc .vmem S256x128 .f32) (harg5 : arg5.IsWhole) (arg6 : Memref sig .tc .vmem S256x128 .f32) (harg6 : arg6.IsWhole) (arg7 : Memref sig .tc .vmem S256x128 .f32) (harg7 : arg7.IsWhole) (arg8 : Memref sig .tc .vmem S8x256 .f32) (harg8 : arg8.IsWhole) (arg9 : Memref sig .tc .vmem S8x256 .f32) (harg9 : arg9.IsWhole) (arg10 : Memref sig .tc .vmem S1x1024x256 .bf16) (harg10 : arg10.IsWhole) (arg11 : Memref sig .tc .vmem S1x1024x256 .bf16) (harg11 : arg11.IsWhole) (arg12 : Memref sig .tc .vmem S1x2x16x256 .f32) (harg12 : arg12.IsWhole) (arg13 : Memref sig .tc .vmem S256x128 .f32) (harg13 : arg13.IsWhole) (arg14 : Memref sig .tc .vmem S256x128 .f32) (harg14 : arg14.IsWhole) (arg15 : Memref sig .tc .vmem S1x1x256x256 .bf16) (harg15 : arg15.IsWhole) (arg16 : Memref sig .tc .vmem S1x1x256x128 .bf16) (harg16 : arg16.IsWhole) (arg17 : Memref sig .tc .vmem S1x2x1x80x256 .bf16) (harg17 : arg17.IsWhole) (arg18 : Memref sig .tc .vmem S1x2x1x80x256 .bf16) (harg18 : arg18.IsWhole) (arg19 : Memref sig .tc .vmem S1x1x256x1024 .bf16) (harg19 : arg19.IsWhole) (arg20 : Memref sig .tc .vmem S1x8x1x80x256 .bf16) (harg20 : arg20.IsWhole) (arg21 : Memref sig .tc .vmem S1x8x512 .f32) (harg21 : arg21.IsWhole) (arg22 : Memref sig .tc .vmem S256x2048 .bf16) (harg22 : arg22.IsWhole) (arg23 : Memref sig .tc .vmem S256x1024 .bf16) (harg23 : arg23.IsWhole)
    (x0 : Vec F S256x1024 .f32) (x1 : Vec F S1x1024 .f32) (x2 : Vec F S1024x3072 .bf16) (x3 : Vec F S1824x1024 .bf16) (x4 : Vec F S256x128 .f32) (x5 : Vec F S256x128 .f32) (x6 : Vec F S256x128 .f32) (x7 : Vec F S8x256 .f32) (x8 : Vec F S8x256 .f32) (y : S1x2x16x256.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x0 x1 x2 x3 x4 x5 x6 x7 x8).2.2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x0 x1 x2 x3 x4 x5 x6 x7 x8).2.2.1 S1x1x16x256.size (by sl_kernel_rfl) y

/-- What the run leaves in output 11's staging buffer: its pieces read back over junk. -/
def out0_A_11 (c : Dev nD) (i : grid0.Coords) (arg1 : Memref sig .tc .vmem S256x1024 .f32) (harg1 : arg1.IsWhole) (arg2 : Memref sig .tc .vmem S1x1024 .f32) (harg2 : arg2.IsWhole) (arg3 : Memref sig .tc .vmem S1024x3072 .bf16) (harg3 : arg3.IsWhole) (arg4 : Memref sig .tc .vmem S1824x1024 .bf16) (harg4 : arg4.IsWhole) (arg5 : Memref sig .tc .vmem S256x128 .f32) (harg5 : arg5.IsWhole) (arg6 : Memref sig .tc .vmem S256x128 .f32) (harg6 : arg6.IsWhole) (arg7 : Memref sig .tc .vmem S256x128 .f32) (harg7 : arg7.IsWhole) (arg8 : Memref sig .tc .vmem S8x256 .f32) (harg8 : arg8.IsWhole) (arg9 : Memref sig .tc .vmem S8x256 .f32) (harg9 : arg9.IsWhole) (arg10 : Memref sig .tc .vmem S1x1024x256 .bf16) (harg10 : arg10.IsWhole) (arg11 : Memref sig .tc .vmem S1x1024x256 .bf16) (harg11 : arg11.IsWhole) (arg12 : Memref sig .tc .vmem S1x2x16x256 .f32) (harg12 : arg12.IsWhole) (arg13 : Memref sig .tc .vmem S256x128 .f32) (harg13 : arg13.IsWhole) (arg14 : Memref sig .tc .vmem S256x128 .f32) (harg14 : arg14.IsWhole) (arg15 : Memref sig .tc .vmem S1x1x256x256 .bf16) (harg15 : arg15.IsWhole) (arg16 : Memref sig .tc .vmem S1x1x256x128 .bf16) (harg16 : arg16.IsWhole) (arg17 : Memref sig .tc .vmem S1x2x1x80x256 .bf16) (harg17 : arg17.IsWhole) (arg18 : Memref sig .tc .vmem S1x2x1x80x256 .bf16) (harg18 : arg18.IsWhole) (arg19 : Memref sig .tc .vmem S1x1x256x1024 .bf16) (harg19 : arg19.IsWhole) (arg20 : Memref sig .tc .vmem S1x8x1x80x256 .bf16) (harg20 : arg20.IsWhole) (arg21 : Memref sig .tc .vmem S1x8x512 .f32) (harg21 : arg21.IsWhole) (arg22 : Memref sig .tc .vmem S256x2048 .bf16) (harg22 : arg22.IsWhole) (arg23 : Memref sig .tc .vmem S256x1024 .bf16) (harg23 : arg23.IsWhole)
    (x0 : Vec F S256x1024 .f32) (x1 : Vec F S1x1024 .f32) (x2 : Vec F S1024x3072 .bf16) (x3 : Vec F S1824x1024 .bf16) (x4 : Vec F S256x128 .f32) (x5 : Vec F S256x128 .f32) (x6 : Vec F S256x128 .f32) (x7 : Vec F S8x256 .f32) (x8 : Vec F S8x256 .f32) : Vec F S1x2x16x256 .f32 :=
  VO0_11.read (Elt F) (VO0_11.writes (Elt F) VO0_11.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x0 x1 x2 x3 x4 x5 x6 x7 x8).2.2.1)

/-- The run's pieces for output 12 tile its block (1 store of `S256x128`, checked by the kernel's evaluation: Lib/Ring.lean `Piece.tiledL`, linear in the pieces, through a loop's `@[irreducible]` trip theorem too), so they cover it. -/
theorem cover0_A_12 (c : Dev nD) (i : grid0.Coords) (arg1 : Memref sig .tc .vmem S256x1024 .f32) (harg1 : arg1.IsWhole) (arg2 : Memref sig .tc .vmem S1x1024 .f32) (harg2 : arg2.IsWhole) (arg3 : Memref sig .tc .vmem S1024x3072 .bf16) (harg3 : arg3.IsWhole) (arg4 : Memref sig .tc .vmem S1824x1024 .bf16) (harg4 : arg4.IsWhole) (arg5 : Memref sig .tc .vmem S256x128 .f32) (harg5 : arg5.IsWhole) (arg6 : Memref sig .tc .vmem S256x128 .f32) (harg6 : arg6.IsWhole) (arg7 : Memref sig .tc .vmem S256x128 .f32) (harg7 : arg7.IsWhole) (arg8 : Memref sig .tc .vmem S8x256 .f32) (harg8 : arg8.IsWhole) (arg9 : Memref sig .tc .vmem S8x256 .f32) (harg9 : arg9.IsWhole) (arg10 : Memref sig .tc .vmem S1x1024x256 .bf16) (harg10 : arg10.IsWhole) (arg11 : Memref sig .tc .vmem S1x1024x256 .bf16) (harg11 : arg11.IsWhole) (arg12 : Memref sig .tc .vmem S1x2x16x256 .f32) (harg12 : arg12.IsWhole) (arg13 : Memref sig .tc .vmem S256x128 .f32) (harg13 : arg13.IsWhole) (arg14 : Memref sig .tc .vmem S256x128 .f32) (harg14 : arg14.IsWhole) (arg15 : Memref sig .tc .vmem S1x1x256x256 .bf16) (harg15 : arg15.IsWhole) (arg16 : Memref sig .tc .vmem S1x1x256x128 .bf16) (harg16 : arg16.IsWhole) (arg17 : Memref sig .tc .vmem S1x2x1x80x256 .bf16) (harg17 : arg17.IsWhole) (arg18 : Memref sig .tc .vmem S1x2x1x80x256 .bf16) (harg18 : arg18.IsWhole) (arg19 : Memref sig .tc .vmem S1x1x256x1024 .bf16) (harg19 : arg19.IsWhole) (arg20 : Memref sig .tc .vmem S1x8x1x80x256 .bf16) (harg20 : arg20.IsWhole) (arg21 : Memref sig .tc .vmem S1x8x512 .f32) (harg21 : arg21.IsWhole) (arg22 : Memref sig .tc .vmem S256x2048 .bf16) (harg22 : arg22.IsWhole) (arg23 : Memref sig .tc .vmem S256x1024 .bf16) (harg23 : arg23.IsWhole)
    (x0 : Vec F S256x1024 .f32) (x1 : Vec F S1x1024 .f32) (x2 : Vec F S1024x3072 .bf16) (x3 : Vec F S1824x1024 .bf16) (x4 : Vec F S256x128 .f32) (x5 : Vec F S256x128 .f32) (x6 : Vec F S256x128 .f32) (x7 : Vec F S8x256 .f32) (x8 : Vec F S8x256 .f32) (y : S256x128.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x0 x1 x2 x3 x4 x5 x6 x7 x8).2.2.2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x0 x1 x2 x3 x4 x5 x6 x7 x8).2.2.2.1 S256x128.size (by sl_kernel_rfl) y

/-- What the run leaves in output 12's staging buffer: its pieces read back over junk. -/
def out0_A_12 (c : Dev nD) (i : grid0.Coords) (arg1 : Memref sig .tc .vmem S256x1024 .f32) (harg1 : arg1.IsWhole) (arg2 : Memref sig .tc .vmem S1x1024 .f32) (harg2 : arg2.IsWhole) (arg3 : Memref sig .tc .vmem S1024x3072 .bf16) (harg3 : arg3.IsWhole) (arg4 : Memref sig .tc .vmem S1824x1024 .bf16) (harg4 : arg4.IsWhole) (arg5 : Memref sig .tc .vmem S256x128 .f32) (harg5 : arg5.IsWhole) (arg6 : Memref sig .tc .vmem S256x128 .f32) (harg6 : arg6.IsWhole) (arg7 : Memref sig .tc .vmem S256x128 .f32) (harg7 : arg7.IsWhole) (arg8 : Memref sig .tc .vmem S8x256 .f32) (harg8 : arg8.IsWhole) (arg9 : Memref sig .tc .vmem S8x256 .f32) (harg9 : arg9.IsWhole) (arg10 : Memref sig .tc .vmem S1x1024x256 .bf16) (harg10 : arg10.IsWhole) (arg11 : Memref sig .tc .vmem S1x1024x256 .bf16) (harg11 : arg11.IsWhole) (arg12 : Memref sig .tc .vmem S1x2x16x256 .f32) (harg12 : arg12.IsWhole) (arg13 : Memref sig .tc .vmem S256x128 .f32) (harg13 : arg13.IsWhole) (arg14 : Memref sig .tc .vmem S256x128 .f32) (harg14 : arg14.IsWhole) (arg15 : Memref sig .tc .vmem S1x1x256x256 .bf16) (harg15 : arg15.IsWhole) (arg16 : Memref sig .tc .vmem S1x1x256x128 .bf16) (harg16 : arg16.IsWhole) (arg17 : Memref sig .tc .vmem S1x2x1x80x256 .bf16) (harg17 : arg17.IsWhole) (arg18 : Memref sig .tc .vmem S1x2x1x80x256 .bf16) (harg18 : arg18.IsWhole) (arg19 : Memref sig .tc .vmem S1x1x256x1024 .bf16) (harg19 : arg19.IsWhole) (arg20 : Memref sig .tc .vmem S1x8x1x80x256 .bf16) (harg20 : arg20.IsWhole) (arg21 : Memref sig .tc .vmem S1x8x512 .f32) (harg21 : arg21.IsWhole) (arg22 : Memref sig .tc .vmem S256x2048 .bf16) (harg22 : arg22.IsWhole) (arg23 : Memref sig .tc .vmem S256x1024 .bf16) (harg23 : arg23.IsWhole)
    (x0 : Vec F S256x1024 .f32) (x1 : Vec F S1x1024 .f32) (x2 : Vec F S1024x3072 .bf16) (x3 : Vec F S1824x1024 .bf16) (x4 : Vec F S256x128 .f32) (x5 : Vec F S256x128 .f32) (x6 : Vec F S256x128 .f32) (x7 : Vec F S8x256 .f32) (x8 : Vec F S8x256 .f32) : Vec F S256x128 .f32 :=
  VO0_12.read (Elt F) (VO0_12.writes (Elt F) VO0_12.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x0 x1 x2 x3 x4 x5 x6 x7 x8).2.2.2.1)

/-- The run's pieces for output 13 tile its block (1 store of `S256x128`, checked by the kernel's evaluation: Lib/Ring.lean `Piece.tiledL`, linear in the pieces, through a loop's `@[irreducible]` trip theorem too), so they cover it. -/
theorem cover0_A_13 (c : Dev nD) (i : grid0.Coords) (arg1 : Memref sig .tc .vmem S256x1024 .f32) (harg1 : arg1.IsWhole) (arg2 : Memref sig .tc .vmem S1x1024 .f32) (harg2 : arg2.IsWhole) (arg3 : Memref sig .tc .vmem S1024x3072 .bf16) (harg3 : arg3.IsWhole) (arg4 : Memref sig .tc .vmem S1824x1024 .bf16) (harg4 : arg4.IsWhole) (arg5 : Memref sig .tc .vmem S256x128 .f32) (harg5 : arg5.IsWhole) (arg6 : Memref sig .tc .vmem S256x128 .f32) (harg6 : arg6.IsWhole) (arg7 : Memref sig .tc .vmem S256x128 .f32) (harg7 : arg7.IsWhole) (arg8 : Memref sig .tc .vmem S8x256 .f32) (harg8 : arg8.IsWhole) (arg9 : Memref sig .tc .vmem S8x256 .f32) (harg9 : arg9.IsWhole) (arg10 : Memref sig .tc .vmem S1x1024x256 .bf16) (harg10 : arg10.IsWhole) (arg11 : Memref sig .tc .vmem S1x1024x256 .bf16) (harg11 : arg11.IsWhole) (arg12 : Memref sig .tc .vmem S1x2x16x256 .f32) (harg12 : arg12.IsWhole) (arg13 : Memref sig .tc .vmem S256x128 .f32) (harg13 : arg13.IsWhole) (arg14 : Memref sig .tc .vmem S256x128 .f32) (harg14 : arg14.IsWhole) (arg15 : Memref sig .tc .vmem S1x1x256x256 .bf16) (harg15 : arg15.IsWhole) (arg16 : Memref sig .tc .vmem S1x1x256x128 .bf16) (harg16 : arg16.IsWhole) (arg17 : Memref sig .tc .vmem S1x2x1x80x256 .bf16) (harg17 : arg17.IsWhole) (arg18 : Memref sig .tc .vmem S1x2x1x80x256 .bf16) (harg18 : arg18.IsWhole) (arg19 : Memref sig .tc .vmem S1x1x256x1024 .bf16) (harg19 : arg19.IsWhole) (arg20 : Memref sig .tc .vmem S1x8x1x80x256 .bf16) (harg20 : arg20.IsWhole) (arg21 : Memref sig .tc .vmem S1x8x512 .f32) (harg21 : arg21.IsWhole) (arg22 : Memref sig .tc .vmem S256x2048 .bf16) (harg22 : arg22.IsWhole) (arg23 : Memref sig .tc .vmem S256x1024 .bf16) (harg23 : arg23.IsWhole)
    (x0 : Vec F S256x1024 .f32) (x1 : Vec F S1x1024 .f32) (x2 : Vec F S1024x3072 .bf16) (x3 : Vec F S1824x1024 .bf16) (x4 : Vec F S256x128 .f32) (x5 : Vec F S256x128 .f32) (x6 : Vec F S256x128 .f32) (x7 : Vec F S8x256 .f32) (x8 : Vec F S8x256 .f32) (y : S256x128.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x0 x1 x2 x3 x4 x5 x6 x7 x8).2.2.2.2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x0 x1 x2 x3 x4 x5 x6 x7 x8).2.2.2.2.1 S256x128.size (by sl_kernel_rfl) y

/-- What the run leaves in output 13's staging buffer: its pieces read back over junk. -/
def out0_A_13 (c : Dev nD) (i : grid0.Coords) (arg1 : Memref sig .tc .vmem S256x1024 .f32) (harg1 : arg1.IsWhole) (arg2 : Memref sig .tc .vmem S1x1024 .f32) (harg2 : arg2.IsWhole) (arg3 : Memref sig .tc .vmem S1024x3072 .bf16) (harg3 : arg3.IsWhole) (arg4 : Memref sig .tc .vmem S1824x1024 .bf16) (harg4 : arg4.IsWhole) (arg5 : Memref sig .tc .vmem S256x128 .f32) (harg5 : arg5.IsWhole) (arg6 : Memref sig .tc .vmem S256x128 .f32) (harg6 : arg6.IsWhole) (arg7 : Memref sig .tc .vmem S256x128 .f32) (harg7 : arg7.IsWhole) (arg8 : Memref sig .tc .vmem S8x256 .f32) (harg8 : arg8.IsWhole) (arg9 : Memref sig .tc .vmem S8x256 .f32) (harg9 : arg9.IsWhole) (arg10 : Memref sig .tc .vmem S1x1024x256 .bf16) (harg10 : arg10.IsWhole) (arg11 : Memref sig .tc .vmem S1x1024x256 .bf16) (harg11 : arg11.IsWhole) (arg12 : Memref sig .tc .vmem S1x2x16x256 .f32) (harg12 : arg12.IsWhole) (arg13 : Memref sig .tc .vmem S256x128 .f32) (harg13 : arg13.IsWhole) (arg14 : Memref sig .tc .vmem S256x128 .f32) (harg14 : arg14.IsWhole) (arg15 : Memref sig .tc .vmem S1x1x256x256 .bf16) (harg15 : arg15.IsWhole) (arg16 : Memref sig .tc .vmem S1x1x256x128 .bf16) (harg16 : arg16.IsWhole) (arg17 : Memref sig .tc .vmem S1x2x1x80x256 .bf16) (harg17 : arg17.IsWhole) (arg18 : Memref sig .tc .vmem S1x2x1x80x256 .bf16) (harg18 : arg18.IsWhole) (arg19 : Memref sig .tc .vmem S1x1x256x1024 .bf16) (harg19 : arg19.IsWhole) (arg20 : Memref sig .tc .vmem S1x8x1x80x256 .bf16) (harg20 : arg20.IsWhole) (arg21 : Memref sig .tc .vmem S1x8x512 .f32) (harg21 : arg21.IsWhole) (arg22 : Memref sig .tc .vmem S256x2048 .bf16) (harg22 : arg22.IsWhole) (arg23 : Memref sig .tc .vmem S256x1024 .bf16) (harg23 : arg23.IsWhole)
    (x0 : Vec F S256x1024 .f32) (x1 : Vec F S1x1024 .f32) (x2 : Vec F S1024x3072 .bf16) (x3 : Vec F S1824x1024 .bf16) (x4 : Vec F S256x128 .f32) (x5 : Vec F S256x128 .f32) (x6 : Vec F S256x128 .f32) (x7 : Vec F S8x256 .f32) (x8 : Vec F S8x256 .f32) : Vec F S256x128 .f32 :=
  VO0_13.read (Elt F) (VO0_13.writes (Elt F) VO0_13.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x0 x1 x2 x3 x4 x5 x6 x7 x8).2.2.2.2.1)

/-- The run's pieces for output 14 tile its block (2 stores of `S1x1x256x128`, checked by the kernel's evaluation: Lib/Ring.lean `Piece.tiledL`, linear in the pieces, through a loop's `@[irreducible]` trip theorem too), so they cover it. -/
theorem cover0_A_14 (c : Dev nD) (i : grid0.Coords) (arg1 : Memref sig .tc .vmem S256x1024 .f32) (harg1 : arg1.IsWhole) (arg2 : Memref sig .tc .vmem S1x1024 .f32) (harg2 : arg2.IsWhole) (arg3 : Memref sig .tc .vmem S1024x3072 .bf16) (harg3 : arg3.IsWhole) (arg4 : Memref sig .tc .vmem S1824x1024 .bf16) (harg4 : arg4.IsWhole) (arg5 : Memref sig .tc .vmem S256x128 .f32) (harg5 : arg5.IsWhole) (arg6 : Memref sig .tc .vmem S256x128 .f32) (harg6 : arg6.IsWhole) (arg7 : Memref sig .tc .vmem S256x128 .f32) (harg7 : arg7.IsWhole) (arg8 : Memref sig .tc .vmem S8x256 .f32) (harg8 : arg8.IsWhole) (arg9 : Memref sig .tc .vmem S8x256 .f32) (harg9 : arg9.IsWhole) (arg10 : Memref sig .tc .vmem S1x1024x256 .bf16) (harg10 : arg10.IsWhole) (arg11 : Memref sig .tc .vmem S1x1024x256 .bf16) (harg11 : arg11.IsWhole) (arg12 : Memref sig .tc .vmem S1x2x16x256 .f32) (harg12 : arg12.IsWhole) (arg13 : Memref sig .tc .vmem S256x128 .f32) (harg13 : arg13.IsWhole) (arg14 : Memref sig .tc .vmem S256x128 .f32) (harg14 : arg14.IsWhole) (arg15 : Memref sig .tc .vmem S1x1x256x256 .bf16) (harg15 : arg15.IsWhole) (arg16 : Memref sig .tc .vmem S1x1x256x128 .bf16) (harg16 : arg16.IsWhole) (arg17 : Memref sig .tc .vmem S1x2x1x80x256 .bf16) (harg17 : arg17.IsWhole) (arg18 : Memref sig .tc .vmem S1x2x1x80x256 .bf16) (harg18 : arg18.IsWhole) (arg19 : Memref sig .tc .vmem S1x1x256x1024 .bf16) (harg19 : arg19.IsWhole) (arg20 : Memref sig .tc .vmem S1x8x1x80x256 .bf16) (harg20 : arg20.IsWhole) (arg21 : Memref sig .tc .vmem S1x8x512 .f32) (harg21 : arg21.IsWhole) (arg22 : Memref sig .tc .vmem S256x2048 .bf16) (harg22 : arg22.IsWhole) (arg23 : Memref sig .tc .vmem S256x1024 .bf16) (harg23 : arg23.IsWhole)
    (x0 : Vec F S256x1024 .f32) (x1 : Vec F S1x1024 .f32) (x2 : Vec F S1024x3072 .bf16) (x3 : Vec F S1824x1024 .bf16) (x4 : Vec F S256x128 .f32) (x5 : Vec F S256x128 .f32) (x6 : Vec F S256x128 .f32) (x7 : Vec F S8x256 .f32) (x8 : Vec F S8x256 .f32) (y : S1x1x256x256.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x0 x1 x2 x3 x4 x5 x6 x7 x8).2.2.2.2.2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x0 x1 x2 x3 x4 x5 x6 x7 x8).2.2.2.2.2.1 S1x1x256x128.size (by sl_kernel_rfl) y

/-- What the run leaves in output 14's staging buffer: its pieces read back over junk. -/
def out0_A_14 (c : Dev nD) (i : grid0.Coords) (arg1 : Memref sig .tc .vmem S256x1024 .f32) (harg1 : arg1.IsWhole) (arg2 : Memref sig .tc .vmem S1x1024 .f32) (harg2 : arg2.IsWhole) (arg3 : Memref sig .tc .vmem S1024x3072 .bf16) (harg3 : arg3.IsWhole) (arg4 : Memref sig .tc .vmem S1824x1024 .bf16) (harg4 : arg4.IsWhole) (arg5 : Memref sig .tc .vmem S256x128 .f32) (harg5 : arg5.IsWhole) (arg6 : Memref sig .tc .vmem S256x128 .f32) (harg6 : arg6.IsWhole) (arg7 : Memref sig .tc .vmem S256x128 .f32) (harg7 : arg7.IsWhole) (arg8 : Memref sig .tc .vmem S8x256 .f32) (harg8 : arg8.IsWhole) (arg9 : Memref sig .tc .vmem S8x256 .f32) (harg9 : arg9.IsWhole) (arg10 : Memref sig .tc .vmem S1x1024x256 .bf16) (harg10 : arg10.IsWhole) (arg11 : Memref sig .tc .vmem S1x1024x256 .bf16) (harg11 : arg11.IsWhole) (arg12 : Memref sig .tc .vmem S1x2x16x256 .f32) (harg12 : arg12.IsWhole) (arg13 : Memref sig .tc .vmem S256x128 .f32) (harg13 : arg13.IsWhole) (arg14 : Memref sig .tc .vmem S256x128 .f32) (harg14 : arg14.IsWhole) (arg15 : Memref sig .tc .vmem S1x1x256x256 .bf16) (harg15 : arg15.IsWhole) (arg16 : Memref sig .tc .vmem S1x1x256x128 .bf16) (harg16 : arg16.IsWhole) (arg17 : Memref sig .tc .vmem S1x2x1x80x256 .bf16) (harg17 : arg17.IsWhole) (arg18 : Memref sig .tc .vmem S1x2x1x80x256 .bf16) (harg18 : arg18.IsWhole) (arg19 : Memref sig .tc .vmem S1x1x256x1024 .bf16) (harg19 : arg19.IsWhole) (arg20 : Memref sig .tc .vmem S1x8x1x80x256 .bf16) (harg20 : arg20.IsWhole) (arg21 : Memref sig .tc .vmem S1x8x512 .f32) (harg21 : arg21.IsWhole) (arg22 : Memref sig .tc .vmem S256x2048 .bf16) (harg22 : arg22.IsWhole) (arg23 : Memref sig .tc .vmem S256x1024 .bf16) (harg23 : arg23.IsWhole)
    (x0 : Vec F S256x1024 .f32) (x1 : Vec F S1x1024 .f32) (x2 : Vec F S1024x3072 .bf16) (x3 : Vec F S1824x1024 .bf16) (x4 : Vec F S256x128 .f32) (x5 : Vec F S256x128 .f32) (x6 : Vec F S256x128 .f32) (x7 : Vec F S8x256 .f32) (x8 : Vec F S8x256 .f32) : Vec F S1x1x256x256 .bf16 :=
  VO0_14.read (Elt F) (VO0_14.writes (Elt F) VO0_14.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x0 x1 x2 x3 x4 x5 x6 x7 x8).2.2.2.2.2.1)

/-- The run's pieces for output 15 tile its block (1 store of `S1x1x256x128`, checked by the kernel's evaluation: Lib/Ring.lean `Piece.tiledL`, linear in the pieces, through a loop's `@[irreducible]` trip theorem too), so they cover it. -/
theorem cover0_A_15 (c : Dev nD) (i : grid0.Coords) (arg1 : Memref sig .tc .vmem S256x1024 .f32) (harg1 : arg1.IsWhole) (arg2 : Memref sig .tc .vmem S1x1024 .f32) (harg2 : arg2.IsWhole) (arg3 : Memref sig .tc .vmem S1024x3072 .bf16) (harg3 : arg3.IsWhole) (arg4 : Memref sig .tc .vmem S1824x1024 .bf16) (harg4 : arg4.IsWhole) (arg5 : Memref sig .tc .vmem S256x128 .f32) (harg5 : arg5.IsWhole) (arg6 : Memref sig .tc .vmem S256x128 .f32) (harg6 : arg6.IsWhole) (arg7 : Memref sig .tc .vmem S256x128 .f32) (harg7 : arg7.IsWhole) (arg8 : Memref sig .tc .vmem S8x256 .f32) (harg8 : arg8.IsWhole) (arg9 : Memref sig .tc .vmem S8x256 .f32) (harg9 : arg9.IsWhole) (arg10 : Memref sig .tc .vmem S1x1024x256 .bf16) (harg10 : arg10.IsWhole) (arg11 : Memref sig .tc .vmem S1x1024x256 .bf16) (harg11 : arg11.IsWhole) (arg12 : Memref sig .tc .vmem S1x2x16x256 .f32) (harg12 : arg12.IsWhole) (arg13 : Memref sig .tc .vmem S256x128 .f32) (harg13 : arg13.IsWhole) (arg14 : Memref sig .tc .vmem S256x128 .f32) (harg14 : arg14.IsWhole) (arg15 : Memref sig .tc .vmem S1x1x256x256 .bf16) (harg15 : arg15.IsWhole) (arg16 : Memref sig .tc .vmem S1x1x256x128 .bf16) (harg16 : arg16.IsWhole) (arg17 : Memref sig .tc .vmem S1x2x1x80x256 .bf16) (harg17 : arg17.IsWhole) (arg18 : Memref sig .tc .vmem S1x2x1x80x256 .bf16) (harg18 : arg18.IsWhole) (arg19 : Memref sig .tc .vmem S1x1x256x1024 .bf16) (harg19 : arg19.IsWhole) (arg20 : Memref sig .tc .vmem S1x8x1x80x256 .bf16) (harg20 : arg20.IsWhole) (arg21 : Memref sig .tc .vmem S1x8x512 .f32) (harg21 : arg21.IsWhole) (arg22 : Memref sig .tc .vmem S256x2048 .bf16) (harg22 : arg22.IsWhole) (arg23 : Memref sig .tc .vmem S256x1024 .bf16) (harg23 : arg23.IsWhole)
    (x0 : Vec F S256x1024 .f32) (x1 : Vec F S1x1024 .f32) (x2 : Vec F S1024x3072 .bf16) (x3 : Vec F S1824x1024 .bf16) (x4 : Vec F S256x128 .f32) (x5 : Vec F S256x128 .f32) (x6 : Vec F S256x128 .f32) (x7 : Vec F S8x256 .f32) (x8 : Vec F S8x256 .f32) (y : S1x1x256x128.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x0 x1 x2 x3 x4 x5 x6 x7 x8).2.2.2.2.2.2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x0 x1 x2 x3 x4 x5 x6 x7 x8).2.2.2.2.2.2.1 S1x1x256x128.size (by sl_kernel_rfl) y

/-- What the run leaves in output 15's staging buffer: its pieces read back over junk. -/
def out0_A_15 (c : Dev nD) (i : grid0.Coords) (arg1 : Memref sig .tc .vmem S256x1024 .f32) (harg1 : arg1.IsWhole) (arg2 : Memref sig .tc .vmem S1x1024 .f32) (harg2 : arg2.IsWhole) (arg3 : Memref sig .tc .vmem S1024x3072 .bf16) (harg3 : arg3.IsWhole) (arg4 : Memref sig .tc .vmem S1824x1024 .bf16) (harg4 : arg4.IsWhole) (arg5 : Memref sig .tc .vmem S256x128 .f32) (harg5 : arg5.IsWhole) (arg6 : Memref sig .tc .vmem S256x128 .f32) (harg6 : arg6.IsWhole) (arg7 : Memref sig .tc .vmem S256x128 .f32) (harg7 : arg7.IsWhole) (arg8 : Memref sig .tc .vmem S8x256 .f32) (harg8 : arg8.IsWhole) (arg9 : Memref sig .tc .vmem S8x256 .f32) (harg9 : arg9.IsWhole) (arg10 : Memref sig .tc .vmem S1x1024x256 .bf16) (harg10 : arg10.IsWhole) (arg11 : Memref sig .tc .vmem S1x1024x256 .bf16) (harg11 : arg11.IsWhole) (arg12 : Memref sig .tc .vmem S1x2x16x256 .f32) (harg12 : arg12.IsWhole) (arg13 : Memref sig .tc .vmem S256x128 .f32) (harg13 : arg13.IsWhole) (arg14 : Memref sig .tc .vmem S256x128 .f32) (harg14 : arg14.IsWhole) (arg15 : Memref sig .tc .vmem S1x1x256x256 .bf16) (harg15 : arg15.IsWhole) (arg16 : Memref sig .tc .vmem S1x1x256x128 .bf16) (harg16 : arg16.IsWhole) (arg17 : Memref sig .tc .vmem S1x2x1x80x256 .bf16) (harg17 : arg17.IsWhole) (arg18 : Memref sig .tc .vmem S1x2x1x80x256 .bf16) (harg18 : arg18.IsWhole) (arg19 : Memref sig .tc .vmem S1x1x256x1024 .bf16) (harg19 : arg19.IsWhole) (arg20 : Memref sig .tc .vmem S1x8x1x80x256 .bf16) (harg20 : arg20.IsWhole) (arg21 : Memref sig .tc .vmem S1x8x512 .f32) (harg21 : arg21.IsWhole) (arg22 : Memref sig .tc .vmem S256x2048 .bf16) (harg22 : arg22.IsWhole) (arg23 : Memref sig .tc .vmem S256x1024 .bf16) (harg23 : arg23.IsWhole)
    (x0 : Vec F S256x1024 .f32) (x1 : Vec F S1x1024 .f32) (x2 : Vec F S1024x3072 .bf16) (x3 : Vec F S1824x1024 .bf16) (x4 : Vec F S256x128 .f32) (x5 : Vec F S256x128 .f32) (x6 : Vec F S256x128 .f32) (x7 : Vec F S8x256 .f32) (x8 : Vec F S8x256 .f32) : Vec F S1x1x256x128 .bf16 :=
  VO0_15.read (Elt F) (VO0_15.writes (Elt F) VO0_15.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x0 x1 x2 x3 x4 x5 x6 x7 x8).2.2.2.2.2.2.1)

/-- The run's pieces for output 16 are of SEVERAL sizes (4 stores of `S1x1x1x16x256`, `S1x1x1x64x256`): cut into blocks of `![1, 1, 1, 16, 256]` they tile its block (checked by the kernel's evaluation: Lib/Ring.lean `Piece.tiledBy`), so they cover it. -/
theorem cover0_A_16 (c : Dev nD) (i : grid0.Coords) (arg1 : Memref sig .tc .vmem S256x1024 .f32) (harg1 : arg1.IsWhole) (arg2 : Memref sig .tc .vmem S1x1024 .f32) (harg2 : arg2.IsWhole) (arg3 : Memref sig .tc .vmem S1024x3072 .bf16) (harg3 : arg3.IsWhole) (arg4 : Memref sig .tc .vmem S1824x1024 .bf16) (harg4 : arg4.IsWhole) (arg5 : Memref sig .tc .vmem S256x128 .f32) (harg5 : arg5.IsWhole) (arg6 : Memref sig .tc .vmem S256x128 .f32) (harg6 : arg6.IsWhole) (arg7 : Memref sig .tc .vmem S256x128 .f32) (harg7 : arg7.IsWhole) (arg8 : Memref sig .tc .vmem S8x256 .f32) (harg8 : arg8.IsWhole) (arg9 : Memref sig .tc .vmem S8x256 .f32) (harg9 : arg9.IsWhole) (arg10 : Memref sig .tc .vmem S1x1024x256 .bf16) (harg10 : arg10.IsWhole) (arg11 : Memref sig .tc .vmem S1x1024x256 .bf16) (harg11 : arg11.IsWhole) (arg12 : Memref sig .tc .vmem S1x2x16x256 .f32) (harg12 : arg12.IsWhole) (arg13 : Memref sig .tc .vmem S256x128 .f32) (harg13 : arg13.IsWhole) (arg14 : Memref sig .tc .vmem S256x128 .f32) (harg14 : arg14.IsWhole) (arg15 : Memref sig .tc .vmem S1x1x256x256 .bf16) (harg15 : arg15.IsWhole) (arg16 : Memref sig .tc .vmem S1x1x256x128 .bf16) (harg16 : arg16.IsWhole) (arg17 : Memref sig .tc .vmem S1x2x1x80x256 .bf16) (harg17 : arg17.IsWhole) (arg18 : Memref sig .tc .vmem S1x2x1x80x256 .bf16) (harg18 : arg18.IsWhole) (arg19 : Memref sig .tc .vmem S1x1x256x1024 .bf16) (harg19 : arg19.IsWhole) (arg20 : Memref sig .tc .vmem S1x8x1x80x256 .bf16) (harg20 : arg20.IsWhole) (arg21 : Memref sig .tc .vmem S1x8x512 .f32) (harg21 : arg21.IsWhole) (arg22 : Memref sig .tc .vmem S256x2048 .bf16) (harg22 : arg22.IsWhole) (arg23 : Memref sig .tc .vmem S256x1024 .bf16) (harg23 : arg23.IsWhole)
    (x0 : Vec F S256x1024 .f32) (x1 : Vec F S1x1024 .f32) (x2 : Vec F S1024x3072 .bf16) (x3 : Vec F S1824x1024 .bf16) (x4 : Vec F S256x128 .f32) (x5 : Vec F S256x128 .f32) (x6 : Vec F S256x128 .f32) (x7 : Vec F S8x256 .f32) (x8 : Vec F S8x256 .f32) (y : S1x2x1x80x256.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x0 x1 x2 x3 x4 x5 x6 x7 x8).2.2.2.2.2.2.2.1, y ∈ pc.1.set :=
  View.cover_of_tiledBy (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x0 x1 x2 x3 x4 x5 x6 x7 x8).2.2.2.2.2.2.2.1 ![1, 1, 1, 16, 256] (by sl_kernel_rfl) y

/-- What the run leaves in output 16's staging buffer: its pieces read back over junk. -/
def out0_A_16 (c : Dev nD) (i : grid0.Coords) (arg1 : Memref sig .tc .vmem S256x1024 .f32) (harg1 : arg1.IsWhole) (arg2 : Memref sig .tc .vmem S1x1024 .f32) (harg2 : arg2.IsWhole) (arg3 : Memref sig .tc .vmem S1024x3072 .bf16) (harg3 : arg3.IsWhole) (arg4 : Memref sig .tc .vmem S1824x1024 .bf16) (harg4 : arg4.IsWhole) (arg5 : Memref sig .tc .vmem S256x128 .f32) (harg5 : arg5.IsWhole) (arg6 : Memref sig .tc .vmem S256x128 .f32) (harg6 : arg6.IsWhole) (arg7 : Memref sig .tc .vmem S256x128 .f32) (harg7 : arg7.IsWhole) (arg8 : Memref sig .tc .vmem S8x256 .f32) (harg8 : arg8.IsWhole) (arg9 : Memref sig .tc .vmem S8x256 .f32) (harg9 : arg9.IsWhole) (arg10 : Memref sig .tc .vmem S1x1024x256 .bf16) (harg10 : arg10.IsWhole) (arg11 : Memref sig .tc .vmem S1x1024x256 .bf16) (harg11 : arg11.IsWhole) (arg12 : Memref sig .tc .vmem S1x2x16x256 .f32) (harg12 : arg12.IsWhole) (arg13 : Memref sig .tc .vmem S256x128 .f32) (harg13 : arg13.IsWhole) (arg14 : Memref sig .tc .vmem S256x128 .f32) (harg14 : arg14.IsWhole) (arg15 : Memref sig .tc .vmem S1x1x256x256 .bf16) (harg15 : arg15.IsWhole) (arg16 : Memref sig .tc .vmem S1x1x256x128 .bf16) (harg16 : arg16.IsWhole) (arg17 : Memref sig .tc .vmem S1x2x1x80x256 .bf16) (harg17 : arg17.IsWhole) (arg18 : Memref sig .tc .vmem S1x2x1x80x256 .bf16) (harg18 : arg18.IsWhole) (arg19 : Memref sig .tc .vmem S1x1x256x1024 .bf16) (harg19 : arg19.IsWhole) (arg20 : Memref sig .tc .vmem S1x8x1x80x256 .bf16) (harg20 : arg20.IsWhole) (arg21 : Memref sig .tc .vmem S1x8x512 .f32) (harg21 : arg21.IsWhole) (arg22 : Memref sig .tc .vmem S256x2048 .bf16) (harg22 : arg22.IsWhole) (arg23 : Memref sig .tc .vmem S256x1024 .bf16) (harg23 : arg23.IsWhole)
    (x0 : Vec F S256x1024 .f32) (x1 : Vec F S1x1024 .f32) (x2 : Vec F S1024x3072 .bf16) (x3 : Vec F S1824x1024 .bf16) (x4 : Vec F S256x128 .f32) (x5 : Vec F S256x128 .f32) (x6 : Vec F S256x128 .f32) (x7 : Vec F S8x256 .f32) (x8 : Vec F S8x256 .f32) : Vec F S1x2x1x80x256 .bf16 :=
  VO0_16.read (Elt F) (VO0_16.writes (Elt F) VO0_16.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x0 x1 x2 x3 x4 x5 x6 x7 x8).2.2.2.2.2.2.2.1)

/-- The run's pieces for output 17 are of SEVERAL sizes (4 stores of `S1x1x1x16x256`, `S1x1x1x64x256`): cut into blocks of `![1, 1, 1, 16, 256]` they tile its block (checked by the kernel's evaluation: Lib/Ring.lean `Piece.tiledBy`), so they cover it. -/
theorem cover0_A_17 (c : Dev nD) (i : grid0.Coords) (arg1 : Memref sig .tc .vmem S256x1024 .f32) (harg1 : arg1.IsWhole) (arg2 : Memref sig .tc .vmem S1x1024 .f32) (harg2 : arg2.IsWhole) (arg3 : Memref sig .tc .vmem S1024x3072 .bf16) (harg3 : arg3.IsWhole) (arg4 : Memref sig .tc .vmem S1824x1024 .bf16) (harg4 : arg4.IsWhole) (arg5 : Memref sig .tc .vmem S256x128 .f32) (harg5 : arg5.IsWhole) (arg6 : Memref sig .tc .vmem S256x128 .f32) (harg6 : arg6.IsWhole) (arg7 : Memref sig .tc .vmem S256x128 .f32) (harg7 : arg7.IsWhole) (arg8 : Memref sig .tc .vmem S8x256 .f32) (harg8 : arg8.IsWhole) (arg9 : Memref sig .tc .vmem S8x256 .f32) (harg9 : arg9.IsWhole) (arg10 : Memref sig .tc .vmem S1x1024x256 .bf16) (harg10 : arg10.IsWhole) (arg11 : Memref sig .tc .vmem S1x1024x256 .bf16) (harg11 : arg11.IsWhole) (arg12 : Memref sig .tc .vmem S1x2x16x256 .f32) (harg12 : arg12.IsWhole) (arg13 : Memref sig .tc .vmem S256x128 .f32) (harg13 : arg13.IsWhole) (arg14 : Memref sig .tc .vmem S256x128 .f32) (harg14 : arg14.IsWhole) (arg15 : Memref sig .tc .vmem S1x1x256x256 .bf16) (harg15 : arg15.IsWhole) (arg16 : Memref sig .tc .vmem S1x1x256x128 .bf16) (harg16 : arg16.IsWhole) (arg17 : Memref sig .tc .vmem S1x2x1x80x256 .bf16) (harg17 : arg17.IsWhole) (arg18 : Memref sig .tc .vmem S1x2x1x80x256 .bf16) (harg18 : arg18.IsWhole) (arg19 : Memref sig .tc .vmem S1x1x256x1024 .bf16) (harg19 : arg19.IsWhole) (arg20 : Memref sig .tc .vmem S1x8x1x80x256 .bf16) (harg20 : arg20.IsWhole) (arg21 : Memref sig .tc .vmem S1x8x512 .f32) (harg21 : arg21.IsWhole) (arg22 : Memref sig .tc .vmem S256x2048 .bf16) (harg22 : arg22.IsWhole) (arg23 : Memref sig .tc .vmem S256x1024 .bf16) (harg23 : arg23.IsWhole)
    (x0 : Vec F S256x1024 .f32) (x1 : Vec F S1x1024 .f32) (x2 : Vec F S1024x3072 .bf16) (x3 : Vec F S1824x1024 .bf16) (x4 : Vec F S256x128 .f32) (x5 : Vec F S256x128 .f32) (x6 : Vec F S256x128 .f32) (x7 : Vec F S8x256 .f32) (x8 : Vec F S8x256 .f32) (y : S1x2x1x80x256.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x0 x1 x2 x3 x4 x5 x6 x7 x8).2.2.2.2.2.2.2.2.1, y ∈ pc.1.set :=
  View.cover_of_tiledBy (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x0 x1 x2 x3 x4 x5 x6 x7 x8).2.2.2.2.2.2.2.2.1 ![1, 1, 1, 16, 256] (by sl_kernel_rfl) y

/-- What the run leaves in output 17's staging buffer: its pieces read back over junk. -/
def out0_A_17 (c : Dev nD) (i : grid0.Coords) (arg1 : Memref sig .tc .vmem S256x1024 .f32) (harg1 : arg1.IsWhole) (arg2 : Memref sig .tc .vmem S1x1024 .f32) (harg2 : arg2.IsWhole) (arg3 : Memref sig .tc .vmem S1024x3072 .bf16) (harg3 : arg3.IsWhole) (arg4 : Memref sig .tc .vmem S1824x1024 .bf16) (harg4 : arg4.IsWhole) (arg5 : Memref sig .tc .vmem S256x128 .f32) (harg5 : arg5.IsWhole) (arg6 : Memref sig .tc .vmem S256x128 .f32) (harg6 : arg6.IsWhole) (arg7 : Memref sig .tc .vmem S256x128 .f32) (harg7 : arg7.IsWhole) (arg8 : Memref sig .tc .vmem S8x256 .f32) (harg8 : arg8.IsWhole) (arg9 : Memref sig .tc .vmem S8x256 .f32) (harg9 : arg9.IsWhole) (arg10 : Memref sig .tc .vmem S1x1024x256 .bf16) (harg10 : arg10.IsWhole) (arg11 : Memref sig .tc .vmem S1x1024x256 .bf16) (harg11 : arg11.IsWhole) (arg12 : Memref sig .tc .vmem S1x2x16x256 .f32) (harg12 : arg12.IsWhole) (arg13 : Memref sig .tc .vmem S256x128 .f32) (harg13 : arg13.IsWhole) (arg14 : Memref sig .tc .vmem S256x128 .f32) (harg14 : arg14.IsWhole) (arg15 : Memref sig .tc .vmem S1x1x256x256 .bf16) (harg15 : arg15.IsWhole) (arg16 : Memref sig .tc .vmem S1x1x256x128 .bf16) (harg16 : arg16.IsWhole) (arg17 : Memref sig .tc .vmem S1x2x1x80x256 .bf16) (harg17 : arg17.IsWhole) (arg18 : Memref sig .tc .vmem S1x2x1x80x256 .bf16) (harg18 : arg18.IsWhole) (arg19 : Memref sig .tc .vmem S1x1x256x1024 .bf16) (harg19 : arg19.IsWhole) (arg20 : Memref sig .tc .vmem S1x8x1x80x256 .bf16) (harg20 : arg20.IsWhole) (arg21 : Memref sig .tc .vmem S1x8x512 .f32) (harg21 : arg21.IsWhole) (arg22 : Memref sig .tc .vmem S256x2048 .bf16) (harg22 : arg22.IsWhole) (arg23 : Memref sig .tc .vmem S256x1024 .bf16) (harg23 : arg23.IsWhole)
    (x0 : Vec F S256x1024 .f32) (x1 : Vec F S1x1024 .f32) (x2 : Vec F S1024x3072 .bf16) (x3 : Vec F S1824x1024 .bf16) (x4 : Vec F S256x128 .f32) (x5 : Vec F S256x128 .f32) (x6 : Vec F S256x128 .f32) (x7 : Vec F S8x256 .f32) (x8 : Vec F S8x256 .f32) : Vec F S1x2x1x80x256 .bf16 :=
  VO0_17.read (Elt F) (VO0_17.writes (Elt F) VO0_17.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x0 x1 x2 x3 x4 x5 x6 x7 x8).2.2.2.2.2.2.2.2.1)

/-- The run's pieces for output 18 tile its block (8 stores of `S1x1x256x128`, checked by the kernel's evaluation: Lib/Ring.lean `Piece.tiledL`, linear in the pieces, through a loop's `@[irreducible]` trip theorem too), so they cover it. -/
theorem cover0_A_18 (c : Dev nD) (i : grid0.Coords) (arg1 : Memref sig .tc .vmem S256x1024 .f32) (harg1 : arg1.IsWhole) (arg2 : Memref sig .tc .vmem S1x1024 .f32) (harg2 : arg2.IsWhole) (arg3 : Memref sig .tc .vmem S1024x3072 .bf16) (harg3 : arg3.IsWhole) (arg4 : Memref sig .tc .vmem S1824x1024 .bf16) (harg4 : arg4.IsWhole) (arg5 : Memref sig .tc .vmem S256x128 .f32) (harg5 : arg5.IsWhole) (arg6 : Memref sig .tc .vmem S256x128 .f32) (harg6 : arg6.IsWhole) (arg7 : Memref sig .tc .vmem S256x128 .f32) (harg7 : arg7.IsWhole) (arg8 : Memref sig .tc .vmem S8x256 .f32) (harg8 : arg8.IsWhole) (arg9 : Memref sig .tc .vmem S8x256 .f32) (harg9 : arg9.IsWhole) (arg10 : Memref sig .tc .vmem S1x1024x256 .bf16) (harg10 : arg10.IsWhole) (arg11 : Memref sig .tc .vmem S1x1024x256 .bf16) (harg11 : arg11.IsWhole) (arg12 : Memref sig .tc .vmem S1x2x16x256 .f32) (harg12 : arg12.IsWhole) (arg13 : Memref sig .tc .vmem S256x128 .f32) (harg13 : arg13.IsWhole) (arg14 : Memref sig .tc .vmem S256x128 .f32) (harg14 : arg14.IsWhole) (arg15 : Memref sig .tc .vmem S1x1x256x256 .bf16) (harg15 : arg15.IsWhole) (arg16 : Memref sig .tc .vmem S1x1x256x128 .bf16) (harg16 : arg16.IsWhole) (arg17 : Memref sig .tc .vmem S1x2x1x80x256 .bf16) (harg17 : arg17.IsWhole) (arg18 : Memref sig .tc .vmem S1x2x1x80x256 .bf16) (harg18 : arg18.IsWhole) (arg19 : Memref sig .tc .vmem S1x1x256x1024 .bf16) (harg19 : arg19.IsWhole) (arg20 : Memref sig .tc .vmem S1x8x1x80x256 .bf16) (harg20 : arg20.IsWhole) (arg21 : Memref sig .tc .vmem S1x8x512 .f32) (harg21 : arg21.IsWhole) (arg22 : Memref sig .tc .vmem S256x2048 .bf16) (harg22 : arg22.IsWhole) (arg23 : Memref sig .tc .vmem S256x1024 .bf16) (harg23 : arg23.IsWhole)
    (x0 : Vec F S256x1024 .f32) (x1 : Vec F S1x1024 .f32) (x2 : Vec F S1024x3072 .bf16) (x3 : Vec F S1824x1024 .bf16) (x4 : Vec F S256x128 .f32) (x5 : Vec F S256x128 .f32) (x6 : Vec F S256x128 .f32) (x7 : Vec F S8x256 .f32) (x8 : Vec F S8x256 .f32) (y : S1x1x256x1024.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x0 x1 x2 x3 x4 x5 x6 x7 x8).2.2.2.2.2.2.2.2.2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x0 x1 x2 x3 x4 x5 x6 x7 x8).2.2.2.2.2.2.2.2.2.1 S1x1x256x128.size (by sl_kernel_rfl) y

/-- What the run leaves in output 18's staging buffer: its pieces read back over junk. -/
def out0_A_18 (c : Dev nD) (i : grid0.Coords) (arg1 : Memref sig .tc .vmem S256x1024 .f32) (harg1 : arg1.IsWhole) (arg2 : Memref sig .tc .vmem S1x1024 .f32) (harg2 : arg2.IsWhole) (arg3 : Memref sig .tc .vmem S1024x3072 .bf16) (harg3 : arg3.IsWhole) (arg4 : Memref sig .tc .vmem S1824x1024 .bf16) (harg4 : arg4.IsWhole) (arg5 : Memref sig .tc .vmem S256x128 .f32) (harg5 : arg5.IsWhole) (arg6 : Memref sig .tc .vmem S256x128 .f32) (harg6 : arg6.IsWhole) (arg7 : Memref sig .tc .vmem S256x128 .f32) (harg7 : arg7.IsWhole) (arg8 : Memref sig .tc .vmem S8x256 .f32) (harg8 : arg8.IsWhole) (arg9 : Memref sig .tc .vmem S8x256 .f32) (harg9 : arg9.IsWhole) (arg10 : Memref sig .tc .vmem S1x1024x256 .bf16) (harg10 : arg10.IsWhole) (arg11 : Memref sig .tc .vmem S1x1024x256 .bf16) (harg11 : arg11.IsWhole) (arg12 : Memref sig .tc .vmem S1x2x16x256 .f32) (harg12 : arg12.IsWhole) (arg13 : Memref sig .tc .vmem S256x128 .f32) (harg13 : arg13.IsWhole) (arg14 : Memref sig .tc .vmem S256x128 .f32) (harg14 : arg14.IsWhole) (arg15 : Memref sig .tc .vmem S1x1x256x256 .bf16) (harg15 : arg15.IsWhole) (arg16 : Memref sig .tc .vmem S1x1x256x128 .bf16) (harg16 : arg16.IsWhole) (arg17 : Memref sig .tc .vmem S1x2x1x80x256 .bf16) (harg17 : arg17.IsWhole) (arg18 : Memref sig .tc .vmem S1x2x1x80x256 .bf16) (harg18 : arg18.IsWhole) (arg19 : Memref sig .tc .vmem S1x1x256x1024 .bf16) (harg19 : arg19.IsWhole) (arg20 : Memref sig .tc .vmem S1x8x1x80x256 .bf16) (harg20 : arg20.IsWhole) (arg21 : Memref sig .tc .vmem S1x8x512 .f32) (harg21 : arg21.IsWhole) (arg22 : Memref sig .tc .vmem S256x2048 .bf16) (harg22 : arg22.IsWhole) (arg23 : Memref sig .tc .vmem S256x1024 .bf16) (harg23 : arg23.IsWhole)
    (x0 : Vec F S256x1024 .f32) (x1 : Vec F S1x1024 .f32) (x2 : Vec F S1024x3072 .bf16) (x3 : Vec F S1824x1024 .bf16) (x4 : Vec F S256x128 .f32) (x5 : Vec F S256x128 .f32) (x6 : Vec F S256x128 .f32) (x7 : Vec F S8x256 .f32) (x8 : Vec F S8x256 .f32) : Vec F S1x1x256x1024 .bf16 :=
  VO0_18.read (Elt F) (VO0_18.writes (Elt F) VO0_18.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x0 x1 x2 x3 x4 x5 x6 x7 x8).2.2.2.2.2.2.2.2.2.1)

/-- The run's pieces for output 19 are of SEVERAL sizes (16 stores of `S1x1x1x16x256`, `S1x1x1x64x256`): cut into blocks of `![1, 1, 1, 16, 256]` they tile its block (checked by the kernel's evaluation: Lib/Ring.lean `Piece.tiledBy`), so they cover it. -/
theorem cover0_A_19 (c : Dev nD) (i : grid0.Coords) (arg1 : Memref sig .tc .vmem S256x1024 .f32) (harg1 : arg1.IsWhole) (arg2 : Memref sig .tc .vmem S1x1024 .f32) (harg2 : arg2.IsWhole) (arg3 : Memref sig .tc .vmem S1024x3072 .bf16) (harg3 : arg3.IsWhole) (arg4 : Memref sig .tc .vmem S1824x1024 .bf16) (harg4 : arg4.IsWhole) (arg5 : Memref sig .tc .vmem S256x128 .f32) (harg5 : arg5.IsWhole) (arg6 : Memref sig .tc .vmem S256x128 .f32) (harg6 : arg6.IsWhole) (arg7 : Memref sig .tc .vmem S256x128 .f32) (harg7 : arg7.IsWhole) (arg8 : Memref sig .tc .vmem S8x256 .f32) (harg8 : arg8.IsWhole) (arg9 : Memref sig .tc .vmem S8x256 .f32) (harg9 : arg9.IsWhole) (arg10 : Memref sig .tc .vmem S1x1024x256 .bf16) (harg10 : arg10.IsWhole) (arg11 : Memref sig .tc .vmem S1x1024x256 .bf16) (harg11 : arg11.IsWhole) (arg12 : Memref sig .tc .vmem S1x2x16x256 .f32) (harg12 : arg12.IsWhole) (arg13 : Memref sig .tc .vmem S256x128 .f32) (harg13 : arg13.IsWhole) (arg14 : Memref sig .tc .vmem S256x128 .f32) (harg14 : arg14.IsWhole) (arg15 : Memref sig .tc .vmem S1x1x256x256 .bf16) (harg15 : arg15.IsWhole) (arg16 : Memref sig .tc .vmem S1x1x256x128 .bf16) (harg16 : arg16.IsWhole) (arg17 : Memref sig .tc .vmem S1x2x1x80x256 .bf16) (harg17 : arg17.IsWhole) (arg18 : Memref sig .tc .vmem S1x2x1x80x256 .bf16) (harg18 : arg18.IsWhole) (arg19 : Memref sig .tc .vmem S1x1x256x1024 .bf16) (harg19 : arg19.IsWhole) (arg20 : Memref sig .tc .vmem S1x8x1x80x256 .bf16) (harg20 : arg20.IsWhole) (arg21 : Memref sig .tc .vmem S1x8x512 .f32) (harg21 : arg21.IsWhole) (arg22 : Memref sig .tc .vmem S256x2048 .bf16) (harg22 : arg22.IsWhole) (arg23 : Memref sig .tc .vmem S256x1024 .bf16) (harg23 : arg23.IsWhole)
    (x0 : Vec F S256x1024 .f32) (x1 : Vec F S1x1024 .f32) (x2 : Vec F S1024x3072 .bf16) (x3 : Vec F S1824x1024 .bf16) (x4 : Vec F S256x128 .f32) (x5 : Vec F S256x128 .f32) (x6 : Vec F S256x128 .f32) (x7 : Vec F S8x256 .f32) (x8 : Vec F S8x256 .f32) (y : S1x8x1x80x256.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x0 x1 x2 x3 x4 x5 x6 x7 x8).2.2.2.2.2.2.2.2.2.2.1, y ∈ pc.1.set :=
  View.cover_of_tiledBy (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x0 x1 x2 x3 x4 x5 x6 x7 x8).2.2.2.2.2.2.2.2.2.2.1 ![1, 1, 1, 16, 256] (by sl_kernel_rfl) y

/-- What the run leaves in output 19's staging buffer: its pieces read back over junk. -/
def out0_A_19 (c : Dev nD) (i : grid0.Coords) (arg1 : Memref sig .tc .vmem S256x1024 .f32) (harg1 : arg1.IsWhole) (arg2 : Memref sig .tc .vmem S1x1024 .f32) (harg2 : arg2.IsWhole) (arg3 : Memref sig .tc .vmem S1024x3072 .bf16) (harg3 : arg3.IsWhole) (arg4 : Memref sig .tc .vmem S1824x1024 .bf16) (harg4 : arg4.IsWhole) (arg5 : Memref sig .tc .vmem S256x128 .f32) (harg5 : arg5.IsWhole) (arg6 : Memref sig .tc .vmem S256x128 .f32) (harg6 : arg6.IsWhole) (arg7 : Memref sig .tc .vmem S256x128 .f32) (harg7 : arg7.IsWhole) (arg8 : Memref sig .tc .vmem S8x256 .f32) (harg8 : arg8.IsWhole) (arg9 : Memref sig .tc .vmem S8x256 .f32) (harg9 : arg9.IsWhole) (arg10 : Memref sig .tc .vmem S1x1024x256 .bf16) (harg10 : arg10.IsWhole) (arg11 : Memref sig .tc .vmem S1x1024x256 .bf16) (harg11 : arg11.IsWhole) (arg12 : Memref sig .tc .vmem S1x2x16x256 .f32) (harg12 : arg12.IsWhole) (arg13 : Memref sig .tc .vmem S256x128 .f32) (harg13 : arg13.IsWhole) (arg14 : Memref sig .tc .vmem S256x128 .f32) (harg14 : arg14.IsWhole) (arg15 : Memref sig .tc .vmem S1x1x256x256 .bf16) (harg15 : arg15.IsWhole) (arg16 : Memref sig .tc .vmem S1x1x256x128 .bf16) (harg16 : arg16.IsWhole) (arg17 : Memref sig .tc .vmem S1x2x1x80x256 .bf16) (harg17 : arg17.IsWhole) (arg18 : Memref sig .tc .vmem S1x2x1x80x256 .bf16) (harg18 : arg18.IsWhole) (arg19 : Memref sig .tc .vmem S1x1x256x1024 .bf16) (harg19 : arg19.IsWhole) (arg20 : Memref sig .tc .vmem S1x8x1x80x256 .bf16) (harg20 : arg20.IsWhole) (arg21 : Memref sig .tc .vmem S1x8x512 .f32) (harg21 : arg21.IsWhole) (arg22 : Memref sig .tc .vmem S256x2048 .bf16) (harg22 : arg22.IsWhole) (arg23 : Memref sig .tc .vmem S256x1024 .bf16) (harg23 : arg23.IsWhole)
    (x0 : Vec F S256x1024 .f32) (x1 : Vec F S1x1024 .f32) (x2 : Vec F S1024x3072 .bf16) (x3 : Vec F S1824x1024 .bf16) (x4 : Vec F S256x128 .f32) (x5 : Vec F S256x128 .f32) (x6 : Vec F S256x128 .f32) (x7 : Vec F S8x256 .f32) (x8 : Vec F S8x256 .f32) : Vec F S1x8x1x80x256 .bf16 :=
  VO0_19.read (Elt F) (VO0_19.writes (Elt F) VO0_19.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x0 x1 x2 x3 x4 x5 x6 x7 x8).2.2.2.2.2.2.2.2.2.2.1)

/-- The run's pieces for output 20 tile its block (1 store of `S1x8x512`, checked by the kernel's evaluation: Lib/Ring.lean `Piece.tiledL`, linear in the pieces, through a loop's `@[irreducible]` trip theorem too), so they cover it. -/
theorem cover0_A_20 (c : Dev nD) (i : grid0.Coords) (arg1 : Memref sig .tc .vmem S256x1024 .f32) (harg1 : arg1.IsWhole) (arg2 : Memref sig .tc .vmem S1x1024 .f32) (harg2 : arg2.IsWhole) (arg3 : Memref sig .tc .vmem S1024x3072 .bf16) (harg3 : arg3.IsWhole) (arg4 : Memref sig .tc .vmem S1824x1024 .bf16) (harg4 : arg4.IsWhole) (arg5 : Memref sig .tc .vmem S256x128 .f32) (harg5 : arg5.IsWhole) (arg6 : Memref sig .tc .vmem S256x128 .f32) (harg6 : arg6.IsWhole) (arg7 : Memref sig .tc .vmem S256x128 .f32) (harg7 : arg7.IsWhole) (arg8 : Memref sig .tc .vmem S8x256 .f32) (harg8 : arg8.IsWhole) (arg9 : Memref sig .tc .vmem S8x256 .f32) (harg9 : arg9.IsWhole) (arg10 : Memref sig .tc .vmem S1x1024x256 .bf16) (harg10 : arg10.IsWhole) (arg11 : Memref sig .tc .vmem S1x1024x256 .bf16) (harg11 : arg11.IsWhole) (arg12 : Memref sig .tc .vmem S1x2x16x256 .f32) (harg12 : arg12.IsWhole) (arg13 : Memref sig .tc .vmem S256x128 .f32) (harg13 : arg13.IsWhole) (arg14 : Memref sig .tc .vmem S256x128 .f32) (harg14 : arg14.IsWhole) (arg15 : Memref sig .tc .vmem S1x1x256x256 .bf16) (harg15 : arg15.IsWhole) (arg16 : Memref sig .tc .vmem S1x1x256x128 .bf16) (harg16 : arg16.IsWhole) (arg17 : Memref sig .tc .vmem S1x2x1x80x256 .bf16) (harg17 : arg17.IsWhole) (arg18 : Memref sig .tc .vmem S1x2x1x80x256 .bf16) (harg18 : arg18.IsWhole) (arg19 : Memref sig .tc .vmem S1x1x256x1024 .bf16) (harg19 : arg19.IsWhole) (arg20 : Memref sig .tc .vmem S1x8x1x80x256 .bf16) (harg20 : arg20.IsWhole) (arg21 : Memref sig .tc .vmem S1x8x512 .f32) (harg21 : arg21.IsWhole) (arg22 : Memref sig .tc .vmem S256x2048 .bf16) (harg22 : arg22.IsWhole) (arg23 : Memref sig .tc .vmem S256x1024 .bf16) (harg23 : arg23.IsWhole)
    (x0 : Vec F S256x1024 .f32) (x1 : Vec F S1x1024 .f32) (x2 : Vec F S1024x3072 .bf16) (x3 : Vec F S1824x1024 .bf16) (x4 : Vec F S256x128 .f32) (x5 : Vec F S256x128 .f32) (x6 : Vec F S256x128 .f32) (x7 : Vec F S8x256 .f32) (x8 : Vec F S8x256 .f32) (y : S1x8x512.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x0 x1 x2 x3 x4 x5 x6 x7 x8).2.2.2.2.2.2.2.2.2.2.2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x0 x1 x2 x3 x4 x5 x6 x7 x8).2.2.2.2.2.2.2.2.2.2.2.1 S1x8x512.size (by sl_kernel_rfl) y

/-- What the run leaves in output 20's staging buffer: its pieces read back over junk. -/
def out0_A_20 (c : Dev nD) (i : grid0.Coords) (arg1 : Memref sig .tc .vmem S256x1024 .f32) (harg1 : arg1.IsWhole) (arg2 : Memref sig .tc .vmem S1x1024 .f32) (harg2 : arg2.IsWhole) (arg3 : Memref sig .tc .vmem S1024x3072 .bf16) (harg3 : arg3.IsWhole) (arg4 : Memref sig .tc .vmem S1824x1024 .bf16) (harg4 : arg4.IsWhole) (arg5 : Memref sig .tc .vmem S256x128 .f32) (harg5 : arg5.IsWhole) (arg6 : Memref sig .tc .vmem S256x128 .f32) (harg6 : arg6.IsWhole) (arg7 : Memref sig .tc .vmem S256x128 .f32) (harg7 : arg7.IsWhole) (arg8 : Memref sig .tc .vmem S8x256 .f32) (harg8 : arg8.IsWhole) (arg9 : Memref sig .tc .vmem S8x256 .f32) (harg9 : arg9.IsWhole) (arg10 : Memref sig .tc .vmem S1x1024x256 .bf16) (harg10 : arg10.IsWhole) (arg11 : Memref sig .tc .vmem S1x1024x256 .bf16) (harg11 : arg11.IsWhole) (arg12 : Memref sig .tc .vmem S1x2x16x256 .f32) (harg12 : arg12.IsWhole) (arg13 : Memref sig .tc .vmem S256x128 .f32) (harg13 : arg13.IsWhole) (arg14 : Memref sig .tc .vmem S256x128 .f32) (harg14 : arg14.IsWhole) (arg15 : Memref sig .tc .vmem S1x1x256x256 .bf16) (harg15 : arg15.IsWhole) (arg16 : Memref sig .tc .vmem S1x1x256x128 .bf16) (harg16 : arg16.IsWhole) (arg17 : Memref sig .tc .vmem S1x2x1x80x256 .bf16) (harg17 : arg17.IsWhole) (arg18 : Memref sig .tc .vmem S1x2x1x80x256 .bf16) (harg18 : arg18.IsWhole) (arg19 : Memref sig .tc .vmem S1x1x256x1024 .bf16) (harg19 : arg19.IsWhole) (arg20 : Memref sig .tc .vmem S1x8x1x80x256 .bf16) (harg20 : arg20.IsWhole) (arg21 : Memref sig .tc .vmem S1x8x512 .f32) (harg21 : arg21.IsWhole) (arg22 : Memref sig .tc .vmem S256x2048 .bf16) (harg22 : arg22.IsWhole) (arg23 : Memref sig .tc .vmem S256x1024 .bf16) (harg23 : arg23.IsWhole)
    (x0 : Vec F S256x1024 .f32) (x1 : Vec F S1x1024 .f32) (x2 : Vec F S1024x3072 .bf16) (x3 : Vec F S1824x1024 .bf16) (x4 : Vec F S256x128 .f32) (x5 : Vec F S256x128 .f32) (x6 : Vec F S256x128 .f32) (x7 : Vec F S8x256 .f32) (x8 : Vec F S8x256 .f32) : Vec F S1x8x512 .f32 :=
  VO0_20.read (Elt F) (VO0_20.writes (Elt F) VO0_20.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x0 x1 x2 x3 x4 x5 x6 x7 x8).2.2.2.2.2.2.2.2.2.2.2.1)

/-- The run's pieces for output 21 tile its block (4 stores of `S256x512`, checked by the kernel's evaluation: Lib/Ring.lean `Piece.tiledL`, linear in the pieces, through a loop's `@[irreducible]` trip theorem too), so they cover it. -/
theorem cover0_A_21 (c : Dev nD) (i : grid0.Coords) (arg1 : Memref sig .tc .vmem S256x1024 .f32) (harg1 : arg1.IsWhole) (arg2 : Memref sig .tc .vmem S1x1024 .f32) (harg2 : arg2.IsWhole) (arg3 : Memref sig .tc .vmem S1024x3072 .bf16) (harg3 : arg3.IsWhole) (arg4 : Memref sig .tc .vmem S1824x1024 .bf16) (harg4 : arg4.IsWhole) (arg5 : Memref sig .tc .vmem S256x128 .f32) (harg5 : arg5.IsWhole) (arg6 : Memref sig .tc .vmem S256x128 .f32) (harg6 : arg6.IsWhole) (arg7 : Memref sig .tc .vmem S256x128 .f32) (harg7 : arg7.IsWhole) (arg8 : Memref sig .tc .vmem S8x256 .f32) (harg8 : arg8.IsWhole) (arg9 : Memref sig .tc .vmem S8x256 .f32) (harg9 : arg9.IsWhole) (arg10 : Memref sig .tc .vmem S1x1024x256 .bf16) (harg10 : arg10.IsWhole) (arg11 : Memref sig .tc .vmem S1x1024x256 .bf16) (harg11 : arg11.IsWhole) (arg12 : Memref sig .tc .vmem S1x2x16x256 .f32) (harg12 : arg12.IsWhole) (arg13 : Memref sig .tc .vmem S256x128 .f32) (harg13 : arg13.IsWhole) (arg14 : Memref sig .tc .vmem S256x128 .f32) (harg14 : arg14.IsWhole) (arg15 : Memref sig .tc .vmem S1x1x256x256 .bf16) (harg15 : arg15.IsWhole) (arg16 : Memref sig .tc .vmem S1x1x256x128 .bf16) (harg16 : arg16.IsWhole) (arg17 : Memref sig .tc .vmem S1x2x1x80x256 .bf16) (harg17 : arg17.IsWhole) (arg18 : Memref sig .tc .vmem S1x2x1x80x256 .bf16) (harg18 : arg18.IsWhole) (arg19 : Memref sig .tc .vmem S1x1x256x1024 .bf16) (harg19 : arg19.IsWhole) (arg20 : Memref sig .tc .vmem S1x8x1x80x256 .bf16) (harg20 : arg20.IsWhole) (arg21 : Memref sig .tc .vmem S1x8x512 .f32) (harg21 : arg21.IsWhole) (arg22 : Memref sig .tc .vmem S256x2048 .bf16) (harg22 : arg22.IsWhole) (arg23 : Memref sig .tc .vmem S256x1024 .bf16) (harg23 : arg23.IsWhole)
    (x0 : Vec F S256x1024 .f32) (x1 : Vec F S1x1024 .f32) (x2 : Vec F S1024x3072 .bf16) (x3 : Vec F S1824x1024 .bf16) (x4 : Vec F S256x128 .f32) (x5 : Vec F S256x128 .f32) (x6 : Vec F S256x128 .f32) (x7 : Vec F S8x256 .f32) (x8 : Vec F S8x256 .f32) (y : S256x2048.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x0 x1 x2 x3 x4 x5 x6 x7 x8).2.2.2.2.2.2.2.2.2.2.2.2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x0 x1 x2 x3 x4 x5 x6 x7 x8).2.2.2.2.2.2.2.2.2.2.2.2.1 S256x512.size (by sl_kernel_rfl) y

/-- What the run leaves in output 21's staging buffer: its pieces read back over junk. -/
def out0_A_21 (c : Dev nD) (i : grid0.Coords) (arg1 : Memref sig .tc .vmem S256x1024 .f32) (harg1 : arg1.IsWhole) (arg2 : Memref sig .tc .vmem S1x1024 .f32) (harg2 : arg2.IsWhole) (arg3 : Memref sig .tc .vmem S1024x3072 .bf16) (harg3 : arg3.IsWhole) (arg4 : Memref sig .tc .vmem S1824x1024 .bf16) (harg4 : arg4.IsWhole) (arg5 : Memref sig .tc .vmem S256x128 .f32) (harg5 : arg5.IsWhole) (arg6 : Memref sig .tc .vmem S256x128 .f32) (harg6 : arg6.IsWhole) (arg7 : Memref sig .tc .vmem S256x128 .f32) (harg7 : arg7.IsWhole) (arg8 : Memref sig .tc .vmem S8x256 .f32) (harg8 : arg8.IsWhole) (arg9 : Memref sig .tc .vmem S8x256 .f32) (harg9 : arg9.IsWhole) (arg10 : Memref sig .tc .vmem S1x1024x256 .bf16) (harg10 : arg10.IsWhole) (arg11 : Memref sig .tc .vmem S1x1024x256 .bf16) (harg11 : arg11.IsWhole) (arg12 : Memref sig .tc .vmem S1x2x16x256 .f32) (harg12 : arg12.IsWhole) (arg13 : Memref sig .tc .vmem S256x128 .f32) (harg13 : arg13.IsWhole) (arg14 : Memref sig .tc .vmem S256x128 .f32) (harg14 : arg14.IsWhole) (arg15 : Memref sig .tc .vmem S1x1x256x256 .bf16) (harg15 : arg15.IsWhole) (arg16 : Memref sig .tc .vmem S1x1x256x128 .bf16) (harg16 : arg16.IsWhole) (arg17 : Memref sig .tc .vmem S1x2x1x80x256 .bf16) (harg17 : arg17.IsWhole) (arg18 : Memref sig .tc .vmem S1x2x1x80x256 .bf16) (harg18 : arg18.IsWhole) (arg19 : Memref sig .tc .vmem S1x1x256x1024 .bf16) (harg19 : arg19.IsWhole) (arg20 : Memref sig .tc .vmem S1x8x1x80x256 .bf16) (harg20 : arg20.IsWhole) (arg21 : Memref sig .tc .vmem S1x8x512 .f32) (harg21 : arg21.IsWhole) (arg22 : Memref sig .tc .vmem S256x2048 .bf16) (harg22 : arg22.IsWhole) (arg23 : Memref sig .tc .vmem S256x1024 .bf16) (harg23 : arg23.IsWhole)
    (x0 : Vec F S256x1024 .f32) (x1 : Vec F S1x1024 .f32) (x2 : Vec F S1024x3072 .bf16) (x3 : Vec F S1824x1024 .bf16) (x4 : Vec F S256x128 .f32) (x5 : Vec F S256x128 .f32) (x6 : Vec F S256x128 .f32) (x7 : Vec F S8x256 .f32) (x8 : Vec F S8x256 .f32) : Vec F S256x2048 .bf16 :=
  VO0_21.read (Elt F) (VO0_21.writes (Elt F) VO0_21.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x0 x1 x2 x3 x4 x5 x6 x7 x8).2.2.2.2.2.2.2.2.2.2.2.2.1)

/-! ## What the outputs hold after each point -/

/-- What the outputs' staging buffers hold after the body at point `t` (as a tuple, in window order): the run's contents at
    the point's memrefs and input blocks. -/
def outsAt0 (c : Dev nD) (t : Fin cfg0.N) : Vec F S1x1024x256 .bf16 × Vec F S1x1024x256 .bf16 × Vec F S1x2x16x256 .f32 × Vec F S256x128 .f32 × Vec F S256x128 .f32 × Vec F S1x1x256x256 .bf16 × Vec F S1x1x256x128 .bf16 × Vec F S1x2x1x80x256 .bf16 × Vec F S1x2x1x80x256 .bf16 × Vec F S1x1x256x1024 .bf16 × Vec F S1x8x1x80x256 .bf16 × Vec F S1x8x512 .f32 × Vec F S256x2048 .bf16 :=
  (out0_A_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) scM0_0 (Memref.isWhole_whole _) (iblk m c 0 t) (iblk m c 1 t) (iblk m c 2 t) (iblk m c 3 t) (iblk m c 4 t) (iblk m c 5 t) (iblk m c 6 t) (iblk m c 7 t) (iblk m c 8 t), out0_A_10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) scM0_0 (Memref.isWhole_whole _) (iblk m c 0 t) (iblk m c 1 t) (iblk m c 2 t) (iblk m c 3 t) (iblk m c 4 t) (iblk m c 5 t) (iblk m c 6 t) (iblk m c 7 t) (iblk m c 8 t), out0_A_11 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) scM0_0 (Memref.isWhole_whole _) (iblk m c 0 t) (iblk m c 1 t) (iblk m c 2 t) (iblk m c 3 t) (iblk m c 4 t) (iblk m c 5 t) (iblk m c 6 t) (iblk m c 7 t) (iblk m c 8 t), out0_A_12 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) scM0_0 (Memref.isWhole_whole _) (iblk m c 0 t) (iblk m c 1 t) (iblk m c 2 t) (iblk m c 3 t) (iblk m c 4 t) (iblk m c 5 t) (iblk m c 6 t) (iblk m c 7 t) (iblk m c 8 t), out0_A_13 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) scM0_0 (Memref.isWhole_whole _) (iblk m c 0 t) (iblk m c 1 t) (iblk m c 2 t) (iblk m c 3 t) (iblk m c 4 t) (iblk m c 5 t) (iblk m c 6 t) (iblk m c 7 t) (iblk m c 8 t), out0_A_14 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) scM0_0 (Memref.isWhole_whole _) (iblk m c 0 t) (iblk m c 1 t) (iblk m c 2 t) (iblk m c 3 t) (iblk m c 4 t) (iblk m c 5 t) (iblk m c 6 t) (iblk m c 7 t) (iblk m c 8 t), out0_A_15 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) scM0_0 (Memref.isWhole_whole _) (iblk m c 0 t) (iblk m c 1 t) (iblk m c 2 t) (iblk m c 3 t) (iblk m c 4 t) (iblk m c 5 t) (iblk m c 6 t) (iblk m c 7 t) (iblk m c 8 t), out0_A_16 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) scM0_0 (Memref.isWhole_whole _) (iblk m c 0 t) (iblk m c 1 t) (iblk m c 2 t) (iblk m c 3 t) (iblk m c 4 t) (iblk m c 5 t) (iblk m c 6 t) (iblk m c 7 t) (iblk m c 8 t), out0_A_17 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) scM0_0 (Memref.isWhole_whole _) (iblk m c 0 t) (iblk m c 1 t) (iblk m c 2 t) (iblk m c 3 t) (iblk m c 4 t) (iblk m c 5 t) (iblk m c 6 t) (iblk m c 7 t) (iblk m c 8 t), out0_A_18 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) scM0_0 (Memref.isWhole_whole _) (iblk m c 0 t) (iblk m c 1 t) (iblk m c 2 t) (iblk m c 3 t) (iblk m c 4 t) (iblk m c 5 t) (iblk m c 6 t) (iblk m c 7 t) (iblk m c 8 t), out0_A_19 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) scM0_0 (Memref.isWhole_whole _) (iblk m c 0 t) (iblk m c 1 t) (iblk m c 2 t) (iblk m c 3 t) (iblk m c 4 t) (iblk m c 5 t) (iblk m c 6 t) (iblk m c 7 t) (iblk m c 8 t), out0_A_20 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) scM0_0 (Memref.isWhole_whole _) (iblk m c 0 t) (iblk m c 1 t) (iblk m c 2 t) (iblk m c 3 t) (iblk m c 4 t) (iblk m c 5 t) (iblk m c 6 t) (iblk m c 7 t) (iblk m c 8 t), out0_A_21 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) scM0_0 (Memref.isWhole_whole _) (iblk m c 0 t) (iblk m c 1 t) (iblk m c 2 t) (iblk m c 3 t) (iblk m c 4 t) (iblk m c 5 t) (iblk m c 6 t) (iblk m c 7 t) (iblk m c 8 t))

/-! ## The pipeline's proof data -/

/-- The proof data of the one pipeline on core `c`: the arrays as the region finds them (`V`); after the body at
    point `t` each input's buffer at its block and the outputs' at `outsAt0`; the invariant the class's
    (Lib/Pipeline/Frame.lean `ΦA`: the scoped rest and the generator register); nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => (outsAt0 m c t).1
    | ⟨10, _⟩ => (outsAt0 m c t).2.1
    | ⟨11, _⟩ => (outsAt0 m c t).2.2.1
    | ⟨12, _⟩ => (outsAt0 m c t).2.2.2.1
    | ⟨13, _⟩ => (outsAt0 m c t).2.2.2.2.1
    | ⟨14, _⟩ => (outsAt0 m c t).2.2.2.2.2.1
    | ⟨15, _⟩ => (outsAt0 m c t).2.2.2.2.2.2.1
    | ⟨16, _⟩ => (outsAt0 m c t).2.2.2.2.2.2.2.1
    | ⟨17, _⟩ => (outsAt0 m c t).2.2.2.2.2.2.2.2.1
    | ⟨18, _⟩ => (outsAt0 m c t).2.2.2.2.2.2.2.2.2.1
    | ⟨19, _⟩ => (outsAt0 m c t).2.2.2.2.2.2.2.2.2.2.1
    | ⟨20, _⟩ => (outsAt0 m c t).2.2.2.2.2.2.2.2.2.2.2.1
    | ⟨21, _⟩ => (outsAt0 m c t).2.2.2.2.2.2.2.2.2.2.2.2
    | ⟨_ + 22, h⟩ => absurd h (Nat.not_lt.2 (Nat.le_add_left _ _))
  Φ _ := Pipeline.ΦA spec0 c
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = (outsAt0 m c t).1 := by dsimp only [dats]
theorem after0_10 (c : Dev nD) (t : Fin cfg0.N) : (dats m 0 c).after 10 t = (outsAt0 m c t).2.1 := by dsimp only [dats]
theorem after0_11 (c : Dev nD) (t : Fin cfg0.N) : (dats m 0 c).after 11 t = (outsAt0 m c t).2.2.1 := by dsimp only [dats]
theorem after0_12 (c : Dev nD) (t : Fin cfg0.N) : (dats m 0 c).after 12 t = (outsAt0 m c t).2.2.2.1 := by dsimp only [dats]
theorem after0_13 (c : Dev nD) (t : Fin cfg0.N) : (dats m 0 c).after 13 t = (outsAt0 m c t).2.2.2.2.1 := by dsimp only [dats]
theorem after0_14 (c : Dev nD) (t : Fin cfg0.N) : (dats m 0 c).after 14 t = (outsAt0 m c t).2.2.2.2.2.1 := by dsimp only [dats]
theorem after0_15 (c : Dev nD) (t : Fin cfg0.N) : (dats m 0 c).after 15 t = (outsAt0 m c t).2.2.2.2.2.2.1 := by dsimp only [dats]
theorem after0_16 (c : Dev nD) (t : Fin cfg0.N) : (dats m 0 c).after 16 t = (outsAt0 m c t).2.2.2.2.2.2.2.1 := by dsimp only [dats]
theorem after0_17 (c : Dev nD) (t : Fin cfg0.N) : (dats m 0 c).after 17 t = (outsAt0 m c t).2.2.2.2.2.2.2.2.1 := by dsimp only [dats]
theorem after0_18 (c : Dev nD) (t : Fin cfg0.N) : (dats m 0 c).after 18 t = (outsAt0 m c t).2.2.2.2.2.2.2.2.2.1 := by dsimp only [dats]
theorem after0_19 (c : Dev nD) (t : Fin cfg0.N) : (dats m 0 c).after 19 t = (outsAt0 m c t).2.2.2.2.2.2.2.2.2.2.1 := by dsimp only [dats]
theorem after0_20 (c : Dev nD) (t : Fin cfg0.N) : (dats m 0 c).after 20 t = (outsAt0 m c t).2.2.2.2.2.2.2.2.2.2.2.1 := by dsimp only [dats]
theorem after0_21 (c : Dev nD) (t : Fin cfg0.N) : (dats m 0 c).after 21 t = (outsAt0 m c t).2.2.2.2.2.2.2.2.2.2.2.2 := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d))
    ∗ (∃ d, owns (c : Thread nD τ) (ms0_14 t) fullShare ((dats m 0 c).before 14 t d))
    ∗ (∃ d, owns (c : Thread nD τ) (ms0_15 t) fullShare ((dats m 0 c).before 15 t d))
    ∗ (∃ d, owns (c : Thread nD τ) (ms0_16 t) fullShare ((dats m 0 c).before 16 t d))
    ∗ (∃ d, owns (c : Thread nD τ) (ms0_17 t) fullShare ((dats m 0 c).before 17 t d))
    ∗ (∃ d, owns (c : Thread nD τ) (ms0_18 t) fullShare ((dats m 0 c).before 18 t d))
    ∗ (∃ d, owns (c : Thread nD τ) (ms0_19 t) fullShare ((dats m 0 c).before 19 t d))
    ∗ (∃ d, owns (c : Thread nD τ) (ms0_20 t) fullShare ((dats m 0 c).before 20 t d))
    ∗ (∃ d, owns (c : Thread nD τ) (ms0_21 t) fullShare ((dats m 0 c).before 21 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t)
    ∗ owns (c : Thread nD τ) (ms0_11 t) fullShare ((dats m 0 c).after 11 t)
    ∗ owns (c : Thread nD τ) (ms0_12 t) fullShare ((dats m 0 c).after 12 t)
    ∗ owns (c : Thread nD τ) (ms0_13 t) fullShare ((dats m 0 c).after 13 t)
    ∗ owns (c : Thread nD τ) (ms0_14 t) fullShare ((dats m 0 c).after 14 t)
    ∗ owns (c : Thread nD τ) (ms0_15 t) fullShare ((dats m 0 c).after 15 t)
    ∗ owns (c : Thread nD τ) (ms0_16 t) fullShare ((dats m 0 c).after 16 t)
    ∗ owns (c : Thread nD τ) (ms0_17 t) fullShare ((dats m 0 c).after 17 t)
    ∗ owns (c : Thread nD τ) (ms0_18 t) fullShare ((dats m 0 c).after 18 t)
    ∗ owns (c : Thread nD τ) (ms0_19 t) fullShare ((dats m 0 c).after 19 t)
    ∗ owns (c : Thread nD τ) (ms0_20 t) fullShare ((dats m 0 c).after 20 t)
    ∗ owns (c : Thread nD τ) (ms0_21 t) fullShare ((dats m 0 c).after 21 t))

set_option maxHeartbeats 2000000 in
/-- The body at any point: the inputs' memrefs hold their blocks (`before0_W`); so the
    run applies; the invariant hands the body its scratch buffers at some contents (and the generator register) and takes them back at some contents (`PhiA_eq`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, after0_11, after0_12, after0_13, after0_14, after0_15, after0_16, after0_17, after0_18, after0_19, after0_20, after0_21]
  rw [show (dats m 0 c).Φ t.castSucc = Pipeline.ΦA spec0 c from rfl, PhiA0_eq]
  unfold outsAt0
  unfold out0_A_9 out0_A_10 out0_A_11 out0_A_12 out0_A_13 out0_A_14 out0_A_15 out0_A_16 out0_A_17 out0_A_18 out0_A_19 out0_A_20 out0_A_21; (try dsimp only)
  iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩⟩
  iapply ((kernelRun0_A c (grid0.coords t) _ _ _ _ _ _ _ _ _ _ _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t)).2.2.2.2.2.2.2.2.2.2.2.2.2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  isplitl [H10]; · iexists _; iexact H10
  isplitl [H11]; · iexists _; iexact H11
  isplitl [H12]; · iexists _; iexact H12
  isplitl [H13]; · iexists _; iexact H13
  isplitl [H14]; · iexists _; iexact H14
  isplitl [H15]; · iexists _; iexact H15
  isplitl [H16]; · iexists _; iexact H16
  isplitl [H17]; · iexists _; iexact H17
  isplitl [H18]; · iexists _; iexact H18
  isplitl [H19]; · iexists _; iexact H19
  isplitl [H20]; · iexists _; iexact H20
  isplitl [H21]; · iexists _; iexact H21
  isplitl [HS0]; · iexact HS0
  iintro ⟨H0, H1, H2, H3, H4, H5, H6, H7, H8, ⟨%e9, H9⟩, ⟨%e10, H10⟩, ⟨%e11, H11⟩, ⟨%e12, H12⟩, ⟨%e13, H13⟩, ⟨%e14, H14⟩, ⟨%e15, H15⟩, ⟨%e16, H16⟩, ⟨%e17, H17⟩, ⟨%e18, H18⟩, ⟨%e19, H19⟩, ⟨%e20, H20⟩, ⟨%e21, H21⟩, ⟨%fT0, HS0⟩⟩
  isplitl [HS0 Hg]
  · isplitl [HS0]
    · iexists _; unfold owns; iexists _; isplitr
      swap; · iexact HS0
      ipureintro; rfl
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]
  · unfold owns; iexists _; isplitr
    swap; · iexact H9
    ipureintro; exact View.read_writes_of_cover _ _ _ _ _ (cover0_A_9 c _ _ _ _ _ _ _ _ _ _ _ _ _ _ _ _ _ _ _ _ _ _ _ _ _ _ _ _ _ _ _ _ _ _ _ _ _ _ _ _ _ _ _ _ _ _ _ _ _ _ _ _ _ _ _ _)
  isplitl [H10]
  · unfold owns; iexists _; isplitr
    swap; · iexact H10
    ipureintro; exact View.read_writes_of_cover _ _ _ _ _ (cover0_A_10 c _ _ _ _ _ _ _ _ _ _ _ _ _ _ _ _ _ _ _ _ _ _ _ _ _ _ _ _ _ _ _ _ _ _ _ _ _ _ _ _ _ _ _ _ _ _ _ _ _ _ _ _ _ _ _ _)
  isplitl [H11]
  · unfold owns; iexists _; isplitr
    swap; · iexact H11
    ipureintro; exact View.read_writes_of_cover _ _ _ _ _ (cover0_A_11 c _ _ _ _ _ _ _ _ _ _ _ _ _ _ _ _ _ _ _ _ _ _ _ _ _ _ _ _ _ _ _ _ _ _ _ _ _ _ _ _ _ _ _ _ _ _ _ _ _ _ _ _ _ _ _ _)
  isplitl [H12]
  · unfold owns; iexists _; isplitr
    swap; · iexact H12
    ipureintro; exact View.read_writes_of_cover _ _ _ _ _ (cover0_A_12 c _ _ _ _ _ _ _ _ _ _ _ _ _ _ _ _ _ _ _ _ _ _ _ _ _ _ _ _ _ _ _ _ _ _ _ _ _ _ _ _ _ _ _ _ _ _ _ _ _ _ _ _ _ _ _ _)
  isplitl [H13]
  · unfold owns; iexists _; isplitr
    swap; · iexact H13
    ipureintro; exact View.read_writes_of_cover _ _ _ _ _ (cover0_A_13 c _ _ _ _ _ _ _ _ _ _ _ _ _ _ _ _ _ _ _ _ _ _ _ _ _ _ _ _ _ _ _ _ _ _ _ _ _ _ _ _ _ _ _ _ _ _ _ _ _ _ _ _ _ _ _ _)
  isplitl [H14]
  · unfold owns; iexists _; isplitr
    swap; · iexact H14
    ipureintro; exact View.read_writes_of_cover _ _ _ _ _ (cover0_A_14 c _ _ _ _ _ _ _ _ _ _ _ _ _ _ _ _ _ _ _ _ _ _ _ _ _ _ _ _ _ _ _ _ _ _ _ _ _ _ _ _ _ _ _ _ _ _ _ _ _ _ _ _ _ _ _ _)
  isplitl [H15]
  · unfold owns; iexists _; isplitr
    swap; · iexact H15
    ipureintro; exact View.read_writes_of_cover _ _ _ _ _ (cover0_A_15 c _ _ _ _ _ _ _ _ _ _ _ _ _ _ _ _ _ _ _ _ _ _ _ _ _ _ _ _ _ _ _ _ _ _ _ _ _ _ _ _ _ _ _ _ _ _ _ _ _ _ _ _ _ _ _ _)
  isplitl [H16]
  · unfold owns; iexists _; isplitr
    swap; · iexact H16
    ipureintro; exact View.read_writes_of_cover _ _ _ _ _ (cover0_A_16 c _ _ _ _ _ _ _ _ _ _ _ _ _ _ _ _ _ _ _ _ _ _ _ _ _ _ _ _ _ _ _ _ _ _ _ _ _ _ _ _ _ _ _ _ _ _ _ _ _ _ _ _ _ _ _ _)
  isplitl [H17]
  · unfold owns; iexists _; isplitr
    swap; · iexact H17
    ipureintro; exact View.read_writes_of_cover _ _ _ _ _ (cover0_A_17 c _ _ _ _ _ _ _ _ _ _ _ _ _ _ _ _ _ _ _ _ _ _ _ _ _ _ _ _ _ _ _ _ _ _ _ _ _ _ _ _ _ _ _ _ _ _ _ _ _ _ _ _ _ _ _ _)
  isplitl [H18]
  · unfold owns; iexists _; isplitr
    swap; · iexact H18
    ipureintro; exact View.read_writes_of_cover _ _ _ _ _ (cover0_A_18 c _ _ _ _ _ _ _ _ _ _ _ _ _ _ _ _ _ _ _ _ _ _ _ _ _ _ _ _ _ _ _ _ _ _ _ _ _ _ _ _ _ _ _ _ _ _ _ _ _ _ _ _ _ _ _ _)
  isplitl [H19]
  · unfold owns; iexists _; isplitr
    swap; · iexact H19
    ipureintro; exact View.read_writes_of_cover _ _ _ _ _ (cover0_A_19 c _ _ _ _ _ _ _ _ _ _ _ _ _ _ _ _ _ _ _ _ _ _ _ _ _ _ _ _ _ _ _ _ _ _ _ _ _ _ _ _ _ _ _ _ _ _ _ _ _ _ _ _ _ _ _ _)
  isplitl [H20]
  · unfold owns; iexists _; isplitr
    swap; · iexact H20
    ipureintro; exact View.read_writes_of_cover _ _ _ _ _ (cover0_A_20 c _ _ _ _ _ _ _ _ _ _ _ _ _ _ _ _ _ _ _ _ _ _ _ _ _ _ _ _ _ _ _ _ _ _ _ _ _ _ _ _ _ _ _ _ _ _ _ _ _ _ _ _ _ _ _ _)
  unfold owns; iexists _; isplitr
  swap; · iexact H21
  ipureintro; exact View.read_writes_of_cover _ _ _ _ _ (cover0_A_21 c _ _ _ _ _ _ _ _ _ _ _ _ _ _ _ _ _ _ _ _ _ _ _ _ _ _ _ _ _ _ _ _ _ _ _ _ _ _ _ _ _ _ _ _ _ _ _ _ _ _ _ _ _ _ _ _)

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

set_option maxHeartbeats 4000000 in
/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

-- `θ_run_frame`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (dats m) (A_eq m) (run_main m ρ)

/-- THE FRAME: `Cert.quiescent_Kernel3Ideal`'s statement (Defs.lean) at any `F` — Proof.lean cites it at `Bits`:
    `theorem Cert.Proof.claim : Cert.Claim := ⟨Cert.Kernel3Ideal.Gen.facts, fun m ρ _ => Cert.Kernel3Ideal.Gen.frame m ρ⟩`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (unchanged m ρ) ((θ_run defs _ _).mono (fun _ h => h.2) (run_main_quiescent m ρ))

end Cert.Kernel3Ideal.Gen

end
-- ==== Proof.InProjHost.lean ====
/-
  What the host code before the input projection's call leaves in its nine operands: the two re-arranged copies of the
  weight matrix, the rows, the normalisation's scales and the five tables of the rotary turns.
-/
module

public import proofs.«01_k».proof.Proof.InProjFrame
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.InProjHost

open Cert.Kernel3Ideal Cert.Kernel3Ideal.Gen

/-- The columns that are multiplied from the right, side by side. -/
def weightsA (w : FVec Ideal S1024x4888 .f32) : FVec Ideal S1024x3072 .bf16 :=
  truncf .bf16 (concatenate S1024x3072 1
    [⟨S1024x128, extractStridedSlice S1024x128 ![0, 512] w slices_S1024x4888_S1024x128_0_512⟩,
     ⟨S1024x128, extractStridedSlice S1024x128 ![0, 640] w slices_S1024x4888_S1024x128_0_640⟩,
     ⟨S1024x128, extractStridedSlice S1024x128 ![0, 768] w slices_S1024x4888_S1024x128_0_768⟩,
     ⟨S1024x128, extractStridedSlice S1024x128 ![0, 1024] w slices_S1024x4888_S1024x128_0_1024⟩,
     ⟨S1024x512, extractStridedSlice S1024x512 ![0, 1816] w slices_S1024x4888_S1024x512_0_1816⟩,
     ⟨S1024x2048, extractStridedSlice S1024x2048 ![0, 2840] w slices_S1024x4888_S1024x2048_0_2840⟩]
    concatenates_S1024x128_S1024x128_S1024x128_S1024x128_S1024x512_S1024x2048_S1024x3072_d1) bitsLt_bf16_f32

/-- The gates' columns as rows, each group's twelve followed by four rows of zeros. -/
def gateRows (w : FVec Ideal S1024x4888 .f32) : FVec Ideal S32x1024 .f32 :=
  shapeCast S32x1024 (concatenate S2x16x1024 1
    [⟨S2x12x1024, shapeCast S2x12x1024 (transpose S24x1024 [1, 0] (extractStridedSlice S1024x24 ![0, 1280] w slices_S1024x4888_S1024x24_0_1280)
        transposes_S1024x24_S24x1024_1_0) shapeCasts_S24x1024_S2x12x1024⟩,
     ⟨S2x4x1024, broadcastInDim S2x4x1024 ![] bcast_S_S2x4x1024 (constant S_ .f32 0x00000000#32)⟩]
    concatenates_S2x12x1024_S2x4x1024_S2x16x1024_d1) shapeCasts_S2x16x1024_S32x1024

/-- The columns that are multiplied from the left, as rows one below the other. -/
def weightsB (w : FVec Ideal S1024x4888 .f32) : FVec Ideal S1824x1024 .bf16 :=
  truncf .bf16 (concatenate S1824x1024 0
    [⟨S512x1024, transpose S512x1024 [1, 0] (extractStridedSlice S1024x512 ![0, 0] w slices_S1024x4888_S1024x512_0_0) transposes_S1024x512_S512x1024_1_0⟩,
     ⟨S512x1024, transpose S512x1024 [1, 0] (extractStridedSlice S1024x512 ![0, 1304] w slices_S1024x4888_S1024x512_0_1304) transposes_S1024x512_S512x1024_1_0⟩,
     ⟨S128x1024, transpose S128x1024 [1, 0] (extractStridedSlice S1024x128 ![0, 896] w slices_S1024x4888_S1024x128_0_896) transposes_S1024x128_S128x1024_1_0⟩,
     ⟨S128x1024, transpose S128x1024 [1, 0] (extractStridedSlice S1024x128 ![0, 1152] w slices_S1024x4888_S1024x128_0_1152) transposes_S1024x128_S128x1024_1_0⟩,
     ⟨S512x1024, transpose S512x1024 [1, 0] (extractStridedSlice S1024x512 ![0, 2328] w slices_S1024x4888_S1024x512_0_2328) transposes_S1024x512_S512x1024_1_0⟩,
     ⟨S32x1024, gateRows w⟩]
    concatenates_S512x1024_S512x1024_S128x1024_S128x1024_S512x1024_S32x1024_S1824x1024_d0) bitsLt_bf16_f32

/-- The angle of each position and each of the eight frequencies. -/
def angles : FVec Ideal S4096x8 .f32 :=
  mulf (broadcastInDim S4096x8 ![0, 1] bcast_S4096x1_S4096x8_0_1 (broadcastInDim S4096x1 ![0] bcast_S4096_S4096x1_0 (sitofp .f32 (iotaInDim S4096 32 0))))
    (broadcastInDim S4096x8 ![0, 1] bcast_S1x8_S4096x8_0_1 (broadcastInDim S1x8 ![1] bcast_S8_S1x8_1
      (Host.powf (broadcastInDim S8 ![] bcast_S_S8 (constant S_ .f32 0x48F42400#32))
        (Host.divf (Host.negf (addf (broadcastInDim S8 ![] bcast_S_S8 (constant S_ .f32 0x00000000#32))
          (mulf (broadcastInDim S8 ![] bcast_S_S8 (constant S_ .f32 0x40000000#32)) (sitofp .f32 (iotaInDim S8 32 0)))))
          (broadcastInDim S8 ![] bcast_S_S8 (constant S_ .f32 0x41800000#32))))))

/-- A table over 128 lanes: per head eight entries of `a`, eight of `b` and 48 of the constant whose word is `z`. -/
def lanes (a b : FVec Ideal S4096x8 .f32) (z : BitVec 32) : FVec Ideal S4096x128 .f32 :=
  concatenate S4096x128 1 [⟨S4096x64, concatenate S4096x64 1 [⟨S4096x8, a⟩, ⟨S4096x8, b⟩,
      ⟨S4096x48, broadcastInDim S4096x48 ![] bcast_S_S4096x48 (constant S_ .f32 z)⟩] concatenates_S4096x8_S4096x8_S4096x48_S4096x64_d1⟩,
    ⟨S4096x64, concatenate S4096x64 1 [⟨S4096x8, a⟩, ⟨S4096x8, b⟩,
      ⟨S4096x48, broadcastInDim S4096x48 ![] bcast_S_S4096x48 (constant S_ .f32 z)⟩] concatenates_S4096x8_S4096x8_S4096x48_S4096x64_d1⟩] concatenates_S4096x64_S4096x64_S4096x128_d1

/-- Eight zeros per position. -/
def zeros : FVec Ideal S4096x8 .f32 := broadcastInDim S4096x8 ![] bcast_S_S4096x8 (constant S_ .f32 0x00000000#32)

variable (m : (ℓ : Loc nD τ sig) → Buf (Elt Ideal) ℓ)

set_option maxHeartbeats 4000000 in
theorem V_v24 (c : Dev nD) : V m c main_v24 = weightsA (m ((c : Thread nD τ).loc main_arg2)) := by
  unfold V; simp only [hostOps0]; after_results_simp; all_goals rfl

set_option maxHeartbeats 4000000 in
theorem V_v25 (c : Dev nD) : V m c main_v25 = weightsB (m ((c : Thread nD τ).loc main_arg2)) := by
  unfold V; simp only [hostOps0]; after_results_simp; all_goals rfl

set_option maxHeartbeats 4000000 in
theorem V_v26 (c : Dev nD) : V m c main_v26 = shapeCast S32768x1024 (m ((c : Thread nD τ).loc main_arg0)) shapeCasts_S8x4096x1024_S32768x1024 := by
  unfold V; simp only [hostOps0]; after_results_simp; all_goals rfl

set_option maxHeartbeats 4000000 in
theorem V_v27 (c : Dev nD) : V m c main_v27 = broadcastInDim S1x1024 ![1] bcast_S1024_S1x1024_1 (m ((c : Thread nD τ).loc main_arg1)) := by
  unfold V; simp only [hostOps0]; after_results_simp; all_goals rfl

set_option maxHeartbeats 4000000 in
theorem V_v49 (c : Dev nD) : V m c main_v49 = lanes (Host.cos angles) (Host.cos angles) 0x3F800000#32 := by
  unfold V; simp only [hostOps0]; after_results_simp; all_goals rfl

set_option maxHeartbeats 4000000 in
theorem V_v53 (c : Dev nD) : V m c main_v53 = lanes (Host.negf (Host.sin angles)) zeros 0x00000000#32 := by
  unfold V; simp only [hostOps0]; after_results_simp; all_goals rfl

set_option maxHeartbeats 4000000 in
theorem V_v56 (c : Dev nD) : V m c main_v56 = lanes zeros (Host.sin angles) 0x00000000#32 := by
  unfold V; simp only [hostOps0]; after_results_simp; all_goals rfl

set_option maxHeartbeats 4000000 in
theorem V_v57 (c : Dev nD) : V m c main_v57 = transpose S8x4096 [1, 0] (Host.cos angles) transposes_S4096x8_S8x4096_1_0 := by
  unfold V; simp only [hostOps0]; after_results_simp; all_goals rfl

set_option maxHeartbeats 4000000 in
theorem V_v58 (c : Dev nD) : V m c main_v58 = transpose S8x4096 [1, 0] (Host.sin angles) transposes_S4096x8_S8x4096_1_0 := by
  unfold V; simp only [hostOps0]; after_results_simp; all_goals rfl

/-! ## The operands read at an index -/

/-- The column of the weight matrix that lies in column `a` of the copy multiplied from the right. -/
def colA (a : Fin 3072) : Fin 4888 :=
  ⟨if a.val < 384 then 512 + a.val else if a.val < 512 then 640 + a.val else if a.val < 1024 then 1304 + a.val else 1816 + a.val,
    by split_ifs <;> omega⟩

/-- The column of the weight matrix that lies in row `r` of the copy multiplied from the left. -/
def colB (r : Fin 1792) : Fin 4888 :=
  ⟨if r.val < 512 then r.val else if r.val < 1024 then 792 + r.val else if r.val < 1152 then r.val - 128
    else if r.val < 1280 then r.val else 1048 + r.val, by split_ifs <;> omega⟩

theorem weightsA_at (w : FVec Ideal S1024x4888 .f32) (k : Fin 1024) (a : Fin 3072) :
    weightsA w (ix2 k a) = w (ix2 k (colA a)) := by
  unfold colA
  pointwise! [weightsA]
  split_ifs <;> blk_ext <;> (split_ifs <;> omega)

theorem weightsB_at (w : FVec Ideal S1024x4888 .f32) (k : Fin 1024) (r : Fin 1792) :
    weightsB w (ix2 (⟨r.val, by omega⟩ : Fin 1824) k) = w (ix2 k (colB r)) := by
  unfold colB
  have hr := r.isLt
  pointwise! [weightsB]
  repeat' split
  all_goals first | (exfalso; omega) | (blk_ext <;> (split_ifs <;> omega))

theorem gates_at (w : FVec Ideal S1024x4888 .f32) (k : Fin 1024) (g : Fin 2) (j : Fin 16) :
    weightsB w (ix2 (⟨1792 + (g.val * 16 + j.val), by omega⟩ : Fin 1824) k)
      = if h : j.val < 12 then w (ix2 k (⟨1280 + (g.val * 12 + j.val), by omega⟩ : Fin 4888)) else 0 := by
  pointwise! [weightsB, gateRows]
  repeat' split
  all_goals first | (exfalso; omega) | rfl | blk_ext

theorem lanes_at (a b : FVec Ideal S4096x8 .f32) (z : BitVec 32) (s : Fin 4096) (l : Fin 128) :
    lanes a b z (ix2 s l) = if h : l.val % 64 < 8 then a (ix2 s ⟨l.val % 64, h⟩)
      else if h' : l.val % 64 < 16 then b (ix2 s (⟨l.val % 64 - 8, by omega⟩ : Fin 8)) else Ideal.ofBits .f32 z := by
  pointwise! [lanes]
  repeat' split
  all_goals first | (exfalso; omega) | rfl | blk_ext

end Cert.InProjHost
-- ==== Proof.InProjRows.lean ====
/-
  The input projection as plain formulas over the extended reals: a normalised row times a column of the weights, the
  rotary turn of a head's features, and each of the call's thirteen result arrays entry by entry.
-/
module

public import proofs.«01_k».proof.Proof.InProjHost
public import proofs.«01_k».proof.Proof.MergeRows

@[expose] public section

set_option maxRecDepth 16384

noncomputable section

open Idealize.ShloMosaic Idealize.ShloMosaic.TcCoe Idealize.SL.Sem

namespace Cert.InProjRows

open Cert.Kernel3Ideal Cert.InProjHost Cert.MergeRows

/-- Column `n` of the projection of the row at position `s` of sequence `b`. -/
def pr (x : FVec Ideal S8x4096x1024 .f32) (g : FVec Ideal S1024 .f32) (w : FVec Ideal S1024x4888 .f32)
    (b : Fin 8) (s : Fin 4096) (n : Fin 4888) : EReal :=
  ∑ k : Fin 1024, norm (fun k => x (ix3 b s k)) (fun k => g (ix1 k)) k * w (ix2 k n)

/-- The cosines of a position's eight angles. -/
def cosAt (s : Fin 4096) (i : Fin 8) : EReal := Host.cos angles (ix2 s i)

/-- The sines of a position's eight angles. -/
def sinAt (s : Fin 4096) (i : Fin 8) : EReal := Host.sin angles (ix2 s i)

/-- The rotary turn of a head's 64 features: the first sixteen turn in eight planes, the others stay. -/
def rot (y : Fin 64 → EReal) (c s : Fin 8 → EReal) (f : Fin 64) : EReal :=
  if h : f.val < 8 then y f * c ⟨f.val, h⟩ - y ⟨f.val + 8, by omega⟩ * s ⟨f.val, h⟩
  else if h' : f.val < 16 then y ⟨f.val - 8, by omega⟩ * s ⟨f.val - 8, by omega⟩ + y f * c ⟨f.val - 8, by omega⟩
  else y f

/-- The logistic function. -/
def sigm (y : EReal) : EReal := Ideal.div 1 (1 + Ideal.exp (-y))

/-- One where the condition holds and zero elsewhere. -/
def hot (p : Prop) [Decidable p] : EReal := if p then 1 else 0

/-- The turned head whose first column is `n`, at feature `f`. -/
def turned (x : FVec Ideal S8x4096x1024 .f32) (g : FVec Ideal S1024 .f32) (w : FVec Ideal S1024x4888 .f32)
    (b : Fin 8) (s : Fin 4096) (n : ℕ) (hn : n + 64 ≤ 4888) (f : Fin 64) : EReal :=
  rot (fun f => pr x g w b s ⟨n + f.val, by omega⟩) (cosAt s) (sinAt s) f

/-- A turn read off tables over 128 lanes, two heads side by side: the tables hold a one where a feature stays and a
zero where it takes nothing from the lane eight further or eight before. -/
theorem rope_lane (y : Fin 128 → EReal) (c s : Fin 8 → EReal) (l : Fin 128) (C D E : EReal)
    (hC : C = if h : l.val % 64 < 8 then c ⟨l.val % 64, h⟩ else if h' : l.val % 64 < 16 then c ⟨l.val % 64 - 8, by omega⟩ else 1)
    (hD : D = if h : l.val % 64 < 8 then -s ⟨l.val % 64, h⟩ else 0)
    (hE : E = if h : l.val % 64 < 8 then 0 else if h' : l.val % 64 < 16 then s ⟨l.val % 64 - 8, by omega⟩ else 0) :
    y l * C + y ⟨(l.val + 128 - 120) % 128, Nat.mod_lt _ (by omega)⟩ * D + y ⟨(l.val + 128 - 8) % 128, Nat.mod_lt _ (by omega)⟩ * E
      = rot (fun f => y ⟨l.val / 64 * 64 + f.val, by omega⟩) c s ⟨l.val % 64, Nat.mod_lt _ (by omega)⟩ := by
  have e0 : (⟨l.val / 64 * 64 + l.val % 64, by omega⟩ : Fin 128) = l := Fin.ext (by show l.val / 64 * 64 + l.val % 64 = l.val; omega)
  subst hC hD hE
  unfold rot
  dsimp only
  rw [e0]
  split
  · rename_i h
    have e1 : (⟨(l.val + 128 - 120) % 128, Nat.mod_lt _ (by omega)⟩ : Fin 128) = ⟨l.val / 64 * 64 + (l.val % 64 + 8), by omega⟩ :=
      Fin.ext (by show (l.val + 128 - 120) % 128 = l.val / 64 * 64 + (l.val % 64 + 8); omega)
    rw [e1, mul_zero, add_zero, mul_neg, ← sub_eq_add_neg]
  · split
    · rename_i h h'
      have e2 : (⟨(l.val + 128 - 8) % 128, Nat.mod_lt _ (by omega)⟩ : Fin 128) = ⟨l.val / 64 * 64 + (l.val % 64 - 8), by omega⟩ :=
        Fin.ext (by show (l.val + 128 - 8) % 128 = l.val / 64 * 64 + (l.val % 64 - 8); omega)
      rw [e2, mul_zero, add_zero, add_comm]
    · rw [mul_zero, mul_zero, add_zero, add_zero, mul_one]

/-! ## The thirteen results -/

variable (x : FVec Ideal S8x4096x1024 .f32) (g : FVec Ideal S1024 .f32) (w : FVec Ideal S1024x4888 .f32)

/-- The native sparse attention's queries, features before positions: as projected, then turned. -/
def outQ (b : Fin 8) (r : Fin 1024) (s : Fin 4096) : EReal :=
  if h : r.val < 512 then pr x g w b s ⟨r.val, by omega⟩
  else turned x g w b s ((r.val - 512) / 64 * 64) (by omega) ⟨r.val % 64, by omega⟩

/-- The block attention's turned queries, and below them what rounding them leaves. -/
def outQM (b : Fin 8) (r : Fin 1024) (s : Fin 4096) : EReal :=
  if h : r.val < 512 then turned x g w b s (1304 + r.val / 64 * 64) (by omega) ⟨r.val % 64, by omega⟩
  else turned x g w b s (1304 + (r.val - 512) / 64 * 64) (by omega) ⟨r.val % 64, by omega⟩
    - turned x g w b s (1304 + (r.val - 512) / 64 * 64) (by omega) ⟨r.val % 64, by omega⟩

/-- The gates: twelve logistic values per group, then four of a zero logit. -/
def outG (b : Fin 8) (q : Fin 2) (j : Fin 16) (s : Fin 4096) : EReal :=
  sigm (if h : j.val < 12 then pr x g w b s ⟨1280 + (q.val * 12 + j.val), by omega⟩ else 0)

/-- Keys or values to compress: 128 columns from `n` on, as projected. -/
def outC (n : ℕ) (hn : n + 128 ≤ 4888) (p : Fin 32768) (j : Fin 128) : EReal :=
  pr x g w ⟨p.val / 4096, by omega⟩ ⟨p.val % 4096, by omega⟩ ⟨n + j.val, by omega⟩

/-- Two heads of turned keys side by side, 128 columns from `n` on. -/
def outK (n : ℕ) (hn : n + 128 ≤ 4888) (b : Fin 8) (i : Fin 16) (r : Fin 256) (l : Fin 128) : EReal :=
  turned x g w b ⟨i.val * 256 + r.val, by omega⟩ (n + l.val / 64 * 64) (by omega) ⟨l.val % 64, by omega⟩

/-- The selection's keys, and beside them which block of 64 positions each is of. -/
def outKE (b : Fin 8) (i : Fin 16) (r : Fin 256) (l : Fin 256) : EReal :=
  if h : l.val < 128 then outK x g w 768 (by omega) b i r ⟨l.val, h⟩ else hot ((i.val * 256 + r.val) / 64 = l.val - 128)

/-- Values, features before positions, over a row of ones and fifteen of zeros. -/
def outV {H : ℕ} (n : ℕ) (hn : n + H * 64 ≤ 4888) (b : Fin 8) (a : Fin H) (i : Fin 16) (v : Fin 80) (p : Fin 256) : EReal :=
  if h : v.val < 64 then pr x g w b ⟨i.val * 256 + p.val, by omega⟩ ⟨n + (a.val * 64 + v.val), by have := a.isLt; omega⟩ else hot (v.val = 64)

/-- The block attention's keys two heads at a time, and beside each two which block of 256 positions they are of. -/
def outKM (b : Fin 8) (i : Fin 16) (r : Fin 256) (l : Fin 1024) : EReal :=
  if h : l.val % 256 < 128 then outK x g w (1816 + l.val / 256 * 128) (by omega) b i r ⟨l.val % 256, h⟩ else hot (i.val = l.val % 256 - 128)

/-- Each block's mean key, eight times over. -/
def outMean (b : Fin 8) (r : Fin 128) (d : Fin 512) : EReal :=
  Ideal.div (∑ p : Fin 256, outK x g w (1816 + d.val / 128 * 128) (by omega) b ⟨r.val / 8, by omega⟩ p ⟨d.val % 128, by omega⟩)
    (Ideal.ofBits .f32 0x43800000#32)

/-- The merge's gates. -/
def outGM (p : Fin 32768) (j : Fin 2048) : EReal :=
  sigm (pr x g w ⟨p.val / 4096, by omega⟩ ⟨p.val % 4096, by omega⟩ ⟨2840 + j.val, by omega⟩)

end Cert.InProjRows
-- ==== Proof.InProjBlocks.lean ====
module

public import proofs.«01_k».proof.Proof.InProjRows
public import proofs.«01_k».proof.Proof.MergeRows

@[expose] public section

set_option maxRecDepth 16384

noncomputable section

open Idealize.ShloMosaic Idealize.ShloMosaic.TcCoe Idealize.SL.Sem
open Idealize.ShloMosaic.Pipeline (Dat)

/-! # The projection's blocks: what the kernel reads at a grid position, and its products read at an index

Grid position `t` takes rows `256 t` to `256 t + 255` of the flattened stream: batch entry `t / 16`, positions from `256 (t mod 16)`. -/

namespace Cert.InProjBlocks

open Cert.Kernel3Ideal Cert.Kernel3Ideal.Gen Cert.InProjHost Cert.InProjRows Cert.MergeRows

variable (m : (ℓ : Loc nD τ sig) → Buf (Elt Ideal) ℓ)

/-- Where each operand's block lies at grid position `t`, and how many grid positions there are. -/
theorem idx : ∀ t : Fin cfg0.N, win0_0.index t = ![t.val, 0] ∧ win0_1.index t = ![0, 0] ∧ win0_2.index t = ![0, 0] ∧ win0_3.index t = ![0, 0]
    ∧ win0_4.index t = ![t.val % 16, 0] ∧ win0_5.index t = ![t.val % 16, 0] ∧ win0_6.index t = ![t.val % 16, 0]
    ∧ win0_7.index t = ![0, t.val % 16] ∧ win0_8.index t = ![0, t.val % 16] ∧ t.val < 128 :=
  (by decide +kernel : ∀ t : Fin grid0.N, _)

theorem lt_t (t : Fin cfg0.N) : t.val < 128 := (idx t).2.2.2.2.2.2.2.2.2

/-- The batch entry of grid position `t`. -/
def tb (t : Fin cfg0.N) : Fin 8 := ⟨t.val / 16, by have := lt_t t; omega⟩

/-- The position of row `r` at grid position `t`. -/
def ts (t : Fin cfg0.N) (r : Fin 256) : Fin 4096 := ⟨t.val % 16 * 256 + r.val, by omega⟩

/-! ## A block of an operand is the operand's rows or columns -/

theorem read0 (c : Dev nD) (t : Fin cfg0.N) (A : FVec Ideal S32768x1024 .f32) (hA : V m c main_v26 = A) (r : Fin 256) (k : Fin 1024) :
    iblk m c 0 t (ix2 r k) = A (ix2 (⟨t.val * 256 + r.val, by have := lt_t t; omega⟩ : Fin 32768) k) := by
  have e : iblk m c 0 t = ((win0_0.blk t).view.read (Elt Ideal) A) := by rw [← hA]; rfl
  rw [e]; clear hA e; blk_point [idx t]

theorem read1 (c : Dev nD) (t : Fin cfg0.N) (A : FVec Ideal S1x1024 .f32) (hA : V m c main_v27 = A) (k : Fin 1024) :
    iblk m c 1 t (ix2 0 k) = A (ix2 0 k) := by
  have e : iblk m c 1 t = ((win0_1.blk t).view.read (Elt Ideal) A) := by rw [← hA]; rfl
  rw [e]; clear hA e; blk_point [idx t]

theorem read2 (c : Dev nD) (t : Fin cfg0.N) (A : FVec Ideal S1024x3072 .bf16) (hA : V m c main_v24 = A) (k : Fin 1024) (a : Fin 3072) :
    iblk m c 2 t (ix2 k a) = A (ix2 k a) := by
  have e : iblk m c 2 t = ((win0_2.blk t).view.read (Elt Ideal) A) := by rw [← hA]; rfl
  rw [e]; clear hA e; blk_point [idx t]

theorem read3 (c : Dev nD) (t : Fin cfg0.N) (A : FVec Ideal S1824x1024 .bf16) (hA : V m c main_v25 = A) (r : Fin 1824) (k : Fin 1024) :
    iblk m c 3 t (ix2 r k) = A (ix2 r k) := by
  have e : iblk m c 3 t = ((win0_3.blk t).view.read (Elt Ideal) A) := by rw [← hA]; rfl
  rw [e]; clear hA e; blk_point [idx t]

theorem read4 (c : Dev nD) (t : Fin cfg0.N) (A : FVec Ideal S4096x128 .f32) (hA : V m c main_v49 = A) (r : Fin 256) (l : Fin 128) :
    iblk m c 4 t (ix2 r l) = A (ix2 (ts t r) l) := by
  have e : iblk m c 4 t = ((win0_4.blk t).view.read (Elt Ideal) A) := by rw [← hA]; rfl
  unfold ts
  rw [e]; clear hA e; blk_point [idx t]

theorem read5 (c : Dev nD) (t : Fin cfg0.N) (A : FVec Ideal S4096x128 .f32) (hA : V m c main_v53 = A) (r : Fin 256) (l : Fin 128) :
    iblk m c 5 t (ix2 r l) = A (ix2 (ts t r) l) := by
  have e : iblk m c 5 t = ((win0_5.blk t).view.read (Elt Ideal) A) := by rw [← hA]; rfl
  unfold ts
  rw [e]; clear hA e; blk_point [idx t]

theorem read6 (c : Dev nD) (t : Fin cfg0.N) (A : FVec Ideal S4096x128 .f32) (hA : V m c main_v56 = A) (r : Fin 256) (l : Fin 128) :
    iblk m c 6 t (ix2 r l) = A (ix2 (ts t r) l) := by
  have e : iblk m c 6 t = ((win0_6.blk t).view.read (Elt Ideal) A) := by rw [← hA]; rfl
  unfold ts
  rw [e]; clear hA e; blk_point [idx t]

theorem read7 (c : Dev nD) (t : Fin cfg0.N) (A : FVec Ideal S8x4096 .f32) (hA : V m c main_v57 = A) (i : Fin 8) (r : Fin 256) :
    iblk m c 7 t (ix2 i r) = A (ix2 i (ts t r)) := by
  have e : iblk m c 7 t = ((win0_7.blk t).view.read (Elt Ideal) A) := by rw [← hA]; rfl
  unfold ts
  rw [e]; clear hA e; blk_point [idx t]

theorem read8 (c : Dev nD) (t : Fin cfg0.N) (A : FVec Ideal S8x4096 .f32) (hA : V m c main_v58 = A) (i : Fin 8) (r : Fin 256) :
    iblk m c 8 t (ix2 i r) = A (ix2 i (ts t r)) := by
  have e : iblk m c 8 t = ((win0_8.blk t).view.read (Elt Ideal) A) := by rw [← hA]; rfl
  unfold ts
  rw [e]; clear hA e; blk_point [idx t]

/-! ## The tables of cosines and sines -/

theorem cos_at (c : Dev nD) (t : Fin cfg0.N) (r : Fin 256) (l : Fin 128) :
    iblk m c 4 t (ix2 r l) = if h : l.val % 64 < 8 then cosAt (ts t r) ⟨l.val % 64, h⟩
      else if h' : l.val % 64 < 16 then cosAt (ts t r) ⟨l.val % 64 - 8, by omega⟩ else 1 := by
  rw [read4 m c t _ (V_v49 m c), lanes_at]
  unfold cosAt
  pointwise

theorem hi_at (c : Dev nD) (t : Fin cfg0.N) (r : Fin 256) (l : Fin 128) :
    iblk m c 5 t (ix2 r l) = if h : l.val % 64 < 8 then -sinAt (ts t r) ⟨l.val % 64, h⟩ else 0 := by
  rw [read5 m c t _ (V_v53 m c), lanes_at]
  unfold sinAt zeros
  pointwise
  repeat' split
  all_goals rfl

theorem lo_at (c : Dev nD) (t : Fin cfg0.N) (r : Fin 256) (l : Fin 128) :
    iblk m c 6 t (ix2 r l) = if h : l.val % 64 < 8 then 0
      else if h' : l.val % 64 < 16 then sinAt (ts t r) ⟨l.val % 64 - 8, by omega⟩ else 0 := by
  rw [read6 m c t _ (V_v56 m c), lanes_at]
  unfold sinAt zeros
  pointwise

theorem cosT_at (c : Dev nD) (t : Fin cfg0.N) (i : Fin 8) (r : Fin 256) : iblk m c 7 t (ix2 i r) = cosAt (ts t r) i := by
  rw [read7 m c t _ (V_v57 m c)]
  unfold cosAt
  pointwise

theorem sinT_at (c : Dev nD) (t : Fin cfg0.N) (i : Fin 8) (r : Fin 256) : iblk m c 8 t (ix2 i r) = sinAt (ts t r) i := by
  rw [read8 m c t _ (V_v58 m c)]
  unfold sinAt
  pointwise

/-! ## The products -/

/-- The call's three arguments. -/
abbrev X (c : Dev nD) : FVec Ideal S8x4096x1024 .f32 := m ((c : Thread nD τ).loc main_arg0)
abbrev Gn (c : Dev nD) : FVec Ideal S1024 .f32 := m ((c : Thread nD τ).loc main_arg1)
abbrev W (c : Dev nD) : FVec Ideal S1024x4888 .f32 := m ((c : Thread nD τ).loc main_arg2)

theorem flat_at (A : FVec Ideal S8x4096x1024 .f32) (p : Fin 32768) (k : Fin 1024) :
    shapeCast S32768x1024 A shapeCasts_S8x4096x1024_S32768x1024 (ix2 p k)
      = A (ix3 (⟨p.val / 4096, by omega⟩ : Fin 8) (⟨p.val % 4096, by omega⟩ : Fin 4096) k) := by
  pointwise

theorem x_at (c : Dev nD) (t : Fin cfg0.N) (r : Fin 256) (k : Fin 1024) :
    iblk m c 0 t (ix2 r k) = X m c (ix3 (tb t) (ts t r) k) := by
  have h := lt_t t
  rw [read0 m c t _ (V_v26 m c), flat_at]
  have e1 : (⟨(t.val * 256 + r.val) / 4096, by omega⟩ : Fin 8) = tb t := Fin.ext (by show (t.val * 256 + r.val) / 4096 = t.val / 16; omega)
  have e2 : (⟨(t.val * 256 + r.val) % 4096, by omega⟩ : Fin 4096) = ts t r :=
    Fin.ext (by show (t.val * 256 + r.val) % 4096 = t.val % 16 * 256 + r.val; omega)
  rw [e1, e2]

theorem g_at (c : Dev nD) (t : Fin cfg0.N) (k : Fin 1024) : iblk m c 1 t (ix2 0 k) = Gn m c (ix1 k) := by
  rw [read1 m c t _ (V_v27 m c)]
  unfold Gn
  pointwise

theorem pay4_at (x : Vec Ideal S256x1024 .f32) (g : Vec Ideal S1x1024 .f32) (r : Fin 256) (k : Fin 1024) :
    k0_pay4 x g (ix2 r k) = norm (fun k => x (ix2 r k)) (fun k => g (ix2 0 k)) k := by
  unfold Cert.MergeRows.norm rms
  pointwise! [k0_pay4]

/-- The normalised rows at grid position `t`. -/
def hn (c : Dev nD) (t : Fin cfg0.N) : FVec Ideal S256x1024 .bf16 := k0_pay4 (iblk m c 0 t) (iblk m c 1 t)

theorem hn_at (c : Dev nD) (t : Fin cfg0.N) (r : Fin 256) (k : Fin 1024) :
    hn m c t (ix2 r k) = norm (fun k => X m c (ix3 (tb t) (ts t r) k)) (fun k => Gn m c (ix1 k)) k := by
  unfold hn
  rw [pay4_at]
  simp only [x_at, g_at]

/-- The two copies of the weights and the five tables, as blocks at grid position `t`. -/
def wA (c : Dev nD) (t : Fin cfg0.N) : FVec Ideal S1024x3072 .bf16 := iblk m c 2 t
def wB (c : Dev nD) (t : Fin cfg0.N) : FVec Ideal S1824x1024 .bf16 := iblk m c 3 t
def tC (c : Dev nD) (t : Fin cfg0.N) : FVec Ideal S256x128 .f32 := iblk m c 4 t
def tH (c : Dev nD) (t : Fin cfg0.N) : FVec Ideal S256x128 .f32 := iblk m c 5 t
def tL (c : Dev nD) (t : Fin cfg0.N) : FVec Ideal S256x128 .f32 := iblk m c 6 t
def cT (c : Dev nD) (t : Fin cfg0.N) : FVec Ideal S8x256 .f32 := iblk m c 7 t
def sT (c : Dev nD) (t : Fin cfg0.N) : FVec Ideal S8x256 .f32 := iblk m c 8 t

theorem hn_eq (c : Dev nD) (t : Fin cfg0.N) : k0_pay4 (iblk m c 0 t) (iblk m c 1 t) = hn m c t := rfl
theorem wA_eq (c : Dev nD) (t : Fin cfg0.N) : iblk m c 2 t = wA m c t := rfl
theorem wB_eq (c : Dev nD) (t : Fin cfg0.N) : iblk m c 3 t = wB m c t := rfl
theorem tC_eq (c : Dev nD) (t : Fin cfg0.N) : iblk m c 4 t = tC m c t := rfl
theorem tH_eq (c : Dev nD) (t : Fin cfg0.N) : iblk m c 5 t = tH m c t := rfl
theorem tL_eq (c : Dev nD) (t : Fin cfg0.N) : iblk m c 6 t = tL m c t := rfl
theorem cT_eq (c : Dev nD) (t : Fin cfg0.N) : iblk m c 7 t = cT m c t := rfl
theorem sT_eq (c : Dev nD) (t : Fin cfg0.N) : iblk m c 8 t = sT m c t := rfl

/-- The projection at grid position `t`: row `r`, column `n`. -/
def pt (c : Dev nD) (t : Fin cfg0.N) (r : Fin 256) (n : Fin 4888) : EReal := pr (X m c) (Gn m c) (W m c) (tb t) (ts t r) n

theorem dotA (c : Dev nD) (t : Fin cfg0.N) (r : Fin 256) (a : Fin 3072) :
    ∑ k : Fin 1024, hn m c t (ix2 r k) * wA m c t (ix2 k a) = pt m c t r (colA a) := by
  unfold pt pr
  refine Finset.sum_congr rfl fun k _ => ?_
  rw [hn_at, ← wA_eq, read2 m c t _ (V_v24 m c), weightsA_at]

theorem dotB (c : Dev nD) (t : Fin cfg0.N) (r : Fin 256) (a : Fin 1792) :
    ∑ k : Fin 1024, wB m c t (ix2 (⟨a.val, by omega⟩ : Fin 1824) k) * hn m c t (ix2 r k) = pt m c t r (colB a) := by
  unfold pt pr
  refine Finset.sum_congr rfl fun k _ => ?_
  rw [hn_at, ← wB_eq, read3 m c t _ (V_v25 m c), weightsB_at, mul_comm]

theorem dotG (c : Dev nD) (t : Fin cfg0.N) (r : Fin 256) (q : Fin 2) (j : Fin 16) :
    ∑ k : Fin 1024, wB m c t (ix2 (⟨1792 + (q.val * 16 + j.val), by omega⟩ : Fin 1824) k) * hn m c t (ix2 r k)
      = if h : j.val < 12 then pt m c t r ⟨1280 + (q.val * 12 + j.val), by omega⟩ else 0 := by
  split
  · rename_i h
    unfold pt pr
    refine Finset.sum_congr rfl fun k _ => ?_
    rw [hn_at, ← wB_eq, read3 m c t _ (V_v25 m c), gates_at, dif_pos h, mul_comm]
  · rename_i h
    refine Finset.sum_eq_zero fun k _ => ?_
    rw [← wB_eq, read3 m c t _ (V_v25 m c), gates_at, dif_neg h, zero_mul]

end Cert.InProjBlocks
-- ==== Proof.InProjPlain.lean ====
module

public import proofs.«01_k».proof.Proof.InProjBlocks
public import Idealize.ShloMosaic.Lib.Claim

@[expose] public section

set_option maxRecDepth 16384

noncomputable section

open Idealize.ShloMosaic Idealize.ShloMosaic.TcCoe Idealize.SL.Sem
open Idealize.ShloMosaic.Pipeline (Dat)

/-! # The projection's results that are not turned by position: keys and values to compress, the merge's gates -/

namespace Cert.InProjPlain

open Cert.Kernel3Ideal Cert.Kernel3Ideal.Gen Cert.InProjHost Cert.InProjRows Cert.InProjBlocks

variable (m : (ℓ : Loc nD τ sig) → Buf (Elt Ideal) ℓ)

/-- Where each result's block lies at grid position `t`. -/
theorem idxo : ∀ t : Fin cfg0.N, win0_9.index t = ![t.val / 16, 0, t.val % 16] ∧ win0_10.index t = ![t.val / 16, 0, t.val % 16]
    ∧ win0_11.index t = ![t.val / 16, 0, 0, t.val % 16] ∧ win0_12.index t = ![t.val, 0] ∧ win0_13.index t = ![t.val, 0]
    ∧ win0_14.index t = ![t.val / 16, t.val % 16, 0, 0] ∧ win0_15.index t = ![t.val / 16, t.val % 16, 0, 0]
    ∧ win0_16.index t = ![t.val / 16, 0, t.val % 16, 0, 0] ∧ win0_17.index t = ![t.val / 16, 0, t.val % 16, 0, 0]
    ∧ win0_18.index t = ![t.val / 16, t.val % 16, 0, 0] ∧ win0_19.index t = ![t.val / 16, 0, t.val % 16, 0, 0]
    ∧ win0_20.index t = ![t.val / 16, t.val % 16, 0] ∧ win0_21.index t = ![t.val, 0] :=
  (by decide +kernel : ∀ t : Fin grid0.N, _)

/-- The number of the block of 256 positions grid position `t` takes. -/
def ti (t : Fin cfg0.N) : Fin 16 := ⟨t.val % 16, by omega⟩

theorem pt_flat (c : Dev nD) (t : Fin cfg0.N) (r : Fin 256) (p : Fin 32768) (hp : p.val = t.val * 256 + r.val) (n n' : Fin 4888)
    (hn : n.val = n'.val) :
    pt m c t r n = pr (X m c) (Gn m c) (W m c) ⟨p.val / 4096, by omega⟩ ⟨p.val % 4096, by omega⟩ n' := by
  have h := lt_t t
  have e1 : (⟨p.val / 4096, by omega⟩ : Fin 8) = tb t := Fin.ext (by show p.val / 4096 = t.val / 16; omega)
  have e2 : (⟨p.val % 4096, by omega⟩ : Fin 4096) = ts t r := Fin.ext (by show p.val % 4096 = t.val % 16 * 256 + r.val; omega)
  rw [e1, e2, ← Fin.ext hn, pt]

theorem pt_at (c : Dev nD) (t : Fin cfg0.N) (r : Fin 256) (b : Fin 8) (s : Fin 4096) (hb : b.val = t.val / 16)
    (hs : s.val = t.val % 16 * 256 + r.val) (n n' : Fin 4888) (hn : n.val = n'.val) :
    pt m c t r n = pr (X m c) (Gn m c) (W m c) b s n' := by
  rw [show b = tb t from Fin.ext hb, show s = ts t r from Fin.ext hs, ← Fin.ext hn, pt]

/-- A choice between one and zero by whether two small words are equal. -/
theorem hot_eq (a b : ℕ) (ha : a < 4096) (hb : b < 4096) :
    Scalar.select (IntOp.cmpi CmpIPredicate.eq (BitVec.ofNat 32 a) (BitVec.ofNat 32 b)) (1 : EReal) 0 = hot (a = b) := by
  unfold hot
  by_cases h : a = b
  · subst h
    simp [Scalar.select, IntOp.cmpi]
  · have : ¬ BitVec.ofNat 32 a = BitVec.ofNat 32 b := fun e => h (by
      have := congrArg BitVec.toNat e
      simp only [BitVec.toNat_ofNat] at this
      omega)
    simp [Scalar.select, IntOp.cmpi, h, beq_eq_false_iff_ne.mpr this]

theorem colA_lo (a : Fin 3072) (h : a.val < 384) : (colA a).val = 512 + a.val := if_pos h

theorem colA_hi (a : Fin 3072) (h : 1024 ≤ a.val) : (colA a).val = 1816 + a.val := by
  unfold colA
  simp only [show ¬ a.val < 384 by omega, show ¬ a.val < 512 by omega, show ¬ a.val < 1024 by omega, if_false]

/-- The product with one column of the right weights. -/
theorem dot_col (c : Dev nD) (t : Fin cfg0.N) (r : Fin 256) (a : Fin 3072) (u : Fin 1024 → EReal) (hu : ∀ k, u k = wA m c t (ix2 k a)) :
    ∑ k : Fin 1024, hn m c t (ix2 r k) * u k = pt m c t r (colA a) :=
  Eq.trans (Finset.sum_congr rfl fun k _ => congrArg _ (hu k)) (dotA m c t r a)

/-- The product with one row of the left weights. -/
theorem dot_row (c : Dev nD) (t : Fin cfg0.N) (r : Fin 256) (a : Fin 1792) (u : Fin 1024 → EReal)
    (hu : ∀ k, u k = wB m c t (ix2 ⟨a.val, by omega⟩ k)) : ∑ k : Fin 1024, u k * hn m c t (ix2 r k) = pt m c t r (colB a) :=
  Eq.trans (Finset.sum_congr rfl fun k _ => congrArg (· * _) (hu k)) (dotB m c t r a)

/-! ## Keys and values to compress -/

theorem pay9_at (H : FVec Ideal S256x1024 .bf16) (U : FVec Ideal S1024x256 .bf16) (y : S256x128.Idx) :
    k0_pay9 (F := Ideal) H U y = ∑ k : Fin 1024, H (ix2 (y 0) k) * U (ix2 k ⟨0 + (y 1).val, by have h : (y 1).val < 128 := (y 1).isLt; omega⟩) := by
  pointwise [k0_pay9, k0_pay8]

theorem pay10_at (H : FVec Ideal S256x1024 .bf16) (U : FVec Ideal S1024x256 .bf16) (y : S256x128.Idx) :
    k0_pay10 (F := Ideal) H U y = ∑ k : Fin 1024, H (ix2 (y 0) k) * U (ix2 k ⟨128 + (y 1).val, by have h : (y 1).val < 128 := (y 1).isLt; omega⟩) := by
  pointwise [k0_pay10, k0_pay8]

theorem meet12 (c : Dev nD) (t : Fin cfg0.N) (o : ℕ) (ho : o + 128 ≤ 256) (U : FVec Ideal S1024x256 .bf16)
    (hU : ∀ (k : Fin 1024) (j : Fin 256), U (ix2 k j) = wA m c t (ix2 k ⟨j.val, by omega⟩)) (x : S256x128.Idx)
    (p : Fin 32768) (q : Fin 128) (hp : p.val = t.val * 256 + (x 0).val) (hq : q.val = (x 1).val) :
    ∑ k : Fin 1024, hn m c t (ix2 (x 0) k) * U (ix2 k ⟨o + (x 1).val, by have h : (x 1).val < 128 := (x 1).isLt; omega⟩)
      = outC (X m c) (Gn m c) (W m c) (512 + o) (by omega) p q := by
  have hx : (x 1).val < 128 := (x 1).isLt
  refine (dot_col m c t (x 0) ⟨o + (x 1).val, by omega⟩ _ fun k => hU k ⟨o + (x 1).val, by omega⟩).trans (pt_flat m c t _ _ hp _ _ ((colA_lo _ ?_).trans ?_))
  · show o + (x 1).val < 384; omega
  · show 512 + (o + (x 1).val) = 512 + o + q.val; omega

theorem final12 (c : Dev nD) : (dats m 0 c).arrAt 12 cfg0.N
    = fun i : S32768x128.Idx => outC (X m c) (Gn m c) (W m c) 512 (by omega) (i 0) (i 1) := by
  refine (dats m 0 c).arrAt_eq_of_covers 12 _ (by decide +kernel) fun t _ y => ?_
  blk_simp
  rw [after0_12]
  unfold outsAt0
  frame_out
  rw [hn_eq, wA_eq]
  refine (pay9_at _ _ y).trans (meet12 m c t 0 (by omega) _ (fun k j => by pointwise) y _ _ ?_ ?_)
  all_goals (blk_simp [idxo t] <;> try omega)

theorem final13 (c : Dev nD) : (dats m 0 c).arrAt 13 cfg0.N
    = fun i : S32768x128.Idx => outC (X m c) (Gn m c) (W m c) 640 (by omega) (i 0) (i 1) := by
  refine (dats m 0 c).arrAt_eq_of_covers 13 _ (by decide +kernel) fun t _ y => ?_
  blk_simp
  rw [after0_13]
  unfold outsAt0
  frame_out
  rw [hn_eq, wA_eq]
  refine (pay10_at _ _ y).trans (meet12 m c t 128 (by omega) _ (fun k j => by pointwise) y _ _ ?_ ?_)
  all_goals (blk_simp [idxo t] <;> try omega)

/-! ## The merge's gates -/

theorem pay39_at (H : FVec Ideal S256x1024 .bf16) (U : FVec Ideal S1024x512 .bf16) (y : S256x512.Idx) :
    k0_pay39 (F := Ideal) H U y = sigm (∑ k : Fin 1024, H (ix2 (y 0) k) * U (ix2 k (y 1))) := by
  unfold sigm
  pointwise [k0_pay39]
  rw [zero_sub]

theorem pay42_at (H : FVec Ideal S256x1024 .bf16) (U : FVec Ideal S1024x512 .bf16) (y : S256x512.Idx) :
    k0_pay42 (F := Ideal) (k0_pay40 H U) k0_pay41 y = sigm (∑ k : Fin 1024, H (ix2 (y 0) k) * U (ix2 k (y 1))) := by
  unfold sigm
  pointwise [k0_pay40, k0_pay41, k0_pay42]
  rw [zero_sub]

theorem pay43_at (H : FVec Ideal S256x1024 .bf16) (U : FVec Ideal S1024x512 .bf16) (y : S256x512.Idx) :
    k0_pay43 (F := Ideal) H U y = sigm (∑ k : Fin 1024, H (ix2 (y 0) k) * U (ix2 k (y 1))) := by
  unfold sigm
  pointwise [k0_pay43]
  rw [zero_sub]

theorem pay44_at (H : FVec Ideal S256x1024 .bf16) (U : FVec Ideal S1024x512 .bf16) (y : S256x512.Idx) :
    k0_pay44 (F := Ideal) H U y = sigm (∑ k : Fin 1024, H (ix2 (y 0) k) * U (ix2 k (y 1))) := by
  unfold sigm
  pointwise [k0_pay44]
  rw [zero_sub]

/-- The product with `n` columns of the right weights, from column `o` on. -/
theorem dot_slice (c : Dev nD) (t : Fin cfg0.N) (o : ℕ) (U : FVec Ideal S1024x512 .bf16) (ho : o + 512 ≤ 3072)
    (hU : ∀ (k : Fin 1024) (j : Fin 512), U (ix2 k j) = wA m c t (ix2 k ⟨o + j.val, by omega⟩)) (r : Fin 256) (j : Fin 512) :
    ∑ k : Fin 1024, hn m c t (ix2 r k) * U (ix2 k j) = pt m c t r (colA ⟨o + j.val, by omega⟩) :=
  Eq.trans (Finset.sum_congr rfl fun k _ => congrArg _ (hU k j)) (dotA m c t r ⟨o + j.val, by omega⟩)

theorem meet21 (c : Dev nD) (t : Fin cfg0.N) (o : ℕ) (U : FVec Ideal S1024x512 .bf16) (ho : 1024 ≤ o ∧ o + 512 ≤ 3072)
    (hU : ∀ (k : Fin 1024) (j : Fin 512), U (ix2 k j) = wA m c t (ix2 k ⟨o + j.val, by omega⟩)) (x : S256x512.Idx)
    (p : Fin 32768) (q : Fin 2048) (hp : p.val = t.val * 256 + (x 0).val) (hq : 1024 + q.val = o + (x 1).val) :
    sigm (∑ k : Fin 1024, hn m c t (ix2 (x 0) k) * U (ix2 k (x 1))) = outGM (X m c) (Gn m c) (W m c) p q := by
  have hx : (x 1).val < 512 := (x 1).isLt
  refine congrArg sigm ((dot_slice m c t o U ho.2 hU (x 0) (x 1)).trans (pt_flat m c t _ _ hp _ _ ((colA_hi _ ?_).trans ?_)))
  · show 1024 ≤ o + (x 1).val; omega
  · show 1816 + (o + (x 1).val) = 2840 + q.val; omega

theorem final21 (c : Dev nD) : (dats m 0 c).arrAt 21 cfg0.N
    = fun i : S32768x2048.Idx => outGM (X m c) (Gn m c) (W m c) (i 0) (i 1) := by
  refine (dats m 0 c).arrAt_eq_of_covers 21 _ (by decide +kernel) fun t _ y => ?_
  blk_simp
  rw [after0_21]
  unfold outsAt0
  frame_out
  rw [hn_eq, wA_eq]
  canon_tiles x h
  · refine (pay44_at _ _ x).trans (meet21 m c t 2560 _ (by omega) (fun k j => by pointwise) x _ _ ?_ ?_)
    all_goals (blk_simp [idxo t] <;> try omega)
  · refine (pay43_at _ _ x).trans (meet21 m c t 2048 _ (by omega) (fun k j => by pointwise) x _ _ ?_ ?_)
    all_goals (blk_simp [idxo t] <;> try omega)
  · refine (pay42_at _ _ x).trans (meet21 m c t 1536 _ (by omega) (fun k j => by pointwise) x _ _ ?_ ?_)
    all_goals (blk_simp [idxo t] <;> try omega)
  · refine (pay39_at _ _ x).trans (meet21 m c t 1024 _ (by omega) (fun k j => by pointwise) x _ _ ?_ ?_)
    all_goals (blk_simp [idxo t] <;> try omega)
end Cert.InProjPlain
-- ==== Proof.InProjGates.lean ====
module

public import proofs.«01_k».proof.Proof.InProjPlain

@[expose] public section

set_option maxRecDepth 16384

noncomputable section

open Idealize.ShloMosaic Idealize.ShloMosaic.TcCoe Idealize.SL.Sem
open Idealize.ShloMosaic.Pipeline (Dat)

/-! # The gates, and the values laid out with a row of ones -/

namespace Cert.InProjGates

open Cert.Kernel3Ideal Cert.Kernel3Ideal.Gen Cert.InProjHost Cert.InProjRows Cert.InProjBlocks Cert.InProjPlain

variable (m : (ℓ : Loc nD τ sig) → Buf (Elt Ideal) ℓ)

/-! ## The gates -/

theorem pay2_at (H : FVec Ideal S256x1024 .bf16) (U : FVec Ideal S32x1024 .bf16) (y : S1x1x16x256.Idx) :
    k0_pay2 (F := Ideal) (k0_pay145 U H) y
      = sigm (∑ k : Fin 1024, U (ix2 ⟨0 * 16 + (y 2).val, by have h : (y 2).val < 16 := (y 2).isLt; omega⟩ k) * H (ix2 (y 3) k)) := by
  unfold sigm
  pointwise [k0_pay2, k0_pay1, k0_pay145]
  rw [zero_sub]

theorem pay3_at (H : FVec Ideal S256x1024 .bf16) (U : FVec Ideal S32x1024 .bf16) (y : S1x1x16x256.Idx) :
    k0_pay3 (F := Ideal) (k0_pay145 U H) y
      = sigm (∑ k : Fin 1024, U (ix2 ⟨1 * 16 + (y 2).val, by have h : (y 2).val < 16 := (y 2).isLt; omega⟩ k) * H (ix2 (y 3) k)) := by
  unfold sigm
  pointwise [k0_pay3, k0_pay1, k0_pay145]
  rw [zero_sub]

theorem meet11 (c : Dev nD) (t : Fin cfg0.N) (o : Fin 2) (U : FVec Ideal S32x1024 .bf16)
    (hU : ∀ (r : Fin 32) (k : Fin 1024), U (ix2 r k) = wB m c t (ix2 ⟨1792 + r.val, by omega⟩ k)) (x : S1x1x16x256.Idx)
    (b : Fin 8) (q : Fin 2) (j : Fin 16) (s : Fin 4096) (hb : b.val = t.val / 16) (hq : q.val = o.val) (hj : j.val = (x 2).val)
    (hs : s.val = t.val % 16 * 256 + (x 3).val) :
    sigm (∑ k : Fin 1024, U (ix2 ⟨o.val * 16 + (x 2).val, by have h : (x 2).val < 16 := (x 2).isLt; omega⟩ k) * hn m c t (ix2 (x 3) k))
      = outG (X m c) (Gn m c) (W m c) b q j s := by
  have hx : (x 2).val < 16 := (x 2).isLt
  obtain rfl : q = o := Fin.ext hq
  unfold outG
  refine congrArg sigm (Eq.trans (Finset.sum_congr rfl fun k _ => congrArg (· * _) ((hU ⟨q.val * 16 + (x 2).val, by omega⟩ k).trans ?_))
    ((dotG m c t (x 3) q j).trans ?_))
  · exact congrArg (fun a => wB m c t (ix2 a k)) (Fin.ext (by show 1792 + (q.val * 16 + (x 2).val) = 1792 + (q.val * 16 + j.val); omega))
  · split
    · exact pt_at m c t _ _ _ hb hs _ _ rfl
    · rfl

theorem final11 (c : Dev nD) : (dats m 0 c).arrAt 11 cfg0.N
    = fun i : S8x2x16x4096.Idx => outG (X m c) (Gn m c) (W m c) (i 0) (i 1) (i 2) (i 3) := by
  refine (dats m 0 c).arrAt_eq_of_covers 11 _ (by decide +kernel) fun t _ y => ?_
  blk_simp
  rw [after0_11]
  unfold outsAt0
  frame_out
  rw [hn_eq, wB_eq]
  canon_tiles x h
  · refine (pay3_at _ _ x).trans (meet11 m c t 1 _ (fun r k => by pointwise) x _ _ _ _ ?_ ?_ ?_ ?_)
    all_goals (blk_simp [idxo t] <;> try omega)
  · refine (pay2_at _ _ x).trans (meet11 m c t 0 _ (fun r k => by pointwise) x _ _ _ _ ?_ ?_ ?_ ?_)
    all_goals (blk_simp [idxo t] <;> try omega)

/-! ## Values over a row of ones -/

theorem meetV (c : Dev nD) (t : Fin cfg0.N) {H : ℕ} (n o : ℕ) (hn' : n + H * 64 ≤ 4888) (ho : o + H * 64 ≤ 1792) (x3 : Fin 64) (x4 : Fin 256)
    (hc : ∀ a : Fin 1792, o ≤ a.val → a.val < o + H * 64 → (colB a).val + o = n + a.val)
    (b : Fin 8) (h : Fin H) (i : Fin 16) (v : Fin 80) (p : Fin 256) (u : Fin 1024 → EReal) (r : Fin 1824) (hu : ∀ k, u k = wB m c t (ix2 r k))
    (hr : r.val = o + (h.val * 64 + x3.val)) (hb : b.val = t.val / 16) (hi : i.val = t.val % 16) (hv : v.val = x3.val)
    (hp : p.val = x4.val) :
    ∑ k : Fin 1024, u k * hn m c t (ix2 x4 k) = outV (X m c) (Gn m c) (W m c) n hn' b h i v p := by
  have h3 : v.val < 64 := by omega
  have hh : h.val * 64 + x3.val < H * 64 := by have := h.isLt; have := x3.isLt; nlinarith
  unfold outV
  rw [dif_pos h3]
  refine (dot_row m c t x4 ⟨o + (h.val * 64 + x3.val), by omega⟩ u fun k => (hu k).trans (congrArg (fun a => wB m c t (ix2 a k)) (Fin.ext hr))).trans (pt_at m c t _ _ _ hb (by show i.val * 256 + p.val = _; omega) _ _ ?_)
  have := hc ⟨o + (h.val * 64 + x3.val), by omega⟩ (by show o ≤ o + _; omega) (by show o + _ < o + H * 64; omega)
  show (colB _).val = n + (h.val * 64 + v.val)
  dsimp only at this
  omega

theorem colB_sel (a : Fin 1792) (h : 1024 + 0 * 64 ≤ a.val) (h' : a.val < 1024 + 0 * 64 + 2 * 64) : (colB a).val + (1024 + 0 * 64) = 896 + a.val := by
  unfold colB
  simp only [show ¬ a.val < 512 by omega, show ¬ a.val < 1024 by omega, show a.val < 1152 by omega, if_false, if_true]
  omega

theorem colB_win (a : Fin 1792) (h : 1024 + 2 * 64 ≤ a.val) (h' : a.val < 1024 + 2 * 64 + 2 * 64) : (colB a).val + (1024 + 2 * 64) = 1152 + a.val := by
  unfold colB
  simp only [show ¬ a.val < 512 by omega, show ¬ a.val < 1024 by omega, show ¬ a.val < 1152 by omega, show a.val < 1280 by omega, if_false, if_true]
  omega

theorem colB_blk (a : Fin 1792) (h : 1280 ≤ a.val) (_ : a.val < 1280 + 8 * 64) : (colB a).val + 1280 = 2328 + a.val := by
  unfold colB
  simp only [show ¬ a.val < 512 by omega, show ¬ a.val < 1024 by omega, show ¬ a.val < 1152 by omega, show ¬ a.val < 1280 by omega, if_false]
  omega

theorem meet1 (c : Dev nD) {H : ℕ} (n : ℕ) (hn' : n + H * 64 ≤ 4888) (x3 : Fin 16)
    (b : Fin 8) (h : Fin H) (i : Fin 16) (v : Fin 80) (p : Fin 256) (hv : v.val = 64 + x3.val) :
    Scalar.select (IntOp.cmpi CmpIPredicate.eq (BitVec.ofNat 32 x3.val) 0#32) (1 : EReal) 0 = outV (X m c) (Gn m c) (W m c) n hn' b h i v p := by
  have h3 : ¬ v.val < 64 := by omega
  unfold outV
  rw [dif_neg h3]
  refine (hot_eq x3.val 0 (by omega) (by omega)).trans ?_
  unfold hot
  simp only [show (x3.val = 0) ↔ (v.val = 64) by omega]

/-- Rows `64 q` to `64 q + 63` of the product of a block's left weights with its normalised rows. -/
def rows256 (U : FVec Ideal S256x1024 .bf16) (H : FVec Ideal S256x1024 .bf16) (q : Fin 4) (y : S1x1x1x64x256.Idx) : EReal :=
  ∑ k : Fin 1024, U (ix2 ⟨q.val * 64 + (y 3).val, by have h : (y 3).val < 64 := (y 3).isLt; omega⟩ k) * H (ix2 (y 4) k)

/-- The same of the larger block. -/
def rows512 (U : FVec Ideal S512x1024 .bf16) (H : FVec Ideal S256x1024 .bf16) (q : Fin 8) (y : S1x1x1x64x256.Idx) : EReal :=
  ∑ k : Fin 1024, U (ix2 ⟨q.val * 64 + (y 3).val, by have h : (y 3).val < 64 := (y 3).isLt; omega⟩ k) * H (ix2 (y 4) k)

theorem rows256_at (U : FVec Ideal S256x1024 .bf16) (H : FVec Ideal S256x1024 .bf16) (y : S1x1x1x64x256.Idx) :
    k0_pay119 (F := Ideal) U H y = rows256 U H 0 y ∧ k0_pay124 (F := Ideal) (k0_pay118 U H) y = rows256 U H 1 y
      ∧ k0_pay122 (F := Ideal) (k0_pay121 U H) y = rows256 U H 2 y ∧ k0_pay126 (F := Ideal) (k0_pay118 U H) y = rows256 U H 3 y := by
  unfold rows256
  refine ⟨?_, ?_, ?_, ?_⟩
  · pointwise [k0_pay119, k0_pay118]
  · pointwise [k0_pay124, k0_pay118]
  · pointwise [k0_pay122, k0_pay121, k0_pay118]
  · pointwise [k0_pay126, k0_pay118]

theorem rows512_at (U : FVec Ideal S512x1024 .bf16) (H : FVec Ideal S256x1024 .bf16) (y : S1x1x1x64x256.Idx) :
    k0_pay129 (F := Ideal) U H y = rows512 U H 0 y ∧ k0_pay131 (F := Ideal) U H y = rows512 U H 1 y ∧ k0_pay133 (F := Ideal) U H y = rows512 U H 2 y
      ∧ k0_pay135 (F := Ideal) (k0_pay128 U H) y = rows512 U H 3 y ∧ k0_pay137 (F := Ideal) (k0_pay128 U H) y = rows512 U H 4 y
      ∧ k0_pay139 (F := Ideal) (k0_pay128 U H) y = rows512 U H 5 y ∧ k0_pay141 (F := Ideal) (k0_pay128 U H) y = rows512 U H 6 y
      ∧ k0_pay143 (F := Ideal) (k0_pay128 U H) y = rows512 U H 7 y := by
  unfold rows512
  refine ⟨?_, ?_, ?_, ?_, ?_, ?_, ?_, ?_⟩ <;>
    pointwise [k0_pay128, k0_pay129, k0_pay131, k0_pay133, k0_pay135, k0_pay137, k0_pay139, k0_pay141, k0_pay143]

/-- The selection's and the window's values. -/
theorem meet256 (c : Dev nD) (t : Fin cfg0.N) (n q0 : ℕ) (hn' : n + 2 * 64 ≤ 4888) (hq0 : q0 + 2 ≤ 4) (U : FVec Ideal S256x1024 .bf16)
    (hU : ∀ (r : Fin 256) (k : Fin 1024), U (ix2 r k) = wB m c t (ix2 ⟨1024 + r.val, by omega⟩ k))
    (hc : ∀ a : Fin 1792, 1024 + q0 * 64 ≤ a.val → a.val < 1024 + q0 * 64 + 2 * 64 → (colB a).val + (1024 + q0 * 64) = n + a.val)
    (q : Fin 4) (x : S1x1x1x64x256.Idx)
    (b : Fin 8) (h : Fin 2) (i : Fin 16) (v : Fin 80) (p : Fin 256) (hq : q.val = q0 + h.val) (hb : b.val = t.val / 16) (hi : i.val = t.val % 16)
    (hv : v.val = (x 3).val) (hp : p.val = (x 4).val) :
    rows256 U (hn m c t) q x = outV (X m c) (Gn m c) (W m c) n hn' b h i v p := by
  have hx : (x 3).val < 64 := (x 3).isLt
  exact meetV m c t n (1024 + q0 * 64) hn' (by omega) (x 3) (x 4) hc b h i v p (fun k => U (ix2 ⟨q.val * 64 + (x 3).val, by omega⟩ k))
    ⟨1024 + (q.val * 64 + (x 3).val), by omega⟩ (fun k => hU ⟨q.val * 64 + (x 3).val, by omega⟩ k)
    (by show 1024 + (q.val * 64 + (x 3).val) = 1024 + q0 * 64 + (h.val * 64 + (x 3).val); omega) hb hi hv hp

/-- The block attention's values. -/
theorem meet512 (c : Dev nD) (t : Fin cfg0.N) (U : FVec Ideal S512x1024 .bf16)
    (hU : ∀ (r : Fin 512) (k : Fin 1024), U (ix2 r k) = wB m c t (ix2 ⟨1280 + r.val, by omega⟩ k))
    (q : Fin 8) (x : S1x1x1x64x256.Idx)
    (b : Fin 8) (h : Fin 8) (i : Fin 16) (v : Fin 80) (p : Fin 256) (hq : q.val = h.val) (hb : b.val = t.val / 16) (hi : i.val = t.val % 16)
    (hv : v.val = (x 3).val) (hp : p.val = (x 4).val) :
    rows512 U (hn m c t) q x = outV (X m c) (Gn m c) (W m c) 2328 (by omega) b h i v p := by
  have hx : (x 3).val < 64 := (x 3).isLt
  exact meetV m c t 2328 1280 (by omega) (by omega) (x 3) (x 4) colB_blk b h i v p (fun k => U (ix2 ⟨q.val * 64 + (x 3).val, by omega⟩ k))
    ⟨1280 + (q.val * 64 + (x 3).val), by omega⟩ (fun k => hU ⟨q.val * 64 + (x 3).val, by omega⟩ k)
    (by show 1280 + (q.val * 64 + (x 3).val) = 1280 + (h.val * 64 + (x 3).val); omega) hb hi hv hp

set_option maxHeartbeats 1000000 in
theorem final16 (c : Dev nD) : (dats m 0 c).arrAt 16 cfg0.N
    = fun i : S8x2x16x80x256.Idx => outV (H := 2) (X m c) (Gn m c) (W m c) 896 (by omega) (i 0) (i 1) (i 2) (i 3) (i 4) := by
  refine (dats m 0 c).arrAt_eq_of_covers 16 _ (by decide +kernel) fun t _ y => ?_
  blk_simp
  rw [after0_16]
  unfold outsAt0
  frame_out
  rw [hn_eq, wB_eq]
  canon_tiles x h using View.cover_of_tiledBy _ ![1, 1, 1, 16, 256] (by sl_kernel_rfl) _
  case piece0 | piece2 =>
    pointwise [k0_pay117, k0_pay120, k0_pay125]
    refine meet1 m c _ _ (x 3) _ _ _ _ _ ?_
    blk_simp [idxo t] <;> try omega
  case piece1 =>
    refine ((rows256_at _ _ x).2.1).trans (meet256 m c t 896 0 _ (by omega) _ (fun r k => by pointwise) colB_sel _ x _ _ _ _ _ ?_ ?_ ?_ ?_ ?_)
    all_goals (blk_simp [idxo t] <;> try omega)
  case piece3 =>
    refine ((rows256_at _ _ x).1).trans (meet256 m c t 896 0 _ (by omega) _ (fun r k => by pointwise) colB_sel _ x _ _ _ _ _ ?_ ?_ ?_ ?_ ?_)
    all_goals (blk_simp [idxo t] <;> try omega)

set_option maxHeartbeats 1000000 in
theorem final17 (c : Dev nD) : (dats m 0 c).arrAt 17 cfg0.N
    = fun i : S8x2x16x80x256.Idx => outV (H := 2) (X m c) (Gn m c) (W m c) 1152 (by omega) (i 0) (i 1) (i 2) (i 3) (i 4) := by
  refine (dats m 0 c).arrAt_eq_of_covers 17 _ (by decide +kernel) fun t _ y => ?_
  blk_simp
  rw [after0_17]
  unfold outsAt0
  frame_out
  rw [hn_eq, wB_eq]
  canon_tiles x h using View.cover_of_tiledBy _ ![1, 1, 1, 16, 256] (by sl_kernel_rfl) _
  case piece0 | piece2 =>
    pointwise [k0_pay117, k0_pay123, k0_pay127]
    refine meet1 m c _ _ (x 3) _ _ _ _ _ ?_
    blk_simp [idxo t] <;> try omega
  case piece1 =>
    refine ((rows256_at _ _ x).2.2.2).trans (meet256 m c t 1152 2 _ (by omega) _ (fun r k => by pointwise) colB_win _ x _ _ _ _ _ ?_ ?_ ?_ ?_ ?_)
    all_goals (blk_simp [idxo t] <;> try omega)
  case piece3 =>
    refine ((rows256_at _ _ x).2.2.1).trans (meet256 m c t 1152 2 _ (by omega) _ (fun r k => by pointwise) colB_win _ x _ _ _ _ _ ?_ ?_ ?_ ?_ ?_)
    all_goals (blk_simp [idxo t] <;> try omega)

theorem emb19 (t : Fin cfg0.N) (y : S1x8x1x80x256.Idx) :
    ((((View.whole main_v59_10).slice (win0_19.rect t)).emb y) 0).val = t.val / 16 + (y 0).val
    ∧ ((((View.whole main_v59_10).slice (win0_19.rect t)).emb y) 1).val = (y 1).val
    ∧ ((((View.whole main_v59_10).slice (win0_19.rect t)).emb y) 2).val = t.val % 16 + (y 2).val
    ∧ ((((View.whole main_v59_10).slice (win0_19.rect t)).emb y) 3).val = (y 3).val
    ∧ ((((View.whole main_v59_10).slice (win0_19.rect t)).emb y) 4).val = (y 4).val := by
  refine ⟨?_, ?_, ?_, ?_, ?_⟩
  all_goals (blk_simp [idxo t] <;> try omega)

set_option maxHeartbeats 4000000 in
theorem final19 (c : Dev nD) : (dats m 0 c).arrAt 19 cfg0.N
    = fun i : S8x8x16x80x256.Idx => outV (H := 8) (X m c) (Gn m c) (W m c) 2328 (by omega) (i 0) (i 1) (i 2) (i 3) (i 4) := by
  refine (dats m 0 c).arrAt_eq_of_covers 19 _ (by decide +kernel) fun t _ y => ?_
  blk_simp
  rw [after0_19]
  unfold outsAt0
  frame_out
  rw [hn_eq, wB_eq]
  have he := emb19 t y
  canon_tiles x h using View.cover_of_tiledBy _ ![1, 1, 1, 16, 256] (by sl_kernel_rfl) _
  case piece0 | piece2 | piece4 | piece6 | piece8 | piece10 | piece12 | piece14 =>
    pointwise [k0_pay117, k0_pay130, k0_pay132, k0_pay134, k0_pay136, k0_pay138, k0_pay140, k0_pay142, k0_pay144]
    refine meet1 m c _ _ (x 3) _ _ _ _ _ ?_
    omega
  case piece15 =>
    refine ((rows512_at _ _ x).1).trans (meet512 m c t _ (fun r k => by pointwise) _ x _ _ _ _ _ ?_ ?_ ?_ ?_ ?_)
    all_goals omega
  case piece13 =>
    refine ((rows512_at _ _ x).2.1).trans (meet512 m c t _ (fun r k => by pointwise) _ x _ _ _ _ _ ?_ ?_ ?_ ?_ ?_)
    all_goals omega
  case piece11 =>
    refine ((rows512_at _ _ x).2.2.1).trans (meet512 m c t _ (fun r k => by pointwise) _ x _ _ _ _ _ ?_ ?_ ?_ ?_ ?_)
    all_goals omega
  case piece9 =>
    refine ((rows512_at _ _ x).2.2.2.1).trans (meet512 m c t _ (fun r k => by pointwise) _ x _ _ _ _ _ ?_ ?_ ?_ ?_ ?_)
    all_goals omega
  case piece7 =>
    refine ((rows512_at _ _ x).2.2.2.2.1).trans (meet512 m c t _ (fun r k => by pointwise) _ x _ _ _ _ _ ?_ ?_ ?_ ?_ ?_)
    all_goals omega
  case piece5 =>
    refine ((rows512_at _ _ x).2.2.2.2.2.1).trans (meet512 m c t _ (fun r k => by pointwise) _ x _ _ _ _ _ ?_ ?_ ?_ ?_ ?_)
    all_goals omega
  case piece3 =>
    refine ((rows512_at _ _ x).2.2.2.2.2.2.1).trans (meet512 m c t _ (fun r k => by pointwise) _ x _ _ _ _ _ ?_ ?_ ?_ ?_ ?_)
    all_goals omega
  case piece1 =>
    refine ((rows512_at _ _ x).2.2.2.2.2.2.2).trans (meet512 m c t _ (fun r k => by pointwise) _ x _ _ _ _ _ ?_ ?_ ?_ ?_ ?_)
    all_goals omega

end Cert.InProjGates
-- ==== Proof.InProjKeys.lean ====
module

public import proofs.«01_k».proof.Proof.InProjPlain

@[expose] public section

set_option maxRecDepth 16384

noncomputable section

open Idealize.ShloMosaic Idealize.ShloMosaic.TcCoe Idealize.SL.Sem
open Idealize.ShloMosaic.Pipeline (Dat)

/-! # The projection's keys: turned by position, beside markers of the blocks they are of, and their means -/

namespace Cert.InProjKeys

open Cert.Kernel3Ideal Cert.Kernel3Ideal.Gen Cert.InProjHost Cert.InProjRows Cert.InProjBlocks Cert.InProjPlain

variable (m : (ℓ : Loc nD τ sig) → Buf (Elt Ideal) ℓ)

/-- A turn read off three tables at lane `l`: the lane itself, the lane eight further and the lane eight before. -/
def lane3 (y : Fin 128 → EReal) (C D E : EReal) (l : Fin 128) : EReal :=
  y l * C + y ⟨(l.val + 128 - 120) % 128, Nat.mod_lt _ (by omega)⟩ * D + y ⟨(l.val + 128 - 8) % 128, Nat.mod_lt _ (by omega)⟩ * E

/-! ## The payloads -/

theorem pay5_at (C : FVec Ideal S256x128 .f32) (i : S256x128.Idx) : k0_pay5 (F := Ideal) C i = C i := by pointwise [k0_pay5]
theorem pay6_at (C : FVec Ideal S256x128 .f32) (i : S256x128.Idx) : k0_pay6 (F := Ideal) C i = C i := by pointwise [k0_pay6]
theorem pay7_at (C : FVec Ideal S256x128 .f32) (i : S256x128.Idx) : k0_pay7 (F := Ideal) C i = C i := by pointwise [k0_pay7]

theorem pay12_at (C D E : FVec Ideal S256x128 .f32) (H : FVec Ideal S256x1024 .bf16) (U : FVec Ideal S1024x256 .bf16) (y : S1x1x256x128.Idx) :
    k0_pay12 (F := Ideal) C D E H U y = lane3 (fun a => k0_pay11 (F := Ideal) H U (ix2 (y 2) ⟨0 + a.val, by omega⟩))
      (C (ix2 (y 2) (y 3))) (D (ix2 (y 2) (y 3))) (E (ix2 (y 2) (y 3))) (y 3) := by
  unfold lane3
  pointwise [k0_pay12]

theorem pay15_at (C D E : FVec Ideal S256x128 .f32) (P : FVec Ideal S256x256 .f32) (y : S1x1x256x128.Idx) :
    k0_pay15 (F := Ideal) C D E P y = lane3 (fun a => P (ix2 (y 2) ⟨128 + a.val, by omega⟩))
      (C (ix2 (y 2) (y 3))) (D (ix2 (y 2) (y 3))) (E (ix2 (y 2) (y 3))) (y 3) := by
  unfold lane3
  pointwise [k0_pay15]

/-- The turned lanes `128 q` to `128 q + 127` of a projection. -/
def turn512 (C D E : FVec Ideal S256x128 .f32) (P : FVec Ideal S256x512 .f32) (q : Fin 4) (r : Fin 256) (l : Fin 128) : EReal :=
  lane3 (fun a => P (ix2 r ⟨q.val * 128 + a.val, by omega⟩)) (C (ix2 r l)) (D (ix2 r l)) (E (ix2 r l)) l

theorem turns (C D E : FVec Ideal S256x128 .f32) (H : FVec Ideal S256x1024 .bf16) (U : FVec Ideal S1024x512 .bf16) (y : S1x1x256x128.Idx) :
    k0_pay21 (F := Ideal) (k0_pay18 C D E H U) y = turn512 C D E (k0_pay16 (F := Ideal) H U) 0 (y 2) (y 3)
    ∧ k0_pay25 (F := Ideal) C D E (k0_pay16 H U) y = turn512 C D E (k0_pay16 (F := Ideal) H U) 1 (y 2) (y 3)
    ∧ k0_pay31 (F := Ideal) D E (k0_pay27 (k0_pay16 H U)) (k0_pay28 C (k0_pay16 H U)) y = turn512 C D E (k0_pay16 (F := Ideal) H U) 2 (y 2) (y 3)
    ∧ k0_pay35 (F := Ideal) C D E (k0_pay16 H U) y = turn512 C D E (k0_pay16 (F := Ideal) H U) 3 (y 2) (y 3) := by
  unfold turn512 lane3
  generalize hP : k0_pay16 (F := Ideal) H U = P
  refine ⟨?_, ?_, ?_, ?_⟩
  · unfold k0_pay18; rw [hP]; pointwise [k0_pay21]
  · pointwise [k0_pay25, k0_pay23]
  · pointwise [k0_pay31, k0_pay29, k0_pay28, k0_pay27]
  · pointwise [k0_pay35, k0_pay33]

/-- The four means of turned lanes, one below the other eight times. -/
theorem pay38_at (C D E : FVec Ideal S256x128 .f32) (H : FVec Ideal S256x1024 .bf16) (U : FVec Ideal S1024x512 .bf16) (y : S1x8x512.Idx) :
    k0_pay38 (F := Ideal) (k0_pay20 (k0_pay19 C D E H U)) (k0_pay24 C D E (k0_pay16 H U))
      (k0_pay30 D E (k0_pay27 (k0_pay16 H U)) (k0_pay28 C (k0_pay16 H U))) (k0_pay34 C D E (k0_pay16 H U)) y
    = Ideal.div (∑ p : Fin 256, turn512 C D E (k0_pay16 (F := Ideal) H U) ⟨(y 2).val / 128, by have h : (y 2).val < 512 := (y 2).isLt; omega⟩ p
        ⟨(y 2).val % 128, Nat.mod_lt _ (by omega)⟩) (Ideal.ofBits .f32 0x43800000#32) := by
  unfold turn512 lane3 k0_pay19 k0_pay18
  generalize hP : k0_pay16 (F := Ideal) H U = P
  pointwise [k0_pay38, k0_pay20, k0_pay24, k0_pay23, k0_pay30, k0_pay29, k0_pay28, k0_pay27, k0_pay34, k0_pay33]
  have h : (y 2).val < 512 := (y 2).isLt
  repeat' split
  all_goals
    refine congrArg (fun s => Ideal.div s _) (Finset.sum_congr rfl fun x _ => congrArg₂ (· + ·) (congrArg₂ (· + ·) (congrArg₂ (· * ·) ?_ ?_)
      (congrArg₂ (· * ·) ?_ ?_)) (congrArg₂ (· * ·) ?_ ?_))
    all_goals blk_ext

/-! ## The lanes are turned heads -/

theorem lane_pt (c : Dev nD) (t : Fin cfg0.N) (n o : ℕ) (hn' : n + 128 ≤ 4888) (ho : o + 128 ≤ 3072)
    (hc : ∀ a : Fin 3072, o ≤ a.val → a.val < o + 128 → (colA a).val + o = n + a.val) (y : Fin 128 → EReal) (r : Fin 256) (l : Fin 128)
    (hy : ∀ a : Fin 128, y a = pt m c t r (colA ⟨o + a.val, by omega⟩)) (b : Fin 8) (i : Fin 16) (r' : Fin 256) (l' : Fin 128)
    (hb : b.val = t.val / 16) (hi : i.val = t.val % 16) (hr : r'.val = r.val) (hl : l'.val = l.val) :
    lane3 y (k0_pay5 (F := Ideal) (tC m c t) (ix2 r l)) (k0_pay6 (F := Ideal) (tH m c t) (ix2 r l)) (k0_pay7 (F := Ideal) (tL m c t) (ix2 r l)) l
      = outK (X m c) (Gn m c) (W m c) n hn' b i r' l' := by
  obtain rfl : r' = r := Fin.ext hr
  obtain rfl : l' = l := Fin.ext hl
  rw [pay5_at, pay6_at, pay7_at]
  refine (rope_lane y (cosAt (ts t r')) (sinAt (ts t r')) l' _ _ _ (cos_at m c t r' l') (hi_at m c t r' l') (lo_at m c t r' l')).trans ?_
  unfold outK turned
  have es : (⟨i.val * 256 + r'.val, by omega⟩ : Fin 4096) = ts t r' := Fin.ext (by show i.val * 256 + r'.val = t.val % 16 * 256 + r'.val; omega)
  rw [es]
  congr 1
  funext f
  refine (hy _).trans (pt_at m c t r' b _ hb rfl _ _ ?_)
  have e : (colA ⟨o + (l'.val / 64 * 64 + f.val), by omega⟩).val + o = n + (o + (l'.val / 64 * 64 + f.val)) :=
    hc _ (by show o ≤ o + _; omega) (by show o + _ < o + 128; omega)
  show (colA ⟨o + (l'.val / 64 * 64 + f.val), _⟩).val = n + l'.val / 64 * 64 + f.val
  omega

theorem colA_selk (a : Fin 3072) (h : 256 ≤ a.val) (h' : a.val < 256 + 128) : (colA a).val + 256 = 768 + a.val := by
  unfold colA
  simp only [show a.val < 384 by omega, if_true]
  omega

theorem colA_wink (a : Fin 3072) (h : 384 ≤ a.val) (h' : a.val < 384 + 128) : (colA a).val + 384 = 1024 + a.val := by
  unfold colA
  simp only [show ¬ a.val < 384 by omega, show a.val < 512 by omega, if_true, if_false]
  omega

theorem colA_blk (q : ℕ) (hq : q < 4) (a : Fin 3072) (h : 512 + q * 128 ≤ a.val) (h' : a.val < 512 + q * 128 + 128) :
    (colA a).val + (512 + q * 128) = 1816 + q * 128 + a.val := by
  unfold colA
  simp only [show ¬ a.val < 384 by omega, show ¬ a.val < 512 by omega, show a.val < 1024 by omega, if_true, if_false]
  omega

theorem pay11_at (c : Dev nD) (t : Fin cfg0.N) (U : FVec Ideal S1024x256 .bf16)
    (hU : ∀ (k : Fin 1024) (j : Fin 256), U (ix2 k j) = wA m c t (ix2 k ⟨256 + j.val, by omega⟩)) (r : Fin 256) (a : Fin 256) :
    k0_pay11 (F := Ideal) (hn m c t) U (ix2 r a) = pt m c t r (colA ⟨256 + a.val, by omega⟩) := by
  pointwise [k0_pay11]
  exact dot_col m c t r ⟨256 + a.val, by omega⟩ (fun k => U (ix2 k a)) fun k => hU k a

theorem pay16_at (c : Dev nD) (t : Fin cfg0.N) (U : FVec Ideal S1024x512 .bf16)
    (hU : ∀ (k : Fin 1024) (j : Fin 512), U (ix2 k j) = wA m c t (ix2 k ⟨512 + j.val, by omega⟩)) (r : Fin 256) (a : Fin 512) :
    k0_pay16 (F := Ideal) (hn m c t) U (ix2 r a) = pt m c t r (colA ⟨512 + a.val, by omega⟩) := by
  pointwise [k0_pay16]
  exact dot_col m c t r ⟨512 + a.val, by omega⟩ (fun k => U (ix2 k a)) fun k => hU k a

/-! ## The markers -/

/-- The number of the block of 256 positions, as the kernel computes it from the grid position. -/
theorem word : ∀ t : Fin cfg0.N, Scalar.select
      (Scalar.andi
        (Scalar.xori (Scalar.cmpi CmpIPredicate.slt (Scalar.remsi (BitVec.ofNat 32 (grid0.coords t 0).val) 16#32) 0#32) 0#1)
        (Scalar.cmpi CmpIPredicate.ne (Scalar.remsi (BitVec.ofNat 32 (grid0.coords t 0).val) 16#32) 0#32))
      (Scalar.addi (Scalar.remsi (BitVec.ofNat 32 (grid0.coords t 0).val) 16#32) 16#32)
      (Scalar.remsi (BitVec.ofNat 32 (grid0.coords t 0).val) 16#32) = BitVec.ofNat 32 (t.val % 16) :=
  (by decide +kernel : ∀ t : Fin grid0.N, _)

/-- The number of the block of 64 positions, as the kernel shifts it out. -/
theorem shifted : ∀ (i : Fin 16) (r : Fin 256),
    IntOp.shrsi ArithUnit.vector (IntOp.addi (Scalar.muli (BitVec.ofNat 32 i.val) 256#32) (BitVec.ofNat 32 r.val)) 6#32
      = BitVec.ofNat 32 ((i.val * 256 + r.val) / 64) := by
  decide +kernel

theorem mark64 (i : Fin 16) (y : S1x1x256x128.Idx) :
    k0_pay14 (F := Ideal) (k0_pay13 (BitVec.ofNat 32 i.val)) (FloatOps.ofBits FTy.f32 1065353216#32) (FloatOps.ofBits FTy.f32 0#32) y
      = hot ((i.val * 256 + (y 2).val) / 64 = (y 3).val) := by
  have h2 : (y 2).val < 256 := (y 2).isLt
  have h3 : (y 3).val < 128 := (y 3).isLt
  pointwise [k0_pay14, k0_pay13]
  rw [shifted i (y 2)]
  exact hot_eq _ _ (by have := i.isLt; omega) (by omega)

theorem mark256 (i : Fin 16) (y : S1x1x256x128.Idx) :
    k0_pay22 (F := Ideal) (k0_pay17 (BitVec.ofNat 32 i.val) (iota Kind.tc S1x128 32 [1] iota_S1x128_d1_w32)) y = hot ((y 3).val = i.val)
    ∧ k0_pay26 (F := Ideal) (k0_pay17 (BitVec.ofNat 32 i.val) (iota Kind.tc S1x128 32 [1] iota_S1x128_d1_w32)) y = hot ((y 3).val = i.val)
    ∧ k0_pay32 (F := Ideal) (k0_pay17 (BitVec.ofNat 32 i.val) (iota Kind.tc S1x128 32 [1] iota_S1x128_d1_w32)) y = hot ((y 3).val = i.val)
    ∧ k0_pay37 (F := Ideal) (k0_pay36 (k0_pay17 (BitVec.ofNat 32 i.val) (iota Kind.tc S1x128 32 [1] iota_S1x128_d1_w32))) y = hot ((y 3).val = i.val) := by
  have h3 : (y 3).val < 128 := (y 3).isLt
  have e := hot_eq (y 3).val i.val (by omega) (by omega)
  refine ⟨?_, ?_, ?_, ?_⟩
  · pointwise [k0_pay22, k0_pay17]; exact e
  · pointwise [k0_pay26, k0_pay17]; exact e
  · pointwise [k0_pay32, k0_pay17]; exact e
  · pointwise [k0_pay37, k0_pay36, k0_pay17]; exact e

/-! ## The results -/

theorem meetTurn (c : Dev nD) (t : Fin cfg0.N) (U : FVec Ideal S1024x512 .bf16)
    (hU : ∀ (k : Fin 1024) (j : Fin 512), U (ix2 k j) = wA m c t (ix2 k ⟨512 + j.val, by omega⟩)) (q : Fin 4) (r : Fin 256) (l : Fin 128)
    (b : Fin 8) (i : Fin 16) (r' : Fin 256) (l' : Fin 128) (hb : b.val = t.val / 16) (hi : i.val = t.val % 16) (hr : r'.val = r.val) (hl : l'.val = l.val) :
    turn512 (k0_pay5 (F := Ideal) (tC m c t)) (k0_pay6 (F := Ideal) (tH m c t)) (k0_pay7 (F := Ideal) (tL m c t)) (k0_pay16 (F := Ideal) (hn m c t) U) q r l
      = outK (X m c) (Gn m c) (W m c) (1816 + q.val * 128) (by omega) b i r' l' :=
  lane_pt m c t (1816 + q.val * 128) (512 + q.val * 128) (by omega) (by omega) (colA_blk q.val q.isLt) _ r l
    (fun a => (pay16_at m c t U hU r ⟨q.val * 128 + a.val, by omega⟩).trans
      (congrArg (pt m c t r) (congrArg colA (Fin.ext (by show 512 + (q.val * 128 + a.val) = 512 + q.val * 128 + a.val; omega)))))
    b i r' l' hb hi hr hl

theorem meet20 (c : Dev nD) (t : Fin cfg0.N) (U : FVec Ideal S1024x512 .bf16)
    (hU : ∀ (k : Fin 1024) (j : Fin 512), U (ix2 k j) = wA m c t (ix2 k ⟨512 + j.val, by omega⟩)) (d : Fin 512) (b : Fin 8) (r : Fin 128) (d' : Fin 512)
    (hb : b.val = t.val / 16) (hi : r.val / 8 = t.val % 16) (hd : d'.val = d.val) :
    Ideal.div (∑ p : Fin 256, turn512 (k0_pay5 (F := Ideal) (tC m c t)) (k0_pay6 (F := Ideal) (tH m c t)) (k0_pay7 (F := Ideal) (tL m c t))
        (k0_pay16 (F := Ideal) (hn m c t) U) ⟨d.val / 128, by omega⟩ p ⟨d.val % 128, Nat.mod_lt _ (by omega)⟩) (Ideal.ofBits .f32 0x43800000#32)
      = outMean (X m c) (Gn m c) (W m c) b r d' := by
  obtain rfl : d' = d := Fin.ext hd
  unfold outMean
  exact congrArg (fun s => Ideal.div s _) (Finset.sum_congr rfl fun p _ => meetTurn m c t U hU ⟨d'.val / 128, by omega⟩ p _ b ⟨r.val / 8, by omega⟩ p _ hb hi rfl rfl)

theorem final20 (c : Dev nD) : (dats m 0 c).arrAt 20 cfg0.N
    = fun i : S8x128x512.Idx => outMean (X m c) (Gn m c) (W m c) (i 0) (i 1) (i 2) := by
  refine (dats m 0 c).arrAt_eq_of_covers 20 _ (by decide +kernel) fun t _ y => ?_
  blk_simp
  rw [after0_20]
  unfold outsAt0
  frame_out
  rw [hn_eq, wA_eq, tC_eq, tH_eq, tL_eq]
  refine (pay38_at _ _ _ _ _ y).trans (meet20 m c t _ (fun k j => by pointwise) (y 2) _ _ _ ?_ ?_ ?_)
  · blk_simp [idxo t]
  · have h8 : (y 1).val < 8 := (y 1).isLt
    blk_simp [idxo t]
    omega
  · blk_simp [idxo t]

theorem meet256 (c : Dev nD) (t : Fin cfg0.N) (U : FVec Ideal S1024x256 .bf16)
    (hU : ∀ (k : Fin 1024) (j : Fin 256), U (ix2 k j) = wA m c t (ix2 k ⟨256 + j.val, by omega⟩)) (n o : ℕ) (hn' : n + 128 ≤ 4888) (ho : o ≤ 128)
    (hc : ∀ a : Fin 3072, 256 + o ≤ a.val → a.val < 256 + o + 128 → (colA a).val + (256 + o) = n + a.val) (r : Fin 256) (l : Fin 128)
    (b : Fin 8) (i : Fin 16) (r' : Fin 256) (l' : Fin 128) (hb : b.val = t.val / 16) (hi : i.val = t.val % 16) (hr : r'.val = r.val) (hl : l'.val = l.val) :
    lane3 (fun a => k0_pay11 (F := Ideal) (hn m c t) U (ix2 r ⟨o + a.val, by omega⟩)) (k0_pay5 (F := Ideal) (tC m c t) (ix2 r l))
        (k0_pay6 (F := Ideal) (tH m c t) (ix2 r l)) (k0_pay7 (F := Ideal) (tL m c t) (ix2 r l)) l
      = outK (X m c) (Gn m c) (W m c) n hn' b i r' l' :=
  lane_pt m c t n (256 + o) hn' (by omega) hc _ r l
    (fun a => (pay11_at m c t U hU r ⟨o + a.val, by omega⟩).trans
      (congrArg (pt m c t r) (congrArg colA (Fin.ext (by show 256 + (o + a.val) = 256 + o + a.val; omega)))))
    b i r' l' hb hi hr hl

set_option maxHeartbeats 2000000 in
theorem final15 (c : Dev nD) : (dats m 0 c).arrAt 15 cfg0.N
    = fun i : S8x16x256x128.Idx => outK (X m c) (Gn m c) (W m c) 1024 (by omega) (i 0) (i 1) (i 2) (i 3) := by
  refine (dats m 0 c).arrAt_eq_of_covers 15 _ (by decide +kernel) fun t _ y => ?_
  blk_simp
  rw [after0_15]
  unfold outsAt0
  frame_out
  rw [hn_eq, wA_eq, tC_eq, tH_eq, tL_eq]
  refine (pay15_at _ _ _ _ y).trans (meet256 m c t _ (fun k j => by pointwise) 1024 128 (by omega) (by omega) colA_wink (y 2) (y 3) _ _ _ _ ?_ ?_ ?_ ?_)
  all_goals (blk_simp [idxo t] <;> try omega)

theorem left14 (c : Dev nD) (b : Fin 8) (i : Fin 16) (r : Fin 256) (l : Fin 256) (l' : Fin 128) (hl : l.val = l'.val) :
    outK (X m c) (Gn m c) (W m c) 768 (by omega) b i r l' = outKE (X m c) (Gn m c) (W m c) b i r l := by
  unfold outKE
  rw [dif_pos (by omega)]
  exact congrArg _ (Fin.ext hl.symm)

theorem right14 (c : Dev nD) (b : Fin 8) (i : Fin 16) (r : Fin 256) (l : Fin 256) (n p q : ℕ) (hi : i.val = n) (hr : r.val = p) (hl : l.val = 128 + q) :
    hot ((n * 256 + p) / 64 = q) = outKE (X m c) (Gn m c) (W m c) b i r l := by
  subst hi hr
  unfold outKE
  rw [dif_neg (by omega)]
  obtain rfl : q = l.val - 128 := by omega
  rfl

set_option maxHeartbeats 1000000 in
theorem final14 (c : Dev nD) : (dats m 0 c).arrAt 14 cfg0.N
    = fun i : S8x16x256x256.Idx => outKE (X m c) (Gn m c) (W m c) (i 0) (i 1) (i 2) (i 3) := by
  refine (dats m 0 c).arrAt_eq_of_covers 14 _ (by decide +kernel) fun t _ y => ?_
  blk_simp
  rw [after0_14]
  unfold outsAt0
  frame_out
  rw [hn_eq, wA_eq, tC_eq, tH_eq, tL_eq, word t]
  canon_tiles x h
  · refine (mark64 ⟨t.val % 16, Nat.mod_lt _ (by omega)⟩ x).trans (right14 m c _ _ _ _ _ _ _ ?_ ?_ ?_)
    all_goals (blk_simp [idxo t] <;> try omega)
  · refine (pay12_at _ _ _ _ _ x).trans ((meet256 m c t _ (fun k j => by pointwise) 768 0 (by omega) (by omega) colA_selk (x 2) (x 3) _ _ _ _ ?_ ?_ ?_ rfl).trans
      (left14 m c _ _ _ _ (x 3) ?_))
    all_goals (blk_simp [idxo t] <;> try omega)

theorem left18 (c : Dev nD) (t : Fin cfg0.N) (U : FVec Ideal S1024x512 .bf16)
    (hU : ∀ (k : Fin 1024) (j : Fin 512), U (ix2 k j) = wA m c t (ix2 k ⟨512 + j.val, by omega⟩)) (q : Fin 4) (r : Fin 256) (l : Fin 128)
    (b : Fin 8) (i : Fin 16) (r' : Fin 256) (l' : Fin 1024) (hb : b.val = t.val / 16) (hi : i.val = t.val % 16) (hr : r'.val = r.val)
    (hl : l'.val = q.val * 256 + l.val) :
    turn512 (k0_pay5 (F := Ideal) (tC m c t)) (k0_pay6 (F := Ideal) (tH m c t)) (k0_pay7 (F := Ideal) (tL m c t)) (k0_pay16 (F := Ideal) (hn m c t) U) q r l
      = outKM (X m c) (Gn m c) (W m c) b i r' l' := by
  unfold outKM
  rw [dif_pos (by omega)]
  have e : ∀ (d : ℕ) (h : 1816 + d * 128 + 128 ≤ 4888) (a : Fin 128), d = q.val → a.val = l.val →
      outK (X m c) (Gn m c) (W m c) (1816 + q.val * 128) (by omega) b i r' l = outK (X m c) (Gn m c) (W m c) (1816 + d * 128) h b i r' a := by
    rintro d h a rfl ha
    obtain rfl : a = l := Fin.ext ha
    rfl
  exact (meetTurn m c t U hU q r l b i r' l hb hi hr rfl).trans (e _ _ _ (by omega) (by show l'.val % 256 = l.val; omega))

theorem right18 (c : Dev nD) (b : Fin 8) (i : Fin 16) (r : Fin 256) (l : Fin 1024) (n p : ℕ) (hi : i.val = n) (hl : l.val % 256 = 128 + p) :
    hot (p = n) = outKM (X m c) (Gn m c) (W m c) b i r l := by
  subst hi
  unfold outKM
  rw [dif_neg (by omega)]
  unfold hot
  exact if_congr (by omega) rfl rfl

theorem emb18 (t : Fin cfg0.N) (y : S1x1x256x1024.Idx) :
    ((((View.whole main_v59_9).slice (win0_18.rect t)).emb y) 0).val = t.val / 16
    ∧ ((((View.whole main_v59_9).slice (win0_18.rect t)).emb y) 1).val = t.val % 16
    ∧ ((((View.whole main_v59_9).slice (win0_18.rect t)).emb y) 2).val = (y 2).val
    ∧ ((((View.whole main_v59_9).slice (win0_18.rect t)).emb y) 3).val = (y 3).val := by
  refine ⟨?_, ?_, ?_, ?_⟩
  all_goals (blk_simp [idxo t] <;> try omega)

set_option maxHeartbeats 4000000 in
theorem final18 (c : Dev nD) : (dats m 0 c).arrAt 18 cfg0.N
    = fun i : S8x16x256x1024.Idx => outKM (X m c) (Gn m c) (W m c) (i 0) (i 1) (i 2) (i 3) := by
  refine (dats m 0 c).arrAt_eq_of_covers 18 _ (by decide +kernel) fun t _ y => ?_
  blk_simp
  rw [after0_18]
  unfold outsAt0
  frame_out
  rw [hn_eq, wA_eq, tC_eq, tH_eq, tL_eq, word t]
  have he := emb18 t y
  have ht : t.val % 16 < 16 := Nat.mod_lt _ (by omega)
  canon_tiles x h
  · refine (mark256 ⟨t.val % 16, ht⟩ x).2.2.2.trans (right18 m c _ _ _ _ (t.val % 16) (x 3).val ?_ ?_)
    all_goals omega
  · refine (turns _ _ _ _ _ x).2.2.2.trans (left18 m c t _ (fun k j => by pointwise) 3 (x 2) (x 3) _ _ _ _ ?_ ?_ ?_ ?_)
    all_goals omega
  · refine (mark256 ⟨t.val % 16, ht⟩ x).2.2.1.trans (right18 m c _ _ _ _ (t.val % 16) (x 3).val ?_ ?_)
    all_goals omega
  · refine (turns _ _ _ _ _ x).2.2.1.trans (left18 m c t _ (fun k j => by pointwise) 2 (x 2) (x 3) _ _ _ _ ?_ ?_ ?_ ?_)
    all_goals omega
  · refine (mark256 ⟨t.val % 16, ht⟩ x).2.1.trans (right18 m c _ _ _ _ (t.val % 16) (x 3).val ?_ ?_)
    all_goals omega
  · refine (turns _ _ _ _ _ x).2.1.trans (left18 m c t _ (fun k j => by pointwise) 1 (x 2) (x 3) _ _ _ _ ?_ ?_ ?_ ?_)
    all_goals omega
  · refine (mark256 ⟨t.val % 16, ht⟩ x).1.trans (right18 m c _ _ _ _ (t.val % 16) (x 3).val ?_ ?_)
    all_goals omega
  · refine (turns _ _ _ _ _ x).1.trans (left18 m c t _ (fun k j => by pointwise) 0 (x 2) (x 3) _ _ _ _ ?_ ?_ ?_ ?_)
    all_goals omega

end Cert.InProjKeys
-- ==== Proof.InProjQueries.lean ====
module

public import proofs.«01_k».proof.Proof.InProjPlain

@[expose] public section

set_option maxRecDepth 16384

noncomputable section

open Idealize.ShloMosaic Idealize.ShloMosaic.TcCoe Idealize.SL.Sem
open Idealize.ShloMosaic.Pipeline (Dat)

/-! # The projection's queries, features before positions: eight heads, each turned by position -/

namespace Cert.InProjQueries

open Cert.Kernel3Ideal Cert.Kernel3Ideal.Gen Cert.InProjHost Cert.InProjRows Cert.InProjBlocks Cert.InProjPlain

variable (m : (ℓ : Loc nD τ sig) → Buf (Elt Ideal) ℓ)

/-- Row `r` of eight turned heads, one below the other, at column `s`. -/
def turnRows (Q : FVec Ideal S512x256 .f32) (C S : FVec Ideal S8x256 .f32) (r : Fin 512) (s : Fin 256) : EReal :=
  rot (fun f => Q (ix2 ⟨r.val / 64 * 64 + f.val, by omega⟩ s)) (fun i => C (ix2 i s)) (fun i => S (ix2 i s)) ⟨r.val % 64, Nat.mod_lt _ (by omega)⟩

/-! ## Eight heads of three pieces each, one below the other -/

/-- The pieces, head after head. -/
abbrev pieces (a b : Fin 8 → FVec Ideal S8x256 .f32) (c : Fin 8 → FVec Ideal S48x256 .f32) : List ((s : Shape) × (s.Idx → EReal)) :=
  [⟨S8x256, a ⟨0, by decide⟩⟩, ⟨S8x256, b ⟨0, by decide⟩⟩, ⟨S48x256, c ⟨0, by decide⟩⟩, ⟨S8x256, a ⟨1, by decide⟩⟩, ⟨S8x256, b ⟨1, by decide⟩⟩, ⟨S48x256, c ⟨1, by decide⟩⟩, ⟨S8x256, a ⟨2, by decide⟩⟩, ⟨S8x256, b ⟨2, by decide⟩⟩, ⟨S48x256, c ⟨2, by decide⟩⟩, ⟨S8x256, a ⟨3, by decide⟩⟩, ⟨S8x256, b ⟨3, by decide⟩⟩, ⟨S48x256, c ⟨3, by decide⟩⟩, ⟨S8x256, a ⟨4, by decide⟩⟩, ⟨S8x256, b ⟨4, by decide⟩⟩, ⟨S48x256, c ⟨4, by decide⟩⟩, ⟨S8x256, a ⟨5, by decide⟩⟩, ⟨S8x256, b ⟨5, by decide⟩⟩, ⟨S48x256, c ⟨5, by decide⟩⟩, ⟨S8x256, a ⟨6, by decide⟩⟩, ⟨S8x256, b ⟨6, by decide⟩⟩, ⟨S48x256, c ⟨6, by decide⟩⟩, ⟨S8x256, a ⟨7, by decide⟩⟩, ⟨S8x256, b ⟨7, by decide⟩⟩, ⟨S48x256, c ⟨7, by decide⟩⟩]

section Cat
variable (a b : Fin 8 → FVec Ideal S8x256 .f32) (c : Fin 8 → FVec Ideal S48x256 .f32)

theorem piece1 (q : Fin 8) : (pieces a b c)[3 * q.val]'(by show _ < 24; omega) = ⟨S8x256, a q⟩ := by
  fin_cases q <;> rfl

theorem piece2 (q : Fin 8) : (pieces a b c)[3 * q.val + 1]'(by show _ < 24; omega) = ⟨S8x256, b q⟩ := by
  fin_cases q <;> rfl

theorem piece3 (q : Fin 8) : (pieces a b c)[3 * q.val + 2]'(by show _ < 24; omega) = ⟨S48x256, c q⟩ := by
  fin_cases q <;> rfl

/-- How many rows lie above piece `k`. -/
def above (k : ℕ) : ℕ :=
  ((((pieces (fun _ _ => 0) (fun _ _ => 0) (fun _ _ => 0)).take k).map (·.1)).map fun s => if h : s.rank = S512x256.rank then s.size ((0 : Fin S512x256.rank).cast h.symm) else 0).sum

theorem above_eq (k : ℕ) (hk : k ≤ 24) :
    ((((pieces a b c).take k).map (·.1)).map fun s => if h : s.rank = S512x256.rank then s.size ((0 : Fin S512x256.rank).cast h.symm) else 0).sum = above k := by
  unfold above
  simp only [List.map_take]
  rfl

theorem above1 : ∀ q : Fin 8, above (3 * q.val) = 64 * q.val ∧ above (3 * q.val + 1) = 64 * q.val + 8 ∧ above (3 * q.val + 2) = 64 * q.val + 16 := by
  intro q; fin_cases q <;> exact ⟨rfl, rfl, rfl⟩

theorem cat1 (h : Shape.Concatenates ((pieces a b c).map (·.1)) S512x256 0) (q : Fin 8) (i : Fin 8) (s : Fin 256) (r : Fin 512) (hr : 64 * q.val + i.val = r.val) :
    concatenate S512x256 0 (pieces a b c) h (ix2 r s) = a q (ix2 i s) :=
  concatenate_apply_piece 0 (pieces a b c) h (ix2 r s) (3 * q.val) (by show _ < 24; omega) S8x256 (a q) (piece1 a b c q) rfl (64 * q.val)
    ((above_eq a b c _ (by omega)).trans (above1 q).1) (ix2 i s) (fun d hd => match d with | 0 => absurd rfl hd | 1 => rfl) hr

theorem cat2 (h : Shape.Concatenates ((pieces a b c).map (·.1)) S512x256 0) (q : Fin 8) (i : Fin 8) (s : Fin 256) (r : Fin 512) (hr : 64 * q.val + 8 + i.val = r.val) :
    concatenate S512x256 0 (pieces a b c) h (ix2 r s) = b q (ix2 i s) :=
  concatenate_apply_piece 0 (pieces a b c) h (ix2 r s) (3 * q.val + 1) (by show _ < 24; omega) S8x256 (b q) (piece2 a b c q) rfl (64 * q.val + 8)
    ((above_eq a b c _ (by omega)).trans (above1 q).2.1) (ix2 i s) (fun d hd => match d with | 0 => absurd rfl hd | 1 => rfl) hr

theorem cat3 (h : Shape.Concatenates ((pieces a b c).map (·.1)) S512x256 0) (q : Fin 8) (i : Fin 48) (s : Fin 256) (r : Fin 512) (hr : 64 * q.val + 16 + i.val = r.val) :
    concatenate S512x256 0 (pieces a b c) h (ix2 r s) = c q (ix2 i s) :=
  concatenate_apply_piece 0 (pieces a b c) h (ix2 r s) (3 * q.val + 2) (by show _ < 24; omega) S48x256 (c q) (piece3 a b c q) rfl (64 * q.val + 16)
    ((above_eq a b c _ (by omega)).trans (above1 q).2.2) (ix2 i s) (fun d hd => match d with | 0 => absurd rfl hd | 1 => rfl) hr

theorem cat_at (h : Shape.Concatenates ((pieces a b c).map (·.1)) S512x256 0) (r : Fin 512) (s : Fin 256) :
    concatenate S512x256 0 (pieces a b c) h (ix2 r s)
      = if h : r.val % 64 < 8 then a ⟨r.val / 64, by omega⟩ (ix2 ⟨r.val % 64, h⟩ s)
        else if h' : r.val % 64 < 16 then b ⟨r.val / 64, by omega⟩ (ix2 ⟨r.val % 64 - 8, by omega⟩ s)
        else c ⟨r.val / 64, by omega⟩ (ix2 ⟨r.val % 64 - 16, by omega⟩ s) := by
  by_cases h8 : r.val % 64 < 8
  · rw [dif_pos h8]
    exact cat1 a b c h ⟨r.val / 64, by omega⟩ ⟨r.val % 64, h8⟩ s r (by show 64 * (r.val / 64) + r.val % 64 = r.val; omega)
  · rw [dif_neg h8]
    by_cases h16 : r.val % 64 < 16
    · rw [dif_pos h16]
      exact cat2 a b c h ⟨r.val / 64, by omega⟩ ⟨r.val % 64 - 8, by omega⟩ s r (by show 64 * (r.val / 64) + 8 + (r.val % 64 - 8) = r.val; omega)
    · rw [dif_neg h16]
      exact cat3 a b c h ⟨r.val / 64, by omega⟩ ⟨r.val % 64 - 16, by omega⟩ s r (by show 64 * (r.val / 64) + 16 + (r.val % 64 - 16) = r.val; omega)

end Cat

/-- One head's first eight rows, turned. -/
def head1 (Q : FVec Ideal S512x256 .f32) (C S : FVec Ideal S8x256 .f32) (q : Fin 8) : FVec Ideal S8x256 .f32 :=
  subf (mulf (extractStridedSlice S8x256 ![q.val * 64, 0] Q (by revert q; decide)) C) (mulf (extractStridedSlice S8x256 ![q.val * 64 + 8, 0] Q (by revert q; decide)) S)

/-- One head's next eight rows, turned. -/
def head2 (Q : FVec Ideal S512x256 .f32) (C S : FVec Ideal S8x256 .f32) (q : Fin 8) : FVec Ideal S8x256 .f32 :=
  addf (mulf (extractStridedSlice S8x256 ![q.val * 64, 0] Q (by revert q; decide)) S) (mulf (extractStridedSlice S8x256 ![q.val * 64 + 8, 0] Q (by revert q; decide)) C)

/-- One head's other rows. -/
def head3 (Q : FVec Ideal S512x256 .f32) (q : Fin 8) : FVec Ideal S48x256 .f32 :=
  extractStridedSlice S48x256 ![q.val * 64 + 16, 0] Q (by revert q; decide)

theorem head1_at (Q : FVec Ideal S512x256 .f32) (C S : FVec Ideal S8x256 .f32) (q : Fin 8) (i : Fin 8) (s : Fin 256) :
    head1 Q C S q (ix2 i s) = Q (ix2 ⟨q.val * 64 + i.val, by omega⟩ s) * C (ix2 i s) - Q (ix2 ⟨q.val * 64 + 8 + i.val, by omega⟩ s) * S (ix2 i s) := by
  pointwise [head1]

theorem head2_at (Q : FVec Ideal S512x256 .f32) (C S : FVec Ideal S8x256 .f32) (q : Fin 8) (i : Fin 8) (s : Fin 256) :
    head2 Q C S q (ix2 i s) = Q (ix2 ⟨q.val * 64 + i.val, by omega⟩ s) * S (ix2 i s) + Q (ix2 ⟨q.val * 64 + 8 + i.val, by omega⟩ s) * C (ix2 i s) := by
  pointwise [head2]

theorem head3_at (Q : FVec Ideal S512x256 .f32) (q : Fin 8) (i : Fin 48) (s : Fin 256) :
    head3 Q q (ix2 i s) = Q (ix2 ⟨q.val * 64 + 16 + i.val, by omega⟩ s) := by
  pointwise [head3]

/-- The eight turned heads. -/
def heads (Q : FVec Ideal S512x256 .f32) (C S : FVec Ideal S8x256 .f32) : FVec Ideal S512x256 .f32 :=
  concatenate S512x256 0 (pieces (head1 Q C S) (head2 Q C S) (head3 Q)) concatenates_S8x256_S8x256_S48x256_S8x256_S8x256_S48x256_S8x256_S8x256_S48x256_S8x256_S8x256_S48x256_S8x256_S8x256_S48x256_S8x256_S8x256_S48x256_S8x256_S8x256_S48x256_S8x256_S8x256_S48x256_S512x256_d0

theorem heads_at (Q : FVec Ideal S512x256 .f32) (C S : FVec Ideal S8x256 .f32) (r : Fin 512) (s : Fin 256) :
    heads Q C S (ix2 r s) = turnRows Q C S r s := by
  refine (cat_at (head1 Q C S) (head2 Q C S) (head3 Q) _ r s).trans ?_
  unfold turnRows rot
  split
  · rw [head1_at]
    refine congrArg₂ (· - ·) rfl (congrArg₂ (· * ·) (congrArg Q ?_) rfl)
    exact congrArg (ix2 · s) (Fin.ext (by show r.val / 64 * 64 + 8 + r.val % 64 = r.val / 64 * 64 + (r.val % 64 + 8); omega))
  · split
    · rw [head2_at]
      refine congrArg₂ (· + ·) rfl (congrArg₂ (· * ·) (congrArg Q ?_) rfl)
      exact congrArg (ix2 · s) (Fin.ext (by show r.val / 64 * 64 + 8 + (r.val % 64 - 8) = r.val / 64 * 64 + r.val % 64; omega))
    · rw [head3_at]
      exact congrArg Q (congrArg (ix2 · s) (Fin.ext (by show r.val / 64 * 64 + 16 + (r.val % 64 - 16) = r.val / 64 * 64 + r.val % 64; omega)))

/-! ## The payloads -/

theorem flat (Z : FVec Ideal S512x256 .f32) (y : S1x512x256.Idx) :
    (shapeCast S1x512x256 (truncf .bf16 Z bitsLt_bf16_f32) shapeCasts_S512x256_S1x512x256 : FVec Ideal S1x512x256 .bf16) y = Z (ix2 (y 1) (y 2)) := by
  pointwise

theorem flat_sub (Z : FVec Ideal S512x256 .f32) (y : S1x512x256.Idx) :
    (shapeCast S1x512x256 (truncf .bf16 (subf Z (extf .f32 (truncf .bf16 Z bitsLt_bf16_f32) bitsLt_bf16_f32)) bitsLt_bf16_f32) shapeCasts_S512x256_S1x512x256
      : FVec Ideal S1x512x256 .bf16) y = Z (ix2 (y 1) (y 2)) - Z (ix2 (y 1) (y 2)) := by
  pointwise

theorem pay72_eq (C S : FVec Ideal S8x256 .f32) (W : FVec Ideal S512x1024 .bf16) (H : FVec Ideal S256x1024 .bf16) :
    k0_pay72 (F := Ideal) (k0_pay45 C) (k0_pay46 S) (k0_pay47 W H) (k0_pay51 (k0_pay45 C) S W H) (k0_pay52 (k0_pay45 C) S W H) (k0_pay53 W H)
      (k0_pay56 (k0_pay45 C) S W H) (k0_pay57 (k0_pay45 C) S W H) (k0_pay58 W H) (k0_pay61 (k0_pay45 C) S W H) (k0_pay62 (k0_pay45 C) S W H) (k0_pay63 W H)
      (k0_pay66 (k0_pay45 C) S W H) (k0_pay67 (k0_pay45 C) S W H) (k0_pay68 W H) (k0_pay69 W H) (k0_pay70 W H) (k0_pay71 (k0_pay45 C) S W H)
      = shapeCast S1x512x256 (truncf .bf16 (heads (k0_pay47 (F := Ideal) W H) (k0_pay45 C) (k0_pay46 S)) bitsLt_bf16_f32) shapeCasts_S512x256_S1x512x256 := by
  rfl

theorem pay116_eq (C S : FVec Ideal S8x256 .f32) (W : FVec Ideal S512x1024 .bf16) (H : FVec Ideal S256x1024 .bf16) :
    k0_pay116 (F := Ideal) (k0_pay73 W H) (k0_pay76 (k0_pay45 C) (k0_pay46 S) W H) (k0_pay77 (k0_pay45 C) (k0_pay46 S) W H) (k0_pay78 W H) (k0_pay81 (k0_pay45 C)
      (k0_pay46 S) (k0_pay79 W H) (k0_pay80 W H)) (k0_pay82 (k0_pay45 C) (k0_pay46 S) (k0_pay79 W H) (k0_pay80 W H)) (k0_pay83 (k0_pay73 W H))
      (k0_pay86 (k0_pay45 C) (k0_pay46 S) (k0_pay73 W H)) (k0_pay87 (k0_pay45 C) (k0_pay46 S) (k0_pay73 W H)) (k0_pay88 (k0_pay73 W H)) (k0_pay91
      (k0_pay45 C) (k0_pay46 S) (k0_pay73 W H)) (k0_pay92 (k0_pay45 C) (k0_pay46 S) (k0_pay73 W H)) (k0_pay93 (k0_pay73 W H)) (k0_pay96 (k0_pay45
      C) (k0_pay46 S) (k0_pay73 W H)) (k0_pay97 (k0_pay45 C) (k0_pay46 S) (k0_pay73 W H)) (k0_pay98 (k0_pay73 W H)) (k0_pay101 (k0_pay45 C)
      (k0_pay46 S) (k0_pay73 W H)) (k0_pay102 (k0_pay45 C) (k0_pay46 S) (k0_pay73 W H)) (k0_pay103 (k0_pay73 W H)) (k0_pay106 (k0_pay45 C)
      (k0_pay46 S) (k0_pay73 W H)) (k0_pay107 (k0_pay45 C) (k0_pay46 S) (k0_pay73 W H)) (k0_pay108 (k0_pay73 W H)) (k0_pay111 (k0_pay45 C)
      (k0_pay46 S) (k0_pay73 W H)) (k0_pay112 (k0_pay45 C) (k0_pay46 S) (k0_pay73 W H))
      = shapeCast S1x512x256 (truncf .bf16 (subf (heads (k0_pay73 (F := Ideal) W H) (k0_pay45 C) (k0_pay46 S))
          (extf .f32 (truncf .bf16 (heads (k0_pay73 (F := Ideal) W H) (k0_pay45 C) (k0_pay46 S)) bitsLt_bf16_f32) bitsLt_bf16_f32)) bitsLt_bf16_f32)
          shapeCasts_S512x256_S1x512x256 := by
  rfl

theorem pay115_eq (C S : FVec Ideal S8x256 .f32) (W : FVec Ideal S512x1024 .bf16) (H : FVec Ideal S256x1024 .bf16) :
    k0_pay115 (F := Ideal) (k0_pay73 W H) (k0_pay76 (k0_pay45 C) (k0_pay46 S) W H) (k0_pay77 (k0_pay45 C) (k0_pay46 S) W H) (k0_pay78 W H) (k0_pay81 (k0_pay45 C)
      (k0_pay46 S) (k0_pay79 W H) (k0_pay80 W H)) (k0_pay82 (k0_pay45 C) (k0_pay46 S) (k0_pay79 W H) (k0_pay80 W H)) (k0_pay83 (k0_pay73 W H))
      (k0_pay86 (k0_pay45 C) (k0_pay46 S) (k0_pay73 W H)) (k0_pay87 (k0_pay45 C) (k0_pay46 S) (k0_pay73 W H)) (k0_pay88 (k0_pay73 W H)) (k0_pay91
      (k0_pay45 C) (k0_pay46 S) (k0_pay73 W H)) (k0_pay92 (k0_pay45 C) (k0_pay46 S) (k0_pay73 W H)) (k0_pay93 (k0_pay73 W H)) (k0_pay96 (k0_pay45
      C) (k0_pay46 S) (k0_pay73 W H)) (k0_pay97 (k0_pay45 C) (k0_pay46 S) (k0_pay73 W H)) (k0_pay98 (k0_pay73 W H)) (k0_pay101 (k0_pay45 C)
      (k0_pay46 S) (k0_pay73 W H)) (k0_pay102 (k0_pay45 C) (k0_pay46 S) (k0_pay73 W H)) (k0_pay103 (k0_pay73 W H)) (k0_pay106 (k0_pay45 C)
      (k0_pay46 S) (k0_pay73 W H)) (k0_pay107 (k0_pay45 C) (k0_pay46 S) (k0_pay73 W H)) (k0_pay108 (k0_pay73 W H)) (k0_pay111 (k0_pay45 C)
      (k0_pay46 S) (k0_pay73 W H)) (k0_pay112 (k0_pay45 C) (k0_pay46 S) (k0_pay73 W H))
      = shapeCast S1x512x256 (truncf .bf16 (heads (k0_pay73 (F := Ideal) W H) (k0_pay45 C) (k0_pay46 S)) bitsLt_bf16_f32) shapeCasts_S512x256_S1x512x256 := by
  rfl

theorem pay45_at (C : FVec Ideal S8x256 .f32) (i : S8x256.Idx) : k0_pay45 (F := Ideal) C i = C i := by pointwise [k0_pay45]
theorem pay46_at (C : FVec Ideal S8x256 .f32) (i : S8x256.Idx) : k0_pay46 (F := Ideal) C i = C i := by pointwise [k0_pay46]

theorem pay47_at (W : FVec Ideal S512x1024 .bf16) (H : FVec Ideal S256x1024 .bf16) (r : Fin 512) (s : Fin 256) :
    k0_pay47 (F := Ideal) W H (ix2 r s) = ∑ k : Fin 1024, W (ix2 r k) * H (ix2 s k) := by
  pointwise [k0_pay47]

theorem pay73_at (W : FVec Ideal S512x1024 .bf16) (H : FVec Ideal S256x1024 .bf16) (r : Fin 512) (s : Fin 256) :
    k0_pay73 (F := Ideal) W H (ix2 r s) = ∑ k : Fin 1024, W (ix2 r k) * H (ix2 s k) := by
  pointwise [k0_pay73]

/-! ## The two results -/

theorem q47 (c : Dev nD) (t : Fin cfg0.N) (U : FVec Ideal S512x1024 .bf16)
    (hU : ∀ (r : Fin 512) (k : Fin 1024), U (ix2 r k) = wB m c t (ix2 ⟨0 + r.val, by omega⟩ k)) (r : Fin 512) (s : Fin 256) :
    k0_pay47 (F := Ideal) U (hn m c t) (ix2 r s) = pt m c t s ⟨0 + r.val, by omega⟩ := by
  refine (pay47_at U _ r s).trans ((dot_row m c t s ⟨0 + r.val, by omega⟩ (fun k => U (ix2 r k)) fun k => hU r k).trans (congrArg _ (Fin.ext ?_)))
  show (colB ⟨0 + r.val, _⟩).val = 0 + r.val
  unfold colB
  simp only [show 0 + r.val < 512 by omega, if_true]

theorem q73 (c : Dev nD) (t : Fin cfg0.N) (U : FVec Ideal S512x1024 .bf16)
    (hU : ∀ (r : Fin 512) (k : Fin 1024), U (ix2 r k) = wB m c t (ix2 ⟨512 + r.val, by omega⟩ k)) (r : Fin 512) (s : Fin 256) :
    k0_pay73 (F := Ideal) U (hn m c t) (ix2 r s) = pt m c t s ⟨1304 + r.val, by omega⟩ := by
  refine (pay73_at U _ r s).trans ((dot_row m c t s ⟨512 + r.val, by omega⟩ (fun k => U (ix2 r k)) fun k => hU r k).trans (congrArg _ (Fin.ext ?_)))
  show (colB ⟨512 + r.val, _⟩).val = 1304 + r.val
  unfold colB
  simp only [show ¬ 512 + r.val < 512 by omega, show 512 + r.val < 1024 by omega, if_true, if_false]
  omega

theorem turn_pt (c : Dev nD) (t : Fin cfg0.N) (n : ℕ) (hn' : n + 512 ≤ 4888) (Q : FVec Ideal S512x256 .f32)
    (hQ : ∀ (r : Fin 512) (s : Fin 256), Q (ix2 r s) = pt m c t s ⟨n + r.val, by omega⟩) (r : Fin 512) (s : Fin 256)
    (b : Fin 8) (s' : Fin 4096) (n' : ℕ) (h' : n' + 64 ≤ 4888) (f : Fin 64) (hb : b.val = t.val / 16) (hs : s'.val = t.val % 16 * 256 + s.val)
    (hn : n' = n + r.val / 64 * 64) (hf : f.val = r.val % 64) :
    turnRows Q (k0_pay45 (F := Ideal) (cT m c t)) (k0_pay46 (F := Ideal) (sT m c t)) r s = turned (X m c) (Gn m c) (W m c) b s' n' h' f := by
  subst hn
  obtain rfl : b = tb t := Fin.ext hb
  obtain rfl : s' = ts t s := Fin.ext hs
  unfold turnRows turned
  rw [show (⟨r.val % 64, Nat.mod_lt _ (by omega)⟩ : Fin 64) = f from Fin.ext hf.symm]
  have e1 : (fun d : Fin 64 => Q (ix2 ⟨r.val / 64 * 64 + d.val, by omega⟩ s))
      = fun d : Fin 64 => pr (X m c) (Gn m c) (W m c) (tb t) (ts t s) ⟨n + r.val / 64 * 64 + d.val, by omega⟩ :=
    funext fun d => (hQ _ _).trans (congrArg (pt m c t s) (Fin.ext (Nat.add_assoc _ _ _).symm))
  have e2 : (fun i : Fin 8 => k0_pay45 (F := Ideal) (cT m c t) (ix2 i s)) = cosAt (ts t s) := funext fun i => (pay45_at _ _).trans (cosT_at m c t i s)
  have e3 : (fun i : Fin 8 => k0_pay46 (F := Ideal) (sT m c t) (ix2 i s)) = sinAt (ts t s) := funext fun i => (pay46_at _ _).trans (sinT_at m c t i s)
  rw [e1, e2, e3]

theorem low9 (c : Dev nD) (t : Fin cfg0.N) (U : FVec Ideal S512x1024 .bf16)
    (hU : ∀ (r : Fin 512) (k : Fin 1024), U (ix2 r k) = wB m c t (ix2 ⟨0 + r.val, by omega⟩ k)) (x : S1x512x256.Idx)
    (b : Fin 8) (r : Fin 1024) (s : Fin 4096) (hb : b.val = t.val / 16) (hr : r.val = (x 1).val) (hs : s.val = t.val % 16 * 256 + (x 2).val) :
    k0_pay48 (F := Ideal) U (hn m c t) x = outQ (X m c) (Gn m c) (W m c) b r s := by
  have h : (x 1).val < 512 := (x 1).isLt
  unfold outQ
  rw [dif_pos (by omega)]
  exact (flat _ x).trans ((q47 m c t U hU (x 1) (x 2)).trans (pt_at m c t (x 2) b s hb hs _ _ (by show 0 + (x 1).val = r.val; omega)))

theorem high9 (c : Dev nD) (t : Fin cfg0.N) (U : FVec Ideal S512x1024 .bf16)
    (hU : ∀ (r : Fin 512) (k : Fin 1024), U (ix2 r k) = wB m c t (ix2 ⟨0 + r.val, by omega⟩ k)) (x : S1x512x256.Idx)
    (b : Fin 8) (r : Fin 1024) (s : Fin 4096) (hb : b.val = t.val / 16) (hr : r.val = 512 + (x 1).val) (hs : s.val = t.val % 16 * 256 + (x 2).val) :
    turnRows (k0_pay47 (F := Ideal) U (hn m c t)) (k0_pay45 (F := Ideal) (cT m c t)) (k0_pay46 (F := Ideal) (sT m c t)) (x 1) (x 2)
      = outQ (X m c) (Gn m c) (W m c) b r s := by
  unfold outQ
  rw [dif_neg (by omega)]
  exact turn_pt m c t 0 (by omega) _ (q47 m c t U hU) (x 1) (x 2) b s _ _ _ hb hs (by rw [hr, Nat.add_sub_cancel_left, Nat.zero_add]) (by show r.val % 64 = (x 1).val % 64; omega)

theorem low10 (c : Dev nD) (t : Fin cfg0.N) (U : FVec Ideal S512x1024 .bf16)
    (hU : ∀ (r : Fin 512) (k : Fin 1024), U (ix2 r k) = wB m c t (ix2 ⟨512 + r.val, by omega⟩ k)) (x : S1x512x256.Idx)
    (b : Fin 8) (r : Fin 1024) (s : Fin 4096) (hb : b.val = t.val / 16) (hr : r.val = (x 1).val) (hs : s.val = t.val % 16 * 256 + (x 2).val) :
    turnRows (k0_pay73 (F := Ideal) U (hn m c t)) (k0_pay45 (F := Ideal) (cT m c t)) (k0_pay46 (F := Ideal) (sT m c t)) (x 1) (x 2)
      = outQM (X m c) (Gn m c) (W m c) b r s := by
  have h : (x 1).val < 512 := (x 1).isLt
  unfold outQM
  rw [dif_pos (by omega)]
  exact turn_pt m c t 1304 (by omega) _ (q73 m c t U hU) (x 1) (x 2) b s _ _ _ hb hs (by rw [hr]) (by show r.val % 64 = (x 1).val % 64; omega)

theorem high10 (c : Dev nD) (t : Fin cfg0.N) (U : FVec Ideal S512x1024 .bf16)
    (hU : ∀ (r : Fin 512) (k : Fin 1024), U (ix2 r k) = wB m c t (ix2 ⟨512 + r.val, by omega⟩ k)) (x : S1x512x256.Idx)
    (b : Fin 8) (r : Fin 1024) (s : Fin 4096) (hb : b.val = t.val / 16) (hr : r.val = 512 + (x 1).val) (hs : s.val = t.val % 16 * 256 + (x 2).val) :
    turnRows (k0_pay73 (F := Ideal) U (hn m c t)) (k0_pay45 (F := Ideal) (cT m c t)) (k0_pay46 (F := Ideal) (sT m c t)) (x 1) (x 2)
      - turnRows (k0_pay73 (F := Ideal) U (hn m c t)) (k0_pay45 (F := Ideal) (cT m c t)) (k0_pay46 (F := Ideal) (sT m c t)) (x 1) (x 2)
      = outQM (X m c) (Gn m c) (W m c) b r s := by
  unfold outQM
  rw [dif_neg (by omega)]
  have e := fun n' h' f hn hf => turn_pt m c t 1304 (by omega) _ (q73 m c t U hU) (x 1) (x 2) b s n' h' f hb hs hn hf
  exact congrArg₂ (· - ·) (e _ _ _ (by rw [hr, Nat.add_sub_cancel_left]) (by show r.val % 64 = (x 1).val % 64; omega))
    (e _ _ _ (by rw [hr, Nat.add_sub_cancel_left]) (by show r.val % 64 = (x 1).val % 64; omega))

set_option maxHeartbeats 1000000 in
theorem final9 (c : Dev nD) : (dats m 0 c).arrAt 9 cfg0.N
    = fun i : S8x1024x4096.Idx => outQ (X m c) (Gn m c) (W m c) (i 0) (i 1) (i 2) := by
  refine (dats m 0 c).arrAt_eq_of_covers 9 _ (by decide +kernel) fun t _ y => ?_
  blk_simp
  rw [after0_9]
  unfold outsAt0
  frame_out
  rw [hn_eq, wB_eq, cT_eq, sT_eq]
  canon_tiles x h
  · refine ((congrFun (pay72_eq _ _ _ _) x).trans ((flat _ x).trans (heads_at _ _ _ _ _))).trans
      (high9 m c t _ (fun r k => by pointwise) x _ _ _ ?_ ?_ ?_)
    all_goals (blk_simp [idxo t] <;> try omega)
  · refine low9 m c t _ (fun r k => by pointwise) x _ _ _ ?_ ?_ ?_
    all_goals (blk_simp [idxo t] <;> try omega)

set_option maxHeartbeats 1000000 in
theorem final10 (c : Dev nD) : (dats m 0 c).arrAt 10 cfg0.N
    = fun i : S8x1024x4096.Idx => outQM (X m c) (Gn m c) (W m c) (i 0) (i 1) (i 2) := by
  refine (dats m 0 c).arrAt_eq_of_covers 10 _ (by decide +kernel) fun t _ y => ?_
  blk_simp
  rw [after0_10]
  unfold outsAt0
  frame_out
  rw [hn_eq, wB_eq, cT_eq, sT_eq]
  canon_tiles x h
  · refine ((congrFun (pay116_eq _ _ _ _) x).trans ((flat_sub _ x).trans (congrArg₂ (· - ·) (heads_at _ _ _ _ _) (heads_at _ _ _ _ _)))).trans
      (high10 m c t _ (fun r k => by pointwise) x _ _ _ ?_ ?_ ?_)
    all_goals (blk_simp [idxo t] <;> try omega)
  · refine ((congrFun (pay115_eq _ _ _ _) x).trans ((flat _ x).trans (heads_at _ _ _ _ _))).trans
      (low10 m c t _ (fun r k => by pointwise) x _ _ _ ?_ ?_ ?_)
    all_goals (blk_simp [idxo t] <;> try omega)

end Cert.InProjQueries
-- ==== Proof.InProjReference.lean ====
module

public import proofs.«01_k».proof.Proof.InProjPlain
public import proofs.«01_k».proof.Proof.Gen.Reference3Ideal.Run

@[expose] public section

set_option maxRecDepth 16384

noncomputable section

open Idealize.ShloMosaic Idealize.ShloMosaic.TcCoe Idealize.SL.Sem

/-! # The reference's projection and its thirteen results, entry by entry -/

namespace Cert.InProjReference

open Cert.Reference3Ideal Cert.Reference3Ideal.Gen Cert.Reference3Ideal.Value Cert.InProjRows
open Cert.InProjPlain (hot_eq)

/-! ## The reference's layouts, at any arrays -/

/-- The reference's rotary turn of eight heads. -/
def turn8 (Y : FVec Ideal S8x4096x8x64 .f32) (C S : FVec Ideal S4096x8 .f32) : FVec Ideal S8x4096x8x64 .f32 :=
  let y1 := extractStridedSlice S8x4096x8x8 ![0, 0, 0, 0] Y slices_S8x4096x8x64_S8x4096x8x8_0_0_0_0
  let y2 := extractStridedSlice S8x4096x8x8 ![0, 0, 0, 8] Y slices_S8x4096x8x64_S8x4096x8x8_0_0_0_8
  let c := broadcastInDim S8x4096x8x8 ![0, 1, 2, 3] bcast_S1x4096x1x8_S8x4096x8x8_0_1_2_3 (broadcastInDim S1x4096x1x8 ![1, 2, 3] bcast_S4096x1x8_S1x4096x1x8_1_2_3 (broadcastInDim S4096x1x8 ![0, 2] bcast_S4096x8_S4096x1x8_0_2 C))
  let s := broadcastInDim S8x4096x8x8 ![0, 1, 2, 3] bcast_S1x4096x1x8_S8x4096x8x8_0_1_2_3 (broadcastInDim S1x4096x1x8 ![1, 2, 3] bcast_S4096x1x8_S1x4096x1x8_1_2_3 (broadcastInDim S4096x1x8 ![0, 2] bcast_S4096x8_S4096x1x8_0_2 S))
  concatenate S8x4096x8x64 3 [⟨S8x4096x8x8, subf (mulf y1 c) (mulf y2 s)⟩, ⟨S8x4096x8x8, addf (mulf y1 s) (mulf y2 c)⟩, ⟨S8x4096x8x48, extractStridedSlice S8x4096x8x48 ![0, 0, 0, 16] Y slices_S8x4096x8x64_S8x4096x8x48_0_0_0_16⟩] concatenates_S8x4096x8x8_S8x4096x8x8_S8x4096x8x48_S8x4096x8x64_d3

/-- The reference's rotary turn of two heads. -/
def turn2 (Y : FVec Ideal S8x4096x2x64 .f32) (C S : FVec Ideal S4096x8 .f32) : FVec Ideal S8x4096x2x64 .f32 :=
  let y1 := extractStridedSlice S8x4096x2x8 ![0, 0, 0, 0] Y slices_S8x4096x2x64_S8x4096x2x8_0_0_0_0
  let y2 := extractStridedSlice S8x4096x2x8 ![0, 0, 0, 8] Y slices_S8x4096x2x64_S8x4096x2x8_0_0_0_8
  let c := broadcastInDim S8x4096x2x8 ![0, 1, 2, 3] bcast_S1x4096x1x8_S8x4096x2x8_0_1_2_3 (broadcastInDim S1x4096x1x8 ![1, 2, 3] bcast_S4096x1x8_S1x4096x1x8_1_2_3 (broadcastInDim S4096x1x8 ![0, 2] bcast_S4096x8_S4096x1x8_0_2 C))
  let s := broadcastInDim S8x4096x2x8 ![0, 1, 2, 3] bcast_S1x4096x1x8_S8x4096x2x8_0_1_2_3 (broadcastInDim S1x4096x1x8 ![1, 2, 3] bcast_S4096x1x8_S1x4096x1x8_1_2_3 (broadcastInDim S4096x1x8 ![0, 2] bcast_S4096x8_S4096x1x8_0_2 S))
  concatenate S8x4096x2x64 3 [⟨S8x4096x2x8, subf (mulf y1 c) (mulf y2 s)⟩, ⟨S8x4096x2x8, addf (mulf y1 s) (mulf y2 c)⟩, ⟨S8x4096x2x48, extractStridedSlice S8x4096x2x48 ![0, 0, 0, 16] Y slices_S8x4096x2x64_S8x4096x2x48_0_0_0_16⟩] concatenates_S8x4096x2x8_S8x4096x2x8_S8x4096x2x48_S8x4096x2x64_d3

theorem turn8_at (Y : FVec Ideal S8x4096x8x64 .f32) (C S : FVec Ideal S4096x8 .f32) (b : Fin 8) (s : Fin 4096) (a : Fin 8) (f : Fin 64) :
    turn8 Y C S (ix4 b s a f) = rot (fun f => Y (ix4 b s a f)) (fun i => C (ix2 s i)) (fun i => S (ix2 s i)) f := by
  pointwise [turn8, rot]
  repeat' split
  all_goals first
    | (exfalso; omega)
    | blk_ext
    | (refine congrArg₂ (· - ·) (congrArg₂ (· * ·) ?_ ?_) (congrArg₂ (· * ·) ?_ ?_) <;> blk_ext)
    | (refine congrArg₂ (· + ·) (congrArg₂ (· * ·) ?_ ?_) (congrArg₂ (· * ·) ?_ ?_) <;> blk_ext)

theorem turn2_at (Y : FVec Ideal S8x4096x2x64 .f32) (C S : FVec Ideal S4096x8 .f32) (b : Fin 8) (s : Fin 4096) (a : Fin 2) (f : Fin 64) :
    turn2 Y C S (ix4 b s a f) = rot (fun f => Y (ix4 b s a f)) (fun i => C (ix2 s i)) (fun i => S (ix2 s i)) f := by
  pointwise [turn2, rot]
  repeat' split
  all_goals first
    | (exfalso; omega)
    | blk_ext
    | (refine congrArg₂ (· - ·) (congrArg₂ (· * ·) ?_ ?_) (congrArg₂ (· * ·) ?_ ?_) <;> blk_ext)
    | (refine congrArg₂ (· + ·) (congrArg₂ (· * ·) ?_ ?_) (congrArg₂ (· * ·) ?_ ?_) <;> blk_ext)

/-- Heads' features before positions. -/
def rows (Y : FVec Ideal S8x4096x8x64 .f32) : FVec Ideal S8x512x4096 .f32 :=
  shapeCast _ (transpose S8x8x64x4096 [0, 2, 3, 1] Y transposes_S8x4096x8x64_S8x8x64x4096_0_2_3_1) shapeCasts_S8x8x64x4096_S8x512x4096

theorem rows_at (Y : FVec Ideal S8x4096x8x64 .f32) (b : Fin 8) (r : Fin 512) (s : Fin 4096) :
    rows Y (ix3 b r s) = Y (ix4 b s ⟨r.val / 64, by omega⟩ ⟨r.val % 64, Nat.mod_lt _ (by omega)⟩) := by
  pointwise [rows]

/-- One if the marker is in its lane, by the floor of a quotient as the reference takes it. -/
def marks (n : BitVec 32) : FVec Ideal S4096x128 .f32 :=
  let p : IVec S4096x1 32 := broadcastInDim S4096x1 ![0] bcast_S4096_S4096x1_0 (iotaInDim S4096 32 0)
  let d : IVec S_ 32 := constantI S_ 32 n
  let q : IVec S4096x1 32 := Host.divsi p (broadcastInDim S4096x1 ![] bcast_S_S4096x1 d)
  select (cmpi .eq (broadcastInDim S4096x128 ![0, 1] bcast_S4096x1_S4096x128_0_1 (select (andi (cmpi .ne (signi p) (broadcastInDim S4096x1 ![] bcast_S_S4096x1 (signi d))) (cmpi .ne (Host.remsi p (broadcastInDim S4096x1 ![] bcast_S_S4096x1 d)) (broadcastInDim S4096x1 ![] bcast_S_S4096x1 (constantI S_ 32 0#32)))) (subi q (broadcastInDim S4096x1 ![] bcast_S_S4096x1 (constantI S_ 32 1#32))) q)) (broadcastInDim S4096x128 ![0, 1] bcast_S1x128_S4096x128_0_1 (broadcastInDim S1x128 ![1] bcast_S128_S1x128_1 (iotaInDim S128 32 0)))) (broadcastInDim S4096x128 ![] bcast_S_S4096x128 (constant S_ .f32 0x3F800000#32)) (broadcastInDim S4096x128 ![] bcast_S_S4096x128 (constant S_ .f32 0x00000000#32))

/-- The floor of a position's quotient by a block's length. -/
theorem floors : ∀ s : Fin 4096, ∀ n ∈ [64, 256],
    Scalar.select
      (IntOp.andi
        (IntOp.cmpi CmpIPredicate.ne (if BitVec.ofNat 32 s.val = 0 then (0 : BitVec 32) else if (BitVec.ofNat 32 s.val).msb = true then -1 else 1)
          (if BitVec.ofNat 32 n = 0 then (0 : BitVec 32) else if (BitVec.ofNat 32 n).msb = true then -1 else 1))
        (IntOp.cmpi CmpIPredicate.ne (IntOp.remsi ArithUnit.host (BitVec.ofNat 32 s.val) (BitVec.ofNat 32 n)) 0#32))
      (IntOp.subi (IntOp.divsi ArithUnit.host (BitVec.ofNat 32 s.val) (BitVec.ofNat 32 n)) 1#32)
      (IntOp.divsi ArithUnit.host (BitVec.ofNat 32 s.val) (BitVec.ofNat 32 n)) = BitVec.ofNat 32 (s.val / n) := by
  decide +kernel

theorem marks_at (n : ℕ) (hn : n ∈ [64, 256]) (s : Fin 4096) (l : Fin 128) : marks (BitVec.ofNat 32 n) (ix2 s l) = hot (s.val / n = l.val) := by
  pointwise [marks]
  exact (congrArg (fun q => Scalar.select (IntOp.cmpi CmpIPredicate.eq q (BitVec.ofNat 32 l.val)) (1 : EReal) 0) (floors s n hn)).trans
    (hot_eq _ _ (lt_of_le_of_lt (Nat.div_le_self _ _) s.isLt) (by omega))

/-- The rows below the values. -/
def below : FVec Ideal S16x1 .f32 := (broadcastInDim S16x1 ![0] bcast_S16_S16x1_0 (select (cmpi .eq (iotaInDim S16 32 0) (broadcastInDim S16 ![] bcast_S_S16 (constantI S_ 32 0#32))) (broadcastInDim S16 ![] bcast_S_S16 (constant S_ .f32 0x3F800000#32)) (broadcastInDim S16 ![] bcast_S_S16 (constant S_ .f32 0x00000000#32))))

theorem below_at (i : Fin 16) : below (ix2 i 0) = hot (i.val = 0) := by
  pointwise [below]
  exact hot_eq i.val 0 (by omega) (by omega)

variable (V0 : Valuation τ sig (Elt Ideal))

/-- The reference's three arguments. -/
abbrev x : FVec Ideal S8x4096x1024 .f32 := V0 (Proc.devRef .tc main_arg0)
abbrev g : FVec Ideal S1024 .f32 := V0 (Proc.devRef .tc main_arg1)
abbrev w : FVec Ideal S1024x4888 .f32 := V0 (Proc.devRef .tc main_arg2)

/-- The reference's projection. -/
def P : FVec Ideal S8x4096x4888 .f32 := res_main_v31 V0

theorem P_at (b : Fin 8) (s : Fin 4096) (n : Fin 4888) : P V0 (ix3 b s n) = pr (x V0) (g V0) (w V0) b s n := by
  unfold P res_main_v31 pr x g w
  generalize (V0 (Proc.devRef .tc main_arg0) : FVec Ideal S8x4096x1024 .f32) = x
  generalize (V0 (Proc.devRef .tc main_arg1) : FVec Ideal S1024 .f32) = g
  generalize (V0 (Proc.devRef .tc main_arg2) : FVec Ideal S1024x4888 .f32) = w
  pointwise! [Cert.MergeRows.norm, Cert.MergeRows.rms]

theorem cos_at (s : Fin 4096) (i : Fin 8) : res_main_v16 V0 (ix2 s i) = cosAt s i := rfl
theorem sin_at (s : Fin 4096) (i : Fin 8) : res_main_v17 V0 (ix2 s i) = sinAt s i := rfl

/-- Eight heads side by side, one below the other. -/
theorem heads8 (A : FVec Ideal S8x4096x4888 .f32) (b : Fin 8) (s : Fin 4096) (a : Fin 8) (f : Fin 64) :
    shapeCast S8x4096x8x64 (extractStridedSlice S8x4096x512 ![0, 0, 0] A slices_S8x4096x4888_S8x4096x512_0_0_0) shapeCasts_S8x4096x512_S8x4096x8x64 (ix4 b s a f)
      = A (ix3 b s ⟨0 + (a.val * 64 + f.val), by omega⟩)
    ∧ shapeCast S8x4096x8x64 (extractStridedSlice S8x4096x512 ![0, 0, 1304] A slices_S8x4096x4888_S8x4096x512_0_0_1304) shapeCasts_S8x4096x512_S8x4096x8x64 (ix4 b s a f)
      = A (ix3 b s ⟨1304 + (a.val * 64 + f.val), by omega⟩)
    ∧ shapeCast S8x4096x8x64 (extractStridedSlice S8x4096x512 ![0, 0, 1816] A slices_S8x4096x4888_S8x4096x512_0_0_1816) shapeCasts_S8x4096x512_S8x4096x8x64 (ix4 b s a f)
      = A (ix3 b s ⟨1816 + (a.val * 64 + f.val), by omega⟩) := by
  refine ⟨?_, ?_, ?_⟩
  all_goals pointwise

/-- Two heads side by side, one below the other. -/
theorem heads2 (A : FVec Ideal S8x4096x4888 .f32) (b : Fin 8) (s : Fin 4096) (a : Fin 2) (f : Fin 64) :
    shapeCast S8x4096x2x64 (extractStridedSlice S8x4096x128 ![0, 0, 768] A slices_S8x4096x4888_S8x4096x128_0_0_768) shapeCasts_S8x4096x128_S8x4096x2x64 (ix4 b s a f)
      = A (ix3 b s ⟨768 + (a.val * 64 + f.val), by omega⟩)
    ∧ shapeCast S8x4096x2x64 (extractStridedSlice S8x4096x128 ![0, 0, 1024] A slices_S8x4096x4888_S8x4096x128_0_0_1024) shapeCasts_S8x4096x128_S8x4096x2x64 (ix4 b s a f)
      = A (ix3 b s ⟨1024 + (a.val * 64 + f.val), by omega⟩) := by
  refine ⟨?_, ?_⟩
  all_goals pointwise

theorem v33_at (b : Fin 8) (s : Fin 4096) (a : Fin 8) (f : Fin 64) :
    res_main_v33 V0 (ix4 b s a f) = pr (x V0) (g V0) (w V0) b s ⟨0 + (a.val * 64 + f.val), by omega⟩ := (heads8 (P V0) b s a f).1.trans (P_at V0 b s _)
theorem v47_at (b : Fin 8) (s : Fin 4096) (a : Fin 8) (f : Fin 64) :
    res_main_v47 V0 (ix4 b s a f) = pr (x V0) (g V0) (w V0) b s ⟨1304 + (a.val * 64 + f.val), by omega⟩ := (heads8 (P V0) b s a f).2.1.trans (P_at V0 b s _)
theorem v49_at (b : Fin 8) (s : Fin 4096) (a : Fin 8) (f : Fin 64) :
    res_main_v49 V0 (ix4 b s a f) = pr (x V0) (g V0) (w V0) b s ⟨1816 + (a.val * 64 + f.val), by omega⟩ := (heads8 (P V0) b s a f).2.2.trans (P_at V0 b s _)
theorem v39_at (b : Fin 8) (s : Fin 4096) (a : Fin 2) (f : Fin 64) :
    res_main_v39 V0 (ix4 b s a f) = pr (x V0) (g V0) (w V0) b s ⟨768 + (a.val * 64 + f.val), by omega⟩ := (heads2 (P V0) b s a f).1.trans (P_at V0 b s _)
theorem v43_at (b : Fin 8) (s : Fin 4096) (a : Fin 2) (f : Fin 64) :
    res_main_v43 V0 (ix4 b s a f) = pr (x V0) (g V0) (w V0) b s ⟨1024 + (a.val * 64 + f.val), by omega⟩ := (heads2 (P V0) b s a f).2.trans (P_at V0 b s _)

/-- Heads of the reference, turned. -/
theorem turned8 (n : ℕ) (hn : n + 512 ≤ 4888) (Y : FVec Ideal S8x4096x8x64 .f32)
    (hY : ∀ b s a f, Y (ix4 b s a f) = pr (x V0) (g V0) (w V0) b s ⟨n + (a.val * 64 + f.val), by omega⟩) (b : Fin 8) (s : Fin 4096) (a : Fin 8) (f : Fin 64) :
    turn8 Y (res_main_v16 V0) (res_main_v17 V0) (ix4 b s a f) = turned (x V0) (g V0) (w V0) b s (n + a.val * 64) (by omega) f := by
  rw [turn8_at]
  unfold turned
  have e : (fun f => Y (ix4 b s a f)) = fun f : Fin 64 => pr (x V0) (g V0) (w V0) b s ⟨n + a.val * 64 + f.val, by omega⟩ :=
    funext fun f => (hY b s a f).trans (congrArg _ (Fin.ext (by show n + (a.val * 64 + f.val) = n + a.val * 64 + f.val; omega)))
  rw [e]
  rfl

theorem turned2 (n : ℕ) (hn : n + 128 ≤ 4888) (Y : FVec Ideal S8x4096x2x64 .f32)
    (hY : ∀ b s a f, Y (ix4 b s a f) = pr (x V0) (g V0) (w V0) b s ⟨n + (a.val * 64 + f.val), by omega⟩) (b : Fin 8) (s : Fin 4096) (a : Fin 2) (f : Fin 64) :
    turn2 Y (res_main_v16 V0) (res_main_v17 V0) (ix4 b s a f) = turned (x V0) (g V0) (w V0) b s (n + a.val * 64) (by omega) f := by
  rw [turn2_at]
  unfold turned
  have e : (fun f => Y (ix4 b s a f)) = fun f : Fin 64 => pr (x V0) (g V0) (w V0) b s ⟨n + a.val * 64 + f.val, by omega⟩ :=
    funext fun f => (hY b s a f).trans (congrArg _ (Fin.ext (by show n + (a.val * 64 + f.val) = n + a.val * 64 + f.val; omega)))
  rw [e]
  rfl

/-! ## The layouts of the results, at any arrays -/

def stackQ (A B : FVec Ideal S8x4096x8x64 .f32) : FVec Ideal S8x1024x4096 .bf16 :=
  truncf .bf16 (concatenate S8x1024x4096 1 [⟨S8x512x4096, rows A⟩, ⟨S8x512x4096, rows B⟩] concatenates_S8x512x4096_S8x512x4096_S8x1024x4096_d1) bitsLt_bf16_f32

theorem stackQ_at (A B : FVec Ideal S8x4096x8x64 .f32) (y : S8x1024x4096.Idx) :
    stackQ A B y = if h : (y 1).val < 512 then A (ix4 (y 0) (y 2) ⟨(y 1).val / 64, by omega⟩ ⟨(y 1).val % 64, by omega⟩)
      else B (ix4 (y 0) (y 2) ⟨((y 1).val - 512) / 64, by have h : (y 1).val < 1024 := (y 1).isLt; omega⟩ ⟨((y 1).val - 512) % 64, by omega⟩) := by
  pointwise [stackQ, rows]

def stackQM (T : FVec Ideal S8x4096x8x64 .f32) : FVec Ideal S8x1024x4096 .bf16 :=
  concatenate S8x1024x4096 1 [⟨S8x512x4096, truncf .bf16 (rows T) bitsLt_bf16_f32⟩, ⟨S8x512x4096, (truncf .bf16 (subf (rows T) (extf .f32 (truncf .bf16 (rows T) bitsLt_bf16_f32) bitsLt_bf16_f32)) bitsLt_bf16_f32)⟩] concatenates_S8x512x4096_S8x512x4096_S8x1024x4096_d1

theorem stackQM_at (T : FVec Ideal S8x4096x8x64 .f32) (y : S8x1024x4096.Idx) :
    stackQM T y = if h : (y 1).val < 512 then T (ix4 (y 0) (y 2) ⟨(y 1).val / 64, by omega⟩ ⟨(y 1).val % 64, by omega⟩)
      else T (ix4 (y 0) (y 2) ⟨((y 1).val - 512) / 64, by have h : (y 1).val < 1024 := (y 1).isLt; omega⟩ ⟨((y 1).val - 512) % 64, by omega⟩)
        - T (ix4 (y 0) (y 2) ⟨((y 1).val - 512) / 64, by have h : (y 1).val < 1024 := (y 1).isLt; omega⟩ ⟨((y 1).val - 512) % 64, by omega⟩) := by
  pointwise [stackQM, rows]

def gates (A : FVec Ideal S8x4096x4888 .f32) : FVec Ideal S8x2x16x4096 .f32 :=
  Host.divf (broadcastInDim S8x2x16x4096 ![] bcast_S_S8x2x16x4096 (constant S_ .f32 0x3F800000#32)) (addf (broadcastInDim S8x2x16x4096 ![] bcast_S_S8x2x16x4096 (constant S_ .f32 0x3F800000#32)) (Host.exp (Host.negf (transpose S8x2x16x4096 [0, 2, 3, 1] (concatenate S8x4096x2x16 3 [⟨S8x4096x2x12, (shapeCast _ (extractStridedSlice S8x4096x24 ![0, 0, 1280] A slices_S8x4096x4888_S8x4096x24_0_0_1280) shapeCasts_S8x4096x24_S8x4096x2x12)⟩, ⟨S8x4096x2x4, (broadcastInDim S8x4096x2x4 ![] bcast_S_S8x4096x2x4 (constant S_ .f32 0x00000000#32))⟩] concatenates_S8x4096x2x12_S8x4096x2x4_S8x4096x2x16_d3) transposes_S8x4096x2x16_S8x2x16x4096_0_2_3_1))))

theorem gates_at (A : FVec Ideal S8x4096x4888 .f32) (y : S8x2x16x4096.Idx) :
    gates A y = sigm (if h : (y 2).val < 12 then A (ix3 (y 0) (y 3) ⟨1280 + ((y 1).val * 12 + (y 2).val), by have h : (y 1).val < 2 := (y 1).isLt; omega⟩) else 0) := by
  pointwise [gates, sigm]

def keysSel (T : FVec Ideal S8x4096x2x64 .f32) : FVec Ideal S8x16x256x256 .bf16 :=
  truncf .bf16 (shapeCast _ (concatenate S8x4096x256 2 [⟨S8x4096x128, shapeCast _ T shapeCasts_S8x4096x2x64_S8x4096x128⟩, ⟨S8x4096x128, broadcastInDim S8x4096x128 ![1, 2] bcast_S4096x128_S8x4096x128_1_2 (marks (BitVec.ofNat 32 64))⟩] concatenates_S8x4096x128_S8x4096x128_S8x4096x256_d2) shapeCasts_S8x4096x256_S8x16x256x256) bitsLt_bf16_f32

theorem keysSel_at (T : FVec Ideal S8x4096x2x64 .f32) (y : S8x16x256x256.Idx) :
    keysSel T y = if h : (y 3).val < 128 then T (ix4 (y 0) ⟨(y 1).val * 256 + (y 2).val, by have h : (y 1).val < 16 := (y 1).isLt; have h' : (y 2).val < 256 := (y 2).isLt; omega⟩ ⟨(y 3).val / 64, by omega⟩ ⟨(y 3).val % 64, by omega⟩)
      else marks (BitVec.ofNat 32 64) (ix2 ⟨(y 1).val * 256 + (y 2).val, by have h : (y 1).val < 16 := (y 1).isLt; have h' : (y 2).val < 256 := (y 2).isLt; omega⟩
        ⟨(y 3).val - 128, by have h : (y 3).val < 256 := (y 3).isLt; omega⟩) := by
  unfold keysSel
  generalize marks (BitVec.ofNat 32 64) = M
  pointwise

def keysWin (T : FVec Ideal S8x4096x2x64 .f32) : FVec Ideal S8x16x256x128 .bf16 :=
  truncf .bf16 (shapeCast _ T shapeCasts_S8x4096x2x64_S8x16x256x128) bitsLt_bf16_f32

theorem keysWin_at (T : FVec Ideal S8x4096x2x64 .f32) (y : S8x16x256x128.Idx) :
    keysWin T y = T (ix4 (y 0) ⟨(y 1).val * 256 + (y 2).val, by have h : (y 1).val < 16 := (y 1).isLt; have h' : (y 2).val < 256 := (y 2).isLt; omega⟩
      ⟨(y 3).val / 64, by have h : (y 3).val < 128 := (y 3).isLt; omega⟩ ⟨(y 3).val % 64, by omega⟩) := by
  pointwise [keysWin]

def keysMoba (T : FVec Ideal S8x4096x8x64 .f32) : FVec Ideal S8x16x256x1024 .bf16 :=
  truncf .bf16 (shapeCast _ (concatenate S8x4096x4x256 3 [⟨S8x4096x4x128, (shapeCast _ T shapeCasts_S8x4096x8x64_S8x4096x4x128)⟩, ⟨S8x4096x4x128, (broadcastInDim S8x4096x4x128 ![0, 1, 2, 3] bcast_S8x4096x1x128_S8x4096x4x128_0_1_2_3 (broadcastInDim S8x4096x1x128 ![0, 1, 3] bcast_S8x4096x128_S8x4096x1x128_0_1_3 (broadcastInDim S8x4096x128 ![1, 2] bcast_S4096x128_S8x4096x128_1_2 (marks (BitVec.ofNat 32 256)))))⟩] concatenates_S8x4096x4x128_S8x4096x4x128_S8x4096x4x256_d3) shapeCasts_S8x4096x4x256_S8x16x256x1024) bitsLt_bf16_f32

theorem keysMoba_at (T : FVec Ideal S8x4096x8x64 .f32) (y : S8x16x256x1024.Idx) :
    keysMoba T y = if h : (y 3).val % 256 < 128 then T (ix4 (y 0) ⟨(y 1).val * 256 + (y 2).val, by have h : (y 1).val < 16 := (y 1).isLt; have h' : (y 2).val < 256 := (y 2).isLt; omega⟩
          ⟨(y 3).val / 256 * 2 + (y 3).val % 256 / 64, by have h : (y 3).val < 1024 := (y 3).isLt; omega⟩ ⟨(y 3).val % 256 % 64, by omega⟩)
      else marks (BitVec.ofNat 32 256) (ix2 ⟨(y 1).val * 256 + (y 2).val, by have h : (y 1).val < 16 := (y 1).isLt; have h' : (y 2).val < 256 := (y 2).isLt; omega⟩
        ⟨(y 3).val % 256 - 128, by omega⟩) := by
  have e : ∀ (Z : FVec Ideal S8x4096x4x256 .f32), (truncf (F := Ideal) .bf16 (shapeCast S8x16x256x1024 Z shapeCasts_S8x4096x4x256_S8x16x256x1024) bitsLt_bf16_f32 : FVec Ideal S8x16x256x1024 .bf16) y
      = Z (ix4 (y 0) ⟨(y 1).val * 256 + (y 2).val, by have h : (y 1).val < 16 := (y 1).isLt; have h' : (y 2).val < 256 := (y 2).isLt; omega⟩
        ⟨(y 3).val / 256, by have h : (y 3).val < 1024 := (y 3).isLt; omega⟩ ⟨(y 3).val % 256, by omega⟩) := fun Z => by pointwise
  unfold keysMoba
  generalize marks (BitVec.ofNat 32 256) = M
  refine (e _).trans ?_
  pointwise

def means (T : FVec Ideal S8x4096x8x64 .f32) : FVec Ideal S8x128x512 .f32 :=
  shapeCast _ (broadcastInDim S8x16x8x512 ![0, 1, 2, 3] bcast_S8x16x1x512_S8x16x8x512_0_1_2_3 (broadcastInDim S8x16x1x512 ![0, 1, 3] bcast_S8x16x512_S8x16x1x512_0_1_3 (Host.divf (Host.reduceAdd (shapeCast _ T shapeCasts_S8x4096x8x64_S8x16x256x512) (constant S_ .f32 0x00000000#32) reducesTo_S8x16x256x512_S8x16x512_d2 h_S_) (broadcastInDim S8x16x512 ![] bcast_S_S8x16x512 (constant S_ .f32 0x43800000#32))))) shapeCasts_S8x16x8x512_S8x128x512

theorem means_at (T : FVec Ideal S8x4096x8x64 .f32) (y : S8x128x512.Idx) :
    means T y = Ideal.div (∑ p : Fin 256, T (ix4 (y 0) ⟨(y 1).val / 8 * 256 + p.val, by have h : (y 1).val < 128 := (y 1).isLt; omega⟩
      ⟨(y 2).val / 64, by have h : (y 2).val < 512 := (y 2).isLt; omega⟩ ⟨(y 2).val % 64, by omega⟩)) (Ideal.ofBits .f32 0x43800000#32) := by
  pointwise [means]

def mergeGates (A : FVec Ideal S8x4096x4888 .f32) : FVec Ideal S32768x2048 .bf16 :=
  truncf .bf16 (shapeCast _ (Host.divf (broadcastInDim S8x4096x2048 ![] bcast_S_S8x4096x2048 (constant S_ .f32 0x3F800000#32)) (addf (broadcastInDim S8x4096x2048 ![] bcast_S_S8x4096x2048 (constant S_ .f32 0x3F800000#32)) (Host.exp (Host.negf (extractStridedSlice S8x4096x2048 ![0, 0, 2840] A slices_S8x4096x4888_S8x4096x2048_0_0_2840))))) shapeCasts_S8x4096x2048_S32768x2048) bitsLt_bf16_f32

theorem mergeGates_at (A : FVec Ideal S8x4096x4888 .f32) (y : S32768x2048.Idx) :
    mergeGates A y = sigm (A (ix3 ⟨(y 0).val / 4096, by have h : (y 0).val < 32768 := (y 0).isLt; omega⟩ ⟨(y 0).val % 4096, by omega⟩
      ⟨2840 + (y 1).val, by have h : (y 1).val < 2048 := (y 1).isLt; omega⟩)) := by
  pointwise [mergeGates, sigm]

/-- The values' columns from 896, 1152 and 2328 on, over the rows below. -/
theorem values_at (A : FVec Ideal S8x4096x4888 .f32) (M : FVec Ideal S16x1 .f32) :
    (∀ y : S8x2x16x80x256.Idx, (truncf (F := Ideal) .bf16 (concatenate S8x2x16x80x256 3 [⟨S8x2x16x64x256, (transpose S8x2x16x64x256 [0, 3, 1, 4, 2] (shapeCast _ (shapeCast _ (extractStridedSlice S8x4096x128 ![0, 0, 896] A slices_S8x4096x4888_S8x4096x128_0_0_896) shapeCasts_S8x4096x128_S8x4096x2x64) shapeCasts_S8x4096x2x64_S8x16x256x2x64) transposes_S8x16x256x2x64_S8x2x16x64x256_0_3_1_4_2)⟩, ⟨S8x2x16x16x256, broadcastInDim S8x2x16x16x256 ![3, 4] bcast_S16x1_S8x2x16x16x256_3_4 M⟩] concatenates_S8x2x16x64x256_S8x2x16x16x256_S8x2x16x80x256_d3) bitsLt_bf16_f32 : FVec Ideal S8x2x16x80x256 .bf16) y
        = if h : (y 3).val < 64 then A (ix3 (y 0) ⟨(y 2).val * 256 + (y 4).val, by have h : (y 2).val < 16 := (y 2).isLt; have h' : (y 4).val < 256 := (y 4).isLt; omega⟩
            ⟨896 + ((y 1).val * 64 + (y 3).val), by have h : (y 1).val < 2 := (y 1).isLt; omega⟩)
          else M (ix2 ⟨(y 3).val - 64, by have h : (y 3).val < 80 := (y 3).isLt; omega⟩ 0))
    ∧ (∀ y : S8x2x16x80x256.Idx, (truncf (F := Ideal) .bf16 (concatenate S8x2x16x80x256 3 [⟨S8x2x16x64x256, (transpose S8x2x16x64x256 [0, 3, 1, 4, 2] (shapeCast _ (shapeCast _ (extractStridedSlice S8x4096x128 ![0, 0, 1152] A slices_S8x4096x4888_S8x4096x128_0_0_1152) shapeCasts_S8x4096x128_S8x4096x2x64) shapeCasts_S8x4096x2x64_S8x16x256x2x64) transposes_S8x16x256x2x64_S8x2x16x64x256_0_3_1_4_2)⟩, ⟨S8x2x16x16x256, broadcastInDim S8x2x16x16x256 ![3, 4] bcast_S16x1_S8x2x16x16x256_3_4 M⟩] concatenates_S8x2x16x64x256_S8x2x16x16x256_S8x2x16x80x256_d3) bitsLt_bf16_f32 : FVec Ideal S8x2x16x80x256 .bf16) y
        = if h : (y 3).val < 64 then A (ix3 (y 0) ⟨(y 2).val * 256 + (y 4).val, by have h : (y 2).val < 16 := (y 2).isLt; have h' : (y 4).val < 256 := (y 4).isLt; omega⟩
            ⟨1152 + ((y 1).val * 64 + (y 3).val), by have h : (y 1).val < 2 := (y 1).isLt; omega⟩)
          else M (ix2 ⟨(y 3).val - 64, by have h : (y 3).val < 80 := (y 3).isLt; omega⟩ 0))
    ∧ (∀ y : S8x8x16x80x256.Idx, (truncf (F := Ideal) .bf16 (concatenate S8x8x16x80x256 3 [⟨S8x8x16x64x256, (transpose S8x8x16x64x256 [0, 3, 1, 4, 2] (shapeCast _ (shapeCast _ (extractStridedSlice S8x4096x512 ![0, 0, 2328] A slices_S8x4096x4888_S8x4096x512_0_0_2328) shapeCasts_S8x4096x512_S8x4096x8x64) shapeCasts_S8x4096x8x64_S8x16x256x8x64) transposes_S8x16x256x8x64_S8x8x16x64x256_0_3_1_4_2)⟩, ⟨S8x8x16x16x256, broadcastInDim S8x8x16x16x256 ![3, 4] bcast_S16x1_S8x8x16x16x256_3_4 M⟩] concatenates_S8x8x16x64x256_S8x8x16x16x256_S8x8x16x80x256_d3) bitsLt_bf16_f32 : FVec Ideal S8x8x16x80x256 .bf16) y
        = if h : (y 3).val < 64 then A (ix3 (y 0) ⟨(y 2).val * 256 + (y 4).val, by have h : (y 2).val < 16 := (y 2).isLt; have h' : (y 4).val < 256 := (y 4).isLt; omega⟩
            ⟨2328 + ((y 1).val * 64 + (y 3).val), by have h : (y 1).val < 8 := (y 1).isLt; omega⟩)
          else M (ix2 ⟨(y 3).val - 64, by have h : (y 3).val < 80 := (y 3).isLt; omega⟩ 0)) := by
  refine ⟨?_, ?_, ?_⟩
  all_goals intro y; pointwise

end Cert.InProjReference
-- ==== Proof.InProjResults.lean ====
module

public import proofs.«01_k».proof.Proof.InProjReference

@[expose] public section

set_option maxRecDepth 16384

noncomputable section

open Idealize.ShloMosaic Idealize.ShloMosaic.TcCoe Idealize.SL.Sem

/-! # The reference's thirteen results in closed form -/

namespace Cert.InProjResults

open Cert.Reference3Ideal Cert.Reference3Ideal.Gen Cert.Reference3Ideal.Value Cert.InProjRows Cert.InProjReference

variable (V0 : Valuation τ sig (Elt Ideal))

/-! ## The turned heads -/

def qr : FVec Ideal S8x4096x8x64 .f32 := turn8 (res_main_v33 V0) (res_main_v16 V0) (res_main_v17 V0)
def qm : FVec Ideal S8x4096x8x64 .f32 := turn8 (res_main_v47 V0) (res_main_v16 V0) (res_main_v17 V0)
def km : FVec Ideal S8x4096x8x64 .f32 := turn8 (res_main_v49 V0) (res_main_v16 V0) (res_main_v17 V0)
def ks : FVec Ideal S8x4096x2x64 .f32 := turn2 (res_main_v39 V0) (res_main_v16 V0) (res_main_v17 V0)
def kw : FVec Ideal S8x4096x2x64 .f32 := turn2 (res_main_v43 V0) (res_main_v16 V0) (res_main_v17 V0)

theorem turned_eq (X : FVec Ideal S8x4096x1024 .f32) (G : FVec Ideal S1024 .f32) (W : FVec Ideal S1024x4888 .f32) (b : Fin 8) (s s' : Fin 4096)
    (n n' : ℕ) (hn : n + 64 ≤ 4888) (hn' : n' + 64 ≤ 4888) (f f' : Fin 64) (hs : s.val = s'.val) (h : n = n') (hf : f.val = f'.val) :
    turned X G W b s n hn f = turned X G W b s' n' hn' f' := by
  subst h
  rw [Fin.ext hs, Fin.ext hf]

theorem pr_eq (X : FVec Ideal S8x4096x1024 .f32) (G : FVec Ideal S1024 .f32) (W : FVec Ideal S1024x4888 .f32) (b : Fin 8) (s s' : Fin 4096)
    (n n' : Fin 4888) (hs : s.val = s'.val) (h : n.val = n'.val) : pr X G W b s n = pr X G W b s' n' := by
  rw [Fin.ext hs, Fin.ext h]

theorem qr_at (b : Fin 8) (s : Fin 4096) (a : Fin 8) (f : Fin 64) :
    qr V0 (ix4 b s a f) = turned (x V0) (g V0) (w V0) b s (0 + a.val * 64) (by omega) f := turned8 V0 0 (by omega) _ (v33_at V0) b s a f
theorem qm_at (b : Fin 8) (s : Fin 4096) (a : Fin 8) (f : Fin 64) :
    qm V0 (ix4 b s a f) = turned (x V0) (g V0) (w V0) b s (1304 + a.val * 64) (by omega) f := turned8 V0 1304 (by omega) _ (v47_at V0) b s a f
theorem km_at (b : Fin 8) (s : Fin 4096) (a : Fin 8) (f : Fin 64) :
    km V0 (ix4 b s a f) = turned (x V0) (g V0) (w V0) b s (1816 + a.val * 64) (by omega) f := turned8 V0 1816 (by omega) _ (v49_at V0) b s a f
theorem ks_at (b : Fin 8) (s : Fin 4096) (a : Fin 2) (f : Fin 64) :
    ks V0 (ix4 b s a f) = turned (x V0) (g V0) (w V0) b s (768 + a.val * 64) (by omega) f := turned2 V0 768 (by omega) _ (v39_at V0) b s a f
theorem kw_at (b : Fin 8) (s : Fin 4096) (a : Fin 2) (f : Fin 64) :
    kw V0 (ix4 b s a f) = turned (x V0) (g V0) (w V0) b s (1024 + a.val * 64) (by omega) f := turned2 V0 1024 (by omega) _ (v43_at V0) b s a f

/-! ## The results -/

theorem ref9 : val5 V0 (Proc.devRef .tc main_v170)
    = fun i : S8x1024x4096.Idx => outQ (x V0) (g V0) (w V0) (i 0) (i 1) (i 2) := by
  refine (val5_main_v170 V0).trans ((show _ = stackQ (res_main_v33 V0) (qr V0) from rfl).trans (funext fun y => (stackQ_at _ _ y).trans ?_))
  have h : (y 1).val < 1024 := (y 1).isLt
  unfold outQ
  split
  · refine (v33_at V0 _ _ _ _).trans (pr_eq _ _ _ _ _ _ _ _ rfl ?_)
    show 0 + ((y 1).val / 64 * 64 + (y 1).val % 64) = (y 1).val
    omega
  · refine (qr_at V0 _ _ _ _).trans (turned_eq _ _ _ _ _ _ _ _ _ _ _ _ rfl ?_ ?_)
    · show 0 + ((y 1).val - 512) / 64 * 64 = ((y 1).val - 512) / 64 * 64
      omega
    · show ((y 1).val - 512) % 64 = (y 1).val % 64
      omega

theorem ref10 : val5 V0 (Proc.devRef .tc main_v221)
    = fun i : S8x1024x4096.Idx => outQM (x V0) (g V0) (w V0) (i 0) (i 1) (i 2) := by
  refine (val5_main_v221 V0).trans ((show _ = stackQM (qm V0) from rfl).trans (funext fun y => (stackQM_at _ y).trans ?_))
  have h : (y 1).val < 1024 := (y 1).isLt
  unfold outQM
  split
  · exact qm_at V0 _ _ _ _
  · have e := (qm_at V0 (y 0) (y 2) ⟨((y 1).val - 512) / 64, by omega⟩ ⟨((y 1).val - 512) % 64, by omega⟩).trans
      (turned_eq (x V0) (g V0) (w V0) (y 0) (y 2) (y 2) _ (1304 + ((y 1).val - 512) / 64 * 64) _ (by omega) _ ⟨(y 1).val % 64, by omega⟩ rfl rfl
        (by show ((y 1).val - 512) % 64 = (y 1).val % 64; omega))
    exact congrArg₂ (· - ·) e e

theorem ref11 : val5 V0 (Proc.devRef .tc main_v187)
    = fun i : S8x2x16x4096.Idx => outG (x V0) (g V0) (w V0) (i 0) (i 1) (i 2) (i 3) := by
  refine (val5_main_v187 V0).trans ((show _ = gates (P V0) from rfl).trans (funext fun y => (gates_at _ y).trans (congrArg sigm ?_)))
  split
  · exact P_at V0 _ _ _
  · rfl

theorem ref12 : val5 V0 (Proc.devRef .tc main_v222)
    = fun i : S32768x128.Idx => outC (x V0) (g V0) (w V0) 512 (by omega) (i 0) (i 1) := by
  refine (val5_main_v222 V0).trans (funext fun y => ?_)
  have e : ∀ A : FVec Ideal S8x4096x4888 .f32, (shapeCast S32768x128 (shapeCast S8x4096x2x64 (extractStridedSlice S8x4096x128 ![0, 0, 512] A slices_S8x4096x4888_S8x4096x128_0_0_512) shapeCasts_S8x4096x128_S8x4096x2x64) shapeCasts_S8x4096x2x64_S32768x128) y
      = A (ix3 ⟨(y 0).val / 4096, by have h : (y 0).val < 32768 := (y 0).isLt; omega⟩ ⟨(y 0).val % 4096, by omega⟩ ⟨512 + (y 1).val, by have h : (y 1).val < 128 := (y 1).isLt; omega⟩) :=
    fun A => by pointwise
  exact (e (P V0)).trans (P_at V0 _ _ _)

theorem ref13 : val5 V0 (Proc.devRef .tc main_v223)
    = fun i : S32768x128.Idx => outC (x V0) (g V0) (w V0) 640 (by omega) (i 0) (i 1) := by
  refine (val5_main_v223 V0).trans (funext fun y => ?_)
  have e : ∀ A : FVec Ideal S8x4096x4888 .f32, (shapeCast S32768x128 (shapeCast S8x4096x2x64 (extractStridedSlice S8x4096x128 ![0, 0, 640] A slices_S8x4096x4888_S8x4096x128_0_0_640) shapeCasts_S8x4096x128_S8x4096x2x64) shapeCasts_S8x4096x2x64_S32768x128) y
      = A (ix3 ⟨(y 0).val / 4096, by have h : (y 0).val < 32768 := (y 0).isLt; omega⟩ ⟨(y 0).val % 4096, by omega⟩ ⟨640 + (y 1).val, by have h : (y 1).val < 128 := (y 1).isLt; omega⟩) :=
    fun A => by pointwise
  exact (e (P V0)).trans (P_at V0 _ _ _)

theorem ref14 : val5 V0 (Proc.devRef .tc main_v198)
    = fun i : S8x16x256x256.Idx => outKE (x V0) (g V0) (w V0) (i 0) (i 1) (i 2) (i 3) := by
  refine (val5_main_v198 V0).trans ((show _ = keysSel (ks V0) from rfl).trans (funext fun y => (keysSel_at _ y).trans ?_))
  have h : (y 3).val < 256 := (y 3).isLt
  unfold outKE outK
  split
  · exact (ks_at V0 _ _ _ _)
  · exact marks_at 64 (by decide) _ _

theorem ref15 : val5 V0 (Proc.devRef .tc main_v200)
    = fun i : S8x16x256x128.Idx => outK (x V0) (g V0) (w V0) 1024 (by omega) (i 0) (i 1) (i 2) (i 3) := by
  refine (val5_main_v200 V0).trans ((show _ = keysWin (kw V0) from rfl).trans (funext fun y => (keysWin_at _ y).trans ?_))
  unfold outK
  exact kw_at V0 _ _ _ _

theorem ref16 : val5 V0 (Proc.devRef .tc main_v234)
    = fun i : S8x2x16x80x256.Idx => outV (H := 2) (x V0) (g V0) (w V0) 896 (by omega) (i 0) (i 1) (i 2) (i 3) (i 4) := by
  refine (val5_main_v234 V0).trans (funext fun y => ((values_at (P V0) below).1 y).trans ?_)
  have h : (y 3).val < 80 := (y 3).isLt
  unfold outV
  split
  · exact P_at V0 _ _ _
  · refine (below_at _).trans (if_congr ?_ rfl rfl)
    show (y 3).val - 64 = 0 ↔ (y 3).val = 64
    omega

theorem ref17 : val5 V0 (Proc.devRef .tc main_v245)
    = fun i : S8x2x16x80x256.Idx => outV (H := 2) (x V0) (g V0) (w V0) 1152 (by omega) (i 0) (i 1) (i 2) (i 3) (i 4) := by
  refine (val5_main_v245 V0).trans (funext fun y => ((values_at (P V0) below).2.1 y).trans ?_)
  have h : (y 3).val < 80 := (y 3).isLt
  unfold outV
  split
  · exact P_at V0 _ _ _
  · refine (below_at _).trans (if_congr ?_ rfl rfl)
    show (y 3).val - 64 = 0 ↔ (y 3).val = 64
    omega

theorem ref18 : val5 V0 (Proc.devRef .tc main_v213)
    = fun i : S8x16x256x1024.Idx => outKM (x V0) (g V0) (w V0) (i 0) (i 1) (i 2) (i 3) := by
  refine (val5_main_v213 V0).trans ((show _ = keysMoba (km V0) from rfl).trans (funext fun y => (keysMoba_at _ y).trans ?_))
  have h : (y 3).val < 1024 := (y 3).isLt
  have h1 : (y 1).val < 16 := (y 1).isLt
  have h2 : (y 2).val < 256 := (y 2).isLt
  unfold outKM outK
  split
  · refine (km_at V0 _ _ _ _).trans (turned_eq _ _ _ _ _ _ _ _ _ _ _ _ rfl ?_ rfl)
    show 1816 + ((y 3).val / 256 * 2 + (y 3).val % 256 / 64) * 64 = 1816 + (y 3).val / 256 * 128 + (y 3).val % 256 / 64 * 64
    omega
  · refine (marks_at 256 (by decide) _ _).trans (if_congr ?_ rfl rfl)
    show ((y 1).val * 256 + (y 2).val) / 256 = (y 3).val % 256 - 128 ↔ (y 1).val = (y 3).val % 256 - 128
    omega

theorem ref19 : val5 V0 (Proc.devRef .tc main_v256)
    = fun i : S8x8x16x80x256.Idx => outV (H := 8) (x V0) (g V0) (w V0) 2328 (by omega) (i 0) (i 1) (i 2) (i 3) (i 4) := by
  refine (val5_main_v256 V0).trans (funext fun y => ((values_at (P V0) below).2.2 y).trans ?_)
  have h : (y 3).val < 80 := (y 3).isLt
  unfold outV
  split
  · exact P_at V0 _ _ _
  · refine (below_at _).trans (if_congr ?_ rfl rfl)
    show (y 3).val - 64 = 0 ↔ (y 3).val = 64
    omega

theorem ref20 : val5 V0 (Proc.devRef .tc main_v220)
    = fun i : S8x128x512.Idx => outMean (x V0) (g V0) (w V0) (i 0) (i 1) (i 2) := by
  refine (val5_main_v220 V0).trans ((show _ = means (km V0) from rfl).trans (funext fun y => (means_at _ y).trans ?_))
  have h : (y 2).val < 512 := (y 2).isLt
  unfold outMean outK
  refine congrArg (fun s => Ideal.div s _) (Finset.sum_congr rfl fun p _ => (km_at V0 _ _ _ _).trans (turned_eq _ _ _ _ _ _ _ _ _ _ _ _ rfl ?_ ?_))
  · show 1816 + (y 2).val / 64 * 64 = 1816 + (y 2).val / 128 * 128 + (y 2).val % 128 / 64 * 64
    omega
  · show (y 2).val % 64 = (y 2).val % 128 % 64
    omega

theorem ref21 : val5 V0 (Proc.devRef .tc main_v258)
    = fun i : S32768x2048.Idx => outGM (x V0) (g V0) (w V0) (i 0) (i 1) :=
  (val5_main_v258 V0).trans ((show _ = mergeGates (P V0) from rfl).trans (funext fun y => (mergeGates_at _ y).trans (congrArg sigm (P_at V0 _ _ _))))

end Cert.InProjResults
-- ==== Proof.InProjClaims.lean ====
/-
  The claims about the input projection's call. The native program and the idealized one are the same text, so the native
  frame is the idealized program's own run, read at the native floats.
-/
module

public import proofs.«01_k».proof.Defs
public import proofs.«01_k».proof.Proof.InProjFrame
public import proofs.«01_k».proof.Proof.InProjPlain
public import proofs.«01_k».proof.Proof.InProjGates
public import proofs.«01_k».proof.Proof.InProjKeys
public import proofs.«01_k».proof.Proof.InProjQueries
public import proofs.«01_k».proof.Proof.InProjResults
public import proofs.«01_k».proof.Proof.Gen.Kernel3
public import proofs.«01_k».proof.Proof.Gen.Reference3Ideal.Run
public import Idealize.ShloMosaic.Lib.Claim
public import Idealize.ShloMosaic.Lib.Quiescent

@[expose] public section

set_option maxRecDepth 65536
set_option maxHeartbeats 4000000

noncomputable section

open Idealize.ShloMosaic Idealize.ShloMosaic.TcCoe Idealize.SL.Sem

namespace Cert.InProjClaims

section Same
variable [hK : Cert.Kernel3.Facts] [hI : Cert.Kernel3Ideal.Facts]

/-- The two programs' bodies are the same. -/
theorem bodies_eq : Cert.Kernel3Ideal.defs₀ (F := Bits) = Cert.Kernel3.defs₀ (F := Bits) := by
  unfold Cert.Kernel3Ideal.defs₀ Cert.Kernel3.defs₀
  refine congrArg Defs.onTc ?_
  funext l x
  match l, x with
  | 0, (t, s) => exact rfl

/-- So are their pipelines' definitions. -/
theorem defs_eq : Cert.Kernel3Ideal.defs (F := Bits) = Cert.Kernel3.defs (F := Bits) := by
  exact congrArg (Pipeline.defs (Cert.Kernel3.pcfgs (F := Bits))) bodies_eq

/-- So are the host's statements. -/
theorem main_eq : Cert.Kernel3Ideal.main (F := Bits) = Cert.Kernel3.main (F := Bits) := by
  exact rfl

end Same

theorem frame_ideal : Cert.quiescent_Kernel3Ideal := fun m ρ _ => Cert.Kernel3Ideal.Gen.frame m ρ

theorem frame_kernel : Cert.quiescent_Kernel3 := by
  intro m ρ _
  have key : ∀ (D : _) (M : _), D = Cert.Kernel3.defs (F := Bits) → M = Cert.Kernel3.main (F := Bits) → ∀ Q,
      θ_run D (onTc (τ := Cert.Kernel3.τ) M) ⟨m, fun _ => 0, ρ⟩ Q →
      θ_run (Cert.Kernel3.defs (F := Bits)) (onTc (τ := Cert.Kernel3.τ) (Cert.Kernel3.main (F := Bits))) ⟨m, fun _ => 0, ρ⟩ Q := by
    intro D M hD hM Q h
    subst hD hM
    exact h
  exact key _ _ defs_eq main_eq _ (Cert.Kernel3Ideal.Gen.frame (F := Bits) m ρ)

theorem frame_reference : Cert.quiescent_Reference3Ideal := by
  intro m ρ _
  refine (θ_run Cert.Reference3Ideal.defs _ _).mono (fun r h => ⟨fun c => (h c).2.2.2.2.2.2.2.2.2.2.2.2.2, ?_⟩) (Cert.Reference3Ideal.Value.run m ρ)
  exact sem_eq_zero_of_no_sems (by decide) r.2

/-! ## The thirteen results as functions of the three arguments -/

section Results
open Cert.Kernel3Ideal Cert.InProjRows
variable (X : FVec Ideal S8x4096x1024 .f32) (G : FVec Ideal S1024 .f32) (W : FVec Ideal S1024x4888 .f32)

def r9 : FVec Ideal S8x1024x4096 .bf16 := fun i => outQ X G W (i 0) (i 1) (i 2)
def r10 : FVec Ideal S8x1024x4096 .bf16 := fun i => outQM X G W (i 0) (i 1) (i 2)
def r11 : FVec Ideal S8x2x16x4096 .f32 := fun i => outG X G W (i 0) (i 1) (i 2) (i 3)
def r12 : FVec Ideal S32768x128 .f32 := fun i => outC X G W 512 (by omega) (i 0) (i 1)
def r13 : FVec Ideal S32768x128 .f32 := fun i => outC X G W 640 (by omega) (i 0) (i 1)
def r14 : FVec Ideal S8x16x256x256 .bf16 := fun i => outKE X G W (i 0) (i 1) (i 2) (i 3)
def r15 : FVec Ideal S8x16x256x128 .bf16 := fun i => outK X G W 1024 (by omega) (i 0) (i 1) (i 2) (i 3)
def r16 : FVec Ideal S8x2x16x80x256 .bf16 := fun i => outV (H := 2) X G W 896 (by omega) (i 0) (i 1) (i 2) (i 3) (i 4)
def r17 : FVec Ideal S8x2x16x80x256 .bf16 := fun i => outV (H := 2) X G W 1152 (by omega) (i 0) (i 1) (i 2) (i 3) (i 4)
def r18 : FVec Ideal S8x16x256x1024 .bf16 := fun i => outKM X G W (i 0) (i 1) (i 2) (i 3)
def r19 : FVec Ideal S8x8x16x80x256 .bf16 := fun i => outV (H := 8) X G W 2328 (by omega) (i 0) (i 1) (i 2) (i 3) (i 4)
def r20 : FVec Ideal S8x128x512 .f32 := fun i => outMean X G W (i 0) (i 1) (i 2)
def r21 : FVec Ideal S32768x2048 .bf16 := fun i => outGM X G W (i 0) (i 1)

end Results

open Cert.InProjBlocks in
/-- The call's thirteen results are the reference's, for all arguments. -/
theorem algebraic : Cert.algebraic_Kernel3Ideal_Reference3Ideal := by
  intro m g m' g' _ hagree
  refine ⟨fun c => r9 (X m c) (Gn m c) (W m c), fun c => r10 (X m c) (Gn m c) (W m c), fun c => r11 (X m c) (Gn m c) (W m c),
    fun c => r12 (X m c) (Gn m c) (W m c), fun c => r13 (X m c) (Gn m c) (W m c), fun c => r14 (X m c) (Gn m c) (W m c),
    fun c => r15 (X m c) (Gn m c) (W m c), fun c => r16 (X m c) (Gn m c) (W m c), fun c => r17 (X m c) (Gn m c) (W m c),
    fun c => r18 (X m c) (Gn m c) (W m c), fun c => r19 (X m c) (Gn m c) (W m c), fun c => r20 (X m c) (Gn m c) (W m c),
    fun c => r21 (X m c) (Gn m c) (W m c), ?_, ?_⟩
  · refine (θ_run _ _ _).mono (fun r h c => ?_) (θ_run_and (Cert.Kernel3Ideal.Gen.run_main m g) (Cert.Kernel3Ideal.Gen.unchanged m g))
    have hc := (h.1 c).1
    exact ⟨(hc 9).trans (Cert.InProjQueries.final9 m c), (hc 10).trans (Cert.InProjQueries.final10 m c), (hc 11).trans (Cert.InProjGates.final11 m c),
      (hc 12).trans (Cert.InProjPlain.final12 m c), (hc 13).trans (Cert.InProjPlain.final13 m c), (hc 14).trans (Cert.InProjKeys.final14 m c),
      (hc 15).trans (Cert.InProjKeys.final15 m c), (hc 16).trans (Cert.InProjGates.final16 m c), (hc 17).trans (Cert.InProjGates.final17 m c),
      (hc 18).trans (Cert.InProjKeys.final18 m c), (hc 19).trans (Cert.InProjGates.final19 m c), (hc 20).trans (Cert.InProjKeys.final20 m c),
      (hc 21).trans (Cert.InProjPlain.final21 m c), h.2 c⟩
  · refine (θ_run _ _ _).mono (fun r h c => ?_) (Cert.Reference3Ideal.Value.run m' g')
    obtain ⟨h0, h1, h2, h3, h4, h5, h6, h7, h8, h9, h10, h11, h12, hargs⟩ := h c
    obtain ⟨a0, a1, a2⟩ := hagree c
    have args : ∀ {β : Type} (f : FVec Ideal Cert.Kernel3Ideal.S8x4096x1024 .f32 → FVec Ideal Cert.Kernel3Ideal.S1024 .f32 → FVec Ideal Cert.Kernel3Ideal.S1024x4888 .f32 → β),
        f (Cert.InProjReference.x (StableHlo.launchContents m' c)) (Cert.InProjReference.g (StableHlo.launchContents m' c)) (Cert.InProjReference.w (StableHlo.launchContents m' c))
          = f (X m c) (Gn m c) (W m c) := by
      intro β f
      rw [show Cert.InProjReference.x (StableHlo.launchContents m' c) = X m c from a0, show Cert.InProjReference.g (StableHlo.launchContents m' c) = Gn m c from a1,
        show Cert.InProjReference.w (StableHlo.launchContents m' c) = W m c from a2]
    exact ⟨h0.trans ((Cert.Reference3Ideal.Value.val5_main_v170 _).symm.trans ((Cert.InProjResults.ref9 _).trans (args r9))),
      h1.trans ((Cert.Reference3Ideal.Value.val5_main_v221 _).symm.trans ((Cert.InProjResults.ref10 _).trans (args r10))),
      h2.trans ((Cert.Reference3Ideal.Value.val5_main_v187 _).symm.trans ((Cert.InProjResults.ref11 _).trans (args r11))),
      h3.trans ((Cert.Reference3Ideal.Value.val5_main_v222 _).symm.trans ((Cert.InProjResults.ref12 _).trans (args r12))),
      h4.trans ((Cert.Reference3Ideal.Value.val5_main_v223 _).symm.trans ((Cert.InProjResults.ref13 _).trans (args r13))),
      h5.trans ((Cert.Reference3Ideal.Value.val5_main_v198 _).symm.trans ((Cert.InProjResults.ref14 _).trans (args r14))),
      h6.trans ((Cert.Reference3Ideal.Value.val5_main_v200 _).symm.trans ((Cert.InProjResults.ref15 _).trans (args r15))),
      h7.trans ((Cert.Reference3Ideal.Value.val5_main_v234 _).symm.trans ((Cert.InProjResults.ref16 _).trans (args r16))),
      h8.trans ((Cert.Reference3Ideal.Value.val5_main_v245 _).symm.trans ((Cert.InProjResults.ref17 _).trans (args r17))),
      h9.trans ((Cert.Reference3Ideal.Value.val5_main_v213 _).symm.trans ((Cert.InProjResults.ref18 _).trans (args r18))),
      h10.trans ((Cert.Reference3Ideal.Value.val5_main_v256 _).symm.trans ((Cert.InProjResults.ref19 _).trans (args r19))),
      h11.trans ((Cert.Reference3Ideal.Value.val5_main_v220 _).symm.trans ((Cert.InProjResults.ref20 _).trans (args r20))),
      h12.trans ((Cert.Reference3Ideal.Value.val5_main_v258 _).symm.trans ((Cert.InProjResults.ref21 _).trans (args r21))), hargs⟩

theorem preserves : Cert.preserves_Kernel3_Kernel3Ideal := trivial

end Cert.InProjClaims

end
-- ==== Proof.lean ====
/-
  The proof of `Cert.Claim`: the claims about the three calls, each proved in a module of its own.
-/
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Reference2Ideal
public import proofs.«01_k».proof.Proof.Gen.Reference2Ideal.Run
public import proofs.«01_k».proof.Proof.Gen.Kernel2Ideal.Value
public import Idealize.ShloMosaic.Adequacy
public import Idealize.ShloMosaic.Init
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Reference3Ideal
public import proofs.«01_k».proof.Proof.Gen.Reference3Ideal.Run
public import proofs.«01_k».proof.Proof.MixersClaims
public import proofs.«01_k».proof.Proof.MergeClaims
public import proofs.«01_k».proof.Proof.InProjClaims

@[expose] public section

noncomputable section

namespace Cert.Proof

open Idealize.ShloMosaic Idealize.SL.Sem

theorem claim : Cert.Claim :=
  ⟨Cert.Kernel.Gen.facts, Cert.KernelIdeal.Gen.facts, Cert.Kernel2.Gen.facts, Cert.Kernel2Ideal.Gen.facts,
    Cert.Reference2Ideal.Gen.facts, Cert.Kernel3.Gen.facts, Cert.Kernel3Ideal.Gen.facts, Cert.Reference3Ideal.Gen.facts,
    Cert.MixersClaims.frame_kernel,
    Cert.MixersClaims.frame_ideal,
    Cert.MergeClaims.frame_kernel,
    Cert.MergeClaims.frame_ideal,
    Cert.MergeClaims.frame_reference,
    Cert.InProjClaims.frame_kernel,
    Cert.InProjClaims.frame_ideal,
    Cert.InProjClaims.frame_reference,
    Cert.MixersClaims.preserves,
    Cert.MergeClaims.preserves,
    Cert.MergeClaims.algebraic,
    Cert.InProjClaims.preserves,
    Cert.InProjClaims.algebraic⟩

end Cert.Proof

end
